-- ==== Defs.lean ====
def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).2.2 = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_finite_fox [hPre_finite_fox : Cert.Pre_finite_fox.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.2 = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_finite_fox [hPre_finite_fox : Cert.Pre_finite_fox.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.2 = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_GainBwd (m : (ℓ : Loc Cert.GainBwd.nD Cert.GainBwd.τ Cert.GainBwd.sig) → Buf (Elt Bits) ℓ) : Prop :=
  True

def Pre_GainBwdIdeal (m : (ℓ : Loc Cert.GainBwdIdeal.nD Cert.GainBwdIdeal.τ Cert.GainBwdIdeal.sig) → Buf (Elt Ideal) ℓ) : Prop :=
  True

def Pre_GainBwdRefIdeal (m : (ℓ : Loc Cert.GainBwdRefIdeal.nD Cert.GainBwdRefIdeal.τ Cert.GainBwdRefIdeal.sig) → Buf (Elt Ideal) ℓ) : Prop :=
  True

def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_finite_mem [hPre_finite_mem : Cert.Pre_finite_mem.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_finite_mem.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).1 = (fun _ => 1#1)
    ∧ (Cert.Pre_finite_mem.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2.1 = (fun _ => 1#1)
    ∧ (Cert.Pre_finite_mem.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2.2.1 = (fun _ => 1#1)
    ∧ (Cert.Pre_finite_mem.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2.2.2 = (fun _ => 1#1)

def Pre_MemBwdRefIdeal (m : (ℓ : Loc Cert.MemBwdRefIdeal.nD Cert.MemBwdRefIdeal.τ Cert.MemBwdRefIdeal.sig) → Buf (Elt Ideal) ℓ) : Prop :=
  True

def Pre_MemBwdRefIdeal_finite_mem [hPre_finite_mem : Cert.Pre_finite_mem.Facts] (m : (ℓ : Loc Cert.MemBwdRefIdeal.nD Cert.MemBwdRefIdeal.τ Cert.MemBwdRefIdeal.sig) → Buf (Elt Ideal) ℓ) : Prop :=
  ∀ c : Dev Cert.MemBwdRefIdeal.nD,
    (Cert.Pre_finite_mem.fn (F := Ideal) (m ((c.tc : Thread Cert.MemBwdRefIdeal.nD Cert.MemBwdRefIdeal.τ).loc Cert.MemBwdRefIdeal.main_arg0)) (m ((c.tc : Thread Cert.MemBwdRefIdeal.nD Cert.MemBwdRefIdeal.τ).loc Cert.MemBwdRefIdeal.main_arg1)) (m ((c.tc : Thread Cert.MemBwdRefIdeal.nD Cert.MemBwdRefIdeal.τ).loc Cert.MemBwdRefIdeal.main_arg2)) (m ((c.tc : Thread Cert.MemBwdRefIdeal.nD Cert.MemBwdRefIdeal.τ).loc Cert.MemBwdRefIdeal.main_arg3))).1 = (fun _ => 1#1)
    ∧ (Cert.Pre_finite_mem.fn (F := Ideal) (m ((c.tc : Thread Cert.MemBwdRefIdeal.nD Cert.MemBwdRefIdeal.τ).loc Cert.MemBwdRefIdeal.main_arg0)) (m ((c.tc : Thread Cert.MemBwdRefIdeal.nD Cert.MemBwdRefIdeal.τ).loc Cert.MemBwdRefIdeal.main_arg1)) (m ((c.tc : Thread Cert.MemBwdRefIdeal.nD Cert.MemBwdRefIdeal.τ).loc Cert.MemBwdRefIdeal.main_arg2)) (m ((c.tc : Thread Cert.MemBwdRefIdeal.nD Cert.MemBwdRefIdeal.τ).loc Cert.MemBwdRefIdeal.main_arg3))).2.1 = (fun _ => 1#1)
    ∧ (Cert.Pre_finite_mem.fn (F := Ideal) (m ((c.tc : Thread Cert.MemBwdRefIdeal.nD Cert.MemBwdRefIdeal.τ).loc Cert.MemBwdRefIdeal.main_arg0)) (m ((c.tc : Thread Cert.MemBwdRefIdeal.nD Cert.MemBwdRefIdeal.τ).loc Cert.MemBwdRefIdeal.main_arg1)) (m ((c.tc : Thread Cert.MemBwdRefIdeal.nD Cert.MemBwdRefIdeal.τ).loc Cert.MemBwdRefIdeal.main_arg2)) (m ((c.tc : Thread Cert.MemBwdRefIdeal.nD Cert.MemBwdRefIdeal.τ).loc Cert.MemBwdRefIdeal.main_arg3))).2.2.1 = (fun _ => 1#1)
    ∧ (Cert.Pre_finite_mem.fn (F := Ideal) (m ((c.tc : Thread Cert.MemBwdRefIdeal.nD Cert.MemBwdRefIdeal.τ).loc Cert.MemBwdRefIdeal.main_arg0)) (m ((c.tc : Thread Cert.MemBwdRefIdeal.nD Cert.MemBwdRefIdeal.τ).loc Cert.MemBwdRefIdeal.main_arg1)) (m ((c.tc : Thread Cert.MemBwdRefIdeal.nD Cert.MemBwdRefIdeal.τ).loc Cert.MemBwdRefIdeal.main_arg2)) (m ((c.tc : Thread Cert.MemBwdRefIdeal.nD Cert.MemBwdRefIdeal.τ).loc Cert.MemBwdRefIdeal.main_arg3))).2.2.2 = (fun _ => 1#1)

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite_fox_fwd [hPre_finite_fox_fwd : Cert.Pre_finite_fox_fwd.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite_fox_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).1 = (fun _ => 1#1)
    ∧ (Cert.Pre_finite_fox_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.1 = (fun _ => 1#1)
    ∧ (Cert.Pre_finite_fox_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.1 = (fun _ => 1#1)
    ∧ (Cert.Pre_finite_fox_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.2 = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_finite_fox_fwd [hPre_finite_fox_fwd : Cert.Pre_finite_fox_fwd.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_finite_fox_fwd.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).1 = (fun _ => 1#1)
    ∧ (Cert.Pre_finite_fox_fwd.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.1 = (fun _ => 1#1)
    ∧ (Cert.Pre_finite_fox_fwd.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.1 = (fun _ => 1#1)
    ∧ (Cert.Pre_finite_fox_fwd.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.2 = (fun _ => 1#1)

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_finite_rms [hPre_finite_rms : Cert.Pre_finite_rms.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3)) (m ((c.tc : Thread Cert.RmsBwdIdeal.nD Cert.RmsBwdIdeal.τ).loc Cert.RmsBwdIdeal.main_arg4))).1 = (fun _ => 1#1)
    ∧ (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3)) (m ((c.tc : Thread Cert.RmsBwdIdeal.nD Cert.RmsBwdIdeal.τ).loc Cert.RmsBwdIdeal.main_arg4))).2.1 = (fun _ => 1#1)
    ∧ (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3)) (m ((c.tc : Thread Cert.RmsBwdIdeal.nD Cert.RmsBwdIdeal.τ).loc Cert.RmsBwdIdeal.main_arg4))).2.2.1 = (fun _ => 1#1)
    ∧ (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3)) (m ((c.tc : Thread Cert.RmsBwdIdeal.nD Cert.RmsBwdIdeal.τ).loc Cert.RmsBwdIdeal.main_arg4))).2.2.2.1 = (fun _ => 1#1)
    ∧ (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3)) (m ((c.tc : Thread Cert.RmsBwdIdeal.nD Cert.RmsBwdIdeal.τ).loc Cert.RmsBwdIdeal.main_arg4))).2.2.2.2 = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_finite_rms [hPre_finite_rms : Cert.Pre_finite_rms.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_finite_rms.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3)) (m ((c.tc : Thread Cert.RmsBwdRefIdeal.nD Cert.RmsBwdRefIdeal.τ).loc Cert.RmsBwdRefIdeal.main_arg4))).1 = (fun _ => 1#1)
    ∧ (Cert.Pre_finite_rms.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3)) (m ((c.tc : Thread Cert.RmsBwdRefIdeal.nD Cert.RmsBwdRefIdeal.τ).loc Cert.RmsBwdRefIdeal.main_arg4))).2.1 = (fun _ => 1#1)
    ∧ (Cert.Pre_finite_rms.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3)) (m ((c.tc : Thread Cert.RmsBwdRefIdeal.nD Cert.RmsBwdRefIdeal.τ).loc Cert.RmsBwdRefIdeal.main_arg4))).2.2.1 = (fun _ => 1#1)
    ∧ (Cert.Pre_finite_rms.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3)) (m ((c.tc : Thread Cert.RmsBwdRefIdeal.nD Cert.RmsBwdRefIdeal.τ).loc Cert.RmsBwdRefIdeal.main_arg4))).2.2.2.1 = (fun _ => 1#1)
    ∧ (Cert.Pre_finite_rms.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3)) (m ((c.tc : Thread Cert.RmsBwdRefIdeal.nD Cert.RmsBwdRefIdeal.τ).loc Cert.RmsBwdRefIdeal.main_arg4))).2.2.2.2 = (fun _ => 1#1)

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossIdeal_finite_loss [hPre_finite_loss : Cert.Pre_finite_loss.Facts] (m : (ℓ : Loc Cert.FinalLossIdeal.nD Cert.FinalLossIdeal.τ Cert.FinalLossIdeal.sig) → Buf (Elt Ideal) ℓ) : Prop :=
  ∀ c : Dev Cert.FinalLossIdeal.nD,
    (Cert.Pre_finite_loss.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2)) (m ((c.tc : Thread Cert.FinalLossIdeal.nD Cert.FinalLossIdeal.τ).loc Cert.FinalLossIdeal.main_arg3)) (m ((c.tc : Thread Cert.FinalLossIdeal.nD Cert.FinalLossIdeal.τ).loc Cert.FinalLossIdeal.main_arg4))).1 = (fun _ => 1#1)
    ∧ (Cert.Pre_finite_loss.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2)) (m ((c.tc : Thread Cert.FinalLossIdeal.nD Cert.FinalLossIdeal.τ).loc Cert.FinalLossIdeal.main_arg3)) (m ((c.tc : Thread Cert.FinalLossIdeal.nD Cert.FinalLossIdeal.τ).loc Cert.FinalLossIdeal.main_arg4))).2.1 = (fun _ => 1#1)
    ∧ (Cert.Pre_finite_loss.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2)) (m ((c.tc : Thread Cert.FinalLossIdeal.nD Cert.FinalLossIdeal.τ).loc Cert.FinalLossIdeal.main_arg3)) (m ((c.tc : Thread Cert.FinalLossIdeal.nD Cert.FinalLossIdeal.τ).loc Cert.FinalLossIdeal.main_arg4))).2.2.1 = (fun _ => 1#1)
    ∧ (Cert.Pre_finite_loss.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2)) (m ((c.tc : Thread Cert.FinalLossIdeal.nD Cert.FinalLossIdeal.τ).loc Cert.FinalLossIdeal.main_arg3)) (m ((c.tc : Thread Cert.FinalLossIdeal.nD Cert.FinalLossIdeal.τ).loc Cert.FinalLossIdeal.main_arg4))).2.2.2.1 = (fun _ => 1#1)
    ∧ (Cert.Pre_finite_loss.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2)) (m ((c.tc : Thread Cert.FinalLossIdeal.nD Cert.FinalLossIdeal.τ).loc Cert.FinalLossIdeal.main_arg3)) (m ((c.tc : Thread Cert.FinalLossIdeal.nD Cert.FinalLossIdeal.τ).loc Cert.FinalLossIdeal.main_arg4))).2.2.2.2 = (fun _ => 1#1)

def Pre_FinalLossRefIdeal (m : (ℓ : Loc Cert.FinalLossRefIdeal.nD Cert.FinalLossRefIdeal.τ Cert.FinalLossRefIdeal.sig) → Buf (Elt Ideal) ℓ) : Prop :=
  True

def Pre_FinalLossRefIdeal_finite_loss [hPre_finite_loss : Cert.Pre_finite_loss.Facts] (m : (ℓ : Loc Cert.FinalLossRefIdeal.nD Cert.FinalLossRefIdeal.τ Cert.FinalLossRefIdeal.sig) → Buf (Elt Ideal) ℓ) : Prop :=
  ∀ c : Dev Cert.FinalLossRefIdeal.nD,
    (Cert.Pre_finite_loss.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2)) (m ((c.tc : Thread Cert.FinalLossRefIdeal.nD Cert.FinalLossRefIdeal.τ).loc Cert.FinalLossRefIdeal.main_arg3)) (m ((c.tc : Thread Cert.FinalLossRefIdeal.nD Cert.FinalLossRefIdeal.τ).loc Cert.FinalLossRefIdeal.main_arg4))).1 = (fun _ => 1#1)
    ∧ (Cert.Pre_finite_loss.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2)) (m ((c.tc : Thread Cert.FinalLossRefIdeal.nD Cert.FinalLossRefIdeal.τ).loc Cert.FinalLossRefIdeal.main_arg3)) (m ((c.tc : Thread Cert.FinalLossRefIdeal.nD Cert.FinalLossRefIdeal.τ).loc Cert.FinalLossRefIdeal.main_arg4))).2.1 = (fun _ => 1#1)
    ∧ (Cert.Pre_finite_loss.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2)) (m ((c.tc : Thread Cert.FinalLossRefIdeal.nD Cert.FinalLossRefIdeal.τ).loc Cert.FinalLossRefIdeal.main_arg3)) (m ((c.tc : Thread Cert.FinalLossRefIdeal.nD Cert.FinalLossRefIdeal.τ).loc Cert.FinalLossRefIdeal.main_arg4))).2.2.1 = (fun _ => 1#1)
    ∧ (Cert.Pre_finite_loss.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2)) (m ((c.tc : Thread Cert.FinalLossRefIdeal.nD Cert.FinalLossRefIdeal.τ).loc Cert.FinalLossRefIdeal.main_arg3)) (m ((c.tc : Thread Cert.FinalLossRefIdeal.nD Cert.FinalLossRefIdeal.τ).loc Cert.FinalLossRefIdeal.main_arg4))).2.2.2.1 = (fun _ => 1#1)
    ∧ (Cert.Pre_finite_loss.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2)) (m ((c.tc : Thread Cert.FinalLossRefIdeal.nD Cert.FinalLossRefIdeal.τ).loc Cert.FinalLossRefIdeal.main_arg3)) (m ((c.tc : Thread Cert.FinalLossRefIdeal.nD Cert.FinalLossRefIdeal.τ).loc Cert.FinalLossRefIdeal.main_arg4))).2.2.2.2 = (fun _ => 1#1)

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_finite_post [hPre_finite_post : Cert.Pre_finite_post.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).2.2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).2.2.2 = (fun _ => 1#1)

def Pre_PostBwdRefIdeal (m : (ℓ : Loc Cert.PostBwdRefIdeal.nD Cert.PostBwdRefIdeal.τ Cert.PostBwdRefIdeal.sig) → Buf (Elt Ideal) ℓ) : Prop :=
  True

def Pre_PostBwdRefIdeal_finite_post [hPre_finite_post : Cert.Pre_finite_post.Facts] (m : (ℓ : Loc Cert.PostBwdRefIdeal.nD Cert.PostBwdRefIdeal.τ Cert.PostBwdRefIdeal.sig) → Buf (Elt Ideal) ℓ) : Prop :=
  ∀ c : Dev Cert.PostBwdRefIdeal.nD,
    (Cert.Pre_finite_post.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3))).1 = (fun _ => 1#1)
    ∧ (Cert.Pre_finite_post.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3))).2.1 = (fun _ => 1#1)
    ∧ (Cert.Pre_finite_post.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3))).2.2.1 = (fun _ => 1#1)
    ∧ (Cert.Pre_finite_post.fn (F := Ideal) (m ((c.tc : Thread Cert.PostBwdRefIdeal.nD Cert.PostBwdRefIdeal.τ).loc Cert.PostBwdRefIdeal.main_arg0)) (m ((c.tc : Thread Cert.PostBwdRefIdeal.nD Cert.PostBwdRefIdeal.τ).loc Cert.PostBwdRefIdeal.main_arg1)) (m ((c.tc : Thread Cert.PostBwdRefIdeal.nD Cert.PostBwdRefIdeal.τ).loc Cert.PostBwdRefIdeal.main_arg2)) (m ((c.tc : Thread Cert.PostBwdRefIdeal.nD Cert.PostBwdRefIdeal.τ).loc Cert.PostBwdRefIdeal.main_arg3))).2.2.2 = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_CumBwd (m : (ℓ : Loc Cert.CumBwd.nD Cert.CumBwd.τ Cert.CumBwd.sig) → Buf (Elt Bits) ℓ) : Prop :=
  True

def Pre_CumBwdIdeal (m : (ℓ : Loc Cert.CumBwdIdeal.nD Cert.CumBwdIdeal.τ Cert.CumBwdIdeal.sig) → Buf (Elt Ideal) ℓ) : Prop :=
  True

def Pre_CumBwdIdeal_finite_cum [hPre_finite_cum : Cert.Pre_finite_cum.Facts] (m : (ℓ : Loc Cert.CumBwdIdeal.nD Cert.CumBwdIdeal.τ Cert.CumBwdIdeal.sig) → Buf (Elt Ideal) ℓ) : Prop :=
  ∀ c : Dev Cert.CumBwdIdeal.nD,
    (Cert.Pre_finite_cum.fn (F := Ideal) (m ((c.tc : Thread Cert.CumBwdIdeal.nD Cert.CumBwdIdeal.τ).loc Cert.CumBwdIdeal.main_arg0)) (m ((c.tc : Thread Cert.CumBwdIdeal.nD Cert.CumBwdIdeal.τ).loc Cert.CumBwdIdeal.main_arg1)) (m ((c.tc : Thread Cert.CumBwdIdeal.nD Cert.CumBwdIdeal.τ).loc Cert.CumBwdIdeal.main_arg2))).1 = (fun _ => 1#1)
    ∧ (Cert.Pre_finite_cum.fn (F := Ideal) (m ((c.tc : Thread Cert.CumBwdIdeal.nD Cert.CumBwdIdeal.τ).loc Cert.CumBwdIdeal.main_arg0)) (m ((c.tc : Thread Cert.CumBwdIdeal.nD Cert.CumBwdIdeal.τ).loc Cert.CumBwdIdeal.main_arg1)) (m ((c.tc : Thread Cert.CumBwdIdeal.nD Cert.CumBwdIdeal.τ).loc Cert.CumBwdIdeal.main_arg2))).2.1 = (fun _ => 1#1)
    ∧ (Cert.Pre_finite_cum.fn (F := Ideal) (m ((c.tc : Thread Cert.CumBwdIdeal.nD Cert.CumBwdIdeal.τ).loc Cert.CumBwdIdeal.main_arg0)) (m ((c.tc : Thread Cert.CumBwdIdeal.nD Cert.CumBwdIdeal.τ).loc Cert.CumBwdIdeal.main_arg1)) (m ((c.tc : Thread Cert.CumBwdIdeal.nD Cert.CumBwdIdeal.τ).loc Cert.CumBwdIdeal.main_arg2))).2.2 = (fun _ => 1#1)

def Pre_CumBwdRefIdeal (m : (ℓ : Loc Cert.CumBwdRefIdeal.nD Cert.CumBwdRefIdeal.τ Cert.CumBwdRefIdeal.sig) → Buf (Elt Ideal) ℓ) : Prop :=
  True

def Pre_CumBwdRefIdeal_finite_cum [hPre_finite_cum : Cert.Pre_finite_cum.Facts] (m : (ℓ : Loc Cert.CumBwdRefIdeal.nD Cert.CumBwdRefIdeal.τ Cert.CumBwdRefIdeal.sig) → Buf (Elt Ideal) ℓ) : Prop :=
  ∀ c : Dev Cert.CumBwdRefIdeal.nD,
    (Cert.Pre_finite_cum.fn (F := Ideal) (m ((c.tc : Thread Cert.CumBwdRefIdeal.nD Cert.CumBwdRefIdeal.τ).loc Cert.CumBwdRefIdeal.main_arg0)) (m ((c.tc : Thread Cert.CumBwdRefIdeal.nD Cert.CumBwdRefIdeal.τ).loc Cert.CumBwdRefIdeal.main_arg1)) (m ((c.tc : Thread Cert.CumBwdRefIdeal.nD Cert.CumBwdRefIdeal.τ).loc Cert.CumBwdRefIdeal.main_arg2))).1 = (fun _ => 1#1)
    ∧ (Cert.Pre_finite_cum.fn (F := Ideal) (m ((c.tc : Thread Cert.CumBwdRefIdeal.nD Cert.CumBwdRefIdeal.τ).loc Cert.CumBwdRefIdeal.main_arg0)) (m ((c.tc : Thread Cert.CumBwdRefIdeal.nD Cert.CumBwdRefIdeal.τ).loc Cert.CumBwdRefIdeal.main_arg1)) (m ((c.tc : Thread Cert.CumBwdRefIdeal.nD Cert.CumBwdRefIdeal.τ).loc Cert.CumBwdRefIdeal.main_arg2))).2.1 = (fun _ => 1#1)
    ∧ (Cert.Pre_finite_cum.fn (F := Ideal) (m ((c.tc : Thread Cert.CumBwdRefIdeal.nD Cert.CumBwdRefIdeal.τ).loc Cert.CumBwdRefIdeal.main_arg0)) (m ((c.tc : Thread Cert.CumBwdRefIdeal.nD Cert.CumBwdRefIdeal.τ).loc Cert.CumBwdRefIdeal.main_arg1)) (m ((c.tc : Thread Cert.CumBwdRefIdeal.nD Cert.CumBwdRefIdeal.τ).loc Cert.CumBwdRefIdeal.main_arg2))).2.2 = (fun _ => 1#1)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_finite_fox [hFoxBwdIdeal : Cert.FoxBwdIdeal.Facts] [hPre_finite_fox : Cert.Pre_finite_fox.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_finite_fox m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_FoxBwdRefIdeal_pre_finite_fox [hFoxBwdRefIdeal : Cert.FoxBwdRefIdeal.Facts] [hPre_finite_fox : Cert.Pre_finite_fox.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_finite_fox m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4))
      ∧ r.2.sem = fun _ => 0)

def quiescent_GainBwd [hGainBwd : Cert.GainBwd.Facts] : Prop :=
  ∀ (m : (ℓ : Loc Cert.GainBwd.nD Cert.GainBwd.τ Cert.GainBwd.sig) → Buf (Elt Bits) ℓ) (g : Dev Cert.GainBwd.nD → PrngReg), Pre_GainBwd m →
    θ_run (Cert.GainBwd.defs (F := Bits)) (onTc (τ := Cert.GainBwd.τ) (Cert.GainBwd.main (F := Bits))) ⟨m, fun _ => 0, g⟩ (fun r => (∀ c : Dev Cert.GainBwd.nD,
      r.2.mem ((c.tc : Thread Cert.GainBwd.nD Cert.GainBwd.τ).loc Cert.GainBwd.main_arg0) = m ((c.tc : Thread Cert.GainBwd.nD Cert.GainBwd.τ).loc Cert.GainBwd.main_arg0)
      ∧ r.2.mem ((c.tc : Thread Cert.GainBwd.nD Cert.GainBwd.τ).loc Cert.GainBwd.main_arg1) = m ((c.tc : Thread Cert.GainBwd.nD Cert.GainBwd.τ).loc Cert.GainBwd.main_arg1))
      ∧ r.2.sem = fun _ => 0)

def quiescent_GainBwdIdeal [hGainBwdIdeal : Cert.GainBwdIdeal.Facts] : Prop :=
  ∀ (m : (ℓ : Loc Cert.GainBwdIdeal.nD Cert.GainBwdIdeal.τ Cert.GainBwdIdeal.sig) → Buf (Elt Ideal) ℓ) (g : Dev Cert.GainBwdIdeal.nD → PrngReg), Pre_GainBwdIdeal m →
    θ_run (Cert.GainBwdIdeal.defs (F := Ideal)) (onTc (τ := Cert.GainBwdIdeal.τ) (Cert.GainBwdIdeal.main (F := Ideal))) ⟨m, fun _ => 0, g⟩ (fun r => (∀ c : Dev Cert.GainBwdIdeal.nD,
      r.2.mem ((c.tc : Thread Cert.GainBwdIdeal.nD Cert.GainBwdIdeal.τ).loc Cert.GainBwdIdeal.main_arg0) = m ((c.tc : Thread Cert.GainBwdIdeal.nD Cert.GainBwdIdeal.τ).loc Cert.GainBwdIdeal.main_arg0)
      ∧ r.2.mem ((c.tc : Thread Cert.GainBwdIdeal.nD Cert.GainBwdIdeal.τ).loc Cert.GainBwdIdeal.main_arg1) = m ((c.tc : Thread Cert.GainBwdIdeal.nD Cert.GainBwdIdeal.τ).loc Cert.GainBwdIdeal.main_arg1))
      ∧ r.2.sem = fun _ => 0)

def quiescent_GainBwdRefIdeal [hGainBwdRefIdeal : Cert.GainBwdRefIdeal.Facts] : Prop :=
  ∀ (m : (ℓ : Loc Cert.GainBwdRefIdeal.nD Cert.GainBwdRefIdeal.τ Cert.GainBwdRefIdeal.sig) → Buf (Elt Ideal) ℓ) (g : Dev Cert.GainBwdRefIdeal.nD → PrngReg), Pre_GainBwdRefIdeal m →
    θ_run (Cert.GainBwdRefIdeal.defs (F := Ideal)) (onTc (τ := Cert.GainBwdRefIdeal.τ) (Cert.GainBwdRefIdeal.main (F := Ideal))) ⟨m, fun _ => 0, g⟩ (fun r => (∀ c : Dev Cert.GainBwdRefIdeal.nD,
      r.2.mem ((c.tc : Thread Cert.GainBwdRefIdeal.nD Cert.GainBwdRefIdeal.τ).loc Cert.GainBwdRefIdeal.main_arg0) = m ((c.tc : Thread Cert.GainBwdRefIdeal.nD Cert.GainBwdRefIdeal.τ).loc Cert.GainBwdRefIdeal.main_arg0)
      ∧ r.2.mem ((c.tc : Thread Cert.GainBwdRefIdeal.nD Cert.GainBwdRefIdeal.τ).loc Cert.GainBwdRefIdeal.main_arg1) = m ((c.tc : Thread Cert.GainBwdRefIdeal.nD Cert.GainBwdRefIdeal.τ).loc Cert.GainBwdRefIdeal.main_arg1))
      ∧ r.2.sem = fun _ => 0)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdIdeal_pre_finite_mem [hMemBwdIdeal : Cert.MemBwdIdeal.Facts] [hPre_finite_mem : Cert.Pre_finite_mem.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_finite_mem m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2)
      ∧ r.2.mem ((c.tc : Thread Cert.MemBwdRefIdeal.nD Cert.MemBwdRefIdeal.τ).loc Cert.MemBwdRefIdeal.main_arg3) = m ((c.tc : Thread Cert.MemBwdRefIdeal.nD Cert.MemBwdRefIdeal.τ).loc Cert.MemBwdRefIdeal.main_arg3))
      ∧ r.2.sem = fun _ => 0)

def quiescent_MemBwdRefIdeal_pre_finite_mem [hMemBwdRefIdeal : Cert.MemBwdRefIdeal.Facts] [hPre_finite_mem : Cert.Pre_finite_mem.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal_finite_mem m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2)
      ∧ r.2.mem ((c.tc : Thread Cert.MemBwdRefIdeal.nD Cert.MemBwdRefIdeal.τ).loc Cert.MemBwdRefIdeal.main_arg3) = m ((c.tc : Thread Cert.MemBwdRefIdeal.nD Cert.MemBwdRefIdeal.τ).loc Cert.MemBwdRefIdeal.main_arg3))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_finite_fox_fwd [hFoxFwdIdeal : Cert.FoxFwdIdeal.Facts] [hPre_finite_fox_fwd : Cert.Pre_finite_fox_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite_fox_fwd m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_FoxFwdRefIdeal_pre_finite_fox_fwd [hFoxFwdRefIdeal : Cert.FoxFwdRefIdeal.Facts] [hPre_finite_fox_fwd : Cert.Pre_finite_fox_fwd.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_finite_fox_fwd m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3)
      ∧ r.2.mem ((c.tc : Thread Cert.RmsBwd.nD Cert.RmsBwd.τ).loc Cert.RmsBwd.main_arg4) = m ((c.tc : Thread Cert.RmsBwd.nD Cert.RmsBwd.τ).loc Cert.RmsBwd.main_arg4))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
      ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ r.2.sem = fun _ => 0)

def quiescent_RmsBwdIdeal_pre_finite_rms [hRmsBwdIdeal : Cert.RmsBwdIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_finite_rms m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
      ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3)
      ∧ r.2.mem ((c.tc : Thread Cert.RmsBwdRefIdeal.nD Cert.RmsBwdRefIdeal.τ).loc Cert.RmsBwdRefIdeal.main_arg4) = m ((c.tc : Thread Cert.RmsBwdRefIdeal.nD Cert.RmsBwdRefIdeal.τ).loc Cert.RmsBwdRefIdeal.main_arg4))
      ∧ r.2.sem = fun _ => 0)

def quiescent_RmsBwdRefIdeal_pre_finite_rms [hRmsBwdRefIdeal : Cert.RmsBwdRefIdeal.Facts] [hPre_finite_rms : Cert.Pre_finite_rms.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_finite_rms m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3)
      ∧ r.2.mem ((c.tc : Thread Cert.RmsBwdRefIdeal.nD Cert.RmsBwdRefIdeal.τ).loc Cert.RmsBwdRefIdeal.main_arg4) = m ((c.tc : Thread Cert.RmsBwdRefIdeal.nD Cert.RmsBwdRefIdeal.τ).loc Cert.RmsBwdRefIdeal.main_arg4))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossIdeal_pre_finite_loss [hFinalLossIdeal : Cert.FinalLossIdeal.Facts] [hPre_finite_loss : Cert.Pre_finite_loss.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal_finite_loss m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_FinalLossRefIdeal_pre_finite_loss [hFinalLossRefIdeal : Cert.FinalLossRefIdeal.Facts] [hPre_finite_loss : Cert.Pre_finite_loss.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal_finite_loss m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdIdeal_pre_finite_post [hPostBwdIdeal : Cert.PostBwdIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_finite_post m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3))
      ∧ r.2.sem = fun _ => 0)

def quiescent_PostBwdRefIdeal_pre_finite_post [hPostBwdRefIdeal : Cert.PostBwdRefIdeal.Facts] [hPre_finite_post : Cert.Pre_finite_post.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal_finite_post m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2))
      ∧ r.2.sem = fun _ => 0)

def quiescent_CumBwd [hCumBwd : Cert.CumBwd.Facts] : Prop :=
  ∀ (m : (ℓ : Loc Cert.CumBwd.nD Cert.CumBwd.τ Cert.CumBwd.sig) → Buf (Elt Bits) ℓ) (g : Dev Cert.CumBwd.nD → PrngReg), Pre_CumBwd m →
    θ_run (Cert.CumBwd.defs (F := Bits)) (onTc (τ := Cert.CumBwd.τ) (Cert.CumBwd.main (F := Bits))) ⟨m, fun _ => 0, g⟩ (fun r => (∀ c : Dev Cert.CumBwd.nD,
      r.2.mem ((c.tc : Thread Cert.CumBwd.nD Cert.CumBwd.τ).loc Cert.CumBwd.main_arg0) = m ((c.tc : Thread Cert.CumBwd.nD Cert.CumBwd.τ).loc Cert.CumBwd.main_arg0)
      ∧ r.2.mem ((c.tc : Thread Cert.CumBwd.nD Cert.CumBwd.τ).loc Cert.CumBwd.main_arg1) = m ((c.tc : Thread Cert.CumBwd.nD Cert.CumBwd.τ).loc Cert.CumBwd.main_arg1)
      ∧ r.2.mem ((c.tc : Thread Cert.CumBwd.nD Cert.CumBwd.τ).loc Cert.CumBwd.main_arg2) = m ((c.tc : Thread Cert.CumBwd.nD Cert.CumBwd.τ).loc Cert.CumBwd.main_arg2))
      ∧ r.2.sem = fun _ => 0)

def quiescent_CumBwdIdeal [hCumBwdIdeal : Cert.CumBwdIdeal.Facts] : Prop :=
  ∀ (m : (ℓ : Loc Cert.CumBwdIdeal.nD Cert.CumBwdIdeal.τ Cert.CumBwdIdeal.sig) → Buf (Elt Ideal) ℓ) (g : Dev Cert.CumBwdIdeal.nD → PrngReg), Pre_CumBwdIdeal m →
    θ_run (Cert.CumBwdIdeal.defs (F := Ideal)) (onTc (τ := Cert.CumBwdIdeal.τ) (Cert.CumBwdIdeal.main (F := Ideal))) ⟨m, fun _ => 0, g⟩ (fun r => (∀ c : Dev Cert.CumBwdIdeal.nD,
      r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
      ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
      ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ r.2.sem = fun _ => 0)

def quiescent_CumBwdIdeal_pre_finite_cum [hCumBwdIdeal : Cert.CumBwdIdeal.Facts] [hPre_finite_cum : Cert.Pre_finite_cum.Facts] : Prop :=
  ∀ (m : (ℓ : Loc Cert.CumBwdIdeal.nD Cert.CumBwdIdeal.τ Cert.CumBwdIdeal.sig) → Buf (Elt Ideal) ℓ) (g : Dev Cert.CumBwdIdeal.nD → PrngReg), Pre_CumBwdIdeal_finite_cum m →
    θ_run (Cert.CumBwdIdeal.defs (F := Ideal)) (onTc (τ := Cert.CumBwdIdeal.τ) (Cert.CumBwdIdeal.main (F := Ideal))) ⟨m, fun _ => 0, g⟩ (fun r => (∀ c : Dev Cert.CumBwdIdeal.nD,
      r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
      ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
      ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ r.2.sem = fun _ => 0)

def quiescent_CumBwdRefIdeal [hCumBwdRefIdeal : Cert.CumBwdRefIdeal.Facts] : Prop :=
  ∀ (m : (ℓ : Loc Cert.CumBwdRefIdeal.nD Cert.CumBwdRefIdeal.τ Cert.CumBwdRefIdeal.sig) → Buf (Elt Ideal) ℓ) (g : Dev Cert.CumBwdRefIdeal.nD → PrngReg), Pre_CumBwdRefIdeal m →
    θ_run (Cert.CumBwdRefIdeal.defs (F := Ideal)) (onTc (τ := Cert.CumBwdRefIdeal.τ) (Cert.CumBwdRefIdeal.main (F := Ideal))) ⟨m, fun _ => 0, g⟩ (fun r => (∀ c : Dev Cert.CumBwdRefIdeal.nD,
      r.2.mem ((c.tc : Thread Cert.CumBwdRefIdeal.nD Cert.CumBwdRefIdeal.τ).loc Cert.CumBwdRefIdeal.main_arg0) = m ((c.tc : Thread Cert.CumBwdRefIdeal.nD Cert.CumBwdRefIdeal.τ).loc Cert.CumBwdRefIdeal.main_arg0)
      ∧ r.2.mem ((c.tc : Thread Cert.CumBwdRefIdeal.nD Cert.CumBwdRefIdeal.τ).loc Cert.CumBwdRefIdeal.main_arg1) = m ((c.tc : Thread Cert.CumBwdRefIdeal.nD Cert.CumBwdRefIdeal.τ).loc Cert.CumBwdRefIdeal.main_arg1)
      ∧ r.2.mem ((c.tc : Thread Cert.CumBwdRefIdeal.nD Cert.CumBwdRefIdeal.τ).loc Cert.CumBwdRefIdeal.main_arg2) = m ((c.tc : Thread Cert.CumBwdRefIdeal.nD Cert.CumBwdRefIdeal.τ).loc Cert.CumBwdRefIdeal.main_arg2))
      ∧ r.2.sem = fun _ => 0)

def quiescent_CumBwdRefIdeal_pre_finite_cum [hCumBwdRefIdeal : Cert.CumBwdRefIdeal.Facts] [hPre_finite_cum : Cert.Pre_finite_cum.Facts] : Prop :=
  ∀ (m : (ℓ : Loc Cert.CumBwdRefIdeal.nD Cert.CumBwdRefIdeal.τ Cert.CumBwdRefIdeal.sig) → Buf (Elt Ideal) ℓ) (g : Dev Cert.CumBwdRefIdeal.nD → PrngReg), Pre_CumBwdRefIdeal_finite_cum m →
    θ_run (Cert.CumBwdRefIdeal.defs (F := Ideal)) (onTc (τ := Cert.CumBwdRefIdeal.τ) (Cert.CumBwdRefIdeal.main (F := Ideal))) ⟨m, fun _ => 0, g⟩ (fun r => (∀ c : Dev Cert.CumBwdRefIdeal.nD,
      r.2.mem ((c.tc : Thread Cert.CumBwdRefIdeal.nD Cert.CumBwdRefIdeal.τ).loc Cert.CumBwdRefIdeal.main_arg0) = m ((c.tc : Thread Cert.CumBwdRefIdeal.nD Cert.CumBwdRefIdeal.τ).loc Cert.CumBwdRefIdeal.main_arg0)
      ∧ r.2.mem ((c.tc : Thread Cert.CumBwdRefIdeal.nD Cert.CumBwdRefIdeal.τ).loc Cert.CumBwdRefIdeal.main_arg1) = m ((c.tc : Thread Cert.CumBwdRefIdeal.nD Cert.CumBwdRefIdeal.τ).loc Cert.CumBwdRefIdeal.main_arg1)
      ∧ r.2.mem ((c.tc : Thread Cert.CumBwdRefIdeal.nD Cert.CumBwdRefIdeal.τ).loc Cert.CumBwdRefIdeal.main_arg2) = m ((c.tc : Thread Cert.CumBwdRefIdeal.nD Cert.CumBwdRefIdeal.τ).loc Cert.CumBwdRefIdeal.main_arg2))
      ∧ r.2.sem = fun _ => 0)

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v5)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v5) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v13) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_FoxBwd_FoxBwdIdeal : Prop :=
  True

def algebraic_FoxBwdIdeal_FoxBwdRefIdeal_pre_finite_fox [hFoxBwdIdeal : Cert.FoxBwdIdeal.Facts] [hFoxBwdRefIdeal : Cert.FoxBwdRefIdeal.Facts] [hPre_finite_fox : Cert.Pre_finite_fox.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_finite_fox m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)
      ∧ m' ((c.tc : Thread Cert.FoxBwdRefIdeal.nD Cert.FoxBwdRefIdeal.τ).loc Cert.FoxBwdRefIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v52_0)) (v1 : (c : Dev Cert.FoxBwdIdeal.nD) → Buf (Elt Ideal) ((c.tc : Thread Cert.FoxBwdIdeal.nD Cert.FoxBwdIdeal.τ).loc Cert.FoxBwdIdeal.main_v52_1)) (v2 : (c : Dev Cert.FoxBwdIdeal.nD) → Buf (Elt Ideal) ((c.tc : Thread Cert.FoxBwdIdeal.nD Cert.FoxBwdIdeal.τ).loc Cert.FoxBwdIdeal.main_v52_2)) (v3 : (c : Dev Cert.FoxBwdIdeal.nD) → Buf (Elt Ideal) ((c.tc : Thread Cert.FoxBwdIdeal.nD Cert.FoxBwdIdeal.τ).loc Cert.FoxBwdIdeal.main_v52_3)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v52_0) = v0 c
          ∧ r.2.mem ((c.tc : Thread Cert.FoxBwdIdeal.nD Cert.FoxBwdIdeal.τ).loc Cert.FoxBwdIdeal.main_v52_1) = v1 c
          ∧ r.2.mem ((c.tc : Thread Cert.FoxBwdIdeal.nD Cert.FoxBwdIdeal.τ).loc Cert.FoxBwdIdeal.main_v52_2) = v2 c
          ∧ r.2.mem ((c.tc : Thread Cert.FoxBwdIdeal.nD Cert.FoxBwdIdeal.τ).loc Cert.FoxBwdIdeal.main_v52_3) = v3 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          r.2.mem ((c.tc : Thread Cert.FoxBwdRefIdeal.nD Cert.FoxBwdRefIdeal.τ).loc Cert.FoxBwdRefIdeal.main_v92) = v0 c
          ∧ r.2.mem ((c.tc : Thread Cert.FoxBwdRefIdeal.nD Cert.FoxBwdRefIdeal.τ).loc Cert.FoxBwdRefIdeal.main_v93) = v1 c
          ∧ r.2.mem ((c.tc : Thread Cert.FoxBwdRefIdeal.nD Cert.FoxBwdRefIdeal.τ).loc Cert.FoxBwdRefIdeal.main_v94) = v2 c
          ∧ r.2.mem ((c.tc : Thread Cert.FoxBwdRefIdeal.nD Cert.FoxBwdRefIdeal.τ).loc Cert.FoxBwdRefIdeal.main_v90) = v3 c
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3)
          ∧ r.2.mem ((c.tc : Thread Cert.FoxBwdRefIdeal.nD Cert.FoxBwdRefIdeal.τ).loc Cert.FoxBwdRefIdeal.main_arg4) = m' ((c.tc : Thread Cert.FoxBwdRefIdeal.nD Cert.FoxBwdRefIdeal.τ).loc Cert.FoxBwdRefIdeal.main_arg4))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v4_0)) (v1 : (c : Dev Cert.MixBwdIdeal.nD) → Buf (Elt Ideal) ((c.tc : Thread Cert.MixBwdIdeal.nD Cert.MixBwdIdeal.τ).loc Cert.MixBwdIdeal.main_v4_1)) (v2 : (c : Dev Cert.MixBwdIdeal.nD) → Buf (Elt Ideal) ((c.tc : Thread Cert.MixBwdIdeal.nD Cert.MixBwdIdeal.τ).loc Cert.MixBwdIdeal.main_v4_2)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v4_0) = v0 c
          ∧ r.2.mem ((c.tc : Thread Cert.MixBwdIdeal.nD Cert.MixBwdIdeal.τ).loc Cert.MixBwdIdeal.main_v4_1) = v1 c
          ∧ r.2.mem ((c.tc : Thread Cert.MixBwdIdeal.nD Cert.MixBwdIdeal.τ).loc Cert.MixBwdIdeal.main_v4_2) = v2 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v38) = v0 c
          ∧ r.2.mem ((c.tc : Thread Cert.MixBwdRefIdeal.nD Cert.MixBwdRefIdeal.τ).loc Cert.MixBwdRefIdeal.main_v39) = v1 c
          ∧ r.2.mem ((c.tc : Thread Cert.MixBwdRefIdeal.nD Cert.MixBwdRefIdeal.τ).loc Cert.MixBwdRefIdeal.main_v40) = v2 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4))

def preserves_GainBwd_GainBwdIdeal : Prop :=
  True

def algebraic_GainBwdIdeal_GainBwdRefIdeal [hGainBwdIdeal : Cert.GainBwdIdeal.Facts] [hGainBwdRefIdeal : Cert.GainBwdRefIdeal.Facts] : Prop :=
  ∀ (m : (ℓ : Loc Cert.GainBwdIdeal.nD Cert.GainBwdIdeal.τ Cert.GainBwdIdeal.sig) → Buf (Elt Ideal) ℓ) (g : Dev Cert.GainBwdIdeal.nD → PrngReg)
    (m' : (ℓ : Loc Cert.GainBwdRefIdeal.nD Cert.GainBwdRefIdeal.τ Cert.GainBwdRefIdeal.sig) → Buf (Elt Ideal) ℓ) (g' : Dev Cert.GainBwdRefIdeal.nD → PrngReg), Pre_GainBwdIdeal m →
    (∀ c : Dev Cert.GainBwdIdeal.nD,
      m' ((c.tc : Thread Cert.GainBwdRefIdeal.nD Cert.GainBwdRefIdeal.τ).loc Cert.GainBwdRefIdeal.main_arg0) = m ((c.tc : Thread Cert.GainBwdIdeal.nD Cert.GainBwdIdeal.τ).loc Cert.GainBwdIdeal.main_arg0)
      ∧ m' ((c.tc : Thread Cert.GainBwdRefIdeal.nD Cert.GainBwdRefIdeal.τ).loc Cert.GainBwdRefIdeal.main_arg1) = m ((c.tc : Thread Cert.GainBwdIdeal.nD Cert.GainBwdIdeal.τ).loc Cert.GainBwdIdeal.main_arg1)) →
    ∃ (v0 : (c : Dev Cert.GainBwdIdeal.nD) → Buf (Elt Ideal) ((c.tc : Thread Cert.GainBwdIdeal.nD Cert.GainBwdIdeal.τ).loc Cert.GainBwdIdeal.main_v0)),
      θ_run (Cert.GainBwdIdeal.defs (F := Ideal)) (onTc (τ := Cert.GainBwdIdeal.τ) (Cert.GainBwdIdeal.main (F := Ideal))) ⟨m, fun _ => 0, g⟩ (fun r => ∀ c : Dev Cert.GainBwdIdeal.nD,
          r.2.mem ((c.tc : Thread Cert.GainBwdIdeal.nD Cert.GainBwdIdeal.τ).loc Cert.GainBwdIdeal.main_v0) = v0 c
          ∧ r.2.mem ((c.tc : Thread Cert.GainBwdIdeal.nD Cert.GainBwdIdeal.τ).loc Cert.GainBwdIdeal.main_arg0) = m ((c.tc : Thread Cert.GainBwdIdeal.nD Cert.GainBwdIdeal.τ).loc Cert.GainBwdIdeal.main_arg0)
          ∧ r.2.mem ((c.tc : Thread Cert.GainBwdIdeal.nD Cert.GainBwdIdeal.τ).loc Cert.GainBwdIdeal.main_arg1) = m ((c.tc : Thread Cert.GainBwdIdeal.nD Cert.GainBwdIdeal.τ).loc Cert.GainBwdIdeal.main_arg1))
      ∧ θ_run (Cert.GainBwdRefIdeal.defs (F := Ideal)) (onTc (τ := Cert.GainBwdRefIdeal.τ) (Cert.GainBwdRefIdeal.main (F := Ideal))) ⟨m', fun _ => 0, g'⟩ (fun r => ∀ c : Dev Cert.GainBwdRefIdeal.nD,
          r.2.mem ((c.tc : Thread Cert.GainBwdRefIdeal.nD Cert.GainBwdRefIdeal.τ).loc Cert.GainBwdRefIdeal.main_v15) = v0 c
          ∧ r.2.mem ((c.tc : Thread Cert.GainBwdRefIdeal.nD Cert.GainBwdRefIdeal.τ).loc Cert.GainBwdRefIdeal.main_arg0) = m' ((c.tc : Thread Cert.GainBwdRefIdeal.nD Cert.GainBwdRefIdeal.τ).loc Cert.GainBwdRefIdeal.main_arg0)
          ∧ r.2.mem ((c.tc : Thread Cert.GainBwdRefIdeal.nD Cert.GainBwdRefIdeal.τ).loc Cert.GainBwdRefIdeal.main_arg1) = m' ((c.tc : Thread Cert.GainBwdRefIdeal.nD Cert.GainBwdRefIdeal.τ).loc Cert.GainBwdRefIdeal.main_arg1))

def preserves_MemBwd_MemBwdIdeal : Prop :=
  True

def algebraic_MemBwdIdeal_MemBwdRefIdeal_pre_finite_mem [hMemBwdIdeal : Cert.MemBwdIdeal.Facts] [hMemBwdRefIdeal : Cert.MemBwdRefIdeal.Facts] [hPre_finite_mem : Cert.Pre_finite_mem.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal_finite_mem m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)
      ∧ m' ((c.tc : Thread Cert.MemBwdRefIdeal.nD Cert.MemBwdRefIdeal.τ).loc Cert.MemBwdRefIdeal.main_arg3) = m ((c.tc : Thread Cert.MemBwdIdeal.nD Cert.MemBwdIdeal.τ).loc Cert.MemBwdIdeal.main_arg3)) →
    ∃ (v0 : (c : Dev Cert.MemBwdIdeal.nD) → Buf (Elt Ideal) ((c.tc : Thread Cert.MemBwdIdeal.nD Cert.MemBwdIdeal.τ).loc Cert.MemBwdIdeal.main_v7_0)) (v1 : (c : Dev Cert.MemBwdIdeal.nD) → Buf (Elt Ideal) ((c.tc : Thread Cert.MemBwdIdeal.nD Cert.MemBwdIdeal.τ).loc Cert.MemBwdIdeal.main_v7_1)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v7_0) = v0 c
          ∧ r.2.mem ((c.tc : Thread Cert.MemBwdIdeal.nD Cert.MemBwdIdeal.τ).loc Cert.MemBwdIdeal.main_v7_1) = v1 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v59) = v0 c
          ∧ r.2.mem ((c.tc : Thread Cert.MemBwdRefIdeal.nD Cert.MemBwdRefIdeal.τ).loc Cert.MemBwdRefIdeal.main_v62) = v1 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2)
          ∧ r.2.mem ((c.tc : Thread Cert.MemBwdRefIdeal.nD Cert.MemBwdRefIdeal.τ).loc Cert.MemBwdRefIdeal.main_arg3) = m' ((c.tc : Thread Cert.MemBwdRefIdeal.nD Cert.MemBwdRefIdeal.τ).loc Cert.MemBwdRefIdeal.main_arg3))

def preserves_FoxFwd_FoxFwdIdeal : Prop :=
  True

def algebraic_FoxFwdIdeal_FoxFwdRefIdeal_pre_finite_fox_fwd [hFoxFwdIdeal : Cert.FoxFwdIdeal.Facts] [hFoxFwdRefIdeal : Cert.FoxFwdRefIdeal.Facts] [hPre_finite_fox_fwd : Cert.Pre_finite_fox_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_finite_fox_fwd m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)
      ∧ m' ((c.tc : Thread Cert.FoxFwdRefIdeal.nD Cert.FoxFwdRefIdeal.τ).loc Cert.FoxFwdRefIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v9_0)) (v1 : (c : Dev Cert.FoxFwdIdeal.nD) → Buf (Elt Ideal) ((c.tc : Thread Cert.FoxFwdIdeal.nD Cert.FoxFwdIdeal.τ).loc Cert.FoxFwdIdeal.main_v9_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v9_0) = v0 c
          ∧ r.2.mem ((c.tc : Thread Cert.FoxFwdIdeal.nD Cert.FoxFwdIdeal.τ).loc Cert.FoxFwdIdeal.main_v9_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v49) = v0 c
          ∧ r.2.mem ((c.tc : Thread Cert.FoxFwdRefIdeal.nD Cert.FoxFwdRefIdeal.τ).loc Cert.FoxFwdRefIdeal.main_v51) = v1 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2)
          ∧ r.2.mem ((c.tc : Thread Cert.FoxFwdRefIdeal.nD Cert.FoxFwdRefIdeal.τ).loc Cert.FoxFwdRefIdeal.main_arg3) = m' ((c.tc : Thread Cert.FoxFwdRefIdeal.nD Cert.FoxFwdRefIdeal.τ).loc Cert.FoxFwdRefIdeal.main_arg3))

def preserves_RmsBwd_RmsBwdIdeal : Prop :=
  True

def algebraic_RmsBwdIdeal_RmsBwdRefIdeal_pre_finite_rms [hRmsBwdIdeal : Cert.RmsBwdIdeal.Facts] [hRmsBwdRefIdeal : Cert.RmsBwdRefIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_finite_rms m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)
      ∧ m' ((c.tc : Thread Cert.RmsBwdRefIdeal.nD Cert.RmsBwdRefIdeal.τ).loc Cert.RmsBwdRefIdeal.main_arg4) = m ((c.tc : Thread Cert.RmsBwdIdeal.nD Cert.RmsBwdIdeal.τ).loc Cert.RmsBwdIdeal.main_arg4)) →
    ∃ (v0 : (c : Dev Cert.RmsBwdIdeal.nD) → Buf (Elt Ideal) ((c.tc : Thread Cert.RmsBwdIdeal.nD Cert.RmsBwdIdeal.τ).loc Cert.RmsBwdIdeal.main_v16_0)) (v1 : (c : Dev Cert.RmsBwdIdeal.nD) → Buf (Elt Ideal) ((c.tc : Thread Cert.RmsBwdIdeal.nD Cert.RmsBwdIdeal.τ).loc Cert.RmsBwdIdeal.main_v16_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v16_0) = v0 c
          ∧ r.2.mem ((c.tc : Thread Cert.RmsBwdIdeal.nD Cert.RmsBwdIdeal.τ).loc Cert.RmsBwdIdeal.main_v16_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
          ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v43) = v0 c
          ∧ r.2.mem ((c.tc : Thread Cert.RmsBwdRefIdeal.nD Cert.RmsBwdRefIdeal.τ).loc Cert.RmsBwdRefIdeal.main_v26) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3)
          ∧ r.2.mem ((c.tc : Thread Cert.RmsBwdRefIdeal.nD Cert.RmsBwdRefIdeal.τ).loc Cert.RmsBwdRefIdeal.main_arg4) = m' ((c.tc : Thread Cert.RmsBwdRefIdeal.nD Cert.RmsBwdRefIdeal.τ).loc Cert.RmsBwdRefIdeal.main_arg4))

def preserves_FinalLoss_FinalLossIdeal : Prop :=
  True

def algebraic_FinalLossIdeal_FinalLossRefIdeal_pre_finite_loss [hFinalLossIdeal : Cert.FinalLossIdeal.Facts] [hFinalLossRefIdeal : Cert.FinalLossRefIdeal.Facts] [hPre_finite_loss : Cert.Pre_finite_loss.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal_finite_loss m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v7_0)) (v1 : (c : Dev Cert.FinalLossIdeal.nD) → Buf (Elt Ideal) ((c.tc : Thread Cert.FinalLossIdeal.nD Cert.FinalLossIdeal.τ).loc Cert.FinalLossIdeal.main_v7_1)) (v2 : (c : Dev Cert.FinalLossIdeal.nD) → Buf (Elt Ideal) ((c.tc : Thread Cert.FinalLossIdeal.nD Cert.FinalLossIdeal.τ).loc Cert.FinalLossIdeal.main_v7_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v7_0) = v0 c
          ∧ r.2.mem ((c.tc : Thread Cert.FinalLossIdeal.nD Cert.FinalLossIdeal.τ).loc Cert.FinalLossIdeal.main_v7_1) = v1 c
          ∧ r.2.mem ((c.tc : Thread Cert.FinalLossIdeal.nD Cert.FinalLossIdeal.τ).loc Cert.FinalLossIdeal.main_v7_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v55) = v0 c
          ∧ r.2.mem ((c.tc : Thread Cert.FinalLossRefIdeal.nD Cert.FinalLossRefIdeal.τ).loc Cert.FinalLossRefIdeal.main_v56) = v1 c
          ∧ r.2.mem ((c.tc : Thread Cert.FinalLossRefIdeal.nD Cert.FinalLossRefIdeal.τ).loc Cert.FinalLossRefIdeal.main_v57) = v2 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_PostBwd_PostBwdIdeal : Prop :=
  IdealRules.named_const.Statement Cert.PostBwdIdeal.κ "gelu_cube" .f32 0x3D372713#32 ((8943 / 200000 : ℝ) : EReal)
  ∧ IdealRules.named_const.Statement Cert.PostBwdIdeal.κ "gelu_cube3" .f32 0x3E095D4F#32 ((26829 / 200000 : ℝ) : EReal)

def algebraic_PostBwdIdeal_PostBwdRefIdeal_pre_finite_post [hPostBwdIdeal : Cert.PostBwdIdeal.Facts] [hPostBwdRefIdeal : Cert.PostBwdRefIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal_finite_post m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)) →
    ∃ (v0 : (c : Dev Cert.PostBwdIdeal.nD) → Buf (Elt Ideal) ((c.tc : Thread Cert.PostBwdIdeal.nD Cert.PostBwdIdeal.τ).loc Cert.PostBwdIdeal.main_v6_0)) (v1 : (c : Dev Cert.PostBwdIdeal.nD) → Buf (Elt Ideal) ((c.tc : Thread Cert.PostBwdIdeal.nD Cert.PostBwdIdeal.τ).loc Cert.PostBwdIdeal.main_v6_1)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v6_0) = v0 c
          ∧ r.2.mem ((c.tc : Thread Cert.PostBwdIdeal.nD Cert.PostBwdIdeal.τ).loc Cert.PostBwdIdeal.main_v6_1) = v1 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v3_0) = v0 c
          ∧ r.2.mem ((c.tc : Thread Cert.PostBwdRefIdeal.nD Cert.PostBwdRefIdeal.τ).loc Cert.PostBwdRefIdeal.main_v3_1) = v1 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v15) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)) →
    ∃ (v0 : (c : Dev Cert.PostFwdIdeal.nD) → Buf (Elt Ideal) ((c.tc : Thread Cert.PostFwdIdeal.nD Cert.PostFwdIdeal.τ).loc Cert.PostFwdIdeal.main_v5)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v5) = v0 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v19) = v0 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v4_0)) (v1 : (c : Dev Cert.MixFwdIdeal.nD) → Buf (Elt Ideal) ((c.tc : Thread Cert.MixFwdIdeal.nD Cert.MixFwdIdeal.τ).loc Cert.MixFwdIdeal.main_v4_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4_0) = v0 c
          ∧ r.2.mem ((c.tc : Thread Cert.MixFwdIdeal.nD Cert.MixFwdIdeal.τ).loc Cert.MixFwdIdeal.main_v4_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v20) = v0 c
          ∧ r.2.mem ((c.tc : Thread Cert.MixFwdRefIdeal.nD Cert.MixFwdRefIdeal.τ).loc Cert.MixFwdRefIdeal.main_v22) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v5_0)) (v1 : (c : Dev Cert.FfnInIdeal.nD) → Buf (Elt Ideal) ((c.tc : Thread Cert.FfnInIdeal.nD Cert.FfnInIdeal.τ).loc Cert.FfnInIdeal.main_v5_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v5_0) = v0 c
          ∧ r.2.mem ((c.tc : Thread Cert.FfnInIdeal.nD Cert.FfnInIdeal.τ).loc Cert.FfnInIdeal.main_v5_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v6) = v0 c
          ∧ r.2.mem ((c.tc : Thread Cert.FfnInRefIdeal.nD Cert.FfnInRefIdeal.τ).loc Cert.FfnInRefIdeal.main_v9) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v6)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v6) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v17) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2))

def preserves_CumBwd_CumBwdIdeal : Prop :=
  True

def algebraic_CumBwdIdeal_CumBwdRefIdeal_pre_finite_cum [hCumBwdIdeal : Cert.CumBwdIdeal.Facts] [hCumBwdRefIdeal : Cert.CumBwdRefIdeal.Facts] [hPre_finite_cum : Cert.Pre_finite_cum.Facts] : Prop :=
  ∀ (m : (ℓ : Loc Cert.CumBwdIdeal.nD Cert.CumBwdIdeal.τ Cert.CumBwdIdeal.sig) → Buf (Elt Ideal) ℓ) (g : Dev Cert.CumBwdIdeal.nD → PrngReg)
    (m' : (ℓ : Loc Cert.CumBwdRefIdeal.nD Cert.CumBwdRefIdeal.τ Cert.CumBwdRefIdeal.sig) → Buf (Elt Ideal) ℓ) (g' : Dev Cert.CumBwdRefIdeal.nD → PrngReg), Pre_CumBwdIdeal_finite_cum m →
    (∀ c : Dev Cert.CumBwdIdeal.nD,
      m' ((c.tc : Thread Cert.CumBwdRefIdeal.nD Cert.CumBwdRefIdeal.τ).loc Cert.CumBwdRefIdeal.main_arg0) = m ((c.tc : Thread Cert.CumBwdIdeal.nD Cert.CumBwdIdeal.τ).loc Cert.CumBwdIdeal.main_arg0)
      ∧ m' ((c.tc : Thread Cert.CumBwdRefIdeal.nD Cert.CumBwdRefIdeal.τ).loc Cert.CumBwdRefIdeal.main_arg1) = m ((c.tc : Thread Cert.CumBwdIdeal.nD Cert.CumBwdIdeal.τ).loc Cert.CumBwdIdeal.main_arg1)
      ∧ m' ((c.tc : Thread Cert.CumBwdRefIdeal.nD Cert.CumBwdRefIdeal.τ).loc Cert.CumBwdRefIdeal.main_arg2) = m ((c.tc : Thread Cert.CumBwdIdeal.nD Cert.CumBwdIdeal.τ).loc Cert.CumBwdIdeal.main_arg2)) →
    ∃ (v0 : (c : Dev Cert.CumBwdIdeal.nD) → Buf (Elt Ideal) ((c.tc : Thread Cert.CumBwdIdeal.nD Cert.CumBwdIdeal.τ).loc Cert.CumBwdIdeal.main_v10_0)) (v1 : (c : Dev Cert.CumBwdIdeal.nD) → Buf (Elt Ideal) ((c.tc : Thread Cert.CumBwdIdeal.nD Cert.CumBwdIdeal.τ).loc Cert.CumBwdIdeal.main_v10_1)),
      θ_run (Cert.CumBwdIdeal.defs (F := Ideal)) (onTc (τ := Cert.CumBwdIdeal.τ) (Cert.CumBwdIdeal.main (F := Ideal))) ⟨m, fun _ => 0, g⟩ (fun r => ∀ c : Dev Cert.CumBwdIdeal.nD,
          r.2.mem ((c.tc : Thread Cert.CumBwdIdeal.nD Cert.CumBwdIdeal.τ).loc Cert.CumBwdIdeal.main_v10_0) = v0 c
          ∧ r.2.mem ((c.tc : Thread Cert.CumBwdIdeal.nD Cert.CumBwdIdeal.τ).loc Cert.CumBwdIdeal.main_v10_1) = v1 c
          ∧ r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
          ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
          ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ θ_run (Cert.CumBwdRefIdeal.defs (F := Ideal)) (onTc (τ := Cert.CumBwdRefIdeal.τ) (Cert.CumBwdRefIdeal.main (F := Ideal))) ⟨m', fun _ => 0, g'⟩ (fun r => ∀ c : Dev Cert.CumBwdRefIdeal.nD,
          r.2.mem ((c.tc : Thread Cert.CumBwdRefIdeal.nD Cert.CumBwdRefIdeal.τ).loc Cert.CumBwdRefIdeal.main_v14) = v0 c
          ∧ r.2.mem ((c.tc : Thread Cert.CumBwdRefIdeal.nD Cert.CumBwdRefIdeal.τ).loc Cert.CumBwdRefIdeal.main_v17) = v1 c
          ∧ r.2.mem ((c.tc : Thread Cert.CumBwdRefIdeal.nD Cert.CumBwdRefIdeal.τ).loc Cert.CumBwdRefIdeal.main_arg0) = m' ((c.tc : Thread Cert.CumBwdRefIdeal.nD Cert.CumBwdRefIdeal.τ).loc Cert.CumBwdRefIdeal.main_arg0)
          ∧ r.2.mem ((c.tc : Thread Cert.CumBwdRefIdeal.nD Cert.CumBwdRefIdeal.τ).loc Cert.CumBwdRefIdeal.main_arg1) = m' ((c.tc : Thread Cert.CumBwdRefIdeal.nD Cert.CumBwdRefIdeal.τ).loc Cert.CumBwdRefIdeal.main_arg1)
          ∧ r.2.mem ((c.tc : Thread Cert.CumBwdRefIdeal.nD Cert.CumBwdRefIdeal.τ).loc Cert.CumBwdRefIdeal.main_arg2) = m' ((c.tc : Thread Cert.CumBwdRefIdeal.nD Cert.CumBwdRefIdeal.τ).loc Cert.CumBwdRefIdeal.main_arg2))

def Claim : Prop :=
  ∃ (hSwiglu : Cert.Swiglu.Facts) (hSwigluIdeal : Cert.SwigluIdeal.Facts) (hSwigluRefIdeal : Cert.SwigluRefIdeal.Facts) (hFoxBwd : Cert.FoxBwd.Facts) (hFoxBwdIdeal : Cert.FoxBwdIdeal.Facts) (hFoxBwdRefIdeal : Cert.FoxBwdRefIdeal.Facts) (hMixBwd : Cert.MixBwd.Facts) (hMixBwdIdeal : Cert.MixBwdIdeal.Facts) (hMixBwdRefIdeal : Cert.MixBwdRefIdeal.Facts) (hGainBwd : Cert.GainBwd.Facts) (hGainBwdIdeal : Cert.GainBwdIdeal.Facts) (hGainBwdRefIdeal : Cert.GainBwdRefIdeal.Facts) (hMemBwd : Cert.MemBwd.Facts) (hMemBwdIdeal : Cert.MemBwdIdeal.Facts) (hMemBwdRefIdeal : Cert.MemBwdRefIdeal.Facts) (hFoxFwd : Cert.FoxFwd.Facts) (hFoxFwdIdeal : Cert.FoxFwdIdeal.Facts) (hFoxFwdRefIdeal : Cert.FoxFwdRefIdeal.Facts) (hRmsBwd : Cert.RmsBwd.Facts) (hRmsBwdIdeal : Cert.RmsBwdIdeal.Facts) (hRmsBwdRefIdeal : Cert.RmsBwdRefIdeal.Facts) (hFinalLoss : Cert.FinalLoss.Facts) (hFinalLossIdeal : Cert.FinalLossIdeal.Facts) (hFinalLossRefIdeal : Cert.FinalLossRefIdeal.Facts) (hPostBwd : Cert.PostBwd.Facts) (hPostBwdIdeal : Cert.PostBwdIdeal.Facts) (hPostBwdRefIdeal : Cert.PostBwdRefIdeal.Facts) (hRmsFwd : Cert.RmsFwd.Facts) (hRmsFwdIdeal : Cert.RmsFwdIdeal.Facts) (hRmsFwdRefIdeal : Cert.RmsFwdRefIdeal.Facts) (hPostFwd : Cert.PostFwd.Facts) (hPostFwdIdeal : Cert.PostFwdIdeal.Facts) (hPostFwdRefIdeal : Cert.PostFwdRefIdeal.Facts) (hMixFwd : Cert.MixFwd.Facts) (hMixFwdIdeal : Cert.MixFwdIdeal.Facts) (hMixFwdRefIdeal : Cert.MixFwdRefIdeal.Facts) (hFfnIn : Cert.FfnIn.Facts) (hFfnInIdeal : Cert.FfnInIdeal.Facts) (hFfnInRefIdeal : Cert.FfnInRefIdeal.Facts) (hMemFwd : Cert.MemFwd.Facts) (hMemFwdIdeal : Cert.MemFwdIdeal.Facts) (hMemFwdRefIdeal : Cert.MemFwdRefIdeal.Facts) (hCumBwd : Cert.CumBwd.Facts) (hCumBwdIdeal : Cert.CumBwdIdeal.Facts) (hCumBwdRefIdeal : Cert.CumBwdRefIdeal.Facts) (hPre_finite_swiglu : Cert.Pre_finite_swiglu.Facts) (hPre_finite_fox : Cert.Pre_finite_fox.Facts) (hPre_finite_mem : Cert.Pre_finite_mem.Facts) (hPre_finite_fox_fwd : Cert.Pre_finite_fox_fwd.Facts) (hPre_finite_rms : Cert.Pre_finite_rms.Facts) (hPre_finite_loss : Cert.Pre_finite_loss.Facts) (hPre_finite_post : Cert.Pre_finite_post.Facts) (hPre_finite_cum : Cert.Pre_finite_cum.Facts),
    quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_FoxBwd (hFoxBwd := hFoxBwd)
    ∧ quiescent_FoxBwdIdeal (hFoxBwdIdeal := hFoxBwdIdeal)
    ∧ quiescent_FoxBwdIdeal_pre_finite_fox (hFoxBwdIdeal := hFoxBwdIdeal) (hPre_finite_fox := hPre_finite_fox)
    ∧ quiescent_FoxBwdRefIdeal (hFoxBwdRefIdeal := hFoxBwdRefIdeal)
    ∧ quiescent_FoxBwdRefIdeal_pre_finite_fox (hFoxBwdRefIdeal := hFoxBwdRefIdeal) (hPre_finite_fox := hPre_finite_fox)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_GainBwd (hGainBwd := hGainBwd)
    ∧ quiescent_GainBwdIdeal (hGainBwdIdeal := hGainBwdIdeal)
    ∧ quiescent_GainBwdRefIdeal (hGainBwdRefIdeal := hGainBwdRefIdeal)
    ∧ quiescent_MemBwd (hMemBwd := hMemBwd)
    ∧ quiescent_MemBwdIdeal (hMemBwdIdeal := hMemBwdIdeal)
    ∧ quiescent_MemBwdIdeal_pre_finite_mem (hMemBwdIdeal := hMemBwdIdeal) (hPre_finite_mem := hPre_finite_mem)
    ∧ quiescent_MemBwdRefIdeal (hMemBwdRefIdeal := hMemBwdRefIdeal)
    ∧ quiescent_MemBwdRefIdeal_pre_finite_mem (hMemBwdRefIdeal := hMemBwdRefIdeal) (hPre_finite_mem := hPre_finite_mem)
    ∧ quiescent_FoxFwd (hFoxFwd := hFoxFwd)
    ∧ quiescent_FoxFwdIdeal (hFoxFwdIdeal := hFoxFwdIdeal)
    ∧ quiescent_FoxFwdIdeal_pre_finite_fox_fwd (hFoxFwdIdeal := hFoxFwdIdeal) (hPre_finite_fox_fwd := hPre_finite_fox_fwd)
    ∧ quiescent_FoxFwdRefIdeal (hFoxFwdRefIdeal := hFoxFwdRefIdeal)
    ∧ quiescent_FoxFwdRefIdeal_pre_finite_fox_fwd (hFoxFwdRefIdeal := hFoxFwdRefIdeal) (hPre_finite_fox_fwd := hPre_finite_fox_fwd)
    ∧ quiescent_RmsBwd (hRmsBwd := hRmsBwd)
    ∧ quiescent_RmsBwdIdeal (hRmsBwdIdeal := hRmsBwdIdeal)
    ∧ quiescent_RmsBwdIdeal_pre_finite_rms (hRmsBwdIdeal := hRmsBwdIdeal) (hPre_finite_rms := hPre_finite_rms)
    ∧ quiescent_RmsBwdRefIdeal (hRmsBwdRefIdeal := hRmsBwdRefIdeal)
    ∧ quiescent_RmsBwdRefIdeal_pre_finite_rms (hRmsBwdRefIdeal := hRmsBwdRefIdeal) (hPre_finite_rms := hPre_finite_rms)
    ∧ quiescent_FinalLoss (hFinalLoss := hFinalLoss)
    ∧ quiescent_FinalLossIdeal (hFinalLossIdeal := hFinalLossIdeal)
    ∧ quiescent_FinalLossIdeal_pre_finite_loss (hFinalLossIdeal := hFinalLossIdeal) (hPre_finite_loss := hPre_finite_loss)
    ∧ quiescent_FinalLossRefIdeal (hFinalLossRefIdeal := hFinalLossRefIdeal)
    ∧ quiescent_FinalLossRefIdeal_pre_finite_loss (hFinalLossRefIdeal := hFinalLossRefIdeal) (hPre_finite_loss := hPre_finite_loss)
    ∧ quiescent_PostBwd (hPostBwd := hPostBwd)
    ∧ quiescent_PostBwdIdeal (hPostBwdIdeal := hPostBwdIdeal)
    ∧ quiescent_PostBwdIdeal_pre_finite_post (hPostBwdIdeal := hPostBwdIdeal) (hPre_finite_post := hPre_finite_post)
    ∧ quiescent_PostBwdRefIdeal (hPostBwdRefIdeal := hPostBwdRefIdeal)
    ∧ quiescent_PostBwdRefIdeal_pre_finite_post (hPostBwdRefIdeal := hPostBwdRefIdeal) (hPre_finite_post := hPre_finite_post)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_CumBwd (hCumBwd := hCumBwd)
    ∧ quiescent_CumBwdIdeal (hCumBwdIdeal := hCumBwdIdeal)
    ∧ quiescent_CumBwdIdeal_pre_finite_cum (hCumBwdIdeal := hCumBwdIdeal) (hPre_finite_cum := hPre_finite_cum)
    ∧ quiescent_CumBwdRefIdeal (hCumBwdRefIdeal := hCumBwdRefIdeal)
    ∧ quiescent_CumBwdRefIdeal_pre_finite_cum (hCumBwdRefIdeal := hCumBwdRefIdeal) (hPre_finite_cum := hPre_finite_cum)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_FoxBwd_FoxBwdIdeal
    ∧ algebraic_FoxBwdIdeal_FoxBwdRefIdeal_pre_finite_fox (hFoxBwdIdeal := hFoxBwdIdeal) (hFoxBwdRefIdeal := hFoxBwdRefIdeal) (hPre_finite_fox := hPre_finite_fox)
    ∧ preserves_MixBwd_MixBwdIdeal
    ∧ algebraic_MixBwdIdeal_MixBwdRefIdeal (hMixBwdIdeal := hMixBwdIdeal) (hMixBwdRefIdeal := hMixBwdRefIdeal)
    ∧ preserves_GainBwd_GainBwdIdeal
    ∧ algebraic_GainBwdIdeal_GainBwdRefIdeal (hGainBwdIdeal := hGainBwdIdeal) (hGainBwdRefIdeal := hGainBwdRefIdeal)
    ∧ preserves_MemBwd_MemBwdIdeal
    ∧ algebraic_MemBwdIdeal_MemBwdRefIdeal_pre_finite_mem (hMemBwdIdeal := hMemBwdIdeal) (hMemBwdRefIdeal := hMemBwdRefIdeal) (hPre_finite_mem := hPre_finite_mem)
    ∧ preserves_FoxFwd_FoxFwdIdeal
    ∧ algebraic_FoxFwdIdeal_FoxFwdRefIdeal_pre_finite_fox_fwd (hFoxFwdIdeal := hFoxFwdIdeal) (hFoxFwdRefIdeal := hFoxFwdRefIdeal) (hPre_finite_fox_fwd := hPre_finite_fox_fwd)
    ∧ preserves_RmsBwd_RmsBwdIdeal
    ∧ algebraic_RmsBwdIdeal_RmsBwdRefIdeal_pre_finite_rms (hRmsBwdIdeal := hRmsBwdIdeal) (hRmsBwdRefIdeal := hRmsBwdRefIdeal) (hPre_finite_rms := hPre_finite_rms)
    ∧ preserves_FinalLoss_FinalLossIdeal
    ∧ algebraic_FinalLossIdeal_FinalLossRefIdeal_pre_finite_loss (hFinalLossIdeal := hFinalLossIdeal) (hFinalLossRefIdeal := hFinalLossRefIdeal) (hPre_finite_loss := hPre_finite_loss)
    ∧ preserves_PostBwd_PostBwdIdeal
    ∧ algebraic_PostBwdIdeal_PostBwdRefIdeal_pre_finite_post (hPostBwdIdeal := hPostBwdIdeal) (hPostBwdRefIdeal := hPostBwdRefIdeal) (hPre_finite_post := hPre_finite_post)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_PostFwd_PostFwdIdeal
    ∧ algebraic_PostFwdIdeal_PostFwdRefIdeal (hPostFwdIdeal := hPostFwdIdeal) (hPostFwdRefIdeal := hPostFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_FfnIn_FfnInIdeal
    ∧ algebraic_FfnInIdeal_FfnInRefIdeal (hFfnInIdeal := hFfnInIdeal) (hFfnInRefIdeal := hFfnInRefIdeal)
    ∧ preserves_MemFwd_MemFwdIdeal
    ∧ algebraic_MemFwdIdeal_MemFwdRefIdeal (hMemFwdIdeal := hMemFwdIdeal) (hMemFwdRefIdeal := hMemFwdRefIdeal)
    ∧ preserves_CumBwd_CumBwdIdeal
    ∧ algebraic_CumBwdIdeal_CumBwdRefIdeal_pre_finite_cum (hCumBwdIdeal := hCumBwdIdeal) (hCumBwdRefIdeal := hCumBwdRefIdeal) (hPre_finite_cum := hPre_finite_cum)
-- ==== Pre_finite_cum.lean ====
abbrev S1x8192x8 : Shape := ⟨3, ![1, 8192, 8]⟩
abbrev S8 : Shape := ⟨1, ![8]⟩
abbrev S1x8x8192 : Shape := ⟨3, ![1, 8, 8192]⟩
abbrev S_ : Shape := ⟨0, ![]⟩

class Facts : Prop where
  bcast_S_S1x8192x8 : S_.BroadcastsInDim S1x8192x8 (![] : Fin 0 → Fin S1x8192x8.rank)
  bcast_S_S8 : S_.BroadcastsInDim S8 (![] : Fin 0 → Fin S8.rank)
  bcast_S_S1x8x8192 : S_.BroadcastsInDim S1x8x8192 (![] : Fin 0 → Fin S1x8x8192.rank)

variable [Facts]

def fn {F : FTy → Type} [FloatOps F] (main_arg0 : FVec F S1x8192x8 .f32) (main_arg1 : FVec F S8 .f32) (main_arg2 : FVec F S1x8x8192 .f32) : IVec S1x8192x8 1 × IVec S8 1 × IVec S1x8x8192 1 :=
  let main_v0 : FVec F S1x8192x8 .f32 := Host.absf main_arg0
  let main_cst : FVec F S_ .f32 := constant S_ .f32 0x7F800000#32
  let main_v1 : FVec F S1x8192x8 .f32 := broadcastInDim S1x8192x8 ![] bcast_S_S1x8192x8 main_cst
  let main_v2 : IVec S1x8192x8 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S1x8x8192 .f32 := Host.absf main_arg2
  let main_cst_1 : FVec F S_ .f32 := constant S_ .f32 0x7F800000#32
  let main_v7 : FVec F S1x8x8192 .f32 := broadcastInDim S1x8x8192 ![] bcast_S_S1x8x8192 main_cst_1
  let main_v8 : IVec S1x8x8192 1 := cmpf .olt main_v6 main_v7
  (main_v2, main_v5, main_v8)
-- ==== Pre_finite_fox.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  bcast_S_S1x8192x8 : S_.BroadcastsInDim S1x8192x8 (![] : Fin 0 → Fin S1x8192x8.rank)
  bcast_S_S1x8192x512 : S_.BroadcastsInDim S1x8192x512 (![] : Fin 0 → Fin S1x8192x512.rank)

variable [Facts]

def fn {F : FTy → Type} [FloatOps F] (main_arg0 : FVec F S1x8192x8x64 .f32) (main_arg1 : FVec F S1x8192x8x64 .f32) (main_arg2 : FVec F S1x8192x8x64 .f32) (main_arg3 : FVec F S1x8192x8 .f32) (main_arg4 : FVec F S1x8192x512 .f32) : IVec S1x8192x8x64 1 × IVec S1x8192x8x64 1 × IVec S1x8192x8x64 1 × IVec S1x8192x8 1 × IVec S1x8192x512 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x8x64 .f32 := Host.absf main_arg1
  let main_cst_0 : FVec F S_ .f32 := constant S_ .f32 0x7F800000#32
  let main_v4 : FVec F S1x8192x8x64 .f32 := broadcastInDim S1x8192x8x64 ![] bcast_S_S1x8192x8x64 main_cst_0
  let main_v5 : IVec S1x8192x8x64 1 := cmpf .olt main_v3 main_v4
  let main_v6 : FVec F S1x8192x8x64 .f32 := Host.absf main_arg2
  let main_cst_1 : FVec F S_ .f32 := constant S_ .f32 0x7F800000#32
  let main_v7 : FVec F S1x8192x8x64 .f32 := broadcastInDim S1x8192x8x64 ![] bcast_S_S1x8192x8x64 main_cst_1
  let main_v8 : IVec S1x8192x8x64 1 := cmpf .olt main_v6 main_v7
  let main_v9 : FVec F S1x8192x8 .f32 := Host.absf main_arg3
  let main_cst_2 : FVec F S_ .f32 := constant S_ .f32 0x7F800000#32
  let main_v10 : FVec F S1x8192x8 .f32 := broadcastInDim S1x8192x8 ![] bcast_S_S1x8192x8 main_cst_2
  let main_v11 : IVec S1x8192x8 1 := cmpf .olt main_v9 main_v10
  let main_v12 : FVec F S1x8192x512 .f32 := Host.absf main_arg4
  let main_cst_3 : FVec F S_ .f32 := constant S_ .f32 0x7F800000#32
  let main_v13 : FVec F S1x8192x512 .f32 := broadcastInDim S1x8192x512 ![] bcast_S_S1x8192x512 main_cst_3
  let main_v14 : IVec S1x8192x512 1 := cmpf .olt main_v12 main_v13
  (main_v2, main_v5, main_v8, main_v11, main_v14)
-- ==== Pre_finite_fox_fwd.lean ====
abbrev S1x8192x8x64 : Shape := ⟨4, ![1, 8192, 8, 64]⟩
abbrev S1x8192x8 : Shape := ⟨3, ![1, 8192, 8]⟩
abbrev S_ : Shape := ⟨0, ![]⟩

class Facts : Prop where
  bcast_S_S1x8192x8x64 : S_.BroadcastsInDim S1x8192x8x64 (![] : Fin 0 → Fin S1x8192x8x64.rank)
  bcast_S_S1x8192x8 : S_.BroadcastsInDim S1x8192x8 (![] : Fin 0 → Fin S1x8192x8.rank)

variable [Facts]

def fn {F : FTy → Type} [FloatOps F] (main_arg0 : FVec F S1x8192x8x64 .f32) (main_arg1 : FVec F S1x8192x8x64 .f32) (main_arg2 : FVec F S1x8192x8x64 .f32) (main_arg3 : FVec F S1x8192x8 .f32) : IVec S1x8192x8x64 1 × IVec S1x8192x8x64 1 × IVec S1x8192x8x64 1 × IVec S1x8192x8 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x8x64 .f32 := Host.absf main_arg1
  let main_cst_0 : FVec F S_ .f32 := constant S_ .f32 0x7F800000#32
  let main_v4 : FVec F S1x8192x8x64 .f32 := broadcastInDim S1x8192x8x64 ![] bcast_S_S1x8192x8x64 main_cst_0
  let main_v5 : IVec S1x8192x8x64 1 := cmpf .olt main_v3 main_v4
  let main_v6 : FVec F S1x8192x8x64 .f32 := Host.absf main_arg2
  let main_cst_1 : FVec F S_ .f32 := constant S_ .f32 0x7F800000#32
  let main_v7 : FVec F S1x8192x8x64 .f32 := broadcastInDim S1x8192x8x64 ![] bcast_S_S1x8192x8x64 main_cst_1
  let main_v8 : IVec S1x8192x8x64 1 := cmpf .olt main_v6 main_v7
  let main_v9 : FVec F S1x8192x8 .f32 := Host.absf main_arg3
  let main_cst_2 : FVec F S_ .f32 := constant S_ .f32 0x7F800000#32
  let main_v10 : FVec F S1x8192x8 .f32 := broadcastInDim S1x8192x8 ![] bcast_S_S1x8192x8 main_cst_2
  let main_v11 : IVec S1x8192x8 1 := cmpf .olt main_v9 main_v10
  (main_v2, main_v5, main_v8, main_v11)
-- ==== Pre_finite_loss.lean ====
abbrev S1x8192x2816 : Shape := ⟨3, ![1, 8192, 2816]⟩
abbrev S1x2816x1024 : Shape := ⟨3, ![1, 2816, 1024]⟩
abbrev S1x8192x1024 : Shape := ⟨3, ![1, 8192, 1024]⟩
abbrev S1024 : Shape := ⟨1, ![1024]⟩
abbrev S_ : Shape := ⟨0, ![]⟩

class Facts : Prop where
  bcast_S_S1x8192x2816 : S_.BroadcastsInDim S1x8192x2816 (![] : Fin 0 → Fin S1x8192x2816.rank)
  bcast_S_S1x2816x1024 : S_.BroadcastsInDim S1x2816x1024 (![] : Fin 0 → Fin S1x2816x1024.rank)
  bcast_S_S1x8192x1024 : S_.BroadcastsInDim S1x8192x1024 (![] : Fin 0 → Fin S1x8192x1024.rank)
  bcast_S_S1024 : S_.BroadcastsInDim S1024 (![] : Fin 0 → Fin S1024.rank)

variable [Facts]

def fn {F : FTy → Type} [FloatOps F] (main_arg0 : FVec F S1x8192x2816 .f32) (main_arg1 : FVec F S1x2816x1024 .f32) (main_arg2 : FVec F S1x8192x1024 .f32) (main_arg3 : FVec F S1x8192x1024 .f32) (main_arg4 : FVec F S1024 .f32) : IVec S1x8192x2816 1 × IVec S1x2816x1024 1 × IVec S1x8192x1024 1 × IVec S1x8192x1024 1 × IVec S1024 1 :=
  let main_v0 : FVec F S1x8192x2816 .f32 := Host.absf main_arg0
  let main_cst : FVec F S_ .f32 := constant S_ .f32 0x7F800000#32
  let main_v1 : FVec F S1x8192x2816 .f32 := broadcastInDim S1x8192x2816 ![] bcast_S_S1x8192x2816 main_cst
  let main_v2 : IVec S1x8192x2816 1 := cmpf .olt main_v0 main_v1
  let main_v3 : FVec F S1x2816x1024 .f32 := Host.absf main_arg1
  let main_cst_0 : FVec F S_ .f32 := constant S_ .f32 0x7F800000#32
  let main_v4 : FVec F S1x2816x1024 .f32 := broadcastInDim S1x2816x1024 ![] bcast_S_S1x2816x1024 main_cst_0
  let main_v5 : IVec S1x2816x1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite_mem.lean ====
abbrev S1x8192x4x128 : Shape := ⟨4, ![1, 8192, 4, 128]⟩
abbrev S1x256x4x128 : Shape := ⟨4, ![1, 256, 4, 128]⟩
abbrev S1x8192x512 : Shape := ⟨3, ![1, 8192, 512]⟩
abbrev S_ : Shape := ⟨0, ![]⟩

class Facts : Prop where
  bcast_S_S1x8192x4x128 : S_.BroadcastsInDim S1x8192x4x128 (![] : Fin 0 → Fin S1x8192x4x128.rank)
  bcast_S_S1x256x4x128 : S_.BroadcastsInDim S1x256x4x128 (![] : Fin 0 → Fin S1x256x4x128.rank)
  bcast_S_S1x8192x512 : S_.BroadcastsInDim S1x8192x512 (![] : Fin 0 → Fin S1x8192x512.rank)

variable [Facts]

def fn {F : FTy → Type} [FloatOps F] (main_arg0 : FVec F S1x8192x4x128 .f32) (main_arg1 : FVec F S1x256x4x128 .f32) (main_arg2 : FVec F S1x256x4x128 .f32) (main_arg3 : FVec F S1x8192x512 .f32) : IVec S1x8192x4x128 1 × IVec S1x256x4x128 1 × IVec S1x256x4x128 1 × IVec S1x8192x512 1 :=
  let main_v0 : FVec F S1x8192x4x128 .f32 := Host.absf main_arg0
  let main_cst : FVec F S_ .f32 := constant S_ .f32 0x7F800000#32
  let main_v1 : FVec F S1x8192x4x128 .f32 := broadcastInDim S1x8192x4x128 ![] bcast_S_S1x8192x4x128 main_cst
  let main_v2 : IVec S1x8192x4x128 1 := cmpf .olt main_v0 main_v1
  let main_v3 : FVec F S1x256x4x128 .f32 := Host.absf main_arg1
  let main_cst_0 : FVec F S_ .f32 := constant S_ .f32 0x7F800000#32
  let main_v4 : FVec F S1x256x4x128 .f32 := broadcastInDim S1x256x4x128 ![] bcast_S_S1x256x4x128 main_cst_0
  let main_v5 : IVec S1x256x4x128 1 := cmpf .olt main_v3 main_v4
  let main_v6 : FVec F S1x256x4x128 .f32 := Host.absf main_arg2
  let main_cst_1 : FVec F S_ .f32 := constant S_ .f32 0x7F800000#32
  let main_v7 : FVec F S1x256x4x128 .f32 := broadcastInDim S1x256x4x128 ![] bcast_S_S1x256x4x128 main_cst_1
  let main_v8 : IVec S1x256x4x128 1 := cmpf .olt main_v6 main_v7
  let main_v9 : FVec F S1x8192x512 .f32 := Host.absf main_arg3
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  (main_v2, main_v5, main_v8, main_v11)
-- ==== Pre_finite_post.lean ====
abbrev S1x8192x512 : Shape := ⟨3, ![1, 8192, 512]⟩
abbrev S1x512 : Shape := ⟨2, ![1, 512]⟩
abbrev S_ : Shape := ⟨0, ![]⟩

class Facts : Prop where
  bcast_S_S1x8192x512 : S_.BroadcastsInDim S1x8192x512 (![] : Fin 0 → Fin S1x8192x512.rank)
  bcast_S_S1x512 : S_.BroadcastsInDim S1x512 (![] : Fin 0 → Fin S1x512.rank)

variable [Facts]

def fn {F : FTy → Type} [FloatOps F] (main_arg0 : FVec F S1x8192x512 .f32) (main_arg1 : FVec F S1x8192x512 .f32) (main_arg2 : FVec F S1x8192x512 .f32) (main_arg3 : FVec F S1x512 .f32) : IVec S1x8192x512 1 × IVec S1x8192x512 1 × IVec S1x8192x512 1 × IVec S1x512 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_v3 : FVec F S1x8192x512 .f32 := Host.absf main_arg1
  let main_cst_0 : FVec F S_ .f32 := constant S_ .f32 0x7F800000#32
  let main_v4 : FVec F S1x8192x512 .f32 := broadcastInDim S1x8192x512 ![] bcast_S_S1x8192x512 main_cst_0
  let main_v5 : IVec S1x8192x512 1 := cmpf .olt main_v3 main_v4
  let main_v6 : FVec F S1x8192x512 .f32 := Host.absf main_arg2
  let main_cst_1 : FVec F S_ .f32 := constant S_ .f32 0x7F800000#32
  let main_v7 : FVec F S1x8192x512 .f32 := broadcastInDim S1x8192x512 ![] bcast_S_S1x8192x512 main_cst_1
  let main_v8 : IVec S1x8192x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Pre_finite_rms.lean ====
abbrev S1x8192x1024 : Shape := ⟨3, ![1, 8192, 1024]⟩
abbrev S1x1024 : Shape := ⟨2, ![1, 1024]⟩
abbrev S1x1024x4104 : Shape := ⟨3, ![1, 1024, 4104]⟩
abbrev S1x8192x4104 : Shape := ⟨3, ![1, 8192, 4104]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x4104 : S_.BroadcastsInDim S1x1024x4104 (![] : Fin 0 → Fin S1x1024x4104.rank)
  bcast_S_S1x8192x4104 : S_.BroadcastsInDim S1x8192x4104 (![] : Fin 0 → Fin S1x8192x4104.rank)

variable [Facts]

def fn {F : FTy → Type} [FloatOps F] (main_arg0 : FVec F S1x8192x1024 .f32) (main_arg1 : FVec F S1x1024 .f32) (main_arg2 : FVec F S1x1024x4104 .f32) (main_arg3 : FVec F S1x8192x4104 .f32) (main_arg4 : FVec F S1x8192x1024 .f32) : IVec S1x8192x1024 1 × IVec S1x1024 1 × IVec S1x1024x4104 1 × IVec S1x8192x4104 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4104 .f32 := Host.absf main_arg2
  let main_cst_1 : FVec F S_ .f32 := constant S_ .f32 0x7F800000#32
  let main_v7 : FVec F S1x1024x4104 .f32 := broadcastInDim S1x1024x4104 ![] bcast_S_S1x1024x4104 main_cst_1
  let main_v8 : IVec S1x1024x4104 1 := cmpf .olt main_v6 main_v7
  let main_v9 : FVec F S1x8192x4104 .f32 := Host.absf main_arg3
  let main_cst_2 : FVec F S_ .f32 := constant S_ .f32 0x7F800000#32
  let main_v10 : FVec F S1x8192x4104 .f32 := broadcastInDim S1x8192x4104 ![] bcast_S_S1x8192x4104 main_cst_2
  let main_v11 : IVec S1x8192x4104 1 := cmpf .olt main_v9 main_v10
  let main_v12 : FVec F S1x8192x1024 .f32 := Host.absf main_arg4
  let main_cst_3 : FVec F S_ .f32 := constant S_ .f32 0x7F800000#32
  let main_v13 : FVec F S1x8192x1024 .f32 := broadcastInDim S1x8192x1024 ![] bcast_S_S1x8192x1024 main_cst_3
  let main_v14 : IVec S1x8192x1024 1 := cmpf .olt main_v12 main_v13
  (main_v2, main_v5, main_v8, main_v11, main_v14)
-- ==== Pre_finite_swiglu.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S2816x1024 .f32) (main_arg2 : FVec F S8192x1024 .f32) : IVec S8192x5632 1 × IVec S2816x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Swiglu.lean ====
abbrev S8192x5632 : Shape := ⟨2, ![8192, 5632]⟩
abbrev S2816x1024 : Shape := ⟨2, ![2816, 1024]⟩
abbrev S8192x1024 : Shape := ⟨2, ![8192, 1024]⟩
abbrev S8192x2x2x1408 : Shape := ⟨4, ![8192, 2, 2, 1408]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x2x2x1408, .f32⟩
  | .hbm, ⟨5, _⟩ => ⟨S8192x2x2x1408, .f32⟩
  | .hbm, ⟨6, _⟩ => ⟨S8192x5632, .f32⟩
  | .hbm, ⟨7, _⟩ => ⟨S8192x5632, .bf16⟩
  | .hbm, ⟨8, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S8192x2x2x1408 : Shape := ⟨4, ![8192, 2, 2, 1408]⟩

abbrev nBuf : Space → Nat
  | .hbm => 32
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x5632, .f32⟩
  | .hbm, ⟨28, _⟩ => ⟨S8192x2x2x1408, .f32⟩
  | .hbm, ⟨29, _⟩ => ⟨S8192x2x2x1408, .f32⟩
  | .hbm, ⟨30, _⟩ => ⟨S8192x5632, .f32⟩
  | .hbm, ⟨31, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== FoxBwd.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S8192x512 : Shape := ⟨2, ![8192, 512]⟩
abbrev S8192x1536 : Shape := ⟨2, ![8192, 1536]⟩
abbrev S_ : Shape := ⟨0, ![]⟩
abbrev S1x8x8192 : Shape := ⟨3, ![1, 8, 8192]⟩
abbrev S1x8x8192x8192 : Shape := ⟨4, ![1, 8, 8192, 8192]⟩
abbrev S1x8x8192x1 : Shape := ⟨4, ![1, 8, 8192, 1]⟩
abbrev S1x8x1x8192 : Shape := ⟨4, ![1, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S8x16x512 : Shape := ⟨3, ![8, 16, 512]⟩
abbrev S8x16x128 : Shape := ⟨3, ![8, 16, 128]⟩
abbrev S8x16 : Shape := ⟨2, ![8, 16]⟩
abbrev S8x16x1 : Shape := ⟨3, ![8, 16, 1]⟩
abbrev S8x8192x1 : Shape := ⟨3, ![8, 8192, 1]⟩
abbrev S4x2x8192 : Shape := ⟨3, ![4, 2, 8192]⟩
abbrev S8x8192x128 : Shape := ⟨3, ![8, 8192, 128]⟩
abbrev S512x128 : Shape := ⟨2, ![512, 128]⟩
abbrev S8192x128 : Shape := ⟨2, ![8192, 128]⟩
abbrev S1x2x8192 : Shape := ⟨3, ![1, 2, 8192]⟩
abbrev S2x512x128 : Shape := ⟨3, ![2, 512, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S1x1x512 : Shape := ⟨3, ![1, 1, 512]⟩
abbrev S1x512 : Shape := ⟨2, ![1, 512]⟩

abbrev nBuf : Space → Nat
  | .hbm => 86
  | .vmem => 22
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8, .f32⟩
  | .hbm, ⟨4, _⟩ => ⟨S1x8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x1536, .f32⟩
  | .hbm, ⟨9, _⟩ => ⟨S8192x1536, .bf16⟩
  | .hbm, ⟨10, _⟩ => ⟨S1x8192x8, .f32⟩
  | .hbm, ⟨11, _⟩ => ⟨S_, .f32⟩
  | .hbm, ⟨12, _⟩ => ⟨S1x8192x8, .f32⟩
  | .hbm, ⟨13, _⟩ => ⟨S1x8192x8, .f32⟩
  | .hbm, ⟨14, _⟩ => ⟨S1x8192x8, .f32⟩
  | .hbm, ⟨15, _⟩ => ⟨S1x8192x8, .f32⟩
  | .hbm, ⟨16, _⟩ => ⟨S1x8192x8, .i1⟩
  | .hbm, ⟨17, _⟩ => ⟨S1x8192x8, .f32⟩
  | .hbm, ⟨18, _⟩ => ⟨S1x8192x8, .f32⟩
  | .hbm, ⟨19, _⟩ => ⟨S1x8192x8, .f32⟩
  | .hbm, ⟨20, _⟩ => ⟨S1x8192x8, .f32⟩
  | .hbm, ⟨21, _⟩ => ⟨S1x8192x8, .f32⟩
  | .hbm, ⟨22, _⟩ => ⟨S1x8192x8, .f32⟩
  | .hbm, ⟨23, _⟩ => ⟨S1x8192x8, .f32⟩
  | .hbm, ⟨24, _⟩ => ⟨S1x8192x8, .f32⟩
  | .hbm, ⟨25, _⟩ => ⟨S1x8192x8, .f32⟩
  | .hbm, ⟨26, _⟩ => ⟨S_, .f32⟩
  | .hbm, ⟨27, _⟩ => ⟨S_, .f32⟩
  | .hbm, ⟨28, _⟩ => ⟨S1x8192x8, .f32⟩
  | .hbm, ⟨29, _⟩ => ⟨S1x8x8192, .f32⟩
  | .hbm, ⟨30, _⟩ => ⟨S1x8x8192x8192, .f32⟩
  | .hbm, ⟨31, _⟩ => ⟨S_, .f32⟩
  | .hbm, ⟨32, _⟩ => ⟨S1x8x8192x8192, .f32⟩
  | .hbm, ⟨33, _⟩ => ⟨S1x8x8192x8192, .f32⟩
  | .hbm, ⟨34, _⟩ => ⟨S1x8x8192x1, .f32⟩
  | .hbm, ⟨35, _⟩ => ⟨S1x8x8192x8192, .f32⟩
  | .hbm, ⟨36, _⟩ => ⟨S1x8x8192x8192, .f32⟩
  | .hbm, ⟨37, _⟩ => ⟨S1x8x1x8192, .f32⟩
  | .hbm, ⟨38, _⟩ => ⟨S1x8x8192x8192, .f32⟩
  | .hbm, ⟨39, _⟩ => ⟨S1x8x8192x8192, .f32⟩
  | .hbm, ⟨40, _⟩ => ⟨S8192, .i32⟩
  | .hbm, ⟨41, _⟩ => ⟨S1x8192, .i32⟩
  | .hbm, ⟨42, _⟩ => ⟨S8192x1, .i32⟩
  | .hbm, ⟨43, _⟩ => ⟨S8192x8192, .i32⟩
  | .hbm, ⟨44, _⟩ => ⟨S8192x8192, .i32⟩
  | .hbm, ⟨45, _⟩ => ⟨S8192x8192, .i1⟩
  | .hbm, ⟨46, _⟩ => ⟨S_, .f32⟩
  | .hbm, ⟨47, _⟩ => ⟨S_, .f32⟩
  | .hbm, ⟨48, _⟩ => ⟨S1x8x8192x8192, .i1⟩
  | .hbm, ⟨49, _⟩ => ⟨S1x8x8192x8192, .f32⟩
  | .hbm, ⟨50, _⟩ => ⟨S1x8x8192x8192, .f32⟩
  | .hbm, ⟨51, _⟩ => ⟨S_, .f32⟩
  | .hbm, ⟨52, _⟩ => ⟨S1x8x8192, .f32⟩
  | .hbm, ⟨53, _⟩ => ⟨S1x8x8192x1, .f32⟩
  | .hbm, ⟨54, _⟩ => ⟨S1x8x8192x8192, .f32⟩
  | .hbm, ⟨55, _⟩ => ⟨S1x8x8192x8192, .f32⟩
  | .hbm, ⟨56, _⟩ => ⟨S1x8x8192x8192, .f32⟩
  | .hbm, ⟨57, _⟩ => ⟨S_, .f32⟩
  | .hbm, ⟨58, _⟩ => ⟨S1x8x8192, .f32⟩
  | .hbm, ⟨59, _⟩ => ⟨S1x8x8192x1, .f32⟩
  | .hbm, ⟨60, _⟩ => ⟨S1x8x8192x8192, .f32⟩
  | .hbm, ⟨61, _⟩ => ⟨S1x8x8192x8192, .f32⟩
  | .hbm, ⟨62, _⟩ => ⟨S1x8x64x8192, .f32⟩
  | .hbm, ⟨63, _⟩ => ⟨S1x8192x8x64, .f32⟩
  | .hbm, ⟨64, _⟩ => ⟨S8192x512, .f32⟩
  | .hbm, ⟨65, _⟩ => ⟨S8x16x512, .f32⟩
  | .hbm, ⟨66, _⟩ => ⟨S8x16x128, .f32⟩
  | .hbm, ⟨67, _⟩ => ⟨S_, .f32⟩
  | .hbm, ⟨68, _⟩ => ⟨S8x16, .f32⟩
  | .hbm, ⟨69, _⟩ => ⟨S8x16x1, .f32⟩
  | .hbm, ⟨70, _⟩ => ⟨S8x16x512, .f32⟩
  | .hbm, ⟨71, _⟩ => ⟨S8x8192x1, .f32⟩
  | .hbm, ⟨72, _⟩ => ⟨S1x8x8192x1, .f32⟩
  | .hbm, ⟨73, _⟩ => ⟨S1x8x8192x1, .f32⟩
  | .hbm, ⟨74, _⟩ => ⟨S8x8192x1, .f32⟩
  | .hbm, ⟨75, _⟩ => ⟨S8x8192x1, .f32⟩
  | .hbm, ⟨76, _⟩ => ⟨S8x8192x1, .f32⟩
  | .hbm, ⟨77, _⟩ => ⟨S8x8192x1, .f32⟩
  | .hbm, ⟨78, _⟩ => ⟨S4x2x8192, .f32⟩
  | .hbm, ⟨79, _⟩ => ⟨S8x8192x128, .f32⟩
  | .hbm, ⟨80, _⟩ => ⟨S8192x512, .bf16⟩
  | .hbm, ⟨81, _⟩ => ⟨S8192x512, .f32⟩
  | .hbm, ⟨82, _⟩ => ⟨S8192x512, .bf16⟩
  | .hbm, ⟨83, _⟩ => ⟨S8192x512, .f32⟩
  | .hbm, ⟨84, _⟩ => ⟨S8192x512, .f32⟩
  | .hbm, ⟨85, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x2x8192, .f32⟩
  | .local _ .vmem, ⟨7, _⟩ => ⟨S1x2x8192, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S2x512x128, .f32⟩
  | .local _ .vmem, ⟨13, _⟩ => ⟨S2x512x128, .f32⟩
  | .local _ .vmem, ⟨14, _⟩ => ⟨S512x128, .bf16⟩
  | .local _ .vmem, ⟨15, _⟩ => ⟨S512x128, .bf16⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v5 : Ref sig .tc := ⟨.hbm, 25, rfl⟩
abbrev main_call1_call0_cst : Ref sig .tc := ⟨.hbm, 26, rfl⟩
abbrev main_call1_call0_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52_0 : Ref sig .tc := ⟨.hbm, 82, rfl⟩
abbrev main_v52_1 : Ref sig .tc := ⟨.hbm, 83, rfl⟩
abbrev main_v52_2 : Ref sig .tc := ⟨.hbm, 84, rfl⟩
abbrev main_v52_3 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
@[reducible] def k0_t1_loop (i : grid0.Coords) : Scf.Loop 32 :=
  let c0_i32_23 : BitVec 32 := 0#32
  let arg1 : BitVec 32 := BitVec.ofNat 32 (i 1).val
  let v54 : BitVec 32 := Scalar.subi arg1 c0_i32_23
  let c1_i32 : BitVec 32 := 1#32
  let v56 : BitVec 32 := Scalar.divsi v54 c1_i32
  let v57 : BitVec 32 := Scalar.muli v56 c1_i32
  let v58 : BitVec 32 := Scalar.addi c0_i32_23 v57
  let c1_i32_24 : BitVec 32 := 1#32
  ⟨c0_i32_23, v58, c1_i32_24⟩
def k0_mult2 (i : grid0.Coords) (k0_t1 : Fin (k0_t1_loop i).trips) : BitVec 32 :=
  let c0_i32_23 : BitVec 32 := 0#32
  let c1_i32_24 : BitVec 32 := 1#32
  let arg13 : BitVec 32 := Scf.iv c0_i32_23 c1_i32_24 k0_t1
  let c512_i32_66 : BitVec 32 := 512#32
  let v168 : BitVec 32 := Scalar.muli arg13 c512_i32_66
  v168
def k0_off1 (i : grid0.Coords) (k0_t1 : Fin (k0_t1_loop i).trips) : Fin 2 → Nat :=
  let c0_i32_23 : BitVec 32 := 0#32
  let c1_i32_24 : BitVec 32 := 1#32
  let arg13 : BitVec 32 := Scf.iv c0_i32_23 c1_i32_24 k0_t1
  let c512_i32_66 : BitVec 32 := 512#32
  let v168 : BitVec 32 := Scalar.muli arg13 c512_i32_66
  let v169 : BitVec 32 := v168
  let v170 : Index := Scalar.indexCast v169
  let c0_67 : Index := 0#32
  ![v170.toNat, 0]
def k0_off2 (i : grid0.Coords) : Fin 3 → Nat :=
  let c0_70 : Index := 0#32
  let c0_71 : Index := 0#32
  let arg1 : BitVec 32 := BitVec.ofNat 32 (i 1).val
  let c512_i32 : BitVec 32 := 512#32
  let v0 : BitVec 32 := Scalar.muli arg1 c512_i32
  let v1 : BitVec 32 := v0
  let v177 : Index := Scalar.indexCast v1
  ![0, 0, v177.toNat]
def k0_off3 (i : grid0.Coords) (k0_t1 : Fin (k0_t1_loop i).trips) : Fin 3 → Nat :=
  let c0_73 : Index := 0#32
  let c0_74 : Index := 0#32
  let c0_i32_23 : BitVec 32 := 0#32
  let c1_i32_24 : BitVec 32 := 1#32
  let arg13 : BitVec 32 := Scf.iv c0_i32_23 c1_i32_24 k0_t1
  let c512_i32_66 : BitVec 32 := 512#32
  let v168 : BitVec 32 := Scalar.muli arg13 c512_i32_66
  let v169 : BitVec 32 := v168
  let v182 : Index := Scalar.indexCast v169
  ![0, 0, v182.toNat]
def k0_off4 (i : grid0.Coords) : Fin 3 → Nat :=
  let c0_82 : Index := 0#32
  let c1_83 : Index := 1#32
  let arg1 : BitVec 32 := BitVec.ofNat 32 (i 1).val
  let c512_i32 : BitVec 32 := 512#32
  let v0 : BitVec 32 := Scalar.muli arg1 c512_i32
  let v1 : BitVec 32 := v0
  let v207 : Index := Scalar.indexCast v1
  ![0, 1, v207.toNat]
def k0_off5 (i : grid0.Coords) (k0_t1 : Fin (k0_t1_loop i).trips) : Fin 3 → Nat :=
  let c0_85 : Index := 0#32
  let c1_86 : Index := 1#32
  let c0_i32_23 : BitVec 32 := 0#32
  let c1_i32_24 : BitVec 32 := 1#32
  let arg13 : BitVec 32 := Scf.iv c0_i32_23 c1_i32_24 k0_t1
  let c512_i32_66 : BitVec 32 := 512#32
  let v168 : BitVec 32 := Scalar.muli arg13 c512_i32_66
  let v169 : BitVec 32 := v168
  let v212 : Index := Scalar.indexCast v169
  ![0, 1, v212.toNat]
@[reducible] def k0_t2_loop (i : grid0.Coords) : Scf.Loop 32 :=
  let c0_i32_23 : BitVec 32 := 0#32
  let arg1 : BitVec 32 := BitVec.ofNat 32 (i 1).val
  let v54 : BitVec 32 := Scalar.subi arg1 c0_i32_23
  let c1_i32 : BitVec 32 := 1#32
  let v56 : BitVec 32 := Scalar.divsi v54 c1_i32
  let v57 : BitVec 32 := Scalar.muli v56 c1_i32
  let v58 : BitVec 32 := Scalar.addi c0_i32_23 v57
  let v55 : BitVec 32 := Scalar.addi c0_i32_23 v54
  let c1_i32_25 : BitVec 32 := 1#32
  ⟨v58, v55, c1_i32_25⟩
def k0_mult3 (i : grid0.Coords) (k0_t2 : Fin (k0_t2_loop i).trips) : BitVec 32 :=
  let c0_i32_23 : BitVec 32 := 0#32
  let arg1 : BitVec 32 := BitVec.ofNat 32 (i 1).val
  let v54 : BitVec 32 := Scalar.subi arg1 c0_i32_23
  let c1_i32 : BitVec 32 := 1#32
  let v56 : BitVec 32 := Scalar.divsi v54 c1_i32
  let v57 : BitVec 32 := Scalar.muli v56 c1_i32
  let v58 : BitVec 32 := Scalar.addi c0_i32_23 v57
  let c1_i32_25 : BitVec 32 := 1#32
  let arg13 : BitVec 32 := Scf.iv v58 c1_i32_25 k0_t2
  let c512_i32_66 : BitVec 32 := 512#32
  let v168 : BitVec 32 := Scalar.muli arg13 c512_i32_66
  v168
def k0_off6 (i : grid0.Coords) (k0_t2 : Fin (k0_t2_loop i).trips) : Fin 2 → Nat :=
  let c0_i32_23 : BitVec 32 := 0#32
  let arg1 : BitVec 32 := BitVec.ofNat 32 (i 1).val
  let v54 : BitVec 32 := Scalar.subi arg1 c0_i32_23
  let c1_i32 : BitVec 32 := 1#32
  let v56 : BitVec 32 := Scalar.divsi v54 c1_i32
  let v57 : BitVec 32 := Scalar.muli v56 c1_i32
  let v58 : BitVec 32 := Scalar.addi c0_i32_23 v57
  let c1_i32_25 : BitVec 32 := 1#32
  let arg13 : BitVec 32 := Scf.iv v58 c1_i32_25 k0_t2
  let c512_i32_66 : BitVec 32 := 512#32
  let v168 : BitVec 32 := Scalar.muli arg13 c512_i32_66
  let v169 : BitVec 32 := v168
  let v170 : Index := Scalar.indexCast v169
  let c0_67 : Index := 0#32
  ![v170.toNat, 0]
def k0_off7 (i : grid0.Coords) : Fin 3 → Nat :=
  let c0_70 : Index := 0#32
  let c0_71 : Index := 0#32
  let arg1 : BitVec 32 := BitVec.ofNat 32 (i 1).val
  let c512_i32 : BitVec 32 := 512#32
  let v0 : BitVec 32 := Scalar.muli arg1 c512_i32
  let v1 : BitVec 32 := v0
  let v177 : Index := Scalar.indexCast v1
  ![0, 0, v177.toNat]
def k0_off8 (i : grid0.Coords) (k0_t2 : Fin (k0_t2_loop i).trips) : Fin 3 → Nat :=
  let c0_73 : Index := 0#32
  let c0_74 : Index := 0#32
  let c0_i32_23 : BitVec 32 := 0#32
  let arg1 : BitVec 32 := BitVec.ofNat 32 (i 1).val
  let v54 : BitVec 32 := Scalar.subi arg1 c0_i32_23
  let c1_i32 : BitVec 32 := 1#32
  let v56 : BitVec 32 := Scalar.divsi v54 c1_i32
  let v57 : BitVec 32 := Scalar.muli v56 c1_i32
  let v58 : BitVec 32 := Scalar.addi c0_i32_23 v57
  let c1_i32_25 : BitVec 32 := 1#32
  let arg13 : BitVec 32 := Scf.iv v58 c1_i32_25 k0_t2
  let c512_i32_66 : BitVec 32 := 512#32
  let v168 : BitVec 32 := Scalar.muli arg13 c512_i32_66
  let v169 : BitVec 32 := v168
  let v182 : Index := Scalar.indexCast v169
  ![0, 0, v182.toNat]
def k0_off9 (i : grid0.Coords) : Fin 3 → Nat :=
  let c0_82 : Index := 0#32
  let c1_83 : Index := 1#32
  let arg1 : BitVec 32 := BitVec.ofNat 32 (i 1).val
  let c512_i32 : BitVec 32 := 512#32
  let v0 : BitVec 32 := Scalar.muli arg1 c512_i32
  let v1 : BitVec 32 := v0
  let v207 : Index := Scalar.indexCast v1
  ![0, 1, v207.toNat]
def k0_off10 (i : grid0.Coords) (k0_t2 : Fin (k0_t2_loop i).trips) : Fin 3 → Nat :=
  let c0_85 : Index := 0#32
  let c1_86 : Index := 1#32
  let c0_i32_23 : BitVec 32 := 0#32
  let arg1 : BitVec 32 := BitVec.ofNat 32 (i 1).val
  let v54 : BitVec 32 := Scalar.subi arg1 c0_i32_23
  let c1_i32 : BitVec 32 := 1#32
  let v56 : BitVec 32 := Scalar.divsi v54 c1_i32
  let v57 : BitVec 32 := Scalar.muli v56 c1_i32
  let v58 : BitVec 32 := Scalar.addi c0_i32_23 v57
  let c1_i32_25 : BitVec 32 := 1#32
  let arg13 : BitVec 32 := Scf.iv v58 c1_i32_25 k0_t2
  let c512_i32_66 : BitVec 32 := 512#32
  let v168 : BitVec 32 := Scalar.muli arg13 c512_i32_66
  let v169 : BitVec 32 := v168
  let v212 : Index := Scalar.indexCast v169
  ![0, 1, v212.toNat]
def k0_mult4 (i : grid0.Coords) : BitVec 32 :=
  let arg1 : BitVec 32 := BitVec.ofNat 32 (i 1).val
  let c512_i32_26 : BitVec 32 := 512#32
  let v61 : BitVec 32 := Scalar.muli arg1 c512_i32_26
  v61
def k0_off11 (i : grid0.Coords) : Fin 2 → Nat :=
  let arg1 : BitVec 32 := BitVec.ofNat 32 (i 1).val
  let c512_i32_26 : BitVec 32 := 512#32
  let v61 : BitVec 32 := Scalar.muli arg1 c512_i32_26
  let v62 : BitVec 32 := v61
  let v63 : Index := Scalar.indexCast v62
  let c0_27 : Index := 0#32
  ![v63.toNat, 0]
def k0_off12 (i : grid0.Coords) : Fin 3 → Nat :=
  let c0_30 : Index := 0#32
  let c0_31 : Index := 0#32
  let arg1 : BitVec 32 := BitVec.ofNat 32 (i 1).val
  let c512_i32 : BitVec 32 := 512#32
  let v0 : BitVec 32 := Scalar.muli arg1 c512_i32
  let v1 : BitVec 32 := v0
  let v70 : Index := Scalar.indexCast v1
  ![0, 0, v70.toNat]
def k0_off13 (i : grid0.Coords) : Fin 3 → Nat :=
  let c0_33 : Index := 0#32
  let c0_34 : Index := 0#32
  let arg1 : BitVec 32 := BitVec.ofNat 32 (i 1).val
  let c512_i32_26 : BitVec 32 := 512#32
  let v61 : BitVec 32 := Scalar.muli arg1 c512_i32_26
  let v62 : BitVec 32 := v61
  let v75 : Index := Scalar.indexCast v62
  ![0, 0, v75.toNat]
def k0_off14 (i : grid0.Coords) : Fin 3 → Nat :=
  let c0_43 : Index := 0#32
  let c1_44 : Index := 1#32
  let arg1 : BitVec 32 := BitVec.ofNat 32 (i 1).val
  let c512_i32 : BitVec 32 := 512#32
  let v0 : BitVec 32 := Scalar.muli arg1 c512_i32
  let v1 : BitVec 32 := v0
  let v103 : Index := Scalar.indexCast v1
  ![0, 1, v103.toNat]
def k0_off15 (i : grid0.Coords) : Fin 3 → Nat :=
  let c0_46 : Index := 0#32
  let c1_47 : Index := 1#32
  let arg1 : BitVec 32 := BitVec.ofNat 32 (i 1).val
  let c512_i32_26 : BitVec 32 := 512#32
  let v61 : BitVec 32 := Scalar.muli arg1 c512_i32_26
  let v62 : BitVec 32 := v61
  let v108 : Index := Scalar.indexCast v62
  ![0, 1, v108.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FoxBwdRefIdeal.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S_ : Shape := ⟨0, ![]⟩
abbrev S1x8x8192 : Shape := ⟨3, ![1, 8, 8192]⟩
abbrev S1x8x8192x8192 : Shape := ⟨4, ![1, 8, 8192, 8192]⟩
abbrev S1x8x8192x1 : Shape := ⟨4, ![1, 8, 8192, 1]⟩
abbrev S1x8x1x8192 : Shape := ⟨4, ![1, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S8x8192 : Shape := ⟨2, ![8, 8192]⟩
abbrev S1x8x8192x64 : Shape := ⟨4, ![1, 8, 8192, 64]⟩
abbrev S4x2x8192 : Shape := ⟨3, ![4, 2, 8192]⟩
abbrev S8192x4x2 : Shape := ⟨3, ![8192, 4, 2]⟩
abbrev S8192x4x2x1 : Shape := ⟨4, ![8192, 4, 2, 1]⟩
abbrev S8192x4x2x64 : Shape := ⟨4, ![8192, 4, 2, 64]⟩
abbrev S8192x512 : Shape := ⟨2, ![8192, 512]⟩

abbrev nBuf : Space → Nat
  | .hbm => 143
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8, .f32⟩
  | 4 => ⟨S1x8192x512, .f32⟩
  | 5 => ⟨S1x8192x8, .f32⟩
  | 6 => ⟨S_, .f32⟩
  | 7 => ⟨S1x8192x8, .f32⟩
  | 8 => ⟨S1x8192x8, .f32⟩
  | 9 => ⟨S1x8192x8, .f32⟩
  | 10 => ⟨S1x8192x8, .f32⟩
  | 11 => ⟨S1x8192x8, .i1⟩
  | 12 => ⟨S1x8192x8, .f32⟩
  | 13 => ⟨S1x8192x8, .f32⟩
  | 14 => ⟨S1x8192x8, .f32⟩
  | 15 => ⟨S1x8192x8, .f32⟩
  | 16 => ⟨S1x8192x8, .f32⟩
  | 17 => ⟨S1x8192x8, .f32⟩
  | 18 => ⟨S1x8192x8, .f32⟩
  | 19 => ⟨S1x8192x8, .f32⟩
  | 20 => ⟨S1x8192x8, .f32⟩
  | 21 => ⟨S_, .f32⟩
  | 22 => ⟨S_, .f32⟩
  | 23 => ⟨S1x8192x8, .f32⟩
  | 24 => ⟨S1x8x8192, .f32⟩
  | 25 => ⟨S1x8x8192x8192, .f32⟩
  | 26 => ⟨S_, .f32⟩
  | 27 => ⟨S1x8x8192x8192, .f32⟩
  | 28 => ⟨S1x8x8192x8192, .f32⟩
  | 29 => ⟨S1x8x8192x1, .f32⟩
  | 30 => ⟨S1x8x8192x8192, .f32⟩
  | 31 => ⟨S1x8x8192x8192, .f32⟩
  | 32 => ⟨S1x8x1x8192, .f32⟩
  | 33 => ⟨S1x8x8192x8192, .f32⟩
  | 34 => ⟨S1x8x8192x8192, .f32⟩
  | 35 => ⟨S8192, .i32⟩
  | 36 => ⟨S1x8192, .i32⟩
  | 37 => ⟨S8192x1, .i32⟩
  | 38 => ⟨S8192x8192, .i32⟩
  | 39 => ⟨S8192x8192, .i32⟩
  | 40 => ⟨S8192x8192, .i1⟩
  | 41 => ⟨S_, .f32⟩
  | 42 => ⟨S_, .f32⟩
  | 43 => ⟨S1x8x8192x8192, .i1⟩
  | 44 => ⟨S1x8x8192x8192, .f32⟩
  | 45 => ⟨S1x8x8192x8192, .f32⟩
  | 46 => ⟨S_, .f32⟩
  | 47 => ⟨S1x8x8192x8192, .f32⟩
  | 48 => ⟨S_, .f32⟩
  | 49 => ⟨S1x8x8192, .f32⟩
  | 50 => ⟨S1x8x8192x1, .f32⟩
  | 51 => ⟨S1x8x8192x8192, .f32⟩
  | 52 => ⟨S1x8x8192x8192, .i1⟩
  | 53 => ⟨S1x8x8192x8192, .f32⟩
  | 54 => ⟨S_, .f32⟩
  | 55 => ⟨S1x8x8192, .f32⟩
  | 56 => ⟨S_, .f32⟩
  | 57 => ⟨S1x8x8192, .f32⟩
  | 58 => ⟨S1x8x8192, .f32⟩
  | 59 => ⟨S_, .f32⟩
  | 60 => ⟨S1x8x8192, .f32⟩
  | 61 => ⟨S1x8x8192, .i1⟩
  | 62 => ⟨S_, .f32⟩
  | 63 => ⟨S1x8x8192, .f32⟩
  | 64 => ⟨S1x8x8192, .i1⟩
  | 65 => ⟨S_, .f32⟩
  | 66 => ⟨S1x8x8192, .f32⟩
  | 67 => ⟨S_, .f32⟩
  | 68 => ⟨S1x8x8192, .f32⟩
  | 69 => ⟨S_, .f32⟩
  | 70 => ⟨S1x8x8192, .f32⟩
  | 71 => ⟨S1x8x8192, .f32⟩
  | 72 => ⟨S1x8x8192, .f32⟩
  | 73 => ⟨S1x8x8192x1, .f32⟩
  | 74 => ⟨S1x8x8192x8192, .f32⟩
  | 75 => ⟨S1x8x8192x8192, .f32⟩
  | 76 => ⟨S1x8x8192x8192, .f32⟩
  | 77 => ⟨S_, .f32⟩
  | 78 => ⟨S1x8x8192, .f32⟩
  | 79 => ⟨S1x8x8192x1, .f32⟩
  | 80 => ⟨S1x8x8192x8192, .f32⟩
  | 81 => ⟨S1x8x8192x8192, .f32⟩
  | 82 => ⟨S1x8x8192x1, .f32⟩
  | 83 => ⟨S_, .f32⟩
  | 84 => ⟨S1x8x8192x1, .f32⟩
  | 85 => ⟨S1x8x8192x1, .f32⟩
  | 86 => ⟨S1x8x64x8192, .f32⟩
  | 87 => ⟨S1x8192x8x64, .f32⟩
  | 88 => ⟨S1x8192x512, .f32⟩
  | 89 => ⟨S1x8192x8x64, .f32⟩
  | 90 => ⟨S1x8x64x8192, .f32⟩
  | 91 => ⟨S1x8x8192x8192, .f32⟩
  | 92 => ⟨S1x8x64x8192, .f32⟩
  | 93 => ⟨S1x8192x8x64, .f32⟩
  | 94 => ⟨S1x8x8192x8192, .f32⟩
  | 95 => ⟨S1x8x8192x8192, .f32⟩
  | 96 => ⟨S1x8x8192x8192, .f32⟩
  | 97 => ⟨S_, .f32⟩
  | 98 => ⟨S1x8x8192, .f32⟩
  | 99 => ⟨S1x8x8192x1, .f32⟩
  | 100 => ⟨S1x8x8192x1, .f32⟩
  | 101 => ⟨S1x8x8192x8192, .f32⟩
  | 102 => ⟨S1x8x8192x8192, .f32⟩
  | 103 => ⟨S_, .f32⟩
  | 104 => ⟨S8x8192, .f32⟩
  | 105 => ⟨S1x8x8192, .f32⟩
  | 106 => ⟨S1x8x8192x8192, .f32⟩
  | 107 => ⟨S1x8x8192x8192, .f32⟩
  | 108 => ⟨S1x8x8192x8192, .f32⟩
  | 109 => ⟨S_, .f32⟩
  | 110 => ⟨S1x8x8192x8192, .f32⟩
  | 111 => ⟨S1x8x8192x8192, .f32⟩
  | 112 => ⟨S1x8x8192x8192, .f32⟩
  | 113 => ⟨S_, .f32⟩
  | 114 => ⟨S1x8x8192, .f32⟩
  | 115 => ⟨S1x8x1x8192, .f32⟩
  | 116 => ⟨S_, .f32⟩
  | 117 => ⟨S8x8192, .f32⟩
  | 118 => ⟨S1x8x8192, .f32⟩
  | 119 => ⟨S_, .f32⟩
  | 120 => ⟨S1x8x8192, .f32⟩
  | 121 => ⟨S1x8x8192x1, .f32⟩
  | 122 => ⟨S_, .f32⟩
  | 123 => ⟨S8x8192, .f32⟩
  | 124 => ⟨S1x8x8192, .f32⟩
  | 125 => ⟨S1x8x8192, .f32⟩
  | 126 => ⟨S_, .f32⟩
  | 127 => ⟨S1x8x8192x8192, .f32⟩
  | _ => ⟨S1x8192x8x64, .f32⟩

abbrev hbmTy0_1 (i : Nat) : BufTy := match i % 128 with
  | 0 => ⟨S1x8x8192x8192, .f32⟩
  | 1 => ⟨S1x8x8192x64, .f32⟩
  | 2 => ⟨S1x8192x8x64, .f32⟩
  | 3 => ⟨S1x8x8192x64, .f32⟩
  | 4 => ⟨S1x8192x8x64, .f32⟩
  | 5 => ⟨S4x2x8192, .f32⟩
  | 6 => ⟨S4x2x8192, .f32⟩
  | 7 => ⟨S8192x4x2, .f32⟩
  | 8 => ⟨S8192x4x2x1, .f32⟩
  | 9 => ⟨S8192x4x2x64, .f32⟩
  | 10 => ⟨S8192x512, .f32⟩
  | 11 => ⟨S8192x512, .f32⟩
  | 12 => ⟨S8192x512, .bf16⟩
  | 13 => ⟨S8192x512, .f32⟩
  | 14 => ⟨S8192x512, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_call2_v0 : Ref sig .tc := ⟨.hbm, 42, rfl⟩
abbrev main_v18_1 : Ref sig .tc := ⟨.hbm, 43, rfl⟩
abbrev main_call2_v2 : Ref sig .tc := ⟨.hbm, 44, rfl⟩
abbrev main_v18_0 : Ref sig .tc := ⟨.hbm, 45, rfl⟩
abbrev main_call2_cst : Ref sig .tc := ⟨.hbm, 46, rfl⟩
abbrev main_v18_2 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_cst_4 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_cst_7 : Ref sig .tc := ⟨.hbm, 67, rfl⟩
abbrev main_v32 : Ref sig .tc := ⟨.hbm, 68, rfl⟩
abbrev main_cst_8 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_10 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_11 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_12 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_call3_cst : Ref sig .tc := ⟨.hbm, 109, rfl⟩
abbrev main_call3_v0 : Ref sig .tc := ⟨.hbm, 110, rfl⟩
abbrev main_v68 : Ref sig .tc := ⟨.hbm, 111, rfl⟩
abbrev main_v69 : Ref sig .tc := ⟨.hbm, 112, rfl⟩
abbrev main_cst_13 : Ref sig .tc := ⟨.hbm, 113, rfl⟩
abbrev main_v70 : Ref sig .tc := ⟨.hbm, 114, rfl⟩
abbrev main_v71 : Ref sig .tc := ⟨.hbm, 115, rfl⟩
abbrev main_cst_14 : Ref sig .tc := ⟨.hbm, 116, rfl⟩
abbrev main_v72 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_v75 : Ref sig .tc := ⟨.hbm, 121, rfl⟩
abbrev main_cst_16 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_17 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩

abbrev nD : Nat := 1
abbrev τ : Topo := Topo.v7x

variable {F : FTy → Type} [FloatOps F]
-- ==== MixBwd.lean ====
abbrev S8192x2048 : Shape := ⟨2, ![8192, 2048]⟩
abbrev S8192x1024 : Shape := ⟨2, ![8192, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S1024x1024, .bf16⟩
  | .hbm, ⟨6, _⟩ => ⟨S8192x2048, .bf16⟩
  | .hbm, ⟨7, _⟩ => ⟨S8192x2048, .bf16⟩
  | .hbm, ⟨8, _⟩ => ⟨S8192x1024, .bf16⟩
  | .hbm, ⟨9, _⟩ => ⟨S8192x2048, .bf16⟩
  | .hbm, ⟨10, _⟩ => ⟨S8192x2048, .bf16⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixBwdRefIdeal.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2048, .f32⟩
  | .hbm, ⟨44, _⟩ => ⟨S8192x2048, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x2048, .f32⟩
  | .hbm, ⟨49, _⟩ => ⟨S8192x2048, .bf16⟩
  | .hbm, ⟨50, _⟩ => ⟨S8192x2048, .bf16⟩
  | .hbm, ⟨51, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== GainBwd.lean ====
abbrev S256x1024 : Shape := ⟨2, ![256, 1024]⟩
abbrev S1x1024 : Shape := ⟨2, ![1, 1024]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond3 (i : grid0.Coords) : BitVec 1 :=
  let arg0 : BitVec 32 := BitVec.ofNat 32 (i 0).val
  let c0_i32_9 : BitVec 32 := 0#32
  let v21 : BitVec 1 := Scalar.cmpi .eq arg0 c0_i32_9
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GainBwdRefIdeal.lean ====
abbrev S256x1024 : Shape := ⟨2, ![256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MemBwd.lean ====
abbrev S1x8192x4x128 : Shape := ⟨4, ![1, 8192, 4, 128]⟩
abbrev S1x256x4x128 : Shape := ⟨4, ![1, 256, 4, 128]⟩
abbrev S1x8192x512 : Shape := ⟨3, ![1, 8192, 512]⟩
abbrev S256x512 : Shape := ⟨2, ![256, 512]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S1x8192x4x128, .f32⟩
  | .hbm, ⟨1, _⟩ => ⟨S1x256x4x128, .f32⟩
  | .hbm, ⟨2, _⟩ => ⟨S1x256x4x128, .f32⟩
  | .hbm, ⟨3, _⟩ => ⟨S1x8192x512, .f32⟩
  | .hbm, ⟨4, _⟩ => ⟨S256x512, .f32⟩
  | .hbm, ⟨5, _⟩ => ⟨S256x512, .f32⟩
  | .hbm, ⟨6, _⟩ => ⟨S256x1024, .f32⟩
  | .hbm, ⟨7, _⟩ => ⟨S8192x512, .f32⟩
  | .hbm, ⟨8, _⟩ => ⟨S8192x512, .bf16⟩
  | .hbm, ⟨9, _⟩ => ⟨S256x1024, .bf16⟩
  | .hbm, ⟨10, _⟩ => ⟨S8192x512, .f32⟩
  | .hbm, ⟨11, _⟩ => ⟨S8192x512, .bf16⟩
  | .hbm, ⟨12, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S1x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemBwdRefIdeal.lean ====
abbrev S1x8192x4x128 : Shape := ⟨4, ![1, 8192, 4, 128]⟩
abbrev S1x256x4x128 : Shape := ⟨4, ![1, 256, 4, 128]⟩
abbrev S1x8192x512 : Shape := ⟨3, ![1, 8192, 512]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩
abbrev S8192x512 : Shape := ⟨2, ![8192, 512]⟩
abbrev S256x512 : Shape := ⟨2, ![256, 512]⟩
abbrev S256x1024 : Shape := ⟨2, ![256, 1024]⟩

abbrev nBuf : Space → Nat
  | .hbm => 81
  | .vmem => 0
  | .smem => 0
  | _ => 0

abbrev bufTy : (tb : Table) → Fin (tcTables nBuf tb) → BufTy
  | .hbm, ⟨0, _⟩ => ⟨S1x8192x4x128, .f32⟩
  | .hbm, ⟨1, _⟩ => ⟨S1x256x4x128, .f32⟩
  | .hbm, ⟨2, _⟩ => ⟨S1x256x4x128, .f32⟩
  | .hbm, ⟨3, _⟩ => ⟨S1x8192x512, .f32⟩
  | .hbm, ⟨4, _⟩ => ⟨S1x4x8192x256, .f32⟩
  | .hbm, ⟨5, _⟩ => ⟨S_, .f32⟩
  | .hbm, ⟨6, _⟩ => ⟨S1x4x8192x256, .f32⟩
  | .hbm, ⟨7, _⟩ => ⟨S1x4x8192x256, .f32⟩
  | .hbm, ⟨8, _⟩ => ⟨S_, .f32⟩
  | .hbm, ⟨9, _⟩ => ⟨S1x4x8192, .f32⟩
  | .hbm, ⟨10, _⟩ => ⟨S1x4x8192x1, .f32⟩
  | .hbm, ⟨11, _⟩ => ⟨S1x4x8192x256, .f32⟩
  | .hbm, ⟨12, _⟩ => ⟨S1x4x8192x256, .i1⟩
  | .hbm, ⟨13, _⟩ => ⟨S1x4x8192x256, .f32⟩
  | .hbm, ⟨14, _⟩ => ⟨S_, .f32⟩
  | .hbm, ⟨15, _⟩ => ⟨S1x4x8192, .f32⟩
  | .hbm, ⟨16, _⟩ => ⟨S_, .f32⟩
  | .hbm, ⟨17, _⟩ => ⟨S1x4x8192, .f32⟩
  | .hbm, ⟨18, _⟩ => ⟨S1x4x8192, .f32⟩
  | .hbm, ⟨19, _⟩ => ⟨S_, .f32⟩
  | .hbm, ⟨20, _⟩ => ⟨S1x4x8192, .f32⟩
  | .hbm, ⟨21, _⟩ => ⟨S1x4x8192, .i1⟩
  | .hbm, ⟨22, _⟩ => ⟨S_, .f32⟩
  | .hbm, ⟨23, _⟩ => ⟨S1x4x8192, .f32⟩
  | .hbm, ⟨24, _⟩ => ⟨S1x4x8192, .i1⟩
  | .hbm, ⟨25, _⟩ => ⟨S_, .f32⟩
  | .hbm, ⟨26, _⟩ => ⟨S1x4x8192, .f32⟩
  | .hbm, ⟨27, _⟩ => ⟨S_, .f32⟩
  | .hbm, ⟨28, _⟩ => ⟨S1x4x8192, .f32⟩
  | .hbm, ⟨29, _⟩ => ⟨S_, .f32⟩
  | .hbm, ⟨30, _⟩ => ⟨S1x4x8192, .f32⟩
  | .hbm, ⟨31, _⟩ => ⟨S1x4x8192, .f32⟩
  | .hbm, ⟨32, _⟩ => ⟨S1x4x8192, .f32⟩
  | .hbm, ⟨33, _⟩ => ⟨S1x4x8192x1, .f32⟩
  | .hbm, ⟨34, _⟩ => ⟨S1x4x8192x256, .f32⟩
  | .hbm, ⟨35, _⟩ => ⟨S1x4x8192x256, .f32⟩
  | .hbm, ⟨36, _⟩ => ⟨S1x4x8192x256, .f32⟩
  | .hbm, ⟨37, _⟩ => ⟨S_, .f32⟩
  | .hbm, ⟨38, _⟩ => ⟨S1x4x8192, .f32⟩
  | .hbm, ⟨39, _⟩ => ⟨S1x4x8192x1, .f32⟩
  | .hbm, ⟨40, _⟩ => ⟨S1x4x8192x256, .f32⟩
  | .hbm, ⟨41, _⟩ => ⟨S1x4x8192x256, .f32⟩
  | .hbm, ⟨42, _⟩ => ⟨S1x4x8192x1, .f32⟩
  | .hbm, ⟨43, _⟩ => ⟨S_, .f32⟩
  | .hbm, ⟨44, _⟩ => ⟨S1x4x8192x1, .f32⟩
  | .hbm, ⟨45, _⟩ => ⟨S1x4x8192x1, .f32⟩
  | .hbm, ⟨46, _⟩ => ⟨S1x4x128x8192, .f32⟩
  | .hbm, ⟨47, _⟩ => ⟨S1x8192x4x128, .f32⟩
  | .hbm, ⟨48, _⟩ => ⟨S1x8192x512, .f32⟩
  | .hbm, ⟨49, _⟩ => ⟨S1x8192x4x128, .f32⟩
  | .hbm, ⟨50, _⟩ => ⟨S1x4x128x8192, .f32⟩
  | .hbm, ⟨51, _⟩ => ⟨S1x4x8192x256, .f32⟩
  | .hbm, ⟨52, _⟩ => ⟨S1x4x128x256, .f32⟩
  | .hbm, ⟨53, _⟩ => ⟨S1x256x4x128, .f32⟩
  | .hbm, ⟨54, _⟩ => ⟨S1x4x8192x256, .f32⟩
  | .hbm, ⟨55, _⟩ => ⟨S1x4x8192x256, .f32⟩
  | .hbm, ⟨56, _⟩ => ⟨S1x4x8192x256, .f32⟩
  | .hbm, ⟨57, _⟩ => ⟨S_, .f32⟩
  | .hbm, ⟨58, _⟩ => ⟨S1x4x8192, .f32⟩
  | .hbm, ⟨59, _⟩ => ⟨S1x4x8192x1, .f32⟩
  | .hbm, ⟨60, _⟩ => ⟨S1x4x8192x1, .f32⟩
  | .hbm, ⟨61, _⟩ => ⟨S1x4x8192x256, .f32⟩
  | .hbm, ⟨62, _⟩ => ⟨S1x4x8192x256, .f32⟩
  | .hbm, ⟨63, _⟩ => ⟨S_, .f32⟩
  | .hbm, ⟨64, _⟩ => ⟨S4x8192, .f32⟩
  | .hbm, ⟨65, _⟩ => ⟨S1x4x8192, .f32⟩
  | .hbm, ⟨66, _⟩ => ⟨S1x4x8192x256, .f32⟩
  | .hbm, ⟨67, _⟩ => ⟨S1x4x8192x256, .f32⟩
  | .hbm, ⟨68, _⟩ => ⟨S1x4x8192x256, .f32⟩
  | .hbm, ⟨69, _⟩ => ⟨S_, .f32⟩
  | .hbm, ⟨70, _⟩ => ⟨S1x4x8192x256, .f32⟩
  | .hbm, ⟨71, _⟩ => ⟨S1x4x8192x256, .f32⟩
  | .hbm, ⟨72, _⟩ => ⟨S1x4x256x128, .f32⟩
  | .hbm, ⟨73, _⟩ => ⟨S1x256x4x128, .f32⟩
  | .hbm, ⟨74, _⟩ => ⟨S1x4x8192x128, .f32⟩
  | .hbm, ⟨75, _⟩ => ⟨S1x8192x4x128, .f32⟩
  | .hbm, ⟨76, _⟩ => ⟨S8192x512, .f32⟩
  | .hbm, ⟨77, _⟩ => ⟨S8192x512, .bf16⟩
  | .hbm, ⟨78, _⟩ => ⟨S256x512, .f32⟩
  | .hbm, ⟨79, _⟩ => ⟨S256x512, .f32⟩
  | .hbm, ⟨80, _⟩ => ⟨S256x1024, .f32⟩
  | _, _ => ⟨S1x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== FoxFwd.lean ====
abbrev S1x8192x8x64 : Shape := ⟨4, ![1, 8192, 8, 64]⟩
abbrev S1x8192x8 : Shape := ⟨3, ![1, 8192, 8]⟩
abbrev S8192x512 : Shape := ⟨2, ![8192, 512]⟩
abbrev S8192x1536 : Shape := ⟨2, ![8192, 1536]⟩
abbrev S_ : Shape := ⟨0, ![]⟩
abbrev S1x8x8192 : Shape := ⟨3, ![1, 8, 8192]⟩
abbrev S4x2x8192 : Shape := ⟨3, ![4, 2, 8192]⟩
abbrev S8x8192x128 : Shape := ⟨3, ![8, 8192, 128]⟩
abbrev S512x128 : Shape := ⟨2, ![512, 128]⟩
abbrev S8192x128 : Shape := ⟨2, ![8192, 128]⟩
abbrev S1x2x8192 : Shape := ⟨3, ![1, 2, 8192]⟩
abbrev S2x512x128 : Shape := ⟨3, ![2, 512, 128]⟩
abbrev S512x512 : Shape := ⟨2, ![512, 512]⟩
abbrev S512x1 : Shape := ⟨2, ![512, 1]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S1x1x512 : Shape := ⟨3, ![1, 1, 512]⟩
abbrev S1x512 : Shape := ⟨2, ![1, 512]⟩
abbrev S512 : Shape := ⟨1, ![512]⟩
abbrev S1x512x128 : Shape := ⟨3, ![1, 512, 128]⟩

abbrev nBuf : Space → Nat
  | .hbm => 32
  | .vmem => 12
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x1536, .f32⟩
  | .hbm, ⟨8, _⟩ => ⟨S8192x1536, .bf16⟩
  | .hbm, ⟨9, _⟩ => ⟨S1x8192x8, .f32⟩
  | .hbm, ⟨10, _⟩ => ⟨S_, .f32⟩
  | .hbm, ⟨11, _⟩ => ⟨S1x8192x8, .f32⟩
  | .hbm, ⟨12, _⟩ => ⟨S1x8192x8, .f32⟩
  | .hbm, ⟨13, _⟩ => ⟨S1x8192x8, .f32⟩
  | .hbm, ⟨14, _⟩ => ⟨S1x8192x8, .f32⟩
  | .hbm, ⟨15, _⟩ => ⟨S1x8192x8, .i1⟩
  | .hbm, ⟨16, _⟩ => ⟨S1x8192x8, .f32⟩
  | .hbm, ⟨17, _⟩ => ⟨S1x8192x8, .f32⟩
  | .hbm, ⟨18, _⟩ => ⟨S1x8192x8, .f32⟩
  | .hbm, ⟨19, _⟩ => ⟨S1x8192x8, .f32⟩
  | .hbm, ⟨20, _⟩ => ⟨S1x8192x8, .f32⟩
  | .hbm, ⟨21, _⟩ => ⟨S1x8192x8, .f32⟩
  | .hbm, ⟨22, _⟩ => ⟨S1x8192x8, .f32⟩
  | .hbm, ⟨23, _⟩ => ⟨S1x8192x8, .f32⟩
  | .hbm, ⟨24, _⟩ => ⟨S1x8192x8, .f32⟩
  | .hbm, ⟨25, _⟩ => ⟨S_, .f32⟩
  | .hbm, ⟨26, _⟩ => ⟨S_, .f32⟩
  | .hbm, ⟨27, _⟩ => ⟨S1x8192x8, .f32⟩
  | .hbm, ⟨28, _⟩ => ⟨S1x8x8192, .f32⟩
  | .hbm, ⟨29, _⟩ => ⟨S4x2x8192, .f32⟩
  | .hbm, ⟨30, _⟩ => ⟨S8192x512, .bf16⟩
  | .hbm, ⟨31, _⟩ => ⟨S8x8192x128, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x2x8192, .f32⟩
  | .local _ .vmem, ⟨7, _⟩ => ⟨S1x2x8192, .f32⟩
  | .local _ .vmem, ⟨8, _⟩ => ⟨S512x128, .bf16⟩
  | .local _ .vmem, ⟨9, _⟩ => ⟨S512x128, .bf16⟩
  | .local _ .vmem, ⟨10, _⟩ => ⟨S2x512x128, .f32⟩
  | .local _ .vmem, ⟨11, _⟩ => ⟨S2x512x128, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v5 : Ref sig .tc := ⟨.hbm, 24, rfl⟩
abbrev main_call1_call0_cst : Ref sig .tc := ⟨.hbm, 25, rfl⟩
abbrev main_call1_call0_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
@[reducible] def k0_t1_loop (i : grid0.Coords) : Scf.Loop 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_7 : BitVec 32 := 1#32
  ⟨c0_i32, v26, c1_i32_7⟩
def k0_mult2 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c512_i32_46 : BitVec 32 := 512#32
  let v135 : BitVec 32 := Scalar.muli arg8 c512_i32_46
  v135
def k0_off1 (i : grid0.Coords) (k0_t1 : Fin (k0_t1_loop i).trips) : Fin 2 → Nat :=
  let c0_i32 : BitVec 32 := 0#32
  let c1_i32_7 : BitVec 32 := 1#32
  let arg8 : BitVec 32 := Scf.iv c0_i32 c1_i32_7 k0_t1
  let c512_i32_46 : BitVec 32 := 512#32
  let v135 : BitVec 32 := Scalar.muli arg8 c512_i32_46
  let v136 : BitVec 32 := v135
  let v137 : Index := Scalar.indexCast v136
  let c0_47 : Index := 0#32
  ![v137.toNat, 0]
def k0_off2 (i : grid0.Coords) : Fin 3 → Nat :=
  let c0_50 : Index := 0#32
  let c0_51 : Index := 0#32
  let arg1 : BitVec 32 := BitVec.ofNat 32 (i 1).val
  let c512_i32 : BitVec 32 := 512#32
  let v0 : BitVec 32 := Scalar.muli arg1 c512_i32
  let v1 : BitVec 32 := v0
  let v144 : Index := Scalar.indexCast v1
  ![0, 0, v144.toNat]
def k0_off3 (i : grid0.Coords) (k0_t1 : Fin (k0_t1_loop i).trips) : Fin 3 → Nat :=
  let c0_53 : Index := 0#32
  let c0_54 : Index := 0#32
  let c0_i32 : BitVec 32 := 0#32
  let c1_i32_7 : BitVec 32 := 1#32
  let arg8 : BitVec 32 := Scf.iv c0_i32 c1_i32_7 k0_t1
  let c512_i32_46 : BitVec 32 := 512#32
  let v135 : BitVec 32 := Scalar.muli arg8 c512_i32_46
  let v136 : BitVec 32 := v135
  let v149 : Index := Scalar.indexCast v136
  ![0, 0, v149.toNat]
def k0_off4 (i : grid0.Coords) : Fin 3 → Nat :=
  let c0_60 : Index := 0#32
  let c1_61 : Index := 1#32
  let arg1 : BitVec 32 := BitVec.ofNat 32 (i 1).val
  let c512_i32 : BitVec 32 := 512#32
  let v0 : BitVec 32 := Scalar.muli arg1 c512_i32
  let v1 : BitVec 32 := v0
  let v175 : Index := Scalar.indexCast v1
  ![0, 1, v175.toNat]
def k0_off5 (i : grid0.Coords) (k0_t1 : Fin (k0_t1_loop i).trips) : Fin 3 → Nat :=
  let c0_63 : Index := 0#32
  let c1_64 : Index := 1#32
  let c0_i32 : BitVec 32 := 0#32
  let c1_i32_7 : BitVec 32 := 1#32
  let arg8 : BitVec 32 := Scf.iv c0_i32 c1_i32_7 k0_t1
  let c512_i32_46 : BitVec 32 := 512#32
  let v135 : BitVec 32 := Scalar.muli arg8 c512_i32_46
  let v136 : BitVec 32 := v135
  let v180 : Index := Scalar.indexCast v136
  ![0, 1, v180.toNat]
@[reducible] def k0_t2_loop (i : grid0.Coords) : Scf.Loop 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let v23 : BitVec 32 := Scalar.addi c0_i32 v22
  let c1_i32_8 : BitVec 32 := 1#32
  ⟨v26, v23, c1_i32_8⟩
def k0_mult3 (i : grid0.Coords) (k0_t2 : Fin (k0_t2_loop i).trips) : BitVec 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  let arg8 : BitVec 32 := Scf.iv v26 c1_i32_8 k0_t2
  let c512_i32_46 : BitVec 32 := 512#32
  let v135 : BitVec 32 := Scalar.muli arg8 c512_i32_46
  v135
def k0_off6 (i : grid0.Coords) (k0_t2 : Fin (k0_t2_loop i).trips) : Fin 2 → Nat :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  let arg8 : BitVec 32 := Scf.iv v26 c1_i32_8 k0_t2
  let c512_i32_46 : BitVec 32 := 512#32
  let v135 : BitVec 32 := Scalar.muli arg8 c512_i32_46
  let v136 : BitVec 32 := v135
  let v137 : Index := Scalar.indexCast v136
  let c0_47 : Index := 0#32
  ![v137.toNat, 0]
def k0_off7 (i : grid0.Coords) : Fin 3 → Nat :=
  let c0_50 : Index := 0#32
  let c0_51 : Index := 0#32
  let arg1 : BitVec 32 := BitVec.ofNat 32 (i 1).val
  let c512_i32 : BitVec 32 := 512#32
  let v0 : BitVec 32 := Scalar.muli arg1 c512_i32
  let v1 : BitVec 32 := v0
  let v144 : Index := Scalar.indexCast v1
  ![0, 0, v144.toNat]
def k0_off8 (i : grid0.Coords) (k0_t2 : Fin (k0_t2_loop i).trips) : Fin 3 → Nat :=
  let c0_53 : Index := 0#32
  let c0_54 : Index := 0#32
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  let arg8 : BitVec 32 := Scf.iv v26 c1_i32_8 k0_t2
  let c512_i32_46 : BitVec 32 := 512#32
  let v135 : BitVec 32 := Scalar.muli arg8 c512_i32_46
  let v136 : BitVec 32 := v135
  let v149 : Index := Scalar.indexCast v136
  ![0, 0, v149.toNat]
def k0_off9 (i : grid0.Coords) : Fin 3 → Nat :=
  let c0_60 : Index := 0#32
  let c1_61 : Index := 1#32
  let arg1 : BitVec 32 := BitVec.ofNat 32 (i 1).val
  let c512_i32 : BitVec 32 := 512#32
  let v0 : BitVec 32 := Scalar.muli arg1 c512_i32
  let v1 : BitVec 32 := v0
  let v175 : Index := Scalar.indexCast v1
  ![0, 1, v175.toNat]
def k0_off10 (i : grid0.Coords) (k0_t2 : Fin (k0_t2_loop i).trips) : Fin 3 → Nat :=
  let c0_63 : Index := 0#32
  let c1_64 : Index := 1#32
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  let arg8 : BitVec 32 := Scf.iv v26 c1_i32_8 k0_t2
  let c512_i32_46 : BitVec 32 := 512#32
  let v135 : BitVec 32 := Scalar.muli arg8 c512_i32_46
  let v136 : BitVec 32 := v135
  let v180 : Index := Scalar.indexCast v136
  ![0, 1, v180.toNat]
def k0_mult4 (i : grid0.Coords) : BitVec 32 :=
  let arg1 : BitVec 32 := BitVec.ofNat 32 (i 1).val
  let c512_i32_9 : BitVec 32 := 512#32
  let v29 : BitVec 32 := Scalar.muli arg1 c512_i32_9
  v29
def k0_off11 (i : grid0.Coords) : Fin 2 → Nat :=
  let arg1 : BitVec 32 := BitVec.ofNat 32 (i 1).val
  let c512_i32_9 : BitVec 32 := 512#32
  let v29 : BitVec 32 := Scalar.muli arg1 c512_i32_9
  let v30 : BitVec 32 := v29
  let v31 : Index := Scalar.indexCast v30
  let c0_10 : Index := 0#32
  ![v31.toNat, 0]
def k0_off12 (i : grid0.Coords) : Fin 3 → Nat :=
  let c0_13 : Index := 0#32
  let c0_14 : Index := 0#32
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  ![0, 0, v38.toNat]
def k0_off13 (i : grid0.Coords) : Fin 3 → Nat :=
  let c0_16 : Index := 0#32
  let c0_17 : Index := 0#32
  let arg1 : BitVec 32 := BitVec.ofNat 32 (i 1).val
  let c512_i32_9 : BitVec 32 := 512#32
  let v29 : BitVec 32 := Scalar.muli arg1 c512_i32_9
  let v30 : BitVec 32 := v29
  let v43 : Index := Scalar.indexCast v30
  ![0, 0, v43.toNat]
def k0_off14 (i : grid0.Coords) : Fin 3 → Nat :=
  let c0_24 : Index := 0#32
  let c1 : Index := 1#32
  let arg1 : BitVec 32 := BitVec.ofNat 32 (i 1).val
  let c512_i32 : BitVec 32 := 512#32
  let v0 : BitVec 32 := Scalar.muli arg1 c512_i32
  let v1 : BitVec 32 := v0
  let v72 : Index := Scalar.indexCast v1
  ![0, 1, v72.toNat]
def k0_off15 (i : grid0.Coords) : Fin 3 → Nat :=
  let c0_26 : Index := 0#32
  let c1_27 : Index := 1#32
  let arg1 : BitVec 32 := BitVec.ofNat 32 (i 1).val
  let c512_i32_9 : BitVec 32 := 512#32
  let v29 : BitVec 32 := Scalar.muli arg1 c512_i32_9
  let v30 : BitVec 32 := v29
  let v77 : Index := Scalar.indexCast v30
  ![0, 1, v77.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxFwdRefIdeal.lean ====
abbrev S1x8192x8x64 : Shape := ⟨4, ![1, 8192, 8, 64]⟩
abbrev S1x8192x8 : Shape := ⟨3, ![1, 8192, 8]⟩
abbrev S_ : Shape := ⟨0, ![]⟩
abbrev S1x8x8192 : Shape := ⟨3, ![1, 8, 8192]⟩
abbrev S1x8x8192x8192 : Shape := ⟨4, ![1, 8, 8192, 8192]⟩
abbrev S1x8x8192x1 : Shape := ⟨4, ![1, 8, 8192, 1]⟩
abbrev S1x8x1x8192 : Shape := ⟨4, ![1, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S8192x512 : Shape := ⟨2, ![8192, 512]⟩
abbrev S8x16x512 : Shape := ⟨3, ![8, 16, 512]⟩
abbrev S8x16x128 : Shape := ⟨3, ![8, 16, 128]⟩
abbrev S8x16 : Shape := ⟨2, ![8, 16]⟩
abbrev S8x16x1 : Shape := ⟨3, ![8, 16, 1]⟩
abbrev S8x8192x1 : Shape := ⟨3, ![8, 8192, 1]⟩
abbrev S8x8192x128 : Shape := ⟨3, ![8, 8192, 128]⟩

abbrev nBuf : Space → Nat
  | .hbm => 84
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8, .f32⟩
  | .hbm, ⟨4, _⟩ => ⟨S1x8192x8, .f32⟩
  | .hbm, ⟨5, _⟩ => ⟨S_, .f32⟩
  | .hbm, ⟨6, _⟩ => ⟨S1x8192x8, .f32⟩
  | .hbm, ⟨7, _⟩ => ⟨S1x8192x8, .f32⟩
  | .hbm, ⟨8, _⟩ => ⟨S1x8192x8, .f32⟩
  | .hbm, ⟨9, _⟩ => ⟨S1x8192x8, .f32⟩
  | .hbm, ⟨10, _⟩ => ⟨S1x8192x8, .i1⟩
  | .hbm, ⟨11, _⟩ => ⟨S1x8192x8, .f32⟩
  | .hbm, ⟨12, _⟩ => ⟨S1x8192x8, .f32⟩
  | .hbm, ⟨13, _⟩ => ⟨S1x8192x8, .f32⟩
  | .hbm, ⟨14, _⟩ => ⟨S1x8192x8, .f32⟩
  | .hbm, ⟨15, _⟩ => ⟨S1x8192x8, .f32⟩
  | .hbm, ⟨16, _⟩ => ⟨S1x8192x8, .f32⟩
  | .hbm, ⟨17, _⟩ => ⟨S1x8192x8, .f32⟩
  | .hbm, ⟨18, _⟩ => ⟨S1x8192x8, .f32⟩
  | .hbm, ⟨19, _⟩ => ⟨S1x8192x8, .f32⟩
  | .hbm, ⟨20, _⟩ => ⟨S_, .f32⟩
  | .hbm, ⟨21, _⟩ => ⟨S_, .f32⟩
  | .hbm, ⟨22, _⟩ => ⟨S1x8192x8, .f32⟩
  | .hbm, ⟨23, _⟩ => ⟨S1x8x8192, .f32⟩
  | .hbm, ⟨24, _⟩ => ⟨S1x8x8192x8192, .f32⟩
  | .hbm, ⟨25, _⟩ => ⟨S_, .f32⟩
  | .hbm, ⟨26, _⟩ => ⟨S1x8x8192x8192, .f32⟩
  | .hbm, ⟨27, _⟩ => ⟨S1x8x8192x8192, .f32⟩
  | .hbm, ⟨28, _⟩ => ⟨S1x8x8192x1, .f32⟩
  | .hbm, ⟨29, _⟩ => ⟨S1x8x8192x8192, .f32⟩
  | .hbm, ⟨30, _⟩ => ⟨S1x8x8192x8192, .f32⟩
  | .hbm, ⟨31, _⟩ => ⟨S1x8x1x8192, .f32⟩
  | .hbm, ⟨32, _⟩ => ⟨S1x8x8192x8192, .f32⟩
  | .hbm, ⟨33, _⟩ => ⟨S1x8x8192x8192, .f32⟩
  | .hbm, ⟨34, _⟩ => ⟨S8192, .i32⟩
  | .hbm, ⟨35, _⟩ => ⟨S1x8192, .i32⟩
  | .hbm, ⟨36, _⟩ => ⟨S8192x1, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S1x8x8192x8192, .i1⟩
  | .hbm, ⟨43, _⟩ => ⟨S1x8x8192x8192, .f32⟩
  | .hbm, ⟨44, _⟩ => ⟨S1x8x8192x8192, .f32⟩
  | .hbm, ⟨45, _⟩ => ⟨S_, .f32⟩
  | .hbm, ⟨46, _⟩ => ⟨S1x8x8192, .f32⟩
  | .hbm, ⟨47, _⟩ => ⟨S_, .f32⟩
  | .hbm, ⟨48, _⟩ => ⟨S1x8x8192, .f32⟩
  | .hbm, ⟨49, _⟩ => ⟨S1x8x8192, .f32⟩
  | .hbm, ⟨50, _⟩ => ⟨S1x8x8192x1, .f32⟩
  | .hbm, ⟨51, _⟩ => ⟨S1x8x8192x8192, .f32⟩
  | .hbm, ⟨52, _⟩ => ⟨S1x8x8192x8192, .f32⟩
  | .hbm, ⟨53, _⟩ => ⟨S1x8x8192x8192, .f32⟩
  | .hbm, ⟨54, _⟩ => ⟨S_, .f32⟩
  | .hbm, ⟨55, _⟩ => ⟨S1x8x8192, .f32⟩
  | .hbm, ⟨56, _⟩ => ⟨S1x8x8192x1, .f32⟩
  | .hbm, ⟨57, _⟩ => ⟨S1x8x8192x8192, .f32⟩
  | .hbm, ⟨58, _⟩ => ⟨S1x8x8192x8192, .f32⟩
  | .hbm, ⟨59, _⟩ => ⟨S1x8x64x8192, .f32⟩
  | .hbm, ⟨60, _⟩ => ⟨S1x8192x8x64, .f32⟩
  | .hbm, ⟨61, _⟩ => ⟨S8192x512, .f32⟩
  | .hbm, ⟨62, _⟩ => ⟨S_, .f32⟩
  | .hbm, ⟨63, _⟩ => ⟨S1x8x8192, .f32⟩
  | .hbm, ⟨64, _⟩ => ⟨S1x8x8192x1, .f32⟩
  | .hbm, ⟨65, _⟩ => ⟨S1x8x8192x8192, .f32⟩
  | .hbm, ⟨66, _⟩ => ⟨S1x8x8192x8192, .f32⟩
  | .hbm, ⟨67, _⟩ => ⟨S1x8x8192x8192, .f32⟩
  | .hbm, ⟨68, _⟩ => ⟨S_, .f32⟩
  | .hbm, ⟨69, _⟩ => ⟨S1x8x8192, .f32⟩
  | .hbm, ⟨70, _⟩ => ⟨S1x8x8192, .f32⟩
  | .hbm, ⟨71, _⟩ => ⟨S1x8x8192, .f32⟩
  | .hbm, ⟨72, _⟩ => ⟨S1x8x8192, .f32⟩
  | .hbm, ⟨73, _⟩ => ⟨S8x16x512, .f32⟩
  | .hbm, ⟨74, _⟩ => ⟨S8x16x512, .f32⟩
  | .hbm, ⟨75, _⟩ => ⟨S8x16x128, .f32⟩
  | .hbm, ⟨76, _⟩ => ⟨S_, .f32⟩
  | .hbm, ⟨77, _⟩ => ⟨S8x16, .f32⟩
  | .hbm, ⟨78, _⟩ => ⟨S8x16x1, .f32⟩
  | .hbm, ⟨79, _⟩ => ⟨S8x16x512, .f32⟩
  | .hbm, ⟨80, _⟩ => ⟨S8x16x512, .f32⟩
  | .hbm, ⟨81, _⟩ => ⟨S8192x512, .bf16⟩
  | .hbm, ⟨82, _⟩ => ⟨S8x8192x1, .f32⟩
  | .hbm, ⟨83, _⟩ => ⟨S8x8192x128, .f32⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_call1_call0_cst : Ref sig .tc := ⟨.hbm, 20, rfl⟩
abbrev main_call1_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_0 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩

abbrev nD : Nat := 1
abbrev τ : Topo := Topo.v7x

variable {F : FTy → Type} [FloatOps F]
-- ==== RmsBwd.lean ====
abbrev S1x8192x1024 : Shape := ⟨3, ![1, 8192, 1024]⟩
abbrev S1x1024 : Shape := ⟨2, ![1, 1024]⟩
abbrev S1x1024x4104 : Shape := ⟨3, ![1, 1024, 4104]⟩
abbrev S1x8192x4104 : Shape := ⟨3, ![1, 8192, 4104]⟩
abbrev S8192x4104 : Shape := ⟨2, ![8192, 4104]⟩
abbrev S8192x2048 : Shape := ⟨2, ![8192, 2048]⟩
abbrev S8192x8 : Shape := ⟨2, ![8192, 8]⟩
abbrev S_ : Shape := ⟨0, ![]⟩
abbrev S8192x120 : Shape := ⟨2, ![8192, 120]⟩
abbrev S8192x4224 : Shape := ⟨2, ![8192, 4224]⟩
abbrev S1024x4104 : Shape := ⟨2, ![1024, 4104]⟩
abbrev S1024x2048 : Shape := ⟨2, ![1024, 2048]⟩
abbrev S1024x8 : Shape := ⟨2, ![1024, 8]⟩
abbrev S1024x120 : Shape := ⟨2, ![1024, 120]⟩
abbrev S1024x4224 : Shape := ⟨2, ![1024, 4224]⟩
abbrev S8192x1024 : Shape := ⟨2, ![8192, 1024]⟩
abbrev S512x4224 : Shape := ⟨2, ![512, 4224]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 25
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x4104, .f32⟩
  | .hbm, ⟨3, _⟩ => ⟨S1x8192x4104, .f32⟩
  | .hbm, ⟨4, _⟩ => ⟨S1x8192x1024, .f32⟩
  | .hbm, ⟨5, _⟩ => ⟨S8192x4104, .f32⟩
  | .hbm, ⟨6, _⟩ => ⟨S8192x2048, .f32⟩
  | .hbm, ⟨7, _⟩ => ⟨S8192x2048, .f32⟩
  | .hbm, ⟨8, _⟩ => ⟨S8192x8, .f32⟩
  | .hbm, ⟨9, _⟩ => ⟨S_, .f32⟩
  | .hbm, ⟨10, _⟩ => ⟨S8192x120, .f32⟩
  | .hbm, ⟨11, _⟩ => ⟨S8192x4224, .f32⟩
  | .hbm, ⟨12, _⟩ => ⟨S8192x4224, .bf16⟩
  | .hbm, ⟨13, _⟩ => ⟨S1024x4104, .f32⟩
  | .hbm, ⟨14, _⟩ => ⟨S1024x2048, .f32⟩
  | .hbm, ⟨15, _⟩ => ⟨S1024x2048, .f32⟩
  | .hbm, ⟨16, _⟩ => ⟨S1024x8, .f32⟩
  | .hbm, ⟨17, _⟩ => ⟨S_, .f32⟩
  | .hbm, ⟨18, _⟩ => ⟨S1024x120, .f32⟩
  | .hbm, ⟨19, _⟩ => ⟨S1024x4224, .f32⟩
  | .hbm, ⟨20, _⟩ => ⟨S1024x4224, .bf16⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .local _ .vmem, ⟨0, _⟩ => ⟨S512x4224, .bf16⟩
  | .local _ .vmem, ⟨1, _⟩ => ⟨S512x4224, .bf16⟩
  | .local _ .vmem, ⟨2, _⟩ => ⟨S1024x4224, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_6 : BitVec 32 := 0#32
  let v11 : BitVec 1 := Scalar.cmpi .eq arg1 c0_i32_6
  let v12 : BitVec 32 := Scalar.extui v11
  let c0_i32_7 : BitVec 32 := 0#32
  let v13 : BitVec 1 := Scalar.cmpi .ne v12 c0_i32_7
  v13

def k0_cond6 (i : grid0.Coords) : BitVec 1 :=
  let arg0 : BitVec 32 := BitVec.ofNat 32 (i 0).val
  let c15_i32 : BitVec 32 := 15#32
  let v53 : BitVec 1 := Scalar.cmpi .eq arg0 c15_i32
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RmsBwdRefIdeal.lean ====
abbrev S1x8192x1024 : Shape := ⟨3, ![1, 8192, 1024]⟩
abbrev S1x1024 : Shape := ⟨2, ![1, 1024]⟩
abbrev S1x1024x4104 : Shape := ⟨3, ![1, 1024, 4104]⟩
abbrev S1x8192x4104 : Shape := ⟨3, ![1, 8192, 4104]⟩
abbrev S_ : Shape := ⟨0, ![]⟩
abbrev S1x8192 : Shape := ⟨2, ![1, 8192]⟩
abbrev S1x8192x1 : Shape := ⟨3, ![1, 8192, 1]⟩
abbrev S1024 : Shape := ⟨1, ![1024]⟩
abbrev S1x1x1024 : Shape := ⟨3, ![1, 1, 1024]⟩
abbrev S1024x4104 : Shape := ⟨2, ![1024, 4104]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x4104, .f32⟩
  | .hbm, ⟨3, _⟩ => ⟨S1x8192x4104, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x4104, .f32⟩
  | .hbm, ⟨27, _⟩ => ⟨S1x8192x4104, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S1x8192x1024, .f32⟩
  | .hbm, ⟨39, _⟩ => ⟨S_, .f32⟩
  | .hbm, ⟨40, _⟩ => ⟨S1x8192, .f32⟩
  | .hbm, ⟨41, _⟩ => ⟨S1x8192x1, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S_, .f32⟩
  | .hbm, ⟨50, _⟩ => ⟨S8192, .f32⟩
  | .hbm, ⟨51, _⟩ => ⟨S1x8192, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== FinalLoss.lean ====
abbrev S1x8192x2816 : Shape := ⟨3, ![1, 8192, 2816]⟩
abbrev S1x2816x1024 : Shape := ⟨3, ![1, 2816, 1024]⟩
abbrev S1x8192x1024 : Shape := ⟨3, ![1, 8192, 1024]⟩
abbrev S1024 : Shape := ⟨1, ![1024]⟩
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1 : Shape := ⟨1, ![1]⟩
abbrev S1x1 : Shape := ⟨2, ![1, 1]⟩

abbrev nBuf : Space → Nat
  | .hbm => 15
  | .vmem => 14
  | .smem => 0
  | _ => 0

abbrev bufTy : (tb : Table) → Fin (tcTables nBuf tb) → BufTy
  | .hbm, ⟨0, _⟩ => ⟨S1x8192x2816, .f32⟩
  | .hbm, ⟨1, _⟩ => ⟨S1x2816x1024, .f32⟩
  | .hbm, ⟨2, _⟩ => ⟨S1x8192x1024, .f32⟩
  | .hbm, ⟨3, _⟩ => ⟨S1x8192x1024, .f32⟩
  | .hbm, ⟨4, _⟩ => ⟨S1024, .f32⟩
  | .hbm, ⟨5, _⟩ => ⟨S8192x2816, .f32⟩
  | .hbm, ⟨6, _⟩ => ⟨S8192x2816, .bf16⟩
  | .hbm, ⟨7, _⟩ => ⟨S2816x1024, .f32⟩
  | .hbm, ⟨8, _⟩ => ⟨S2816x1024, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S1x128, .f32⟩
  | .hbm, ⟨13, _⟩ => ⟨S8192x1024, .f32⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S8x1024, .f32⟩
  | .local _ .vmem, ⟨13, _⟩ => ⟨S8x1024, .f32⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_24 : BitVec 32 := 0#32
  let v56 : BitVec 1 := Scalar.cmpi .ne v55 c0_i32_24
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FinalLossRefIdeal.lean ====
abbrev S1x8192x2816 : Shape := ⟨3, ![1, 8192, 2816]⟩
abbrev S1x2816x1024 : Shape := ⟨3, ![1, 2816, 1024]⟩
abbrev S1x8192x1024 : Shape := ⟨3, ![1, 8192, 1024]⟩
abbrev S1024 : Shape := ⟨1, ![1024]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S1x128 : Shape := ⟨2, ![1, 128]⟩
abbrev S8192x1024 : Shape := ⟨2, ![8192, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1x8192x2816, .f32⟩
  | .hbm, ⟨1, _⟩ => ⟨S1x2816x1024, .f32⟩
  | .hbm, ⟨2, _⟩ => ⟨S1x8192x1024, .f32⟩
  | .hbm, ⟨3, _⟩ => ⟨S1x8192x1024, .f32⟩
  | .hbm, ⟨4, _⟩ => ⟨S1024, .f32⟩
  | .hbm, ⟨5, _⟩ => ⟨S2816x1024, .f32⟩
  | .hbm, ⟨6, _⟩ => ⟨S1x8192x1024, .f32⟩
  | .hbm, ⟨7, _⟩ => ⟨S1x8192x1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x8192x1024, .f32⟩
  | .hbm, ⟨32, _⟩ => ⟨S1x8192x1024, .f32⟩
  | .hbm, ⟨33, _⟩ => ⟨S_, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x8192, .f32⟩
  | .hbm, ⟨46, _⟩ => ⟨S_, .f32⟩
  | .hbm, ⟨47, _⟩ => ⟨S1x8192, .f32⟩
  | .hbm, ⟨48, _⟩ => ⟨S1x8192, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x8192x1024, .f32⟩
  | .hbm, ⟨56, _⟩ => ⟨S1x8192x1024, .f32⟩
  | .hbm, ⟨57, _⟩ => ⟨S_, .f32⟩
  | .hbm, ⟨58, _⟩ => ⟨S1024, .f32⟩
  | .hbm, ⟨59, _⟩ => ⟨S1x8192x1024, .f32⟩
  | .hbm, ⟨60, _⟩ => ⟨S_, .f32⟩
  | .hbm, ⟨61, _⟩ => ⟨S1x8192, .f32⟩
  | .hbm, ⟨62, _⟩ => ⟨S1x8192x1, .f32⟩
  | .hbm, ⟨63, _⟩ => ⟨S1x8192x1024, .f32⟩
  | .hbm, ⟨64, _⟩ => ⟨S1x8192x1024, .f32⟩
  | .hbm, ⟨65, _⟩ => ⟨S1x8192x1, .f32⟩
  | .hbm, ⟨66, _⟩ => ⟨S_, .f32⟩
  | .hbm, ⟨67, _⟩ => ⟨S1x8192x1, .f32⟩
  | .hbm, ⟨68, _⟩ => ⟨S1x8192x1, .f32⟩
  | .hbm, ⟨69, _⟩ => ⟨S_, .f32⟩
  | .hbm, ⟨70, _⟩ => ⟨S8192, .f32⟩
  | .hbm, ⟨71, _⟩ => ⟨S1x8192, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S1x8192x1024, .f32⟩
  | .hbm, ⟨76, _⟩ => ⟨S1x8192x1024, .f32⟩
  | .hbm, ⟨77, _⟩ => ⟨S1x128, .f32⟩
  | .hbm, ⟨78, _⟩ => ⟨S8192x1024, .f32⟩
  | .hbm, ⟨79, _⟩ => ⟨S1x1024, .f32⟩
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== PostBwd.lean ====
abbrev S1x8192x512 : Shape := ⟨3, ![1, 8192, 512]⟩
abbrev S1x512 : Shape := ⟨2, ![1, 512]⟩
abbrev S1024x4096 : Shape := ⟨2, ![1024, 4096]⟩
abbrev S1x1x1x512 : Shape := ⟨4, ![1, 1, 1, 512]⟩
abbrev S1x1x8x512 : Shape := ⟨4, ![1, 1, 8, 512]⟩
abbrev S1x4096 : Shape := ⟨2, ![1, 4096]⟩
abbrev S256x4096 : Shape := ⟨2, ![256, 4096]⟩
abbrev S8x4096 : Shape := ⟨2, ![8, 4096]⟩
abbrev S32x8x4096 : Shape := ⟨3, ![32, 8, 4096]⟩
abbrev S4096 : Shape := ⟨1, ![4096]⟩

abbrev nBuf : Space → Nat
  | .hbm => 12
  | .vmem => 11
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x512, .f32⟩
  | .hbm, ⟨3, _⟩ => ⟨S1x512, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1x1x1x512, .f32⟩
  | .hbm, ⟨8, _⟩ => ⟨S1x1x8x512, .f32⟩
  | .hbm, ⟨9, _⟩ => ⟨S1x4096, .f32⟩
  | .hbm, ⟨10, _⟩ => ⟨S1024x4096, .f32⟩
  | .hbm, ⟨11, _⟩ => ⟨S1x512, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S1x512, .f32⟩
  | .local _ .vmem, ⟨10, _⟩ => ⟨S8x4096, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v48 : BitVec 1 := Scalar.cmpi .eq arg0 c3_i32
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostBwdIdeal.lean ====
variable {F : FTy → Type} [FloatOps F] [Named F]
def κ : String → Option EReal := fun
  | "gelu_cube" => some ((8943 / 200000 : ℝ) : EReal)
  | "gelu_cube3" => some ((26829 / 200000 : ℝ) : EReal)
  | _ => none
-- ==== PostBwdRefIdeal.lean ====
abbrev S1x8192x512 : Shape := ⟨3, ![1, 8192, 512]⟩
abbrev S1x512 : Shape := ⟨2, ![1, 512]⟩
abbrev S8192x512 : Shape := ⟨2, ![8192, 512]⟩
abbrev S1024x4096 : Shape := ⟨2, ![1024, 4096]⟩
abbrev S512 : Shape := ⟨1, ![512]⟩

abbrev nBuf : Space → Nat
  | .hbm => 9
  | .vmem => 6
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x512, .f32⟩
  | .hbm, ⟨3, _⟩ => ⟨S1x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1024x4096, .f32⟩
  | .hbm, ⟨8, _⟩ => ⟨S1x512, .f32⟩
  | .local _ .vmem, ⟨0, _⟩ => ⟨S8192x512, .f32⟩
  | .local _ .vmem, ⟨1, _⟩ => ⟨S8192x512, .f32⟩
  | .local _ .vmem, ⟨2, _⟩ => ⟨S8192x512, .f32⟩
  | .local _ .vmem, ⟨3, _⟩ => ⟨S1x512, .f32⟩
  | .local _ .vmem, ⟨4, _⟩ => ⟨S1024x4096, .f32⟩
  | .local _ .vmem, ⟨5, _⟩ => ⟨S1x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "gelu_cube" => some ((8943 / 200000 : ℝ) : EReal)
  | "gelu_cube3" => some ((26829 / 200000 : ℝ) : EReal)
  | _ => none

abbrev grid0 : Pipeline.Grid := .none

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RmsFwd.lean ====
abbrev S1x8192x1024 : Shape := ⟨3, ![1, 8192, 1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S1x8192x1024 : Shape := ⟨3, ![1, 8192, 1024]⟩
abbrev S1x1024 : Shape := ⟨2, ![1, 1024]⟩
abbrev S_ : Shape := ⟨0, ![]⟩
abbrev S1x8192 : Shape := ⟨2, ![1, 8192]⟩
abbrev S1x8192x1 : Shape := ⟨3, ![1, 8192, 1]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x8192x1024, .f32⟩
  | .hbm, ⟨3, _⟩ => ⟨S_, .f32⟩
  | .hbm, ⟨4, _⟩ => ⟨S1x8192, .f32⟩
  | .hbm, ⟨5, _⟩ => ⟨S1x8192x1, .f32⟩
  | .hbm, ⟨6, _⟩ => ⟨S_, .f32⟩
  | .hbm, ⟨7, _⟩ => ⟨S1x8192x1, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S1x8192x1, .f32⟩
  | .hbm, ⟨13, _⟩ => ⟨S1x8192x1024, .f32⟩
  | .hbm, ⟨14, _⟩ => ⟨S1x8192x1024, .f32⟩
  | .hbm, ⟨15, _⟩ => ⟨S1024, .f32⟩
  | .hbm, ⟨16, _⟩ => ⟨S1x1x1024, .f32⟩
  | .hbm, ⟨17, _⟩ => ⟨S1x8192x1024, .f32⟩
  | .hbm, ⟨18, _⟩ => ⟨S1x8192x1024, .f32⟩
  | .hbm, ⟨19, _⟩ => ⟨S8192x1024, .f32⟩
  | .hbm, ⟨20, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PostFwd.lean ====
abbrev S1x8192x512 : Shape := ⟨3, ![1, 8192, 512]⟩
abbrev S1x512 : Shape := ⟨2, ![1, 512]⟩
abbrev S1024x4096 : Shape := ⟨2, ![1024, 4096]⟩
abbrev S1x1x1x512 : Shape := ⟨4, ![1, 1, 1, 512]⟩
abbrev S1x1x8x512 : Shape := ⟨4, ![1, 1, 8, 512]⟩
abbrev S1x4096 : Shape := ⟨2, ![1, 4096]⟩
abbrev S256x4096 : Shape := ⟨2, ![256, 4096]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x512, .f32⟩
  | .hbm, ⟨3, _⟩ => ⟨S1024x4096, .f32⟩
  | .hbm, ⟨4, _⟩ => ⟨S1024x4096, .f32⟩
  | .hbm, ⟨5, _⟩ => ⟨S1x1x1x512, .f32⟩
  | .hbm, ⟨6, _⟩ => ⟨S1x1x8x512, .f32⟩
  | .hbm, ⟨7, _⟩ => ⟨S1x4096, .f32⟩
  | .hbm, ⟨8, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostFwdRefIdeal.lean ====
abbrev S1x8192x512 : Shape := ⟨3, ![1, 8192, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S1024x4096 : Shape := ⟨2, ![1024, 4096]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x512, .f32⟩
  | .hbm, ⟨3, _⟩ => ⟨S512, .f32⟩
  | .hbm, ⟨4, _⟩ => ⟨S1x1x512, .f32⟩
  | .hbm, ⟨5, _⟩ => ⟨S1x8192x512, .f32⟩
  | .hbm, ⟨6, _⟩ => ⟨S1x8192x512, .f32⟩
  | .hbm, ⟨7, _⟩ => ⟨S1x8192x512, .f32⟩
  | .hbm, ⟨8, _⟩ => ⟨S1x8192x512, .f32⟩
  | .hbm, ⟨9, _⟩ => ⟨S1x8192x512, .f32⟩
  | .hbm, ⟨10, _⟩ => ⟨S_, .f32⟩
  | .hbm, ⟨11, _⟩ => ⟨S1x8192x512, .f32⟩
  | .hbm, ⟨12, _⟩ => ⟨S1x8192x512, .f32⟩
  | .hbm, ⟨13, _⟩ => ⟨S1x8192x512, .f32⟩
  | .hbm, ⟨14, _⟩ => ⟨S_, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S_, .f32⟩
  | .hbm, ⟨19, _⟩ => ⟨S1x8192x512, .f32⟩
  | .hbm, ⟨20, _⟩ => ⟨S1x8192x512, .f32⟩
  | .hbm, ⟨21, _⟩ => ⟨S_, .f32⟩
  | .hbm, ⟨22, _⟩ => ⟨S1x8192x512, .f32⟩
  | .hbm, ⟨23, _⟩ => ⟨S1x8192x512, .f32⟩
  | .hbm, ⟨24, _⟩ => ⟨S1x8192x512, .f32⟩
  | .hbm, ⟨25, _⟩ => ⟨S1024x4096, .f32⟩
  | .hbm, ⟨26, _⟩ => ⟨S1024x4096, .bf16⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MixFwd.lean ====
abbrev S8192x2048 : Shape := ⟨2, ![8192, 2048]⟩
abbrev S8192x1024 : Shape := ⟨2, ![8192, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x2048, .bf16⟩
  | .hbm, ⟨6, _⟩ => ⟨S8192x2048, .bf16⟩
  | .hbm, ⟨7, _⟩ => ⟨S8192x1024, .bf16⟩
  | .hbm, ⟨8, _⟩ => ⟨S1024x1024, .bf16⟩
  | .hbm, ⟨9, _⟩ => ⟨S8192x1024, .bf16⟩
  | .hbm, ⟨10, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFwdRefIdeal.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S1024x2x2x1408 : Shape := ⟨4, ![1024, 2, 2, 1408]⟩
abbrev S8192x5632 : Shape := ⟨2, ![8192, 5632]⟩
abbrev S8192x2816 : Shape := ⟨2, ![8192, 2816]⟩
abbrev S512x1024 : Shape := ⟨2, ![512, 1024]⟩
abbrev S1024x2816 : Shape := ⟨2, ![1024, 2816]⟩
abbrev S512x2816 : Shape := ⟨2, ![512, 2816]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x2x2x1408, .f32⟩
  | .hbm, ⟨4, _⟩ => ⟨S1024x2x2x1408, .f32⟩
  | .hbm, ⟨5, _⟩ => ⟨S1024x5632, .f32⟩
  | .hbm, ⟨6, _⟩ => ⟨S1024x5632, .bf16⟩
  | .hbm, ⟨7, _⟩ => ⟨S8192x5632, .bf16⟩
  | .hbm, ⟨8, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnInRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S8192x2x2x1408 : Shape := ⟨4, ![8192, 2, 2, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2x2x1408, .f32⟩
  | .hbm, ⟨6, _⟩ => ⟨S8192x2x2x1408, .f32⟩
  | .hbm, ⟨7, _⟩ => ⟨S8192x5632, .f32⟩
  | .hbm, ⟨8, _⟩ => ⟨S8192x5632, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== MemFwd.lean ====
abbrev S1x8192x4x128 : Shape := ⟨4, ![1, 8192, 4, 128]⟩
abbrev S1x256x4x128 : Shape := ⟨4, ![1, 256, 4, 128]⟩
abbrev S256x512 : Shape := ⟨2, ![256, 512]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 5
  | .smem => 0
  | _ => 0

abbrev bufTy : (tb : Table) → Fin (tcTables nBuf tb) → BufTy
  | .hbm, ⟨0, _⟩ => ⟨S1x8192x4x128, .f32⟩
  | .hbm, ⟨1, _⟩ => ⟨S1x256x4x128, .f32⟩
  | .hbm, ⟨2, _⟩ => ⟨S1x256x4x128, .f32⟩
  | .hbm, ⟨3, _⟩ => ⟨S256x512, .f32⟩
  | .hbm, ⟨4, _⟩ => ⟨S256x512, .f32⟩
  | .hbm, ⟨5, _⟩ => ⟨S256x1024, .f32⟩
  | .hbm, ⟨6, _⟩ => ⟨S8192x512, .f32⟩
  | .hbm, ⟨7, _⟩ => ⟨S8192x512, .bf16⟩
  | .hbm, ⟨8, _⟩ => ⟨S256x1024, .bf16⟩
  | .hbm, ⟨9, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S1x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemFwdRefIdeal.lean ====
abbrev S1x8192x4x128 : Shape := ⟨4, ![1, 8192, 4, 128]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S8192x512 : Shape := ⟨2, ![8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x4x128, .f32⟩
  | .hbm, ⟨1, _⟩ => ⟨S1x256x4x128, .f32⟩
  | .hbm, ⟨2, _⟩ => ⟨S1x256x4x128, .f32⟩
  | .hbm, ⟨3, _⟩ => ⟨S1x4x8192x256, .f32⟩
  | .hbm, ⟨4, _⟩ => ⟨S_, .f32⟩
  | .hbm, ⟨5, _⟩ => ⟨S1x4x8192x256, .f32⟩
  | .hbm, ⟨6, _⟩ => ⟨S1x4x8192x256, .f32⟩
  | .hbm, ⟨7, _⟩ => ⟨S_, .f32⟩
  | .hbm, ⟨8, _⟩ => ⟨S1x4x8192, .f32⟩
  | .hbm, ⟨9, _⟩ => ⟨S_, .f32⟩
  | .hbm, ⟨10, _⟩ => ⟨S1x4x8192, .f32⟩
  | .hbm, ⟨11, _⟩ => ⟨S1x4x8192, .f32⟩
  | .hbm, ⟨12, _⟩ => ⟨S1x4x8192x1, .f32⟩
  | .hbm, ⟨13, _⟩ => ⟨S1x4x8192x256, .f32⟩
  | .hbm, ⟨14, _⟩ => ⟨S1x4x8192x256, .f32⟩
  | .hbm, ⟨15, _⟩ => ⟨S1x4x8192x256, .f32⟩
  | .hbm, ⟨16, _⟩ => ⟨S_, .f32⟩
  | .hbm, ⟨17, _⟩ => ⟨S1x4x8192, .f32⟩
  | .hbm, ⟨18, _⟩ => ⟨S1x4x8192x1, .f32⟩
  | .hbm, ⟨19, _⟩ => ⟨S1x4x8192x256, .f32⟩
  | .hbm, ⟨20, _⟩ => ⟨S1x4x8192x256, .f32⟩
  | .hbm, ⟨21, _⟩ => ⟨S1x4x128x8192, .f32⟩
  | .hbm, ⟨22, _⟩ => ⟨S1x8192x4x128, .f32⟩
  | .hbm, ⟨23, _⟩ => ⟨S8192x512, .f32⟩
  | .hbm, ⟨24, _⟩ => ⟨S8192x512, .bf16⟩
  | _, _ => ⟨S1x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== CumBwd.lean ====
abbrev S1x8192x8 : Shape := ⟨3, ![1, 8192, 8]⟩
abbrev S8 : Shape := ⟨1, ![8]⟩
abbrev S1x8x8192 : Shape := ⟨3, ![1, 8, 8192]⟩
abbrev S8192x8 : Shape := ⟨2, ![8192, 8]⟩
abbrev S_ : Shape := ⟨0, ![]⟩
abbrev S8192x128 : Shape := ⟨2, ![8192, 128]⟩
abbrev S128 : Shape := ⟨1, ![128]⟩
abbrev S128x1 : Shape := ⟨2, ![128, 1]⟩
abbrev S4x2x8192 : Shape := ⟨3, ![4, 2, 8192]⟩
abbrev S8192x4x2 : Shape := ⟨3, ![8192, 4, 2]⟩
abbrev S8192x4x2x1 : Shape := ⟨4, ![8192, 4, 2, 1]⟩
abbrev S8192x4x2x64 : Shape := ⟨4, ![8192, 4, 2, 64]⟩
abbrev S8192x512 : Shape := ⟨2, ![8192, 512]⟩
abbrev S128x128 : Shape := ⟨2, ![128, 128]⟩
abbrev S256x512 : Shape := ⟨2, ![256, 512]⟩
abbrev S256x128 : Shape := ⟨2, ![256, 128]⟩
abbrev S128x512 : Shape := ⟨2, ![128, 512]⟩
abbrev S128x256 : Shape := ⟨2, ![128, 256]⟩
abbrev S256x256 : Shape := ⟨2, ![256, 256]⟩

abbrev nBuf : Space → Nat
  | .hbm => 19
  | .vmem => 10
  | .smem => 0
  | _ => 0

abbrev bufTy : (tb : Table) → Fin (tcTables nBuf tb) → BufTy
  | .hbm, ⟨0, _⟩ => ⟨S1x8192x8, .f32⟩
  | .hbm, ⟨1, _⟩ => ⟨S8, .f32⟩
  | .hbm, ⟨2, _⟩ => ⟨S1x8x8192, .f32⟩
  | .hbm, ⟨3, _⟩ => ⟨S8192x8, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S4x2x8192, .f32⟩
  | .hbm, ⟨12, _⟩ => ⟨S4x2x8192, .f32⟩
  | .hbm, ⟨13, _⟩ => ⟨S8192x4x2, .f32⟩
  | .hbm, ⟨14, _⟩ => ⟨S8192x4x2x1, .f32⟩
  | .hbm, ⟨15, _⟩ => ⟨S8192x4x2x64, .f32⟩
  | .hbm, ⟨16, _⟩ => ⟨S8192x512, .f32⟩
  | .hbm, ⟨17, _⟩ => ⟨S8192x128, .bf16⟩
  | .hbm, ⟨18, _⟩ => ⟨S128x128, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S128x1, .f32⟩
  | .local _ .vmem, ⟨5, _⟩ => ⟨S256x128, .bf16⟩
  | .local _ .vmem, ⟨6, _⟩ => ⟨S256x128, .bf16⟩
  | .local _ .vmem, ⟨7, _⟩ => ⟨S128x128, .f32⟩
  | .local _ .vmem, ⟨8, _⟩ => ⟨S128x128, .f32⟩
  | .local _ .vmem, ⟨9, _⟩ => ⟨S128x128, .f32⟩
  | _, _ => ⟨S1x8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v90 : BitVec 1 := Scalar.cmpi .eq arg0 c31_i32
  let v91 : BitVec 32 := Scalar.extui v90
  let c0_i32_31 : BitVec 32 := 0#32
  let v92 : BitVec 1 := Scalar.cmpi .ne v91 c0_i32_31
  v92

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CumBwdRefIdeal.lean ====
abbrev S1x8192x8 : Shape := ⟨3, ![1, 8192, 8]⟩
abbrev S8 : Shape := ⟨1, ![8]⟩
abbrev S1x8x8192 : Shape := ⟨3, ![1, 8, 8192]⟩
abbrev S1x1x8 : Shape := ⟨3, ![1, 1, 8]⟩
abbrev S_ : Shape := ⟨0, ![]⟩
abbrev S1x8 : Shape := ⟨2, ![1, 8]⟩
abbrev S8192x8 : Shape := ⟨2, ![8192, 8]⟩
abbrev S8192x128 : Shape := ⟨2, ![8192, 128]⟩
abbrev S128 : Shape := ⟨1, ![128]⟩
abbrev S128x1 : Shape := ⟨2, ![128, 1]⟩
abbrev S128x128 : Shape := ⟨2, ![128, 128]⟩

abbrev nBuf : Space → Nat
  | .hbm => 80
  | .vmem => 0
  | .smem => 0
  | _ => 0

abbrev bufTy : (tb : Table) → Fin (tcTables nBuf tb) → BufTy
  | .hbm, ⟨0, _⟩ => ⟨S1x8192x8, .f32⟩
  | .hbm, ⟨1, _⟩ => ⟨S8, .f32⟩
  | .hbm, ⟨2, _⟩ => ⟨S1x8x8192, .f32⟩
  | .hbm, ⟨3, _⟩ => ⟨S1x1x8, .f32⟩
  | .hbm, ⟨4, _⟩ => ⟨S1x8192x8, .f32⟩
  | .hbm, ⟨5, _⟩ => ⟨S1x8192x8, .f32⟩
  | .hbm, ⟨6, _⟩ => ⟨S1x8192x8, .f32⟩
  | .hbm, ⟨7, _⟩ => ⟨S_, .f32⟩
  | .hbm, ⟨8, _⟩ => ⟨S1x8192x8, .f32⟩
  | .hbm, ⟨9, _⟩ => ⟨S1x8192x8, .f32⟩
  | .hbm, ⟨10, _⟩ => ⟨S1x8192x8, .f32⟩
  | .hbm, ⟨11, _⟩ => ⟨S1x8192x8, .f32⟩
  | .hbm, ⟨12, _⟩ => ⟨S1x8192x8, .i1⟩
  | .hbm, ⟨13, _⟩ => ⟨S1x8192x8, .f32⟩
  | .hbm, ⟨14, _⟩ => ⟨S1x8192x8, .f32⟩
  | .hbm, ⟨15, _⟩ => ⟨S1x8192x8, .f32⟩
  | .hbm, ⟨16, _⟩ => ⟨S1x8192x8, .f32⟩
  | .hbm, ⟨17, _⟩ => ⟨S1x8192x8, .f32⟩
  | .hbm, ⟨18, _⟩ => ⟨S1x8192x8, .f32⟩
  | .hbm, ⟨19, _⟩ => ⟨S1x8192x8, .f32⟩
  | .hbm, ⟨20, _⟩ => ⟨S1x8192x8, .f32⟩
  | .hbm, ⟨21, _⟩ => ⟨S_, .f32⟩
  | .hbm, ⟨22, _⟩ => ⟨S1x8192x8, .f32⟩
  | .hbm, ⟨23, _⟩ => ⟨S1x8192x8, .i1⟩
  | .hbm, ⟨24, _⟩ => ⟨S_, .f32⟩
  | .hbm, ⟨25, _⟩ => ⟨S1x8192x8, .f32⟩
  | .hbm, ⟨26, _⟩ => ⟨S1x8192x8, .f32⟩
  | .hbm, ⟨27, _⟩ => ⟨S_, .f32⟩
  | .hbm, ⟨28, _⟩ => ⟨S1x8192x8, .f32⟩
  | .hbm, ⟨29, _⟩ => ⟨S1x8192x8, .i1⟩
  | .hbm, ⟨30, _⟩ => ⟨S_, .f32⟩
  | .hbm, ⟨31, _⟩ => ⟨S1x8192x8, .f32⟩
  | .hbm, ⟨32, _⟩ => ⟨S1x8192x8, .f32⟩
  | .hbm, ⟨33, _⟩ => ⟨S1x8192x8, .f32⟩
  | .hbm, ⟨34, _⟩ => ⟨S1x8192x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x8192x8, .f32⟩
  | .hbm, ⟨43, _⟩ => ⟨S1x8192x8, .i1⟩
  | .hbm, ⟨44, _⟩ => ⟨S_, .f32⟩
  | .hbm, ⟨45, _⟩ => ⟨S1x8192x8, .f32⟩
  | .hbm, ⟨46, _⟩ => ⟨S1x8192x8, .f32⟩
  | .hbm, ⟨47, _⟩ => ⟨S1x8192x8, .f32⟩
  | .hbm, ⟨48, _⟩ => ⟨S1x8192x8, .f32⟩
  | .hbm, ⟨49, _⟩ => ⟨S1x8192x8, .f32⟩
  | .hbm, ⟨50, _⟩ => ⟨S_, .f32⟩
  | .hbm, ⟨51, _⟩ => ⟨S1x8192x8, .f32⟩
  | .hbm, ⟨52, _⟩ => ⟨S1x8192x8, .f32⟩
  | .hbm, ⟨53, _⟩ => ⟨S1x8192x8, .f32⟩
  | .hbm, ⟨54, _⟩ => ⟨S_, .f32⟩
  | .hbm, ⟨55, _⟩ => ⟨S_, .f32⟩
  | .hbm, ⟨56, _⟩ => ⟨S1x8192x8, .f32⟩
  | .hbm, ⟨57, _⟩ => ⟨S1x8x8192, .f32⟩
  | .hbm, ⟨58, _⟩ => ⟨S1x8192x8, .f32⟩
  | .hbm, ⟨59, _⟩ => ⟨S_, .f32⟩
  | .hbm, ⟨60, _⟩ => ⟨S_, .f32⟩
  | .hbm, ⟨61, _⟩ => ⟨S1x8192x8, .f32⟩
  | .hbm, ⟨62, _⟩ => ⟨S1x8192x8, .f32⟩
  | .hbm, ⟨63, _⟩ => ⟨S1x8192x8, .f32⟩
  | .hbm, ⟨64, _⟩ => ⟨S1x8192x8, .f32⟩
  | .hbm, ⟨65, _⟩ => ⟨S_, .f32⟩
  | .hbm, ⟨66, _⟩ => ⟨S1x8, .f32⟩
  | .hbm, ⟨67, _⟩ => ⟨S1x1x8, .f32⟩
  | .hbm, ⟨68, _⟩ => ⟨S_, .f32⟩
  | .hbm, ⟨69, _⟩ => ⟨S8, .f32⟩
  | .hbm, ⟨70, _⟩ => ⟨S8192x8, .f32⟩
  | .hbm, ⟨71, _⟩ => ⟨S_, .i32⟩
  | .hbm, ⟨72, _⟩ => ⟨S_, .f32⟩
  | .hbm, ⟨73, _⟩ => ⟨S8192x128, .f32⟩
  | .hbm, ⟨74, _⟩ => ⟨S8192x128, .bf16⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S128x1, .f32⟩
  | .hbm, ⟨79, _⟩ => ⟨S128x128, .f32⟩
  | _, _ => ⟨S1x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_c : Ref sig .tc := ⟨.hbm, 71, rfl⟩
abbrev main_call4_v0 : Ref sig .tc := ⟨.hbm, 72, rfl⟩
abbrev main_v13 : Ref sig .tc := ⟨.hbm, 73, rfl⟩
abbrev main_v14 : Ref sig .tc := ⟨.hbm, 74, rfl⟩
abbrev main_c_1 : Ref sig .tc := ⟨.hbm, 75, rfl⟩
abbrev main_call5_v0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩

abbrev nD : Nat := 1
abbrev τ : Topo := Topo.v7x

variable {F : FTy → Type} [FloatOps F]
-- ==== Proof.Reals.lean ====
/-
  Real numbers among the ideal values: an array whose elements are all finite is the coercion of an array of reals, and
  sums, products, quotients and exponentials of such elements are the coercion of the real operation. The value claims
  about gradients are identities of real numbers once the arguments are known to be finite; this module is the way there
  and back.
-/
module

public import Idealize.ShloMosaic.PureOps.Ideal.Laws
public import Idealize.ShloMosaic.Lib.Pointwise

@[expose] public section

set_option maxRecDepth 16384

noncomputable section

namespace Cert.Reals

open Idealize.ShloMosaic

/-- An array of extended reals all of whose elements are real numbers. -/
def AllReal {ι : Type} (X : ι → EReal) : Prop := ∃ r : ι → ℝ, X = fun i => (r i : EReal)

/-- A finite sum of reals, coerced. -/
@[norm_cast] theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals, the divisor nonzero. -/
theorem div_real (x : ℝ) {y : ℝ} (h : y ≠ 0) : Ideal.div (x : EReal) (y : EReal) = ((x / y : ℝ) : EReal) := by
  rw [Ideal.div_coe h, ← EReal.coe_mul, mul_one_div]

/-- The pattern of positive infinity. -/
theorem ofBits_inf : Ideal.ofBits .f32 0x7F800000#32 = ⊤ := by
  simp [Ideal.ofBits, Ideal.ieee]

/-- An element whose magnitude is below infinity is a real number. -/
theorem real_of_abs_lt {x : EReal}
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  have h' : max x (-x) < ⊤ := by
    by_contra hn
    have : Ideal.cmp .olt (max x (-x)) ⊤ = 1#1 := h
    simp [Ideal.cmp, hn] at this
  induction x using EReal.rec with
  | bot => simp at h'
  | top => simp at h'
  | coe r => exact ⟨r, rfl⟩

/-- A whole array below infinity in magnitude is an array of reals. -/
theorem fin_of_abs_lt {S : Shape} (X : FVec Ideal S .f32)
    (h : ∀ i, FloatOps.cmpf (F := Ideal) (φ := .f32) .olt (FloatOps.hostAbsf (F := Ideal) (φ := .f32) (X i)) (Ideal.ofBits .f32 0x7F800000#32) = 1#1) :
    AllReal X := by
  choose r hr using fun i => real_of_abs_lt (h i)
  exact ⟨r, funext hr⟩

/-- What a printed precondition `|X| < ∞` says of the array `X`. -/
theorem all_real {S : Shape} (X : FVec Ideal S .f32) (h : (⟨0, ![]⟩ : Shape).BroadcastsInDim S (![] : Fin 0 → Fin S.rank))
    (hp : cmpf (F := Ideal) (φ := .f32) .olt (Host.absf X) (broadcastInDim S ![] h (constant (F := Ideal) ⟨0, ![]⟩ .f32 0x7F800000#32))
      = fun _ => 1#1) : AllReal X :=
  fin_of_abs_lt X fun i => congrFun hp i

/-- One plus an exponential is not zero. -/
theorem one_add_exp_ne (x : ℝ) : (1 : ℝ) + Real.exp x ≠ 0 := by positivity

end Cert.Reals

end
-- ==== Proof.SwigluValue.lean ====
module

public import proofs.«01_k».proof.Proof.Reals
public import proofs.«01_k».proof.Proof.Gen.SwigluIdeal.Frame
public import proofs.«01_k».proof.Proof.Gen.SwigluRefIdeal.Read
public import Idealize.ShloMosaic.Lib.Pipeline.ValueKit

/-! # The SwiGLU's gradient

A grid point takes 512 rows and 1408 of the gate's columns, and writes the gradients of both halves side by side. `low` and `high`
are the two halves in the reference; `final` puts the blocks together. -/

@[expose] public section

set_option maxRecDepth 16384

noncomputable section

namespace Cert.SwigluIdeal.Grad

open Cert.SwigluIdeal Cert.SwigluIdeal.Gen Idealize.ShloMosaic Idealize.ShloMosaic.TcCoe Idealize.SL.Sem
open Idealize.ShloMosaic.Pipeline (Dat)
open Cert.Reals

variable (m : (ℓ : Loc nD τ sig) → Buf (Elt Ideal) ℓ)

/-- The block of each window at a grid point. -/
theorem idx : ∀ t : Fin cfg0.N, win0_0.index t = ![t.val % 16, 0] ∧ win0_1.index t = ![t.val / 16, 0]
    ∧ win0_2.index t = ![t.val % 16, t.val / 16] ∧ win0_3.index t = ![t.val % 16, t.val / 16] :=
  (by decide +kernel : ∀ t : Fin grid0.N, _)

open Cert.SwigluRefIdeal.Read in
/-- The gradient of the half that goes through the sigmoid. -/
theorem low (f : FVec Ideal S8192x5632 .f32) (w : FVec Ideal S2816x1024 .f32) (d : FVec Ideal S8192x1024 .f32)
    (hf : AllReal f) (hw : AllReal w) (hd : AllReal d) (r : Fin 8192) (b : ℕ) (hb : b < 2) (l : Fin 1408)
    (k : Fin 5632) (hk : k.val = b * 2816 + l) :
    (∑ x, d (ix2 r x) * w (ix2 ⟨b * 1408 + l, by omega⟩ x)) * f (ix2 r ⟨2816 + (b * 1408 + l), by omega⟩) *
        Ideal.div 1 (1 + Ideal.exp (0 - f (ix2 r ⟨b * 1408 + l, by omega⟩))) *
      (1 + f (ix2 r ⟨b * 1408 + l, by omega⟩) *
          (1 - Ideal.div 1 (1 + Ideal.exp (0 - f (ix2 r ⟨b * 1408 + l, by omega⟩))))) =
    val_main_v13 (F := Ideal) f w d (ix2 r k) := by
  obtain ⟨f, rfl⟩ := hf
  obtain ⟨w, rfl⟩ := hw
  obtain ⟨d, rfl⟩ := hd
  have e : k.val / 1408 % 2 * 2816 + k.val / 2816 * 1408 + k.val % 1408 = b * 1408 + l := by
    omega
  pointwise [val_main_v13, val_main_v12, val_main_v11, val_main_v10, val_main_v9, val_main_v8, val_main_v7, val_main_v6, val_main_v5,
    val_main_call1_v1, val_main_call1_v2, val_main_call1_v0,
    val_main_v1, val_main_v0, val_main_v2_0, val_main_v2_1, val_main_v2_2, val_main_call0_v7, val_main_call0_v6, val_main_call0_v4, val_main_call0_v3, val_main_call0_v2, val_main_call0_v1, val_main_call0_v0, val_main_call0_cst, val_main_call0_cst_0, val_main_call0_cst_1]
  simp only [e]
  rw [dif_pos (by omega)]
  generalize f (ix2 r ⟨b * 1408 + l, _⟩) = a
  generalize f (ix2 r ⟨2816 + (b * 1408 + l), _⟩) = g
  have h := one_add_exp_ne (-a)
  simp only [zero_sub, ← EReal.coe_neg, Ideal.exp_coe, ← EReal.coe_one, ← EReal.coe_add, div_real _ h, ← EReal.coe_mul, ← coe_sum, ← EReal.coe_sub]
  norm_cast
  ring

open Cert.SwigluRefIdeal.Read in
/-- The gradient of the other half. -/
theorem high (f : FVec Ideal S8192x5632 .f32) (w : FVec Ideal S2816x1024 .f32) (d : FVec Ideal S8192x1024 .f32)
    (r : Fin 8192) (b : ℕ) (hb : b < 2) (l : Fin 1408)
    (k : Fin 5632) (hk : k.val = b * 2816 + (1408 + l)) :
    (∑ x, d (ix2 r x) * w (ix2 ⟨b * 1408 + l, by omega⟩ x)) * f (ix2 r ⟨b * 1408 + l, by omega⟩) *
        Ideal.div 1 (1 + Ideal.exp (0 - f (ix2 r ⟨b * 1408 + l, by omega⟩))) =
    val_main_v13 (F := Ideal) f w d (ix2 r k) := by
  have e : k.val / 1408 % 2 * 2816 + k.val / 2816 * 1408 + k.val % 1408 = 2816 + (b * 1408 + l) := by
    omega
  pointwise [val_main_v13, val_main_v12, val_main_v11, val_main_v10, val_main_v9, val_main_v8, val_main_v7, val_main_v6, val_main_v5,
    val_main_v1, val_main_v0, val_main_v2_0, val_main_v2_1, val_main_v2_2, val_main_call0_v7, val_main_call0_v6, val_main_call0_v4, val_main_call0_v3, val_main_call0_v2, val_main_call0_v1, val_main_call0_v0, val_main_call0_cst, val_main_call0_cst_0, val_main_call0_cst_1]
  simp only [e]
  rw [dif_neg (by omega)]
  simp only [Nat.add_sub_cancel_left, zero_sub]
  rw [mul_assoc, mul_comm]

theorem lt32 (t : Fin cfg0.N) : t.val < 32 := t.isLt

/-! What each window holds at a point. -/

theorem blk0 (c : Dev nD) (t : Fin cfg0.N) (a : Fin 512) (k : Fin 1024) :
    iblk m c 0 t (ix2 a k) = m ((c : Thread nD τ).loc main_arg2) (ix2 ⟨t.val % 16 * 512 + a, by omega⟩ k) := by
  blk_ext [iblk, V, idx t]

theorem blk1 (c : Dev nD) (t : Fin cfg0.N) (a : Fin 1408) (k : Fin 1024) :
    iblk m c 1 t (ix2 a k) = m ((c : Thread nD τ).loc main_arg1) (ix2 ⟨t.val / 16 * 1408 + a, by have := lt32 t; omega⟩ k) := by
  blk_simp [iblk]
  entry_read
  blk_ext [idx t]

theorem blk2 (c : Dev nD) (t : Fin cfg0.N) (a : Fin 512) (k : Fin 2816) :
    iblk m c 2 t (ix2 a k) = m ((c : Thread nD τ).loc main_arg0) (ix2 ⟨t.val % 16 * 512 + a, by omega⟩
      ⟨k / 1408 * 2816 + (t.val / 16 * 1408 + k % 1408), by have := lt32 t; omega⟩) := by
  blk_simp [iblk]
  entry_read
  pointwise
  blk_ext [iblk, V, idx t]

theorem blk2a (c : Dev nD) (t : Fin cfg0.N) (a : Fin 512) (l : Fin 1408) (h : l.val < 2816) :
    iblk m c 2 t (ix2 a ⟨l, h⟩) = m ((c : Thread nD τ).loc main_arg0) (ix2 ⟨t.val % 16 * 512 + a, by omega⟩
      ⟨t.val / 16 * 1408 + l, by have := lt32 t; omega⟩) := by
  rw [blk2]
  blk_ext

theorem blk2b (c : Dev nD) (t : Fin cfg0.N) (a : Fin 512) (l : Fin 1408) (h : 1408 + l.val < 2816) :
    iblk m c 2 t (ix2 a ⟨1408 + l, h⟩) = m ((c : Thread nD τ).loc main_arg0) (ix2 ⟨t.val % 16 * 512 + a, by omega⟩
      ⟨2816 + (t.val / 16 * 1408 + l), by have := lt32 t; omega⟩) := by
  rw [blk2]
  blk_ext

/-- The kernel's result is the reference's. -/
theorem final (c : Dev nD) (ef : AllReal (m ((c : Thread nD τ).loc main_arg0) : FVec Ideal S8192x5632 .f32))
    (ew : AllReal (m ((c : Thread nD τ).loc main_arg1) : FVec Ideal S2816x1024 .f32))
    (ed : AllReal (m ((c : Thread nD τ).loc main_arg2) : FVec Ideal S8192x1024 .f32)) :
    (dats m 0 c).arrAt 3 (cfgs 0).N
    = Cert.SwigluRefIdeal.Read.val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have ht := lt32 t
  canon_tiles x h
  · idx_vars x
    have e : ((View.whole main_v5).slice (win0_3.rect t)).emb y
        = ix2 ⟨t.val % 16 * 512 + x0, by omega⟩ ⟨t.val / 16 * 2816 + (1408 + x1), by omega⟩ := by blk_ext [idx t]
    rw [e]
    open_payloads; pointwise
    simp only [blk0, blk1, blk2a, blk2b]
    exact high (m ((c : Thread nD τ).loc main_arg0)) (m ((c : Thread nD τ).loc main_arg1)) (m ((c : Thread nD τ).loc main_arg2)) ⟨t.val % 16 * 512 + x0, by omega⟩ (t.val / 16) (by omega) x1 _ rfl
  · idx_vars x
    have e : ((View.whole main_v5).slice (win0_3.rect t)).emb y
        = ix2 ⟨t.val % 16 * 512 + x0, by omega⟩ ⟨t.val / 16 * 2816 + x1, by omega⟩ := by blk_ext [idx t]
    rw [e]
    open_payloads; pointwise
    simp only [blk0, blk1, blk2a, blk2b]
    exact low (m ((c : Thread nD τ).loc main_arg0)) (m ((c : Thread nD τ).loc main_arg1)) (m ((c : Thread nD τ).loc main_arg2)) ef ew ed ⟨t.val % 16 * 512 + x0, by omega⟩ (t.val / 16) (by omega) x1 _ rfl

end Cert.SwigluIdeal.Grad

end
-- ==== Proof.SwigluClaims.lean ====
module

public import proofs.«01_k».proof.Defs
public import proofs.«01_k».proof.Proof.Gen.Swiglu
public import proofs.«01_k».proof.Proof.Gen.Swiglu.Frame
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.Pre_finite_swiglu
public import proofs.«01_k».proof.Proof.SwigluValue
public import Idealize.ShloMosaic.Lib.Claim
public import Idealize.ShloMosaic.Adequacy
public import Idealize.ShloMosaic.Init

/-! # The claims about the gate's gradient -/

@[expose] public section

noncomputable section

namespace Cert.Proof

open Idealize.ShloMosaic Idealize.SL.Sem

theorem swiglu_frame : Cert.quiescent_Swiglu (hSwiglu := Cert.Swiglu.Gen.facts) :=
  fun m ρ _ => Cert.Swiglu.Gen.frame m ρ

theorem swiglu_frame_ideal : Cert.quiescent_SwigluIdeal (hSwigluIdeal := Cert.SwigluIdeal.Gen.facts) :=
  fun m ρ _ => Cert.SwigluIdeal.Gen.frame m ρ

theorem swiglu_frame_pre : Cert.quiescent_SwigluIdeal_pre_finite_swiglu (hSwigluIdeal := Cert.SwigluIdeal.Gen.facts)
    (hPre_finite_swiglu := Cert.Pre_finite_swiglu.Gen.facts) :=
  fun m ρ _ => Cert.SwigluIdeal.Gen.frame m ρ

theorem swiglu_ref : Cert.quiescent_SwigluRefIdeal (hSwigluRefIdeal := Cert.SwigluRefIdeal.Gen.facts) := by
  intro m g _
  exact (θ_run Cert.SwigluRefIdeal.defs _ _).mono (fun r h => ⟨fun c => (h c).2, sem_eq_zero_of_no_sems (by decide) r.2⟩)
    (Cert.SwigluRefIdeal.Value.run m g)

theorem swiglu_ref_pre : Cert.quiescent_SwigluRefIdeal_pre_finite_swiglu
    (hSwigluRefIdeal := Cert.SwigluRefIdeal.Gen.facts) (hPre_finite_swiglu := Cert.Pre_finite_swiglu.Gen.facts) :=
  fun m g _ => swiglu_ref m g trivial

theorem swiglu_value : Cert.algebraic_SwigluIdeal_SwigluRefIdeal_pre_finite_swiglu
    (hSwigluIdeal := Cert.SwigluIdeal.Gen.facts) (hSwigluRefIdeal := Cert.SwigluRefIdeal.Gen.facts)
    (hPre_finite_swiglu := Cert.Pre_finite_swiglu.Gen.facts) := by
  intro m g m' g' hpre hagree
  refine ⟨fun c => Cert.SwigluRefIdeal.Read.val_main_v13 (F := Ideal) (m ((c.tc : Thread _ _).loc Cert.SwigluIdeal.main_arg0))
      (m ((c.tc : Thread _ _).loc Cert.SwigluIdeal.main_arg1)) (m ((c.tc : Thread _ _).loc Cert.SwigluIdeal.main_arg2)), ?_, ?_⟩
  · refine (θ_run Cert.SwigluIdeal.defs _ _).mono (fun r h c => ⟨(h c).1.trans ?_, (h c).2⟩)
      (Cert.SwigluIdeal.Value.run_blocks (F := Ideal) m g)
    have hp := hpre c
    exact Cert.SwigluIdeal.Grad.final m c (Reals.all_real _ _ hp.1) (Reals.all_real _ _ hp.2.1) (Reals.all_real _ _ hp.2.2)
  · refine (θ_run Cert.SwigluRefIdeal.defs _ _).mono (fun r h c => ⟨(h c).1.trans ?_, (h c).2⟩)
      (Cert.SwigluRefIdeal.Value.run (F := Ideal) m' g')
    refine (Cert.SwigluRefIdeal.Read.val_main_v13_eq (F := Ideal) _ _ _).trans ?_
    obtain ⟨h0, h1, h2⟩ := hagree c
    rw [h0, h1, h2]

end Cert.Proof

end
-- ==== Proof.FoxMath.lean ====
/-
  The forgetting attention's gradients over the real numbers. One query row's scores, weights and their gradients are
  written down once, at a head, a row and a lane given as natural numbers, so that both programs can be read as these
  functions: the reference differentiates the softmax with its row maximum taken out, the kernel recomputes the weights
  from the saved logarithm of the row's sum, each row block's contribution a sum of its own.
-/
module

public import proofs.«01_k».proof.Proof.Reals

@[expose] public section

noncomputable section

namespace Cert.Fox

/-- The attention's arguments as reals: queries, keys, values and the output's cotangent at (head, row, lane), and the
    running sum of the log forget gates at (head, row). -/
structure Data where
  q : ℕ → ℕ → ℕ → ℝ
  k : ℕ → ℕ → ℕ → ℝ
  v : ℕ → ℕ → ℕ → ℝ
  g : ℕ → ℕ → ℕ → ℝ
  c : ℕ → ℕ → ℝ

variable (D : Data)

/-- The score of query `i` against key `j`: the scaled product plus the decay between them. -/
def S (h i j : ℕ) : ℝ := (∑ d : Fin 64, D.q h i d * D.k h j d) * (1 / 8) + D.c h i - D.c h j

/-- Its exponential, zero where the key comes after the query. -/
def W (h i j : ℕ) : ℝ := if j ≤ i then Real.exp (S D h i j) else 0

/-- A row's sum of exponentials. -/
def tot (h i : ℕ) : ℝ := ∑ j : Fin 8192, W D h i j

/-- The attention weight. -/
def P (h i j : ℕ) : ℝ := W D h i j / tot D h i

/-- The weight's cotangent. -/
def dP (h i j : ℕ) : ℝ := ∑ d : Fin 64, D.g h i d * D.v h j d

/-- The attention's output. -/
def att (h i d : ℕ) : ℝ := ∑ j : Fin 8192, P D h i j * D.v h j d

/-- A row's sum of weights times their cotangents. -/
def row (h i : ℕ) : ℝ := ∑ j : Fin 8192, P D h i j * dP D h i j

/-- The score's cotangent. -/
def ds (h i j : ℕ) : ℝ := P D h i j * (dP D h i j - row D h i)

/-- The query's gradient. -/
def dq (h i d : ℕ) : ℝ := (∑ j : Fin 8192, ds D h i j * D.k h j d) * (1 / 8)

/-- The key's gradient. -/
def dk (h j d : ℕ) : ℝ := ∑ i : Fin 8192, ds D h i j * (D.q h i d * (1 / 8))

/-- The value's gradient. -/
def dv (h j d : ℕ) : ℝ := ∑ i : Fin 8192, P D h i j * D.g h i d

/-- The gradient of the running sum of log gates. -/
def dc (h t : ℕ) : ℝ := (∑ j : Fin 8192, ds D h t j) - ∑ i : Fin 8192, ds D h i t

theorem W_nonneg (h i j : ℕ) : 0 ≤ W D h i j := by
  unfold W; split
  · exact (Real.exp_pos _).le
  · exact le_rfl

/-- The first key is never masked, so the row's sum is positive. -/
theorem tot_pos (h i : ℕ) : 0 < tot D h i := by
  refine Finset.sum_pos' (fun j _ => W_nonneg D h i j) ⟨(0 : Fin 8192), Finset.mem_univ _, ?_⟩
  simp [W, Real.exp_pos]

theorem tot_ne (h i : ℕ) : tot D h i ≠ 0 := (tot_pos D h i).ne'

/-- A masked key has no weight. -/
theorem P_of_lt {h i j : ℕ} (hj : i < j) : P D h i j = 0 := by
  simp [P, W, Nat.not_le.2 hj]

/-- Nor has its score a cotangent. -/
theorem ds_of_lt {h i j : ℕ} (hj : i < j) : ds D h i j = 0 := by
  simp [ds, P_of_lt D hj]

/-- The row's sum is the cotangent against the output, as the backward kernels take it. -/
theorem row_eq (h i : ℕ) : row D h i = ∑ d : Fin 64, D.g h i d * att D h i d := by
  simp only [row, dP, att, Finset.mul_sum]
  rw [Finset.sum_comm]
  exact Finset.sum_congr rfl fun d _ => Finset.sum_congr rfl fun j _ => by ring

/-- The exponentials with the row's maximum `M` taken out, as the reference has them. -/
def E (M : ℝ) (h i j : ℕ) : ℝ := W D h i j * Real.exp (-M)

theorem E_eq (M : ℝ) (h i j : ℕ) : E D M h i j = if j ≤ i then Real.exp (S D h i j - M) else 0 := by
  unfold E W; split
  · rw [← Real.exp_add, sub_eq_add_neg]
  · simp

theorem sum_E (M : ℝ) (h i : ℕ) : ∑ j : Fin 8192, E D M h i j = tot D h i * Real.exp (-M) := by
  simp only [E, tot, Finset.sum_mul]

theorem E_sum_ne (M : ℝ) (h i : ℕ) : tot D h i * Real.exp (-M) ≠ 0 :=
  mul_ne_zero (tot_ne D h i) (Real.exp_pos _).ne'

/-- The weight does not depend on what is taken out. -/
theorem E_div (M : ℝ) (h i j : ℕ) : E D M h i j / (tot D h i * Real.exp (-M)) = P D h i j := by
  have := tot_ne D h i
  have h2 := (Real.exp_pos (-M)).ne'
  unfold E P; field_simp

/-- The reference's derivative of the quotient and the exponential is the score's cotangent. -/
theorem ds_of_quotient (M : ℝ) (h i j : ℕ) :
    (dP D h i j / (tot D h i * Real.exp (-M))
      + -(∑ x : Fin 8192, dP D h i x * (1 / (tot D h i * Real.exp (-M) * (tot D h i * Real.exp (-M)))) * E D M h i x))
      * E D M h i j = ds D h i j := by
  have h1 := tot_ne D h i
  have h2 := (Real.exp_pos (-M)).ne'
  have e : (∑ x : Fin 8192, dP D h i x * (1 / (tot D h i * Real.exp (-M) * (tot D h i * Real.exp (-M)))) * E D M h i x)
      = row D h i / (tot D h i * Real.exp (-M)) := by
    unfold row
    rw [Finset.sum_div]
    refine Finset.sum_congr rfl fun x _ => ?_
    rw [← E_div D M]
    have := E_sum_ne D M h i
    field_simp
  rw [e, ds, ← E_div D M]
  have := E_sum_ne D M h i
  field_simp
  ring

/-- The weight recomputed from the saved logarithm of the row's sum, the block's first decay `s` on both sides. -/
theorem P_of_lse (M s : ℝ) {h i j : ℕ} (hj : j ≤ i) :
    Real.exp ((∑ d : Fin 64, D.q h i d * D.k h j d) * (1 / 8) + (s - D.c h j)
      - (M + Real.log (tot D h i * Real.exp (-M)) - D.c h i + s)) = P D h i j := by
  rw [Real.log_mul (tot_ne D h i) (Real.exp_pos _).ne', Real.log_exp]
  have : (∑ d : Fin 64, D.q h i d * D.k h j d) * (1 / 8) + (s - D.c h j)
      - (M + (Real.log (tot D h i) + -M) - D.c h i + s) = S D h i j - Real.log (tot D h i) := by
    unfold S; ring
  rw [this, Real.exp_sub, Real.exp_log (tot_pos D h i), P, W, if_pos hj]

/-- A sum over the two heads' lanes, one head's lanes zeroed, is the sum over the other's. -/
theorem sum_lanes (hh : ℕ) (hb : hh < 2) (f : ℕ → ℝ) :
    (∑ l : Fin 128, if l.val / 64 = hh then f l else 0) = ∑ d : Fin 64, f (64 * hh + d) := by
  rw [Fin.sum_univ_add (a := 64) (b := 64) (fun l : Fin (64 + 64) => if l.val / 64 = hh then f l else 0)]
  have hd : ∀ d : Fin 64, d.val / 64 = 0 := fun d => by omega
  have hd' : ∀ d : Fin 64, (64 + d.val) / 64 = 1 := fun d => by omega
  simp only [Fin.val_castAdd, Fin.val_natAdd, hd, hd']
  interval_cases hh <;> simp

/-- A sum over the rows, cut in blocks of 512. -/
theorem sum_blocks (f : ℕ → ℝ) : (∑ b : Fin 16, ∑ a : Fin 512, f (b * 512 + a)) = ∑ i : Fin 8192, f i := by
  rw [← Fintype.sum_prod_type' (f := fun (b : Fin 16) (a : Fin 512) => f (b * 512 + a))]
  refine Fintype.sum_equiv (finProdFinEquiv (m := 16) (n := 512)) _ _ fun x => ?_
  congr 1
  simp [finProdFinEquiv]; ring

end Cert.Fox

end
-- ==== Proof.RealOps.lean ====
/-
  Operations whose value is only needed to be a real number: a maximum over an axis, a running sum, a log sigmoid. A
  softmax is the same whatever real number is taken out of its scores, and the running sum of the log gates enters both
  programs as one array, so neither has to be computed.
-/
module

public import proofs.«01_k».proof.Proof.Reals

@[expose] public section

noncomputable section

namespace Cert.Reals

open Idealize.ShloMosaic

/-- One eighth as the printed literal. -/
theorem ofBits_eighth : Ideal.ofBits .f32 0x3E000000#32 = ((1 / 8 : ℝ) : EReal) := by
  simp [Ideal.ofBits, Ideal.ieee]
  rw [← EReal.coe_mul]
  norm_num

/-- Minus infinity as the printed literal. -/
theorem ofBits_neg_inf : Ideal.ofBits .f32 0xFF800000#32 = ⊥ := by
  simp [Ideal.ofBits, Ideal.ieee]

theorem ofBits_eighth16 : Ideal.ofBits .bf16 0x3E00#16 = ((1 / 8 : ℝ) : EReal) := by
  simp [Ideal.ofBits, Ideal.ieee]
  rw [← EReal.coe_mul]
  norm_num

/-- A signed comparison of two small index words. -/
theorem sle_ofNat {a b : ℕ} (ha : a < 2 ^ 31) (hb : b < 2 ^ 31) :
    IntOp.cmpi .sle (BitVec.ofNat 32 a) (BitVec.ofNat 32 b) = if a ≤ b then 1#1 else 0#1 := by
  have e : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  simp only [IntOp.cmpi, BitVec.sle, e a ha, e b hb]
  by_cases h : a ≤ b <;> simp [h]

/-- Signed order of two small words, `a < b`. -/
theorem slt_ofNat {a b : ℕ} (ha : a < 2 ^ 31) (hb : b < 2 ^ 31) :
    IntOp.cmpi .slt (BitVec.ofNat 32 a) (BitVec.ofNat 32 b) = if a < b then 1#1 else 0#1 := by
  have e : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  simp only [IntOp.cmpi, BitVec.slt, e a ha, e b hb]
  by_cases h : a < b <;> simp [h]

/-- Signed order of two small words, `a ≥ b`. -/
theorem sge_ofNat {a b : ℕ} (ha : a < 2 ^ 31) (hb : b < 2 ^ 31) :
    IntOp.cmpi .sge (BitVec.ofNat 32 a) (BitVec.ofNat 32 b) = if b ≤ a then 1#1 else 0#1 :=
  sle_ofNat hb ha

/-- A choice by a bit that says whether `P` holds. -/
theorem select_ite {α : Type} (P : Prop) [Decidable P] (x y : α) :
    Scalar.select (if P then 1#1 else 0#1) x y = if P then x else y := by
  split <;> rfl

/-- A host maximum from minus infinity over entries below plus infinity, one of them above minus infinity, is real. -/
theorem reduce_max_real {s t u : Shape} {axes : List (Fin s.rank)} (x : FVec Ideal s .f32) (init : FVec Ideal u .f32)
    (h : s.ReducesTo axes t) (hu : 0 < u.numel) (j : t.Idx) (hi : init (Shape.Idx.first hu) = ⊥)
    (hx : ∀ i, x i ≠ ⊤) (i : s.Idx) (hj : h.drop i = j) (hr : x i ≠ ⊥) :
    ∃ M : ℝ, Host.reduce (FloatOps.maximumf (F := Ideal) (φ := .f32)) x init h hu j = (M : EReal) := by
  rw [Host.reduce_eq_fold, hi]
  have key : ∀ T : Finset s.Idx, T.fold (FloatOps.maximumf (F := Ideal) (φ := .f32)) ⊥ x ≠ ⊤
      ∧ ∀ i ∈ T, x i ≤ T.fold (FloatOps.maximumf (F := Ideal) (φ := .f32)) ⊥ x := by
    classical
    intro T
    induction T using Finset.induction_on with
    | empty => exact ⟨by rw [Finset.fold_empty]; exact bot_ne_top, by simp⟩
    | insert a T ha ih =>
      rw [Finset.fold_insert ha]
      show max (x a) _ ≠ ⊤ ∧ ∀ i ∈ insert a T, x i ≤ max (x a) _
      refine ⟨fun hm => ?_, fun i hi => ?_⟩
      · rcases max_choice (x a) (T.fold (FloatOps.maximumf (F := Ideal) (φ := .f32)) ⊥ x) with e | e
        · exact hx a (e.symm.trans hm)
        · exact ih.1 (e.symm.trans hm)
      · rcases Finset.mem_insert.1 hi with rfl | hi
        · exact le_max_left _ _
        · exact (ih.2 i hi).trans (le_max_right _ _)
  obtain ⟨h1, h2⟩ := key (Finset.univ.filter fun i => h.drop i = j)
  have h3 := h2 i (Finset.mem_filter.2 ⟨Finset.mem_univ _, hj⟩)
  lift (Finset.fold (FloatOps.maximumf (F := Ideal) (φ := .f32)) ⊥ x (Finset.univ.filter fun i => h.drop i = j) : EReal) to ℝ
    using ⟨h1, fun hb => hr (le_bot_iff.1 (hb ▸ h3))⟩ with M
  exact ⟨M, rfl⟩

/-- A host sum over axes of size one, one entry alone reaching `j`. -/
theorem reduceAdd_unit {s t : Shape} {axes : List (Fin s.rank)} (h : s.ReducesTo axes t) (x : s.Idx → EReal) (init : EReal)
    (j : t.Idx) (i : s.Idx) (hi : h.drop i = j) (hu : ∀ y, h.drop y = j → y = i) :
    Ideal.hostReduceAdd h x init j = init + x i := by
  unfold Ideal.hostReduceAdd
  have e : (Finset.univ.filter fun y => h.drop y = j) = {i} := by
    ext y; simp only [Finset.mem_filter, Finset.mem_univ, true_and, Finset.mem_singleton]
    exact ⟨hu y, fun e => e ▸ hi⟩
  rw [e, Finset.sum_singleton]

/-- A host running sum of reals from zero is real. -/
theorem windowSum_real {s t u : Shape} (w st lo hi : Fin s.rank → ℕ) (x : FVec Ideal s .f32) (init : FVec Ideal u .f32)
    (h : s.ReduceWindows w st lo hi t) (hu : 0 < u.numel) (hx : AllReal x) (h0 : init (Shape.Idx.first hu) = 0) :
    AllReal (Host.reduceWindowAdd w st lo hi x init h hu) := by
  obtain ⟨r, rfl⟩ := hx
  suffices hh : ∀ j, ∃ q : ℝ, Host.reduceWindowAdd w st lo hi (fun i => (r i : EReal) : FVec Ideal s .f32) init h hu j = (q : EReal) by
    choose q hq using hh
    exact ⟨q, funext hq⟩
  · intro j
    have key : ∀ (l : List (Fin (⟨s.rank, w⟩ : Shape).numel)) (f : Fin (⟨s.rank, w⟩ : Shape).numel → EReal) (a : ℝ),
        (∀ n, ∃ q : ℝ, f n = (q : EReal)) → ∃ q : ℝ, l.foldl (fun r n => r + f n) (a : EReal) = (q : EReal) := by
      intro l f
      induction l with
      | nil => exact fun a _ => ⟨a, rfl⟩
      | cons n l ih =>
        intro a hf
        obtain ⟨q, hq⟩ := hf n
        rw [List.foldl_cons, hq, ← EReal.coe_add]
        exact ih _ hf
    show ∃ q : ℝ, Host.reduceWindow (· + ·) w st lo hi (fun i => (r i : EReal)) (fun _ : (⟨0, ![]⟩ : Shape).Idx => init (Shape.Idx.first hu)) h (by decide) j
      = (q : EReal)
    rw [h0]
    refine key _ _ 0 fun n => ?_
    dsimp only
    split
    · exact ⟨_, rfl⟩
    · exact ⟨0, rfl⟩

/-- The printed log sigmoid of a real is real. -/
theorem log_sigmoid_real (r : ℝ) :
    ∃ q : ℝ, -(max (-(r : EReal)) 0 + Ideal.log1p (Ideal.exp (-(max (-(r : EReal)) (-(-(r : EReal))))))) = (q : EReal) := by
  have hm : ∀ a b : ℝ, max (a : EReal) (b : EReal) = ((max a b : ℝ) : EReal) := fun a b =>
    (EReal.coe_strictMono.monotone.map_max).symm
  simp only [← EReal.coe_neg, ← EReal.coe_zero, hm, Ideal.log1p]
  rw [Ideal.exp_coe, show (1 : EReal) = ((1 : ℝ) : EReal) from rfl, ← EReal.coe_add, Ideal.log_coe, if_neg (not_le.2 (by positivity)), ← EReal.coe_add, ← EReal.coe_neg]
  exact ⟨_, rfl⟩

end Cert.Reals

end
-- ==== Proof.FoxRef.lean ====
module

public import proofs.«01_k».proof.Proof.FoxMath
public import proofs.«01_k».proof.Proof.RealOps
public import proofs.«01_k».proof.Proof.Gen.FoxBwdRefIdeal.Read

/-! # The forgetting attention's gradient in the reference

Each of the reference's arrays, entry by entry, as the real function of the arguments that it is: scores, maxima, weights and
their derivatives, then the four results. -/

@[expose] public section

set_option maxRecDepth 16384

noncomputable section

namespace Cert.Fox

open Idealize.ShloMosaic Cert.Reals
open Cert.FoxBwdRefIdeal Cert.FoxBwdRefIdeal.Gen Cert.FoxBwdRefIdeal.Read

/-- The arguments and the running sum are the coercions of `D`'s functions. -/
structure Holds (D : Data) (x0 x1 x2 : FVec Ideal S1x8192x8x64 .f32) (x3 : FVec Ideal S1x8192x8 .f32)
    (x4 : FVec Ideal S1x8192x512 .f32) : Prop where
  q : ∀ (i : Fin 8192) (h : Fin 8) (d : Fin 64), x0 (ix4 0 i h d) = ((D.q h i d : ℝ) : EReal)
  k : ∀ (i : Fin 8192) (h : Fin 8) (d : Fin 64), x1 (ix4 0 i h d) = ((D.k h i d : ℝ) : EReal)
  v : ∀ (i : Fin 8192) (h : Fin 8) (d : Fin 64), x2 (ix4 0 i h d) = ((D.v h i d : ℝ) : EReal)
  g : ∀ (i : Fin 8192) (l : Fin 512), x4 (ix3 0 i l) = ((D.g (l / 64) i (l % 64) : ℝ) : EReal)
  c : ∀ (h : Fin 8) (i : Fin 8192), val_main_v2 (F := Ideal) x3 (ix3 0 h i) = ((D.c h i : ℝ) : EReal)

variable {D : Data} {x0 x1 x2 : FVec Ideal S1x8192x8x64 .f32} {x3 : FVec Ideal S1x8192x8 .f32}
    {x4 : FVec Ideal S1x8192x512 .f32}

theorem score (H : Holds D x0 x1 x2 x3 x4) (h : Fin 8) (i j : Fin 8192) :
    val_main_v11 (F := Ideal) x0 x1 x3 (ix4 0 h i j) = ((S D h i j : ℝ) : EReal) := by
  pointwise [val_main_v11, val_main_v10, val_main_v9, val_main_v8, val_main_v7, val_main_v6, val_main_v5, val_main_v4,
    val_main_v3, val_main_cst]
  simp only [H.q, H.k, H.c, ofBits_eighth, ← EReal.coe_mul, ← coe_sum, ← EReal.coe_add, ← EReal.coe_sub]
  rfl

theorem mask (h : Fin 8) (i j : Fin 8192) :
    val_main_v18_1 (F := Ideal) (ix4 0 h i j) = if j.val ≤ i.val then 1#1 else 0#1 := by
  pointwise [val_main_v18_1, val_main_v17, val_main_v16, val_main_v15, val_main_v14, val_main_v13, val_main_v12]
  exact sle_ofNat (by omega) (by omega)

theorem masked (H : Holds D x0 x1 x2 x3 x4) (h : Fin 8) (i j : Fin 8192) :
    val_main_v18_0 (F := Ideal) x0 x1 x3 (ix4 0 h i j) = if j.val ≤ i.val then ((S D h i j : ℝ) : EReal) else ⊥ := by
  pointwise [val_main_v18_0, val_main_call2_v2, val_main_call2_v0, val_main_cst_0]
  simp only [score H, mask]
  rw [show (id (constant (F := Ideal) S_ FTy.f32 0xFF800000#32) ix0 : EReal) = ⊥ from ofBits_neg_inf]
  split <;> rfl

theorem drop_row (h : Fin 8) (i : Fin 8192) :
    reducesTo_S1x8x8192x8192_S1x8x8192_d3.drop (ix4 0 h i 0) = ix3 0 h i := by
  idx_ext

theorem top0 (H : Holds D x0 x1 x2 x3 x4) (h : Fin 8) (i : Fin 8192) :
    ∃ M : ℝ, val_main_v19 (F := Ideal) x0 x1 x3 (ix3 0 h i) = (M : EReal) := by
  unfold val_main_v19
  refine reduce_max_real (val_main_v18_0 (F := Ideal) x0 x1 x3) (val_main_cst_1 (F := Ideal))
    reducesTo_S1x8x8192x8192_S1x8x8192_d3 h_S_ (ix3 0 h i) ofBits_neg_inf
    (fun y => ?_) (ix4 0 h i 0) (drop_row h i) ?_
  · idx_vars y
    obtain rfl : y0 = 0 := Subsingleton.elim _ _
    rw [masked H]; split
    · exact EReal.coe_ne_top _
    · exact bot_ne_top
  · rw [masked H, if_pos (by simp)]; exact EReal.coe_ne_bot _

theorem top1 (h : Fin 8) (i : Fin 8192) :
    val_main_v26 (F := Ideal) x0 x1 x3 (ix3 0 h i) = max (val_main_v25 (F := Ideal) (ix3 0 h i)) (val_main_v19 (F := Ideal) x0 x1 x3 (ix3 0 h i)) := by
  rw [val_main_v26_apply]
  generalize val_main_v25 (F := Ideal) (ix3 0 h i) = a
  generalize val_main_v19 (F := Ideal) x0 x1 x3 (ix3 0 h i) = b
  rfl

theorem top2 (h : Fin 8) (i : Fin 8192) : val_main_v25 (F := Ideal) (ix3 0 h i) = ⊥ := by
  rw [val_main_v25_apply, val_main_cst_3_apply]
  exact ofBits_neg_inf

theorem top (H : Holds D x0 x1 x2 x3 x4) (h : Fin 8) (i : Fin 8192) :
    ∃ M : ℝ, val_main_v26 (F := Ideal) x0 x1 x3 (ix3 0 h i) = (M : EReal) := by
  rw [top1, top2, bot_sup_eq]
  exact top0 H h i

theorem expo (H : Holds D x0 x1 x2 x3 x4) (h : Fin 8) (i : Fin 8192) {M : ℝ}
    (hM : val_main_v26 (F := Ideal) x0 x1 x3 (ix3 0 h i) = (M : EReal)) (j : Fin 8192) :
    val_main_v39 (F := Ideal) x0 x1 x3 (ix4 0 h i j) = ((E D M h i j : ℝ) : EReal) := by
  pointwise [val_main_v39, val_main_v38, val_main_v37, val_main_v36]
  rw [masked H, hM, E_eq]
  split
  · rw [← EReal.coe_sub, Ideal.exp_coe]
  · rw [EReal.bot_sub, EReal.coe_zero]; exact Ideal.exp_bot

theorem total (H : Holds D x0 x1 x2 x3 x4) (h : Fin 8) (i : Fin 8192) {M : ℝ}
    (hM : val_main_v26 (F := Ideal) x0 x1 x3 (ix3 0 h i) = (M : EReal)) :
    val_main_v40 (F := Ideal) x0 x1 x3 (ix3 0 h i) = ((tot D h i * Real.exp (-M) : ℝ) : EReal) := by
  pointwise [val_main_v40, val_main_cst_9]
  simp only [expo H h i hM, ← coe_sum, sum_E]

theorem weight (H : Holds D x0 x1 x2 x3 x4) (h : Fin 8) (i j : Fin 8192) :
    val_main_v43 (F := Ideal) x0 x1 x3 (ix4 0 h i j) = ((P D h i j : ℝ) : EReal) := by
  obtain ⟨M, hM⟩ := top H h i
  pointwise [val_main_v43, val_main_v42, val_main_v41]
  rw [expo H h i hM, total H h i hM, div_real _ (E_sum_ne D M h i), E_div]

theorem dWeight (H : Holds D x0 x1 x2 x3 x4) (h : Fin 8) (i j : Fin 8192) :
    val_main_v52 (F := Ideal) x2 x4 (ix4 0 h i j) = ((dP D h i j : ℝ) : EReal) := by
  pointwise [val_main_v52, val_main_v51, val_main_v50]
  have e : ∀ x : Fin 64, (h.val * 64 + x.val) / 64 = h ∧ (h.val * 64 + x.val) % 64 = x := fun x => by omega
  simp only [H.v, H.g, e, ← EReal.coe_mul, ← coe_sum]
  rfl

/-- A sum over the first and the last axis, both of size one. -/
theorem unit_last (x : FVec Ideal S1x8x8192x1 .f32) (h : Fin 8) (i : Fin 8192) :
    Ideal.hostReduceAdd reducesTo_S1x8x8192x1_S8x8192_d0_3 x 0 (ix2 h i) = x (ix4 0 h i 0) := by
  rw [reduceAdd_unit _ x 0 (ix2 h i) (ix4 0 h i 0) (by idx_ext) fun y hy => ?_, zero_add]
  idx_vars y
  obtain rfl : y0 = 0 := Subsingleton.elim _ _
  obtain rfl : y3 = 0 := Subsingleton.elim _ _
  rw [show reducesTo_S1x8x8192x1_S8x8192_d0_3.drop (ix4 0 y1 y2 0) = ix2 y1 y2 by idx_ext] at hy
  obtain rfl : y1 = h := congrFun hy 0
  obtain rfl : y2 = i := congrFun hy 1
  rfl

/-- A sum over the first and the third axis, both of size one. -/
theorem unit_third (x : FVec Ideal S1x8x1x8192 .f32) (h : Fin 8) (i : Fin 8192) :
    Ideal.hostReduceAdd reducesTo_S1x8x1x8192_S8x8192_d0_2 x 0 (ix2 h i) = x (ix4 0 h 0 i) := by
  rw [reduceAdd_unit _ x 0 (ix2 h i) (ix4 0 h 0 i) (by idx_ext) fun y hy => ?_, zero_add]
  idx_vars y
  obtain rfl : y0 = 0 := Subsingleton.elim _ _
  obtain rfl : y2 = 0 := Subsingleton.elim _ _
  rw [show reducesTo_S1x8x1x8192_S8x8192_d0_2.drop (ix4 0 y1 0 y3) = ix2 y1 y3 by idx_ext] at hy
  obtain rfl : y1 = h := congrFun hy 0
  obtain rfl : y3 = i := congrFun hy 1
  rfl

theorem dScore (H : Holds D x0 x1 x2 x3 x4) (h : Fin 8) (i j : Fin 8192) :
    val_main_v67 (F := Ideal) x0 x1 x2 x3 x4 (ix4 0 h i j) = ((ds D h i j : ℝ) : EReal) := by
  obtain ⟨M, hM⟩ := top H h i
  pointwise [val_main_v67, val_main_v66, val_main_v65, val_main_v64, val_main_v63, val_main_v62, val_main_v61, val_main_v60,
    val_main_v59, val_main_v58, val_main_v57, val_main_v56, val_main_v55, val_main_v46, val_main_v45, val_main_v44, val_main_v41,
    val_main_cst_10, val_main_cst_11, val_main_cst_12]
  rw [unit_last]
  pointwise
  simp only [expo H h i hM, total H h i hM, dWeight H]
  have hl := E_sum_ne D M h i
  rw [← EReal.coe_one]
  simp only [← EReal.coe_mul, div_real _ hl, div_real _ (mul_ne_zero hl hl), ← coe_sum, ← EReal.coe_neg, ← EReal.coe_add]
  rw [ds_of_quotient]

theorem dMasked (H : Holds D x0 x1 x2 x3 x4) (h : Fin 8) (i j : Fin 8192) :
    val_main_v68 (F := Ideal) x0 x1 x2 x3 x4 (ix4 0 h i j) = ((ds D h i j : ℝ) : EReal) := by
  pointwise [val_main_v68, val_main_call3_v0, val_main_call3_cst]
  rw [mask, dScore H]
  by_cases hj : j.val ≤ i.val
  · rw [if_pos hj]; rfl
  · rw [if_neg hj, ds_of_lt D (not_le.1 hj)]; rfl

theorem colSum (H : Holds D x0 x1 x2 x3 x4) (h : Fin 8) (t : Fin 8192) :
    val_main_v73 (F := Ideal) x0 x1 x2 x3 x4 (ix3 0 h t) = ((-∑ i : Fin 8192, ds D h i t : ℝ) : EReal) := by
  pointwise [val_main_v73, val_main_v72, val_main_v71, val_main_v70, val_main_v69, val_main_cst_13, val_main_cst_14]
  rw [unit_third]
  pointwise
  simp only [dMasked H, ← EReal.coe_neg, ← coe_sum, Finset.sum_neg_distrib]

theorem rowSum (H : Holds D x0 x1 x2 x3 x4) (h : Fin 8) (t : Fin 8192) :
    val_main_v77 (F := Ideal) x0 x1 x2 x3 x4 (ix3 0 h t) = ((∑ j : Fin 8192, ds D h t j : ℝ) : EReal) := by
  pointwise [val_main_v77, val_main_v76, val_main_v75, val_main_v74, val_main_cst_15, val_main_cst_16]
  rw [unit_last]
  pointwise
  simp only [dMasked H, ← coe_sum]

theorem pairs (H : Holds D x0 x1 x2 x3 x4) (p : Fin 4) (b : Fin 2) (t : Fin 8192) :
    val_main_v85 (F := Ideal) x0 x1 x2 x3 x4 (ix3 p b t) = ((dc D (2 * p + b) t : ℝ) : EReal) := by
  pointwise [val_main_v85, val_main_v78]
  rw [colSum H, rowSum H, ← EReal.coe_add]
  have e : p.val * 2 + b.val = 2 * p + b := by omega
  simp only [e, dc]
  rw [neg_add_eq_sub]

theorem swapped (H : Holds D x0 x1 x2 x3 x4) (p : Fin 4) (b : Fin 2) (t : Fin 8192) :
    val_main_v86 (F := Ideal) x0 x1 x2 x3 x4 (ix3 p b t) = ((dc D (2 * p + (1 - b)) t : ℝ) : EReal) := by
  have e : val_main_v86 (F := Ideal) x0 x1 x2 x3 x4 (ix3 p b t)
      = val_main_v85 (F := Ideal) x0 x1 x2 x3 x4 (ix3 p b.rev t) := by
    unfold val_main_v86
    generalize val_main_v85 (F := Ideal) x0 x1 x2 x3 x4 = y
    show y _ = y _
    congr 1
    idx_ext
  rw [e, pairs H]
  congr 3
  simp [Fin.rev]

theorem ref_dc (H : Holds D x0 x1 x2 x3 x4) (t : Fin 8192) (l : Fin 512) :
    val_main_v90 (F := Ideal) x0 x1 x2 x3 x4 (ix2 t l) = ((dc D (2 * (l / 128) + (1 - l % 128 / 64)) t : ℝ) : EReal) := by
  pointwise [val_main_v90, val_main_v89, val_main_v88, val_main_v87]
  rw [swapped H]
  have e : l.val / 64 % 2 = l.val % 128 / 64 := by omega
  simp only [e]

theorem ref_dq (H : Holds D x0 x1 x2 x3 x4) (i : Fin 8192) (l : Fin 512) :
    val_main_v92 (F := Ideal) x0 x1 x2 x3 x4 (ix2 i l) = ((dq D (l / 64) i (l % 64) : ℝ) : EReal) := by
  pointwise [val_main_v92, val_main_v91, val_main_v84, val_main_v83, val_main_v80, val_main_v79, val_main_cst_17]
  simp only [dMasked H, H.k, ofBits_eighth, ← EReal.coe_mul, ← coe_sum]
  unfold dq
  rw [Finset.sum_mul]
  congr 1
  exact Finset.sum_congr rfl fun x _ => by ring

theorem ref_dk (H : Holds D x0 x1 x2 x3 x4) (j : Fin 8192) (l : Fin 512) :
    val_main_v93 (F := Ideal) x0 x1 x2 x3 x4 (ix2 j l) = ((dk D (l / 64) j (l % 64) : ℝ) : EReal) := by
  pointwise [val_main_v93, val_main_v82, val_main_v81, val_main_v80, val_main_v79, val_main_cst_17]
  simp only [dMasked H, H.q, ofBits_eighth, ← EReal.coe_mul, ← coe_sum]
  unfold dk
  congr 1
  exact Finset.sum_congr rfl fun x _ => by ring

theorem ref_dv (H : Holds D x0 x1 x2 x3 x4) (j : Fin 8192) (l : Fin 512) :
    val_main_v94 (F := Ideal) x0 x1 x3 x4 (ix2 j l) = ((dv D (l / 64) j (l % 64) : ℝ) : EReal) := by
  pointwise [val_main_v94, val_main_v54, val_main_v53, val_main_v51, val_main_v50]
  simp only [weight H, H.g, ← EReal.coe_mul, ← coe_sum]
  unfold dv
  congr 1
  exact Finset.sum_congr rfl fun x _ => by ring

/-- The running sum of the log gates is real. -/
theorem cum_real (hx : AllReal x3) : AllReal (val_main_v2 (F := Ideal) x3) := by
  have h0 : AllReal (val_main_v0 (F := Ideal) x3) := by
    obtain ⟨r, rfl⟩ := hx
    suffices hh : ∀ j, ∃ q : ℝ, val_main_v0 (F := Ideal) (fun i => (r i : EReal)) j = (q : EReal) by
      choose q hq using hh
      exact ⟨q, funext hq⟩
    intro j
    pointwise [val_main_v0, val_main_call0_v1, val_main_call0_call0_v11, val_main_call0_call0_v10, val_main_call0_call0_v9,
      val_main_call0_call0_v8, val_main_call0_call0_v7, val_main_call0_call0_v6, val_main_call0_call0_v5, val_main_call0_call0_v4,
      val_main_call0_call0_v3, val_main_call0_call0_v2, val_main_call0_call0_v1, val_main_call0_call0_v0, val_main_call0_v0,
      val_main_call0_call0_cst]
    rw [if_neg (not_not.2 rfl)]
    exact log_sigmoid_real (r j)
  have h1 : AllReal (val_main_v1 (F := Ideal) x3) := by
    unfold val_main_v1
    refine windowSum_real _ _ _ _ _ _ _ _ h0 ?_
    rw [val_main_call1_call0_v0_apply, val_main_call1_call0_cst_apply]
    exact Ideal.ofBits_zero _
  obtain ⟨q, hq⟩ := h1
  refine ⟨fun i => q (idx_main_v2 i), funext fun i => ?_⟩
  rw [val_main_v2_apply, hq]

/-- Finite arguments are the coercions of some reals. -/
theorem exists_data (h0 : AllReal x0) (h1 : AllReal x1) (h2 : AllReal x2) (h3 : AllReal x3) (h4 : AllReal x4) :
    ∃ D : Data, Holds D x0 x1 x2 x3 x4 := by
  obtain ⟨c, hc⟩ := cum_real h3
  obtain ⟨q, rfl⟩ := h0
  obtain ⟨k, rfl⟩ := h1
  obtain ⟨v, rfl⟩ := h2
  obtain ⟨g, rfl⟩ := h4
  have e8 : ∀ h : Fin 8, Fin.ofNat 8 h.val = h := fun h => Fin.ext (Nat.mod_eq_of_lt h.isLt)
  have er : ∀ i : Fin 8192, Fin.ofNat 8192 i.val = i := fun i => Fin.ext (Nat.mod_eq_of_lt i.isLt)
  have e64 : ∀ d : Fin 64, Fin.ofNat 64 d.val = d := fun d => Fin.ext (Nat.mod_eq_of_lt d.isLt)
  refine ⟨⟨fun h i d => q (ix4 0 (Fin.ofNat 8192 i) (Fin.ofNat 8 h) (Fin.ofNat 64 d)),
    fun h i d => k (ix4 0 (Fin.ofNat 8192 i) (Fin.ofNat 8 h) (Fin.ofNat 64 d)),
    fun h i d => v (ix4 0 (Fin.ofNat 8192 i) (Fin.ofNat 8 h) (Fin.ofNat 64 d)),
    fun h i d => g (ix3 0 (Fin.ofNat 8192 i) (Fin.ofNat 512 (64 * h + d))),
    fun h i => c (ix3 0 (Fin.ofNat 8 h) (Fin.ofNat 8192 i))⟩, ?_, ?_, ?_, ?_, ?_⟩
  · intro i h d; simp only [e8, er, e64]
  · intro i h d; simp only [e8, er, e64]
  · intro i h d; simp only [e8, er, e64]
  · intro i l
    have : Fin.ofNat 512 (64 * (l.val / 64) + l.val % 64) = l := Fin.ext (by rw [Nat.div_add_mod]; exact Nat.mod_eq_of_lt l.isLt)
    simp only [er, this]
  · intro h i; simp only [e8, er, hc]

end Cert.Fox

end
-- ==== Proof.FoxBlocks.lean ====
module

public import proofs.«01_k».proof.Proof.FoxRef
public import proofs.«01_k».proof.Proof.Gen.FoxBwdIdeal.Frame
public import Idealize.ShloMosaic.Lib.Pipeline.ValueKit

/-! # What the attention's backward call is given

The arrays the host prepares before the call, as functions of the arguments. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Idealize.ShloMosaic.Pipeline (Dat)
open Cert.Reals Cert.Fox
open Cert.FoxBwdRefIdeal.Read (val_main_v2 val_main_v18_0 val_main_v19)

variable (m : (ℓ : Loc nD τ sig) → Buf (Elt Ideal) ℓ)

/-- The launch's arguments, at their array types. -/
abbrev A0 (c : Dev nD) : FVec Ideal S1x8192x8x64 .f32 := m ((c : Thread nD τ).loc main_arg0)
abbrev A1 (c : Dev nD) : FVec Ideal S1x8192x8x64 .f32 := m ((c : Thread nD τ).loc main_arg1)
abbrev A2 (c : Dev nD) : FVec Ideal S1x8192x8x64 .f32 := m ((c : Thread nD τ).loc main_arg2)
abbrev A3 (c : Dev nD) : FVec Ideal S1x8192x8 .f32 := m ((c : Thread nD τ).loc main_arg3)
abbrev A4 (c : Dev nD) : FVec Ideal S1x8192x512 .f32 := m ((c : Thread nD τ).loc main_arg4)

/-- The queries, keys and values side by side. -/
def qkv (x0 x1 x2 : FVec Ideal S1x8192x8x64 .f32) : FVec Ideal S8192x1536 .bf16 :=
  truncf .bf16 (concatenate S8192x1536 1 [⟨S8192x512, shapeCast S8192x512 x0 shapeCasts_S1x8192x8x64_S8192x512⟩,
    ⟨S8192x512, shapeCast S8192x512 x1 shapeCasts_S1x8192x8x64_S8192x512⟩,
    ⟨S8192x512, shapeCast S8192x512 x2 shapeCasts_S1x8192x8x64_S8192x512⟩]
    concatenates_S8192x512_S8192x512_S8192x512_S8192x1536_d1) bitsLt_bf16_f32

/-- The scores' exponentials, each row's maximum taken out. -/
def ex (x0 x1 : FVec Ideal S1x8192x8x64 .f32) (x3 : FVec Ideal S1x8192x8 .f32) : FVec Ideal S1x8x8192x8192 .f32 :=
  Host.exp (subf (val_main_v18_0 (F := Ideal) x0 x1 x3) (broadcastInDim S1x8x8192x8192 ![0, 1, 2, 3] bcast_S1x8x8192x1_S1x8x8192x8192_0_1_2_3
    (broadcastInDim S1x8x8192x1 ![0, 1, 2] bcast_S1x8x8192_S1x8x8192x1_0_1_2 (val_main_v19 (F := Ideal) x0 x1 x3))))

/-- Each row's sum of them. -/
def sums (x0 x1 : FVec Ideal S1x8192x8x64 .f32) (x3 : FVec Ideal S1x8192x8 .f32) : FVec Ideal S1x8x8192 .f32 :=
  Host.reduceAdd (ex x0 x1 x3) (constant S_ .f32 0x00000000#32) reducesTo_S1x8x8192x8192_S1x8x8192_d3 h_S_

/-- The attention's output: the values weighted by the exponentials over the rows' sums, one row for a position. -/
def outvOf (e : FVec Ideal S1x8x8192x8192 .f32) (sm : FVec Ideal S1x8x8192 .f32) (x2 : FVec Ideal S1x8192x8x64 .f32) : FVec Ideal S8192x512 .bf16 :=
  truncf .bf16 (shapeCast S8192x512 (transpose S1x8192x8x64 [0, 3, 1, 2]
    (Host.dotGeneral dot_S1x8192x8x64_S1x8x8192x8192_S1x8x64x8192_1_3_3_2_02_01 none x2
      (Host.divf e (broadcastInDim S1x8x8192x8192 ![0, 1, 2, 3] bcast_S1x8x8192x1_S1x8x8192x8192_0_1_2_3
        (broadcastInDim S1x8x8192x1 ![0, 1, 2] bcast_S1x8x8192_S1x8x8192x1_0_1_2 sm))))
    transposes_S1x8x64x8192_S1x8192x8x64_0_3_1_2) shapeCasts_S1x8192x8x64_S8192x512) bitsLt_bf16_f32

/-- The same of the launch's arguments. -/
def outv (x0 x1 x2 : FVec Ideal S1x8192x8x64 .f32) (x3 : FVec Ideal S1x8192x8 .f32) : FVec Ideal S8192x512 .bf16 :=
  outvOf (ex x0 x1 x3) (sums x0 x1 x3) x2

/-- Each block's first 128 positions. -/
def firsts (cm : FVec Ideal S1x8x8192 .f32) : FVec Ideal S8x16x128 .f32 :=
  extractStridedSlice S8x16x128 ![0, 0, 0] (shapeCast S8x16x512 cm shapeCasts_S1x8x8192_S8x16x512) slices_S8x16x512_S8x16x128_0_0_0

/-- The running sum's largest value among each block's first 128 positions. -/
def starts (x3 : FVec Ideal S1x8192x8 .f32) : FVec Ideal S8x16 .f32 :=
  Host.reduce FloatOps.maximumf (firsts (val_main_v2 (F := Ideal) x3)) (constant S_ .f32 0xFF800000#32) reducesTo_S8x16x128_S8x16_d2 h_S_

/-- Each row's log of its sum, with the decay from the block's start put in: from the rows' maxima, their sums, the running
    sum and the blocks' starts. -/
def lseOf (top sm cm : FVec Ideal S1x8x8192 .f32) (st : FVec Ideal S8x16 .f32) : FVec Ideal S8x8192x128 .f32 :=
  broadcastInDim S8x8192x128 ![0, 1, 2] bcast_S8x8192x1_S8x8192x128_0_1_2
    (addf (subf (shapeCast S8x8192x1 (addf (broadcastInDim S1x8x8192x1 ![0, 1, 2] bcast_S1x8x8192_S1x8x8192x1_0_1_2 top)
        (Host.log (broadcastInDim S1x8x8192x1 ![0, 1, 2] bcast_S1x8x8192_S1x8x8192x1_0_1_2 sm))) shapeCasts_S1x8x8192x1_S8x8192x1)
      (shapeCast S8x8192x1 cm shapeCasts_S1x8x8192_S8x8192x1))
      (shapeCast S8x8192x1 (broadcastInDim S8x16x512 ![0, 1, 2] bcast_S8x16x1_S8x16x512_0_1_2
        (broadcastInDim S8x16x1 ![0, 1] bcast_S8x16_S8x16x1_0_1 st)) shapeCasts_S8x16x512_S8x8192x1))

/-- The same of the launch's arguments. -/
def lse (x0 x1 : FVec Ideal S1x8192x8x64 .f32) (x3 : FVec Ideal S1x8192x8 .f32) : FVec Ideal S8x8192x128 .f32 :=
  lseOf (val_main_v19 (F := Ideal) x0 x1 x3) (sums x0 x1 x3) (val_main_v2 (F := Ideal) x3) (starts x3)

theorem V4 (c : Dev nD) : V m c main_v4 = qkv (A0 m c) (A1 m c) (A2 m c) := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

theorem V48 (c : Dev nD) : V m c main_v48 = shapeCast S4x2x8192 (val_main_v2 (F := Ideal) (A3 m c)) shapeCasts_S1x8x8192_S4x2x8192 := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

theorem V51 (c : Dev nD) : V m c main_v51 = shapeCast S8192x512 (A4 m c) shapeCasts_S1x8192x512_S8192x512 := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

theorem V50 (c : Dev nD) : V m c main_v50 = outv (A0 m c) (A1 m c) (A2 m c) (A3 m c) := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

theorem V49 (c : Dev nD) : V m c main_v49 = lse (A0 m c) (A1 m c) (A3 m c) := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

end Cert.FoxBwdIdeal.Grad

end
-- ==== Proof.FoxInputs.lean ====
module

public import proofs.«01_k».proof.Proof.FoxBlocks

/-! # The entries of the prepared arrays

Queries, keys and values beside each other, the attention's output, and the rows' log-sums, as real functions of the arguments. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Cert.Reals Cert.Fox
open Cert.FoxBwdRefIdeal.Read (val_main_v2 val_main_v18_0 val_main_v19)

section Host

variable {D : Data} {x0 x1 x2 : FVec Ideal S1x8192x8x64 .f32} {x3 : FVec Ideal S1x8192x8 .f32} {x4 : FVec Ideal S1x8192x512 .f32}

theorem qkv_q (H : Holds D x0 x1 x2 x3 x4) (i : Fin 8192) (l : Fin 1536) (hl : l.val < 512) :
    qkv x0 x1 x2 (ix2 i l) = ((D.q (l / 64) i (l % 64) : ℝ) : EReal) := by
  pointwise [qkv]
  rw [dif_pos hl, H.q]

theorem qkv_k (H : Holds D x0 x1 x2 x3 x4) (i : Fin 8192) (l : Fin 512) (k : Fin 1536) (hk : k.val = 512 + l) :
    qkv x0 x1 x2 (ix2 i k) = ((D.k (l / 64) i (l % 64) : ℝ) : EReal) := by
  pointwise [qkv]
  rw [dif_neg (by omega), dif_pos (by omega), H.k]
  have e : k.val - 512 = l := by omega
  simp only [e]

theorem qkv_v (H : Holds D x0 x1 x2 x3 x4) (i : Fin 8192) (l : Fin 512) (k : Fin 1536) (hk : k.val = 1024 + l) :
    qkv x0 x1 x2 (ix2 i k) = ((D.v (l / 64) i (l % 64) : ℝ) : EReal) := by
  pointwise [qkv]
  rw [dif_neg (by omega), dif_neg (by omega), H.v]
  have e : k.val - 512 - 512 = l := by omega
  simp only [e]

theorem ex_apply (H : Holds D x0 x1 x2 x3 x4) (h : Fin 8) (i : Fin 8192) {M : ℝ}
    (hM : val_main_v19 (F := Ideal) x0 x1 x3 (ix3 0 h i) = (M : EReal)) (j : Fin 8192) :
    ex x0 x1 x3 (ix4 0 h i j) = ((E D M h i j : ℝ) : EReal) := by
  pointwise [ex]
  rw [masked H, hM, E_eq]
  split
  · rw [← EReal.coe_sub, Ideal.exp_coe]
  · rw [EReal.bot_sub, EReal.coe_zero]; exact Ideal.exp_bot

theorem sums_apply (H : Holds D x0 x1 x2 x3 x4) (h : Fin 8) (i : Fin 8192) {M : ℝ}
    (hM : val_main_v19 (F := Ideal) x0 x1 x3 (ix3 0 h i) = (M : EReal)) :
    sums x0 x1 x3 (ix3 0 h i) = ((tot D h i * Real.exp (-M) : ℝ) : EReal) := by
  pointwise [sums]
  simp only [ex_apply H h i hM, ← coe_sum, sum_E]

theorem outvOf_apply (e : FVec Ideal S1x8x8192x8192 .f32) (sm : FVec Ideal S1x8x8192 .f32) (x2 : FVec Ideal S1x8192x8x64 .f32) (i : Fin 8192) (l : Fin 512) :
    outvOf e sm x2 (ix2 i l) = ∑ j : Fin 8192, x2 (ix4 0 j ⟨l / 64, by omega⟩ ⟨l % 64, by omega⟩)
      * Ideal.div (e (ix4 0 ⟨l / 64, by omega⟩ i j)) (sm (ix3 0 ⟨l / 64, by omega⟩ i)) := by
  pointwise [outvOf]

theorem outv_apply (H : Holds D x0 x1 x2 x3 x4) (i : Fin 8192) (l : Fin 512) :
    outv x0 x1 x2 x3 (ix2 i l) = ((att D (l / 64) i (l % 64) : ℝ) : EReal) := by
  obtain ⟨M, hM⟩ := top0 H ⟨l / 64, by omega⟩ i
  unfold outv
  rw [outvOf_apply]
  simp only [ex_apply H _ i hM, sums_apply H _ i hM, H.v, div_real _ (E_sum_ne D M _ _), E_div, ← EReal.coe_mul, ← coe_sum]
  exact congrArg (fun r : ℝ => (r : EReal)) (Finset.sum_congr rfl fun x _ => mul_comm _ _)

theorem firsts_apply (cm : FVec Ideal S1x8x8192 .f32) (h : Fin 8) (b : Fin 16) (a : Fin 128) :
    firsts cm (ix3 h b a) = cm (ix3 0 h ⟨b * 512 + a, by omega⟩) := by
  pointwise [firsts]

theorem drop_block (h : Fin 8) (b : Fin 16) : reducesTo_S8x16x128_S8x16_d2.drop (ix3 h b 0) = ix2 h b := by
  idx_ext

/-- The start of a row's block, the same for the 512 rows of the block. -/
theorem starts_real (H : Holds D x0 x1 x2 x3 x4) (h : Fin 8) (b : Fin 16) : ∃ s : ℝ, starts x3 (ix2 h b) = (s : EReal) := by
  have key := reduce_max_real (firsts (val_main_v2 (F := Ideal) x3)) (constant (F := Ideal) S_ .f32 0xFF800000#32)
    reducesTo_S8x16x128_S8x16_d2 h_S_ (ix2 h b) ofBits_neg_inf (fun y => by
      idx_vars y
      rw [firsts_apply, H.c]
      exact EReal.coe_ne_top _) (ix3 h b 0) (drop_block h b) (by
      rw [firsts_apply, H.c]
      exact EReal.coe_ne_bot _)
  exact key

theorem lseOf_apply (top sm cm : FVec Ideal S1x8x8192 .f32) (st : FVec Ideal S8x16 .f32) (h : Fin 8) (i : Fin 8192) (l : Fin 128) :
    lseOf top sm cm st (ix3 h i l) = top (ix3 0 h i) + Ideal.log (sm (ix3 0 h i)) - cm (ix3 0 h i) + st (ix2 h ⟨i / 512, by omega⟩) := by
  pointwise [lseOf]

theorem lse_apply (H : Holds D x0 x1 x2 x3 x4) (h : Fin 8) (b : Fin 16) (a : Fin 512) (i : Fin 8192) (hi : i.val = b * 512 + a) (l : Fin 128) {s : ℝ}
    (hs : starts x3 (ix2 h b) = (s : EReal)) :
    ∃ M : ℝ, lse x0 x1 x3 (ix3 h i l) = ((M + Real.log (tot D h i * Real.exp (-M)) - D.c h i + s : ℝ) : EReal) := by
  obtain ⟨M, hM⟩ := top0 H h i
  refine ⟨M, ?_⟩
  have e : (⟨i.val / 512, by omega⟩ : Fin 16) = b := Fin.ext (by simp only; omega)
  unfold lse
  rw [lseOf_apply, e, hs, hM, sums_apply H h i hM, H.c, Ideal.log_coe,
    if_neg (not_le.2 (mul_pos (tot_pos D h i) (Real.exp_pos _))), ← EReal.coe_add, ← EReal.coe_sub, ← EReal.coe_add]

end Host

end Cert.FoxBwdIdeal.Grad

end
-- ==== Proof.FoxTiles.lean ====
module

public import proofs.«01_k».proof.Proof.FoxMath
public import proofs.«01_k».proof.Proof.RealOps
public import proofs.«01_k».proof.Proof.Gen.FoxBwdIdeal.Skeleton
public import Idealize.ShloMosaic.Lib.Pipeline.ValueKit

/-! # The tiles of the attention's backward call

The arithmetic of one tile of 512 queries by 512 keys, entry by entry. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Cert.Reals Cert.Fox

variable {D : Data}

theorem pay4_apply (qh K : FVec Ideal S512x128 .bf16) (L : FVec Ideal S512x512 .f32) (c : FVec Ideal S1x1x128 .f32) (b : FVec Ideal S1x1x512 .f32) (a j : Fin 512) :
    k0_pay4 (F := Ideal) qh L K c b (ix2 a j) = Ideal.exp ((∑ l : Fin 128, qh (ix2 a l) * K (ix2 j l)) + (k0_pay60 (F := Ideal) c (ix2 0 0) - b (ix3 0 0 j)) - L (ix2 a j)) := by
  pointwise [k0_pay4, k0_pay2, k0_pay60]

theorem pay67_apply (gh V : FVec Ideal S512x128 .bf16) (d : FVec Ideal S512x1 .f32) (p : FVec Ideal S512x512 .f32) (a j : Fin 512) :
    k0_pay67 (F := Ideal) gh d V p (constant S512x512 .f32 0x00000000#32) (ix2 a j) = p (ix2 a j) * ((∑ l : Fin 128, gh (ix2 a l) * V (ix2 j l)) - d (ix2 a 0)) := by
  pointwise [k0_pay67]

theorem pay53_apply (x : FVec Ideal S1x512x128 .f32) (a j : Fin 512) :
    k0_pay53 (F := Ideal) x (ix2 a j) = x (ix3 0 a ⟨j % 128, by omega⟩) := by
  pointwise [k0_pay53]
  split_ifs <;> refine congrArg (fun l => x (ix3 0 a l)) (Fin.ext ?_) <;> simp only <;> omega

/-- The first head's lanes. -/
theorem low_apply (a : Fin 512) (l : Fin 128) : k0_pay39 (ix2 a l) = if l.val / 64 = 0 then 1#1 else 0#1 := by
  pointwise [k0_pay39]
  rw [slt_ofNat (by omega) (by omega)]
  exact if_congr (by omega) rfl rfl

/-- The second head's lanes. -/
theorem high_apply (a : Fin 512) (l : Fin 128) :
    k0_pay47 (iota .tc S512x128 32 [1] iota_S512x128_d1_w32) k0_pay46 (ix2 a l) = if l.val / 64 = 1 then 1#1 else 0#1 := by
  pointwise [k0_pay47, k0_pay46]
  rw [sge_ofNat (by omega) (by omega)]
  exact if_congr (by omega) rfl rfl

theorem pay60_apply (c : FVec Ideal S1x1x128 .f32) :
    k0_pay60 (F := Ideal) c (ix2 0 0) = Finset.fold max ⊥ (fun x : Fin 128 => c (ix3 0 0 x)) Finset.univ := by
  pointwise [k0_pay60]
  rw [ofBits_neg_inf]

theorem pay66_apply (qh K : FVec Ideal S512x128 .bf16) (L : FVec Ideal S512x512 .f32) (c : FVec Ideal S1x1x128 .f32) (b : FVec Ideal S1x1x512 .f32) (a j : Fin 512) :
    k0_pay66 (F := Ideal) (iota .tc S512x512 32 [0] iota_S512x512_d0_w32) (iota .tc S512x512 32 [1] iota_S512x512_d1_w32) qh L K c b (ix2 a j)
      = if j.val ≤ a.val then k0_pay4 (F := Ideal) qh L K c b (ix2 a j) else 0 := by
  rw [pay4_apply]
  pointwise [k0_pay66, k0_pay60]
  rw [sge_ofNat (by omega) (by omega), select_ite]

theorem pay68_apply (qo gh V : FVec Ideal S512x128 .bf16) (d : FVec Ideal S512x1 .f32) (p z : FVec Ideal S512x512 .f32) (j : Fin 512) (l : Fin 128) :
    k0_pay68 (F := Ideal) qo gh d V p z (ix2 j l) = ∑ a : Fin 512, k0_pay67 (F := Ideal) gh d V p z (ix2 a j) * qo (ix2 a l) := by
  pointwise [k0_pay68]

theorem pay69_apply (gh V K : FVec Ideal S512x128 .bf16) (d : FVec Ideal S512x1 .f32) (p z : FVec Ideal S512x512 .f32) (acc : FVec Ideal S512x128 .f32) (a : Fin 512) (l : Fin 128) :
    k0_pay69 (F := Ideal) gh d acc K V p z (ix2 a l) = acc (ix2 a l) + ∑ j : Fin 512, k0_pay67 (F := Ideal) gh d V p z (ix2 a j) * (if l.val / 64 = 1 then K (ix2 j l) else 1) := by
  pointwise [k0_pay69]
  simp only [sge_ofNat (a := l.val) (b := 64) (by omega) (by omega), select_ite]
  have e : 64 ≤ l.val ↔ l.val / 64 = 1 := by omega
  simp only [e]

theorem pay65_apply (gh V K : FVec Ideal S512x128 .bf16) (d : FVec Ideal S512x1 .f32) (p z : FVec Ideal S512x512 .f32) (acc : FVec Ideal S512x128 .f32) (a : Fin 512) (l : Fin 128) :
    addf acc (matmul dot_S512x512_S512x128_S512x128_1_0_0_1_n_n none (k0_pay67 (F := Ideal) gh d V p z) (select k0_pay39 K (broadcast S512x128 (Scalar.ofBits .bf16 0x3F80#16)))
      (constant S512x128 .f32 0x00000000#32)) (ix2 a l) = acc (ix2 a l) + ∑ j : Fin 512, k0_pay67 (F := Ideal) gh d V p z (ix2 a j) * (if l.val / 64 = 0 then K (ix2 j l) else 1) := by
  pointwise [k0_pay39]
  simp only [slt_ofNat (a := l.val) (b := 64) (by omega) (by omega), select_ite]
  have e : l.val < 64 ↔ l.val / 64 = 0 := by omega
  simp only [e]

/-- The first head's tiles are the second head's, at the first head's values. -/
theorem pay10_eq {F : FTy → Type} [FloatOps F] (qh K : FVec F S512x128 .bf16) (L : FVec F S512x512 .f32) (c : FVec F S1x1x128 .f32) (b : FVec F S1x1x512 .f32) :
    k0_pay10 L (k0_pay9 qh K) c b = k0_pay4 qh L K c b := rfl

theorem pay5_eq {F : FTy → Type} [FloatOps F] (qh K gh V : FVec F S512x128 .bf16) (d : FVec F S512x1 .f32) (L : FVec F S512x512 .f32) (c : FVec F S1x1x128 .f32) (b : FVec F S1x1x512 .f32) :
    k0_pay5 qh gh d L K V c b = k0_pay67 gh d (k0_pay3 V) (k0_pay4 qh L K c b) (constant S512x512 .f32 0x00000000#32) := rfl

theorem pay6_eq {F : FTy → Type} [FloatOps F] (qh qo K gh V : FVec F S512x128 .bf16) (d : FVec F S512x1 .f32) (L : FVec F S512x512 .f32) (c : FVec F S1x1x128 .f32) (b : FVec F S1x1x512 .f32) :
    k0_pay6 qh qo gh d L K V c b = k0_pay68 qo gh d (k0_pay3 V) (k0_pay4 qh L K c b) (constant S512x512 .f32 0x00000000#32) := rfl

theorem pay12_eq {F : FTy → Type} [FloatOps F] (qh qo K gh V : FVec F S512x128 .bf16) (d : FVec F S512x1 .f32) (L : FVec F S512x512 .f32) (c : FVec F S1x1x128 .f32) (b : FVec F S1x1x512 .f32) :
    k0_pay12 qo gh d L V (k0_pay9 qh K) c b = k0_pay68 qo gh d V (k0_pay4 qh L K c b) (constant S512x512 .f32 0x00000000#32) := rfl

theorem pay8_eq {F : FTy → Type} [FloatOps F] (qh K gh V : FVec F S512x128 .bf16) (d : FVec F S512x1 .f32) (L : FVec F S512x512 .f32) (acc : FVec F S512x128 .f32) (c : FVec F S1x1x128 .f32) (b : FVec F S1x1x512 .f32) :
    k0_pay8 qh gh d L acc K V c b = addf acc (matmul dot_S512x512_S512x128_S512x128_1_0_0_1_n_n none (k0_pay67 gh d (k0_pay3 V) (k0_pay4 qh L K c b) (constant S512x512 .f32 0x00000000#32))
      (select k0_pay39 (k0_pay2 K) (broadcast S512x128 (Scalar.ofBits .bf16 0x3F80#16))) (constant S512x128 .f32 0x00000000#32)) := rfl

theorem pay13_eq {F : FTy → Type} [FloatOps F] (qh K K' gh V : FVec F S512x128 .bf16) (d : FVec F S512x1 .f32) (L : FVec F S512x512 .f32) (acc : FVec F S512x128 .f32) (c : FVec F S1x1x128 .f32) (b : FVec F S1x1x512 .f32) :
    k0_pay13 gh d L acc K' V (k0_pay9 qh K) c b = k0_pay69 gh d acc K' V (k0_pay4 qh L K c b) (constant S512x512 .f32 0x00000000#32) := rfl

/-- A head's rows of one block of queries, as the body prepares them: its lanes of the scaled queries, the same with ones
    elsewhere, its lanes of the cotangent, the rows' sums, and the rows' logarithms. -/
structure Rows (D : Data) (p hh r0 : ℕ) (s : ℝ) (qh qo gh : FVec Ideal S512x128 .bf16) (d : FVec Ideal S512x1 .f32) (L : FVec Ideal S512x512 .f32) : Prop where
  q : ∀ (a : Fin 512) (l : Fin 128), qh (ix2 a l) = ((if l.val / 64 = hh then D.q (2 * p + hh) (r0 + a) (l % 64) * (1 / 8) else 0 : ℝ) : EReal)
  o : ∀ (a : Fin 512) (l : Fin 128), qo (ix2 a l) = ((if l.val / 64 = hh then D.q (2 * p + hh) (r0 + a) (l % 64) * (1 / 8) else 1 : ℝ) : EReal)
  g : ∀ (a : Fin 512) (l : Fin 128), gh (ix2 a l) = ((if l.val / 64 = hh then D.g (2 * p + hh) (r0 + a) (l % 64) else 0 : ℝ) : EReal)
  d : ∀ a : Fin 512, d (ix2 a 0) = ((row D (2 * p + hh) (r0 + a) : ℝ) : EReal)
  e : ∀ a j : Fin 512, ∃ M : ℝ, L (ix2 a j) = ((M + Real.log (tot D (2 * p + hh) (r0 + a) * Real.exp (-M)) - D.c (2 * p + hh) (r0 + a) + s : ℝ) : EReal)

/-- A block of keys and values of the pair of heads. -/
structure Keys (D : Data) (p k0 : ℕ) (K V : FVec Ideal S512x128 .bf16) : Prop where
  k : ∀ (j : Fin 512) (l : Fin 128), K (ix2 j l) = ((D.k (2 * p + l / 64) (k0 + j) (l % 64) : ℝ) : EReal)
  v : ∀ (j : Fin 512) (l : Fin 128), V (ix2 j l) = ((D.v (2 * p + l / 64) (k0 + j) (l % 64) : ℝ) : EReal)

/-- The running sums a head's decay is made of: the query block's start and the key block's. -/
structure Decays (D : Data) (p hh k0 : ℕ) (s : ℝ) (c : FVec Ideal S1x1x128 .f32) (b : FVec Ideal S1x1x512 .f32) : Prop where
  c : k0_pay60 (F := Ideal) c (ix2 0 0) = (s : EReal)
  b : ∀ j : Fin 512, b (ix3 0 0 j) = ((D.c (2 * p + hh) (k0 + j) : ℝ) : EReal)

theorem lanes {hh : ℕ} (hb : hh < 2) (f g : ℕ → ℕ → ℝ) :
    (∑ l : Fin 128, (if l.val / 64 = hh then f hh (l % 64) else 0) * g (l / 64) (l % 64)) = ∑ d : Fin 64, f hh d * g hh d := by
  have e : ∀ l : Fin 128, (if l.val / 64 = hh then f hh (l % 64) else 0) * g (l / 64) (l % 64)
      = if l.val / 64 = hh then (fun n : ℕ => f hh (n % 64) * g (n / 64) (n % 64)) l.val else 0 := fun l => by
    split <;> simp
  rw [Finset.sum_congr rfl fun l _ => e l, sum_lanes hh hb (fun n : ℕ => f hh (n % 64) * g (n / 64) (n % 64))]
  refine Finset.sum_congr rfl fun d _ => ?_
  have h1 : (64 * hh + d.val) % 64 = d.val := by omega
  have h2 : (64 * hh + d.val) / 64 = hh := by omega
  simp only [h1, h2]

/-- The query block's parts of the gradients: of a key, of a value, of a position's decay (the other head's, on these
    lanes), and a key block's part of a query's sum. -/
def keyC (D : Data) (p r0 j l : ℕ) : ℝ := ∑ a : Fin 512, ds D (2 * p + l / 64) (r0 + a) j * (D.q (2 * p + l / 64) (r0 + a) (l % 64) * (1 / 8))
def valC (D : Data) (p r0 j l : ℕ) : ℝ := ∑ a : Fin 512, P D (2 * p + l / 64) (r0 + a) j * D.g (2 * p + l / 64) (r0 + a) (l % 64)
def colC (D : Data) (p r0 j l : ℕ) : ℝ := ∑ a : Fin 512, ds D (2 * p + (1 - l / 64)) (r0 + a) j
def qryC (D : Data) (p hh r0 k0 a l : ℕ) : ℝ :=
  ∑ j : Fin 512, ds D (2 * p + hh) (r0 + a) (k0 + j) * (if l / 64 = hh then D.k (2 * p + hh) (k0 + j) (l % 64) else 1)

section Facts

variable {p hh r0 k0 : ℕ} {s : ℝ} {qh qo gh K V : FVec Ideal S512x128 .bf16} {d : FVec Ideal S512x1 .f32} {L : FVec Ideal S512x512 .f32}
  {c : FVec Ideal S1x1x128 .f32} {b : FVec Ideal S1x1x512 .f32}

/-- Below the diagonal the recomputed weight is the attention's. -/
theorem weight (hb : hh < 2) (R : Rows D p hh r0 s qh qo gh d L) (X : Keys D p k0 K V) (C : Decays D p hh k0 s c b) (a j : Fin 512)
    (h : k0 + j ≤ r0 + a) : k0_pay4 (F := Ideal) qh L K c b (ix2 a j) = ((P D (2 * p + hh) (r0 + a) (k0 + j) : ℝ) : EReal) := by
  obtain ⟨M, hM⟩ := R.e a j
  rw [pay4_apply, hM, C.c, C.b]
  simp only [R.q, X.k, ← EReal.coe_mul, ← coe_sum, ← EReal.coe_sub, ← EReal.coe_add, Ideal.exp_coe]
  rw [← P_of_lse D M s h, lanes hb (fun _ l => D.q (2 * p + hh) (r0 + a) l * (1 / 8)) (fun x l => D.k (2 * p + x) (k0 + j) l), Finset.sum_mul]
  refine congrArg (fun r : ℝ => ((Real.exp r : ℝ) : EReal)) ?_
  rw [Finset.sum_congr rfl fun (x : Fin 64) _ => (by ring : D.q (2 * p + hh) (r0 + a) x * (1 / 8) * D.k (2 * p + hh) (k0 + j) x = D.q (2 * p + hh) (r0 + a) x * D.k (2 * p + hh) (k0 + j) x * (1 / 8))]

/-- On the diagonal the weights above it are masked away. -/
theorem weightDiag (hb : hh < 2) (R : Rows D p hh r0 s qh qo gh d L) (X : Keys D p r0 K V) (C : Decays D p hh r0 s c b) (a j : Fin 512) :
    k0_pay66 (F := Ideal) (iota .tc S512x512 32 [0] iota_S512x512_d0_w32) (iota .tc S512x512 32 [1] iota_S512x512_d1_w32) qh L K c b (ix2 a j)
      = ((P D (2 * p + hh) (r0 + a) (r0 + j) : ℝ) : EReal) := by
  rw [pay66_apply]
  split
  · exact weight hb R X C a j (by omega)
  · rw [P_of_lt D (by omega), EReal.coe_zero]

variable {w : FVec Ideal S512x512 .f32}

/-- The scores' cotangents. -/
theorem cotangent (hb : hh < 2) (R : Rows D p hh r0 s qh qo gh d L) (X : Keys D p k0 K V) (a j : Fin 512)
    (hw : w (ix2 a j) = ((P D (2 * p + hh) (r0 + a) (k0 + j) : ℝ) : EReal)) :
    k0_pay67 (F := Ideal) gh d V w (constant S512x512 .f32 0x00000000#32) (ix2 a j) = ((ds D (2 * p + hh) (r0 + a) (k0 + j) : ℝ) : EReal) := by
  rw [pay67_apply, hw, R.d]
  simp only [R.g, X.v, ← EReal.coe_mul, ← coe_sum, ← EReal.coe_sub]
  rw [lanes hb (fun _ l => D.g (2 * p + hh) (r0 + a) l) (fun x l => D.v (2 * p + x) (k0 + j) l)]
  rfl

/-- The keys' tile: on the head's lanes its queries against the cotangents, elsewhere the cotangents' column sums. -/
theorem keyTile (hb : hh < 2) (R : Rows D p hh r0 s qh qo gh d L) (X : Keys D p k0 K V)
    (hw : ∀ a j, w (ix2 a j) = ((P D (2 * p + hh) (r0 + a) (k0 + j) : ℝ) : EReal)) (j : Fin 512) (l : Fin 128) :
    k0_pay68 (F := Ideal) qo gh d V w (constant S512x512 .f32 0x00000000#32) (ix2 j l)
      = ((∑ a : Fin 512, ds D (2 * p + hh) (r0 + a) (k0 + j) * (if l.val / 64 = hh then D.q (2 * p + hh) (r0 + a) (l % 64) * (1 / 8) else 1) : ℝ) : EReal) := by
  rw [pay68_apply]
  simp only [cotangent hb R X _ _ (hw _ _), R.o, ← EReal.coe_mul, ← coe_sum]

/-- The values' tile. -/
theorem valueTile (R : Rows D p hh r0 s qh qo gh d L) (hw : ∀ a j, w (ix2 a j) = ((P D (2 * p + hh) (r0 + a) (k0 + j) : ℝ) : EReal)) (j : Fin 512) (l : Fin 128) :
    (matmul dot_S512x512_S512x128_S512x128_0_0_1_1_n_n none (truncf .bf16 w bitsLt_bf16_f32) gh (constant S512x128 .f32 0x00000000#32) : FVec Ideal S512x128 .f32) (ix2 j l)
      = ((∑ a : Fin 512, P D (2 * p + hh) (r0 + a) (k0 + j) * (if l.val / 64 = hh then D.g (2 * p + hh) (r0 + a) (l % 64) else 0) : ℝ) : EReal) := by
  pointwise
  simp only [hw, R.g, ← EReal.coe_mul, ← coe_sum]

/-- The first head's queries' tile, added to what the sweep carries. -/
theorem queryTile0 (R : Rows D p 0 r0 s qh qo gh d L) (X : Keys D p k0 K V)
    (hw : ∀ a j, w (ix2 a j) = ((P D (2 * p + 0) (r0 + a) (k0 + j) : ℝ) : EReal)) (acc : FVec Ideal S512x128 .f32) (a : Fin 512) (l : Fin 128) :
    addf acc (matmul dot_S512x512_S512x128_S512x128_1_0_0_1_n_n none (k0_pay67 (F := Ideal) gh d V w (constant S512x512 .f32 0x00000000#32)) (select k0_pay39 K (broadcast S512x128 (Scalar.ofBits .bf16 0x3F80#16)))
      (constant S512x128 .f32 0x00000000#32)) (ix2 a l) = acc (ix2 a l) + ((qryC D p 0 r0 k0 a l : ℝ) : EReal) := by
  rw [pay65_apply]
  unfold qryC
  rw [coe_sum]
  refine congrArg (acc (ix2 a l) + ·) (Finset.sum_congr rfl fun j _ => ?_)
  rw [cotangent (by omega) R X a j (hw a j), EReal.coe_mul]
  split
  case isTrue h => rw [X.k, h]
  case isFalse h => rw [EReal.coe_one]

/-- The second head's. -/
theorem queryTile1 (R : Rows D p 1 r0 s qh qo gh d L) (X : Keys D p k0 K V)
    (hw : ∀ a j, w (ix2 a j) = ((P D (2 * p + 1) (r0 + a) (k0 + j) : ℝ) : EReal)) (acc : FVec Ideal S512x128 .f32) (a : Fin 512) (l : Fin 128) :
    k0_pay69 (F := Ideal) gh d acc K V w (constant S512x512 .f32 0x00000000#32) (ix2 a l) = acc (ix2 a l) + ((qryC D p 1 r0 k0 a l : ℝ) : EReal) := by
  rw [pay69_apply]
  unfold qryC
  rw [coe_sum]
  refine congrArg (acc (ix2 a l) + ·) (Finset.sum_congr rfl fun j _ => ?_)
  rw [cotangent (by omega) R X a j (hw a j), EReal.coe_mul]
  split
  case isTrue h => rw [X.k, h]
  case isFalse h => rw [EReal.coe_one]

end Facts

theorem pick_apply (A B : FVec Ideal S512x128 .f32) (j : Fin 512) (l : Fin 128) :
    select k0_pay38 A B (ix2 j l) = if l.val / 64 = 0 then A (ix2 j l) else B (ix2 j l) := by
  pointwise [k0_pay38]
  rw [slt_ofNat (by omega) (by omega), select_ite]
  exact if_congr (by omega) rfl rfl

section Both

variable {p r0 k0 : ℕ} {s0 s1 : ℝ} {qh0 qo0 gh0 qh1 qo1 gh1 K V : FVec Ideal S512x128 .bf16} {d0 d1 : FVec Ideal S512x1 .f32} {L0 L1 w0 w1 : FVec Ideal S512x512 .f32}

/-- Both heads' tiles side by side: the block's part of the key's gradient. -/
theorem keyBoth (R0 : Rows D p 0 r0 s0 qh0 qo0 gh0 d0 L0) (R1 : Rows D p 1 r0 s1 qh1 qo1 gh1 d1 L1) (X : Keys D p k0 K V)
    (h0 : ∀ a j, w0 (ix2 a j) = ((P D (2 * p + 0) (r0 + a) (k0 + j) : ℝ) : EReal)) (h1 : ∀ a j, w1 (ix2 a j) = ((P D (2 * p + 1) (r0 + a) (k0 + j) : ℝ) : EReal))
    (j : Fin 512) (l : Fin 128) :
    select k0_pay38 (k0_pay68 (F := Ideal) qo0 gh0 d0 V w0 (constant S512x512 .f32 0x00000000#32)) (k0_pay68 (F := Ideal) qo1 gh1 d1 V w1 (constant S512x512 .f32 0x00000000#32)) (ix2 j l)
      = ((keyC D p r0 (k0 + j) l : ℝ) : EReal) := by
  rw [pick_apply, keyTile (by omega) R0 X h0, keyTile (by omega) R1 X h1]
  unfold keyC
  rcases (by omega : l.val / 64 = 0 ∨ l.val / 64 = 1) with h | h <;> simp [h]

/-- The other head's column sums, side by side. -/
theorem colBoth (R0 : Rows D p 0 r0 s0 qh0 qo0 gh0 d0 L0) (R1 : Rows D p 1 r0 s1 qh1 qo1 gh1 d1 L1) (X : Keys D p k0 K V)
    (h0 : ∀ a j, w0 (ix2 a j) = ((P D (2 * p + 0) (r0 + a) (k0 + j) : ℝ) : EReal)) (h1 : ∀ a j, w1 (ix2 a j) = ((P D (2 * p + 1) (r0 + a) (k0 + j) : ℝ) : EReal))
    (j : Fin 512) (l : Fin 128) :
    select k0_pay38 (k0_pay68 (F := Ideal) qo1 gh1 d1 V w1 (constant S512x512 .f32 0x00000000#32)) (k0_pay68 (F := Ideal) qo0 gh0 d0 V w0 (constant S512x512 .f32 0x00000000#32)) (ix2 j l)
      = ((colC D p r0 (k0 + j) l : ℝ) : EReal) := by
  rw [pick_apply, keyTile (by omega) R0 X h0, keyTile (by omega) R1 X h1]
  unfold colC
  rcases (by omega : l.val / 64 = 0 ∨ l.val / 64 = 1) with h | h <;> simp [h]

/-- Both heads' value tiles added: the block's part of the value's gradient. -/
theorem valueBoth (R0 : Rows D p 0 r0 s0 qh0 qo0 gh0 d0 L0) (R1 : Rows D p 1 r0 s1 qh1 qo1 gh1 d1 L1)
    (h0 : ∀ a j, w0 (ix2 a j) = ((P D (2 * p + 0) (r0 + a) (k0 + j) : ℝ) : EReal)) (h1 : ∀ a j, w1 (ix2 a j) = ((P D (2 * p + 1) (r0 + a) (k0 + j) : ℝ) : EReal))
    (j : Fin 512) (l : Fin 128) :
    addf (matmul dot_S512x512_S512x128_S512x128_0_0_1_1_n_n none (truncf .bf16 w0 bitsLt_bf16_f32) gh0 (constant S512x128 .f32 0x00000000#32) : FVec Ideal S512x128 .f32)
      (matmul dot_S512x512_S512x128_S512x128_0_0_1_1_n_n none (truncf .bf16 w1 bitsLt_bf16_f32) gh1 (constant S512x128 .f32 0x00000000#32) : FVec Ideal S512x128 .f32) (ix2 j l)
      = ((valC D p r0 (k0 + j) l : ℝ) : EReal) := by
  refine (congrArg₂ (· + ·) (valueTile R0 h0 j l) (valueTile R1 h1 j l)).trans ?_
  rw [← EReal.coe_add]
  unfold valC
  rcases (by omega : l.val / 64 = 0 ∨ l.val / 64 = 1) with h | h <;> simp [h]

end Both

/-- What the body makes of the block of queries, at either head's lanes. -/
theorem rowsOf {p hh r0 : ℕ} (hb : hh < 2) {s : ℝ} (m : IVec S512x128 1) (q o g : FVec Ideal S512x128 .f32) (e : FVec Ideal S1x512x128 .f32)
    (hm : ∀ (a : Fin 512) (l : Fin 128), m (ix2 a l) = if l.val / 64 = hh then 1#1 else 0#1)
    (hq : ∀ (a : Fin 512) (l : Fin 128), q (ix2 a l) = ((D.q (2 * p + l / 64) (r0 + a) (l % 64) : ℝ) : EReal))
    (hg : ∀ (a : Fin 512) (l : Fin 128), g (ix2 a l) = ((D.g (2 * p + l / 64) (r0 + a) (l % 64) : ℝ) : EReal))
    (ho : ∀ (a : Fin 512) (l : Fin 128), o (ix2 a l) = ((att D (2 * p + l / 64) (r0 + a) (l % 64) : ℝ) : EReal))
    (he : ∀ (a : Fin 512) (l : Fin 128), ∃ M : ℝ, e (ix3 0 a l) = ((M + Real.log (tot D (2 * p + hh) (r0 + a) * Real.exp (-M)) - D.c (2 * p + hh) (r0 + a) + s : ℝ) : EReal)) :
    Rows D p hh r0 s (mulf (select m (truncf .bf16 q bitsLt_bf16_f32) (broadcast S512x128 (Scalar.ofBits .bf16 0x0000#16))) (broadcast S512x128 (Scalar.ofBits .bf16 0x3E00#16)))
      (select m (mulf (select m (truncf .bf16 q bitsLt_bf16_f32) (broadcast S512x128 (Scalar.ofBits .bf16 0x0000#16))) (broadcast S512x128 (Scalar.ofBits .bf16 0x3E00#16))) (broadcast S512x128 (Scalar.ofBits .bf16 0x3F80#16)))
      (truncf .bf16 (select m g (broadcast S512x128 (Scalar.ofBits .f32 0x00000000#32))) bitsLt_bf16_f32)
      (shapeCast S512x1 (multiReduction .add [1] S512 (mulf (select m g (broadcast S512x128 (Scalar.ofBits .f32 0x00000000#32))) o) 0x00000000#32 reduces_S512x128_S512 (.inl rfl) rfl) shapeCasts_S512_S512x1)
      (k0_pay53 (F := Ideal) e) := by
  have hp : ∀ (a : Fin 512) (l : Fin 128), mulf (select m (truncf .bf16 q bitsLt_bf16_f32) (broadcast S512x128 (Scalar.ofBits .bf16 0x0000#16))) (broadcast S512x128 (Scalar.ofBits .bf16 0x3E00#16)) (ix2 a l)
      = ((if l.val / 64 = hh then D.q (2 * p + hh) (r0 + a) (l % 64) * (1 / 8) else 0 : ℝ) : EReal) := fun a l => by
    pointwise
    rw [hm, select_ite, ofBits_eighth16]
    split
    case isTrue h => rw [hq, h, ← EReal.coe_mul]
    case isFalse h => rw [EReal.coe_zero]
  have hg' : ∀ (a : Fin 512) (l : Fin 128), select m g (broadcast S512x128 (Scalar.ofBits .f32 0x00000000#32)) (ix2 a l)
      = ((if l.val / 64 = hh then D.g (2 * p + hh) (r0 + a) (l % 64) else 0 : ℝ) : EReal) := fun a l => by
    pointwise
    rw [hm, select_ite]
    split
    case isTrue h => rw [hg, h]
    case isFalse h => rw [EReal.coe_zero]
  refine ⟨hp, fun a l => ?_, fun a l => ?_, fun a => ?_, fun a j => ?_⟩
  · generalize mulf (select m (truncf .bf16 q bitsLt_bf16_f32) (broadcast S512x128 (Scalar.ofBits .bf16 0x0000#16))) (broadcast S512x128 (Scalar.ofBits .bf16 0x3E00#16)) = x at hp
    pointwise
    rw [hm, select_ite, hp]
    split
    case isTrue h => rfl
    case isFalse h => rw [EReal.coe_one]
  · exact hg' a l
  · generalize select m g (broadcast S512x128 (Scalar.ofBits .f32 0x00000000#32)) = x at hg'
    pointwise
    simp only [hg', ho, ← EReal.coe_mul, ← coe_sum]
    rw [lanes hb (fun _ l => D.g (2 * p + hh) (r0 + a) l) (fun x l => att D (2 * p + x) (r0 + a) l), row_eq]
  · obtain ⟨M, hM⟩ := he a ⟨j % 128, by omega⟩
    exact ⟨M, by rw [pay53_apply, hM]⟩

/-- The first head's rows are the body's first set of values. -/
theorem rows0 {p r0 : ℕ} {s : ℝ} (q o : FVec Ideal S512x128 .bf16) (g : FVec Ideal S512x128 .f32) (e : FVec Ideal S1x512x128 .f32)
    (hq : ∀ (a : Fin 512) (l : Fin 128), q (ix2 a l) = ((D.q (2 * p + l / 64) (r0 + a) (l % 64) : ℝ) : EReal))
    (hg : ∀ (a : Fin 512) (l : Fin 128), g (ix2 a l) = ((D.g (2 * p + l / 64) (r0 + a) (l % 64) : ℝ) : EReal))
    (ho : ∀ (a : Fin 512) (l : Fin 128), o (ix2 a l) = ((att D (2 * p + l / 64) (r0 + a) (l % 64) : ℝ) : EReal))
    (he : ∀ (a : Fin 512) (l : Fin 128), ∃ M : ℝ, e (ix3 0 a l) = ((M + Real.log (tot D (2 * p + 0) (r0 + a) * Real.exp (-M)) - D.c (2 * p + 0) (r0 + a) + s : ℝ) : EReal)) :
    Rows D p 0 r0 s (k0_pay40 (F := Ideal) q) (k0_pay41 (F := Ideal) q) (k0_pay43 (F := Ideal) g) (k0_pay44 (F := Ideal) g o) (k0_pay45 (F := Ideal) e) :=
  rowsOf (by omega) k0_pay39 (k0_pay35 (F := Ideal) q) (k0_pay37 (F := Ideal) o) (k0_pay36 (F := Ideal) g) e low_apply
    (fun a l => by pointwise [k0_pay35]; exact hq a l) (fun a l => by pointwise [k0_pay36]; exact hg a l) (fun a l => by pointwise [k0_pay37]; exact ho a l) he

/-- The second head's are its second set. -/
theorem rows1 {p r0 : ℕ} {s : ℝ} (q o : FVec Ideal S512x128 .bf16) (g : FVec Ideal S512x128 .f32) (e : FVec Ideal S1x512x128 .f32)
    (hq : ∀ (a : Fin 512) (l : Fin 128), q (ix2 a l) = ((D.q (2 * p + l / 64) (r0 + a) (l % 64) : ℝ) : EReal))
    (hg : ∀ (a : Fin 512) (l : Fin 128), g (ix2 a l) = ((D.g (2 * p + l / 64) (r0 + a) (l % 64) : ℝ) : EReal))
    (ho : ∀ (a : Fin 512) (l : Fin 128), o (ix2 a l) = ((att D (2 * p + l / 64) (r0 + a) (l % 64) : ℝ) : EReal))
    (he : ∀ (a : Fin 512) (l : Fin 128), ∃ M : ℝ, e (ix3 0 a l) = ((M + Real.log (tot D (2 * p + 1) (r0 + a) * Real.exp (-M)) - D.c (2 * p + 1) (r0 + a) + s : ℝ) : EReal)) :
    Rows D p 1 r0 s (k0_pay48 (F := Ideal) (k0_pay35 q) (iota .tc S512x128 32 [1] iota_S512x128_d1_w32) k0_pay46)
      (k0_pay49 (F := Ideal) (k0_pay35 q) (iota .tc S512x128 32 [1] iota_S512x128_d1_w32) k0_pay46)
      (k0_pay51 (F := Ideal) (k0_pay36 g) (iota .tc S512x128 32 [1] iota_S512x128_d1_w32) k0_pay46)
      (k0_pay52 (F := Ideal) (k0_pay36 g) (k0_pay37 o) (iota .tc S512x128 32 [1] iota_S512x128_d1_w32) k0_pay46) (k0_pay53 (F := Ideal) e) :=
  rowsOf (by omega) (k0_pay47 (iota .tc S512x128 32 [1] iota_S512x128_d1_w32) k0_pay46) (k0_pay35 (F := Ideal) q) (k0_pay37 (F := Ideal) o) (k0_pay36 (F := Ideal) g) e high_apply
    (fun a l => by pointwise [k0_pay35]; exact hq a l) (fun a l => by pointwise [k0_pay36]; exact hg a l) (fun a l => by pointwise [k0_pay37]; exact ho a l) he

end Cert.FoxBwdIdeal.Grad

end
-- ==== Proof.FoxLoop.lean ====
module

public import proofs.«01_k».proof.Proof.FoxTiles
public import proofs.«01_k».proof.Proof.Gen.FoxBwdIdeal.Loops
public import Idealize.ShloMosaic.Lib.WritesUnit

/-! # The loop over the earlier blocks of keys

What one turn of the loop adds to the three accumulators, and, by induction, what all turns leave. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Cert.Reals Cert.Fox

theorem pay2_id (x : FVec Ideal S512x128 .bf16) : k0_pay2 (F := Ideal) x = x := by
  funext y
  idx_vars y
  pointwise [k0_pay2]

theorem pay3_id (x : FVec Ideal S512x128 .bf16) : k0_pay3 (F := Ideal) x = x := by
  funext y
  idx_vars y
  pointwise [k0_pay3]

/-- The sweep's trips, and where each reads and writes. -/
theorem trips : ∀ t : Fin cfg0.N, (k0_t1_loop (grid0.coords t)).trips = t.val % 16 := by decide +kernel

theorem off1 : ∀ (t : Fin cfg0.N) (k : Fin (k0_t1_loop (grid0.coords t)).trips), k0_off1 (grid0.coords t) k = ![512 * k.val, 0] := by decide +kernel

theorem off3 : ∀ (t : Fin cfg0.N) (k : Fin (k0_t1_loop (grid0.coords t)).trips), k0_off3 (grid0.coords t) k = ![0, 0, 512 * k.val] := by decide +kernel

theorem off5 : ∀ (t : Fin cfg0.N) (k : Fin (k0_t1_loop (grid0.coords t)).trips), k0_off5 (grid0.coords t) k = ![0, 1, 512 * k.val] := by decide +kernel

theorem off2 : ∀ t : Fin cfg0.N, k0_off2 (grid0.coords t) = ![0, 0, 512 * (t.val % 16)] ∧ k0_off4 (grid0.coords t) = ![0, 1, 512 * (t.val % 16)]
    ∧ k0_off11 (grid0.coords t) = ![512 * (t.val % 16), 0] ∧ k0_off12 (grid0.coords t) = ![0, 0, 512 * (t.val % 16)] ∧ k0_off13 (grid0.coords t) = ![0, 0, 512 * (t.val % 16)]
    ∧ k0_off14 (grid0.coords t) = ![0, 1, 512 * (t.val % 16)] ∧ k0_off15 (grid0.coords t) = ![0, 1, 512 * (t.val % 16)] := by decide +kernel

section Rows

variable {κ : Kind} {sp : Space}

/-- A block of 512 rows, loaded. -/
theorem rows_load {e : EltTy} (v : View sig κ sp S8192x128 e) (f : v.ty.Contents (Elt Ideal)) {off : Fin 2 → ℕ} {r0 : ℕ} (inb : ∀ a : Fin 2, off a + S512x128.size a ≤ S8192x128.size a)
    (h : off = ![r0, 0]) (a : Fin 512) (l : Fin 128) (j : Fin 8192) (hj : j.val = r0 + a) :
    v.readAt (Elt Ideal) (Rect.unit (s := S8192x128) off S512x128.size inb).toLoadRect f (ix2 a l) = v.read (Elt Ideal) f (ix2 j l) := by
  subst h
  refine congrArg (v.read (Elt Ideal) f) ?_
  idx_ext

/-- A stretch of a head's running sums, loaded. -/
theorem sums_load (v : View sig κ sp S1x2x8192 .f32) (f : v.ty.Contents (Elt Ideal)) {off : Fin 3 → ℕ} {r0 h W : ℕ} (inb : ∀ a : Fin 3, off a + (⟨3, ![1, 1, W]⟩ : Shape).size a ≤ S1x2x8192.size a)
    (e : off = ![0, h, r0]) (a : Fin W) (b : Fin 2) (hb : b.val = h) (j : Fin 8192) (hj : j.val = r0 + a) :
    v.readAt (Elt Ideal) (Rect.unit (s := S1x2x8192) off (⟨3, ![1, 1, W]⟩ : Shape).size inb).toLoadRect f (ix3 0 0 a) = v.read (Elt Ideal) f (ix3 0 b j) := by
  subst e
  refine congrArg (v.read (Elt Ideal) f) ?_
  idx_ext

/-- A block of 512 rows, stored over earlier pieces. -/
theorem rows_store (v : View sig κ sp S8192x128 .f32) (f : v.ty.Contents (Elt Ideal)) {off : Fin 2 → ℕ} {r0 : ℕ} (inb : ∀ a : Fin 2, off a + S512x128.size a ≤ S8192x128.size a)
    (w : FVec Ideal S512x128 .f32) (L : List (View.Piece (Elt Ideal) S8192x128 .f32)) (h : off = ![r0, 0]) (j : Fin 8192) (l : Fin 128) :
    v.read (Elt Ideal) (v.writes (Elt Ideal) f (⟨Rect.unit (s := S8192x128) off S512x128.size inb, w⟩ :: L)) (ix2 j l)
      = if hj : r0 ≤ j.val ∧ j.val < r0 + 512 then w (ix2 ⟨j.val - r0, by omega⟩ l) else v.read (Elt Ideal) (v.writes (Elt Ideal) f L) (ix2 j l) := by
  split
  case isTrue hj =>
    exact View.read_writes_cons_rows_of_mem v f inb w L (ix2 j l) (ix2 ⟨j.val - r0, by omega⟩ l) h (show j.val = r0 + (j.val - r0) by omega) rfl
  case isFalse hj =>
    exact View.read_writes_cons_rows_of_not_mem (W := 512) v f inb w L (ix2 j l) h rfl (show j.val < r0 ∨ r0 + 512 ≤ j.val by omega)

/-- A block of 512 rows, with something added to what they held. -/
theorem rows_add (v : View sig κ sp S8192x128 .f32) (f : v.ty.Contents (Elt Ideal)) {off : Fin 2 → ℕ} {r0 : ℕ} (inb : ∀ a : Fin 2, off a + S512x128.size a ≤ S8192x128.size a)
    (w : FVec Ideal S512x128 .f32) (L : List (View.Piece (Elt Ideal) S8192x128 .f32)) (h : off = ![r0, 0]) (j : Fin 8192) (l : Fin 128) (X : ℝ)
    (hw : ∀ hj : r0 ≤ j.val ∧ j.val < r0 + 512, w (ix2 ⟨j.val - r0, by omega⟩ l)
      = v.readAt (Elt Ideal) (Rect.unit (s := S8192x128) off S512x128.size inb).toLoadRect (v.writes (Elt Ideal) f L) (ix2 ⟨j.val - r0, by omega⟩ l) + (X : EReal)) :
    v.read (Elt Ideal) (v.writes (Elt Ideal) f (⟨Rect.unit (s := S8192x128) off S512x128.size inb, w⟩ :: L)) (ix2 j l)
      = v.read (Elt Ideal) (v.writes (Elt Ideal) f L) (ix2 j l) + ((if r0 ≤ j.val ∧ j.val < r0 + 512 then X else 0 : ℝ) : EReal) := by
  rw [rows_store v f inb w L h]
  split
  case isTrue hj => rw [hw hj, rows_load v _ inb h _ _ j (show j.val = r0 + (j.val - r0) by omega)]
  case isFalse hj => rw [EReal.coe_zero, add_zero]

end Rows

/-- What one grid point's sweep is run over: the windows' buffers, the blocks read before the sweep, and the contents of
    the buffers it reads and adds to. -/
structure Pt where
  𝒱 : Variants
  c : Dev nD
  bd : Option 𝒱.V
  i : grid0.Coords
  arg2 : Memref sig .tc .vmem S512x128 .bf16
  harg2 : arg2.IsWhole
  arg3 : Memref sig .tc .vmem S8192x128 .bf16
  harg3 : arg3.IsWhole
  arg4 : Memref sig .tc .vmem S8192x128 .bf16
  harg4 : arg4.IsWhole
  arg5 : Memref sig .tc .vmem S1x2x8192 .f32
  harg5 : arg5.IsWhole
  arg6 : Memref sig .tc .vmem S512x128 .bf16
  harg6 : arg6.IsWhole
  arg7 : Memref sig .tc .vmem S512x128 .f32
  harg7 : arg7.IsWhole
  arg8 : Memref sig .tc .vmem S2x512x128 .f32
  harg8 : arg8.IsWhole
  arg9 : Memref sig .tc .vmem S512x128 .bf16
  harg9 : arg9.IsWhole
  arg10 : Memref sig .tc .vmem S8192x128 .f32
  harg10 : arg10.IsWhole
  arg11 : Memref sig .tc .vmem S8192x128 .f32
  harg11 : arg11.IsWhole
  arg12 : Memref sig .tc .vmem S8192x128 .f32
  harg12 : arg12.IsWhole
  arg1 : BitVec 32
  v1 : BitVec 32
  q : FVec Ideal S512x128 .bf16
  o : FVec Ideal S512x128 .bf16
  g : FVec Ideal S512x128 .f32
  e0 : FVec Ideal S1x512x128 .f32
  e1 : FVec Ideal S1x512x128 .f32
  X3 : BufTy.Contents (Elt Ideal) arg3.view.ty
  X4 : BufTy.Contents (Elt Ideal) arg4.view.ty
  X5 : BufTy.Contents (Elt Ideal) arg5.view.ty
  G10 : BufTy.Contents (Elt Ideal) arg10.view.ty
  G11 : BufTy.Contents (Elt Ideal) arg11.view.ty
  G12 : BufTy.Contents (Elt Ideal) arg12.view.ty

namespace Pt

/-- What the sweep has written and carries before trip `n`. -/
def st (x : Pt) (n : ℕ) : (FVec Ideal S512x128 .f32 × FVec Ideal S512x128 .f32) × List (View.Piece (Elt Ideal) S8192x128 .f32) × List (View.Piece (Elt Ideal) S8192x128 .f32) × List (View.Piece (Elt Ideal) S8192x128 .f32) :=
  st_k0_t1 (F := Ideal) x.𝒱 x.c x.bd x.i x.arg2 x.harg2 x.arg3 x.harg3 x.arg4 x.harg4 x.arg5 x.harg5 x.arg6 x.harg6 x.arg7 x.harg7 x.arg8 x.harg8 x.arg9 x.harg9 x.arg10 x.harg10 x.arg11 x.harg11 x.arg12 x.harg12
    x.arg1 x.v1 (k0_pay35 x.q) (k0_pay36 x.g) (k0_pay37 x.o) k0_pay38 (k0_pay40 x.q) (k0_pay41 x.q) (k0_pay43 x.g) (k0_pay44 x.g x.o) (k0_pay45 x.e0) (iota .tc S512x128 32 [1] iota_S512x128_d1_w32) k0_pay46 x.e1
    x.X3 x.X4 x.X5 x.G10 x.G11 x.G12 (k0_pay54, k0_pay54) n

/-- The three accumulators before trip `n`. -/
def dk (x : Pt) (n : ℕ) : FVec Ideal S8192x128 .f32 := x.arg10.view.read (Elt Ideal) (x.arg10.view.writes (Elt Ideal) x.G10 (x.st n).2.1)
def dv (x : Pt) (n : ℕ) : FVec Ideal S8192x128 .f32 := x.arg11.view.read (Elt Ideal) (x.arg11.view.writes (Elt Ideal) x.G11 (x.st n).2.2.1)
def dc (x : Pt) (n : ℕ) : FVec Ideal S8192x128 .f32 := x.arg12.view.read (Elt Ideal) (x.arg12.view.writes (Elt Ideal) x.G12 (x.st n).2.2.2)

section Trip

variable (x : Pt) (k : Fin (k0_t1_loop x.i).trips)

/-- The keys, values and running sums trip `k` reads. -/
def K : FVec Ideal S512x128 .bf16 := x.arg3.view.readAt (Elt Ideal) (Rect.unit (s := S8192x128) (k0_off1 x.i k) S512x128.size (k0_off1_inb x.i k)).toLoadRect x.X3
def V : FVec Ideal S512x128 .bf16 := x.arg4.view.readAt (Elt Ideal) (Rect.unit (s := S8192x128) (k0_off1 x.i k) S512x128.size (k0_off1_inb x.i k)).toLoadRect x.X4
def c0 : FVec Ideal S1x1x128 .f32 := x.arg5.view.readAt (Elt Ideal) (Rect.unit (s := S1x2x8192) (k0_off2 x.i) S1x1x128.size (k0_off2_inb x.i)).toLoadRect x.X5
def b0 : FVec Ideal S1x1x512 .f32 := x.arg5.view.readAt (Elt Ideal) (Rect.unit (s := S1x2x8192) (k0_off3 x.i k) S1x1x512.size (k0_off3_inb x.i k)).toLoadRect x.X5
def c1 : FVec Ideal S1x1x128 .f32 := x.arg5.view.readAt (Elt Ideal) (Rect.unit (s := S1x2x8192) (k0_off4 x.i) S1x1x128.size (k0_off4_inb x.i)).toLoadRect x.X5
def b1 : FVec Ideal S1x1x512 .f32 := x.arg5.view.readAt (Elt Ideal) (Rect.unit (s := S1x2x8192) (k0_off5 x.i k) S1x1x512.size (k0_off5_inb x.i k)).toLoadRect x.X5

/-- The second head's rows. -/
def qh1 : FVec Ideal S512x128 .bf16 := k0_pay48 (k0_pay35 x.q) (iota .tc S512x128 32 [1] iota_S512x128_d1_w32) k0_pay46
def qo1 : FVec Ideal S512x128 .bf16 := k0_pay49 (k0_pay35 x.q) (iota .tc S512x128 32 [1] iota_S512x128_d1_w32) k0_pay46
def gh1 : FVec Ideal S512x128 .bf16 := k0_pay51 (k0_pay36 x.g) (iota .tc S512x128 32 [1] iota_S512x128_d1_w32) k0_pay46
def d1 : FVec Ideal S512x1 .f32 := k0_pay52 (k0_pay36 x.g) (k0_pay37 x.o) (iota .tc S512x128 32 [1] iota_S512x128_d1_w32) k0_pay46

/-- The two heads' weights. -/
def w0 : FVec Ideal S512x512 .f32 := k0_pay4 (k0_pay40 x.q) (k0_pay45 x.e0) (x.K k) x.c0 (x.b0 k)
def w1 : FVec Ideal S512x512 .f32 := k0_pay4 x.qh1 (k0_pay53 x.e1) (x.K k) x.c1 (x.b1 k)

/-- What trip `k` does to what is carried and written: the tiles of both heads, added in. -/
theorem st_succ : x.st (k.val + 1) =
    ((addf (x.st k.val).1.1 (matmul dot_S512x512_S512x128_S512x128_1_0_0_1_n_n none (k0_pay67 (F := Ideal) (k0_pay43 x.g) (k0_pay44 x.g x.o) (k0_pay3 (x.V k)) (x.w0 k) (constant S512x512 .f32 0x00000000#32))
        (select k0_pay39 (k0_pay2 (x.K k)) (broadcast S512x128 (Scalar.ofBits .bf16 0x3F80#16))) (constant S512x128 .f32 0x00000000#32)),
      k0_pay69 (F := Ideal) x.gh1 x.d1 (x.st k.val).1.2 (k0_pay2 (x.K k)) (k0_pay3 (x.V k)) (x.w1 k) (constant S512x512 .f32 0x00000000#32)),
     ⟨Rect.unit (s := S8192x128) (k0_off1 x.i k) S512x128.size (k0_off1_inb x.i k),
      addf (shapeCast S512x128 (x.arg10.view.readAt (Elt Ideal) (Rect.unit (s := S8192x128) (k0_off1 x.i k) S512x128.size (k0_off1_inb x.i k)).toLoadRect (x.arg10.view.writes (Elt Ideal) x.G10 (x.st k.val).2.1)) shapeCasts_S512x128_S512x128)
        (select k0_pay38 (k0_pay68 (F := Ideal) (k0_pay41 x.q) (k0_pay43 x.g) (k0_pay44 x.g x.o) (k0_pay3 (x.V k)) (x.w0 k) (constant S512x512 .f32 0x00000000#32))
          (k0_pay68 (F := Ideal) x.qo1 x.gh1 x.d1 (k0_pay3 (x.V k)) (x.w1 k) (constant S512x512 .f32 0x00000000#32)))⟩ :: (x.st k.val).2.1,
     ⟨Rect.unit (s := S8192x128) (k0_off1 x.i k) S512x128.size (k0_off1_inb x.i k),
      addf (shapeCast S512x128 (x.arg11.view.readAt (Elt Ideal) (Rect.unit (s := S8192x128) (k0_off1 x.i k) S512x128.size (k0_off1_inb x.i k)).toLoadRect (x.arg11.view.writes (Elt Ideal) x.G11 (x.st k.val).2.2.1)) shapeCasts_S512x128_S512x128)
        (addf (matmul dot_S512x512_S512x128_S512x128_0_0_1_1_n_n none (truncf .bf16 (x.w0 k) bitsLt_bf16_f32) (k0_pay43 x.g) (constant S512x128 .f32 0x00000000#32) : FVec Ideal S512x128 .f32)
          (matmul dot_S512x512_S512x128_S512x128_0_0_1_1_n_n none (truncf .bf16 (x.w1 k) bitsLt_bf16_f32) x.gh1 (constant S512x128 .f32 0x00000000#32) : FVec Ideal S512x128 .f32))⟩ :: (x.st k.val).2.2.1,
     ⟨Rect.unit (s := S8192x128) (k0_off1 x.i k) S512x128.size (k0_off1_inb x.i k),
      subf (shapeCast S512x128 (x.arg12.view.readAt (Elt Ideal) (Rect.unit (s := S8192x128) (k0_off1 x.i k) S512x128.size (k0_off1_inb x.i k)).toLoadRect (x.arg12.view.writes (Elt Ideal) x.G12 (x.st k.val).2.2.2)) shapeCasts_S512x128_S512x128)
        (select k0_pay38 (k0_pay68 (F := Ideal) x.qo1 x.gh1 x.d1 (k0_pay3 (x.V k)) (x.w1 k) (constant S512x512 .f32 0x00000000#32))
          (k0_pay68 (F := Ideal) (k0_pay41 x.q) (k0_pay43 x.g) (k0_pay44 x.g x.o) (k0_pay3 (x.V k)) (x.w0 k) (constant S512x512 .f32 0x00000000#32)))⟩ :: (x.st k.val).2.2.2) := by
  unfold st
  rw [st_k0_t1_succ]
  delta tripL_k0_t1 tripR_k0_t1
  unfold trip_k0_t1
  dsimp only
  generalize st_k0_t1 (F := Ideal) x.𝒱 x.c x.bd x.i x.arg2 x.harg2 x.arg3 x.harg3 x.arg4 x.harg4 x.arg5 x.harg5 x.arg6 x.harg6 x.arg7 x.harg7 x.arg8 x.harg8 x.arg9 x.harg9 x.arg10 x.harg10 x.arg11 x.harg11 x.arg12 x.harg12
      x.arg1 x.v1 (k0_pay35 x.q) (k0_pay36 x.g) (k0_pay37 x.o) k0_pay38 (k0_pay40 x.q) (k0_pay41 x.q) (k0_pay43 x.g) (k0_pay44 x.g x.o) (k0_pay45 x.e0) (iota .tc S512x128 32 [1] iota_S512x128_d1_w32) k0_pay46 x.e1
      x.X3 x.X4 x.X5 x.G10 x.G11 x.G12 (k0_pay54, k0_pay54) k.val = S
  rfl

end Trip

/-- What the windows hold, at grid point `t`: pair of heads `t / 16`, query block `t % 16`. -/
structure Ok (D : Data) (s0 s1 : ℝ) (t : Fin cfg0.N) (x : Pt) : Prop where
  i : x.i = grid0.coords t
  r0 : Rows D (t.val / 16) 0 (512 * (t.val % 16)) s0 (k0_pay40 x.q) (k0_pay41 x.q) (k0_pay43 x.g) (k0_pay44 x.g x.o) (k0_pay45 x.e0)
  r1 : Rows D (t.val / 16) 1 (512 * (t.val % 16)) s1 x.qh1 x.qo1 x.gh1 x.d1 (k0_pay53 x.e1)
  k : ∀ (j : Fin 8192) (l : Fin 128), x.arg3.view.read (Elt Ideal) x.X3 (ix2 j l) = ((D.k (2 * (t.val / 16) + l / 64) j (l % 64) : ℝ) : EReal)
  v : ∀ (j : Fin 8192) (l : Fin 128), x.arg4.view.read (Elt Ideal) x.X4 (ix2 j l) = ((D.v (2 * (t.val / 16) + l / 64) j (l % 64) : ℝ) : EReal)
  c : ∀ (b : Fin 2) (j : Fin 8192), x.arg5.view.read (Elt Ideal) x.X5 (ix3 0 b j) = ((D.c (2 * (t.val / 16) + b) j : ℝ) : EReal)
  s0 : Finset.fold max ⊥ (fun a : Fin 128 => x.arg5.view.read (Elt Ideal) x.X5 (ix3 0 0 ⟨512 * (t.val % 16) + a, by omega⟩)) Finset.univ = (s0 : EReal)
  s1 : Finset.fold max ⊥ (fun a : Fin 128 => x.arg5.view.read (Elt Ideal) x.X5 (ix3 0 1 ⟨512 * (t.val % 16) + a, by omega⟩)) Finset.univ = (s1 : EReal)

section Sweep

variable {D : Data} {s0 s1 : ℝ} {t : Fin cfg0.N} {x : Pt}

theorem keys (H : Ok D s0 s1 t x) (k : Fin (k0_t1_loop x.i).trips) (hk : k.val < t.val % 16) : Keys D (t.val / 16) (512 * k.val) (x.K k) (x.V k) := by
  obtain ⟨𝒱, c, bd, i, a2, ha2, a3, ha3, a4, ha4, a5, ha5, a6, ha6, a7, ha7, a8, ha8, a9, ha9, a10, ha10, a11, ha11, a12, ha12, a1, v1, q, o, g, e0, e1, X3, X4, X5, G10, G11, G12⟩ := x
  obtain ⟨hi, -, -, hk', hv', -, -, -⟩ := H
  dsimp only at hi k hk' hv'
  subst hi
  refine ⟨fun j l => ?_, fun j l => ?_⟩
  · exact (rows_load a3.view X3 _ (off1 t k) j l ⟨512 * k.val + j.val, by omega⟩ rfl).trans (hk' _ _)
  · exact (rows_load a4.view X4 _ (off1 t k) j l ⟨512 * k.val + j.val, by omega⟩ rfl).trans (hv' _ _)

theorem decays0 (H : Ok D s0 s1 t x) (k : Fin (k0_t1_loop x.i).trips) (hk : k.val < t.val % 16) : Decays D (t.val / 16) 0 (512 * k.val) s0 x.c0 (x.b0 k) := by
  obtain ⟨𝒱, c, bd, i, a2, ha2, a3, ha3, a4, ha4, a5, ha5, a6, ha6, a7, ha7, a8, ha8, a9, ha9, a10, ha10, a11, ha11, a12, ha12, a1, v1, q, o, g, e0, e1, X3, X4, X5, G10, G11, G12⟩ := x
  obtain ⟨hi, -, -, -, -, hc, h0, -⟩ := H
  dsimp only at hi k hc h0
  subst hi
  refine ⟨?_, fun j => ?_⟩
  · rw [pay60_apply, ← h0]
    exact congrArg (fun f => Finset.fold max ⊥ f Finset.univ) (funext fun a => sums_load a5.view X5 _ (off2 t).1 a 0 rfl ⟨512 * (t.val % 16) + a, by omega⟩ rfl)
  · exact (sums_load a5.view X5 _ (off3 t k) j 0 rfl ⟨512 * k.val + j.val, by omega⟩ rfl).trans (hc _ _)

theorem decays1 (H : Ok D s0 s1 t x) (k : Fin (k0_t1_loop x.i).trips) (hk : k.val < t.val % 16) : Decays D (t.val / 16) 1 (512 * k.val) s1 x.c1 (x.b1 k) := by
  obtain ⟨𝒱, c, bd, i, a2, ha2, a3, ha3, a4, ha4, a5, ha5, a6, ha6, a7, ha7, a8, ha8, a9, ha9, a10, ha10, a11, ha11, a12, ha12, a1, v1, q, o, g, e0, e1, X3, X4, X5, G10, G11, G12⟩ := x
  obtain ⟨hi, -, -, -, -, hc, -, h1⟩ := H
  dsimp only at hi k hc h1
  subst hi
  refine ⟨?_, fun j => ?_⟩
  · rw [pay60_apply, ← h1]
    exact congrArg (fun f => Finset.fold max ⊥ f Finset.univ) (funext fun a => sums_load a5.view X5 _ (off2 t).2.1 a 1 rfl ⟨512 * (t.val % 16) + a, by omega⟩ rfl)
  · exact (sums_load a5.view X5 _ (off5 t k) j 1 rfl ⟨512 * k.val + j.val, by omega⟩ rfl).trans (hc _ _)

/-- What the sweep has done before trip `n`. -/
structure Inv (D : Data) (t : Fin cfg0.N) (x : Pt) (n : ℕ) : Prop where
  q0 : ∀ (a : Fin 512) (l : Fin 128), (x.st n).1.1 (ix2 a l) = ((∑ b ∈ Finset.range n, qryC D (t.val / 16) 0 (512 * (t.val % 16)) (512 * b) a l : ℝ) : EReal)
  q1 : ∀ (a : Fin 512) (l : Fin 128), (x.st n).1.2 (ix2 a l) = ((∑ b ∈ Finset.range n, qryC D (t.val / 16) 1 (512 * (t.val % 16)) (512 * b) a l : ℝ) : EReal)
  dk : ∀ (j : Fin 8192) (l : Fin 128), x.dk n (ix2 j l) = x.dk 0 (ix2 j l) + ((if j.val < 512 * n then keyC D (t.val / 16) (512 * (t.val % 16)) j l else 0 : ℝ) : EReal)
  dv : ∀ (j : Fin 8192) (l : Fin 128), x.dv n (ix2 j l) = x.dv 0 (ix2 j l) + ((if j.val < 512 * n then valC D (t.val / 16) (512 * (t.val % 16)) j l else 0 : ℝ) : EReal)
  dc : ∀ (j : Fin 8192) (l : Fin 128), x.dc n (ix2 j l) = x.dc 0 (ix2 j l) + ((if j.val < 512 * n then -colC D (t.val / 16) (512 * (t.val % 16)) j l else 0 : ℝ) : EReal)

theorem inv_zero : Inv D t x 0 := by
  have e : x.st 0 = ((k0_pay54, k0_pay54), [], [], []) := rfl
  refine ⟨fun a l => ?_, fun a l => ?_, fun j l => ?_, fun j l => ?_, fun j l => ?_⟩
  · rw [e, Finset.sum_range_zero, EReal.coe_zero]
    pointwise [k0_pay54]
  · rw [e, Finset.sum_range_zero, EReal.coe_zero]
    pointwise [k0_pay54]
  all_goals rw [if_neg (by omega), EReal.coe_zero, add_zero]

/-- Reals added at a stretch of rows, after those before it. -/
theorem step_add {B X Y : EReal} {C : ℝ} {j n : ℕ} (h : X = B + ((if j < 512 * n then C else 0 : ℝ) : EReal)) (e : Y = X + ((if 512 * n ≤ j ∧ j < 512 * n + 512 then C else 0 : ℝ) : EReal)) :
    Y = B + ((if j < 512 * (n + 1) then C else 0 : ℝ) : EReal) := by
  rw [e, h, add_assoc, ← EReal.coe_add]
  congr 2
  split_ifs <;> first | omega | simp

theorem inv_succ (H : Ok D s0 s1 t x) (k : Fin (k0_t1_loop x.i).trips) (hk : k.val < t.val % 16) (I : Inv D t x k.val) : Inv D t x (k.val + 1) := by
  have X := keys H k hk
  have hw0 : ∀ a j, x.w0 k (ix2 a j) = ((P D (2 * (t.val / 16) + 0) (512 * (t.val % 16) + a) (512 * k.val + j) : ℝ) : EReal) := fun a j =>
    weight (by omega) H.r0 X (decays0 H k hk) a j (by omega)
  have hw1 : ∀ a j, x.w1 k (ix2 a j) = ((P D (2 * (t.val / 16) + 1) (512 * (t.val % 16) + a) (512 * k.val + j) : ℝ) : EReal) := fun a j =>
    weight (by omega) H.r1 X (decays1 H k hk) a j (by omega)
  have ho : k0_off1 x.i k = ![512 * k.val, 0] := by
    obtain ⟨hi, -⟩ := H
    obtain ⟨𝒱, c, bd, i, a2, ha2, a3, ha3, a4, ha4, a5, ha5, a6, ha6, a7, ha7, a8, ha8, a9, ha9, a10, ha10, a11, ha11, a12, ha12, a1, v1, q, o, g, e0, e1, X3, X4, X5, G10, G11, G12⟩ := x
    dsimp only at hi k
    subst hi
    exact off1 t k
  have e := st_succ x k
  rw [pay2_id, pay3_id] at e
  have hj : ∀ j : Fin 8192, (512 * k.val ≤ j.val ∧ j.val < 512 * k.val + 512) → 512 * k.val + (j.val - 512 * k.val) = j.val := fun j h => by omega
  refine ⟨fun a l => ?_, fun a l => ?_, fun j l => step_add (I.dk j l) ?_, fun j l => step_add (I.dv j l) ?_, fun j l => step_add (I.dc j l) ?_⟩
  · rw [e, Finset.sum_range_succ, EReal.coe_add, ← I.q0]
    exact queryTile0 H.r0 X hw0 _ a l
  · rw [e, Finset.sum_range_succ, EReal.coe_add, ← I.q1]
    exact queryTile1 H.r1 X hw1 _ a l
  · unfold dk
    rw [e]
    refine rows_add _ _ _ _ _ ho j l _ fun h => ?_
    refine congrArg₂ (· + ·) ?_ ((keyBoth H.r0 H.r1 X hw0 hw1 ⟨j.val - 512 * k.val, by omega⟩ l).trans (by rw [hj j h]))
    pointwise
  · unfold dv
    rw [e]
    refine rows_add _ _ _ _ _ ho j l _ fun h => ?_
    refine congrArg₂ (· + ·) ?_ ((valueBoth H.r0 H.r1 hw0 hw1 ⟨j.val - 512 * k.val, by omega⟩ l).trans (by rw [hj j h]))
    pointwise
  · unfold dc
    rw [e]
    refine rows_add _ _ _ _ _ ho j l _ fun h => ?_
    rw [EReal.coe_neg, ← sub_eq_add_neg]
    refine congrArg₂ (· - ·) ?_ ((colBoth H.r0 H.r1 X hw0 hw1 ⟨j.val - 512 * k.val, by omega⟩ l).trans (by rw [hj j h]))
    pointwise

theorem inv (H : Ok D s0 s1 t x) : ∀ n, n ≤ t.val % 16 → Inv D t x n
  | 0, _ => inv_zero
  | n + 1, h => inv_succ H ⟨n, by rw [H.i, trips]; omega⟩ (by simp only; omega) (inv H n (by omega))

end Sweep

end Pt

end Cert.FoxBwdIdeal.Grad

end
-- ==== Proof.FoxPoint.lean ====
module

public import proofs.«01_k».proof.Proof.FoxLoop
public import proofs.«01_k».proof.Proof.Gen.FoxBwdIdeal.Frame

/-! # One grid point of the attention's backward call

The loop, then the block on the diagonal, and what the point leaves in each of its buffers. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Cert.Reals Cert.Fox

namespace Pt

section Last

variable (x : Pt)

/-- The diagonal block's keys, values and running sums. -/
def Km : FVec Ideal S512x128 .bf16 := x.arg3.view.readAt (Elt Ideal) (Rect.unit (s := S8192x128) (k0_off11 x.i) S512x128.size (k0_off11_inb x.i)).toLoadRect x.X3
def Vm : FVec Ideal S512x128 .bf16 := x.arg4.view.readAt (Elt Ideal) (Rect.unit (s := S8192x128) (k0_off11 x.i) S512x128.size (k0_off11_inb x.i)).toLoadRect x.X4
def cm0 : FVec Ideal S1x1x128 .f32 := x.arg5.view.readAt (Elt Ideal) (Rect.unit (s := S1x2x8192) (k0_off12 x.i) S1x1x128.size (k0_off12_inb x.i)).toLoadRect x.X5
def bm0 : FVec Ideal S1x1x512 .f32 := x.arg5.view.readAt (Elt Ideal) (Rect.unit (s := S1x2x8192) (k0_off13 x.i) S1x1x512.size (k0_off13_inb x.i)).toLoadRect x.X5
def cm1 : FVec Ideal S1x1x128 .f32 := x.arg5.view.readAt (Elt Ideal) (Rect.unit (s := S1x2x8192) (k0_off14 x.i) S1x1x128.size (k0_off14_inb x.i)).toLoadRect x.X5
def bm1 : FVec Ideal S1x1x512 .f32 := x.arg5.view.readAt (Elt Ideal) (Rect.unit (s := S1x2x8192) (k0_off15 x.i) S1x1x512.size (k0_off15_inb x.i)).toLoadRect x.X5

/-- The two heads' weights on it, those above the diagonal masked away. -/
def wm0 : FVec Ideal S512x512 .f32 :=
  k0_pay66 (iota .tc S512x512 32 [0] iota_S512x512_d0_w32) (iota .tc S512x512 32 [1] iota_S512x512_d1_w32) (k0_pay40 x.q) (k0_pay45 x.e0) (k0_pay57 x.Km) x.cm0 x.bm0
def wm1 : FVec Ideal S512x512 .f32 :=
  k0_pay66 (iota .tc S512x512 32 [0] iota_S512x512_d0_w32) (iota .tc S512x512 32 [1] iota_S512x512_d1_w32) x.qh1 (k0_pay53 x.e1) (k0_pay57 x.Km) x.cm1 x.bm1

/-- The heads' tiles of the queries, with what the sweep carried. -/
def qm0 (s : FVec Ideal S512x128 .f32) : FVec Ideal S512x128 .f32 :=
  addf s (matmul dot_S512x512_S512x128_S512x128_1_0_0_1_n_n none (k0_pay67 (F := Ideal) (k0_pay43 x.g) (k0_pay44 x.g x.o) (k0_pay58 x.Vm) x.wm0 (constant S512x512 .f32 0x00000000#32))
        (select k0_pay39 (k0_pay57 x.Km) (broadcast S512x128 (Scalar.ofBits .bf16 0x3F80#16))) (constant S512x128 .f32 0x00000000#32))
def qm1 (s : FVec Ideal S512x128 .f32) : FVec Ideal S512x128 .f32 :=
  k0_pay69 (F := Ideal) x.gh1 x.d1 s (k0_pay57 x.Km) (k0_pay58 x.Vm) x.wm1 (constant S512x512 .f32 0x00000000#32)

/-- The diagonal block's stores: added to the keys', to the values', and to the decays' accumulator, whose second store adds
    the row sums that the first block of queries is left with. -/
def last10 (f : BufTy.Contents (Elt Ideal) x.arg10.view.ty) (L : List (View.Piece (Elt Ideal) S8192x128 .f32)) : View.Piece (Elt Ideal) S8192x128 .f32 :=
  ⟨Rect.unit (s := S8192x128) (k0_off11 x.i) S512x128.size (k0_off11_inb x.i),
      addf (shapeCast S512x128 (x.arg10.view.readAt (Elt Ideal) (Rect.unit (s := S8192x128) (k0_off11 x.i) S512x128.size (k0_off11_inb x.i)).toLoadRect (x.arg10.view.writes (Elt Ideal) f L)) shapeCasts_S512x128_S512x128)
        (select k0_pay38 (k0_pay68 (F := Ideal) (k0_pay41 x.q) (k0_pay43 x.g) (k0_pay44 x.g x.o) (k0_pay58 x.Vm) x.wm0 (constant S512x512 .f32 0x00000000#32))
          (k0_pay68 (F := Ideal) x.qo1 x.gh1 x.d1 (k0_pay58 x.Vm) x.wm1 (constant S512x512 .f32 0x00000000#32)))⟩

def last11 (f : BufTy.Contents (Elt Ideal) x.arg11.view.ty) (L : List (View.Piece (Elt Ideal) S8192x128 .f32)) : View.Piece (Elt Ideal) S8192x128 .f32 :=
  ⟨Rect.unit (s := S8192x128) (k0_off11 x.i) S512x128.size (k0_off11_inb x.i),
      addf (shapeCast S512x128 (x.arg11.view.readAt (Elt Ideal) (Rect.unit (s := S8192x128) (k0_off11 x.i) S512x128.size (k0_off11_inb x.i)).toLoadRect (x.arg11.view.writes (Elt Ideal) f L)) shapeCasts_S512x128_S512x128)
        (addf (matmul dot_S512x512_S512x128_S512x128_0_0_1_1_n_n none (truncf .bf16 x.wm0 bitsLt_bf16_f32) (k0_pay43 x.g) (constant S512x128 .f32 0x00000000#32) : FVec Ideal S512x128 .f32)
          (matmul dot_S512x512_S512x128_S512x128_0_0_1_1_n_n none (truncf .bf16 x.wm1 bitsLt_bf16_f32) x.gh1 (constant S512x128 .f32 0x00000000#32) : FVec Ideal S512x128 .f32))⟩

def cols12 (f : BufTy.Contents (Elt Ideal) x.arg12.view.ty) (L : List (View.Piece (Elt Ideal) S8192x128 .f32)) : View.Piece (Elt Ideal) S8192x128 .f32 :=
  ⟨Rect.unit (s := S8192x128) (k0_off11 x.i) S512x128.size (k0_off11_inb x.i),
      subf (shapeCast S512x128 (x.arg12.view.readAt (Elt Ideal) (Rect.unit (s := S8192x128) (k0_off11 x.i) S512x128.size (k0_off11_inb x.i)).toLoadRect (x.arg12.view.writes (Elt Ideal) f L)) shapeCasts_S512x128_S512x128)
        (select k0_pay38 (k0_pay68 (F := Ideal) x.qo1 x.gh1 x.d1 (k0_pay58 x.Vm) x.wm1 (constant S512x512 .f32 0x00000000#32))
          (k0_pay68 (F := Ideal) (k0_pay41 x.q) (k0_pay43 x.g) (k0_pay44 x.g x.o) (k0_pay58 x.Vm) x.wm0 (constant S512x512 .f32 0x00000000#32)))⟩

def rows12 (s : FVec Ideal S512x128 .f32 × FVec Ideal S512x128 .f32) (L : List (View.Piece (Elt Ideal) S8192x128 .f32)) : View.Piece (Elt Ideal) S8192x128 .f32 :=
  ⟨Rect.unit (s := S8192x128) (k0_off11 x.i) S512x128.size (k0_off11_inb x.i),
      addf (shapeCast S512x128 (x.arg12.view.readCov L (Rect.unit (s := S8192x128) (k0_off11 x.i) S512x128.size (k0_off11_inb x.i)).toLoadRect) shapeCasts_S512x128_S512x128)
        (select k0_pay38 (x.qm1 s.2) (x.qm0 s.1))⟩

/-- The queries' gradient. -/
def lastq (s : FVec Ideal S512x128 .f32 × FVec Ideal S512x128 .f32) : View.Piece (Elt Ideal) S512x128 .bf16 :=
  ⟨Rect.unit (s := S512x128) ![0, 0] S512x128.size inb_S512x128_S512x128_0_0, k0_pay1 k0_pay38 (x.qm0 s.1) (x.qm1 s.2)⟩

/-- The second sweep, which has no trips. -/
def two (f10 : BufTy.Contents (Elt Ideal) x.arg10.view.ty) (f11 : BufTy.Contents (Elt Ideal) x.arg11.view.ty) (f12 : BufTy.Contents (Elt Ideal) x.arg12.view.ty)
    (s : FVec Ideal S512x128 .f32 × FVec Ideal S512x128 .f32) : (FVec Ideal S512x128 .f32 × FVec Ideal S512x128 .f32) × List (View.Piece (Elt Ideal) S8192x128 .f32) × List (View.Piece (Elt Ideal) S8192x128 .f32) × List (View.Piece (Elt Ideal) S8192x128 .f32) :=
  st_k0_t2 (F := Ideal) x.𝒱 x.c x.bd x.i x.arg2 x.harg2 x.arg3 x.harg3 x.arg4 x.harg4 x.arg5 x.harg5 x.arg6 x.harg6 x.arg7 x.harg7 x.arg8 x.harg8 x.arg9 x.harg9 x.arg10 x.harg10 x.arg11 x.harg11 x.arg12 x.harg12
    x.arg1 x.v1 (k0_pay35 x.q) (k0_pay36 x.g) (k0_pay37 x.o) k0_pay38 (k0_pay40 x.q) (k0_pay41 x.q) (k0_pay43 x.g) (k0_pay44 x.g x.o) (k0_pay45 x.e0) (iota .tc S512x128 32 [1] iota_S512x128_d1_w32) k0_pay46 x.e1
    (k0_t1_loop x.i).ub x.X3 x.X4 x.X5 f10 f11 f12 s (k0_t2_loop x.i).trips

theorem trips2 : ∀ t : Fin cfg0.N, (k0_t2_loop (grid0.coords t)).trips = 0 := by decide +kernel

theorem two_eq (t : Fin cfg0.N) (h : x.i = grid0.coords t) (f10 : BufTy.Contents (Elt Ideal) x.arg10.view.ty) (f11 : BufTy.Contents (Elt Ideal) x.arg11.view.ty) (f12 : BufTy.Contents (Elt Ideal) x.arg12.view.ty)
    (s : FVec Ideal S512x128 .f32 × FVec Ideal S512x128 .f32) : x.two f10 f11 f12 s = (s, [], [], []) := by
  unfold two
  rw [(congrArg (fun i => (k0_t2_loop i).trips) h).trans (trips2 t)]
  rfl

end Last

end Pt

section Runs

/-- A grid point's sweep, over windows that hold `x0 … x6` and accumulators that hold `G10`, `G11`, `G12`. -/
def pt (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x2x8192 .f32) (harg5 : arg5.IsWhole) (arg6 : Memref sig .tc .vmem S512x128 .bf16) (harg6 : arg6.IsWhole) (arg7 : Memref sig .tc .vmem S512x128 .f32) (harg7 : arg7.IsWhole) (arg8 : Memref sig .tc .vmem S2x512x128 .f32) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole)
  (x0 : Vec Ideal S512x128 .bf16) (x1 : Vec Ideal S8192x128 .bf16) (x2 : Vec Ideal S8192x128 .bf16) (x3 : Vec Ideal S1x2x8192 .f32) (x4 : Vec Ideal S512x128 .bf16) (x5 : Vec Ideal S512x128 .f32) (x6 : Vec Ideal S2x512x128 .f32)
    (G10 : BufTy.Contents (Elt Ideal) arg10.view.ty) (G11 : BufTy.Contents (Elt Ideal) arg11.view.ty) (G12 : BufTy.Contents (Elt Ideal) arg12.view.ty) : Pt where
  𝒱 := Variants.none
  c := c
  bd := none
  i := i
  arg2 := arg2
  harg2 := harg2
  arg3 := arg3
  harg3 := harg3
  arg4 := arg4
  harg4 := harg4
  arg5 := arg5
  harg5 := harg5
  arg6 := arg6
  harg6 := harg6
  arg7 := arg7
  harg7 := harg7
  arg8 := arg8
  harg8 := harg8
  arg9 := arg9
  harg9 := harg9
  arg10 := arg10
  harg10 := harg10
  arg11 := arg11
  harg11 := harg11
  arg12 := arg12
  harg12 := harg12
  arg1 := BitVec.ofNat 32 (i 1).val
  v1 := Scalar.muli (BitVec.ofNat 32 (i 1).val) 512#32
  q := arg2.view.readAt (Elt Ideal) (Rect.unit ![0, 0] S512x128.size inb_S512x128_S512x128_0_0).toLoadRect (harg2.unread x0)
  o := arg6.view.readAt (Elt Ideal) (Rect.unit ![0, 0] S512x128.size inb_S512x128_S512x128_0_0).toLoadRect (harg6.unread x4)
  g := arg7.view.readAt (Elt Ideal) (Rect.unit ![0, 0] S512x128.size inb_S512x128_S512x128_0_0).toLoadRect (harg7.unread x5)
  e0 := arg8.view.readAt (Elt Ideal) (Rect.unit (s := S2x512x128) ![0, 0, 0] S1x512x128.size inb_S2x512x128_S1x512x128_0_0_0).toLoadRect (harg8.unread x6)
  e1 := arg8.view.readAt (Elt Ideal) (Rect.unit (s := S2x512x128) ![1, 0, 0] S1x512x128.size inb_S2x512x128_S1x512x128_1_0_0).toLoadRect (harg8.unread x6)
  X3 := harg3.unread x1
  X4 := harg4.unread x2
  X5 := harg5.unread x3
  G10 := G10
  G11 := G11
  G12 := G12

set_option maxHeartbeats 1000000 in
/-- What a point that continues a pair of heads stores. -/
theorem runB (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x2x8192 .f32) (harg5 : arg5.IsWhole) (arg6 : Memref sig .tc .vmem S512x128 .bf16) (harg6 : arg6.IsWhole) (arg7 : Memref sig .tc .vmem S512x128 .f32) (harg7 : arg7.IsWhole) (arg8 : Memref sig .tc .vmem S2x512x128 .f32) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole)
  (x0 : Vec Ideal S512x128 .bf16) (x1 : Vec Ideal S8192x128 .bf16) (x2 : Vec Ideal S8192x128 .bf16) (x3 : Vec Ideal S1x2x8192 .f32) (x4 : Vec Ideal S512x128 .bf16) (x5 : Vec Ideal S512x128 .f32) (x6 : Vec Ideal S2x512x128 .f32)
    (hc0 : ¬cond0_0 i) (xo8 xo9 xo10 : Vec Ideal S8192x128 .f32) :
    let x := pt c i arg2 harg2 arg3 harg3 arg4 harg4 arg5 harg5 arg6 harg6 arg7 harg7 arg8 harg8 arg9 harg9 arg10 harg10 arg11 harg11 arg12 harg12 x0 x1 x2 x3 x4 x5 x6 (harg10.unread xo8) (harg11.unread xo9) (harg12.unread xo10)
    let S := x.st (k0_t1_loop i).trips
    let T := x.two (arg10.view.writes (Elt Ideal) (harg10.unread xo8) S.2.1) (arg11.view.writes (Elt Ideal) (harg11.unread xo9) S.2.2.1) (arg12.view.writes (Elt Ideal) (harg12.unread xo10) S.2.2.2) (S.1.1, S.1.2)
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xo8 xo9 xo10).1 = [x.lastq T.1] ∧ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xo8 xo9 xo10).2.1 = x.last10 (harg10.unread xo8) (T.2.1 ++ S.2.1) :: (T.2.1 ++ S.2.1)
      ∧ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xo8 xo9 xo10).2.2.1 = x.last11 (harg11.unread xo9) (T.2.2.1 ++ S.2.2.1) :: (T.2.2.1 ++ S.2.2.1)
      ∧ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xo8 xo9 xo10).2.2.2.1 = x.rows12 T.1 (x.cols12 (harg12.unread xo10) (T.2.2.2 ++ S.2.2.2) :: (T.2.2.2 ++ S.2.2.2)) :: x.cols12 (harg12.unread xo10) (T.2.2.2 ++ S.2.2.2) :: (T.2.2.2 ++ S.2.2.2) := by
  intro x S T
  refine ⟨?_, ?_, ?_, ?_⟩
  all_goals
    sl_kernel_rfl

set_option maxHeartbeats 1000000 in
/-- What a point that begins one stores. -/
theorem runA (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x2x8192 .f32) (harg5 : arg5.IsWhole) (arg6 : Memref sig .tc .vmem S512x128 .bf16) (harg6 : arg6.IsWhole) (arg7 : Memref sig .tc .vmem S512x128 .f32) (harg7 : arg7.IsWhole) (arg8 : Memref sig .tc .vmem S2x512x128 .f32) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole)
  (x0 : Vec Ideal S512x128 .bf16) (x1 : Vec Ideal S8192x128 .bf16) (x2 : Vec Ideal S8192x128 .bf16) (x3 : Vec Ideal S1x2x8192 .f32) (x4 : Vec Ideal S512x128 .bf16) (x5 : Vec Ideal S512x128 .f32) (x6 : Vec Ideal S2x512x128 .f32)
    (hc0 : cond0_0 i) :
    let x := pt c i arg2 harg2 arg3 harg3 arg4 harg4 arg5 harg5 arg6 harg6 arg7 harg7 arg8 harg8 arg9 harg9 arg10 harg10 arg11 harg11 arg12 harg12 x0 x1 x2 x3 x4 x5 x6 (arg10.view.writes (Elt Ideal) arg10.view.junk kernelRun0_A.sl.H8_1) (arg11.view.writes (Elt Ideal) arg11.view.junk kernelRun0_A.sl.H9_1) (arg12.view.writes (Elt Ideal) arg12.view.junk kernelRun0_A.sl.H10_1)
    let S := x.st (k0_t1_loop i).trips
    let T := x.two (arg10.view.writes (Elt Ideal) arg10.view.junk (S.2.1 ++ kernelRun0_A.sl.H8_1)) (arg11.view.writes (Elt Ideal) arg11.view.junk (S.2.2.1 ++ kernelRun0_A.sl.H9_1)) (arg12.view.writes (Elt Ideal) arg12.view.junk (S.2.2.2 ++ kernelRun0_A.sl.H10_1)) (S.1.1, S.1.2)
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1 = [x.lastq T.1] ∧ (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1 = x.last10 arg10.view.junk (T.2.1 ++ (S.2.1 ++ kernelRun0_A.sl.H8_1)) :: (T.2.1 ++ (S.2.1 ++ kernelRun0_A.sl.H8_1))
      ∧ (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1 = x.last11 arg11.view.junk (T.2.2.1 ++ (S.2.2.1 ++ kernelRun0_A.sl.H9_1)) :: (T.2.2.1 ++ (S.2.2.1 ++ kernelRun0_A.sl.H9_1))
      ∧ (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1 = x.rows12 T.1 (x.cols12 arg12.view.junk (T.2.2.2 ++ (S.2.2.2 ++ kernelRun0_A.sl.H10_1)) :: (T.2.2.2 ++ (S.2.2.2 ++ kernelRun0_A.sl.H10_1))) :: x.cols12 arg12.view.junk (T.2.2.2 ++ (S.2.2.2 ++ kernelRun0_A.sl.H10_1)) :: (T.2.2.2 ++ (S.2.2.2 ++ kernelRun0_A.sl.H10_1)) := by
  intro x S T
  refine ⟨?_, ?_, ?_, ?_⟩
  all_goals
    sl_kernel_rfl

end Runs

end Cert.FoxBwdIdeal.Grad

end
-- ==== Proof.FoxLast.lean ====
module

public import proofs.«01_k».proof.Proof.FoxPoint

/-! # A grid point's diagonal block

Grid point `t` sweeps the key blocks before its own block of queries (`Pt.inv`) and ends with the block on the diagonal.
Here that last block is read, and what the whole point has added to each accumulator, and its queries' gradient, follow. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Cert.Reals Cert.Fox

section Sums

variable (D : Data)

/-- A query's sum over the key blocks up to its own is the sum over all keys. -/
theorem query_sum (p hh a l : ℕ) {n : ℕ} (hn : n < 16) (ha : a < 512) :
    (∑ b ∈ Finset.range (n + 1), qryC D p hh (512 * n) (512 * b) a l)
      = ∑ j : Fin 8192, ds D (2 * p + hh) (512 * n + a) j * (if l / 64 = hh then D.k (2 * p + hh) j (l % 64) else 1) := by
  rw [← sum_blocks (fun j => ds D (2 * p + hh) (512 * n + a) j * (if l / 64 = hh then D.k (2 * p + hh) j (l % 64) else 1)),
    ← Finset.sum_range (fun b => ∑ j : Fin 512, ds D (2 * p + hh) (512 * n + a) (b * 512 + j) * (if l / 64 = hh then D.k (2 * p + hh) (b * 512 + j) (l % 64) else 1))]
  refine (Finset.sum_congr rfl fun b _ => ?_).trans (Finset.sum_subset (Finset.range_subset_range.2 (by omega)) fun b hb hb' => ?_)
  · unfold qryC
    rw [Nat.mul_comm 512 b]
  · refine Finset.sum_eq_zero fun j _ => ?_
    rw [ds_of_lt D, zero_mul]
    have := Finset.mem_range.not.1 hb'
    omega

/-- A block of queries has no part in what comes after it. -/
theorem keyC_of_le (p l : ℕ) {r0 j : ℕ} (h : r0 + 512 ≤ j) : keyC D p r0 j l = 0 :=
  Finset.sum_eq_zero fun a _ => by rw [ds_of_lt D (by omega), zero_mul]

theorem valC_of_le (p l : ℕ) {r0 j : ℕ} (h : r0 + 512 ≤ j) : valC D p r0 j l = 0 :=
  Finset.sum_eq_zero fun a _ => by rw [P_of_lt D (by omega), zero_mul]

theorem colC_of_le (p l : ℕ) {r0 j : ℕ} (h : r0 + 512 ≤ j) : colC D p r0 j l = 0 :=
  Finset.sum_eq_zero fun a _ => by rw [ds_of_lt D (by omega)]

end Sums

namespace Pt

section Diagonal

variable {D : Data} {s0 s1 : ℝ} {t : Fin cfg0.N} {x : Pt}

theorem off11 (H : Ok D s0 s1 t x) : k0_off11 x.i = ![512 * (t.val % 16), 0] :=
  (congrArg k0_off11 H.i).trans (off2 t).2.2.1

theorem lastKeys (H : Ok D s0 s1 t x) : Keys D (t.val / 16) (512 * (t.val % 16)) x.Km x.Vm :=
  ⟨fun j l => (rows_load x.arg3.view x.X3 _ (off11 H) j l ⟨512 * (t.val % 16) + j.val, by omega⟩ rfl).trans (H.k _ _),
    fun j l => (rows_load x.arg4.view x.X4 _ (off11 H) j l ⟨512 * (t.val % 16) + j.val, by omega⟩ rfl).trans (H.v _ _)⟩

theorem lastDecays0 (H : Ok D s0 s1 t x) : Decays D (t.val / 16) 0 (512 * (t.val % 16)) s0 x.cm0 x.bm0 := by
  refine ⟨?_, fun j => ?_⟩
  · rw [pay60_apply, ← H.s0]
    exact congrArg (fun f => Finset.fold max ⊥ f Finset.univ) (funext fun a => sums_load x.arg5.view x.X5 _ ((congrArg k0_off12 H.i).trans (off2 t).2.2.2.1) a 0 rfl ⟨512 * (t.val % 16) + a, by omega⟩ rfl)
  · exact (sums_load x.arg5.view x.X5 _ ((congrArg k0_off13 H.i).trans (off2 t).2.2.2.2.1) j 0 rfl ⟨512 * (t.val % 16) + j.val, by omega⟩ rfl).trans (H.c _ _)

theorem lastDecays1 (H : Ok D s0 s1 t x) : Decays D (t.val / 16) 1 (512 * (t.val % 16)) s1 x.cm1 x.bm1 := by
  refine ⟨?_, fun j => ?_⟩
  · rw [pay60_apply, ← H.s1]
    exact congrArg (fun f => Finset.fold max ⊥ f Finset.univ) (funext fun a => sums_load x.arg5.view x.X5 _ ((congrArg k0_off14 H.i).trans (off2 t).2.2.2.2.2.1) a 1 rfl ⟨512 * (t.val % 16) + a, by omega⟩ rfl)
  · exact (sums_load x.arg5.view x.X5 _ ((congrArg k0_off15 H.i).trans (off2 t).2.2.2.2.2.2) j 1 rfl ⟨512 * (t.val % 16) + j.val, by omega⟩ rfl).trans (H.c _ _)

theorem pay57_id (x : FVec Ideal S512x128 .bf16) : k0_pay57 (F := Ideal) x = x := by
  funext y
  idx_vars y
  pointwise [k0_pay57]

theorem pay58_id (x : FVec Ideal S512x128 .bf16) : k0_pay58 (F := Ideal) x = x := by
  funext y
  idx_vars y
  pointwise [k0_pay58]

theorem wm0_apply (H : Ok D s0 s1 t x) (a j : Fin 512) :
    x.wm0 (ix2 a j) = ((P D (2 * (t.val / 16) + 0) (512 * (t.val % 16) + a) (512 * (t.val % 16) + j) : ℝ) : EReal) := by
  unfold wm0
  rw [pay57_id]
  exact weightDiag (by omega) H.r0 (lastKeys H) (lastDecays0 H) a j

theorem wm1_apply (H : Ok D s0 s1 t x) (a j : Fin 512) :
    x.wm1 (ix2 a j) = ((P D (2 * (t.val / 16) + 1) (512 * (t.val % 16) + a) (512 * (t.val % 16) + j) : ℝ) : EReal) := by
  unfold wm1
  rw [pay57_id]
  exact weightDiag (by omega) H.r1 (lastKeys H) (lastDecays1 H) a j

/-- The heads' sums over all keys of their queries. -/
theorem qm0_apply (H : Ok D s0 s1 t x) (a : Fin 512) (l : Fin 128) :
    x.qm0 (x.st (t.val % 16)).1.1 (ix2 a l) = ((∑ j : Fin 8192, ds D (2 * (t.val / 16) + 0) (512 * (t.val % 16) + a) j
      * (if l.val / 64 = 0 then D.k (2 * (t.val / 16) + 0) j (l % 64) else 1) : ℝ) : EReal) := by
  rw [← query_sum D (t.val / 16) 0 a l (by omega) a.isLt, Finset.sum_range_succ, EReal.coe_add, ← (inv H (t.val % 16) le_rfl).q0]
  unfold qm0
  rw [pay57_id, pay58_id]
  exact queryTile0 H.r0 (lastKeys H) (wm0_apply H) _ a l

theorem qm1_apply (H : Ok D s0 s1 t x) (a : Fin 512) (l : Fin 128) :
    x.qm1 (x.st (t.val % 16)).1.2 (ix2 a l) = ((∑ j : Fin 8192, ds D (2 * (t.val / 16) + 1) (512 * (t.val % 16) + a) j
      * (if l.val / 64 = 1 then D.k (2 * (t.val / 16) + 1) j (l % 64) else 1) : ℝ) : EReal) := by
  rw [← query_sum D (t.val / 16) 1 a l (by omega) a.isLt, Finset.sum_range_succ, EReal.coe_add, ← (inv H (t.val % 16) le_rfl).q1]
  unfold qm1
  rw [pay57_id, pay58_id]
  exact queryTile1 H.r1 (lastKeys H) (wm1_apply H) _ a l

/-- The queries' gradient. -/
theorem lastq_apply (H : Ok D s0 s1 t x) (a : Fin 512) (l : Fin 128) :
    (k0_pay1 (F := Ideal) k0_pay38 (x.qm0 (x.st (t.val % 16)).1.1) (x.qm1 (x.st (t.val % 16)).1.2) (ix2 a l) : EReal)
      = ((dq D (2 * (t.val / 16) + l / 64) (512 * (t.val % 16) + a) (l % 64) : ℝ) : EReal) := by
  have h0 := qm0_apply H a l
  have h1 := qm1_apply H a l
  generalize x.qm0 (x.st (t.val % 16)).1.1 = A at h0
  generalize x.qm1 (x.st (t.val % 16)).1.2 = B at h1
  have e : (k0_pay1 (F := Ideal) k0_pay38 A B (ix2 a l) : EReal) = select k0_pay38 A B (ix2 a l) * Ideal.ofBits .f32 0x3E000000#32 := rfl
  rw [e, pick_apply, h0, h1, ofBits_eighth]
  unfold dq
  rcases (by omega : l.val / 64 = 0 ∨ l.val / 64 = 1) with h | h <;> simp [h]

/-- The other head's row sums, side by side. -/
theorem rowBoth (H : Ok D s0 s1 t x) (a : Fin 512) (l : Fin 128) :
    select k0_pay38 (x.qm1 (x.st (t.val % 16)).1.2) (x.qm0 (x.st (t.val % 16)).1.1) (ix2 a l)
      = ((∑ j : Fin 8192, ds D (2 * (t.val / 16) + (1 - l / 64)) (512 * (t.val % 16) + a) j : ℝ) : EReal) := by
  rw [pick_apply, qm0_apply H, qm1_apply H]
  rcases (by omega : l.val / 64 = 0 ∨ l.val / 64 = 1) with h | h <;> simp [h]

theorem last10_read (H : Ok D s0 s1 t x) (f : BufTy.Contents (Elt Ideal) x.arg10.view.ty) (L : List (View.Piece (Elt Ideal) S8192x128 .f32)) (j : Fin 8192) (l : Fin 128) :
    x.arg10.view.read (Elt Ideal) (x.arg10.view.writes (Elt Ideal) f (x.last10 f L :: L)) (ix2 j l) = x.arg10.view.read (Elt Ideal) (x.arg10.view.writes (Elt Ideal) f L) (ix2 j l)
      + ((if 512 * (t.val % 16) ≤ j.val ∧ j.val < 512 * (t.val % 16) + 512 then keyC D (t.val / 16) (512 * (t.val % 16)) j l else 0 : ℝ) : EReal) := by
  unfold last10
  rw [pay58_id]
  refine rows_add _ _ _ _ _ (off11 H) j l _ fun h => ?_
  refine congrArg₂ (· + ·) ?_ ((keyBoth H.r0 H.r1 (lastKeys H) (wm0_apply H) (wm1_apply H) ⟨j.val - 512 * (t.val % 16), by omega⟩ l).trans
    (by rw [show 512 * (t.val % 16) + (j.val - 512 * (t.val % 16)) = j.val by omega]))
  pointwise

theorem last11_read (H : Ok D s0 s1 t x) (f : BufTy.Contents (Elt Ideal) x.arg11.view.ty) (L : List (View.Piece (Elt Ideal) S8192x128 .f32)) (j : Fin 8192) (l : Fin 128) :
    x.arg11.view.read (Elt Ideal) (x.arg11.view.writes (Elt Ideal) f (x.last11 f L :: L)) (ix2 j l) = x.arg11.view.read (Elt Ideal) (x.arg11.view.writes (Elt Ideal) f L) (ix2 j l)
      + ((if 512 * (t.val % 16) ≤ j.val ∧ j.val < 512 * (t.val % 16) + 512 then valC D (t.val / 16) (512 * (t.val % 16)) j l else 0 : ℝ) : EReal) := by
  unfold last11
  refine rows_add _ _ _ _ _ (off11 H) j l _ fun h => ?_
  refine congrArg₂ (· + ·) ?_ ((valueBoth H.r0 H.r1 (wm0_apply H) (wm1_apply H) ⟨j.val - 512 * (t.val % 16), by omega⟩ l).trans
    (by rw [show 512 * (t.val % 16) + (j.val - 512 * (t.val % 16)) = j.val by omega]))
  pointwise

theorem cols12_read (H : Ok D s0 s1 t x) (f : BufTy.Contents (Elt Ideal) x.arg12.view.ty) (L : List (View.Piece (Elt Ideal) S8192x128 .f32)) (j : Fin 8192) (l : Fin 128) :
    x.arg12.view.read (Elt Ideal) (x.arg12.view.writes (Elt Ideal) f (x.cols12 f L :: L)) (ix2 j l) = x.arg12.view.read (Elt Ideal) (x.arg12.view.writes (Elt Ideal) f L) (ix2 j l)
      + ((if 512 * (t.val % 16) ≤ j.val ∧ j.val < 512 * (t.val % 16) + 512 then -colC D (t.val / 16) (512 * (t.val % 16)) j l else 0 : ℝ) : EReal) := by
  unfold cols12
  rw [pay58_id]
  refine rows_add _ _ _ _ _ (off11 H) j l _ fun h => ?_
  rw [EReal.coe_neg, ← sub_eq_add_neg]
  refine congrArg₂ (· - ·) ?_ ((colBoth H.r0 H.r1 (lastKeys H) (wm0_apply H) (wm1_apply H) ⟨j.val - 512 * (t.val % 16), by omega⟩ l).trans
    (by rw [show 512 * (t.val % 16) + (j.val - 512 * (t.val % 16)) = j.val by omega]))
  pointwise

theorem rows12_read (H : Ok D s0 s1 t x) (f : BufTy.Contents (Elt Ideal) x.arg12.view.ty) (L : List (View.Piece (Elt Ideal) S8192x128 .f32)) (j : Fin 8192) (l : Fin 128) :
    x.arg12.view.read (Elt Ideal) (x.arg12.view.writes (Elt Ideal) f (x.rows12 (x.st (t.val % 16)).1 (x.cols12 f L :: L) :: x.cols12 f L :: L)) (ix2 j l)
      = x.arg12.view.read (Elt Ideal) (x.arg12.view.writes (Elt Ideal) f (x.cols12 f L :: L)) (ix2 j l)
      + ((if 512 * (t.val % 16) ≤ j.val ∧ j.val < 512 * (t.val % 16) + 512 then ∑ i : Fin 8192, ds D (2 * (t.val / 16) + (1 - l / 64)) j i else 0 : ℝ) : EReal) := by
  unfold rows12
  rw [← View.readAt_writes_of_cover x.arg12.view f (x.cols12 f L :: L) (Rect.unit (s := S8192x128) (k0_off11 x.i) S512x128.size (k0_off11_inb x.i)).toLoadRect
    fun j => ⟨_, List.mem_cons_self, LoadRect.idx_mem (r := (Rect.unit (s := S8192x128) (k0_off11 x.i) S512x128.size (k0_off11_inb x.i)).toLoadRect) j⟩]
  refine rows_add _ _ _ _ _ (off11 H) j l _ fun h => ?_
  refine congrArg₂ (· + ·) ?_ ((rowBoth H ⟨j.val - 512 * (t.val % 16), by omega⟩ l).trans
    (by rw [show 512 * (t.val % 16) + (j.val - 512 * (t.val % 16)) = j.val by omega]))
  pointwise

/-- Reals added at the last stretch of rows, those after it having none. -/
theorem all_add {B X Y : EReal} {C : ℝ} {j n : ℕ} (h : X = B + ((if j < 512 * n then C else 0 : ℝ) : EReal)) (e : Y = X + ((if 512 * n ≤ j ∧ j < 512 * n + 512 then C else 0 : ℝ) : EReal))
    (hC : 512 * n + 512 ≤ j → C = 0) : Y = B + (C : EReal) := by
  rw [step_add h e]
  split
  case isTrue _ => rfl
  case isFalse hj => rw [hC (by omega)]

/-- What the point adds to the keys' gradient, -/
theorem dk_last (H : Ok D s0 s1 t x) (f : BufTy.Contents (Elt Ideal) x.arg10.view.ty) (L : List (View.Piece (Elt Ideal) S8192x128 .f32))
    (h : x.arg10.view.writes (Elt Ideal) f L = x.arg10.view.writes (Elt Ideal) x.G10 (x.st (t.val % 16)).2.1) (j : Fin 8192) (l : Fin 128) :
    x.arg10.view.read (Elt Ideal) (x.arg10.view.writes (Elt Ideal) f (x.last10 f L :: L)) (ix2 j l)
      = x.arg10.view.read (Elt Ideal) x.G10 (ix2 j l) + ((keyC D (t.val / 16) (512 * (t.val % 16)) j l : ℝ) : EReal) :=
  all_add ((inv H (t.val % 16) le_rfl).dk j l) ((last10_read H f L j l).trans (by rw [h]; rfl)) (keyC_of_le D _ _)

/-- to the values', -/
theorem dv_last (H : Ok D s0 s1 t x) (f : BufTy.Contents (Elt Ideal) x.arg11.view.ty) (L : List (View.Piece (Elt Ideal) S8192x128 .f32))
    (h : x.arg11.view.writes (Elt Ideal) f L = x.arg11.view.writes (Elt Ideal) x.G11 (x.st (t.val % 16)).2.2.1) (j : Fin 8192) (l : Fin 128) :
    x.arg11.view.read (Elt Ideal) (x.arg11.view.writes (Elt Ideal) f (x.last11 f L :: L)) (ix2 j l)
      = x.arg11.view.read (Elt Ideal) x.G11 (ix2 j l) + ((valC D (t.val / 16) (512 * (t.val % 16)) j l : ℝ) : EReal) :=
  all_add ((inv H (t.val % 16) le_rfl).dv j l) ((last11_read H f L j l).trans (by rw [h]; rfl)) (valC_of_le D _ _)

/-- and to the running sums' of the log gates. -/
theorem dc_last (H : Ok D s0 s1 t x) (f : BufTy.Contents (Elt Ideal) x.arg12.view.ty) (L : List (View.Piece (Elt Ideal) S8192x128 .f32))
    (h : x.arg12.view.writes (Elt Ideal) f L = x.arg12.view.writes (Elt Ideal) x.G12 (x.st (t.val % 16)).2.2.2) (j : Fin 8192) (l : Fin 128) :
    x.arg12.view.read (Elt Ideal) (x.arg12.view.writes (Elt Ideal) f (x.rows12 (x.st (t.val % 16)).1 (x.cols12 f L :: L) :: x.cols12 f L :: L)) (ix2 j l)
      = x.arg12.view.read (Elt Ideal) x.G12 (ix2 j l) + ((-colC D (t.val / 16) (512 * (t.val % 16)) j l
        + (if 512 * (t.val % 16) ≤ j.val ∧ j.val < 512 * (t.val % 16) + 512 then ∑ i : Fin 8192, ds D (2 * (t.val / 16) + (1 - l / 64)) j i else 0) : ℝ) : EReal) := by
  rw [rows12_read H f L j l, EReal.coe_add, ← add_assoc]
  exact congrArg (· + _) (all_add ((inv H (t.val % 16) le_rfl).dc j l) ((cols12_read H f L j l).trans (by rw [h]; rfl)) fun h => by rw [colC_of_le D _ _ h, neg_zero])

end Diagonal

end Pt

end Cert.FoxBwdIdeal.Grad

end
-- ==== Proof.FoxWindow.lean ====
module

public import proofs.«01_k».proof.Proof.FoxInputs
public import proofs.«01_k».proof.Proof.FoxLast

/-! # The windows' blocks

What a grid point's windows hold: point `t` works on the pair of heads `t / 16` and on the block `t % 16` of 512 queries,
beside the pair's whole keys, values and running sums. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Idealize.ShloMosaic.Pipeline (Dat)
open Cert.Reals Cert.Fox
open Cert.FoxBwdRefIdeal.Read (val_main_v2)

variable (m : (ℓ : Loc nD τ sig) → Buf (Elt Ideal) ℓ)

theorem idx : ∀ t : Fin cfg0.N, win0_0.index t = ![t.val % 16, t.val / 16] ∧ win0_1.index t = ![0, 4 + t.val / 16]
    ∧ win0_2.index t = ![0, 8 + t.val / 16] ∧ win0_3.index t = ![t.val / 16, 0, 0] ∧ win0_4.index t = ![t.val % 16, t.val / 16]
    ∧ win0_5.index t = ![t.val % 16, t.val / 16] ∧ win0_6.index t = ![t.val / 16, t.val % 16, 0]
    ∧ win0_7.index t = ![t.val % 16, t.val / 16] ∧ win0_8.index t = ![0, t.val / 16] ∧ win0_9.index t = ![0, t.val / 16] ∧ win0_10.index t = ![0, t.val / 16] :=
  (by decide +kernel : ∀ t : Fin grid0.N, _)

theorem lt64 (t : Fin cfg0.N) : t.val < 64 := t.isLt

theorem win0 (X : FVec Ideal S8192x1536 .bf16) (t : Fin cfg0.N) (a : Fin 512) (l : Fin 128) :
    ((cfg0.win 0).blk t).view.read (Elt Ideal) X (ix2 a l) = X (ix2 ⟨t.val % 16 * 512 + a, by omega⟩ ⟨t.val / 16 * 128 + l, by have := lt64 t; omega⟩) := by
  blk_ext [idx t]

theorem win1 (X : FVec Ideal S8192x1536 .bf16) (t : Fin cfg0.N) (j : Fin 8192) (l : Fin 128) :
    ((cfg0.win 1).blk t).view.read (Elt Ideal) X (ix2 j l) = X (ix2 j ⟨(4 + t.val / 16) * 128 + l, by have := lt64 t; omega⟩) := by
  blk_ext [idx t]

theorem win2 (X : FVec Ideal S8192x1536 .bf16) (t : Fin cfg0.N) (j : Fin 8192) (l : Fin 128) :
    ((cfg0.win 2).blk t).view.read (Elt Ideal) X (ix2 j l) = X (ix2 j ⟨(8 + t.val / 16) * 128 + l, by have := lt64 t; omega⟩) := by
  blk_ext [idx t]

theorem win3 (X : FVec Ideal S4x2x8192 .f32) (t : Fin cfg0.N) (b : Fin 2) (j : Fin 8192) :
    ((cfg0.win 3).blk t).view.read (Elt Ideal) X (ix3 0 b j) = X (ix3 ⟨t.val / 16, by have := lt64 t; omega⟩ b j) := by
  blk_ext [idx t]

theorem win4 (X : FVec Ideal S8192x512 .bf16) (t : Fin cfg0.N) (a : Fin 512) (l : Fin 128) :
    ((cfg0.win 4).blk t).view.read (Elt Ideal) X (ix2 a l) = X (ix2 ⟨t.val % 16 * 512 + a, by omega⟩ ⟨t.val / 16 * 128 + l, by have := lt64 t; omega⟩) := by
  blk_ext [idx t]

theorem win5 (X : FVec Ideal S8192x512 .f32) (t : Fin cfg0.N) (a : Fin 512) (l : Fin 128) :
    ((cfg0.win 5).blk t).view.read (Elt Ideal) X (ix2 a l) = X (ix2 ⟨t.val % 16 * 512 + a, by omega⟩ ⟨t.val / 16 * 128 + l, by have := lt64 t; omega⟩) := by
  blk_ext [idx t]

theorem win6 (X : FVec Ideal S8x8192x128 .f32) (t : Fin cfg0.N) (b : Fin 2) (a : Fin 512) (l : Fin 128) :
    ((cfg0.win 6).blk t).view.read (Elt Ideal) X (ix3 b a l) = X (ix3 ⟨t.val / 16 * 2 + b, by have := lt64 t; omega⟩ ⟨t.val % 16 * 512 + a, by omega⟩ l) := by
  blk_ext [idx t]

section Blocks

variable {m} {D : Data} {c : Dev nD} (H : Holds D (A0 m c) (A1 m c) (A2 m c) (A3 m c) (A4 m c)) (t : Fin cfg0.N)

include H

theorem blk0 (a : Fin 512) (l : Fin 128) : iblk m c 0 t (ix2 a l) = ((D.q (2 * (t.val / 16) + l / 64) (512 * (t.val % 16) + a) (l % 64) : ℝ) : EReal) := by
  have := lt64 t
  have e : iblk m c 0 t = ((cfg0.win 0).blk t).view.read (Elt Ideal) (qkv (A0 m c) (A1 m c) (A2 m c)) := congrArg (((cfg0.win 0).blk t).view.read (Elt Ideal)) (V4 m c)
  rw [e, win0, qkv_q H _ _ (show t.val / 16 * 128 + l.val < 512 by omega)]
  simp only [show (t.val / 16 * 128 + l.val) / 64 = 2 * (t.val / 16) + l / 64 by omega, show (t.val / 16 * 128 + l.val) % 64 = l % 64 by omega, Nat.mul_comm]

theorem blk1 (j : Fin 8192) (l : Fin 128) : iblk m c 1 t (ix2 j l) = ((D.k (2 * (t.val / 16) + l / 64) j (l % 64) : ℝ) : EReal) := by
  have := lt64 t
  have e : iblk m c 1 t = ((cfg0.win 1).blk t).view.read (Elt Ideal) (qkv (A0 m c) (A1 m c) (A2 m c)) := congrArg (((cfg0.win 1).blk t).view.read (Elt Ideal)) (V4 m c)
  rw [e, win1, qkv_k H j ⟨t.val / 16 * 128 + l.val, by omega⟩ _ (show (4 + t.val / 16) * 128 + l.val = 512 + (t.val / 16 * 128 + l.val) by omega)]
  simp only [show (t.val / 16 * 128 + l.val) / 64 = 2 * (t.val / 16) + l / 64 by omega, show (t.val / 16 * 128 + l.val) % 64 = l % 64 by omega]

theorem blk2 (j : Fin 8192) (l : Fin 128) : iblk m c 2 t (ix2 j l) = ((D.v (2 * (t.val / 16) + l / 64) j (l % 64) : ℝ) : EReal) := by
  have := lt64 t
  have e : iblk m c 2 t = ((cfg0.win 2).blk t).view.read (Elt Ideal) (qkv (A0 m c) (A1 m c) (A2 m c)) := congrArg (((cfg0.win 2).blk t).view.read (Elt Ideal)) (V4 m c)
  rw [e, win2, qkv_v H j ⟨t.val / 16 * 128 + l.val, by omega⟩ _ (show (8 + t.val / 16) * 128 + l.val = 1024 + (t.val / 16 * 128 + l.val) by omega)]
  simp only [show (t.val / 16 * 128 + l.val) / 64 = 2 * (t.val / 16) + l / 64 by omega, show (t.val / 16 * 128 + l.val) % 64 = l % 64 by omega]

omit H in
theorem pair_apply (X : FVec Ideal S1x8x8192 .f32) (p : Fin 4) (b : Fin 2) (j : Fin 8192) :
    shapeCast S4x2x8192 X shapeCasts_S1x8x8192_S4x2x8192 (ix3 p b j) = X (ix3 0 ⟨2 * p + b, by omega⟩ j) := by
  pointwise
  congr 1
  idx_ext

theorem blk3_cum (b : Fin 2) (j : Fin 8192) : iblk m c 3 t (ix3 0 b j) = val_main_v2 (F := Ideal) (A3 m c) (ix3 0 ⟨2 * (t.val / 16) + b, by have := lt64 t; omega⟩ j) := by
  have e : iblk m c 3 t = ((cfg0.win 3).blk t).view.read (Elt Ideal) (shapeCast S4x2x8192 (val_main_v2 (F := Ideal) (A3 m c)) shapeCasts_S1x8x8192_S4x2x8192) := congrArg (((cfg0.win 3).blk t).view.read (Elt Ideal)) (V48 m c)
  rw [e, win3, pair_apply]

theorem blk3 (b : Fin 2) (j : Fin 8192) : iblk m c 3 t (ix3 0 b j) = ((D.c (2 * (t.val / 16) + b) j : ℝ) : EReal) := by
  rw [blk3_cum H, H.c]

theorem blk4 (a : Fin 512) (l : Fin 128) : iblk m c 4 t (ix2 a l) = ((att D (2 * (t.val / 16) + l / 64) (512 * (t.val % 16) + a) (l % 64) : ℝ) : EReal) := by
  have := lt64 t
  have e : iblk m c 4 t = ((cfg0.win 4).blk t).view.read (Elt Ideal) (outv (A0 m c) (A1 m c) (A2 m c) (A3 m c)) := congrArg (((cfg0.win 4).blk t).view.read (Elt Ideal)) (V50 m c)
  rw [e, win4, outv_apply H]
  simp only [show (t.val / 16 * 128 + l.val) / 64 = 2 * (t.val / 16) + l / 64 by omega, show (t.val / 16 * 128 + l.val) % 64 = l % 64 by omega, Nat.mul_comm]

omit H in
theorem flat_apply (X : FVec Ideal S1x8192x512 .f32) (i : Fin 8192) (l : Fin 512) :
    shapeCast S8192x512 X shapeCasts_S1x8192x512_S8192x512 (ix2 i l) = X (ix3 0 i l) := by
  pointwise

theorem blk5 (a : Fin 512) (l : Fin 128) : iblk m c 5 t (ix2 a l) = ((D.g (2 * (t.val / 16) + l / 64) (512 * (t.val % 16) + a) (l % 64) : ℝ) : EReal) := by
  have := lt64 t
  have e : iblk m c 5 t = ((cfg0.win 5).blk t).view.read (Elt Ideal) (shapeCast S8192x512 (A4 m c) shapeCasts_S1x8192x512_S8192x512) := congrArg (((cfg0.win 5).blk t).view.read (Elt Ideal)) (V51 m c)
  rw [e, win5, flat_apply, H.g]
  simp only [show (t.val / 16 * 128 + l.val) / 64 = 2 * (t.val / 16) + l / 64 by omega, show (t.val / 16 * 128 + l.val) % 64 = l % 64 by omega, Nat.mul_comm]

theorem blk6 (b : Fin 2) (a : Fin 512) (l : Fin 128) {s : ℝ}
    (hs : starts (A3 m c) (ix2 ⟨2 * (t.val / 16) + b, by have := lt64 t; omega⟩ ⟨t.val % 16, by omega⟩) = (s : EReal)) :
    ∃ M : ℝ, iblk m c 6 t (ix3 b a l) = ((M + Real.log (tot D (2 * (t.val / 16) + b) (512 * (t.val % 16) + a) * Real.exp (-M))
      - D.c (2 * (t.val / 16) + b) (512 * (t.val % 16) + a) + s : ℝ) : EReal) := by
  have := lt64 t
  have e : iblk m c 6 t = ((cfg0.win 6).blk t).view.read (Elt Ideal) (lse (A0 m c) (A1 m c) (A3 m c)) := congrArg (((cfg0.win 6).blk t).view.read (Elt Ideal)) (V49 m c)
  obtain ⟨M, hM⟩ := lse_apply H _ ⟨t.val % 16, by omega⟩ a ⟨t.val % 16 * 512 + a, by omega⟩ rfl l hs
  refine ⟨M, ?_⟩
  rw [e, win6]
  have e2 : (⟨t.val / 16 * 2 + b.val, by omega⟩ : Fin 8) = ⟨2 * (t.val / 16) + b, by omega⟩ := Fin.ext (by simp only; omega)
  rw [e2, hM]
  simp only [Nat.mul_comm]

omit H in
/-- A block's start is the largest of the running sum's first 128 values there. -/
theorem starts_fold (x3 : FVec Ideal S1x8192x8 .f32) (h : Fin 8) (b : Fin 16) :
    starts x3 (ix2 h b) = Finset.fold max ⊥ (fun a : Fin 128 => val_main_v2 (F := Ideal) x3 (ix3 0 h ⟨512 * b + a, by omega⟩)) Finset.univ := by
  unfold starts
  generalize val_main_v2 (F := Ideal) x3 = cm
  pointwise [firsts]
  rw [ofBits_neg_inf]
  simp only [Nat.mul_comm 512]

end Blocks

end Cert.FoxBwdIdeal.Grad

end
-- ==== Proof.FoxStep.lean ====
module

public import proofs.«01_k».proof.Proof.FoxWindow

/-! # What a grid point leaves

The accumulators after a point are what they held before it (zero at the first point of a pair of heads) plus the point's
part of each sum; the queries' window holds their gradient. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Idealize.ShloMosaic.Pipeline (Dat)
open Cert.Reals Cert.Fox

/-- A point's own part of a position's decay gradient: less the column's sum, and, in the point's own block, the row's sum. -/
def sumC (D : Data) (p r0 j l : ℕ) : ℝ :=
  -colC D p r0 j l + (if r0 ≤ j ∧ j < r0 + 512 then ∑ i : Fin 8192, ds D (2 * p + (1 - l / 64)) j i else 0)

theorem zero10 (j : Fin 8192) (l : Fin 128) : k0_pay32 (F := Ideal) (ix2 j l) = 0 := by pointwise [k0_pay32]
theorem zero11 (j : Fin 8192) (l : Fin 128) : k0_pay33 (F := Ideal) (ix2 j l) = 0 := by pointwise [k0_pay33]
theorem zero12 (j : Fin 8192) (l : Fin 128) : k0_pay34 (F := Ideal) (ix2 j l) = 0 := by pointwise [k0_pay34]

/-- A whole block stored reads back. -/
theorem whole_store {κ : Kind} {sp : Space} (v : View sig κ sp S8192x128 .f32) (f : v.ty.Contents (Elt Ideal)) (w : FVec Ideal S8192x128 .f32) (j : Fin 8192) (l : Fin 128) :
    v.read (Elt Ideal) (v.writes (Elt Ideal) f [⟨Rect.unit ![0, 0] S8192x128.size inb_S8192x128_S8192x128_0_0, w⟩]) (ix2 j l) = w (ix2 j l) :=
  View.read_writes_cons_rows_of_mem v f _ w [] (ix2 j l) (ix2 j l) rfl (by simp) rfl

namespace Pt

section Whole

variable {D : Data} {s0 s1 : ℝ} {t : Fin cfg0.N} {x : Pt} (H : Ok D s0 s1 t x)
  (g10 : BufTy.Contents (Elt Ideal) x.arg10.view.ty) (g11 : BufTy.Contents (Elt Ideal) x.arg11.view.ty) (g12 : BufTy.Contents (Elt Ideal) x.arg12.view.ty)

include H

theorem trips_eq : (k0_t1_loop x.i).trips = t.val % 16 :=
  (congrArg (fun i => (k0_t1_loop i).trips) H.i).trans (trips t)

theorem dk_point (f : BufTy.Contents (Elt Ideal) x.arg10.view.ty) (L : List (View.Piece (Elt Ideal) S8192x128 .f32))
    (h : x.arg10.view.writes (Elt Ideal) f L = x.arg10.view.writes (Elt Ideal) x.G10 (x.st (k0_t1_loop x.i).trips).2.1) (j : Fin 8192) (l : Fin 128) :
    x.arg10.view.read (Elt Ideal) (x.arg10.view.writes (Elt Ideal) f (x.last10 f ((x.two g10 g11 g12 ((x.st (k0_t1_loop x.i).trips).1.1, (x.st (k0_t1_loop x.i).trips).1.2)).2.1 ++ L) :: ((x.two g10 g11 g12 ((x.st (k0_t1_loop x.i).trips).1.1, (x.st (k0_t1_loop x.i).trips).1.2)).2.1 ++ L))) (ix2 j l)
      = x.arg10.view.read (Elt Ideal) x.G10 (ix2 j l) + ((keyC D (t.val / 16) (512 * (t.val % 16)) j l : ℝ) : EReal) := by
  rw [two_eq x t H.i, trips_eq H]
  rw [trips_eq H] at h
  exact dk_last H f L h j l

theorem dv_point (f : BufTy.Contents (Elt Ideal) x.arg11.view.ty) (L : List (View.Piece (Elt Ideal) S8192x128 .f32))
    (h : x.arg11.view.writes (Elt Ideal) f L = x.arg11.view.writes (Elt Ideal) x.G11 (x.st (k0_t1_loop x.i).trips).2.2.1) (j : Fin 8192) (l : Fin 128) :
    x.arg11.view.read (Elt Ideal) (x.arg11.view.writes (Elt Ideal) f (x.last11 f ((x.two g10 g11 g12 ((x.st (k0_t1_loop x.i).trips).1.1, (x.st (k0_t1_loop x.i).trips).1.2)).2.2.1 ++ L) :: ((x.two g10 g11 g12 ((x.st (k0_t1_loop x.i).trips).1.1, (x.st (k0_t1_loop x.i).trips).1.2)).2.2.1 ++ L))) (ix2 j l)
      = x.arg11.view.read (Elt Ideal) x.G11 (ix2 j l) + ((valC D (t.val / 16) (512 * (t.val % 16)) j l : ℝ) : EReal) := by
  rw [two_eq x t H.i, trips_eq H]
  rw [trips_eq H] at h
  exact dv_last H f L h j l

theorem dc_point (f : BufTy.Contents (Elt Ideal) x.arg12.view.ty) (L : List (View.Piece (Elt Ideal) S8192x128 .f32))
    (h : x.arg12.view.writes (Elt Ideal) f L = x.arg12.view.writes (Elt Ideal) x.G12 (x.st (k0_t1_loop x.i).trips).2.2.2) (j : Fin 8192) (l : Fin 128) :
    x.arg12.view.read (Elt Ideal) (x.arg12.view.writes (Elt Ideal) f (x.rows12 (x.two g10 g11 g12 ((x.st (k0_t1_loop x.i).trips).1.1, (x.st (k0_t1_loop x.i).trips).1.2)).1 (x.cols12 f ((x.two g10 g11 g12 ((x.st (k0_t1_loop x.i).trips).1.1, (x.st (k0_t1_loop x.i).trips).1.2)).2.2.2 ++ L) :: ((x.two g10 g11 g12 ((x.st (k0_t1_loop x.i).trips).1.1, (x.st (k0_t1_loop x.i).trips).1.2)).2.2.2 ++ L)) :: x.cols12 f ((x.two g10 g11 g12 ((x.st (k0_t1_loop x.i).trips).1.1, (x.st (k0_t1_loop x.i).trips).1.2)).2.2.2 ++ L) :: ((x.two g10 g11 g12 ((x.st (k0_t1_loop x.i).trips).1.1, (x.st (k0_t1_loop x.i).trips).1.2)).2.2.2 ++ L))) (ix2 j l)
      = x.arg12.view.read (Elt Ideal) x.G12 (ix2 j l) + ((sumC D (t.val / 16) (512 * (t.val % 16)) j l : ℝ) : EReal) := by
  rw [two_eq x t H.i, trips_eq H]
  rw [trips_eq H] at h
  exact dc_last H f L h j l

theorem dq_point (a : Fin 512) (l : Fin 128) :
    VO0_7.read (Elt Ideal) (VO0_7.writes (Elt Ideal) VO0_7.junk [x.lastq (x.two g10 g11 g12 ((x.st (k0_t1_loop x.i).trips).1.1, (x.st (k0_t1_loop x.i).trips).1.2)).1]) (ix2 a l)
      = ((dq D (2 * (t.val / 16) + l / 64) (512 * (t.val % 16) + a) (l % 64) : ℝ) : EReal) := by
  rw [two_eq x t H.i, trips_eq H]
  exact (View.read_writes_cons_rows_of_mem VO0_7 VO0_7.junk _ _ [] (ix2 a l) (ix2 a l) rfl (by simp) rfl).trans (lastq_apply H a l)

end Whole

end Pt

section Points

variable {D : Data} {s0 s1 : ℝ} {t : Fin cfg0.N} (c : Dev nD) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x2x8192 .f32) (harg5 : arg5.IsWhole) (arg6 : Memref sig .tc .vmem S512x128 .bf16) (harg6 : arg6.IsWhole) (arg7 : Memref sig .tc .vmem S512x128 .f32) (harg7 : arg7.IsWhole) (arg8 : Memref sig .tc .vmem S2x512x128 .f32) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole)
  (x0 : Vec Ideal S512x128 .bf16) (x1 : Vec Ideal S8192x128 .bf16) (x2 : Vec Ideal S8192x128 .bf16) (x3 : Vec Ideal S1x2x8192 .f32) (x4 : Vec Ideal S512x128 .bf16) (x5 : Vec Ideal S512x128 .f32) (x6 : Vec Ideal S2x512x128 .f32)
  (xo8 xo9 xo10 : Vec Ideal S8192x128 .f32)

theorem outB_8 (hc : ¬cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (harg10.unread xo8) (harg11.unread xo9) (harg12.unread xo10))) (j : Fin 8192) (l : Fin 128) :
    out0_B_8 c (grid0.coords t) arg2 harg2 arg3 harg3 arg4 harg4 arg5 harg5 arg6 harg6 arg7 harg7 arg8 harg8 arg9 harg9 arg10 harg10 arg11 harg11 arg12 harg12 hc x0 x1 x2 x3 x4 x5 x6 xo8 xo9 xo10 (ix2 j l) = xo8 (ix2 j l) + ((keyC D (t.val / 16) (512 * (t.val % 16)) j l : ℝ) : EReal) := by
  refine (congrArg (fun L => arg10.view.read (Elt Ideal) (arg10.view.writes (Elt Ideal) (harg10.unread xo8) L) (ix2 j l)) (runB c (grid0.coords t) arg2 harg2 arg3 harg3 arg4 harg4 arg5 harg5 arg6 harg6 arg7 harg7 arg8 harg8 arg9 harg9 arg10 harg10 arg11 harg11 arg12 harg12 x0 x1 x2 x3 x4 x5 x6 hc xo8 xo9 xo10).2.1).trans ?_
  exact (Pt.dk_point H _ _ _ (harg10.unread xo8) _ rfl j l).trans (congrArg (· + _) (congrFun (harg10.read_unread xo8) (ix2 j l)))

theorem outA_8 (hc : cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (arg10.view.writes (Elt Ideal) arg10.view.junk kernelRun0_A.sl.H8_1) (arg11.view.writes (Elt Ideal) arg11.view.junk kernelRun0_A.sl.H9_1) (arg12.view.writes (Elt Ideal) arg12.view.junk kernelRun0_A.sl.H10_1))) (j : Fin 8192) (l : Fin 128) :
    out0_A_8 c (grid0.coords t) arg2 harg2 arg3 harg3 arg4 harg4 arg5 harg5 arg6 harg6 arg7 harg7 arg8 harg8 arg9 harg9 arg10 harg10 arg11 harg11 arg12 harg12 hc x0 x1 x2 x3 x4 x5 x6 (ix2 j l) = ((keyC D (t.val / 16) (512 * (t.val % 16)) j l : ℝ) : EReal) := by
  refine (View.read_writes_junk_apply_eq_canon VO0_8 (ix2 j l) _).trans ((View.read_writes_junk_apply_eq_canon arg10.view (ix2 j l) _).symm.trans ?_)
  refine (congrArg (fun L => arg10.view.read (Elt Ideal) (arg10.view.writes (Elt Ideal) arg10.view.junk L) (ix2 j l)) (runA c (grid0.coords t) arg2 harg2 arg3 harg3 arg4 harg4 arg5 harg5 arg6 harg6 arg7 harg7 arg8 harg8 arg9 harg9 arg10 harg10 arg11 harg11 arg12 harg12 x0 x1 x2 x3 x4 x5 x6 hc).2.1).trans ?_
  exact (Pt.dk_point H _ _ _ arg10.view.junk _ (View.writes_append _ _ _ _) j l).trans ((congrArg (· + _) ((whole_store arg10.view _ _ j l).trans (zero10 j l))).trans (zero_add _))

theorem outB_9 (hc : ¬cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (harg10.unread xo8) (harg11.unread xo9) (harg12.unread xo10))) (j : Fin 8192) (l : Fin 128) :
    out0_B_9 c (grid0.coords t) arg2 harg2 arg3 harg3 arg4 harg4 arg5 harg5 arg6 harg6 arg7 harg7 arg8 harg8 arg9 harg9 arg10 harg10 arg11 harg11 arg12 harg12 hc x0 x1 x2 x3 x4 x5 x6 xo8 xo9 xo10 (ix2 j l) = xo9 (ix2 j l) + ((valC D (t.val / 16) (512 * (t.val % 16)) j l : ℝ) : EReal) := by
  refine (congrArg (fun L => arg11.view.read (Elt Ideal) (arg11.view.writes (Elt Ideal) (harg11.unread xo9) L) (ix2 j l)) (runB c (grid0.coords t) arg2 harg2 arg3 harg3 arg4 harg4 arg5 harg5 arg6 harg6 arg7 harg7 arg8 harg8 arg9 harg9 arg10 harg10 arg11 harg11 arg12 harg12 x0 x1 x2 x3 x4 x5 x6 hc xo8 xo9 xo10).2.2.1).trans ?_
  exact (Pt.dv_point H _ _ _ (harg11.unread xo9) _ rfl j l).trans (congrArg (· + _) (congrFun (harg11.read_unread xo9) (ix2 j l)))

theorem outA_9 (hc : cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (arg10.view.writes (Elt Ideal) arg10.view.junk kernelRun0_A.sl.H8_1) (arg11.view.writes (Elt Ideal) arg11.view.junk kernelRun0_A.sl.H9_1) (arg12.view.writes (Elt Ideal) arg12.view.junk kernelRun0_A.sl.H10_1))) (j : Fin 8192) (l : Fin 128) :
    out0_A_9 c (grid0.coords t) arg2 harg2 arg3 harg3 arg4 harg4 arg5 harg5 arg6 harg6 arg7 harg7 arg8 harg8 arg9 harg9 arg10 harg10 arg11 harg11 arg12 harg12 hc x0 x1 x2 x3 x4 x5 x6 (ix2 j l) = ((valC D (t.val / 16) (512 * (t.val % 16)) j l : ℝ) : EReal) := by
  refine (View.read_writes_junk_apply_eq_canon VO0_9 (ix2 j l) _).trans ((View.read_writes_junk_apply_eq_canon arg11.view (ix2 j l) _).symm.trans ?_)
  refine (congrArg (fun L => arg11.view.read (Elt Ideal) (arg11.view.writes (Elt Ideal) arg11.view.junk L) (ix2 j l)) (runA c (grid0.coords t) arg2 harg2 arg3 harg3 arg4 harg4 arg5 harg5 arg6 harg6 arg7 harg7 arg8 harg8 arg9 harg9 arg10 harg10 arg11 harg11 arg12 harg12 x0 x1 x2 x3 x4 x5 x6 hc).2.2.1).trans ?_
  exact (Pt.dv_point H _ _ _ arg11.view.junk _ (View.writes_append _ _ _ _) j l).trans ((congrArg (· + _) ((whole_store arg11.view _ _ j l).trans (zero11 j l))).trans (zero_add _))

theorem outB_10 (hc : ¬cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (harg10.unread xo8) (harg11.unread xo9) (harg12.unread xo10))) (j : Fin 8192) (l : Fin 128) :
    out0_B_10 c (grid0.coords t) arg2 harg2 arg3 harg3 arg4 harg4 arg5 harg5 arg6 harg6 arg7 harg7 arg8 harg8 arg9 harg9 arg10 harg10 arg11 harg11 arg12 harg12 hc x0 x1 x2 x3 x4 x5 x6 xo8 xo9 xo10 (ix2 j l) = xo10 (ix2 j l) + ((sumC D (t.val / 16) (512 * (t.val % 16)) j l : ℝ) : EReal) := by
  refine (congrArg (fun L => arg12.view.read (Elt Ideal) (arg12.view.writes (Elt Ideal) (harg12.unread xo10) L) (ix2 j l)) (runB c (grid0.coords t) arg2 harg2 arg3 harg3 arg4 harg4 arg5 harg5 arg6 harg6 arg7 harg7 arg8 harg8 arg9 harg9 arg10 harg10 arg11 harg11 arg12 harg12 x0 x1 x2 x3 x4 x5 x6 hc xo8 xo9 xo10).2.2.2).trans ?_
  exact (Pt.dc_point H _ _ _ (harg12.unread xo10) _ rfl j l).trans (congrArg (· + _) (congrFun (harg12.read_unread xo10) (ix2 j l)))

theorem outA_10 (hc : cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (arg10.view.writes (Elt Ideal) arg10.view.junk kernelRun0_A.sl.H8_1) (arg11.view.writes (Elt Ideal) arg11.view.junk kernelRun0_A.sl.H9_1) (arg12.view.writes (Elt Ideal) arg12.view.junk kernelRun0_A.sl.H10_1))) (j : Fin 8192) (l : Fin 128) :
    out0_A_10 c (grid0.coords t) arg2 harg2 arg3 harg3 arg4 harg4 arg5 harg5 arg6 harg6 arg7 harg7 arg8 harg8 arg9 harg9 arg10 harg10 arg11 harg11 arg12 harg12 hc x0 x1 x2 x3 x4 x5 x6 (ix2 j l) = ((sumC D (t.val / 16) (512 * (t.val % 16)) j l : ℝ) : EReal) := by
  refine (View.read_writes_junk_apply_eq_canon VO0_10 (ix2 j l) _).trans ((View.read_writes_junk_apply_eq_canon arg12.view (ix2 j l) _).symm.trans ?_)
  refine (congrArg (fun L => arg12.view.read (Elt Ideal) (arg12.view.writes (Elt Ideal) arg12.view.junk L) (ix2 j l)) (runA c (grid0.coords t) arg2 harg2 arg3 harg3 arg4 harg4 arg5 harg5 arg6 harg6 arg7 harg7 arg8 harg8 arg9 harg9 arg10 harg10 arg11 harg11 arg12 harg12 x0 x1 x2 x3 x4 x5 x6 hc).2.2.2).trans ?_
  exact (Pt.dc_point H _ _ _ arg12.view.junk _ (View.writes_append _ _ _ _) j l).trans ((congrArg (· + _) ((whole_store arg12.view _ _ j l).trans (zero12 j l))).trans (zero_add _))

theorem outB_7 (hc : ¬cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (harg10.unread xo8) (harg11.unread xo9) (harg12.unread xo10))) (a : Fin 512) (l : Fin 128) :
    out0_B_7 c (grid0.coords t) arg2 harg2 arg3 harg3 arg4 harg4 arg5 harg5 arg6 harg6 arg7 harg7 arg8 harg8 arg9 harg9 arg10 harg10 arg11 harg11 arg12 harg12 hc x0 x1 x2 x3 x4 x5 x6 xo8 xo9 xo10 (ix2 a l) = ((dq D (2 * (t.val / 16) + l / 64) (512 * (t.val % 16) + a) (l % 64) : ℝ) : EReal) := by
  refine (congrArg (fun L => VO0_7.read (Elt Ideal) (VO0_7.writes (Elt Ideal) VO0_7.junk L) (ix2 a l)) (runB c (grid0.coords t) arg2 harg2 arg3 harg3 arg4 harg4 arg5 harg5 arg6 harg6 arg7 harg7 arg8 harg8 arg9 harg9 arg10 harg10 arg11 harg11 arg12 harg12 x0 x1 x2 x3 x4 x5 x6 hc xo8 xo9 xo10).1).trans ?_
  exact Pt.dq_point H _ _ _ a l

theorem outA_7 (hc : cond0_0 (grid0.coords t)) (H : Pt.Ok D s0 s1 t (pt c (grid0.coords t) arg2 harg2 arg3 harg3 arg4 harg4 arg5 harg5 arg6 harg6 arg7 harg7 arg8 harg8 arg9 harg9 arg10 harg10 arg11 harg11 arg12 harg12 x0 x1 x2 x3 x4 x5 x6 (arg10.view.writes (Elt Ideal) arg10.view.junk kernelRun0_A.sl.H8_1) (arg11.view.writes (Elt Ideal) arg11.view.junk kernelRun0_A.sl.H9_1) (arg12.view.writes (Elt Ideal) arg12.view.junk kernelRun0_A.sl.H10_1))) (a : Fin 512) (l : Fin 128) :
    out0_A_7 c (grid0.coords t) arg2 harg2 arg3 harg3 arg4 harg4 arg5 harg5 arg6 harg6 arg7 harg7 arg8 harg8 arg9 harg9 arg10 harg10 arg11 harg11 arg12 harg12 hc x0 x1 x2 x3 x4 x5 x6 (ix2 a l) = ((dq D (2 * (t.val / 16) + l / 64) (512 * (t.val % 16) + a) (l % 64) : ℝ) : EReal) := by
  refine (congrArg (fun L => VO0_7.read (Elt Ideal) (VO0_7.writes (Elt Ideal) VO0_7.junk L) (ix2 a l)) (runA c (grid0.coords t) arg2 harg2 arg3 harg3 arg4 harg4 arg5 harg5 arg6 harg6 arg7 harg7 arg8 harg8 arg9 harg9 arg10 harg10 arg11 harg11 arg12 harg12 x0 x1 x2 x3 x4 x5 x6 hc).1).trans ?_
  exact Pt.dq_point H _ _ _ a l

end Points

end Cert.FoxBwdIdeal.Grad

end
-- ==== Proof.FoxValue.lean ====
module

public import proofs.«01_k».proof.Proof.FoxStep
public import proofs.«01_k».proof.Proof.Gen.FoxBwdIdeal.Value

/-! # The arrays the sweep leaves

A pair of heads takes sixteen grid points, one for each block of queries. The points' parts add up to the gradients of the
pair's keys, values and running sums; each point writes its own queries' gradient. -/

@[expose] public section

set_option maxRecDepth 16384

noncomputable section

namespace Cert.FoxBwdIdeal.Grad

open Cert.FoxBwdIdeal Cert.FoxBwdIdeal.Gen Idealize.ShloMosaic Idealize.ShloMosaic.TcCoe Idealize.SL.Sem
open Idealize.ShloMosaic.Pipeline (Dat)
open Cert.Reals Cert.Fox
open Cert.FoxBwdRefIdeal.Read (val_main_v2 val_main_v90 val_main_v92 val_main_v93 val_main_v94)

/-- A whole window, loaded. -/
theorem load_all {e : EltTy} (w : Memref sig .tc .vmem S512x128 e) (h : w.IsWhole) (X : Vec Ideal S512x128 e) (a : Fin 512) (l : Fin 128) :
    w.view.readAt (Elt Ideal) (Rect.unit ![0, 0] S512x128.size inb_S512x128_S512x128_0_0).toLoadRect (h.unread X) (ix2 a l) = X (ix2 a l) := by
  refine (congrArg (w.view.read (Elt Ideal) (h.unread X)) ?_).trans (congrFun (h.read_unread X) (ix2 a l))
  idx_ext

/-- One head's rows of the two, loaded. -/
theorem load_head (w : Memref sig .tc .vmem S2x512x128 .f32) (h : w.IsWhole) (X : Vec Ideal S2x512x128 .f32) {b : ℕ} (hb : b < 2)
    (inb : ∀ a : Fin 3, ![b, 0, 0] a + S1x512x128.size a ≤ S2x512x128.size a) (a : Fin 512) (l : Fin 128) :
    w.view.readAt (Elt Ideal) (Rect.unit (s := S2x512x128) ![b, 0, 0] S1x512x128.size inb).toLoadRect (h.unread X) (ix3 0 a l) = X (ix3 ⟨b, hb⟩ a l) := by
  refine (congrArg (w.view.read (Elt Ideal) (h.unread X)) ?_).trans (congrFun (h.read_unread X) (ix3 ⟨b, hb⟩ a l))
  idx_ext

/-- A row's running total over the sixteen points of a pair. -/
theorem total {f : ∀ n, n < cfg0.N → EReal} {g : ℕ → ℕ → ℝ}
    (hA : ∀ t : Fin cfg0.N, t.val % 16 = 0 → f t.val t.isLt = ((g (t.val / 16) (t.val % 16) : ℝ) : EReal))
    (hB : ∀ t : Fin cfg0.N, ¬t.val % 16 = 0 → f t.val t.isLt = f (t.val - 1) (Nat.lt_of_le_of_lt (Nat.sub_le _ _) t.isLt) + ((g (t.val / 16) (t.val % 16) : ℝ) : EReal)) :
    ∀ (n : ℕ) (hn : n < cfg0.N), f n hn = ((∑ b ∈ Finset.range (n % 16 + 1), g (n / 16) b : ℝ) : EReal) := by
  intro n
  induction n with
  | zero => exact fun hn => (hA ⟨0, hn⟩ rfl).trans (by simp)
  | succ n ih =>
    intro hn
    by_cases h : (n + 1) % 16 = 0
    · refine (hA ⟨n + 1, hn⟩ h).trans ?_
      simp [h]
    · refine (hB ⟨n + 1, hn⟩ h).trans ?_
      refine (congrArg (· + _) (ih (by omega))).trans ?_
      have e : (n + 1) % 16 = n % 16 + 1 := by omega
      have e' : (n + 1) / 16 = n / 16 := by omega
      rw [← EReal.coe_add]
      show ((_ + g ((n + 1) / 16) ((n + 1) % 16) : ℝ) : EReal) = _
      rw [e, e', Finset.sum_range_succ _ (n % 16 + 1)]

/-- The window is flushed at a pair's last point. -/
theorem flush8 : ∀ t : Fin cfg0.N, (cfg0.win 8).flush t = true → t.val % 16 = 15 := (by decide +kernel : ∀ t : Fin grid0.N, _)

/-- The window is flushed at a pair's last point. -/
theorem flush9 : ∀ t : Fin cfg0.N, (cfg0.win 9).flush t = true → t.val % 16 = 15 := (by decide +kernel : ∀ t : Fin grid0.N, _)

/-- The window is flushed at a pair's last point. -/
theorem flush10 : ∀ t : Fin cfg0.N, (cfg0.win 10).flush t = true → t.val % 16 = 15 := (by decide +kernel : ∀ t : Fin grid0.N, _)

theorem sixteen (f : ℕ → ℝ) : (∑ b ∈ Finset.range 16, ∑ a : Fin 512, f (512 * b + a)) = ∑ i : Fin 8192, f i := by
  rw [← sum_blocks f, Finset.sum_range]
  simp only [Nat.mul_comm]

/-- The pair's parts are the gradients. -/
theorem sum_keyC (D : Data) (p j l : ℕ) : (∑ b ∈ Finset.range 16, keyC D p (512 * b) j l) = dk D (2 * p + l / 64) j (l % 64) :=
  sixteen fun i => ds D (2 * p + l / 64) i j * (D.q (2 * p + l / 64) i (l % 64) * (1 / 8))

theorem sum_valC (D : Data) (p j l : ℕ) : (∑ b ∈ Finset.range 16, valC D p (512 * b) j l) = dv D (2 * p + l / 64) j (l % 64) :=
  sixteen fun i => P D (2 * p + l / 64) i j * D.g (2 * p + l / 64) i (l % 64)

theorem sum_sumC (D : Data) (p : ℕ) {j : ℕ} (hj : j < 8192) (l : ℕ) : (∑ b ∈ Finset.range 16, sumC D p (512 * b) j l) = dc D (2 * p + (1 - l / 64)) j := by
  unfold sumC dc
  rw [Finset.sum_add_distrib, Finset.sum_neg_distrib, Finset.sum_eq_single (j / 512) (f := fun b => if 512 * b ≤ j ∧ j < 512 * b + 512 then _ else _)]
  · rw [if_pos (by omega), add_comm, ← sub_eq_add_neg]
    exact congrArg (_ - ·) (sixteen fun i => ds D (2 * p + (1 - l / 64)) i j)
  · intro b _ hb
    rw [if_neg (by omega)]
  · intro h
    exact absurd (Finset.mem_range.mpr (by omega)) h

section Arrays

variable {m : (ℓ : Loc nD τ sig) → Buf (Elt Ideal) ℓ} {D : Data} {c : Dev nD} (H : Holds D (A0 m c) (A1 m c) (A2 m c) (A3 m c) (A4 m c))

include H

/-- A point's windows hold what the sweep needs. -/
theorem ok (t : Fin cfg0.N) (G10 : BufTy.Contents (Elt Ideal) (ms0_8 t).view.ty) (G11 : BufTy.Contents (Elt Ideal) (ms0_9 t).view.ty) (G12 : BufTy.Contents (Elt Ideal) (ms0_10 t).view.ty) {s0 s1 : ℝ}
    (h0 : starts (A3 m c) (ix2 ⟨2 * (t.val / 16) + (0 : Fin 2), by have := lt64 t; omega⟩ ⟨t.val % 16, by omega⟩) = (s0 : EReal))
    (h1 : starts (A3 m c) (ix2 ⟨2 * (t.val / 16) + (1 : Fin 2), by have := lt64 t; omega⟩ ⟨t.val % 16, by omega⟩) = (s1 : EReal)) :
    Pt.Ok D s0 s1 t (pt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) G10 G11 G12) := by
  have hq := fun a l => (load_all (ms0_0 t) (hs0_0 t) (iblk m c 0 t) a l).trans (blk0 H t a l)
  have ho := fun a l => (load_all (ms0_4 t) (hs0_4 t) (iblk m c 4 t) a l).trans (blk4 H t a l)
  have hg := fun a l => (load_all (ms0_5 t) (hs0_5 t) (iblk m c 5 t) a l).trans (blk5 H t a l)
  refine ⟨rfl, rows0 _ _ _ _ hq hg ho fun a l => ?_, rows1 _ _ _ _ hq hg ho fun a l => ?_, fun j l => ?_, fun j l => ?_, fun b j => ?_, ?_, ?_⟩
  · obtain ⟨M, hM⟩ := blk6 H t 0 a l h0
    exact ⟨M, (load_head (ms0_6 t) (hs0_6 t) (iblk m c 6 t) (by omega) _ a l).trans hM⟩
  · obtain ⟨M, hM⟩ := blk6 H t 1 a l h1
    exact ⟨M, (load_head (ms0_6 t) (hs0_6 t) (iblk m c 6 t) (by omega) _ a l).trans hM⟩
  · exact (congrFun ((hs0_1 t).read_unread (iblk m c 1 t)) (ix2 j l)).trans (blk1 H t j l)
  · exact (congrFun ((hs0_2 t).read_unread (iblk m c 2 t)) (ix2 j l)).trans (blk2 H t j l)
  · exact (congrFun ((hs0_3 t).read_unread (iblk m c 3 t)) (ix3 0 b j)).trans (blk3 H t b j)
  · rw [← h0, starts_fold]
    exact congrArg (fun f => Finset.fold max ⊥ f Finset.univ) (funext fun a => (congrFun ((hs0_3 t).read_unread (iblk m c 3 t)) _).trans (blk3_cum H t 0 _))
  · rw [← h1, starts_fold]
    exact congrArg (fun f => Finset.fold max ⊥ f Finset.univ) (funext fun a => (congrFun ((hs0_3 t).read_unread (iblk m c 3 t)) _).trans (blk3_cum H t 1 _))

/-- Each point leaves its queries' gradient, -/
theorem left7 (t : Fin cfg0.N) (a : Fin 512) (l : Fin 128) :
    (outsAt0 m c t.val t.isLt).1 (ix2 a l) = ((dq D (2 * (t.val / 16) + l / 64) (512 * (t.val % 16) + a) (l % 64) : ℝ) : EReal) := by
  obtain ⟨s0, h0⟩ := starts_real H ⟨2 * (t.val / 16) + (0 : Fin 2), by have := lt64 t; omega⟩ ⟨t.val % 16, by omega⟩
  obtain ⟨s1, h1⟩ := starts_real H ⟨2 * (t.val / 16) + (1 : Fin 2), by have := lt64 t; omega⟩ ⟨t.val % 16, by omega⟩
  by_cases h : t.val % 16 = 0
  · rw [outsAt0_A m c t h]
    exact outA_7 c _ _ _ _ _ _ _ _ _ _ _ _ _ _ _ _ _ _ _ _ _ _ _ _ _ _ _ _ _ ((hcond0_0 t).mpr h) (ok H t _ _ _ h0 h1) a l
  · rw [outsAt0_B m c t h]
    dsimp only
    exact outB_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h' => h ((hcond0_0 t).mp h')) (ok H t _ _ _ h0 h1) a l

/-- The keys' gradient after a pair's last point, as its sixteen points' parts. -/
theorem left8 (t : Fin cfg0.N) (ht : t.val % 16 = 15) (j : Fin 8192) (l : Fin 128) :
    (outsAt0 m c t.val t.isLt).2.1 (ix2 j l) = ((∑ b ∈ Finset.range 16, keyC D (t.val / 16) (512 * b) j l : ℝ) : EReal) := by
  refine (total (f := fun n hn => (outsAt0 m c n hn).2.1 (ix2 j l)) (g := fun p b => keyC D p (512 * b) j l) (fun t h => ?_) (fun t h => ?_) t.val t.isLt).trans (by rw [ht])
  all_goals
    obtain ⟨s0, h0⟩ := starts_real H ⟨2 * (t.val / 16) + (0 : Fin 2), by have := lt64 t; omega⟩ ⟨t.val % 16, by omega⟩
    obtain ⟨s1, h1⟩ := starts_real H ⟨2 * (t.val / 16) + (1 : Fin 2), by have := lt64 t; omega⟩ ⟨t.val % 16, by omega⟩
  · rw [outsAt0_A m c t h]
    exact outA_8 c _ _ _ _ _ _ _ _ _ _ _ _ _ _ _ _ _ _ _ _ _ _ _ _ _ _ _ _ _ ((hcond0_0 t).mpr h) (ok H t _ _ _ h0 h1) j l
  · rw [outsAt0_B m c t h]
    exact outB_8 c _ _ _ _ _ _ _ _ _ _ _ _ _ _ _ _ _ _ _ _ _ _ _ _ _ _ _ _ _ (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h' => h ((hcond0_0 t).mp h')) (ok H t _ _ _ h0 h1) j l

/-- the values', as its sixteen points' parts. -/
theorem left9 (t : Fin cfg0.N) (ht : t.val % 16 = 15) (j : Fin 8192) (l : Fin 128) :
    (outsAt0 m c t.val t.isLt).2.2.1 (ix2 j l) = ((∑ b ∈ Finset.range 16, valC D (t.val / 16) (512 * b) j l : ℝ) : EReal) := by
  refine (total (f := fun n hn => (outsAt0 m c n hn).2.2.1 (ix2 j l)) (g := fun p b => valC D p (512 * b) j l) (fun t h => ?_) (fun t h => ?_) t.val t.isLt).trans (by rw [ht])
  all_goals
    obtain ⟨s0, h0⟩ := starts_real H ⟨2 * (t.val / 16) + (0 : Fin 2), by have := lt64 t; omega⟩ ⟨t.val % 16, by omega⟩
    obtain ⟨s1, h1⟩ := starts_real H ⟨2 * (t.val / 16) + (1 : Fin 2), by have := lt64 t; omega⟩ ⟨t.val % 16, by omega⟩
  · rw [outsAt0_A m c t h]
    exact outA_9 c _ _ _ _ _ _ _ _ _ _ _ _ _ _ _ _ _ _ _ _ _ _ _ _ _ _ _ _ _ ((hcond0_0 t).mpr h) (ok H t _ _ _ h0 h1) j l
  · rw [outsAt0_B m c t h]
    exact outB_9 c _ _ _ _ _ _ _ _ _ _ _ _ _ _ _ _ _ _ _ _ _ _ _ _ _ _ _ _ _ (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h' => h ((hcond0_0 t).mp h')) (ok H t _ _ _ h0 h1) j l

/-- and the running sums'. as its sixteen points' parts. -/
theorem left10 (t : Fin cfg0.N) (ht : t.val % 16 = 15) (j : Fin 8192) (l : Fin 128) :
    (outsAt0 m c t.val t.isLt).2.2.2 (ix2 j l) = ((∑ b ∈ Finset.range 16, sumC D (t.val / 16) (512 * b) j l : ℝ) : EReal) := by
  refine (total (f := fun n hn => (outsAt0 m c n hn).2.2.2 (ix2 j l)) (g := fun p b => sumC D p (512 * b) j l) (fun t h => ?_) (fun t h => ?_) t.val t.isLt).trans (by rw [ht])
  all_goals
    obtain ⟨s0, h0⟩ := starts_real H ⟨2 * (t.val / 16) + (0 : Fin 2), by have := lt64 t; omega⟩ ⟨t.val % 16, by omega⟩
    obtain ⟨s1, h1⟩ := starts_real H ⟨2 * (t.val / 16) + (1 : Fin 2), by have := lt64 t; omega⟩ ⟨t.val % 16, by omega⟩
  · rw [outsAt0_A m c t h]
    exact outA_10 c _ _ _ _ _ _ _ _ _ _ _ _ _ _ _ _ _ _ _ _ _ _ _ _ _ _ _ _ _ ((hcond0_0 t).mpr h) (ok H t _ _ _ h0 h1) j l
  · rw [outsAt0_B m c t h]
    exact outB_10 c _ _ _ _ _ _ _ _ _ _ _ _ _ _ _ _ _ _ _ _ _ _ _ _ _ _ _ _ _ (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h' => h ((hcond0_0 t).mp h')) (ok H t _ _ _ h0 h1) j l

/-- The queries' gradient is the reference's. -/
theorem final7 : (dats m 0 c).arrAt 7 (cfgs 0).N = val_main_v92 (F := Ideal) (A0 m c) (A1 m c) (A2 m c) (A3 m c) (A4 m c) := by
  refine (dats m 0 c).arrAt_eq_of_covers 7 _ (by decide +kernel) fun t hf y => ?_
  blk_simp
  rw [after0_7]
  have ht := lt64 t
  idx_vars y
  have e : ((View.whole main_v52_0).slice (win0_7.rect t)).emb (ix2 y0 y1) = ix2 ⟨512 * (t.val % 16) + y0, by omega⟩ ⟨128 * (t.val / 16) + y1, by omega⟩ := by blk_ext [idx t]
  rw [e]
  refine (left7 H t y0 y1).trans (Eq.symm ((ref_dq H ⟨512 * (t.val % 16) + y0, by omega⟩ ⟨128 * (t.val / 16) + y1, by omega⟩).trans ?_))
  rw [show (128 * (t.val / 16) + y1.val) / 64 = 2 * (t.val / 16) + y1 / 64 by omega, show (128 * (t.val / 16) + y1.val) % 64 = y1.val % 64 by omega]

/-- The keys' gradient is the reference's. -/
theorem final8 : (dats m 0 c).arrAt 8 (cfgs 0).N = val_main_v93 (F := Ideal) (A0 m c) (A1 m c) (A2 m c) (A3 m c) (A4 m c) := by
  refine (dats m 0 c).arrAt_eq_of_covers 8 _ (by decide +kernel) fun t hf y => ?_
  have h15 := flush8 t hf
  blk_simp
  rw [after0_8]
  have ht := lt64 t
  idx_vars y
  have e : ((View.whole main_v52_1).slice (win0_8.rect t)).emb (ix2 y0 y1) = ix2 y0 ⟨128 * (t.val / 16) + y1, by omega⟩ := by blk_ext [idx t]
  rw [e]
  refine (left8 H t h15 y0 y1).trans ((congrArg ((↑) : ℝ → EReal) (sum_keyC D (t.val / 16) y0 y1)).trans (Eq.symm ((ref_dk H y0 ⟨128 * (t.val / 16) + y1, by omega⟩).trans ?_)))
  rw [show (128 * (t.val / 16) + y1.val) / 64 = 2 * (t.val / 16) + y1 / 64 by omega, show (128 * (t.val / 16) + y1.val) % 64 = y1.val % 64 by omega]

/-- The values' gradient is the reference's. -/
theorem final9 : (dats m 0 c).arrAt 9 (cfgs 0).N = val_main_v94 (F := Ideal) (A0 m c) (A1 m c) (A3 m c) (A4 m c) := by
  refine (dats m 0 c).arrAt_eq_of_covers 9 _ (by decide +kernel) fun t hf y => ?_
  have h15 := flush9 t hf
  blk_simp
  rw [after0_9]
  have ht := lt64 t
  idx_vars y
  have e : ((View.whole main_v52_2).slice (win0_9.rect t)).emb (ix2 y0 y1) = ix2 y0 ⟨128 * (t.val / 16) + y1, by omega⟩ := by blk_ext [idx t]
  rw [e]
  refine (left9 H t h15 y0 y1).trans ((congrArg ((↑) : ℝ → EReal) (sum_valC D (t.val / 16) y0 y1)).trans (Eq.symm ((ref_dv H y0 ⟨128 * (t.val / 16) + y1, by omega⟩).trans ?_)))
  rw [show (128 * (t.val / 16) + y1.val) / 64 = 2 * (t.val / 16) + y1 / 64 by omega, show (128 * (t.val / 16) + y1.val) % 64 = y1.val % 64 by omega]

/-- The running sums' gradient is the reference's. -/
theorem final10 : (dats m 0 c).arrAt 10 (cfgs 0).N = val_main_v90 (F := Ideal) (A0 m c) (A1 m c) (A2 m c) (A3 m c) (A4 m c) := by
  refine (dats m 0 c).arrAt_eq_of_covers 10 _ (by decide +kernel) fun t hf y => ?_
  have h15 := flush10 t hf
  blk_simp
  rw [after0_10]
  have ht := lt64 t
  idx_vars y
  have e : ((View.whole main_v52_3).slice (win0_10.rect t)).emb (ix2 y0 y1) = ix2 y0 ⟨128 * (t.val / 16) + y1, by omega⟩ := by blk_ext [idx t]
  rw [e]
  refine (left10 H t h15 y0 y1).trans ((congrArg ((↑) : ℝ → EReal) (sum_sumC D (t.val / 16) y0.isLt y1)).trans (Eq.symm ((ref_dc H y0 ⟨128 * (t.val / 16) + y1, by omega⟩).trans ?_)))
  rw [show (128 * (t.val / 16) + y1.val) / 128 = t.val / 16 by omega, show (128 * (t.val / 16) + y1.val) % 128 = y1.val by omega]

end Arrays

end Cert.FoxBwdIdeal.Grad

end
-- ==== Proof.FoxClaims.lean ====
module

public import proofs.«01_k».proof.Defs
public import proofs.«01_k».proof.Proof.Gen.FoxBwd
public import proofs.«01_k».proof.Proof.Gen.FoxBwd.Frame
public import proofs.«01_k».proof.Proof.Gen.FoxBwdIdeal.Frame
public import proofs.«01_k».proof.Proof.Gen.FoxBwdIdeal.Value
public import proofs.«01_k».proof.Proof.Gen.FoxBwdRefIdeal
public import proofs.«01_k».proof.Proof.Gen.FoxBwdRefIdeal.Run
public import proofs.«01_k».proof.Proof.Gen.FoxBwdRefIdeal.Read
public import proofs.«01_k».proof.Proof.Gen.Pre_finite_fox
public import proofs.«01_k».proof.Proof.FoxValue
public import Idealize.ShloMosaic.Lib.Claim
public import Idealize.ShloMosaic.Adequacy
public import Idealize.ShloMosaic.Init

/-! # The claims about the forgetting attention's backward sweep -/

@[expose] public section

noncomputable section

namespace Cert.Proof

open Idealize.ShloMosaic Idealize.SL.Sem

/-- The program of the attention's backward sweep runs to its end and leaves its arguments alone. -/
theorem fox_frame : Cert.quiescent_FoxBwd (hFoxBwd := Cert.FoxBwd.Gen.facts) := fun m ρ _ => Cert.FoxBwd.Gen.frame m ρ

/-- So does its ideal reading, -/
theorem fox_frame_ideal : Cert.quiescent_FoxBwdIdeal (hFoxBwdIdeal := Cert.FoxBwdIdeal.Gen.facts) := fun m ρ _ => Cert.FoxBwdIdeal.Gen.frame m ρ

/-- with the precondition too. -/
theorem fox_frame_pre : Cert.quiescent_FoxBwdIdeal_pre_finite_fox (hFoxBwdIdeal := Cert.FoxBwdIdeal.Gen.facts) (hPre_finite_fox := Cert.Pre_finite_fox.Gen.facts) :=
  fun m ρ _ => Cert.FoxBwdIdeal.Gen.frame m ρ

/-- The reference runs to its end. -/
theorem fox_ref : Cert.quiescent_FoxBwdRefIdeal (hFoxBwdRefIdeal := Cert.FoxBwdRefIdeal.Gen.facts) := by
  intro m g _
  exact (θ_run Cert.FoxBwdRefIdeal.defs _ _).mono (fun r h => ⟨fun c => (h c).2.2.2.2, sem_eq_zero_of_no_sems (by decide) r.2⟩)
    (Cert.FoxBwdRefIdeal.Value.run m g)

theorem fox_ref_pre : Cert.quiescent_FoxBwdRefIdeal_pre_finite_fox (hFoxBwdRefIdeal := Cert.FoxBwdRefIdeal.Gen.facts) (hPre_finite_fox := Cert.Pre_finite_fox.Gen.facts) :=
  fun m g _ => fox_ref m g trivial

/-- Over the reals the kernel's results are the reference's. -/
theorem fox_value : Cert.algebraic_FoxBwdIdeal_FoxBwdRefIdeal_pre_finite_fox (hFoxBwdIdeal := Cert.FoxBwdIdeal.Gen.facts)
    (hFoxBwdRefIdeal := Cert.FoxBwdRefIdeal.Gen.facts) (hPre_finite_fox := Cert.Pre_finite_fox.Gen.facts) := by
  intro m g m' g' hpre hagree
  refine ⟨fun c => Cert.FoxBwdRefIdeal.Read.val_main_v92 (F := Ideal) (m ((c.tc : Thread _ _).loc Cert.FoxBwdIdeal.main_arg0)) (m ((c.tc : Thread _ _).loc Cert.FoxBwdIdeal.main_arg1)) (m ((c.tc : Thread _ _).loc Cert.FoxBwdIdeal.main_arg2)) (m ((c.tc : Thread _ _).loc Cert.FoxBwdIdeal.main_arg3)) (m ((c.tc : Thread _ _).loc Cert.FoxBwdIdeal.main_arg4)),
    fun c => Cert.FoxBwdRefIdeal.Read.val_main_v93 (F := Ideal) (m ((c.tc : Thread _ _).loc Cert.FoxBwdIdeal.main_arg0)) (m ((c.tc : Thread _ _).loc Cert.FoxBwdIdeal.main_arg1)) (m ((c.tc : Thread _ _).loc Cert.FoxBwdIdeal.main_arg2)) (m ((c.tc : Thread _ _).loc Cert.FoxBwdIdeal.main_arg3)) (m ((c.tc : Thread _ _).loc Cert.FoxBwdIdeal.main_arg4)),
    fun c => Cert.FoxBwdRefIdeal.Read.val_main_v94 (F := Ideal) (m ((c.tc : Thread _ _).loc Cert.FoxBwdIdeal.main_arg0)) (m ((c.tc : Thread _ _).loc Cert.FoxBwdIdeal.main_arg1)) (m ((c.tc : Thread _ _).loc Cert.FoxBwdIdeal.main_arg3)) (m ((c.tc : Thread _ _).loc Cert.FoxBwdIdeal.main_arg4)),
    fun c => Cert.FoxBwdRefIdeal.Read.val_main_v90 (F := Ideal) (m ((c.tc : Thread _ _).loc Cert.FoxBwdIdeal.main_arg0)) (m ((c.tc : Thread _ _).loc Cert.FoxBwdIdeal.main_arg1)) (m ((c.tc : Thread _ _).loc Cert.FoxBwdIdeal.main_arg2)) (m ((c.tc : Thread _ _).loc Cert.FoxBwdIdeal.main_arg3)) (m ((c.tc : Thread _ _).loc Cert.FoxBwdIdeal.main_arg4)), ?_, ?_⟩
  · refine (θ_run Cert.FoxBwdIdeal.defs _ _).mono (fun r h c => ⟨(h c).1.trans ?_, (h c).2.1.trans ?_, (h c).2.2.1.trans ?_, (h c).2.2.2.1.trans ?_, (h c).2.2.2.2⟩)
      (Cert.FoxBwdIdeal.Value.run_blocks (F := Ideal) m g)
    all_goals
      have hp := hpre c
      obtain ⟨D, H⟩ := Fox.exists_data (Reals.all_real _ _ hp.1) (Reals.all_real _ _ hp.2.1) (Reals.all_real _ _ hp.2.2.1)
        (Reals.all_real _ _ hp.2.2.2.1) (Reals.all_real _ _ hp.2.2.2.2)
    · exact Cert.FoxBwdIdeal.Grad.final7 H
    · exact Cert.FoxBwdIdeal.Grad.final8 H
    · exact Cert.FoxBwdIdeal.Grad.final9 H
    · exact Cert.FoxBwdIdeal.Grad.final10 H
  · refine (θ_run Cert.FoxBwdRefIdeal.defs _ _).mono (fun r h c => ⟨(h c).1.trans ?_, (h c).2.1.trans ?_, (h c).2.2.1.trans ?_, (h c).2.2.2.1.trans ?_, (h c).2.2.2.2⟩)
      (Cert.FoxBwdRefIdeal.Value.run (F := Ideal) m' g')
    · refine (Cert.FoxBwdRefIdeal.Read.val_main_v92_eq (F := Ideal) m' c).trans ?_
      obtain ⟨h0, h1, h2, h3, h4⟩ := hagree c
      rw [h0, h1, h2, h3, h4]
    · refine (Cert.FoxBwdRefIdeal.Read.val_main_v93_eq (F := Ideal) m' c).trans ?_
      obtain ⟨h0, h1, h2, h3, h4⟩ := hagree c
      rw [h0, h1, h2, h3, h4]
    · refine (Cert.FoxBwdRefIdeal.Read.val_main_v94_eq (F := Ideal) m' c).trans ?_
      obtain ⟨h0, h1, h2, h3, h4⟩ := hagree c
      rw [h0, h1, h3, h4]
    · refine (Cert.FoxBwdRefIdeal.Read.val_main_v90_eq (F := Ideal) m' c).trans ?_
      obtain ⟨h0, h1, h2, h3, h4⟩ := hagree c
      rw [h0, h1, h2, h3, h4]

end Cert.Proof

end
-- ==== Proof.MixValue.lean ====
module

public import proofs.«01_k».proof.Proof.Reals
public import proofs.«01_k».proof.Proof.Gen.MixBwdIdeal.Frame
public import proofs.«01_k».proof.Proof.Gen.MixBwdRefIdeal.Read
public import Idealize.ShloMosaic.Lib.Pipeline.ValueKit

/-! # The gated mix's gradient

Every element of the three results is a product of the same factors in both programs, so the claim needs no precondition. -/

@[expose] public section

set_option maxRecDepth 16384

noncomputable section

namespace Cert.MixBwdIdeal.Grad

open Cert.MixBwdIdeal Cert.MixBwdIdeal.Gen Idealize.ShloMosaic Idealize.ShloMosaic.TcCoe Idealize.SL.Sem
open Idealize.ShloMosaic.Pipeline (Dat)
open Cert.Reals
open Cert.MixBwdRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem lt16 (t : Fin cfg0.N) : t.val < 16 := t.isLt

/-! What each window holds at a point. -/

theorem blk0 (c : Dev nD) (t : Fin cfg0.N) (a : Fin 512) (k : Fin 1024) :
    iblk m c 0 t (ix2 a k) = m ((c : Thread nD τ).loc main_arg4) (ix2 ⟨t.val * 512 + a, by have := lt16 t; omega⟩ k) := by
  blk_ext [iblk, V, idx t]

theorem blk1 (c : Dev nD) (t : Fin cfg0.N) (a : Fin 1024) (k : Fin 1024) :
    iblk m c 1 t (ix2 a k) = m ((c : Thread nD τ).loc main_arg3) (ix2 a k) := by
  blk_simp [iblk]
  entry_read
  blk_ext [idx t]

theorem blk2 (c : Dev nD) (t : Fin cfg0.N) (a : Fin 512) (k : Fin 2048) :
    iblk m c 2 t (ix2 a k) = m ((c : Thread nD τ).loc main_arg0) (ix2 ⟨t.val * 512 + a, by have := lt16 t; omega⟩ k) := by
  blk_simp [iblk]
  entry_read
  blk_ext [idx t]

theorem blk3 (c : Dev nD) (t : Fin cfg0.N) (a : Fin 512) (k : Fin 2048) :
    iblk m c 3 t (ix2 a k) = m ((c : Thread nD τ).loc main_arg1) (ix2 ⟨t.val * 512 + a, by have := lt16 t; omega⟩ k) := by
  blk_simp [iblk]
  entry_read
  blk_ext [idx t]

theorem blk4 (c : Dev nD) (t : Fin cfg0.N) (a : Fin 512) (k : Fin 1024) :
    iblk m c 4 t (ix2 a k) = m ((c : Thread nD τ).loc main_arg2) (ix2 ⟨t.val * 512 + a, by have := lt16 t; omega⟩ k) := by
  blk_simp [iblk]
  entry_read
  blk_ext [idx t]

/-- The second branch's output. -/
theorem final7 (c : Dev nD) : (dats m 0 c).arrAt 7 (cfgs 0).N
    = val_main_v40 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  have ht := lt16 t
  idx_vars y
  have e : ((View.whole main_v4_2).slice (win0_7.rect t)).emb (ix2 y0 y1) = ix2 ⟨t.val * 512 + y0, by omega⟩ y1 := by blk_ext [idx t]
  rw [e]
  open_payloads; pointwise
  simp only [blk0, blk1, blk2, blk3, blk4]
  generalize m ((c : Thread nD τ).loc main_arg1) = g
  generalize m ((c : Thread nD τ).loc main_arg3) = w
  generalize m ((c : Thread nD τ).loc main_arg4) = d
  pointwise [val_main_v40, val_main_v28, val_main_v22, val_main_v17, val_main_v16, val_main_v15, val_main_v14, val_main_v13, val_main_v12, val_main_v27, val_main_cst_2, val_main_cst_3]
  simp only [zero_sub]
  ac_rfl

/-- The two halves of the gated output. -/
theorem final5 (c : Dev nD) : (dats m 0 c).arrAt 5 (cfgs 0).N
    = val_main_v38 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 5 _ (by decide +kernel) fun t hf y => ?_
  blk_simp
  rw [after0_5]
  frame_out
  have ht := lt16 t
  canon_tiles x h
  · idx_vars x
    have e : ((View.whole main_v4_0).slice (win0_5.rect t)).emb y = ix2 ⟨t.val * 512 + x0, by omega⟩ ⟨1024 + x1, by omega⟩ := by blk_ext [idx t]
    rw [e]
    open_payloads; pointwise
    simp only [blk0, blk1, blk2, blk3, blk4]
    generalize m ((c : Thread nD τ).loc main_arg0) = u
    generalize m ((c : Thread nD τ).loc main_arg1) = g
    generalize m ((c : Thread nD τ).loc main_arg3) = w
    generalize m ((c : Thread nD τ).loc main_arg4) = d
    pointwise [val_main_v38, val_main_v37, val_main_v36, val_main_v35, val_main_v34, val_main_v30, val_main_v21, val_main_v10, val_main_v9, val_main_v8, val_main_v7, val_main_v6, val_main_v5, val_main_v4, val_main_v3, val_main_v2, val_main_v1, val_main_v0, val_main_v17, val_main_v16, val_main_v15, val_main_v14, val_main_v13, val_main_v12, val_main_v27, val_main_cst, val_main_cst_0, val_main_cst_1, val_main_cst_2, val_main_cst_3]
    simp only [zero_sub]
    ac_rfl
  · idx_vars x
    have e : ((View.whole main_v4_0).slice (win0_5.rect t)).emb y = ix2 ⟨t.val * 512 + x0, by omega⟩ ⟨x1, by omega⟩ := by blk_ext [idx t]
    rw [e]
    open_payloads; pointwise
    simp only [blk0, blk1, blk2, blk3, blk4]
    generalize m ((c : Thread nD τ).loc main_arg0) = u
    generalize m ((c : Thread nD τ).loc main_arg1) = g
    generalize m ((c : Thread nD τ).loc main_arg3) = w
    generalize m ((c : Thread nD τ).loc main_arg4) = d
    pointwise [val_main_v38, val_main_v37, val_main_v36, val_main_v35, val_main_v34, val_main_v30, val_main_v21, val_main_v10, val_main_v9, val_main_v8, val_main_v7, val_main_v6, val_main_v5, val_main_v4, val_main_v3, val_main_v2, val_main_v1, val_main_v0, val_main_v17, val_main_v16, val_main_v15, val_main_v14, val_main_v13, val_main_v12, val_main_v27, val_main_cst, val_main_cst_0, val_main_cst_1, val_main_cst_2, val_main_cst_3]
    simp only [zero_sub]
    ac_rfl

/-- The two halves of the gates. -/
theorem final6 (c : Dev nD) : (dats m 0 c).arrAt 6 (cfgs 0).N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  have ht := lt16 t
  canon_tiles x h
  · idx_vars x
    have e : ((View.whole main_v4_1).slice (win0_6.rect t)).emb y = ix2 ⟨t.val * 512 + x0, by omega⟩ ⟨1024 + x1, by omega⟩ := by blk_ext [idx t]
    rw [e]
    open_payloads; pointwise
    simp only [blk0, blk1, blk2, blk3, blk4]
    generalize m ((c : Thread nD τ).loc main_arg0) = u
    generalize m ((c : Thread nD τ).loc main_arg1) = g
    generalize m ((c : Thread nD τ).loc main_arg2) = o
    generalize m ((c : Thread nD τ).loc main_arg3) = w
    generalize m ((c : Thread nD τ).loc main_arg4) = d
    pointwise [val_main_v39, val_main_v33, val_main_v32, val_main_v31, val_main_v29, val_main_v20, val_main_v19, val_main_v18, val_main_v11, val_main_cst_4, val_main_v21, val_main_v10, val_main_v9, val_main_v8, val_main_v7, val_main_v6, val_main_v5, val_main_v4, val_main_v3, val_main_v2, val_main_v1, val_main_v0, val_main_v17, val_main_v16, val_main_v15, val_main_v14, val_main_v13, val_main_v12, val_main_v27, val_main_cst, val_main_cst_0, val_main_cst_1, val_main_cst_2, val_main_cst_3]
    simp only [zero_sub]
    ac_rfl
  · idx_vars x
    have e : ((View.whole main_v4_1).slice (win0_6.rect t)).emb y = ix2 ⟨t.val * 512 + x0, by omega⟩ ⟨x1, by omega⟩ := by blk_ext [idx t]
    rw [e]
    open_payloads; pointwise
    simp only [blk0, blk1, blk2, blk3, blk4]
    generalize m ((c : Thread nD τ).loc main_arg0) = u
    generalize m ((c : Thread nD τ).loc main_arg1) = g
    generalize m ((c : Thread nD τ).loc main_arg2) = o
    generalize m ((c : Thread nD τ).loc main_arg3) = w
    generalize m ((c : Thread nD τ).loc main_arg4) = d
    pointwise [val_main_v39, val_main_v33, val_main_v32, val_main_v31, val_main_v29, val_main_v20, val_main_v19, val_main_v18, val_main_v11, val_main_cst_4, val_main_v21, val_main_v10, val_main_v9, val_main_v8, val_main_v7, val_main_v6, val_main_v5, val_main_v4, val_main_v3, val_main_v2, val_main_v1, val_main_v0, val_main_v17, val_main_v16, val_main_v15, val_main_v14, val_main_v13, val_main_v12, val_main_v27, val_main_cst, val_main_cst_0, val_main_cst_1, val_main_cst_2, val_main_cst_3]
    simp only [zero_sub]
    ac_rfl

end Cert.MixBwdIdeal.Grad

end
-- ==== Proof.MixClaims.lean ====
module

public import proofs.«01_k».proof.Defs
public import proofs.«01_k».proof.Proof.Gen.MixBwd
public import proofs.«01_k».proof.Proof.Gen.MixBwd.Frame
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.MixValue
public import Idealize.ShloMosaic.Lib.Claim
public import Idealize.ShloMosaic.Adequacy
public import Idealize.ShloMosaic.Init

/-! # The claims about the gated mix's gradient -/

@[expose] public section

noncomputable section

namespace Cert.Proof

open Idealize.ShloMosaic Idealize.SL.Sem

/-- The program of the gated mix's gradient runs to its end and leaves its arguments alone. -/
theorem mix_frame : Cert.quiescent_MixBwd (hMixBwd := Cert.MixBwd.Gen.facts) := fun m ρ _ => Cert.MixBwd.Gen.frame m ρ

/-- So does its ideal reading, -/
theorem mix_frame_ideal : Cert.quiescent_MixBwdIdeal (hMixBwdIdeal := Cert.MixBwdIdeal.Gen.facts) := fun m ρ _ => Cert.MixBwdIdeal.Gen.frame m ρ

/-- The reference runs to its end. -/
theorem mix_ref : Cert.quiescent_MixBwdRefIdeal (hMixBwdRefIdeal := Cert.MixBwdRefIdeal.Gen.facts) := by
  intro m g _
  exact (θ_run Cert.MixBwdRefIdeal.defs _ _).mono (fun r h => ⟨fun c => (h c).2.2.2, sem_eq_zero_of_no_sems (by decide) r.2⟩)
    (Cert.MixBwdRefIdeal.Value.run m g)

/-- Over the reals the kernel's results are the reference's. -/
theorem mix_value : Cert.algebraic_MixBwdIdeal_MixBwdRefIdeal (hMixBwdIdeal := Cert.MixBwdIdeal.Gen.facts)
    (hMixBwdRefIdeal := Cert.MixBwdRefIdeal.Gen.facts) := by
  intro m g m' g' _ hagree
  refine ⟨fun c => Cert.MixBwdRefIdeal.Read.val_main_v38 (F := Ideal) (m ((c.tc : Thread _ _).loc Cert.MixBwdIdeal.main_arg0)) (m ((c.tc : Thread _ _).loc Cert.MixBwdIdeal.main_arg1)) (m ((c.tc : Thread _ _).loc Cert.MixBwdIdeal.main_arg3)) (m ((c.tc : Thread _ _).loc Cert.MixBwdIdeal.main_arg4)),
    fun c => Cert.MixBwdRefIdeal.Read.val_main_v39 (F := Ideal) (m ((c.tc : Thread _ _).loc Cert.MixBwdIdeal.main_arg0)) (m ((c.tc : Thread _ _).loc Cert.MixBwdIdeal.main_arg1)) (m ((c.tc : Thread _ _).loc Cert.MixBwdIdeal.main_arg2)) (m ((c.tc : Thread _ _).loc Cert.MixBwdIdeal.main_arg3)) (m ((c.tc : Thread _ _).loc Cert.MixBwdIdeal.main_arg4)),
    fun c => Cert.MixBwdRefIdeal.Read.val_main_v40 (F := Ideal) (m ((c.tc : Thread _ _).loc Cert.MixBwdIdeal.main_arg1)) (m ((c.tc : Thread _ _).loc Cert.MixBwdIdeal.main_arg3)) (m ((c.tc : Thread _ _).loc Cert.MixBwdIdeal.main_arg4)), ?_, ?_⟩
  · refine (θ_run Cert.MixBwdIdeal.defs _ _).mono (fun r h c => ⟨(h c).1.trans ?_, (h c).2.1.trans ?_, (h c).2.2.1.trans ?_, (h c).2.2.2⟩)
      (Cert.MixBwdIdeal.Value.run_blocks (F := Ideal) m g)
    · exact Cert.MixBwdIdeal.Grad.final5 m c
    · exact Cert.MixBwdIdeal.Grad.final6 m c
    · exact Cert.MixBwdIdeal.Grad.final7 m c
  · refine (θ_run Cert.MixBwdRefIdeal.defs _ _).mono (fun r h c => ⟨(h c).1.trans ?_, (h c).2.1.trans ?_, (h c).2.2.1.trans ?_, (h c).2.2.2⟩)
      (Cert.MixBwdRefIdeal.Value.run (F := Ideal) m' g')
    · refine (Cert.MixBwdRefIdeal.Read.val_main_v38_eq (F := Ideal) _ _ _ _).trans ?_
      obtain ⟨h0, h1, h2, h3, h4⟩ := hagree c
      rw [h0, h1, h3, h4]
    · refine (Cert.MixBwdRefIdeal.Read.val_main_v39_eq (F := Ideal) _ _ _ _ _).trans ?_
      obtain ⟨h0, h1, h2, h3, h4⟩ := hagree c
      rw [h0, h1, h2, h3, h4]
    · refine (Cert.MixBwdRefIdeal.Read.val_main_v40_eq (F := Ideal) _ _ _).trans ?_
      obtain ⟨h0, h1, h2, h3, h4⟩ := hagree c
      rw [h1, h3, h4]

end Cert.Proof

end
-- ==== Proof.GainValue.lean ====
module

public import proofs.«01_k».proof.Proof.Reals
public import proofs.«01_k».proof.Proof.Gen.GainBwdIdeal.Frame
public import proofs.«01_k».proof.Proof.Gen.GainBwdRefIdeal.Read
public import Idealize.ShloMosaic.Lib.Pipeline.ValueKit

/-! # The gradient of the memory norm's gain

The kernel adds the rows up in groups of thirty-two, one for each row of a tile of eight, and then the eight; the reference
adds all the rows at once. -/

@[expose] public section

set_option maxRecDepth 16384

noncomputable section

namespace Cert.GainBwdIdeal.Grad

open Cert.GainBwdIdeal Cert.GainBwdIdeal.Gen Idealize.ShloMosaic Idealize.ShloMosaic.TcCoe Idealize.SL.Sem
open Idealize.ShloMosaic.Pipeline (Dat)
open Cert.Reals
open Cert.GainBwdRefIdeal.Read

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- Eight sums over every eighth row are the sum over all rows. -/
theorem groups (f : Fin 256 → EReal) :
    ∑ i : Fin 8, ∑ j : Fin 32, f ⟨j.val * 8 + i.val, by omega⟩ = ∑ r, f r := by
  rw [Finset.sum_comm, Fin.sum_univ_tiles (N := 256) 32 8 rfl]

/-- The kernel's grouped sum is the reference's. -/
theorem gain (x g : S256x1024.Idx → EReal) (y0 : Fin 1) (y1 : Fin 1024) :
    ∑ i : Fin 8, ∑ j : Fin 32, g (ix2 ⟨j.val * 8 + i.val, by omega⟩ y1) * (x (ix2 ⟨j.val * 8 + i.val, by omega⟩ y1) *
      Ideal.rsqrt (Ideal.div (∑ k, x (ix2 ⟨j.val * 8 + i.val, by omega⟩ k) * x (ix2 ⟨j.val * 8 + i.val, by omega⟩ k))
        (Ideal.ofBits FTy.f32 1149239296#32) + Ideal.ofBits FTy.f32 897988541#32))
    = val_main_v15 (F := Ideal) x g (ix2 y0 y1) := by
  pointwise [val_main_v15, val_main_v14, val_main_v13, val_main_v10, val_main_v9, val_main_v8, val_main_v7, val_main_v6, val_main_v5, val_main_v4, val_main_v3, val_main_v2, val_main_v1, val_main_cst_0, val_main_cst_1, val_main_cst_2, val_main_cst_3]
  exact (groups fun r => g (ix2 r y1) * (x (ix2 r y1) * Ideal.rsqrt (Ideal.div (∑ k, x (ix2 r k) * x (ix2 r k))
      (Ideal.ofBits FTy.f32 1149239296#32) + Ideal.ofBits FTy.f32 897988541#32))).trans
    (Finset.sum_congr rfl fun r _ => mul_comm _ _)

/-! What each window holds. -/

theorem blk0 (c : Dev nD) (t : Fin cfg0.N) (a : Fin 256) (k : Fin 1024) :
    iblk m c 0 t (ix2 a k) = m ((c : Thread nD τ).loc main_arg1) (ix2 a k) := by
  blk_ext [iblk, V, idx t]

theorem blk1 (c : Dev nD) (t : Fin cfg0.N) (a : Fin 256) (k : Fin 1024) :
    iblk m c 1 t (ix2 a k) = m ((c : Thread nD τ).loc main_arg0) (ix2 a k) := by
  blk_ext [iblk, V, idx t]

/-- The result is the gain's gradient. -/
theorem final2 (c : Dev nD) : (dats m 0 c).arrAt 2 (cfgs 0).N
    = val_main_v15 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  idx_vars y
  have e : ((View.whole main_v0).slice (win0_2.rect t)).emb (ix2 y0 y1) = ix2 y0 y1 := by blk_ext [idx t]
  rw [e]
  open_payloads; pointwise
  simp only [blk0, blk1]
  exact gain (m ((c : Thread nD τ).loc main_arg0)) (m ((c : Thread nD τ).loc main_arg1)) y0 y1

end Cert.GainBwdIdeal.Grad

end
-- ==== Proof.GainClaims.lean ====
module

public import proofs.«01_k».proof.Defs
public import proofs.«01_k».proof.Proof.Gen.GainBwd
public import proofs.«01_k».proof.Proof.Gen.GainBwd.Frame
public import proofs.«01_k».proof.Proof.Gen.GainBwdIdeal.Frame
public import proofs.«01_k».proof.Proof.Gen.GainBwdIdeal.Value
public import proofs.«01_k».proof.Proof.Gen.GainBwdRefIdeal
public import proofs.«01_k».proof.Proof.Gen.GainBwdRefIdeal.Run
public import proofs.«01_k».proof.Proof.Gen.GainBwdRefIdeal.Read
public import proofs.«01_k».proof.Proof.GainValue
public import Idealize.ShloMosaic.Lib.Claim
public import Idealize.ShloMosaic.Adequacy
public import Idealize.ShloMosaic.Init

/-! # The claims about the gain's gradient -/

@[expose] public section

noncomputable section

namespace Cert.Proof

open Idealize.ShloMosaic Idealize.SL.Sem

/-- The program of the gain's gradient runs to its end and leaves its arguments alone. -/
theorem gain_frame : Cert.quiescent_GainBwd (hGainBwd := Cert.GainBwd.Gen.facts) := fun m ρ _ => Cert.GainBwd.Gen.frame m ρ

/-- So does its ideal reading, -/
theorem gain_frame_ideal : Cert.quiescent_GainBwdIdeal (hGainBwdIdeal := Cert.GainBwdIdeal.Gen.facts) := fun m ρ _ => Cert.GainBwdIdeal.Gen.frame m ρ

/-- The reference runs to its end. -/
theorem gain_ref : Cert.quiescent_GainBwdRefIdeal (hGainBwdRefIdeal := Cert.GainBwdRefIdeal.Gen.facts) := by
  intro m g _
  exact (θ_run Cert.GainBwdRefIdeal.defs _ _).mono (fun r h => ⟨fun c => (h c).2, sem_eq_zero_of_no_sems (by decide) r.2⟩)
    (Cert.GainBwdRefIdeal.Value.run m g)

/-- Over the reals the kernel's results are the reference's. -/
theorem gain_value : Cert.algebraic_GainBwdIdeal_GainBwdRefIdeal (hGainBwdIdeal := Cert.GainBwdIdeal.Gen.facts)
    (hGainBwdRefIdeal := Cert.GainBwdRefIdeal.Gen.facts) := by
  intro m g m' g' _ hagree
  refine ⟨fun c => Cert.GainBwdRefIdeal.Read.val_main_v15 (F := Ideal) (m ((c.tc : Thread _ _).loc Cert.GainBwdIdeal.main_arg0)) (m ((c.tc : Thread _ _).loc Cert.GainBwdIdeal.main_arg1)), ?_, ?_⟩
  · refine (θ_run Cert.GainBwdIdeal.defs _ _).mono (fun r h c => ⟨(h c).1.trans ?_, (h c).2⟩)
      (Cert.GainBwdIdeal.Value.run_blocks (F := Ideal) m g)
    exact Cert.GainBwdIdeal.Grad.final2 m c
  · refine (θ_run Cert.GainBwdRefIdeal.defs _ _).mono (fun r h c => ⟨(h c).1.trans ?_, (h c).2⟩)
      (Cert.GainBwdRefIdeal.Value.run (F := Ideal) m' g')
    refine (Cert.GainBwdRefIdeal.Read.val_main_v15_eq (F := Ideal) _ _).trans ?_
    obtain ⟨h0, h1⟩ := hagree c
    rw [h0, h1]

end Cert.Proof

end
-- ==== Proof.MemMath.lean ====
module

public import proofs.«01_k».proof.Proof.RealOps

/-! # The memory attention over the reals

Four heads; every query sees all 256 memory rows. The functions of the derivative, and the kernel's and the reference's ways
to write the softmax and its derivative, both equal to them. -/

@[expose] public section

noncomputable section

namespace Cert.Mem

open Idealize.ShloMosaic Cert.Reals

/-- The attention's arguments as reals: queries, keys, values and the output's cotangent at (head, row, lane). -/
structure Data where
  q : ℕ → ℕ → ℕ → ℝ
  k : ℕ → ℕ → ℕ → ℝ
  v : ℕ → ℕ → ℕ → ℝ
  g : ℕ → ℕ → ℕ → ℝ

variable (D : Data)

/-- The printed scale's value. -/
def κ : ℝ := 11863283 / 2 ^ 27

theorem ofBits_scale : Ideal.ofBits .f32 0x3DB504F3#32 = ((κ : ℝ) : EReal) := by
  simp [Ideal.ofBits, Ideal.ieee, κ]
  rw [← EReal.coe_mul]
  norm_num

/-- The score of query `i` against memory row `j`. -/
def S (h i j : ℕ) : ℝ := (∑ d : Fin 128, D.q h i d * D.k h j d) * κ

/-- A row's sum of exponentials. -/
def tot (h i : ℕ) : ℝ := ∑ j : Fin 256, Real.exp (S D h i j)

/-- The attention weight. -/
def P (h i j : ℕ) : ℝ := Real.exp (S D h i j) / tot D h i

/-- The weight's cotangent. -/
def dP (h i j : ℕ) : ℝ := ∑ d : Fin 128, D.g h i d * D.v h j d

/-- The score's cotangent, the scale included. -/
def ds (h i j : ℕ) : ℝ := P D h i j * (dP D h i j - ∑ l : Fin 256, P D h i l * dP D h i l) * κ

/-- The query's gradient. -/
def dq (h i d : ℕ) : ℝ := ∑ j : Fin 256, ds D h i j * D.k h j d

/-- The key's gradient. -/
def dk (h j d : ℕ) : ℝ := ∑ i : Fin 8192, ds D h i j * D.q h i d

/-- The value's gradient. -/
def dv (h j d : ℕ) : ℝ := ∑ i : Fin 8192, P D h i j * D.g h i d

theorem tot_ne (h i : ℕ) : tot D h i ≠ 0 := (Finset.sum_pos (fun j _ => Real.exp_pos _) ⟨0, Finset.mem_univ _⟩).ne'

/-- The exponential with the row's maximum `M` taken out. -/
def E (M : ℝ) (h i j : ℕ) : ℝ := Real.exp (S D h i j) * Real.exp (-M)

theorem E_eq (M : ℝ) (h i j : ℕ) : E D M h i j = Real.exp (S D h i j - M) := by
  unfold E; rw [← Real.exp_add, sub_eq_add_neg]

theorem sum_E (M : ℝ) (h i : ℕ) : ∑ j : Fin 256, E D M h i j = tot D h i * Real.exp (-M) := by
  simp only [E, tot, Finset.sum_mul]

theorem E_sum_ne (M : ℝ) (h i : ℕ) : tot D h i * Real.exp (-M) ≠ 0 :=
  mul_ne_zero (tot_ne D h i) (Real.exp_pos _).ne'

/-- The weight does not depend on what is taken out. -/
theorem E_div (M : ℝ) (h i j : ℕ) : E D M h i j / (tot D h i * Real.exp (-M)) = P D h i j := by
  have := tot_ne D h i
  have h2 := (Real.exp_pos (-M)).ne'
  unfold E P; field_simp

/-- The reference's derivative of the quotient and the exponential is the score's cotangent. -/
theorem ds_of_quotient (M : ℝ) (h i j : ℕ) :
    (dP D h i j / (tot D h i * Real.exp (-M))
      + -(∑ x : Fin 256, dP D h i x * (1 / (tot D h i * Real.exp (-M) * (tot D h i * Real.exp (-M)))) * E D M h i x))
      * E D M h i j * κ = ds D h i j := by
  have e : (∑ x : Fin 256, dP D h i x * (1 / (tot D h i * Real.exp (-M) * (tot D h i * Real.exp (-M)))) * E D M h i x)
      = (∑ l : Fin 256, P D h i l * dP D h i l) / (tot D h i * Real.exp (-M)) := by
    rw [Finset.sum_div]
    refine Finset.sum_congr rfl fun x _ => ?_
    rw [← E_div D M]
    have := E_sum_ne D M h i
    field_simp
  rw [e, ds, ← E_div D M]
  have := E_sum_ne D M h i
  field_simp
  ring

/-- The largest of finitely many reals, from minus infinity, is real. -/
theorem fold_max_real {n : ℕ} (hn : 0 < n) (f : Fin n → ℝ) :
    ∃ M : ℝ, Finset.fold max (⊥ : EReal) (fun x => ((f x : ℝ) : EReal)) Finset.univ = (M : EReal) := by
  have key : ∀ T : Finset (Fin n), T.Nonempty → ∃ M : ℝ, Finset.fold max (⊥ : EReal) (fun x => ((f x : ℝ) : EReal)) T = (M : EReal) := by
    classical
    intro T hT
    induction hT using Finset.Nonempty.cons_induction with
    | singleton a => exact ⟨f a, by simp⟩
    | cons a T ha hT ih =>
      obtain ⟨M, hM⟩ := ih
      exact ⟨max (f a) M, by rw [Finset.fold_cons, hM]; exact (EReal.coe_strictMono.monotone.map_max).symm⟩
  exact key _ ⟨⟨0, hn⟩, Finset.mem_univ _⟩

/-! What the kernel computes for one row, from the row's entries. -/

/-- The kernel's weight from a query row `a` and the keys `b`. -/
def tileP (a : Fin 128 → EReal) (b : Fin 256 → Fin 128 → EReal) (j : Fin 256) : EReal :=
  Ideal.div
    (Ideal.exp ((∑ d, a d * b j d) * Ideal.ofBits FTy.f32 0x3DB504F3#32
      - Finset.fold max (Ideal.ofBits FTy.f32 0xFF800000#32) (fun x => (∑ d, a d * b x d) * Ideal.ofBits FTy.f32 0x3DB504F3#32) Finset.univ))
    (∑ j, Ideal.exp ((∑ d, a d * b j d) * Ideal.ofBits FTy.f32 0x3DB504F3#32
      - Finset.fold max (Ideal.ofBits FTy.f32 0xFF800000#32) (fun x => (∑ d, a d * b x d) * Ideal.ofBits FTy.f32 0x3DB504F3#32) Finset.univ))

/-- The kernel's score cotangent, from the cotangent row `g` and the values `w` too. -/
def tileS (a : Fin 128 → EReal) (b : Fin 256 → Fin 128 → EReal) (g : Fin 128 → EReal) (w : Fin 256 → Fin 128 → EReal) (j : Fin 256) : EReal :=
  tileP a b j * (∑ d, g d * w j d - ∑ l, tileP a b l * ∑ d, g d * w l d) * Ideal.ofBits FTy.f32 0x3DB504F3#32

variable {D}

theorem tileP_eq {h i : ℕ} {a : Fin 128 → EReal} {b : Fin 256 → Fin 128 → EReal}
    (ha : ∀ d, a d = ((D.q h i d : ℝ) : EReal)) (hb : ∀ j d, b j d = ((D.k h j d : ℝ) : EReal)) (j : Fin 256) :
    tileP a b j = ((P D h i j : ℝ) : EReal) := by
  unfold tileP
  have hs : ∀ j : Fin 256, (∑ d, a d * b j d) * Ideal.ofBits FTy.f32 0x3DB504F3#32 = ((S D h i j : ℝ) : EReal) := fun j => by
    simp only [ha, hb, ofBits_scale, ← EReal.coe_mul, ← coe_sum]
    rfl
  simp only [hs, ofBits_neg_inf]
  obtain ⟨M, hM⟩ := fold_max_real (by norm_num) fun j : Fin 256 => S D h i j
  rw [hM]
  simp only [← EReal.coe_sub, Ideal.exp_coe, ← coe_sum, ← E_eq]
  rw [sum_E, div_real _ (E_sum_ne D M h i), E_div]

theorem tileS_eq {h i : ℕ} {a : Fin 128 → EReal} {b : Fin 256 → Fin 128 → EReal} {g : Fin 128 → EReal} {w : Fin 256 → Fin 128 → EReal}
    (ha : ∀ d, a d = ((D.q h i d : ℝ) : EReal)) (hb : ∀ j d, b j d = ((D.k h j d : ℝ) : EReal))
    (hg : ∀ d, g d = ((D.g h i d : ℝ) : EReal)) (hw : ∀ j d, w j d = ((D.v h j d : ℝ) : EReal)) (j : Fin 256) :
    tileS a b g w j = ((ds D h i j : ℝ) : EReal) := by
  unfold tileS
  simp only [tileP_eq ha hb, hg, hw, ofBits_scale, ← EReal.coe_mul, ← coe_sum, ← EReal.coe_sub]
  rfl

/-- A query row's gradient. -/
theorem tile_dq {h i : ℕ} {a : Fin 128 → EReal} {b : Fin 256 → Fin 128 → EReal} {g : Fin 128 → EReal} {w : Fin 256 → Fin 128 → EReal}
    (ha : ∀ d, a d = ((D.q h i d : ℝ) : EReal)) (hb : ∀ j d, b j d = ((D.k h j d : ℝ) : EReal))
    (hg : ∀ d, g d = ((D.g h i d : ℝ) : EReal)) (hw : ∀ j d, w j d = ((D.v h j d : ℝ) : EReal)) (l : Fin 128) :
    ∑ j, tileS a b g w j * b j l = ((dq D h i l : ℝ) : EReal) := by
  simp only [tileS_eq ha hb hg hw, hb, ← EReal.coe_mul, ← coe_sum]
  rfl

/-- What 512 query rows from row `512 * b` on add to a key's gradient, -/
def keyC (D : Data) (h b j l : ℕ) : ℝ := ∑ x : Fin 512, ds D h (512 * b + x) j * D.q h (512 * b + x) l

/-- and to a value's. -/
def valC (D : Data) (h b j l : ℕ) : ℝ := ∑ x : Fin 512, P D h (512 * b + x) j * D.g h (512 * b + x) l

theorem tile_dk {h n : ℕ} {a : Fin 512 → Fin 128 → EReal} {b : Fin 256 → Fin 128 → EReal} {g : Fin 512 → Fin 128 → EReal} {w : Fin 256 → Fin 128 → EReal}
    (ha : ∀ (x : Fin 512) d, a x d = ((D.q h (512 * n + x) d : ℝ) : EReal)) (hb : ∀ j d, b j d = ((D.k h j d : ℝ) : EReal))
    (hg : ∀ (x : Fin 512) d, g x d = ((D.g h (512 * n + x) d : ℝ) : EReal)) (hw : ∀ j d, w j d = ((D.v h j d : ℝ) : EReal)) (j : Fin 256) (l : Fin 128) :
    ∑ x, tileS (a x) b (g x) w j * a x l = ((keyC D h n j l : ℝ) : EReal) := by
  simp only [tileS_eq (ha _) hb (hg _) hw, ha, ← EReal.coe_mul, ← coe_sum]
  rfl

theorem tile_dv {h n : ℕ} {a : Fin 512 → Fin 128 → EReal} {b : Fin 256 → Fin 128 → EReal} {g : Fin 512 → Fin 128 → EReal}
    (ha : ∀ (x : Fin 512) d, a x d = ((D.q h (512 * n + x) d : ℝ) : EReal)) (hb : ∀ j d, b j d = ((D.k h j d : ℝ) : EReal))
    (hg : ∀ (x : Fin 512) d, g x d = ((D.g h (512 * n + x) d : ℝ) : EReal)) (j : Fin 256) (l : Fin 128) :
    ∑ x, tileP (a x) b j * g x l = ((valC D h n j l : ℝ) : EReal) := by
  simp only [tileP_eq (ha _) hb, hg, ← EReal.coe_mul, ← coe_sum]
  rfl

/-- Sixteen blocks of rows are all rows. -/
theorem sixteen (f : ℕ → ℝ) : (∑ b ∈ Finset.range 16, ∑ a : Fin 512, f (512 * b + a)) = ∑ i : Fin 8192, f i := by
  rw [Fin.sum_univ_tiles (N := 8192) 16 512 rfl, Finset.sum_range]
  exact Finset.sum_congr rfl fun b _ => Finset.sum_congr rfl fun a _ => by rw [mul_comm]

theorem sum_keyC (D : Data) (h j l : ℕ) : (∑ b ∈ Finset.range 16, keyC D h b j l) = dk D h j l :=
  sixteen fun i => ds D h i j * D.q h i l

theorem sum_valC (D : Data) (h j l : ℕ) : (∑ b ∈ Finset.range 16, valC D h b j l) = dv D h j l :=
  sixteen fun i => P D h i j * D.g h i l

end Cert.Mem

end
-- ==== Proof.MemRef.lean ====
module

public import proofs.«01_k».proof.Proof.MemMath
public import proofs.«01_k».proof.Proof.Gen.MemBwdRefIdeal.Read

/-! # The memory attention's reference over finite arguments

Each array of the reference's derivative is the matching function of the arguments as reals. -/

@[expose] public section

set_option maxRecDepth 16384

noncomputable section

namespace Cert.Mem

open Idealize.ShloMosaic Cert.Reals
open Cert.MemBwdRefIdeal Cert.MemBwdRefIdeal.Gen Cert.MemBwdRefIdeal.Read

/-- The arguments are the coercions of `D`'s functions. -/
structure Holds (D : Data) (x0 : FVec Ideal S1x8192x4x128 .f32) (x1 x2 : FVec Ideal S1x256x4x128 .f32)
    (x3 : FVec Ideal S1x8192x512 .f32) : Prop where
  q : ∀ (i : Fin 8192) (h : Fin 4) (d : Fin 128), x0 (ix4 0 i h d) = ((D.q h i d : ℝ) : EReal)
  k : ∀ (j : Fin 256) (h : Fin 4) (d : Fin 128), x1 (ix4 0 j h d) = ((D.k h j d : ℝ) : EReal)
  v : ∀ (j : Fin 256) (h : Fin 4) (d : Fin 128), x2 (ix4 0 j h d) = ((D.v h j d : ℝ) : EReal)
  g : ∀ (i : Fin 8192) (l : Fin 512), x3 (ix3 0 i l) = ((D.g (l / 128) i (l % 128) : ℝ) : EReal)

variable {D : Data} {x0 : FVec Ideal S1x8192x4x128 .f32} {x1 x2 : FVec Ideal S1x256x4x128 .f32}
    {x3 : FVec Ideal S1x8192x512 .f32}

theorem score (H : Holds D x0 x1 x2 x3) (h : Fin 4) (i : Fin 8192) (j : Fin 256) :
    val_main_v2 (F := Ideal) x0 x1 (ix4 0 h i j) = ((S D h i j : ℝ) : EReal) := by
  pointwise [val_main_v2, val_main_v1, val_main_v0, val_main_cst]
  simp only [H.q, H.k, ofBits_scale, ← EReal.coe_mul, ← coe_sum]
  rfl

theorem drop_row (h : Fin 4) (i : Fin 8192) :
    reducesTo_S1x4x8192x256_S1x4x8192_d3.drop (ix4 0 h i 0) = ix3 0 h i := by
  idx_ext

theorem top0 (H : Holds D x0 x1 x2 x3) (h : Fin 4) (i : Fin 8192) :
    ∃ M : ℝ, val_main_v3 (F := Ideal) x0 x1 (ix3 0 h i) = (M : EReal) := by
  unfold val_main_v3
  refine reduce_max_real (val_main_v2 (F := Ideal) x0 x1) (val_main_cst_0 (F := Ideal))
    reducesTo_S1x4x8192x256_S1x4x8192_d3 h_S_ (ix3 0 h i) ofBits_neg_inf
    (fun y => ?_) (ix4 0 h i 0) (drop_row h i) ?_
  · idx_vars y
    obtain rfl : y0 = 0 := Subsingleton.elim _ _
    rw [score H]; exact EReal.coe_ne_top _
  · rw [score H]; exact EReal.coe_ne_bot _

theorem top1 (h : Fin 4) (i : Fin 8192) :
    val_main_v10 (F := Ideal) x0 x1 (ix3 0 h i) = max (val_main_v9 (F := Ideal) (ix3 0 h i)) (val_main_v3 (F := Ideal) x0 x1 (ix3 0 h i)) := by
  rw [val_main_v10_apply]
  generalize val_main_v9 (F := Ideal) (ix3 0 h i) = a
  generalize val_main_v3 (F := Ideal) x0 x1 (ix3 0 h i) = b
  rfl

theorem top2 (h : Fin 4) (i : Fin 8192) : val_main_v9 (F := Ideal) (ix3 0 h i) = ⊥ := by
  rw [val_main_v9_apply, val_main_cst_2_apply]
  exact ofBits_neg_inf

/-- The number taken out of a row's scores is real. -/
theorem top (H : Holds D x0 x1 x2 x3) (h : Fin 4) (i : Fin 8192) :
    ∃ M : ℝ, val_main_v10 (F := Ideal) x0 x1 (ix3 0 h i) = (M : EReal) := by
  rw [top1, top2, bot_sup_eq]
  exact top0 H h i

theorem expo (H : Holds D x0 x1 x2 x3) (h : Fin 4) (i : Fin 8192) {M : ℝ}
    (hM : val_main_v10 (F := Ideal) x0 x1 (ix3 0 h i) = (M : EReal)) (j : Fin 256) :
    val_main_v23 (F := Ideal) x0 x1 (ix4 0 h i j) = ((E D M h i j : ℝ) : EReal) := by
  pointwise [val_main_v23, val_main_v22, val_main_v21, val_main_v20]
  rw [score H, hM, E_eq, ← EReal.coe_sub, Ideal.exp_coe]

theorem total (H : Holds D x0 x1 x2 x3) (h : Fin 4) (i : Fin 8192) {M : ℝ}
    (hM : val_main_v10 (F := Ideal) x0 x1 (ix3 0 h i) = (M : EReal)) :
    val_main_v24 (F := Ideal) x0 x1 (ix3 0 h i) = ((tot D h i * Real.exp (-M) : ℝ) : EReal) := by
  pointwise [val_main_v24, val_main_cst_8]
  simp only [expo H h i hM, ← coe_sum, sum_E]

/-- The reference's attention weight. -/
theorem weight (H : Holds D x0 x1 x2 x3) (h : Fin 4) (i : Fin 8192) (j : Fin 256) :
    val_main_v27 (F := Ideal) x0 x1 (ix4 0 h i j) = ((P D h i j : ℝ) : EReal) := by
  obtain ⟨M, hM⟩ := top H h i
  pointwise [val_main_v27, val_main_v26, val_main_v25]
  rw [expo H h i hM, total H h i hM, div_real _ (E_sum_ne D M h i), E_div]

theorem dWeight (H : Holds D x0 x1 x2 x3) (h : Fin 4) (i : Fin 8192) (j : Fin 256) :
    val_main_v36 (F := Ideal) x2 x3 (ix4 0 h i j) = ((dP D h i j : ℝ) : EReal) := by
  pointwise [val_main_v36, val_main_v35, val_main_v34]
  have e : ∀ x : Fin 128, (h.val * 128 + x.val) / 128 = h ∧ (h.val * 128 + x.val) % 128 = x := fun x => by omega
  simp only [H.v, H.g, e, ← EReal.coe_mul, ← coe_sum]
  rfl

/-- A sum over the first and the last axis, both of size one. -/
theorem unit_last (x : FVec Ideal S1x4x8192x1 .f32) (h : Fin 4) (i : Fin 8192) :
    Ideal.hostReduceAdd reducesTo_S1x4x8192x1_S4x8192_d0_3 x 0 (ix2 h i) = x (ix4 0 h i 0) := by
  rw [reduceAdd_unit _ x 0 (ix2 h i) (ix4 0 h i 0) (by idx_ext) fun y hy => ?_, zero_add]
  idx_vars y
  obtain rfl : y0 = 0 := Subsingleton.elim _ _
  obtain rfl : y3 = 0 := Subsingleton.elim _ _
  rw [show reducesTo_S1x4x8192x1_S4x8192_d0_3.drop (ix4 0 y1 y2 0) = ix2 y1 y2 by idx_ext] at hy
  obtain rfl : y1 = h := congrFun hy 0
  obtain rfl : y2 = i := congrFun hy 1
  rfl

/-- The reference's score cotangent. -/
theorem dScore (H : Holds D x0 x1 x2 x3) (h : Fin 4) (i : Fin 8192) (j : Fin 256) :
    val_main_v53 (F := Ideal) x0 x1 x2 x3 (ix4 0 h i j) = ((ds D h i j : ℝ) : EReal) := by
  obtain ⟨M, hM⟩ := top H h i
  pointwise [val_main_v53, val_main_v52, val_main_v51, val_main_v50, val_main_v49, val_main_v48, val_main_v47, val_main_v46, val_main_v45,
    val_main_v44, val_main_v43, val_main_v42, val_main_v41, val_main_v40, val_main_v39, val_main_v30, val_main_v29, val_main_v28, val_main_v25,
    val_main_cst_9, val_main_cst_10, val_main_cst_11, val_main_cst_12]
  rw [unit_last]
  pointwise
  simp only [expo H h i hM, total H h i hM, dWeight H, ofBits_scale]
  have hl := E_sum_ne D M h i
  rw [← EReal.coe_one]
  simp only [← EReal.coe_mul, div_real _ hl, div_real _ (mul_ne_zero hl hl), ← coe_sum, ← EReal.coe_neg, ← EReal.coe_add]
  rw [ds_of_quotient]

theorem ref_dq (H : Holds D x0 x1 x2 x3) (i : Fin 8192) (l : Fin 512) :
    val_main_v59 (F := Ideal) x0 x1 x2 x3 (ix2 i l) = ((dq D (l / 128) i (l % 128) : ℝ) : EReal) := by
  pointwise [val_main_v59, val_main_v58, val_main_v57, val_main_v56]
  simp only [dScore H, H.k, ← EReal.coe_mul, ← coe_sum]
  rfl

theorem ref_dk (H : Holds D x0 x1 x2 x3) (j : Fin 256) (l : Fin 512) :
    val_main_v60 (F := Ideal) x0 x1 x2 x3 (ix2 j l) = ((dk D (l / 128) j (l % 128) : ℝ) : EReal) := by
  pointwise [val_main_v60, val_main_v55, val_main_v54]
  simp only [dScore H, H.q, ← EReal.coe_mul, ← coe_sum]
  rfl

theorem ref_dv (H : Holds D x0 x1 x2 x3) (j : Fin 256) (l : Fin 512) :
    val_main_v61 (F := Ideal) x0 x1 x3 (ix2 j l) = ((dv D (l / 128) j (l % 128) : ℝ) : EReal) := by
  pointwise [val_main_v61, val_main_v38, val_main_v37, val_main_v35, val_main_v34]
  have e : ∀ x : ℕ, (l.val / 128 * 128 + l.val % 128) = l.val := fun x => by omega
  simp only [weight H, H.g, e, ← EReal.coe_mul, ← coe_sum]
  unfold dv
  congr 1
  exact Finset.sum_congr rfl fun x _ => by ring

/-- The keys' half of the second result, -/
theorem ref_low (H : Holds D x0 x1 x2 x3) (j : Fin 256) (l : Fin 1024) (hl : l.val < 512) :
    val_main_v62 (F := Ideal) x0 x1 x2 x3 (ix2 j l) = ((dk D (l / 128) j (l % 128) : ℝ) : EReal) := by
  pointwise [val_main_v62]
  rw [dif_pos hl]
  exact ref_dk H j ⟨l, hl⟩

/-- and the values'. -/
theorem ref_high (H : Holds D x0 x1 x2 x3) (j : Fin 256) (l : Fin 1024) (hl : ¬l.val < 512) :
    val_main_v62 (F := Ideal) x0 x1 x2 x3 (ix2 j l) = ((dv D ((l - 512) / 128) j ((l - 512) % 128) : ℝ) : EReal) := by
  pointwise [val_main_v62]
  rw [dif_neg hl]
  exact ref_dv H j ⟨l - 512, by omega⟩

/-- Finite arguments are the coercions of some reals. -/
theorem exists_data (h0 : AllReal x0) (h1 : AllReal x1) (h2 : AllReal x2) (h3 : AllReal x3) :
    ∃ D : Data, Holds D x0 x1 x2 x3 := by
  obtain ⟨q, rfl⟩ := h0
  obtain ⟨k, rfl⟩ := h1
  obtain ⟨v, rfl⟩ := h2
  obtain ⟨g, rfl⟩ := h3
  have e4 : ∀ h : Fin 4, Fin.ofNat 4 h.val = h := fun h => Fin.ext (Nat.mod_eq_of_lt h.isLt)
  have er : ∀ i : Fin 8192, Fin.ofNat 8192 i.val = i := fun i => Fin.ext (Nat.mod_eq_of_lt i.isLt)
  have em : ∀ i : Fin 256, Fin.ofNat 256 i.val = i := fun i => Fin.ext (Nat.mod_eq_of_lt i.isLt)
  have ed : ∀ d : Fin 128, Fin.ofNat 128 d.val = d := fun d => Fin.ext (Nat.mod_eq_of_lt d.isLt)
  refine ⟨⟨fun h i d => q (ix4 0 (Fin.ofNat 8192 i) (Fin.ofNat 4 h) (Fin.ofNat 128 d)),
    fun h i d => k (ix4 0 (Fin.ofNat 256 i) (Fin.ofNat 4 h) (Fin.ofNat 128 d)),
    fun h i d => v (ix4 0 (Fin.ofNat 256 i) (Fin.ofNat 4 h) (Fin.ofNat 128 d)),
    fun h i d => g (ix3 0 (Fin.ofNat 8192 i) (Fin.ofNat 512 (128 * h + d)))⟩, ?_, ?_, ?_, ?_⟩
  · intro i h d; simp only [e4, er, ed]
  · intro i h d; simp only [e4, em, ed]
  · intro i h d; simp only [e4, em, ed]
  · intro i l
    have : Fin.ofNat 512 (128 * (l.val / 128) + l.val % 128) = l := Fin.ext (by rw [Nat.div_add_mod]; exact Nat.mod_eq_of_lt l.isLt)
    simp only [er, this]

end Cert.Mem

end
-- ==== Proof.MemValue.lean ====
module

public import proofs.«01_k».proof.Proof.MemRef
public import proofs.«01_k».proof.Proof.Gen.MemBwdIdeal.Frame
public import Idealize.ShloMosaic.Lib.Pipeline.ValueKit
public import Idealize.ShloMosaic.Lib.Pipeline.ReadBack

@[expose] public section

set_option maxRecDepth 16384

noncomputable section

namespace Cert.MemBwdIdeal.Grad

open Cert.MemBwdIdeal Cert.MemBwdIdeal.Gen Idealize.ShloMosaic Idealize.ShloMosaic.TcCoe Idealize.SL.Sem
open Idealize.ShloMosaic.Pipeline (Dat)
open Cert.Reals Cert.Mem
open Cert.MemBwdRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

theorem lt16 (t : Fin cfg0.N) : t.val < 16 := t.isLt

/-! What each window holds. -/

/-- The keys beside the values, as the kernel has them. -/
def kv (x1 x2 : FVec Ideal S1x256x4x128 .f32) : FVec Ideal S256x1024 .bf16 :=
  truncf .bf16 (concatenate S256x1024 1 [⟨S256x512, shapeCast S256x512 x1 shapeCasts_S1x256x4x128_S256x512⟩,
    ⟨S256x512, shapeCast S256x512 x2 shapeCasts_S1x256x4x128_S256x512⟩] concatenates_S256x512_S256x512_S256x1024_d1) bitsLt_bf16_f32

theorem V5 (c : Dev nD) : V m c main_v5 = kv (m ((c : Thread nD τ).loc main_arg1)) (m ((c : Thread nD τ).loc main_arg2)) := by
  unfold V hostOps0
  after_results_simp <;> rfl

theorem win1 (X : FVec Ideal S256x1024 .bf16) (t : Fin cfg0.N) (a : Fin 256) (k : Fin 1024) :
    ((cfg0.win 1).blk t).view.read (Elt Ideal) X (ix2 a k) = X (ix2 a k) := by
  blk_ext [idx t]

theorem row0 (c : Dev nD) (t : Fin cfg0.N) (a : Fin 512) (k : Fin 512) :
    iblk m c 0 t (ix2 a k) = m ((c : Thread nD τ).loc main_arg0) (ix4 0 ⟨t.val * 512 + a, by have := lt16 t; omega⟩
      ⟨k / 128, by omega⟩ ⟨k % 128, by omega⟩) := by
  blk_simp [iblk]
  entry_read
  pointwise
  blk_ext [idx t]

theorem row2 (c : Dev nD) (t : Fin cfg0.N) (a : Fin 512) (k : Fin 512) :
    iblk m c 2 t (ix2 a k) = m ((c : Thread nD τ).loc main_arg3) (ix3 0 ⟨t.val * 512 + a, by have := lt16 t; omega⟩ k) := by
  blk_simp [iblk]
  entry_read
  pointwise
  blk_ext [idx t]

section Blocks

variable {m} {D : Data} {c : Dev nD} (H : Holds D (m ((c : Thread nD τ).loc main_arg0)) (m ((c : Thread nD τ).loc main_arg1))
  (m ((c : Thread nD τ).loc main_arg2)) (m ((c : Thread nD τ).loc main_arg3)))

include H

theorem kv_k (a : Fin 256) (k : Fin 1024) (h : Fin 4) (d : Fin 128) (hk : k.val = h * 128 + d) :
    kv (m ((c : Thread nD τ).loc main_arg1)) (m ((c : Thread nD τ).loc main_arg2)) (ix2 a k) = ((D.k h a d : ℝ) : EReal) := by
  pointwise [kv]
  rw [dif_pos (by omega), H.k]
  simp only [show k.val / 128 = h by omega, show k.val % 128 = d by omega]

theorem kv_v (a : Fin 256) (k : Fin 1024) (h : Fin 4) (d : Fin 128) (hk : k.val = 512 + h * 128 + d) :
    kv (m ((c : Thread nD τ).loc main_arg1)) (m ((c : Thread nD τ).loc main_arg2)) (ix2 a k) = ((D.v h a d : ℝ) : EReal) := by
  pointwise [kv]
  rw [dif_neg (by omega), H.v]
  simp only [show (k.val - 512) / 128 = h by omega, show (k.val - 512) % 128 = d by omega]

variable (t : Fin cfg0.N)

theorem blkq (a : Fin 512) (k : Fin 512) (h : Fin 4) (d : Fin 128) (hk : k.val = h * 128 + d) :
    iblk m c 0 t (ix2 a k) = ((D.q h (512 * t.val + a) d : ℝ) : EReal) := by
  rw [row0, H.q]
  simp only [show k.val / 128 = h by omega, show k.val % 128 = d by omega, Nat.mul_comm]

theorem blkg (a : Fin 512) (k : Fin 512) (h : Fin 4) (d : Fin 128) (hk : k.val = h * 128 + d) :
    iblk m c 2 t (ix2 a k) = ((D.g h (512 * t.val + a) d : ℝ) : EReal) := by
  rw [row2, H.g]
  simp only [show k.val / 128 = h by omega, show k.val % 128 = d by omega, Nat.mul_comm]

theorem blkk (a : Fin 256) (k : Fin 1024) (h : Fin 4) (d : Fin 128) (hk : k.val = h * 128 + d) :
    iblk m c 1 t (ix2 a k) = ((D.k h a d : ℝ) : EReal) := by
  have e : iblk m c 1 t = ((cfg0.win 1).blk t).view.read (Elt Ideal) (kv (m ((c : Thread nD τ).loc main_arg1)) (m ((c : Thread nD τ).loc main_arg2))) :=
    congrArg (((cfg0.win 1).blk t).view.read (Elt Ideal)) (V5 m c)
  rw [e, win1, kv_k H a k h d hk]

theorem blkv (a : Fin 256) (k : Fin 1024) (h : Fin 4) (d : Fin 128) (hk : k.val = 512 + h * 128 + d) :
    iblk m c 1 t (ix2 a k) = ((D.v h a d : ℝ) : EReal) := by
  have e : iblk m c 1 t = ((cfg0.win 1).blk t).view.read (Elt Ideal) (kv (m ((c : Thread nD τ).loc main_arg1)) (m ((c : Thread nD τ).loc main_arg2))) :=
    congrArg (((cfg0.win 1).blk t).view.read (Elt Ideal)) (V5 m c)
  rw [e, win1, kv_v H a k h d hk]

end Blocks

/-- A head's gradient of a query row, from the blocks' entries. -/
theorem head_dq {D : Data} {c : Dev nD} (H : Holds D (m ((c : Thread nD τ).loc main_arg0)) (m ((c : Thread nD τ).loc main_arg1))
    (m ((c : Thread nD τ).loc main_arg2)) (m ((c : Thread nD τ).loc main_arg3))) (t : Fin cfg0.N) (h : Fin 4)
    (kq : Fin 128 → Fin 512) (kk kw : Fin 128 → Fin 1024) (hq : ∀ d, (kq d).val = h * 128 + d) (hk : ∀ d, (kk d).val = h * 128 + d)
    (hw : ∀ d, (kw d).val = 512 + h * 128 + d) (a : Fin 512) (l : Fin 128) (i : Fin 8192) (r : Fin 512) (hi : i.val = t.val * 512 + a)
    (hr : r.val = h * 128 + l) :
    ∑ j, tileS (fun d => iblk m c 0 t (ix2 a (kq d))) (fun j d => iblk m c 1 t (ix2 j (kk d))) (fun d => iblk m c 2 t (ix2 a (kq d)))
      (fun j d => iblk m c 1 t (ix2 j (kw d))) j * iblk m c 1 t (ix2 j (kk l)) =
    val_main_v59 (F := Ideal) (m ((c : Thread nD τ).loc main_arg0)) (m ((c : Thread nD τ).loc main_arg1))
      (m ((c : Thread nD τ).loc main_arg2)) (m ((c : Thread nD τ).loc main_arg3)) (ix2 i r) := by
  refine (tile_dq (fun d => blkq H t a _ h d (hq d)) (fun j d => blkk H t j _ h d (hk d)) (fun d => blkg H t a _ h d (hq d))
    (fun j d => blkv H t j _ h d (hw d)) l).trans ((ref_dq H i r).trans ?_).symm
  simp only [hi, show r.val / 128 = h by omega, show r.val % 128 = l by omega, Nat.mul_comm]

set_option maxHeartbeats 1000000 in
/-- The queries' gradient is the reference's. -/
theorem final3 {D : Data} {c : Dev nD} (H : Holds D (m ((c : Thread nD τ).loc main_arg0)) (m ((c : Thread nD τ).loc main_arg1))
    (m ((c : Thread nD τ).loc main_arg2)) (m ((c : Thread nD τ).loc main_arg3))) : (dats m 0 c).arrAt 3 (cfgs 0).N =
    val_main_v59 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t hf y => ?_
  blk_simp
  rw [after0_3]
  have ht := lt16 t
  by_cases h0 : t.val % 16 = 0
  on_goal 1 => rw [outsAt0_A m c t h0]
  on_goal 2 => rw [outsAt0_B m c t h0]
  all_goals
    frame_out
    canon_tiles x h
    · idx_vars x
      have e : ((View.whole main_v7_0).slice (win0_3.rect t)).emb y
        = ix2 ⟨t.val * 512 + x0, by omega⟩ ⟨384 + x1, by omega⟩ := by blk_ext [idx t]
      rw [e]
      open_payloads; pointwise
      exact head_dq m H t 3 (fun d => ⟨384 + d, by omega⟩) (fun d => ⟨384 + d, by omega⟩) (fun d => ⟨896 + d, by omega⟩) (fun _ => rfl) (fun _ => rfl) (fun _ => rfl) x0 x1 _ _ rfl rfl
    · idx_vars x
      have e : ((View.whole main_v7_0).slice (win0_3.rect t)).emb y
        = ix2 ⟨t.val * 512 + x0, by omega⟩ ⟨256 + x1, by omega⟩ := by blk_ext [idx t]
      rw [e]
      open_payloads; pointwise
      exact head_dq m H t 2 (fun d => ⟨256 + d, by omega⟩) (fun d => ⟨256 + d, by omega⟩) (fun d => ⟨768 + d, by omega⟩) (fun _ => rfl) (fun _ => rfl) (fun _ => rfl) x0 x1 _ _ rfl rfl
    · idx_vars x
      have e : ((View.whole main_v7_0).slice (win0_3.rect t)).emb y
        = ix2 ⟨t.val * 512 + x0, by omega⟩ ⟨128 + x1, by omega⟩ := by blk_ext [idx t]
      rw [e]
      open_payloads; pointwise
      exact head_dq m H t 1 (fun d => ⟨128 + d, by omega⟩) (fun d => ⟨128 + d, by omega⟩) (fun d => ⟨640 + d, by omega⟩) (fun _ => rfl) (fun _ => rfl) (fun _ => rfl) x0 x1 _ _ rfl rfl
    · idx_vars x
      have e : ((View.whole main_v7_0).slice (win0_3.rect t)).emb y
        = ix2 ⟨t.val * 512 + x0, by omega⟩ ⟨x1, by omega⟩ := by blk_ext [idx t]
      rw [e]
      open_payloads; pointwise
      exact head_dq m H t 0 (fun d => ⟨d, by omega⟩) (fun d => ⟨d, by omega⟩) (fun d => ⟨512 + d, by omega⟩) (fun _ => by simp) (fun _ => by simp) (fun _ => by simp) x0 x1 _ ⟨x1, by omega⟩ rfl (Nat.zero_add _).symm

/-- What a point adds to the second result: to the keys' gradient in the left half, to the values' in the right. -/
def part (D : Data) (n j k : ℕ) : ℝ :=
  if k < 512 then keyC D (k / 128) n j (k % 128) else valC D ((k - 512) / 128) n j ((k - 512) % 128)

theorem head_dk {D : Data} {c : Dev nD} (H : Holds D (m ((c : Thread nD τ).loc main_arg0)) (m ((c : Thread nD τ).loc main_arg1))
    (m ((c : Thread nD τ).loc main_arg2)) (m ((c : Thread nD τ).loc main_arg3))) (t : Fin cfg0.N) (h : Fin 4)
    (kq : Fin 128 → Fin 512) (kk kw : Fin 128 → Fin 1024) (hq : ∀ d, (kq d).val = h * 128 + d) (hk : ∀ d, (kk d).val = h * 128 + d)
    (hw : ∀ d, (kw d).val = 512 + h * 128 + d) (j : Fin 256) (l : Fin 128) (r : ℕ) (hr : r = h * 128 + l) :
    ∑ a, tileS (fun d => iblk m c 0 t (ix2 a (kq d))) (fun j d => iblk m c 1 t (ix2 j (kk d))) (fun d => iblk m c 2 t (ix2 a (kq d)))
      (fun j d => iblk m c 1 t (ix2 j (kw d))) j * iblk m c 0 t (ix2 a (kq l)) = ((part D t.val j r : ℝ) : EReal) := by
  refine (tile_dk (fun a d => blkq H t a _ h d (hq d)) (fun j d => blkk H t j _ h d (hk d)) (fun a d => blkg H t a _ h d (hq d))
    (fun j d => blkv H t j _ h d (hw d)) j l).trans ?_
  rw [part, if_pos (by omega), show r / 128 = h by omega, show r % 128 = l by omega]

theorem head_dv {D : Data} {c : Dev nD} (H : Holds D (m ((c : Thread nD τ).loc main_arg0)) (m ((c : Thread nD τ).loc main_arg1))
    (m ((c : Thread nD τ).loc main_arg2)) (m ((c : Thread nD τ).loc main_arg3))) (t : Fin cfg0.N) (h : Fin 4)
    (kq : Fin 128 → Fin 512) (kk : Fin 128 → Fin 1024) (hq : ∀ d, (kq d).val = h * 128 + d) (hk : ∀ d, (kk d).val = h * 128 + d)
    (j : Fin 256) (l : Fin 128) (r : ℕ) (hr : r = 512 + h * 128 + l) :
    ∑ a, tileP (fun d => iblk m c 0 t (ix2 a (kq d))) (fun j d => iblk m c 1 t (ix2 j (kk d))) j * iblk m c 2 t (ix2 a (kq l))
      = ((part D t.val j r : ℝ) : EReal) := by
  refine (tile_dv (fun a d => blkq H t a _ h d (hq d)) (fun j d => blkk H t j _ h d (hk d)) (fun a d => blkg H t a _ h d (hq d)) j l).trans ?_
  rw [part, if_neg (by omega), show (r - 512) / 128 = h by omega, show (r - 512) % 128 = l by omega]

/-- Where the first writes of a list cover an index, the others do not count. -/
theorem canon_append_of_cover {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨x, rfl⟩ : ∃ x, p.1.emb x = y := p.1.exists_idx_of_mem hy
      exact (View.canon_cons_emb p.1 p.2 (L ++ L') x).trans (View.canon_cons_emb p.1 p.2 L x).symm
    · obtain ⟨p', hm, hy'⟩ := h
      rcases List.mem_cons.mp hm with rfl | hm
      · exact absurd hy' hy
      · exact (View.canon_cons_of_not_mem p (L ++ L') hy).trans
          ((canon_append_of_cover L' y L ⟨p', hm, hy'⟩).trans (View.canon_cons_of_not_mem p L hy).symm)

set_option maxHeartbeats 1000000 in
/-- The first point leaves its part, -/
theorem first {D : Data} {c : Dev nD} (H : Holds D (m ((c : Thread nD τ).loc main_arg0)) (m ((c : Thread nD τ).loc main_arg1))
    (m ((c : Thread nD τ).loc main_arg2)) (m ((c : Thread nD τ).loc main_arg3))) (t : Fin cfg0.N) (h0 : t.val % 16 = 0) (y : S256x1024.Idx) :
    (outsAt0 m c t.val t.isLt).2 y = ((part D t.val (y 0) (y 1) : ℝ) : EReal) := by
  rw [outsAt0_A m c t h0]
  frame_out
  simp (disch := decide) only [↓ View.readCov_skip, ↓ View.readCov_fill]
  refine (canon_append_of_cover [_] y [_, _, _, _, _, _, _, _] (View.cover_of_tiledL _ ![256, 128] (by sl_kernel_rfl) y)).trans ?_
  canon_tiles x h
  · idx_vars x
    rw [show y = ix2 x0 ⟨896 + x1, by have := x1.isLt; clear h0 h1; omega⟩ by idx_ext]
    open_payloads; pointwise
    exact head_dv m H t 3 (fun d => ⟨384 + d, by omega⟩) (fun d => ⟨384 + d, by omega⟩) (fun _ => rfl) (fun _ => rfl) x0 x1 _ (by simp)
  · idx_vars x
    rw [show y = ix2 x0 ⟨384 + x1, by have := x1.isLt; clear h0 h1; omega⟩ by idx_ext]
    open_payloads; pointwise
    exact head_dk m H t 3 (fun d => ⟨384 + d, by omega⟩) (fun d => ⟨384 + d, by omega⟩) (fun d => ⟨896 + d, by omega⟩) (fun _ => rfl) (fun _ => rfl) (fun _ => rfl) x0 x1 _ (by simp)
  · idx_vars x
    rw [show y = ix2 x0 ⟨768 + x1, by have := x1.isLt; clear h0 h1; omega⟩ by idx_ext]
    open_payloads; pointwise
    exact head_dv m H t 2 (fun d => ⟨256 + d, by omega⟩) (fun d => ⟨256 + d, by omega⟩) (fun _ => rfl) (fun _ => rfl) x0 x1 _ (by simp)
  · idx_vars x
    rw [show y = ix2 x0 ⟨256 + x1, by have := x1.isLt; clear h0 h1; omega⟩ by idx_ext]
    open_payloads; pointwise
    exact head_dk m H t 2 (fun d => ⟨256 + d, by omega⟩) (fun d => ⟨256 + d, by omega⟩) (fun d => ⟨768 + d, by omega⟩) (fun _ => rfl) (fun _ => rfl) (fun _ => rfl) x0 x1 _ (by simp)
  · idx_vars x
    rw [show y = ix2 x0 ⟨640 + x1, by have := x1.isLt; clear h0 h1; omega⟩ by idx_ext]
    open_payloads; pointwise
    exact head_dv m H t 1 (fun d => ⟨128 + d, by omega⟩) (fun d => ⟨128 + d, by omega⟩) (fun _ => rfl) (fun _ => rfl) x0 x1 _ (by simp)
  · idx_vars x
    rw [show y = ix2 x0 ⟨128 + x1, by have := x1.isLt; clear h0 h1; omega⟩ by idx_ext]
    open_payloads; pointwise
    exact head_dk m H t 1 (fun d => ⟨128 + d, by omega⟩) (fun d => ⟨128 + d, by omega⟩) (fun d => ⟨640 + d, by omega⟩) (fun _ => rfl) (fun _ => rfl) (fun _ => rfl) x0 x1 _ (by simp)
  · idx_vars x
    rw [show y = ix2 x0 ⟨512 + x1, by have := x1.isLt; clear h0 h1; omega⟩ by idx_ext]
    open_payloads; pointwise
    exact head_dv m H t 0 (fun d => ⟨d, by omega⟩) (fun d => ⟨d, by omega⟩) (fun _ => by simp) (fun _ => by simp) x0 x1 _ (by simp)
  · idx_vars x
    rw [show y = ix2 x0 ⟨x1, by have := x1.isLt; clear h0 h1; omega⟩ by idx_ext]
    open_payloads; pointwise
    exact head_dk m H t 0 (fun d => ⟨d, by omega⟩) (fun d => ⟨d, by omega⟩) (fun d => ⟨512 + d, by omega⟩) (fun _ => by simp) (fun _ => by simp) (fun _ => by simp) x0 x1 _ (by simp)

set_option maxHeartbeats 1000000 in
/-- every other adds its part to what the point before left. -/
theorem next {D : Data} {c : Dev nD} (H : Holds D (m ((c : Thread nD τ).loc main_arg0)) (m ((c : Thread nD τ).loc main_arg1))
    (m ((c : Thread nD τ).loc main_arg2)) (m ((c : Thread nD τ).loc main_arg3))) (t : Fin cfg0.N) (h0 : ¬t.val % 16 = 0) (y : S256x1024.Idx) :
    (outsAt0 m c t.val t.isLt).2 y = (outsAt0 m c (t.val - 1) (Nat.lt_of_le_of_lt (Nat.sub_le _ _) t.isLt)).2 y + ((part D t.val (y 0) (y 1) : ℝ) : EReal) := by
  rw [outsAt0_B m c t h0]
  generalize (outsAt0 m c (t.val - 1) (Nat.lt_of_le_of_lt (Nat.sub_le _ _) t.isLt)).2 = A
  frame_out
  canon_tiles x h
  · idx_vars x
    rw [show y = ix2 x0 ⟨896 + x1, by have := x1.isLt; clear h0 h1; omega⟩ by idx_ext]
    open_payloads; pointwise
    exact congrArg (_ + ·) (head_dv m H t 3 (fun d => ⟨384 + d, by omega⟩) (fun d => ⟨384 + d, by omega⟩) (fun _ => rfl) (fun _ => rfl) x0 x1 _ (by simp))
  · idx_vars x
    rw [show y = ix2 x0 ⟨384 + x1, by have := x1.isLt; clear h0 h1; omega⟩ by idx_ext]
    open_payloads; pointwise
    exact congrArg (_ + ·) (head_dk m H t 3 (fun d => ⟨384 + d, by omega⟩) (fun d => ⟨384 + d, by omega⟩) (fun d => ⟨896 + d, by omega⟩) (fun _ => rfl) (fun _ => rfl) (fun _ => rfl) x0 x1 _ (by simp))
  · idx_vars x
    rw [show y = ix2 x0 ⟨768 + x1, by have := x1.isLt; clear h0 h1; omega⟩ by idx_ext]
    open_payloads; pointwise
    exact congrArg (_ + ·) (head_dv m H t 2 (fun d => ⟨256 + d, by omega⟩) (fun d => ⟨256 + d, by omega⟩) (fun _ => rfl) (fun _ => rfl) x0 x1 _ (by simp))
  · idx_vars x
    rw [show y = ix2 x0 ⟨256 + x1, by have := x1.isLt; clear h0 h1; omega⟩ by idx_ext]
    open_payloads; pointwise
    exact congrArg (_ + ·) (head_dk m H t 2 (fun d => ⟨256 + d, by omega⟩) (fun d => ⟨256 + d, by omega⟩) (fun d => ⟨768 + d, by omega⟩) (fun _ => rfl) (fun _ => rfl) (fun _ => rfl) x0 x1 _ (by simp))
  · idx_vars x
    rw [show y = ix2 x0 ⟨640 + x1, by have := x1.isLt; clear h0 h1; omega⟩ by idx_ext]
    open_payloads; pointwise
    exact congrArg (_ + ·) (head_dv m H t 1 (fun d => ⟨128 + d, by omega⟩) (fun d => ⟨128 + d, by omega⟩) (fun _ => rfl) (fun _ => rfl) x0 x1 _ (by simp))
  · idx_vars x
    rw [show y = ix2 x0 ⟨128 + x1, by have := x1.isLt; clear h0 h1; omega⟩ by idx_ext]
    open_payloads; pointwise
    exact congrArg (_ + ·) (head_dk m H t 1 (fun d => ⟨128 + d, by omega⟩) (fun d => ⟨128 + d, by omega⟩) (fun d => ⟨640 + d, by omega⟩) (fun _ => rfl) (fun _ => rfl) (fun _ => rfl) x0 x1 _ (by simp))
  · idx_vars x
    rw [show y = ix2 x0 ⟨512 + x1, by have := x1.isLt; clear h0 h1; omega⟩ by idx_ext]
    open_payloads; pointwise
    exact congrArg (_ + ·) (head_dv m H t 0 (fun d => ⟨d, by omega⟩) (fun d => ⟨d, by omega⟩) (fun _ => by simp) (fun _ => by simp) x0 x1 _ (by simp))
  · idx_vars x
    rw [show y = ix2 x0 ⟨x1, by have := x1.isLt; clear h0 h1; omega⟩ by idx_ext]
    open_payloads; pointwise
    exact congrArg (_ + ·) (head_dk m H t 0 (fun d => ⟨d, by omega⟩) (fun d => ⟨d, by omega⟩) (fun d => ⟨512 + d, by omega⟩) (fun _ => by simp) (fun _ => by simp) (fun _ => by simp) x0 x1 _ (by simp))

/-- The result is flushed at the last point. -/
theorem flush4 : ∀ t : Fin cfg0.N, (cfg0.win 4).flush t = true → t.val = 15 := (by decide +kernel : ∀ t : Fin grid0.N, _)

/-- What a point leaves: the parts of all points so far. -/
theorem total {D : Data} {c : Dev nD} (H : Holds D (m ((c : Thread nD τ).loc main_arg0)) (m ((c : Thread nD τ).loc main_arg1))
    (m ((c : Thread nD τ).loc main_arg2)) (m ((c : Thread nD τ).loc main_arg3))) (y : S256x1024.Idx) :
    ∀ (n : ℕ) (hn : n < cfg0.N), (outsAt0 m c n hn).2 y = ((∑ b ∈ Finset.range (n + 1), part D b (y 0) (y 1) : ℝ) : EReal) := by
  intro n
  induction n with
  | zero => exact fun hn => (first m H ⟨0, hn⟩ rfl y).trans (by simp)
  | succ n ih =>
    intro hn
    have hlt := lt16 ⟨n + 1, hn⟩
    refine (next m H ⟨n + 1, hn⟩ (by show ¬(n + 1) % 16 = 0; exact fun h => by have : n + 1 < 16 := hlt; omega) y).trans ?_
    refine (congrArg (· + _) (ih (Nat.lt_of_succ_lt hn))).trans ?_
    rw [← EReal.coe_add, Finset.sum_range_succ _ (n + 1)]

/-- The keys' and values' gradient is the reference's. -/
theorem final4 {D : Data} {c : Dev nD} (H : Holds D (m ((c : Thread nD τ).loc main_arg0)) (m ((c : Thread nD τ).loc main_arg1))
    (m ((c : Thread nD τ).loc main_arg2)) (m ((c : Thread nD τ).loc main_arg3))) :
    (dats m 0 c).arrAt 4 (cfgs 0).N = val_main_v62 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  have ht := flush4 t hf
  idx_vars y
  have e : ((View.whole main_v7_1).slice (win0_4.rect t)).emb (ix2 y0 y1) = ix2 y0 y1 := by blk_ext [idx t]
  rw [e]
  refine (total m H (ix2 y0 y1) t.val t.isLt).trans ?_
  rw [ht]
  show ((∑ b ∈ Finset.range 16, part D b y0 y1 : ℝ) : EReal) = _
  by_cases hl : y1.val < 512
  · rw [ref_low H y0 y1 hl, ← sum_keyC]
    simp only [part, if_pos hl]
  · rw [ref_high H y0 y1 (by omega), ← sum_valC]
    simp only [part, if_neg hl]

end Cert.MemBwdIdeal.Grad

end
-- ==== Proof.MemClaims.lean ====
module

public import proofs.«01_k».proof.Defs
public import proofs.«01_k».proof.Proof.Gen.MemBwd
public import proofs.«01_k».proof.Proof.Gen.MemBwd.Frame
public import proofs.«01_k».proof.Proof.Gen.MemBwdIdeal.Frame
public import proofs.«01_k».proof.Proof.Gen.MemBwdIdeal.Value
public import proofs.«01_k».proof.Proof.Gen.MemBwdRefIdeal
public import proofs.«01_k».proof.Proof.Gen.MemBwdRefIdeal.Run
public import proofs.«01_k».proof.Proof.Gen.MemBwdRefIdeal.Read
public import proofs.«01_k».proof.Proof.Gen.Pre_finite_mem
public import proofs.«01_k».proof.Proof.MemValue
public import Idealize.ShloMosaic.Lib.Claim
public import Idealize.ShloMosaic.Adequacy
public import Idealize.ShloMosaic.Init

/-! # The claims about the memory attention's gradient -/

@[expose] public section

noncomputable section

namespace Cert.Proof

open Idealize.ShloMosaic Idealize.SL.Sem

/-- The program of the memory attention's gradient runs to its end and leaves its arguments alone. -/
theorem mem_frame : Cert.quiescent_MemBwd (hMemBwd := Cert.MemBwd.Gen.facts) := fun m ρ _ => Cert.MemBwd.Gen.frame m ρ

/-- So does its ideal reading, -/
theorem mem_frame_ideal : Cert.quiescent_MemBwdIdeal (hMemBwdIdeal := Cert.MemBwdIdeal.Gen.facts) := fun m ρ _ => Cert.MemBwdIdeal.Gen.frame m ρ

/-- with the precondition too. -/
theorem mem_frame_pre : Cert.quiescent_MemBwdIdeal_pre_finite_mem (hMemBwdIdeal := Cert.MemBwdIdeal.Gen.facts) (hPre_finite_mem := Cert.Pre_finite_mem.Gen.facts) :=
  fun m ρ _ => Cert.MemBwdIdeal.Gen.frame m ρ

/-- The reference runs to its end. -/
theorem mem_ref : Cert.quiescent_MemBwdRefIdeal (hMemBwdRefIdeal := Cert.MemBwdRefIdeal.Gen.facts) := by
  intro m g _
  exact (θ_run Cert.MemBwdRefIdeal.defs _ _).mono (fun r h => ⟨fun c => (h c).2.2, sem_eq_zero_of_no_sems (by decide) r.2⟩)
    (Cert.MemBwdRefIdeal.Value.run m g)

/-- with the precondition too. -/
theorem mem_ref_pre : Cert.quiescent_MemBwdRefIdeal_pre_finite_mem (hMemBwdRefIdeal := Cert.MemBwdRefIdeal.Gen.facts) (hPre_finite_mem := Cert.Pre_finite_mem.Gen.facts) :=
  fun m g _ => mem_ref m g trivial

/-- Over the reals the kernel's results are the reference's. -/
theorem mem_value : Cert.algebraic_MemBwdIdeal_MemBwdRefIdeal_pre_finite_mem (hMemBwdIdeal := Cert.MemBwdIdeal.Gen.facts)
    (hMemBwdRefIdeal := Cert.MemBwdRefIdeal.Gen.facts) (hPre_finite_mem := Cert.Pre_finite_mem.Gen.facts) := by
  intro m g m' g' hpre hagree
  refine ⟨fun c => Cert.MemBwdRefIdeal.Read.val_main_v59 (F := Ideal) (m ((c.tc : Thread _ _).loc Cert.MemBwdIdeal.main_arg0)) (m ((c.tc : Thread _ _).loc Cert.MemBwdIdeal.main_arg1)) (m ((c.tc : Thread _ _).loc Cert.MemBwdIdeal.main_arg2)) (m ((c.tc : Thread _ _).loc Cert.MemBwdIdeal.main_arg3)),
    fun c => Cert.MemBwdRefIdeal.Read.val_main_v62 (F := Ideal) (m ((c.tc : Thread _ _).loc Cert.MemBwdIdeal.main_arg0)) (m ((c.tc : Thread _ _).loc Cert.MemBwdIdeal.main_arg1)) (m ((c.tc : Thread _ _).loc Cert.MemBwdIdeal.main_arg2)) (m ((c.tc : Thread _ _).loc Cert.MemBwdIdeal.main_arg3)), ?_, ?_⟩
  · refine (θ_run Cert.MemBwdIdeal.defs _ _).mono (fun r h c => ⟨(h c).1.trans ?_, (h c).2.1.trans ?_, (h c).2.2⟩)
      (Cert.MemBwdIdeal.Value.run_blocks (F := Ideal) m g)
    all_goals
      have hp := hpre c
      obtain ⟨D, H⟩ := Mem.exists_data (Reals.all_real _ _ hp.1) (Reals.all_real _ _ hp.2.1) (Reals.all_real _ _ hp.2.2.1)
        (Reals.all_real _ _ hp.2.2.2)
    · exact Cert.MemBwdIdeal.Grad.final3 m H
    · exact Cert.MemBwdIdeal.Grad.final4 m H
  · refine (θ_run Cert.MemBwdRefIdeal.defs _ _).mono (fun r h c => ⟨(h c).1.trans ?_, (h c).2.1.trans ?_, (h c).2.2⟩)
      (Cert.MemBwdRefIdeal.Value.run (F := Ideal) m' g')
    · refine (Cert.MemBwdRefIdeal.Read.val_main_v59_eq (F := Ideal) m' c).trans ?_
      obtain ⟨h0, h1, h2, h3⟩ := hagree c
      rw [h0, h1, h2, h3]
    · refine (Cert.MemBwdRefIdeal.Read.val_main_v62_eq (F := Ideal) m' c).trans ?_
      obtain ⟨h0, h1, h2, h3⟩ := hagree c
      rw [h0, h1, h2, h3]

end Cert.Proof

end
-- ==== Proof.FoxFwdMath.lean ====
/-
  The forgetting attention's forward sweep over the real numbers. A query row visits its keys in blocks and carries the
  largest score so far and the sums of exponentials, each with that largest score taken out; at the end the sums' quotient
  is the attention and the sum's logarithm, the largest score put back, is the row's logarithm.
-/
module

public import proofs.«01_k».proof.Proof.FoxMath
public import proofs.«01_k».proof.Proof.RealOps

@[expose] public section

noncomputable section

namespace Cert.Fox

open Idealize.ShloMosaic Cert.Reals

variable (D : Data)

/-- The score with the decay from the query block's start `s` in place of the query's own. -/
def Sb (s : ℝ) (h i j : ℕ) : ℝ := (∑ d : Fin 64, D.q h i d * D.k h j d) * (1 / 8) + (s - D.c h j)

/-- Its exponential, zero where the key comes after the query. -/
def Wb (s : ℝ) (h i j : ℕ) : ℝ := if j ≤ i then Real.exp (Sb D s h i j) else 0

/-- Only a factor of the row lies between the two. -/
theorem Wb_eq (s : ℝ) (h i j : ℕ) : Wb D s h i j = W D h i j * Real.exp (s - D.c h i) := by
  unfold Wb W; split
  · rw [← Real.exp_add]; congr 1; unfold Sb S; ring
  · simp

/-- Keys after the query add nothing. -/
theorem sum_Wb (s : ℝ) (h i n : ℕ) (hn : i < n) (hn' : n ≤ 8192) (f : ℕ → ℝ) :
    (∑ j ∈ Finset.range n, Wb D s h i j * f j) = (∑ j : Fin 8192, W D h i j * f j) * Real.exp (s - D.c h i) := by
  have e : (∑ j ∈ Finset.range n, Wb D s h i j * f j) = ∑ j ∈ Finset.range 8192, Wb D s h i j * f j := by
    refine Finset.sum_subset (Finset.range_mono hn') fun j _ hj => ?_
    rw [Finset.mem_range, not_lt] at hj
    rw [Wb, if_neg (by omega), zero_mul]
  rw [e, Finset.sum_range, Finset.sum_mul]
  refine Finset.sum_congr rfl fun j _ => ?_
  rw [Wb_eq]; ring

/-- The largest of a row's scores is real when one of them is and none is infinite upwards. -/
theorem fold_max_ne {n : ℕ} (σ : Fin n → EReal) (h : ∀ j, σ j ≠ ⊤) (j : Fin n) (hj : σ j ≠ ⊥) :
    ∃ N : ℝ, Finset.fold max (⊥ : EReal) σ Finset.univ = (N : EReal) := by
  have h1 : Finset.fold max (⊥ : EReal) σ Finset.univ ≠ ⊤ := by
    refine ne_of_lt ?_
    rw [Finset.fold_max_lt]
    exact ⟨bot_lt_top, fun x _ => lt_top_iff_ne_top.2 (h x)⟩
  have h2 : Finset.fold max (⊥ : EReal) σ Finset.univ ≠ ⊥ := by
    refine ne_of_gt ?_
    rw [Finset.lt_fold_max]
    exact Or.inr ⟨j, Finset.mem_univ _, bot_lt_iff_ne_bot.2 hj⟩
  exact ⟨_, (EReal.coe_toReal h1 h2).symm⟩

/-- A row's carried largest score and sum, with `A` the sum it stands for: nothing yet, or a real number taken out. -/
def Carried (m acc : EReal) (A : ℝ) : Prop := (m = ⊥ ∧ acc = 0 ∧ A = 0) ∨ ∃ M : ℝ, m = (M : EReal) ∧ acc = ((A * Real.exp (-M) : ℝ) : EReal)

/-- A score and the exponential it stands for. -/
def Scored (σ : EReal) (w : ℝ) : Prop := (σ = ⊥ ∧ w = 0) ∨ ∃ x : ℝ, σ = (x : EReal) ∧ w = Real.exp x

theorem exp_sub_scored {σ : EReal} {w : ℝ} (h : Scored σ w) (N : ℝ) : Ideal.exp (σ - (N : EReal)) = ((w * Real.exp (-N) : ℝ) : EReal) := by
  obtain ⟨rfl, rfl⟩ | ⟨x, rfl, rfl⟩ := h
  · rw [EReal.bot_sub, zero_mul, EReal.coe_zero]; exact Ideal.exp_bot
  · rw [← EReal.coe_sub, Ideal.exp_coe, ← Real.exp_add, sub_eq_add_neg]

/-- A block of keys taken in: the carried sum is rescaled to the new largest score. -/
theorem carried_step {n : ℕ} {m acc : EReal} {A : ℝ} (C : Carried m acc A) {σ : Fin n → EReal} {w : Fin n → ℝ} (hσ : ∀ j, Scored (σ j) (w j))
    (v : Fin n → ℝ) (j : Fin n) (hj : σ j ≠ ⊥) {N : EReal} (hN : N = max m (Finset.fold max (⊥ : EReal) σ Finset.univ)) :
    ∃ M : ℝ, N = (M : EReal) ∧ Ideal.exp (m - N) * acc + ∑ j, Ideal.exp (σ j - N) * ((v j : ℝ) : EReal)
      = (((A + ∑ j, w j * v j) * Real.exp (-M) : ℝ) : EReal) := by
  obtain ⟨T, hT⟩ := fold_max_ne σ (fun j => by
    obtain ⟨e, -⟩ | ⟨x, e, -⟩ := hσ j
    · rw [e]; exact bot_ne_top
    · rw [e]; exact EReal.coe_ne_top _) j hj
  rw [hT] at hN
  obtain ⟨M, rfl⟩ : ∃ M : ℝ, N = (M : EReal) := by
    obtain ⟨rfl, -⟩ | ⟨x, rfl, -⟩ := C
    · exact ⟨T, by rw [hN, bot_sup_eq]⟩
    · exact ⟨max x T, hN.trans (EReal.coe_strictMono.monotone.map_max).symm⟩
  refine ⟨M, rfl, ?_⟩
  simp only [exp_sub_scored (hσ _), ← EReal.coe_mul, ← coe_sum]
  have e : Ideal.exp (m - (M : EReal)) * acc = ((A * Real.exp (-M) : ℝ) : EReal) := by
    obtain ⟨rfl, rfl, rfl⟩ | ⟨x, rfl, rfl⟩ := C
    · rw [mul_zero, zero_mul, EReal.coe_zero]
    · rw [← EReal.coe_sub, Ideal.exp_coe, ← EReal.coe_mul, sub_eq_add_neg, Real.exp_add, Real.exp_neg x]
      have := (Real.exp_pos x).ne'
      congr 1; field_simp
  rw [e, ← EReal.coe_add, add_mul, Finset.sum_mul]
  congr 2
  exact Finset.sum_congr rfl fun j _ => by ring

/-- The attention, from the two sums with the same number taken out. -/
theorem att_of_sums (s M : ℝ) (h i d : ℕ) :
    ((∑ j : Fin 8192, W D h i j * D.v h j d) * Real.exp (s - D.c h i) * Real.exp (-M)) / ((∑ j : Fin 8192, W D h i j * 1) * Real.exp (s - D.c h i) * Real.exp (-M)) = att D h i d := by
  have h1 := (Real.exp_pos (s - D.c h i)).ne'
  have h2 := (Real.exp_pos (-M)).ne'
  have h3 := tot_ne D h i
  simp only [mul_one]
  rw [show (∑ j : Fin 8192, W D h i j) = tot D h i from rfl, mul_div_mul_right _ _ h2, mul_div_mul_right _ _ h1, Finset.sum_div]
  exact Finset.sum_congr rfl fun j _ => by unfold P; ring

/-- The row's logarithm, with the query block's start in place of the query's decay. -/
def lseb (s : ℝ) (h i : ℕ) : ℝ := Real.log (tot D h i) + s - D.c h i

theorem lse_of_sum (s M : ℝ) (h i : ℕ) : M + Real.log ((∑ j : Fin 8192, W D h i j * 1) * Real.exp (s - D.c h i) * Real.exp (-M)) = lseb D s h i := by
  have h3 := tot_ne D h i
  simp only [mul_one]
  rw [show (∑ j : Fin 8192, W D h i j) = tot D h i from rfl, Real.log_mul (mul_ne_zero h3 (Real.exp_pos _).ne') (Real.exp_pos _).ne',
    Real.log_mul h3 (Real.exp_pos _).ne', Real.log_exp, Real.log_exp, lseb]
  ring

theorem sum_pos (s M : ℝ) (h i : ℕ) : 0 < (∑ j : Fin 8192, W D h i j * 1) * Real.exp (s - D.c h i) * Real.exp (-M) := by
  simp only [mul_one]
  exact mul_pos (mul_pos (tot_pos D h i) (Real.exp_pos _)) (Real.exp_pos _)

end Cert.Fox

end
-- ==== Proof.FoxFwdTiles.lean ====
/-
  One block of keys of the forward attention, at one head: its scores, the new largest score, and the carried sum with the
  block taken in. Both heads of a pair and both kinds of block (below the diagonal, on it) are instances.
-/
module

public import proofs.«01_k».proof.Proof.FoxFwdMath
public import proofs.«01_k».proof.Proof.FoxTiles
public import proofs.«01_k».proof.Proof.Gen.FoxFwdIdeal.Skeleton

@[expose] public section

set_option maxRecDepth 16384

noncomputable section

namespace Cert.FoxFwdIdeal.Att

open Cert.FoxFwdIdeal Cert.FoxFwdIdeal.Gen Idealize.ShloMosaic Idealize.ShloMosaic.TcCoe Idealize.SL.Sem
open Cert.Reals Cert.Fox

/-- The first head's lanes, and the second's. -/
def low : IVec S512x128 1 := cmpi .slt (iota .tc S512x128 32 [1] iota_S512x128_d1_w32) (broadcast S512x128 64#32)
def high : IVec S512x128 1 := cmpi .sge (iota .tc S512x128 32 [1] iota_S512x128_d1_w32) (broadcast S512x128 64#32)

section Defs

variable {F : FTy → Type} [FloatOps F]

/-- The block's scores: queries against keys, plus the decay from the query block's start. -/
def scores (qh K : FVec F S512x128 .bf16) (c : FVec F S1x1x128 .f32) (b : FVec F S1x1x512 .f32) : FVec F S512x512 .f32 :=
  addf (matmul dot_S512x128_S512x128_S512x512_1_1_0_0_n_n none qh K (constant S512x512 .f32 0x00000000#32))
    (broadcastTo S512x512 (subf (broadcastTo S1x512 (shapeCast S1x1 (multiReduction .maximumf [1] S1 (shapeCast S1x128 c shapeCasts_S1x1x128_S1x128) 0xFF800000#32 reduces_S1x128_S1 (.inl rfl) rfl) shapeCasts_S1_S1x1) broadcasts_S1x1_S1x512)
      (shapeCast S1x512 b shapeCasts_S1x1x512_S1x512)) broadcasts_S1x512_S512x512)

/-- The scores of a block on the diagonal, where later keys are masked. -/
def causal (σ : FVec F S512x512 .f32) : FVec F S512x512 .f32 :=
  select (cmpi .sge (iota .tc S512x512 32 [0] iota_S512x512_d0_w32) (iota .tc S512x512 32 [1] iota_S512x512_d1_w32)) σ (broadcast S512x512 (Scalar.ofBits .f32 0xFF800000#32))

/-- The largest score so far. -/
def newMax (m : FVec F S512x1 .f32) (σ : FVec F S512x512 .f32) : FVec F S512x1 .f32 :=
  maximumf m (shapeCast S512x1 (multiReduction .maximumf [1] S512 σ 0xFF800000#32 reduces_S512x512_S512 (.inl rfl) rfl) shapeCasts_S512_S512x1)

/-- The carried sums with the block taken in: the values' on the head's lanes, the exponentials' own elsewhere. -/
def newAcc (mask : IVec S512x128 1) (m : FVec F S512x1 .f32) (acc : FVec F S512x128 .f32) (σ : FVec F S512x512 .f32) (V : FVec F S512x128 .bf16) : FVec F S512x128 .f32 :=
  addf (mulf (broadcastTo S512x128 (exp (subf m (newMax m σ))) broadcasts_S512x1_S512x128) acc)
    (matmul dot_S512x512_S512x128_S512x128_1_0_0_1_n_n none (truncf .bf16 (exp (subf σ (broadcastTo S512x512 (newMax m σ) broadcasts_S512x1_S512x512))) bitsLt_bf16_f32)
      (select mask V (broadcast S512x128 (Scalar.ofBits .bf16 0x3F80#16))) (constant S512x128 .f32 0x00000000#32))

/-- The other head's lanes. -/
def turned (acc : FVec F S512x128 .f32) : FVec F S512x128 .f32 := dynamicRotate 1 64#32 none acc rotates_S512x128_d1

/-- A row's log-sum, on all lanes. -/
def logs (mask : IVec S512x128 1) (m : FVec F S512x1 .f32) (acc : FVec F S512x128 .f32) : FVec F S512x128 .f32 :=
  addf (broadcastTo S512x128 m broadcasts_S512x1_S512x128) (log (select mask (turned acc) acc))

end Defs

theorem low_apply (a : Fin 512) (l : Fin 128) : low (ix2 a l) = if l.val / 64 = 0 then 1#1 else 0#1 := by
  pointwise [low]
  rw [slt_ofNat (by omega) (by omega)]
  exact if_congr (by omega) rfl rfl

theorem high_apply (a : Fin 512) (l : Fin 128) : high (ix2 a l) = if l.val / 64 = 1 then 1#1 else 0#1 := by
  pointwise [high]
  rw [sge_ofNat (by omega) (by omega)]
  exact if_congr (by omega) rfl rfl

theorem scores_apply (qh K : FVec Ideal S512x128 .bf16) (c : FVec Ideal S1x1x128 .f32) (b : FVec Ideal S1x1x512 .f32) (a j : Fin 512) :
    scores qh K c b (ix2 a j) = (∑ l : Fin 128, qh (ix2 a l) * K (ix2 j l)) + (Finset.fold max ⊥ (fun x : Fin 128 => c (ix3 0 0 x)) Finset.univ - b (ix3 0 0 j)) := by
  pointwise [scores]
  rw [ofBits_neg_inf]

theorem causal_apply (σ : FVec Ideal S512x512 .f32) (a j : Fin 512) : causal σ (ix2 a j) = if j.val ≤ a.val then σ (ix2 a j) else ⊥ := by
  pointwise [causal]
  rw [sge_ofNat (by omega) (by omega), select_ite, ofBits_neg_inf]

theorem newMax_apply (m : FVec Ideal S512x1 .f32) (σ : FVec Ideal S512x512 .f32) (a : Fin 512) :
    newMax m σ (ix2 a 0) = max (m (ix2 a 0)) (Finset.fold max (⊥ : EReal) (fun j : Fin 512 => σ (ix2 a j)) Finset.univ) := by
  pointwise [newMax]
  rw [ofBits_neg_inf]

theorem newAcc_apply {hh : ℕ} (mask : IVec S512x128 1) (hm : ∀ (a : Fin 512) (l : Fin 128), mask (ix2 a l) = if l.val / 64 = hh then 1#1 else 0#1)
    (m : FVec Ideal S512x1 .f32) (acc : FVec Ideal S512x128 .f32) (σ : FVec Ideal S512x512 .f32) (V : FVec Ideal S512x128 .bf16) (a : Fin 512) (l : Fin 128) :
    newAcc mask m acc σ V (ix2 a l) = Ideal.exp (m (ix2 a 0) - newMax m σ (ix2 a 0)) * acc (ix2 a l)
      + ∑ j : Fin 512, Ideal.exp (σ (ix2 a j) - newMax m σ (ix2 a 0)) * (if l.val / 64 = hh then V (ix2 j l) else 1) := by
  unfold newAcc
  generalize newMax m σ = N
  pointwise
  simp only [hm, select_ite]

theorem turned_apply (acc : FVec Ideal S512x128 .f32) (a : Fin 512) (l : Fin 128) : turned acc (ix2 a l) = acc (ix2 a ⟨(l + 64) % 128, by omega⟩) := by
  pointwise [turned]
  exact congrArg (fun n => acc (ix2 a n)) (Fin.ext (by simp only; omega))

theorem logs_apply {hh : ℕ} (mask : IVec S512x128 1) (hm : ∀ (a : Fin 512) (l : Fin 128), mask (ix2 a l) = if l.val / 64 = hh then 1#1 else 0#1)
    (m : FVec Ideal S512x1 .f32) (acc : FVec Ideal S512x128 .f32) (a : Fin 512) (l : Fin 128) :
    logs mask m acc (ix2 a l) = m (ix2 a 0) + Ideal.log (if l.val / 64 = hh then turned acc (ix2 a l) else acc (ix2 a l)) := by
  unfold logs
  generalize turned acc = x
  pointwise
  rw [hm, select_ite]

section Payloads

variable {F : FTy → Type} [FloatOps F]

theorem pay6_eq (qh K : FVec F S512x128 .bf16) (m : FVec F S512x1 .f32) (c : FVec F S1x1x128 .f32) (b : FVec F S1x1x512 .f32) :
    k0_pay6 qh m K c b = newMax m (scores qh (k0_pay3 K) c b) := rfl

theorem pay7_eq (qh K V : FVec F S512x128 .bf16) (m : FVec F S512x1 .f32) (acc : FVec F S512x128 .f32) (c : FVec F S1x1x128 .f32) (b : FVec F S1x1x512 .f32) :
    k0_pay7 qh m acc K V c b = newAcc low m acc (scores qh (k0_pay3 K) c b) (k0_pay4 V) := rfl

theorem pay23_eq (qh K : FVec F S512x128 .bf16) (m : FVec F S512x1 .f32) (c : FVec F S1x1x128 .f32) (b : FVec F S1x1x512 .f32) :
    k0_pay23 m (k0_pay8 qh K) (k0_pay9 c) b = newMax m (scores qh (k0_pay3 K) c b) := rfl

theorem pay24_eq (qh K V : FVec F S512x128 .bf16) (m : FVec F S512x1 .f32) (acc : FVec F S512x128 .f32) (c : FVec F S1x1x128 .f32) (b : FVec F S1x1x512 .f32) :
    k0_pay24 m acc (k0_pay4 V) (k0_pay8 qh K) (k0_pay9 c) b = newAcc high m acc (scores qh (k0_pay3 K) c b) (k0_pay4 V) := rfl

end Payloads

theorem pay3_id (x : FVec Ideal S512x128 .bf16) : k0_pay3 (F := Ideal) x = x := by
  funext y
  idx_vars y
  pointwise [k0_pay3]

theorem pay4_id (x : FVec Ideal S512x128 .bf16) : k0_pay4 (F := Ideal) x = x := by
  funext y
  idx_vars y
  pointwise [k0_pay4]

section Facts

variable {D : Data} {p hh r0 k0 : ℕ} {s : ℝ} {qh K V : FVec Ideal S512x128 .bf16} {c : FVec Ideal S1x1x128 .f32} {b : FVec Ideal S1x1x512 .f32}
  {m : FVec Ideal S512x1 .f32} {acc : FVec Ideal S512x128 .f32} {σ : FVec Ideal S512x512 .f32} {mask : IVec S512x128 1}

/-- One head's queries of a block, scaled, with zeros on the other head's lanes. -/
def Queries (D : Data) (p hh r0 : ℕ) (qh : FVec Ideal S512x128 .bf16) : Prop :=
  ∀ (a : Fin 512) (l : Fin 128), qh (ix2 a l) = ((if l.val / 64 = hh then D.q (2 * p + hh) (r0 + a) (l % 64) * (1 / 8) else 0 : ℝ) : EReal)

/-- A block of keys, one of values, and a head's running sums: the query block's start and the key block's. -/
structure Block (D : Data) (p k0 : ℕ) (K V : FVec Ideal S512x128 .bf16) : Prop where
  k : ∀ (j : Fin 512) (l : Fin 128), K (ix2 j l) = ((D.k (2 * p + l / 64) (k0 + j) (l % 64) : ℝ) : EReal)
  v : ∀ (j : Fin 512) (l : Fin 128), V (ix2 j l) = ((D.v (2 * p + l / 64) (k0 + j) (l % 64) : ℝ) : EReal)

structure Sums (D : Data) (p hh k0 : ℕ) (s : ℝ) (c : FVec Ideal S1x1x128 .f32) (b : FVec Ideal S1x1x512 .f32) : Prop where
  c : Finset.fold max ⊥ (fun x : Fin 128 => c (ix3 0 0 x)) Finset.univ = (s : EReal)
  b : ∀ j : Fin 512, b (ix3 0 0 j) = ((D.c (2 * p + hh) (k0 + j) : ℝ) : EReal)

/-- What a lane sums the exponentials against: the head's value, or one. -/
def against (D : Data) (p hh l j : ℕ) : ℝ := if l / 64 = hh then D.v (2 * p + hh) j (l % 64) else 1

/-- What a row of a head carries after the first `n` keys, and the sums it stands for. -/
def total (D : Data) (p hh : ℕ) (s : ℝ) (i l n : ℕ) : ℝ := ∑ j ∈ Finset.range n, Wb D s (2 * p + hh) i j * against D p hh l j

def Carry (D : Data) (p hh r0 : ℕ) (s : ℝ) (n : ℕ) (m : FVec Ideal S512x1 .f32) (acc : FVec Ideal S512x128 .f32) : Prop :=
  ∀ (a : Fin 512) (l : Fin 128), Carried (m (ix2 a 0)) (acc (ix2 a l)) (total D p hh s (r0 + a) l n)

/-- The same once a key has been seen. -/
def Full (D : Data) (p hh r0 : ℕ) (s : ℝ) (n : ℕ) (m : FVec Ideal S512x1 .f32) (acc : FVec Ideal S512x128 .f32) : Prop :=
  ∀ (a : Fin 512) (l : Fin 128), ∃ M : ℝ, m (ix2 a 0) = (M : EReal) ∧ acc (ix2 a l) = ((total D p hh s (r0 + a) l n * Real.exp (-M) : ℝ) : EReal)

theorem Full.carry {n : ℕ} (h : Full D p hh r0 s n m acc) : Carry D p hh r0 s n m acc := fun a l => Or.inr (h a l)

theorem score (hb : hh < 2) (Q : Queries D p hh r0 qh) (B : Block D p k0 K V) (C : Sums D p hh k0 s c b) (a j : Fin 512) :
    scores qh K c b (ix2 a j) = ((Sb D s (2 * p + hh) (r0 + a) (k0 + j) : ℝ) : EReal) := by
  rw [scores_apply, C.c, C.b]
  simp only [Q a, B.k, ← EReal.coe_mul, ← coe_sum, ← EReal.coe_sub, ← EReal.coe_add]
  rw [Cert.FoxBwdIdeal.Grad.lanes hb (fun _ l => D.q (2 * p + hh) (r0 + a) l * (1 / 8)) (fun x l => D.k (2 * p + x) (k0 + j) l), Sb, Finset.sum_mul]
  refine congrArg (fun r : ℝ => (r : EReal)) ?_
  rw [Finset.sum_congr rfl fun (x : Fin 64) _ => (by ring : D.q (2 * p + hh) (r0 + a) x * (1 / 8) * D.k (2 * p + hh) (k0 + j) x = D.q (2 * p + hh) (r0 + a) x * D.k (2 * p + hh) (k0 + j) x * (1 / 8))]

/-- A block taken in. -/
theorem step (hm : ∀ (a : Fin 512) (l : Fin 128), mask (ix2 a l) = if l.val / 64 = hh then 1#1 else 0#1) (B : Block D p k0 K V)
    (hσ : ∀ a j : Fin 512, Scored (σ (ix2 a j)) (Wb D s (2 * p + hh) (r0 + a) (k0 + j))) (h0 : ∀ a : Fin 512, σ (ix2 a 0) ≠ ⊥)
    (C : Carry D p hh r0 s k0 m acc) : Full D p hh r0 s (k0 + 512) (newMax m σ) (newAcc mask m acc σ V) := by
  intro a l
  obtain ⟨M, h1, h2⟩ := carried_step (C a l) (hσ a) (fun j => against D p hh l (k0 + j)) 0 (h0 a) (newMax_apply m σ a)
  refine ⟨M, h1, ?_⟩
  rw [newAcc_apply mask hm, total, Finset.sum_range_add, Finset.sum_range (n := 512), ← total, ← h2]
  refine congrArg _ (Finset.sum_congr rfl fun j _ => congrArg _ ?_)
  rw [against]
  split
  case isTrue h => rw [B.v, h]
  case isFalse h => rw [EReal.coe_one]

theorem stepBelow (hb : hh < 2) (hm : ∀ (a : Fin 512) (l : Fin 128), mask (ix2 a l) = if l.val / 64 = hh then 1#1 else 0#1)
    (Q : Queries D p hh r0 qh) (B : Block D p k0 K V) (S : Sums D p hh k0 s c b) (hk : k0 + 512 ≤ r0) (C : Carry D p hh r0 s k0 m acc) :
    Full D p hh r0 s (k0 + 512) (newMax m (scores qh K c b)) (newAcc mask m acc (scores qh K c b) V) :=
  step hm B (fun a j => Or.inr ⟨_, score hb Q B S a j, by rw [Wb, if_pos (by omega)]⟩) (fun a => by rw [score hb Q B S]; exact EReal.coe_ne_bot _) C

theorem stepDiag (hb : hh < 2) (hm : ∀ (a : Fin 512) (l : Fin 128), mask (ix2 a l) = if l.val / 64 = hh then 1#1 else 0#1)
    (Q : Queries D p hh r0 qh) (B : Block D p r0 K V) (S : Sums D p hh r0 s c b) (C : Carry D p hh r0 s r0 m acc) :
    Full D p hh r0 s (r0 + 512) (newMax m (causal (scores qh K c b))) (newAcc mask m acc (causal (scores qh K c b)) V) := by
  refine step hm B (fun a j => ?_) (fun a => ?_) C
  · rw [causal_apply]
    split
    · exact Or.inr ⟨_, score hb Q B S a j, by rw [Wb, if_pos (by omega)]⟩
    · exact Or.inl ⟨rfl, by rw [Wb, if_neg (by omega)]⟩
  · rw [causal_apply, if_pos (show (0 : Fin 512).val ≤ a.val from Nat.zero_le _), score hb Q B S]
    exact EReal.coe_ne_bot _

/-- After the last block: the sums over all keys, up to the row's factors. -/
theorem total_own (i l n : ℕ) (hn : i < n) (hn' : n ≤ 8192) (hl : l / 64 = hh) :
    total D p hh s i l n = (∑ j : Fin 8192, W D (2 * p + hh) i j * D.v (2 * p + hh) j (l % 64)) * Real.exp (s - D.c (2 * p + hh) i) := by
  rw [total, ← sum_Wb D s _ i n hn hn' fun j => D.v (2 * p + hh) j (l % 64)]
  exact Finset.sum_congr rfl fun j _ => by rw [against, if_pos hl]

theorem total_other (i l n : ℕ) (hn : i < n) (hn' : n ≤ 8192) (hl : l / 64 ≠ hh) :
    total D p hh s i l n = (∑ j : Fin 8192, W D (2 * p + hh) i j * 1) * Real.exp (s - D.c (2 * p + hh) i) := by
  rw [total, ← sum_Wb D s _ i n hn hn' fun j => 1]
  exact Finset.sum_congr rfl fun j _ => by rw [against, if_neg hl]

/-- The head's output, on its own lanes. -/
theorem out {n : ℕ} (hr : r0 + 512 ≤ n) (hn : n ≤ 8192) (hb : hh < 2) (C : Full D p hh r0 s n m acc) (a : Fin 512) (l : Fin 128) (hl : l.val / 64 = hh) :
    divf acc (turned acc) (ix2 a l) = ((att D (2 * p + hh) (r0 + a) (l % 64) : ℝ) : EReal) := by
  obtain ⟨M, h1, h2⟩ := C a l
  obtain ⟨M', h1', h2'⟩ := C a ⟨(l + 64) % 128, by omega⟩
  have e : M' = M := EReal.coe_injective (h1'.symm.trans h1)
  subst e
  rw [total_own _ _ n (by omega) hn hl] at h2
  rw [total_other _ _ n (by omega) hn (by simp only; omega)] at h2'
  refine (congrArg₂ Ideal.div h2 ((turned_apply acc a l).trans h2')).trans ?_
  rw [div_real _ (sum_pos D s M' _ _).ne', att_of_sums]

/-- The row's log-sum, on every lane. -/
theorem logsum {n : ℕ} (hr : r0 + 512 ≤ n) (hn : n ≤ 8192) (hb : hh < 2) (hm : ∀ (a : Fin 512) (l : Fin 128), mask (ix2 a l) = if l.val / 64 = hh then 1#1 else 0#1)
    (C : Full D p hh r0 s n m acc) (a : Fin 512) (l : Fin 128) :
    logs mask m acc (ix2 a l) = ((lseb D s (2 * p + hh) (r0 + a) : ℝ) : EReal) := by
  obtain ⟨l', hl', e⟩ : ∃ l' : Fin 128, l'.val / 64 ≠ hh ∧ (if l.val / 64 = hh then turned acc (ix2 a l) else acc (ix2 a l)) = acc (ix2 a l') := by
    split
    case isTrue h => exact ⟨⟨(l + 64) % 128, by omega⟩, by simp only; omega, turned_apply acc a l⟩
    case isFalse h => exact ⟨l, h, rfl⟩
  obtain ⟨M, h1, h2⟩ := C a l'
  rw [total_other _ _ n (by omega) hn hl'] at h2
  rw [logs_apply mask hm, e, h1, h2, Ideal.log_coe, if_neg (not_le.2 (sum_pos D s M _ _)), ← EReal.coe_add, lse_of_sum]

end Facts

end Cert.FoxFwdIdeal.Att

end
-- ==== Proof.FoxFwdPoint.lean ====
/-
  One grid point of the forward attention: a sweep over the key blocks before the diagonal, then the block on it. Grid point
  `t` works on the pair of heads `t / 16` and on the block `t % 16` of 512 queries.
-/
module

public import proofs.«01_k».proof.Proof.FoxFwdTiles
public import proofs.«01_k».proof.Proof.Gen.FoxFwdIdeal.Frame
public import Idealize.ShloMosaic.Lib.WritesUnit

@[expose] public section

set_option maxRecDepth 16384

noncomputable section

namespace Cert.FoxFwdIdeal.Att

open Cert.FoxFwdIdeal Cert.FoxFwdIdeal.Gen Idealize.ShloMosaic Idealize.ShloMosaic.TcCoe Idealize.SL.Sem
open Cert.Reals Cert.Fox

/-- The sweep's trips, and where each reads. -/
theorem trips : ∀ t : Fin cfg0.N, (k0_t1_loop (grid0.coords t)).trips = t.val % 16 := by decide +kernel

theorem trips2 : ∀ t : Fin cfg0.N, (k0_t2_loop (grid0.coords t)).trips = 0 := by decide +kernel

theorem off1 : ∀ (t : Fin cfg0.N) (k : Fin (k0_t1_loop (grid0.coords t)).trips), k0_off1 (grid0.coords t) k = ![512 * k.val, 0]
    ∧ k0_off3 (grid0.coords t) k = ![0, 0, 512 * k.val] ∧ k0_off5 (grid0.coords t) k = ![0, 1, 512 * k.val] := by decide +kernel

theorem off2 : ∀ t : Fin cfg0.N, k0_off2 (grid0.coords t) = ![0, 0, 512 * (t.val % 16)] ∧ k0_off4 (grid0.coords t) = ![0, 1, 512 * (t.val % 16)]
    ∧ k0_off11 (grid0.coords t) = ![512 * (t.val % 16), 0] ∧ k0_off12 (grid0.coords t) = ![0, 0, 512 * (t.val % 16)] ∧ k0_off13 (grid0.coords t) = ![0, 0, 512 * (t.val % 16)]
    ∧ k0_off14 (grid0.coords t) = ![0, 1, 512 * (t.val % 16)] ∧ k0_off15 (grid0.coords t) = ![0, 1, 512 * (t.val % 16)] := by decide +kernel

section Loads

variable {κ : Kind} {sp : Space}

/-- A block of 512 rows, loaded. -/
theorem rows_load {e : EltTy} (v : View sig κ sp S8192x128 e) (f : v.ty.Contents (Elt Ideal)) {off : Fin 2 → ℕ} {r0 : ℕ} (inb : ∀ a : Fin 2, off a + S512x128.size a ≤ S8192x128.size a)
    (h : off = ![r0, 0]) (a : Fin 512) (l : Fin 128) (j : Fin 8192) (hj : j.val = r0 + a) :
    v.readAt (Elt Ideal) (Rect.unit (s := S8192x128) off S512x128.size inb).toLoadRect f (ix2 a l) = v.read (Elt Ideal) f (ix2 j l) := by
  subst h
  refine congrArg (v.read (Elt Ideal) f) ?_
  idx_ext

/-- A stretch of a head's running sums, loaded. -/
theorem sums_load (v : View sig κ sp S1x2x8192 .f32) (f : v.ty.Contents (Elt Ideal)) {off : Fin 3 → ℕ} {r0 h W : ℕ} (inb : ∀ a : Fin 3, off a + (⟨3, ![1, 1, W]⟩ : Shape).size a ≤ S1x2x8192.size a)
    (e : off = ![0, h, r0]) (a : Fin W) (b : Fin 2) (hb : b.val = h) (j : Fin 8192) (hj : j.val = r0 + a) :
    v.readAt (Elt Ideal) (Rect.unit (s := S1x2x8192) off (⟨3, ![1, 1, W]⟩ : Shape).size inb).toLoadRect f (ix3 0 0 a) = v.read (Elt Ideal) f (ix3 0 b j) := by
  subst e
  refine congrArg (v.read (Elt Ideal) f) ?_
  idx_ext

end Loads

/-- What one grid point's sweep is run over: the windows' buffers, the queries read before the sweep, and the contents of the
    buffers it reads. -/
structure Pt where
  𝒱 : Variants
  c : Dev nD
  bd : Option 𝒱.V
  i : grid0.Coords
  arg2 : Memref sig .tc .vmem S512x128 .bf16
  harg2 : arg2.IsWhole
  arg3 : Memref sig .tc .vmem S8192x128 .bf16
  harg3 : arg3.IsWhole
  arg4 : Memref sig .tc .vmem S8192x128 .bf16
  harg4 : arg4.IsWhole
  arg5 : Memref sig .tc .vmem S1x2x8192 .f32
  harg5 : arg5.IsWhole
  arg6 : Memref sig .tc .vmem S512x128 .bf16
  harg6 : arg6.IsWhole
  arg7 : Memref sig .tc .vmem S2x512x128 .f32
  harg7 : arg7.IsWhole
  v1 : BitVec 32
  q : FVec Ideal S512x128 .bf16
  X3 : BufTy.Contents (Elt Ideal) arg3.view.ty
  X4 : BufTy.Contents (Elt Ideal) arg4.view.ty
  X5 : BufTy.Contents (Elt Ideal) arg5.view.ty

/-- What a pair of heads carries: each head's largest scores and sums. -/
abbrev Acc := FVec Ideal S512x1 .f32 × FVec Ideal S512x128 .f32 × FVec Ideal S512x1 .f32 × FVec Ideal S512x128 .f32

namespace Pt

/-- What the sweep carries before trip `n`. -/
def st (x : Pt) (n : ℕ) : Acc :=
  st_k0_t1 (F := Ideal) x.𝒱 x.c x.bd x.i x.arg2 x.harg2 x.arg3 x.harg3 x.arg4 x.harg4 x.arg5 x.harg5 x.arg6 x.harg6 x.arg7 x.harg7 x.v1 x.q x.X3 x.X4 x.X5 (k0_pay20, k0_pay21, k0_pay20, k0_pay21) n

/-- The second sweep, which has no trips. -/
def two (x : Pt) (s : Acc) : Acc :=
  st_k0_t2 (F := Ideal) x.𝒱 x.c x.bd x.i x.arg2 x.harg2 x.arg3 x.harg3 x.arg4 x.harg4 x.arg5 x.harg5 x.arg6 x.harg6 x.arg7 x.harg7 x.v1 x.q (k0_t1_loop x.i).ub x.X3 x.X4 x.X5 s (k0_t2_loop x.i).trips

theorem two_eq (x : Pt) (t : Fin cfg0.N) (h : x.i = grid0.coords t) (s : Acc) : x.two s = s := by
  unfold two
  rw [(congrArg (fun i => (k0_t2_loop i).trips) h).trans (trips2 t)]
  rfl

section Trip

variable (x : Pt) (k : Fin (k0_t1_loop x.i).trips)

/-- The keys, values and running sums trip `k` reads. -/
def K : FVec Ideal S512x128 .bf16 := x.arg3.view.readAt (Elt Ideal) (Rect.unit (s := S8192x128) (k0_off1 x.i k) S512x128.size (k0_off1_inb x.i k)).toLoadRect x.X3
def V : FVec Ideal S512x128 .bf16 := x.arg4.view.readAt (Elt Ideal) (Rect.unit (s := S8192x128) (k0_off1 x.i k) S512x128.size (k0_off1_inb x.i k)).toLoadRect x.X4
def c0 : FVec Ideal S1x1x128 .f32 := x.arg5.view.readAt (Elt Ideal) (Rect.unit (s := S1x2x8192) (k0_off2 x.i) S1x1x128.size (k0_off2_inb x.i)).toLoadRect x.X5
def b0 : FVec Ideal S1x1x512 .f32 := x.arg5.view.readAt (Elt Ideal) (Rect.unit (s := S1x2x8192) (k0_off3 x.i k) S1x1x512.size (k0_off3_inb x.i k)).toLoadRect x.X5
def c1 : FVec Ideal S1x1x128 .f32 := x.arg5.view.readAt (Elt Ideal) (Rect.unit (s := S1x2x8192) (k0_off4 x.i) S1x1x128.size (k0_off4_inb x.i)).toLoadRect x.X5
def b1 : FVec Ideal S1x1x512 .f32 := x.arg5.view.readAt (Elt Ideal) (Rect.unit (s := S1x2x8192) (k0_off5 x.i k) S1x1x512.size (k0_off5_inb x.i k)).toLoadRect x.X5

/-- The two heads' scores. -/
def σ0 : FVec Ideal S512x512 .f32 := scores (k0_pay18 x.q) (k0_pay3 (x.K k)) x.c0 (x.b0 k)
def σ1 : FVec Ideal S512x512 .f32 := scores (k0_pay19 x.q) (k0_pay3 (x.K k)) x.c1 (x.b1 k)

/-- What trip `k` makes of what is carried. -/
theorem st_succ : x.st (k.val + 1) = (newMax (x.st k.val).1 (x.σ0 k), newAcc low (x.st k.val).1 (x.st k.val).2.1 (x.σ0 k) (k0_pay4 (x.V k)),
    newMax (x.st k.val).2.2.1 (x.σ1 k), newAcc high (x.st k.val).2.2.1 (x.st k.val).2.2.2 (x.σ1 k) (k0_pay4 (x.V k))) := by
  unfold st
  rw [st_k0_t1_succ]
  delta tripR_k0_t1
  unfold trip_k0_t1
  dsimp only
  generalize st_k0_t1 (F := Ideal) x.𝒱 x.c x.bd x.i x.arg2 x.harg2 x.arg3 x.harg3 x.arg4 x.harg4 x.arg5 x.harg5 x.arg6 x.harg6 x.arg7 x.harg7 x.v1 x.q x.X3 x.X4 x.X5 (k0_pay20, k0_pay21, k0_pay20, k0_pay21) k.val = S
  rfl

end Trip

section Last

variable (x : Pt)

/-- The diagonal block's keys, values and running sums. -/
def Km : FVec Ideal S512x128 .bf16 := x.arg3.view.readAt (Elt Ideal) (Rect.unit (s := S8192x128) (k0_off11 x.i) S512x128.size (k0_off11_inb x.i)).toLoadRect x.X3
def Vm : FVec Ideal S512x128 .bf16 := x.arg4.view.readAt (Elt Ideal) (Rect.unit (s := S8192x128) (k0_off11 x.i) S512x128.size (k0_off11_inb x.i)).toLoadRect x.X4
def cm0 : FVec Ideal S1x1x128 .f32 := x.arg5.view.readAt (Elt Ideal) (Rect.unit (s := S1x2x8192) (k0_off12 x.i) S1x1x128.size (k0_off12_inb x.i)).toLoadRect x.X5
def bm0 : FVec Ideal S1x1x512 .f32 := x.arg5.view.readAt (Elt Ideal) (Rect.unit (s := S1x2x8192) (k0_off13 x.i) S1x1x512.size (k0_off13_inb x.i)).toLoadRect x.X5
def cm1 : FVec Ideal S1x1x128 .f32 := x.arg5.view.readAt (Elt Ideal) (Rect.unit (s := S1x2x8192) (k0_off14 x.i) S1x1x128.size (k0_off14_inb x.i)).toLoadRect x.X5
def bm1 : FVec Ideal S1x1x512 .f32 := x.arg5.view.readAt (Elt Ideal) (Rect.unit (s := S1x2x8192) (k0_off15 x.i) S1x1x512.size (k0_off15_inb x.i)).toLoadRect x.X5

def σm0 : FVec Ideal S512x512 .f32 := causal (scores (k0_pay18 x.q) (k0_pay3 x.Km) x.cm0 x.bm0)
def σm1 : FVec Ideal S512x512 .f32 := causal (scores (k0_pay19 x.q) (k0_pay3 x.Km) x.cm1 x.bm1)

/-- What is carried with the diagonal block taken in. -/
def last (s : Acc) : Acc :=
  (newMax s.1 x.σm0, newAcc low s.1 s.2.1 x.σm0 (k0_pay4 x.Vm), newMax s.2.2.1 x.σm1, newAcc high s.2.2.1 s.2.2.2 x.σm1 (k0_pay4 x.Vm))

end Last

/-- What the windows hold. -/
structure Ok (D : Data) (s0 s1 : ℝ) (t : Fin cfg0.N) (x : Pt) : Prop where
  i : x.i = grid0.coords t
  q0 : Queries D (t.val / 16) 0 (512 * (t.val % 16)) (k0_pay18 x.q)
  q1 : Queries D (t.val / 16) 1 (512 * (t.val % 16)) (k0_pay19 x.q)
  k : ∀ (j : Fin 8192) (l : Fin 128), x.arg3.view.read (Elt Ideal) x.X3 (ix2 j l) = ((D.k (2 * (t.val / 16) + l / 64) j (l % 64) : ℝ) : EReal)
  v : ∀ (j : Fin 8192) (l : Fin 128), x.arg4.view.read (Elt Ideal) x.X4 (ix2 j l) = ((D.v (2 * (t.val / 16) + l / 64) j (l % 64) : ℝ) : EReal)
  c : ∀ (b : Fin 2) (j : Fin 8192), x.arg5.view.read (Elt Ideal) x.X5 (ix3 0 b j) = ((D.c (2 * (t.val / 16) + b) j : ℝ) : EReal)
  s0 : Finset.fold max ⊥ (fun a : Fin 128 => x.arg5.view.read (Elt Ideal) x.X5 (ix3 0 0 ⟨512 * (t.val % 16) + a, by omega⟩)) Finset.univ = (s0 : EReal)
  s1 : Finset.fold max ⊥ (fun a : Fin 128 => x.arg5.view.read (Elt Ideal) x.X5 (ix3 0 1 ⟨512 * (t.val % 16) + a, by omega⟩)) Finset.univ = (s1 : EReal)

section Sweep

variable {D : Data} {s0 s1 : ℝ} {t : Fin cfg0.N} {x : Pt}

/-- A stretch of the windows, loaded from block `k0`. -/
theorem block {r0 : ℕ} (H : Ok D s0 s1 t x) {off : Fin 2 → ℕ} (inb : ∀ a : Fin 2, off a + S512x128.size a ≤ S8192x128.size a) (h : off = ![r0, 0]) (hr : r0 + 512 ≤ 8192) :
    Block D (t.val / 16) r0 (k0_pay3 (x.arg3.view.readAt (Elt Ideal) (Rect.unit (s := S8192x128) off S512x128.size inb).toLoadRect x.X3))
      (k0_pay4 (x.arg4.view.readAt (Elt Ideal) (Rect.unit (s := S8192x128) off S512x128.size inb).toLoadRect x.X4)) := by
  rw [pay3_id, pay4_id]
  refine ⟨fun j l => ?_, fun j l => ?_⟩
  · exact (rows_load x.arg3.view x.X3 _ h j l ⟨r0 + j.val, by omega⟩ rfl).trans (H.k _ _)
  · exact (rows_load x.arg4.view x.X4 _ h j l ⟨r0 + j.val, by omega⟩ rfl).trans (H.v _ _)

theorem start {s : ℝ} {h : ℕ} {off : Fin 3 → ℕ} (b : Fin 2) (hb : b.val = h) (inb : ∀ a : Fin 3, off a + S1x1x128.size a ≤ S1x2x8192.size a) (e : off = ![0, h, 512 * (t.val % 16)])
    (hs : Finset.fold max ⊥ (fun a : Fin 128 => x.arg5.view.read (Elt Ideal) x.X5 (ix3 0 b ⟨512 * (t.val % 16) + a, by omega⟩)) Finset.univ = (s : EReal)) :
    Finset.fold max ⊥ (fun a : Fin 128 => x.arg5.view.readAt (Elt Ideal) (Rect.unit (s := S1x2x8192) off S1x1x128.size inb).toLoadRect x.X5 (ix3 0 0 a)) Finset.univ = (s : EReal) := by
  rw [← hs]
  exact congrArg (fun f => Finset.fold max ⊥ f Finset.univ) (funext fun a => sums_load x.arg5.view x.X5 _ e a b hb ⟨512 * (t.val % 16) + a, by omega⟩ rfl)

theorem decays {r0 h : ℕ} (H : Ok D s0 s1 t x) {off : Fin 3 → ℕ} (b : Fin 2) (hb : b.val = h) (inb : ∀ a : Fin 3, off a + S1x1x512.size a ≤ S1x2x8192.size a) (e : off = ![0, h, r0]) (hr : r0 + 512 ≤ 8192) (j : Fin 512) :
    x.arg5.view.readAt (Elt Ideal) (Rect.unit (s := S1x2x8192) off S1x1x512.size inb).toLoadRect x.X5 (ix3 0 0 j) = ((D.c (2 * (t.val / 16) + h) (r0 + j) : ℝ) : EReal) := by
  subst hb
  exact (sums_load x.arg5.view x.X5 _ e j b rfl ⟨r0 + j.val, by omega⟩ rfl).trans (H.c _ _)

/-- What both heads carry before trip `n`. -/
structure Inv (D : Data) (s0 s1 : ℝ) (t : Fin cfg0.N) (n : ℕ) (s : Acc) : Prop where
  h0 : Carry D (t.val / 16) 0 (512 * (t.val % 16)) s0 n s.1 s.2.1
  h1 : Carry D (t.val / 16) 1 (512 * (t.val % 16)) s1 n s.2.2.1 s.2.2.2

theorem carry_zero (p hh r0 : ℕ) (s : ℝ) : Carry D p hh r0 s 0 (k0_pay20 (F := Ideal)) (k0_pay21 (F := Ideal)) := by
  refine fun a l => Or.inl ⟨?_, ?_, by rw [total, Finset.sum_range_zero]⟩
  · pointwise [k0_pay20]
    exact ofBits_neg_inf
  · pointwise [k0_pay21]

theorem at1 (H : Ok D s0 s1 t x) (k : Fin (k0_t1_loop x.i).trips) : k0_off1 x.i k = ![512 * k.val, 0] ∧ k0_off3 x.i k = ![0, 0, 512 * k.val] ∧ k0_off5 x.i k = ![0, 1, 512 * k.val] := by
  obtain ⟨hi, -⟩ := H
  obtain ⟨𝒱, c, bd, i, a2, ha2, a3, ha3, a4, ha4, a5, ha5, a6, ha6, a7, ha7, v1, q, X3, X4, X5⟩ := x
  dsimp only at hi k
  subst hi
  exact off1 t k

theorem at2 (H : Ok D s0 s1 t x) : k0_off2 x.i = ![0, 0, 512 * (t.val % 16)] ∧ k0_off4 x.i = ![0, 1, 512 * (t.val % 16)]
    ∧ k0_off11 x.i = ![512 * (t.val % 16), 0] ∧ k0_off12 x.i = ![0, 0, 512 * (t.val % 16)] ∧ k0_off13 x.i = ![0, 0, 512 * (t.val % 16)]
    ∧ k0_off14 x.i = ![0, 1, 512 * (t.val % 16)] ∧ k0_off15 x.i = ![0, 1, 512 * (t.val % 16)] := by
  rw [H.i]
  exact off2 t

theorem inv_succ (H : Ok D s0 s1 t x) (k : Fin (k0_t1_loop x.i).trips) (hk : k.val < t.val % 16) (I : Inv D s0 s1 t (512 * k.val) (x.st k.val)) :
    Inv D s0 s1 t (512 * (k.val + 1)) (x.st (k.val + 1)) := by
  obtain ⟨e1, e3, e5⟩ := at1 H k
  obtain ⟨e2, e4, -⟩ := at2 H
  have B := block H (k0_off1_inb x.i k) e1 (by omega)
  rw [st_succ, mul_add, mul_one]
  refine ⟨Full.carry ?_, Full.carry ?_⟩
  · exact stepBelow (by omega) low_apply H.q0 B ⟨start 0 rfl (k0_off2_inb x.i) e2 H.s0, decays H 0 rfl (k0_off3_inb x.i k) e3 (by omega)⟩ (by omega) I.h0
  · exact stepBelow (by omega) high_apply H.q1 B ⟨start 1 rfl (k0_off4_inb x.i) e4 H.s1, decays H 1 rfl (k0_off5_inb x.i k) e5 (by omega)⟩ (by omega) I.h1

theorem inv (H : Ok D s0 s1 t x) : ∀ n, n ≤ t.val % 16 → Inv D s0 s1 t (512 * n) (x.st n)
  | 0, _ => ⟨carry_zero _ _ _ _, carry_zero _ _ _ _⟩
  | n + 1, h => inv_succ H ⟨n, by rw [H.i, trips]; omega⟩ (by simp only; omega) (inv H n (by omega))

/-- What the point ends with. -/
def fin (x : Pt) : Acc := x.last (x.two (x.st (k0_t1_loop x.i).trips))

theorem done (H : Ok D s0 s1 t x) : Full D (t.val / 16) 0 (512 * (t.val % 16)) s0 (512 * (t.val % 16) + 512) x.fin.1 x.fin.2.1
    ∧ Full D (t.val / 16) 1 (512 * (t.val % 16)) s1 (512 * (t.val % 16) + 512) x.fin.2.2.1 x.fin.2.2.2 := by
  have I := inv H (t.val % 16) le_rfl
  obtain ⟨-, -, e11, e12, e13, e14, e15⟩ := at2 H
  have B := block H (k0_off11_inb x.i) e11 (by omega)
  unfold fin
  rw [two_eq x t H.i, (congrArg (fun i => (k0_t1_loop i).trips) H.i).trans (trips t)]
  refine ⟨?_, ?_⟩
  · exact stepDiag (by omega) low_apply H.q0 B ⟨start 0 rfl (k0_off12_inb x.i) e12 H.s0, decays H 0 rfl (k0_off13_inb x.i) e13 (by omega)⟩ I.h0
  · exact stepDiag (by omega) high_apply H.q1 B ⟨start 1 rfl (k0_off14_inb x.i) e14 H.s1, decays H 1 rfl (k0_off15_inb x.i) e15 (by omega)⟩ I.h1

end Sweep

end Pt

/-- A grid point's sweep, over windows that hold `x0 … x3`. -/
def pt (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole)
    (arg5 : Memref sig .tc .vmem S1x2x8192 .f32) (harg5 : arg5.IsWhole) (arg6 : Memref sig .tc .vmem S512x128 .bf16) (harg6 : arg6.IsWhole) (arg7 : Memref sig .tc .vmem S2x512x128 .f32) (harg7 : arg7.IsWhole)
    (x0 : Vec Ideal S512x128 .bf16) (x1 : Vec Ideal S8192x128 .bf16) (x2 : Vec Ideal S8192x128 .bf16) (x3 : Vec Ideal S1x2x8192 .f32) : Pt where
  𝒱 := Variants.none
  c := c
  bd := none
  i := i
  arg2 := arg2
  harg2 := harg2
  arg3 := arg3
  harg3 := harg3
  arg4 := arg4
  harg4 := harg4
  arg5 := arg5
  harg5 := harg5
  arg6 := arg6
  harg6 := harg6
  arg7 := arg7
  harg7 := harg7
  v1 := Scalar.muli (BitVec.ofNat 32 (i 1).val) 512#32
  q := arg2.view.readAt (Elt Ideal) (Rect.unit ![0, 0] S512x128.size inb_S512x128_S512x128_0_0).toLoadRect (harg2.unread x0)
  X3 := harg3.unread x1
  X4 := harg4.unread x2
  X5 := harg5.unread x3

set_option maxHeartbeats 1000000 in
/-- What a grid point stores: the heads' outputs side by side, and each head's log-sums. -/
theorem run (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole)
    (arg5 : Memref sig .tc .vmem S1x2x8192 .f32) (harg5 : arg5.IsWhole) (arg6 : Memref sig .tc .vmem S512x128 .bf16) (harg6 : arg6.IsWhole) (arg7 : Memref sig .tc .vmem S2x512x128 .f32) (harg7 : arg7.IsWhole)
    (x0 : Vec Ideal S512x128 .bf16) (x1 : Vec Ideal S8192x128 .bf16) (x2 : Vec Ideal S8192x128 .bf16) (x3 : Vec Ideal S1x2x8192 .f32) :
    let s := (pt c i arg2 harg2 arg3 harg3 arg4 harg4 arg5 harg5 arg6 harg6 arg7 harg7 x0 x1 x2 x3).fin
    (kernelRun0_A c i arg2 harg2 arg3 harg3 arg4 harg4 arg5 harg5 arg6 harg6 arg7 harg7 x0 x1 x2 x3).1
        = [⟨Rect.unit ![0, 0] S512x128.size inb_S512x128_S512x128_0_0, k0_pay2 (divf s.2.1 (turned s.2.1)) (divf s.2.2.2 (turned s.2.2.2))⟩]
      ∧ (kernelRun0_A c i arg2 harg2 arg3 harg3 arg4 harg4 arg5 harg5 arg6 harg6 arg7 harg7 x0 x1 x2 x3).2.1
        = [⟨Rect.unit (s := S2x512x128) ![1, 0, 0] S1x512x128.size inb_S2x512x128_S1x512x128_1_0_0, k0_pay1 (logs high s.2.2.1 s.2.2.2)⟩,
           ⟨Rect.unit (s := S2x512x128) ![0, 0, 0] S1x512x128.size inb_S2x512x128_S1x512x128_0_0_0, k0_pay1 (logs low s.1 s.2.1)⟩] := by
  intro s
  refine ⟨?_, ?_⟩
  all_goals
    sl_kernel_rfl

end Cert.FoxFwdIdeal.Att

end
-- ==== Proof.FoxFwdRef.lean ====
/-
  The forward reference's two results: the attention, and each row's logarithm with its query block's start in place of the
  query's own decay. Its scores, masks and maxima are the backward reference's.
-/
module

public import proofs.«01_k».proof.Proof.FoxFwdMath
public import proofs.«01_k».proof.Proof.FoxRef
public import proofs.«01_k».proof.Proof.Gen.FoxFwdRefIdeal.Read

@[expose] public section

set_option maxRecDepth 16384

noncomputable section

namespace Cert.Fox.Fwd

open Idealize.ShloMosaic Cert.Reals
open Cert.FoxFwdRefIdeal Cert.FoxFwdRefIdeal.Gen Cert.FoxFwdRefIdeal.Read

variable {D : Data} {x0 x1 x2 : FVec Ideal S1x8192x8x64 .f32} {x3 : FVec Ideal S1x8192x8 .f32} {x4 : FVec Ideal Cert.FoxBwdRefIdeal.S1x8192x512 .f32}

/-- The running sums and the masked scores are the backward reference's. -/
theorem cum_eq : val_main_v2 (F := Ideal) x3 = Cert.FoxBwdRefIdeal.Read.val_main_v2 (F := Ideal) x3 := rfl

theorem scores_eq : val_main_v18 (F := Ideal) x0 x1 x3 = Cert.FoxBwdRefIdeal.Read.val_main_v18_0 (F := Ideal) x0 x1 x3 := rfl

theorem top_eq : val_main_v33 (F := Ideal) x0 x1 x3 = Cert.FoxBwdRefIdeal.Read.val_main_v19 (F := Ideal) x0 x1 x3 := rfl

theorem weight_eq : val_main_v29 (F := Ideal) x0 x1 x3 = Cert.FoxBwdRefIdeal.Read.val_main_v43 (F := Ideal) x0 x1 x3 := rfl

theorem att_apply (i : Fin 8192) (l : Fin 512) :
    val_main_v49 (F := Ideal) x0 x1 x2 x3 (ix2 i l) = ∑ j : Fin 8192, x2 (ix4 0 j ⟨l / 64, by omega⟩ ⟨l % 64, by omega⟩)
      * val_main_v29 (F := Ideal) x0 x1 x3 (ix4 0 ⟨l / 64, by omega⟩ i j) := by
  generalize hw : val_main_v29 (F := Ideal) x0 x1 x3 = w
  pointwise [val_main_v49, val_main_v32, val_main_v31, val_main_v30]
  rw [hw]

theorem att_ref (H : Holds D x0 x1 x2 x3 x4) (i : Fin 8192) (l : Fin 512) :
    val_main_v49 (F := Ideal) x0 x1 x2 x3 (ix2 i l) = ((att D (l / 64) i (l % 64) : ℝ) : EReal) := by
  rw [att_apply, weight_eq]
  simp only [weight H, H.v, ← EReal.coe_mul, ← coe_sum]
  exact congrArg (fun r : ℝ => (r : EReal)) (Finset.sum_congr rfl fun x _ => mul_comm _ _)

theorem sum_ref (H : Holds D x0 x1 x2 x3 x4) (h : Fin 8) (i : Fin 8192) {M : ℝ}
    (hM : val_main_v33 (F := Ideal) x0 x1 x3 (ix3 0 h i) = (M : EReal)) :
    val_main_v38 (F := Ideal) x0 x1 x3 (ix3 0 h i) = ((tot D h i * Real.exp (-M) : ℝ) : EReal) := by
  have e : ∀ j, val_main_v37 (F := Ideal) x0 x1 x3 (ix4 0 h i j) = ((E D M h i j : ℝ) : EReal) := by
    intro j
    pointwise [val_main_v37, val_main_v36, val_main_v35, val_main_v34]
    rw [scores_eq, masked H, hM, E_eq]
    split
    · rw [← EReal.coe_sub, Ideal.exp_coe]
    · rw [EReal.bot_sub, EReal.coe_zero]; exact Ideal.exp_bot
  pointwise [val_main_v38, val_main_cst_5]
  simp only [e, ← coe_sum, sum_E]

/-- A block's start. -/
theorem start_apply (h : Fin 8) (b : Fin 16) :
    val_main_v45 (F := Ideal) x3 (ix2 h b) = Finset.fold max ⊥ (fun a : Fin 128 => Cert.FoxBwdRefIdeal.Read.val_main_v2 (F := Ideal) x3 (ix3 0 h ⟨512 * b + a, by omega⟩)) Finset.univ := by
  rw [← cum_eq]
  generalize hc : val_main_v2 (F := Ideal) x3 = cm
  pointwise [val_main_v45, val_main_v44, val_main_v43, val_main_cst_6]
  rw [ofBits_neg_inf, hc]
  simp only [Nat.mul_comm 512]

theorem lse_apply (h : Fin 8) (i : Fin 8192) (l : Fin 128) :
    val_main_v51 (F := Ideal) x0 x1 x3 (ix3 h i l) = val_main_v33 (F := Ideal) x0 x1 x3 (ix3 0 h i) + Ideal.log (val_main_v38 (F := Ideal) x0 x1 x3 (ix3 0 h i))
      - val_main_v2 (F := Ideal) x3 (ix3 0 h i) + val_main_v45 (F := Ideal) x3 (ix2 h ⟨i / 512, by omega⟩) := by
  have e51 : idx_main_v51 (ix3 h i l) = ix3 h i 0 := by idx_ext
  have e50 : idx_main_v50 (ix3 h i 0) = ix3 h ⟨i / 512, by omega⟩ ⟨i % 512, by omega⟩ := by idx_ext
  have e42 : idx_main_v42 (ix3 h (⟨i / 512, by omega⟩ : Fin 16) (⟨i % 512, by omega⟩ : Fin 512)) = ix3 0 h i := by idx_ext
  have e47 : idx_main_v47 (ix3 h (⟨i / 512, by omega⟩ : Fin 16) (⟨i % 512, by omega⟩ : Fin 512)) = ix3 h ⟨i / 512, by omega⟩ 0 := by idx_ext
  have e46 : idx_main_v46 (ix3 h (⟨i / 512, by omega⟩ : Fin 16) 0) = ix2 h ⟨i / 512, by omega⟩ := by idx_ext
  rw [val_main_v51_apply, e51, val_main_v50_apply, e50, val_main_v48_apply, val_main_v42_apply, e42, val_main_v47_apply, e47,
    val_main_v46_apply, e46, val_main_v41_apply, val_main_v40_apply, val_main_v39_apply]
  rfl

theorem cum_apply (H : Holds D x0 x1 x2 x3 x4) (h : Fin 8) (i : Fin 8192) : val_main_v2 (F := Ideal) x3 (ix3 0 h i) = ((D.c h i : ℝ) : EReal) :=
  (congrFun cum_eq _).trans (H.c h i)

theorem lse_ref (H : Holds D x0 x1 x2 x3 x4) (h : Fin 8) (i : Fin 8192) (l : Fin 128) {s : ℝ}
    (hs : val_main_v45 (F := Ideal) x3 (ix2 h ⟨i / 512, by omega⟩) = (s : EReal)) :
    val_main_v51 (F := Ideal) x0 x1 x3 (ix3 h i l) = ((lseb D s h i : ℝ) : EReal) := by
  obtain ⟨M, hM⟩ : ∃ M : ℝ, val_main_v33 (F := Ideal) x0 x1 x3 (ix3 0 h i) = (M : EReal) := by
    rw [top_eq]; exact top0 H h i
  rw [lse_apply, hs, hM, sum_ref H h i hM, cum_apply H, Ideal.log_coe, if_neg (not_le.2 (mul_pos (tot_pos D h i) (Real.exp_pos _))),
    ← EReal.coe_add, ← EReal.coe_sub, ← EReal.coe_add, Real.log_mul (tot_ne D h i) (Real.exp_pos _).ne', Real.log_exp, lseb]
  exact congrArg (fun r : ℝ => (r : EReal)) (by generalize Real.log _ = a; ring)

end Cert.Fox.Fwd

end
-- ==== Proof.FoxFwdValue.lean ====
/-
  The arrays the forward attention leaves. Grid point `t` works on the pair of heads `t / 16` and on the block `t % 16` of 512
  queries, beside the pair's whole keys, values and running sums; each point writes its own queries' rows.
-/
module

public import proofs.«01_k».proof.Proof.FoxFwdPoint
public import proofs.«01_k».proof.Proof.FoxFwdRef
public import proofs.«01_k».proof.Proof.FoxWindow
public import proofs.«01_k».proof.Proof.Gen.FoxFwdIdeal.Value

@[expose] public section

set_option maxRecDepth 16384

noncomputable section

namespace Cert.FoxFwdIdeal.Att

open Cert.FoxFwdIdeal Cert.FoxFwdIdeal.Gen Idealize.ShloMosaic Idealize.ShloMosaic.TcCoe Idealize.SL.Sem
open Idealize.ShloMosaic.Pipeline (Dat)
open Cert.Reals Cert.Fox
open Cert.FoxBwdIdeal.Grad (qkv qkv_q qkv_k qkv_v starts starts_real starts_fold)
open Cert.FoxFwdRefIdeal.Read (val_main_v45 val_main_v49 val_main_v51)
open Cert.FoxBwdRefIdeal.Read (val_main_v2)

variable (m : (ℓ : Loc nD τ sig) → Buf (Elt Ideal) ℓ)

/-- The launch's arguments, at their array types. -/
abbrev A0 (c : Dev nD) : FVec Ideal S1x8192x8x64 .f32 := m ((c : Thread nD τ).loc main_arg0)
abbrev A1 (c : Dev nD) : FVec Ideal S1x8192x8x64 .f32 := m ((c : Thread nD τ).loc main_arg1)
abbrev A2 (c : Dev nD) : FVec Ideal S1x8192x8x64 .f32 := m ((c : Thread nD τ).loc main_arg2)
abbrev A3 (c : Dev nD) : FVec Ideal S1x8192x8 .f32 := m ((c : Thread nD τ).loc main_arg3)

/-- The queries, keys and values side by side, as the launch is given them, -/
theorem V4 (c : Dev nD) : V m c main_v4 = qkv (A0 m c) (A1 m c) (A2 m c) := by
  simp only [V, hostOps0, hostOps0_1, hostOps0_2, hostOps0_3, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

/-- and the running sums, a pair of heads a row. -/
theorem V8 (c : Dev nD) : V m c main_v8 = shapeCast S4x2x8192 (val_main_v2 (F := Ideal) (A3 m c)) shapeCasts_S1x8x8192_S4x2x8192 := by
  simp only [V, hostOps0, hostOps0_1, hostOps0_2, hostOps0_3, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

theorem idx : ∀ t : Fin cfg0.N, win0_0.index t = ![t.val % 16, t.val / 16] ∧ win0_1.index t = ![0, 4 + t.val / 16]
    ∧ win0_2.index t = ![0, 8 + t.val / 16] ∧ win0_3.index t = ![t.val / 16, 0, 0] ∧ win0_4.index t = ![t.val % 16, t.val / 16]
    ∧ win0_5.index t = ![t.val / 16, t.val % 16, 0] :=
  (by decide +kernel : ∀ t : Fin grid0.N, _)

theorem lt64 (t : Fin cfg0.N) : t.val < 64 := t.isLt

theorem win0 (X : FVec Ideal S8192x1536 .bf16) (t : Fin cfg0.N) (a : Fin 512) (l : Fin 128) :
    ((cfg0.win 0).blk t).view.read (Elt Ideal) X (ix2 a l) = X (ix2 ⟨t.val % 16 * 512 + a, by omega⟩ ⟨t.val / 16 * 128 + l, by have := lt64 t; omega⟩) := by
  blk_ext [idx t]

theorem win1 (X : FVec Ideal S8192x1536 .bf16) (t : Fin cfg0.N) (j : Fin 8192) (l : Fin 128) :
    ((cfg0.win 1).blk t).view.read (Elt Ideal) X (ix2 j l) = X (ix2 j ⟨(4 + t.val / 16) * 128 + l, by have := lt64 t; omega⟩) := by
  blk_ext [idx t]

theorem win2 (X : FVec Ideal S8192x1536 .bf16) (t : Fin cfg0.N) (j : Fin 8192) (l : Fin 128) :
    ((cfg0.win 2).blk t).view.read (Elt Ideal) X (ix2 j l) = X (ix2 j ⟨(8 + t.val / 16) * 128 + l, by have := lt64 t; omega⟩) := by
  blk_ext [idx t]

theorem win3 (X : FVec Ideal S4x2x8192 .f32) (t : Fin cfg0.N) (b : Fin 2) (j : Fin 8192) :
    ((cfg0.win 3).blk t).view.read (Elt Ideal) X (ix3 0 b j) = X (ix3 ⟨t.val / 16, by have := lt64 t; omega⟩ b j) := by
  blk_ext [idx t]

/-- A whole window, loaded. -/
theorem load_all {e : EltTy} (w : Memref sig .tc .vmem S512x128 e) (h : w.IsWhole) (X : Vec Ideal S512x128 e) (a : Fin 512) (l : Fin 128) :
    w.view.readAt (Elt Ideal) (Rect.unit ![0, 0] S512x128.size inb_S512x128_S512x128_0_0).toLoadRect (h.unread X) (ix2 a l) = X (ix2 a l) := by
  refine (congrArg (w.view.read (Elt Ideal) (h.unread X)) ?_).trans (congrFun (h.read_unread X) (ix2 a l))
  idx_ext

section Queries

variable {D : Data} {p r0 : ℕ} {q : FVec Ideal S512x128 .bf16}
  (hq : ∀ (a : Fin 512) (l : Fin 128), q (ix2 a l) = ((D.q (2 * p + l / 64) (r0 + a) (l % 64) : ℝ) : EReal))

include hq

/-- The first head's queries, scaled, with zeros on the second's lanes, -/
theorem queries0 : Queries D p 0 r0 (k0_pay18 (F := Ideal) q) := by
  intro a l
  show (Scalar.select (low (ix2 a l)) (k0_pay17 (F := Ideal) q (ix2 a l) : EReal) _ : EReal) * _ = _
  rw [low_apply, select_ite]
  pointwise [k0_pay17]
  rw [ofBits_eighth16]
  split
  case isTrue h =>
    rw [hq, h, ← EReal.coe_mul]
    rfl
  case isFalse h =>
    simp

/-- and the second's. -/
theorem queries1 : Queries D p 1 r0 (k0_pay19 (F := Ideal) q) := by
  intro a l
  show (Scalar.select (high (ix2 a l)) (k0_pay17 (F := Ideal) q (ix2 a l) : EReal) _ : EReal) * _ = _
  rw [high_apply, select_ite]
  pointwise [k0_pay17]
  rw [ofBits_eighth16]
  split
  case isTrue h =>
    rw [hq, h, ← EReal.coe_mul]
  case isFalse h =>
    simp

end Queries

section Stores

variable {D : Data} {p r0 : ℕ} {s0 s1 : ℝ} {m0 m1 : FVec Ideal S512x1 .f32} {acc0 acc1 : FVec Ideal S512x128 .f32}
  (C0 : Full D p 0 r0 s0 (r0 + 512) m0 acc0) (C1 : Full D p 1 r0 s1 (r0 + 512) m1 acc1) (hr : r0 + 512 ≤ 8192)

include C0 C1 hr

/-- The outputs' window: each lane holds its own head's output. -/
theorem store4 (a : Fin 512) (l : Fin 128) :
    VO0_4.read (Elt Ideal) (VO0_4.writes (Elt Ideal) VO0_4.junk [⟨Rect.unit ![0, 0] S512x128.size inb_S512x128_S512x128_0_0, k0_pay2 (F := Ideal) (divf acc0 (turned acc0)) (divf acc1 (turned acc1))⟩]) (ix2 a l)
      = ((att D (2 * p + l / 64) (r0 + a) (l % 64) : ℝ) : EReal) := by
  refine (View.read_writes_cons_rows_of_mem VO0_4 VO0_4.junk _ _ [] (ix2 a l) (ix2 a l) rfl (by simp) rfl).trans ?_
  have h0 := out le_rfl hr (by omega) C0 a l
  have h1 := out le_rfl hr (by omega) C1 a l
  generalize divf acc0 (turned acc0) = x at h0 ⊢
  generalize divf acc1 (turned acc1) = y at h1 ⊢
  show Scalar.select (low (ix2 a l)) (x (ix2 a l)) (y (ix2 a l)) = _
  rw [low_apply, select_ite]
  split
  case isTrue h =>
    rw [h0 h, h]
  case isFalse h =>
    have h' : l.val / 64 = 1 := by omega
    rw [h1 h', h']

theorem pay1_apply (x : FVec Ideal S512x128 .f32) (a : Fin 512) (l : Fin 128) : k0_pay1 (F := Ideal) x (ix3 0 a l) = x (ix2 a l) := by
  pointwise [k0_pay1]

/-- The log-sums' window: a head's in each of its two sheets. -/
theorem store5 (b : Fin 2) (a : Fin 512) (l : Fin 128) :
    VO0_5.read (Elt Ideal) (VO0_5.writes (Elt Ideal) VO0_5.junk [⟨Rect.unit (s := S2x512x128) ![1, 0, 0] S1x512x128.size inb_S2x512x128_S1x512x128_1_0_0, k0_pay1 (F := Ideal) (logs high m1 acc1)⟩,
           ⟨Rect.unit (s := S2x512x128) ![0, 0, 0] S1x512x128.size inb_S2x512x128_S1x512x128_0_0_0, k0_pay1 (F := Ideal) (logs low m0 acc0)⟩]) (ix3 b a l)
      = ((lseb D (if b = 0 then s0 else s1) (2 * p + b) (r0 + a) : ℝ) : EReal) := by
  fin_cases b
  · refine (View.read_writes_cons_unit_of_not_mem VO0_5 VO0_5.junk _ _ _ (ix3 0 a l) rfl 0 (Or.inl Nat.one_pos)).trans ?_
    refine (View.read_writes_cons_unit_of_mem VO0_5 VO0_5.junk _ _ [] (ix3 0 a l) (ix3 0 a l) rfl (fun i => by fin_cases i <;> simp)).trans ?_
    exact (pay1_apply C0 C1 hr _ a l).trans (logsum le_rfl hr (by omega) low_apply C0 a l)
  · refine (View.read_writes_cons_unit_of_mem VO0_5 VO0_5.junk _ _ _ (ix3 1 a l) (ix3 0 a l) rfl (fun i => by fin_cases i <;> simp)).trans ?_
    exact (pay1_apply C0 C1 hr _ a l).trans (logsum le_rfl hr (by omega) high_apply C1 a l)

end Stores

section Points

variable {D : Data} {s0 s1 : ℝ} {t : Fin cfg0.N} (c : Dev nD) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole)
  (arg5 : Memref sig .tc .vmem S1x2x8192 .f32) (harg5 : arg5.IsWhole) (arg6 : Memref sig .tc .vmem S512x128 .bf16) (harg6 : arg6.IsWhole) (arg7 : Memref sig .tc .vmem S2x512x128 .f32) (harg7 : arg7.IsWhole)
  (x0 : Vec Ideal S512x128 .bf16) (x1 : Vec Ideal S8192x128 .bf16) (x2 : Vec Ideal S8192x128 .bf16) (x3 : Vec Ideal S1x2x8192 .f32)
  (H : Pt.Ok D s0 s1 t (pt c (grid0.coords t) arg2 harg2 arg3 harg3 arg4 harg4 arg5 harg5 arg6 harg6 arg7 harg7 x0 x1 x2 x3))

include H

/-- A point's outputs, -/
theorem point4 (a : Fin 512) (l : Fin 128) :
    out0_A_4 c (grid0.coords t) arg2 harg2 arg3 harg3 arg4 harg4 arg5 harg5 arg6 harg6 arg7 harg7 x0 x1 x2 x3 (ix2 a l) = ((att D (2 * (t.val / 16) + l / 64) (512 * (t.val % 16) + a) (l % 64) : ℝ) : EReal) := by
  refine (congrArg (fun L => VO0_4.read (Elt Ideal) (VO0_4.writes (Elt Ideal) VO0_4.junk L) (ix2 a l)) (run c (grid0.coords t) arg2 harg2 arg3 harg3 arg4 harg4 arg5 harg5 arg6 harg6 arg7 harg7 x0 x1 x2 x3).1).trans ?_
  obtain ⟨C0, C1⟩ := Pt.done H
  exact store4 C0 C1 (by omega) a l

/-- and its log-sums. -/
theorem point5 (b : Fin 2) (a : Fin 512) (l : Fin 128) :
    out0_A_5 c (grid0.coords t) arg2 harg2 arg3 harg3 arg4 harg4 arg5 harg5 arg6 harg6 arg7 harg7 x0 x1 x2 x3 (ix3 b a l) = ((lseb D (if b = 0 then s0 else s1) (2 * (t.val / 16) + b) (512 * (t.val % 16) + a) : ℝ) : EReal) := by
  refine (congrArg (fun L => VO0_5.read (Elt Ideal) (VO0_5.writes (Elt Ideal) VO0_5.junk L) (ix3 b a l)) (run c (grid0.coords t) arg2 harg2 arg3 harg3 arg4 harg4 arg5 harg5 arg6 harg6 arg7 harg7 x0 x1 x2 x3).2).trans ?_
  obtain ⟨C0, C1⟩ := Pt.done H
  exact store5 C0 C1 (by omega) b a l

end Points

section Arrays

variable {m : (ℓ : Loc nD τ sig) → Buf (Elt Ideal) ℓ} {D : Data} {c : Dev nD} {x4 : FVec Ideal Cert.FoxBwdRefIdeal.S1x8192x512 .f32}
  (H : Holds D (A0 m c) (A1 m c) (A2 m c) (A3 m c) x4)

include H

theorem blk0 (t : Fin cfg0.N) (a : Fin 512) (l : Fin 128) : iblk m c 0 t (ix2 a l) = ((D.q (2 * (t.val / 16) + l / 64) (512 * (t.val % 16) + a) (l % 64) : ℝ) : EReal) := by
  have := lt64 t
  have e : iblk m c 0 t = ((cfg0.win 0).blk t).view.read (Elt Ideal) (qkv (A0 m c) (A1 m c) (A2 m c)) := congrArg (((cfg0.win 0).blk t).view.read (Elt Ideal)) (V4 m c)
  rw [e, win0, qkv_q H _ _ (show t.val / 16 * 128 + l.val < 512 by omega)]
  simp only [show (t.val / 16 * 128 + l.val) / 64 = 2 * (t.val / 16) + l / 64 by omega, show (t.val / 16 * 128 + l.val) % 64 = l % 64 by omega, Nat.mul_comm]

theorem blk1 (t : Fin cfg0.N) (j : Fin 8192) (l : Fin 128) : iblk m c 1 t (ix2 j l) = ((D.k (2 * (t.val / 16) + l / 64) j (l % 64) : ℝ) : EReal) := by
  have := lt64 t
  have e : iblk m c 1 t = ((cfg0.win 1).blk t).view.read (Elt Ideal) (qkv (A0 m c) (A1 m c) (A2 m c)) := congrArg (((cfg0.win 1).blk t).view.read (Elt Ideal)) (V4 m c)
  rw [e, win1, qkv_k H j ⟨t.val / 16 * 128 + l.val, by omega⟩ _ (show (4 + t.val / 16) * 128 + l.val = 512 + (t.val / 16 * 128 + l.val) by omega)]
  simp only [show (t.val / 16 * 128 + l.val) / 64 = 2 * (t.val / 16) + l / 64 by omega, show (t.val / 16 * 128 + l.val) % 64 = l % 64 by omega]

theorem blk2 (t : Fin cfg0.N) (j : Fin 8192) (l : Fin 128) : iblk m c 2 t (ix2 j l) = ((D.v (2 * (t.val / 16) + l / 64) j (l % 64) : ℝ) : EReal) := by
  have := lt64 t
  have e : iblk m c 2 t = ((cfg0.win 2).blk t).view.read (Elt Ideal) (qkv (A0 m c) (A1 m c) (A2 m c)) := congrArg (((cfg0.win 2).blk t).view.read (Elt Ideal)) (V4 m c)
  rw [e, win2, qkv_v H j ⟨t.val / 16 * 128 + l.val, by omega⟩ _ (show (8 + t.val / 16) * 128 + l.val = 1024 + (t.val / 16 * 128 + l.val) by omega)]
  simp only [show (t.val / 16 * 128 + l.val) / 64 = 2 * (t.val / 16) + l / 64 by omega, show (t.val / 16 * 128 + l.val) % 64 = l % 64 by omega]

theorem blk3_cum (t : Fin cfg0.N) (b : Fin 2) (j : Fin 8192) : iblk m c 3 t (ix3 0 b j) = val_main_v2 (F := Ideal) (A3 m c) (ix3 0 ⟨2 * (t.val / 16) + b, by have := lt64 t; omega⟩ j) := by
  have e : iblk m c 3 t = ((cfg0.win 3).blk t).view.read (Elt Ideal) (shapeCast S4x2x8192 (val_main_v2 (F := Ideal) (A3 m c)) shapeCasts_S1x8x8192_S4x2x8192) := congrArg (((cfg0.win 3).blk t).view.read (Elt Ideal)) (V8 m c)
  rw [e, win3]
  exact Cert.FoxBwdIdeal.Grad.pair_apply _ _ b j

theorem blk3 (t : Fin cfg0.N) (b : Fin 2) (j : Fin 8192) : iblk m c 3 t (ix3 0 b j) = ((D.c (2 * (t.val / 16) + b) j : ℝ) : EReal) := by
  rw [blk3_cum H, H.c]

/-- A point's windows hold what its sweep needs. -/
theorem ok (t : Fin cfg0.N) {s0 s1 : ℝ}
    (h0 : starts (A3 m c) (ix2 ⟨2 * (t.val / 16) + (0 : Fin 2), by have := lt64 t; omega⟩ ⟨t.val % 16, by omega⟩) = (s0 : EReal))
    (h1 : starts (A3 m c) (ix2 ⟨2 * (t.val / 16) + (1 : Fin 2), by have := lt64 t; omega⟩ ⟨t.val % 16, by omega⟩) = (s1 : EReal)) :
    Pt.Ok D s0 s1 t (pt c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)) := by
  have hq := fun a l => (load_all (ms0_0 t) (hs0_0 t) (iblk m c 0 t) a l).trans (blk0 H t a l)
  refine ⟨rfl, queries0 hq, queries1 hq, fun j l => ?_, fun j l => ?_, fun b j => ?_, ?_, ?_⟩
  · exact (congrFun ((hs0_1 t).read_unread (iblk m c 1 t)) (ix2 j l)).trans (blk1 H t j l)
  · exact (congrFun ((hs0_2 t).read_unread (iblk m c 2 t)) (ix2 j l)).trans (blk2 H t j l)
  · exact (congrFun ((hs0_3 t).read_unread (iblk m c 3 t)) (ix3 0 b j)).trans (blk3 H t b j)
  · rw [← h0, starts_fold]
    exact congrArg (fun f => Finset.fold max ⊥ f Finset.univ) (funext fun a => (congrFun ((hs0_3 t).read_unread (iblk m c 3 t)) _).trans (blk3_cum H t 0 _))
  · rw [← h1, starts_fold]
    exact congrArg (fun f => Finset.fold max ⊥ f Finset.univ) (funext fun a => (congrFun ((hs0_3 t).read_unread (iblk m c 3 t)) _).trans (blk3_cum H t 1 _))

/-- Each point leaves its queries' outputs -/
theorem left4 (t : Fin cfg0.N) (a : Fin 512) (l : Fin 128) :
    (outsAt0 m c t).1 (ix2 a l) = ((att D (2 * (t.val / 16) + l / 64) (512 * (t.val % 16) + a) (l % 64) : ℝ) : EReal) := by
  obtain ⟨s0, h0⟩ := starts_real H ⟨2 * (t.val / 16) + (0 : Fin 2), by have := lt64 t; omega⟩ ⟨t.val % 16, by omega⟩
  obtain ⟨s1, h1⟩ := starts_real H ⟨2 * (t.val / 16) + (1 : Fin 2), by have := lt64 t; omega⟩ ⟨t.val % 16, by omega⟩
  unfold outsAt0
  dsimp only
  exact point4 c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (ok H t h0 h1) a l

/-- and their log-sums. -/
theorem left5 (t : Fin cfg0.N) (b : Fin 2) (a : Fin 512) (l : Fin 128) {s : ℝ}
    (hs : starts (A3 m c) (ix2 ⟨2 * (t.val / 16) + b, by have := lt64 t; omega⟩ ⟨t.val % 16, by omega⟩) = (s : EReal)) :
    (outsAt0 m c t).2 (ix3 b a l) = ((lseb D s (2 * (t.val / 16) + b) (512 * (t.val % 16) + a) : ℝ) : EReal) := by
  obtain ⟨s0, h0⟩ := starts_real H ⟨2 * (t.val / 16) + (0 : Fin 2), by have := lt64 t; omega⟩ ⟨t.val % 16, by omega⟩
  obtain ⟨s1, h1⟩ := starts_real H ⟨2 * (t.val / 16) + (1 : Fin 2), by have := lt64 t; omega⟩ ⟨t.val % 16, by omega⟩
  have e : s = if b = 0 then s0 else s1 := by
    fin_cases b
    · exact EReal.coe_injective (hs.symm.trans h0)
    · exact EReal.coe_injective (hs.symm.trans h1)
  rw [e]
  unfold outsAt0
  dsimp only
  exact point5 c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (ok H t h0 h1) b a l

/-- The outputs are the reference's. -/
theorem final4 : (dats m 0 c).arrAt 4 (cfgs 0).N = val_main_v49 (F := Ideal) (A0 m c) (A1 m c) (A2 m c) (A3 m c) := by
  refine (dats m 0 c).arrAt_eq_of_covers 4 _ (by decide +kernel) fun t hf y => ?_
  blk_simp
  rw [after0_4]
  have ht := lt64 t
  idx_vars y
  have e : ((View.whole main_v9_0).slice (win0_4.rect t)).emb (ix2 y0 y1) = ix2 ⟨512 * (t.val % 16) + y0, by omega⟩ ⟨128 * (t.val / 16) + y1, by omega⟩ := by blk_ext [idx t]
  rw [e]
  refine (left4 H t y0 y1).trans (Eq.symm ((Fox.Fwd.att_ref H ⟨512 * (t.val % 16) + y0, by omega⟩ ⟨128 * (t.val / 16) + y1, by omega⟩).trans ?_))
  rw [show (128 * (t.val / 16) + y1.val) / 64 = 2 * (t.val / 16) + y1 / 64 by omega, show (128 * (t.val / 16) + y1.val) % 64 = y1.val % 64 by omega]

/-- The log-sums are the reference's. -/
theorem final5 : (dats m 0 c).arrAt 5 (cfgs 0).N = val_main_v51 (F := Ideal) (A0 m c) (A1 m c) (A3 m c) := by
  refine (dats m 0 c).arrAt_eq_of_covers 5 _ (by decide +kernel) fun t hf y => ?_
  blk_simp
  rw [after0_5]
  have ht := lt64 t
  idx_vars y
  have e : ((View.whole main_v9_1).slice (win0_5.rect t)).emb (ix3 y0 y1 y2) = ix3 ⟨2 * (t.val / 16) + y0, by omega⟩ ⟨512 * (t.val % 16) + y1, by omega⟩ y2 := by blk_ext [idx t]
  rw [e]
  obtain ⟨s, hs⟩ := starts_real H ⟨2 * (t.val / 16) + y0, by omega⟩ ⟨t.val % 16, by omega⟩
  refine (left5 H t y0 y1 y2 hs).trans (Fox.Fwd.lse_ref H ⟨2 * (t.val / 16) + y0, by omega⟩ ⟨512 * (t.val % 16) + y1, by omega⟩ y2 ?_).symm
  rw [← hs, Fox.Fwd.start_apply, starts_fold]
  have e' : (512 * (t.val % 16) + y1.val) / 512 = t.val % 16 := by omega
  simp only [e']

end Arrays

end Cert.FoxFwdIdeal.Att

end
-- ==== Proof.FoxFwdClaims.lean ====
module

public import proofs.«01_k».proof.Defs
public import proofs.«01_k».proof.Proof.Gen.FoxFwd
public import proofs.«01_k».proof.Proof.Gen.FoxFwd.Frame
public import proofs.«01_k».proof.Proof.Gen.FoxFwdIdeal.Frame
public import proofs.«01_k».proof.Proof.Gen.FoxFwdIdeal.Value
public import proofs.«01_k».proof.Proof.Gen.FoxFwdRefIdeal
public import proofs.«01_k».proof.Proof.Gen.FoxFwdRefIdeal.Run
public import proofs.«01_k».proof.Proof.Gen.FoxFwdRefIdeal.Read
public import proofs.«01_k».proof.Proof.Gen.Pre_finite_fox_fwd
public import proofs.«01_k».proof.Proof.FoxFwdValue
public import Idealize.ShloMosaic.Lib.Claim
public import Idealize.ShloMosaic.Adequacy
public import Idealize.ShloMosaic.Init

/-! # The claims about the forgetting attention's forward sweep -/

@[expose] public section

noncomputable section

namespace Cert.Proof

open Idealize.ShloMosaic Idealize.SL.Sem

/-- The program of the attention's forward sweep runs to its end and leaves its arguments alone. -/
theorem fox_fwd_frame : Cert.quiescent_FoxFwd (hFoxFwd := Cert.FoxFwd.Gen.facts) := fun m ρ _ => Cert.FoxFwd.Gen.frame m ρ

/-- So does its ideal reading, -/
theorem fox_fwd_frame_ideal : Cert.quiescent_FoxFwdIdeal (hFoxFwdIdeal := Cert.FoxFwdIdeal.Gen.facts) := fun m ρ _ => Cert.FoxFwdIdeal.Gen.frame m ρ

/-- with the precondition too. -/
theorem fox_fwd_frame_pre : Cert.quiescent_FoxFwdIdeal_pre_finite_fox_fwd (hFoxFwdIdeal := Cert.FoxFwdIdeal.Gen.facts) (hPre_finite_fox_fwd := Cert.Pre_finite_fox_fwd.Gen.facts) :=
  fun m ρ _ => Cert.FoxFwdIdeal.Gen.frame m ρ

/-- The reference runs to its end. -/
theorem fox_fwd_ref : Cert.quiescent_FoxFwdRefIdeal (hFoxFwdRefIdeal := Cert.FoxFwdRefIdeal.Gen.facts) := by
  intro m g _
  exact (θ_run Cert.FoxFwdRefIdeal.defs _ _).mono (fun r h => ⟨fun c => (h c).2.2, sem_eq_zero_of_no_sems (by decide) r.2⟩)
    (Cert.FoxFwdRefIdeal.Value.run m g)

theorem fox_fwd_ref_pre : Cert.quiescent_FoxFwdRefIdeal_pre_finite_fox_fwd (hFoxFwdRefIdeal := Cert.FoxFwdRefIdeal.Gen.facts) (hPre_finite_fox_fwd := Cert.Pre_finite_fox_fwd.Gen.facts) :=
  fun m g _ => fox_fwd_ref m g trivial

/-- Over the reals the kernel's results are the reference's. -/
theorem fox_fwd_value : Cert.algebraic_FoxFwdIdeal_FoxFwdRefIdeal_pre_finite_fox_fwd (hFoxFwdIdeal := Cert.FoxFwdIdeal.Gen.facts)
    (hFoxFwdRefIdeal := Cert.FoxFwdRefIdeal.Gen.facts) (hPre_finite_fox_fwd := Cert.Pre_finite_fox_fwd.Gen.facts) := by
  intro m g m' g' hpre hagree
  refine ⟨fun c => Cert.FoxFwdRefIdeal.Read.val_main_v49 (F := Ideal) (m ((c.tc : Thread _ _).loc Cert.FoxFwdIdeal.main_arg0)) (m ((c.tc : Thread _ _).loc Cert.FoxFwdIdeal.main_arg1)) (m ((c.tc : Thread _ _).loc Cert.FoxFwdIdeal.main_arg2)) (m ((c.tc : Thread _ _).loc Cert.FoxFwdIdeal.main_arg3)),
    fun c => Cert.FoxFwdRefIdeal.Read.val_main_v51 (F := Ideal) (m ((c.tc : Thread _ _).loc Cert.FoxFwdIdeal.main_arg0)) (m ((c.tc : Thread _ _).loc Cert.FoxFwdIdeal.main_arg1)) (m ((c.tc : Thread _ _).loc Cert.FoxFwdIdeal.main_arg3)), ?_, ?_⟩
  · refine (θ_run Cert.FoxFwdIdeal.defs _ _).mono (fun r h c => ⟨(h c).1.trans ?_, (h c).2.1.trans ?_, (h c).2.2⟩)
      (Cert.FoxFwdIdeal.Value.run_blocks (F := Ideal) m g)
    all_goals
      have hp := hpre c
      obtain ⟨D, H⟩ := Fox.exists_data (x4 := fun _ => ((0 : ℝ) : EReal)) (Reals.all_real _ _ hp.1) (Reals.all_real _ _ hp.2.1) (Reals.all_real _ _ hp.2.2.1)
        (Reals.all_real _ _ hp.2.2.2) ⟨fun _ => 0, rfl⟩
    · exact Cert.FoxFwdIdeal.Att.final4 H
    · exact Cert.FoxFwdIdeal.Att.final5 H
  · refine (θ_run Cert.FoxFwdRefIdeal.defs _ _).mono (fun r h c => ⟨(h c).1.trans ?_, (h c).2.1.trans ?_, (h c).2.2⟩)
      (Cert.FoxFwdRefIdeal.Value.run (F := Ideal) m' g')
    · refine (Cert.FoxFwdRefIdeal.Read.val_main_v49_eq (F := Ideal) m' c).trans ?_
      obtain ⟨h0, h1, h2, h3⟩ := hagree c
      rw [h0, h1, h2, h3]
    · refine (Cert.FoxFwdRefIdeal.Read.val_main_v51_eq (F := Ideal) m' c).trans ?_
      obtain ⟨h0, h1, h2, h3⟩ := hagree c
      rw [h0, h1, h3]

end Cert.Proof

end
-- ==== Proof.RmsMath.lean ====
/-
  The root mean square norm and its derivative, for one row of reals: the two ways to write the derivative are equal.
  Also a sum over packed columns: the columns in another order, zeros behind them.
-/
module

public import proofs.«01_k».proof.Proof.Reals
public import Idealize.ShloMosaic.Lib.ValueIdx

@[expose] public section

noncomputable section

namespace Cert.Rms

open Idealize.ShloMosaic Cert.Reals

/-- The norm's small constant, as the printed literal. -/
def eps : ℝ := 8796093 / 8796093022208

theorem eps_pos : 0 < eps := by norm_num [eps]

theorem ofBits_eps : Ideal.ofBits .f32 0x358637BD#32 = ((eps : ℝ) : EReal) := by
  simp [Ideal.ofBits, Ideal.ieee]
  rw [← EReal.coe_mul]
  norm_num [eps]

theorem ofBits_1024 : Ideal.ofBits .f32 0x44800000#32 = ((1024 : ℝ) : EReal) := by
  simp [Ideal.ofBits, Ideal.ieee]
  rw [← EReal.coe_mul]
  norm_num

theorem ofBits_neg_half : Ideal.ofBits .f32 0xBF000000#32 = ((-1 / 2 : ℝ) : EReal) := by
  simp [Ideal.ofBits, Ideal.ieee]
  rw [← EReal.coe_mul]
  norm_num

/-- A row's mean square, the constant added. -/
def ms (x : Fin 1024 → ℝ) : ℝ := (∑ k, x k * x k) / 1024 + eps

/-- What the row is scaled by. -/
def inv (x : Fin 1024 → ℝ) : ℝ := (√(ms x))⁻¹

theorem ms_pos (x : Fin 1024 → ℝ) : 0 < ms x :=
  add_pos_of_nonneg_of_pos (div_nonneg (Finset.sum_nonneg fun k _ => mul_self_nonneg (x k)) (by norm_num)) eps_pos

theorem inv_sq (x : Fin 1024 → ℝ) : inv x * inv x = (ms x)⁻¹ := by
  unfold inv
  rw [← mul_inv, Real.mul_self_sqrt (ms_pos x).le]

theorem ms_coe (x : Fin 1024 → ℝ) :
    Ideal.div (∑ k, (x k : EReal) * (x k : EReal)) (Ideal.ofBits .f32 0x44800000#32) + Ideal.ofBits .f32 0x358637BD#32 = ((ms x : ℝ) : EReal) := by
  rw [ofBits_1024, ofBits_eps]
  simp only [← EReal.coe_mul, ← coe_sum]
  rw [div_real _ (by norm_num : (1024 : ℝ) ≠ 0), ← EReal.coe_add]
  rfl

theorem rsqrt_ms (x : Fin 1024 → ℝ) : Ideal.rsqrt ((ms x : ℝ) : EReal) = ((inv x : ℝ) : EReal) := by
  rw [Ideal.rsqrt_coe, if_neg (not_lt.2 (ms_pos x).le), if_neg (ms_pos x).ne']
  rfl

theorem inv_coe (x : Fin 1024 → ℝ) :
    Ideal.rsqrt (Ideal.div (∑ k, (x k : EReal) * (x k : EReal)) (Ideal.ofBits .f32 0x44800000#32) + Ideal.ofBits .f32 0x358637BD#32)
      = ((inv x : ℝ) : EReal) := by
  rw [ms_coe, rsqrt_ms]

/-- The derivative along a row, the part through the scale written once. -/
def dx (x d : Fin 1024 → ℝ) (l : Fin 1024) : ℝ :=
  inv x * (d l - x l * inv x * ((∑ k, d k * (x k * inv x)) / 1024))

/-- The derivative as the chain rule gives it: through the scaled entry, and twice through the square. -/
theorem dx_eq (x d : Fin 1024 → ℝ) (l : Fin 1024) (h : ℝ) :
    h + d l * inv x + x l * ((∑ k, x k * d k) * (-1 / 2 * (inv x / ms x)) / 1024) + (∑ k, x k * d k) * (-1 / 2 * (inv x / ms x)) / 1024 * x l
      = dx x d l + h := by
  unfold dx
  have e : ∑ k, d k * (x k * inv x) = (∑ k, x k * d k) * inv x := by
    rw [Finset.sum_mul]
    exact Finset.sum_congr rfl fun k _ => by ring
  rw [e, div_eq_mul_inv (inv x), ← inv_sq]
  ring

/-- The same, as it is computed from the row, the cotangent and the gain. -/
theorem dx_coe (x d g : Fin 1024 → ℝ) (h : ℝ) (l : Fin 1024) :
    (inv x : EReal) * ((d l : EReal) * (g l : EReal) - (x l : EReal) * (inv x : EReal)
        * Ideal.div (∑ k, (d k : EReal) * (g k : EReal) * ((x k : EReal) * (inv x : EReal))) (Ideal.ofBits .f32 0x44800000#32)) + (h : EReal)
      = ((dx x (fun k => d k * g k) l + h : ℝ) : EReal) := by
  rw [ofBits_1024]
  simp only [← EReal.coe_mul, ← coe_sum]
  rw [div_real _ (by norm_num : (1024 : ℝ) ≠ 0)]
  simp only [← EReal.coe_mul, ← EReal.coe_sub, ← EReal.coe_add]
  rfl

/-- The sum over the blocks up to `n`, from the first block on. -/
theorem sum_upto {N : ℕ} (g : Fin N → EReal) (n : ℕ) (hn : n + 1 < N) :
    ∑ b ∈ Finset.univ.filter (fun b : Fin N => b.val ≤ n + 1), g b = ∑ b ∈ Finset.univ.filter (fun b : Fin N => b.val ≤ n), g b + g ⟨n + 1, hn⟩ := by
  have e : (Finset.univ.filter fun b : Fin N => b.val ≤ n + 1) = insert ⟨n + 1, hn⟩ (Finset.univ.filter fun b : Fin N => b.val ≤ n) := by
    ext b
    simp only [Finset.mem_filter, Finset.mem_univ, true_and, Finset.mem_insert, Fin.ext_iff]
    omega
  rw [e, Finset.sum_insert (by simp), add_comm]

/-- A running total over the blocks. -/
theorem total {N : ℕ} {f : ∀ n, n < N → EReal} {g : Fin N → EReal} (hA : ∀ h : 0 < N, f 0 h = g ⟨0, h⟩)
    (hB : ∀ (n : ℕ) (hn : n + 1 < N), f (n + 1) hn = f n (Nat.lt_of_succ_lt hn) + g ⟨n + 1, hn⟩) :
    ∀ (n : ℕ) (hn : n < N), f n hn = ∑ b ∈ Finset.univ.filter (fun b : Fin N => b.val ≤ n), g b := by
  intro n
  induction n with
  | zero =>
    intro hn
    have e : (Finset.univ.filter fun b : Fin N => b.val ≤ 0) = {⟨0, hn⟩} := by
      ext b
      simp only [Finset.mem_filter, Finset.mem_univ, true_and, Finset.mem_singleton, Fin.ext_iff]
      omega
    rw [e, Finset.sum_singleton]
    exact hA hn
  | succ n ih =>
    intro hn
    rw [hB n hn, ih, sum_upto g n hn]

/-- Sixteen blocks of 512 rows, each block's rows added up in eight groups of every eighth row: the sum over all rows. -/
theorem sum_rows (f : Fin 8192 → EReal) :
    ∑ a : Fin 8, ∑ b : Fin 16, ∑ x : Fin 64, f ⟨b.val * 512 + (x.val * 8 + a.val), by omega⟩ = ∑ r, f r := by
  rw [Finset.sum_comm, Fin.sum_univ_tiles (N := 8192) 16 512 rfl]
  refine Finset.sum_congr rfl fun b _ => ?_
  rw [Finset.sum_comm, Fin.sum_univ_tiles (N := 512) 64 8 rfl]

/-- Columns in another order, zeros behind them: the same sum. -/
theorem sum_packed (T : ℕ → EReal) :
    ∑ j : Fin 4224, (if j.val < 2048 then T j else if j.val < 4096 then T (j + 8) else if j.val < 4104 then T (j - 2048) else 0)
      = ∑ j : Fin 4104, T j := by
  have e : ∀ f : ℕ → EReal, ∑ j ∈ Finset.range 4224, f j
      = ∑ j ∈ Finset.range 2048, f j + (∑ j ∈ Finset.range 2048, f (2048 + j) + (∑ j ∈ Finset.range 8, f (2048 + (2048 + j)) + ∑ j ∈ Finset.range 120, f (2048 + (2048 + (8 + j))))) := fun f => by
    rw [show 4224 = 2048 + (2048 + (8 + 120)) from rfl]
    simp only [Finset.sum_range_add]
  have e' : ∑ j ∈ Finset.range 4104, T j = ∑ j ∈ Finset.range 2048, T j + (∑ j ∈ Finset.range 2048, T (2048 + (8 + j)) + ∑ j ∈ Finset.range 8, T (2048 + j)) := by
    rw [show 4104 = 2048 + (8 + 2048) from rfl]
    simp only [Finset.sum_range_add]
    rw [add_comm (∑ j ∈ Finset.range 8, T (2048 + j))]
  rw [← Finset.sum_range fun j => if j < 2048 then T j else if j < 4096 then T (j + 8) else if j < 4104 then T (j - 2048) else 0,
    ← Finset.sum_range T, e, e']
  refine congrArg₂ (· + ·) ?_ (congrArg₂ (· + ·) ?_ ?_)
  · exact Finset.sum_congr rfl fun j hj => by rw [if_pos (Finset.mem_range.1 hj)]
  · refine Finset.sum_congr rfl fun j hj => ?_
    have := Finset.mem_range.1 hj
    rw [if_neg (by omega), if_pos (by omega)]
    exact congrArg T (by omega)
  · refine (congrArg₂ (· + ·) (Finset.sum_congr rfl fun j hj => ?_) (Finset.sum_eq_zero fun j _ => ?_)).trans (add_zero _)
    · have := Finset.mem_range.1 hj
      rw [if_neg (by omega), if_neg (by omega), if_pos (by omega)]
      exact congrArg T (by omega)
    · rw [if_neg (by omega), if_neg (by omega), if_neg (by omega)]

end Cert.Rms

end
-- ==== Proof.RmsRef.lean ====
module

public import proofs.«01_k».proof.Proof.RmsMath
public import proofs.«01_k».proof.Proof.RealOps
public import proofs.«01_k».proof.Proof.Gen.RmsBwdRefIdeal.Read
public import Idealize.ShloMosaic.Lib.ValueIdx

/-! # The reference's gradients through the norm, entry by entry -/

@[expose] public section

set_option maxRecDepth 16384

noncomputable section

namespace Cert.RmsBwdRefIdeal.Norm

open Cert.RmsBwdRefIdeal Cert.RmsBwdRefIdeal.Gen Cert.RmsBwdRefIdeal.Read Idealize.ShloMosaic Idealize.ShloMosaic.TcCoe Idealize.SL.Sem
open Cert.Reals

/-- A sum over the first and the last axis, both of size one. -/
theorem unit_last (x : FVec Ideal S1x8192x1 .f32) (r : Fin 8192) :
    Ideal.hostReduceAdd reducesTo_S1x8192x1_S8192_d0_2 x 0 (ix1 r) = x (ix3 0 r 0) := by
  rw [reduceAdd_unit _ x 0 (ix1 r) (ix3 0 r 0) (by idx_ext) fun y hy => ?_, zero_add]
  idx_vars y
  obtain rfl : y0 = 0 := Subsingleton.elim _ _
  obtain rfl : y2 = 0 := Subsingleton.elim _ _
  rw [show reducesTo_S1x8192x1_S8192_d0_2.drop (ix3 0 y1 0) = ix1 y1 by idx_ext] at hy
  obtain rfl : y1 = r := congrFun hy 0
  rfl

/-- A sum over the first two axes, both of size one. -/
theorem unit_first (x : FVec Ideal S1x1x1024 .f32) (l : Fin 1024) :
    Ideal.hostReduceAdd reducesTo_S1x1x1024_S1024_d0_1 x 0 (ix1 l) = x (ix3 0 0 l) := by
  rw [reduceAdd_unit _ x 0 (ix1 l) (ix3 0 0 l) (by idx_ext) fun y hy => ?_, zero_add]
  idx_vars y
  obtain rfl : y0 = 0 := Subsingleton.elim _ _
  obtain rfl : y1 = 0 := Subsingleton.elim _ _
  rw [show reducesTo_S1x1x1024_S1024_d0_1.drop (ix3 0 0 y2) = ix1 y2 by idx_ext] at hy
  obtain rfl : y2 = l := congrFun hy 0
  rfl

/-- The cotangent that reaches the norm is real where the product's operands are. -/
theorem real_cotangent {x2 : FVec Ideal S1x1024x4104 .f32} {x3 : FVec Ideal S1x8192x4104 .f32} (h2 : AllReal x2) (h3 : AllReal x3) :
    AllReal (val_main_v19 (F := Ideal) x2 x3) := by
  obtain ⟨w, rfl⟩ := h2
  obtain ⟨d, rfl⟩ := h3
  refine ⟨fun i => ∑ j : Fin 4104, d (ix3 0 (i 1) j) * w (ix3 0 (i 2) j), funext fun i => ?_⟩
  idx_vars i
  obtain rfl : i0 = 0 := Subsingleton.elim _ _
  pointwise [val_main_v19, val_main_v17]
  simp only [← EReal.coe_mul, ← coe_sum]

/-- A row's mean square, -/
theorem v6 (x : S1x8192x1024.Idx → ℝ) (r : Fin 8192) :
    val_main_v6 (F := Ideal) (fun i => (x i : EReal)) (ix3 0 r 0) = ((Rms.ms fun k => x (ix3 0 r k) : ℝ) : EReal) := by
  pointwise [val_main_v6, val_main_v5, val_main_v4, val_main_v3, val_main_v2, val_main_v1, val_main_v0, val_main_cst, val_main_cst_0, val_main_cst_1]
  exact Rms.ms_coe fun k => x (ix3 0 r k)

/-- and what scales the row. -/
theorem v7 (x : S1x8192x1024.Idx → ℝ) (r : Fin 8192) :
    val_main_v7 (F := Ideal) (fun i => (x i : EReal)) (ix3 0 r 0) = ((Rms.inv fun k => x (ix3 0 r k) : ℝ) : EReal) := by
  rw [val_main_v7, Host.rsqrt]
  exact (congrArg Ideal.rsqrt (v6 x r)).trans (Rms.rsqrt_ms _)

/-- The cotangent through the row's scale. -/
theorem v38 (x : S1x8192x1024.Idx → ℝ) (g : S1x1024.Idx → ℝ) (x2 : FVec Ideal S1x1024x4104 .f32) (x3 : FVec Ideal S1x8192x4104 .f32)
    (d : S1x8192x1024.Idx → ℝ) (hd : val_main_v19 (F := Ideal) x2 x3 = fun i => (d i : EReal)) (r : Fin 8192) (l : Fin 1024) :
    val_main_v38 (F := Ideal) (fun i => (x i : EReal)) (fun i => (g i : EReal)) x2 x3 (ix3 0 r l)
      = (((∑ k, x (ix3 0 r k) * (d (ix3 0 r k) * g (ix2 0 k))) * (-1 / 2 * (Rms.inv (fun k => x (ix3 0 r k)) / Rms.ms fun k => x (ix3 0 r k))) / 1024 : ℝ) : EReal) := by
  have e : val_main_v28 (F := Ideal) (fun i => (x i : EReal)) (fun i => (g i : EReal)) x2 x3 (ix2 0 r)
      = ((∑ k, x (ix3 0 r k) * (d (ix3 0 r k) * g (ix2 0 k)) : ℝ) : EReal) := by
    pointwise [val_main_v28, val_main_v27, val_main_v24, val_main_v23, val_main_v14, val_main_v13, val_main_cst_5]
    simp only [hd, ← EReal.coe_mul, ← coe_sum]
  pointwise [val_main_v38, val_main_v37, val_main_v36, val_main_cst_7]
  rw [unit_last]
  pointwise [val_main_v35, val_main_v34, val_main_v33, val_main_v29, val_main_v10, val_main_v9, val_main_v8, val_main_cst_2, val_main_cst_6]
  rw [e, v6, v7, Rms.ofBits_1024, Rms.ofBits_neg_half, div_real _ (Rms.ms_pos _).ne', ← EReal.coe_mul, ← EReal.coe_mul, div_real _ (by norm_num : (1024 : ℝ) ≠ 0)]

/-- The gradient of the norm's input, the other branch's cotangent added. -/
theorem dx (x : S1x8192x1024.Idx → ℝ) (g : S1x1024.Idx → ℝ) (x2 : FVec Ideal S1x1024x4104 .f32) (x3 : FVec Ideal S1x8192x4104 .f32)
    (d : S1x8192x1024.Idx → ℝ) (hd : val_main_v19 (F := Ideal) x2 x3 = fun i => (d i : EReal)) (h : S1x8192x1024.Idx → ℝ) (r : Fin 8192) (l : Fin 1024) :
    val_main_v43 (F := Ideal) (fun i => (x i : EReal)) (fun i => (g i : EReal)) x2 x3 (fun i => (h i : EReal)) (ix2 r l)
      = ((Rms.dx (fun k => x (ix3 0 r k)) (fun k => d (ix3 0 r k) * g (ix2 0 k)) l + h (ix3 0 r l) : ℝ) : EReal) := by
  pointwise [val_main_v43, val_main_v42, val_main_v41, val_main_v40, val_main_v39, val_main_v32, val_main_v31, val_main_v30, val_main_v24, val_main_v23, val_main_v14, val_main_v13]
  rw [v38 x g x2 x3 d hd, v7, hd]
  simp only [← EReal.coe_mul, ← EReal.coe_add]
  exact congrArg _ (Rms.dx_eq (fun k => x (ix3 0 r k)) (fun k => d (ix3 0 r k) * g (ix2 0 k)) l (h (ix3 0 r l)))

/-- The gradient of the norm's gain. -/
theorem gain (x : S1x8192x1024.Idx → ℝ) (x2 : FVec Ideal S1x1024x4104 .f32) (x3 : FVec Ideal S1x8192x4104 .f32)
    (y : Fin 1) (l : Fin 1024) :
    val_main_v26 (F := Ideal) (fun i => (x i : EReal)) x2 x3 (ix2 y l)
      = ∑ r : Fin 8192, val_main_v19 (F := Ideal) x2 x3 (ix3 0 r l) * ((x (ix3 0 r l) : EReal) * (Rms.inv (fun k => x (ix3 0 r k)) : EReal)) := by
  pointwise [val_main_v26, val_main_v25, val_main_cst_4]
  rw [unit_first]
  pointwise [val_main_v22, val_main_v21, val_main_v20, val_main_v12, val_main_v11, val_main_cst_3]
  simp only [v7]
  exact Finset.sum_congr rfl fun r _ => mul_comm _ _

end Cert.RmsBwdRefIdeal.Norm

end
-- ==== Proof.RmsValue.lean ====
module

public import proofs.«01_k».proof.Proof.RmsRef
public import proofs.«01_k».proof.Proof.Gen.RmsBwdIdeal.Value
public import Idealize.ShloMosaic.Lib.Pipeline.ValueKit

/-! # The gradient through the first norm

A grid point takes 512 rows: the packed cotangent times the packed weight, the derivative of the norm along each row, and
the rows' parts of the gain's gradient, which the sixteen points add up in eight rows of a scratch. -/

@[expose] public section

set_option maxRecDepth 16384

noncomputable section

namespace Cert.RmsBwdIdeal.Grad

open Cert.RmsBwdIdeal Cert.RmsBwdIdeal.Gen Idealize.ShloMosaic Idealize.ShloMosaic.TcCoe Idealize.SL.Sem
open Idealize.ShloMosaic.Pipeline (Dat)
open Cert.Reals
open Cert.RmsBwdRefIdeal.Read (val_main_v19 val_main_v26 val_main_v43)

variable (m : (ℓ : Loc nD τ sig) → Buf (Elt Ideal) ℓ)

theorem lt16 (t : Fin cfg0.N) : t.val < 16 := t.isLt

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

abbrev A0 (c : Dev nD) : FVec Ideal S1x8192x1024 .f32 := m ((c : Thread nD τ).loc main_arg0)
abbrev A1 (c : Dev nD) : FVec Ideal S1x1024 .f32 := m ((c : Thread nD τ).loc main_arg1)
abbrev A2 (c : Dev nD) : FVec Ideal S1x1024x4104 .f32 := m ((c : Thread nD τ).loc main_arg2)
abbrev A3 (c : Dev nD) : FVec Ideal S1x8192x4104 .f32 := m ((c : Thread nD τ).loc main_arg3)
abbrev A4 (c : Dev nD) : FVec Ideal S1x8192x1024 .f32 := m ((c : Thread nD τ).loc main_arg4)

/-- The cotangent's columns, packed. -/
def colsD (x3 : FVec Ideal S1x8192x4104 .f32) : FVec Ideal S8192x4224 .bf16 :=
  truncf .bf16 (concatenate S8192x4224 1 [⟨S8192x2048, extractStridedSlice S8192x2048 ![0, 0] (shapeCast S8192x4104 x3 shapeCasts_S1x8192x4104_S8192x4104) slices_S8192x4104_S8192x2048_0_0⟩,
    ⟨S8192x2048, extractStridedSlice S8192x2048 ![0, 2056] (shapeCast S8192x4104 x3 shapeCasts_S1x8192x4104_S8192x4104) slices_S8192x4104_S8192x2048_0_2056⟩,
    ⟨S8192x8, extractStridedSlice S8192x8 ![0, 2048] (shapeCast S8192x4104 x3 shapeCasts_S1x8192x4104_S8192x4104) slices_S8192x4104_S8192x8_0_2048⟩,
    ⟨S8192x120, broadcastInDim S8192x120 ![] bcast_S_S8192x120 (constant S_ .f32 0x00000000#32)⟩]
    concatenates_S8192x2048_S8192x2048_S8192x8_S8192x120_S8192x4224_d1) bitsLt_bf16_f32

/-- The weight's columns, packed. -/
def colsW (x2 : FVec Ideal S1x1024x4104 .f32) : FVec Ideal S1024x4224 .bf16 :=
  truncf .bf16 (concatenate S1024x4224 1 [⟨S1024x2048, extractStridedSlice S1024x2048 ![0, 0] (shapeCast S1024x4104 x2 shapeCasts_S1x1024x4104_S1024x4104) slices_S1024x4104_S1024x2048_0_0⟩,
    ⟨S1024x2048, extractStridedSlice S1024x2048 ![0, 2056] (shapeCast S1024x4104 x2 shapeCasts_S1x1024x4104_S1024x4104) slices_S1024x4104_S1024x2048_0_2056⟩,
    ⟨S1024x8, extractStridedSlice S1024x8 ![0, 2048] (shapeCast S1024x4104 x2 shapeCasts_S1x1024x4104_S1024x4104) slices_S1024x4104_S1024x8_0_2048⟩,
    ⟨S1024x120, broadcastInDim S1024x120 ![] bcast_S_S1024x120 (constant S_ .f32 0x00000000#32)⟩]
    concatenates_S1024x2048_S1024x2048_S1024x8_S1024x120_S1024x4224_d1) bitsLt_bf16_f32

/-- The columns of a row in the order they are packed in, zeros behind them. -/
def packed (f : ℕ → EReal) (j : ℕ) : EReal :=
  if j < 2048 then f j else if j < 4096 then f (j + 8) else if j < 4104 then f (j - 2048) else 0

/-- Row `r` of the cotangent, column by column. -/
def rowD (x3 : FVec Ideal S1x8192x4104 .f32) (r : Fin 8192) (j : ℕ) : EReal := if h : j < 4104 then x3 (ix3 0 r ⟨j, h⟩) else 0

/-- Row `r` of the weight, column by column. -/
def rowW (x2 : FVec Ideal S1x1024x4104 .f32) (r : Fin 1024) (j : ℕ) : EReal := if h : j < 4104 then x2 (ix3 0 r ⟨j, h⟩) else 0

theorem colsD_at (x3 : FVec Ideal S1x8192x4104 .f32) (r : Fin 8192) (j : Fin 4224) : colsD x3 (ix2 r j) = packed (rowD x3 r) j := by
  unfold packed rowD
  pointwise [colsD]
  by_cases h1 : j.val < 2048
  · rw [dif_pos h1, if_pos h1, dif_pos (by omega)]
  rw [dif_neg h1, if_neg h1]
  by_cases h2 : j.val < 4096
  · rw [dif_pos (by omega), if_pos h2, dif_pos (by omega)]
    exact congrArg (fun k => x3 (ix3 0 r k)) (Fin.ext (by show 2056 + (j.val - 2048) = j.val + 8; omega))
  rw [dif_neg (by omega), if_neg h2]
  by_cases h3 : j.val < 4104
  · rw [dif_pos (by omega), if_pos h3, dif_pos (by omega)]
    exact congrArg (fun k => x3 (ix3 0 r k)) (Fin.ext (by show 2048 + (j.val - 2048 - 2048) = j.val - 2048; omega))
  · rw [dif_neg (by omega), if_neg h3]

theorem colsW_at (x2 : FVec Ideal S1x1024x4104 .f32) (r : Fin 1024) (j : Fin 4224) : colsW x2 (ix2 r j) = packed (rowW x2 r) j := by
  unfold packed rowW
  pointwise [colsW]
  by_cases h1 : j.val < 2048
  · rw [dif_pos h1, if_pos h1, dif_pos (by omega)]
  rw [dif_neg h1, if_neg h1]
  by_cases h2 : j.val < 4096
  · rw [dif_pos (by omega), if_pos h2, dif_pos (by omega)]
    exact congrArg (fun k => x2 (ix3 0 r k)) (Fin.ext (by show 2056 + (j.val - 2048) = j.val + 8; omega))
  rw [dif_neg (by omega), if_neg h2]
  by_cases h3 : j.val < 4104
  · rw [dif_pos (by omega), if_pos h3, dif_pos (by omega)]
    exact congrArg (fun k => x2 (ix3 0 r k)) (Fin.ext (by show 2048 + (j.val - 2048 - 2048) = j.val - 2048; omega))
  · rw [dif_neg (by omega), if_neg h3]

/-- A product over the packed columns is the product over the columns. -/
theorem product (x2 : FVec Ideal S1x1024x4104 .f32) (x3 : FVec Ideal S1x8192x4104 .f32) (r : Fin 8192) (k : Fin 1024) :
    ∑ j : Fin 4224, colsD x3 (ix2 r j) * colsW x2 (ix2 k j) = val_main_v19 (F := Ideal) x2 x3 (ix3 0 r k) := by
  simp only [colsD_at, colsW_at]
  have e : ∀ j : Fin 4224, packed (rowD x3 r) j * packed (rowW x2 k) j
      = if j.val < 2048 then rowD x3 r j * rowW x2 k j else if j.val < 4096 then rowD x3 r (j + 8) * rowW x2 k (j + 8)
        else if j.val < 4104 then rowD x3 r (j - 2048) * rowW x2 k (j - 2048) else 0 := fun j => by
    unfold packed
    split_ifs <;> simp
  refine (Finset.sum_congr rfl fun j _ => e j).trans ((Rms.sum_packed fun j => rowD x3 r j * rowW x2 k j).trans ?_)
  pointwise [val_main_v19, Cert.RmsBwdRefIdeal.Read.val_main_v17]
  refine Finset.sum_congr rfl fun j _ => ?_
  rw [rowD, rowW, dif_pos j.isLt, dif_pos j.isLt]

theorem V6 (c : Dev nD) : V m c main_v6 = colsD (A3 m c) := by
  simp only [V, hostOps0, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

theorem V13 (c : Dev nD) : V m c main_v13 = colsW (A2 m c) := by
  simp only [V, hostOps0, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

/-! What each window holds. -/

theorem win0 (t : Fin cfg0.N) (X : FVec Ideal S8192x4224 .bf16) (a : Fin 512) (j : Fin 4224) :
    ((cfg0.win 0).blk t).view.read (Elt Ideal) X (ix2 a j) = X (ix2 ⟨t.val * 512 + a, by have := lt16 t; omega⟩ j) := by
  blk_ext [idx t]

theorem win1 (t : Fin cfg0.N) (X : FVec Ideal S1024x4224 .bf16) (k : Fin 1024) (j : Fin 4224) :
    ((cfg0.win 1).blk t).view.read (Elt Ideal) X (ix2 k j) = X (ix2 k j) := by
  blk_ext [idx t]

theorem blk0 (c : Dev nD) (t : Fin cfg0.N) (a : Fin 512) (j : Fin 4224) :
    iblk m c 0 t (ix2 a j) = colsD (A3 m c) (ix2 ⟨t.val * 512 + a, by have := lt16 t; omega⟩ j) := by
  have e : iblk m c 0 t = ((cfg0.win 0).blk t).view.read (Elt Ideal) (colsD (A3 m c)) := congrArg (((cfg0.win 0).blk t).view.read (Elt Ideal)) (V6 m c)
  rw [e, win0]

theorem blk1 (c : Dev nD) (t : Fin cfg0.N) (k : Fin 1024) (j : Fin 4224) :
    iblk m c 1 t (ix2 k j) = colsW (A2 m c) (ix2 k j) := by
  have e : iblk m c 1 t = ((cfg0.win 1).blk t).view.read (Elt Ideal) (colsW (A2 m c)) := congrArg (((cfg0.win 1).blk t).view.read (Elt Ideal)) (V13 m c)
  rw [e, win1]

theorem blk2 (c : Dev nD) (t : Fin cfg0.N) (a : Fin 512) (k : Fin 1024) :
    iblk m c 2 t (ix2 a k) = A0 m c (ix3 0 ⟨t.val * 512 + a, by have := lt16 t; omega⟩ k) := by
  blk_simp [iblk]
  entry_read
  pointwise
  blk_ext [iblk, V, idx t]

theorem blk3 (c : Dev nD) (t : Fin cfg0.N) (a : Fin 1) (k : Fin 1024) :
    iblk m c 3 t (ix2 a k) = A1 m c (ix2 a k) := by
  blk_ext [iblk, V, idx t]

theorem blk4 (c : Dev nD) (t : Fin cfg0.N) (a : Fin 512) (k : Fin 1024) :
    iblk m c 4 t (ix2 a k) = A4 m c (ix3 0 ⟨t.val * 512 + a, by have := lt16 t; omega⟩ k) := by
  blk_simp [iblk]
  entry_read
  pointwise
  blk_ext [iblk, V, idx t]

/-- An entry of a block's product. -/
def prod (X0 : S512x4224.Idx → EReal) (X1 : S1024x4224.Idx → EReal) (a : Fin 512) (k : Fin 1024) : EReal := ∑ j : Fin 4224, X0 (ix2 a j) * X1 (ix2 k j)

/-- The cotangent that reaches the norm. -/
theorem cotangent (c : Dev nD) (t : Fin cfg0.N) (a : Fin 512) (k : Fin 1024) :
    prod (iblk m c 0 t) (iblk m c 1 t) a k = val_main_v19 (F := Ideal) (A2 m c) (A3 m c) (ix3 0 ⟨t.val * 512 + a, by have := lt16 t; omega⟩ k) := by
  unfold prod
  simp only [blk0, blk1]
  exact product _ _ _ _

/-- A row's entry, as a point computes it. -/
theorem entry (X0 : S512x4224.Idx → EReal) (X1 : S1024x4224.Idx → EReal) (X2 : S512x1024.Idx → EReal) (X3 : S1x1024.Idx → EReal) (X4 : S512x1024.Idx → EReal)
    (a : Fin 512) (l : Fin 1024) (x d g : Fin 1024 → ℝ) (h : ℝ) (h0 : ∀ k, prod X0 X1 a k = (d k : EReal)) (h2 : ∀ k, X2 (ix2 a k) = (x k : EReal))
    (h3 : ∀ k, X3 (ix2 0 k) = (g k : EReal)) (h4 : X4 (ix2 a l) = (h : EReal)) :
    Ideal.rsqrt (Ideal.div (∑ k, X2 (ix2 a k) * X2 (ix2 a k)) (Ideal.ofBits FTy.f32 0x44800000#32) + Ideal.ofBits FTy.f32 0x358637BD#32)
      * ((∑ j, X0 (ix2 a j) * X1 (ix2 l j)) * X3 (ix2 0 l)
        - X2 (ix2 a l) * Ideal.rsqrt (Ideal.div (∑ k, X2 (ix2 a k) * X2 (ix2 a k)) (Ideal.ofBits FTy.f32 0x44800000#32) + Ideal.ofBits FTy.f32 0x358637BD#32)
          * Ideal.div (∑ k, (∑ j, X0 (ix2 a j) * X1 (ix2 k j)) * X3 (ix2 0 k)
              * (X2 (ix2 a k) * Ideal.rsqrt (Ideal.div (∑ k, X2 (ix2 a k) * X2 (ix2 a k)) (Ideal.ofBits FTy.f32 0x44800000#32) + Ideal.ofBits FTy.f32 0x358637BD#32)))
            (Ideal.ofBits FTy.f32 0x44800000#32)) + X4 (ix2 a l)
      = ((Rms.dx x (fun k => d k * g k) l + h : ℝ) : EReal) := by
  unfold prod at h0
  simp only [h0, h2, h3, h4, Rms.inv_coe x]
  exact Rms.dx_coe x d g h l

/-- A row's part of the gain's gradient. -/
def part (x : S1x8192x1024.Idx → ℝ) (x2 : FVec Ideal S1x1024x4104 .f32) (x3 : FVec Ideal S1x8192x4104 .f32) (l : Fin 1024) (r : Fin 8192) : EReal :=
  val_main_v19 (F := Ideal) x2 x3 (ix3 0 r l) * ((x (ix3 0 r l) : EReal) * (Rms.inv (fun k => x (ix3 0 r k)) : EReal))

/-- What point `b` adds to the scratch's row `a`. -/
def adds (x : S1x8192x1024.Idx → ℝ) (x2 : FVec Ideal S1x1024x4104 .f32) (x3 : FVec Ideal S1x8192x4104 .f32) (l : Fin 1024) (a : Fin 8) (b : Fin 16) : EReal :=
  ∑ q : Fin 64, part x x2 x3 l ⟨b.val * 512 + (q.val * 8 + a.val), by omega⟩

section Arrays

variable {m} {c : Dev nD} {x : S1x8192x1024.Idx → ℝ} (hx : A0 m c = fun i => (x i : EReal))

include hx

/-- A row's part of the gain's gradient, as a point computes it. -/
theorem partial_gain (t : Fin cfg0.N) (a : Fin 8) (l : Fin 1024) (X0 : S512x4224.Idx → EReal) (X1 : S1024x4224.Idx → EReal) (X2 : S512x1024.Idx → EReal)
    (h0 : X0 = iblk m c 0 t) (h1 : X1 = iblk m c 1 t) (h2 : X2 = iblk m c 2 t) :
    ∑ q : Fin 64, (∑ j, X0 (ix2 ⟨q.val * 8 + a.val, by omega⟩ j) * X1 (ix2 l j)) * (X2 (ix2 ⟨q.val * 8 + a.val, by omega⟩ l)
        * Ideal.rsqrt (Ideal.div (∑ k, X2 (ix2 ⟨q.val * 8 + a.val, by omega⟩ k) * X2 (ix2 ⟨q.val * 8 + a.val, by omega⟩ k)) (Ideal.ofBits FTy.f32 0x44800000#32) + Ideal.ofBits FTy.f32 0x358637BD#32))
      = adds x (A2 m c) (A3 m c) l a ⟨t.val, lt16 t⟩ := by
  refine Finset.sum_congr rfl fun q _ => ?_
  have e : ∑ j, X0 (ix2 ⟨q.val * 8 + a.val, by omega⟩ j) * X1 (ix2 l j) = prod (iblk m c 0 t) (iblk m c 1 t) ⟨q.val * 8 + a.val, by omega⟩ l := by rw [h0, h1]; rfl
  have e2 : ∀ k, X2 (ix2 ⟨q.val * 8 + a.val, by omega⟩ k) = (x (ix3 0 ⟨t.val * 512 + (q.val * 8 + a.val), by have := lt16 t; omega⟩ k) : EReal) := fun k => by
    rw [h2, blk2, hx]
  rw [e, cotangent]
  simp only [e2]
  rw [Rms.inv_coe fun k => x (ix3 0 ⟨t.val * 512 + (q.val * 8 + a.val), by have := lt16 t; omega⟩ k)]
  rfl

/-- The first point stores its part, -/
theorem first (t : Fin cfg0.N) (h0 : t.val % 16 = 0) (a : Fin 8) (l : Fin 1024) :
    (outsAt0 m c t.val t.isLt).2.2 (ix2 a l) = adds x (A2 m c) (A3 m c) l a ⟨t.val, lt16 t⟩ := by
  have ht := lt16 t
  rw [outsAt0_A m c t h0 (by omega) (by omega)]
  frame_out
  open_payloads; pointwise
  exact partial_gain hx t a l _ _ _ rfl rfl rfl

/-- every other adds its own. -/
theorem step (t : Fin cfg0.N) (h0 : ¬t.val % 16 = 0) (a : Fin 8) (l : Fin 1024) :
    (outsAt0 m c t.val t.isLt).2.2 (ix2 a l)
      = (outsAt0 m c (t.val - 1) (Nat.lt_of_le_of_lt (Nat.sub_le _ _) t.isLt)).2.2 (ix2 a l) + adds x (A2 m c) (A3 m c) l a ⟨t.val, lt16 t⟩ := by
  have ht := lt16 t
  by_cases h1 : t.val % 16 = 15
  · rw [outsAt0_C m c t h0 (by omega) h1]
    generalize (outsAt0 m c (t.val - 1) _).2.2 = Z
    frame_out
    open_payloads; pointwise
    exact congrArg₂ (· + ·) (congrFun ((Memref.isWhole_whole cc0_scratch1).read_unread Z) (ix2 a l)) (partial_gain hx t a l _ _ _ rfl rfl rfl)
  · rw [outsAt0_B m c t h0 (by omega) h1]
    generalize (outsAt0 m c (t.val - 1) _).2.2 = Z
    frame_out
    open_payloads; pointwise
    exact congrArg₂ (· + ·) (congrFun ((Memref.isWhole_whole cc0_scratch1).read_unread Z) (ix2 a l)) (partial_gain hx t a l _ _ _ rfl rfl rfl)

/-- The scratch after a point: the parts of the points so far. -/
theorem carried (a : Fin 8) (l : Fin 1024) (n : ℕ) (hn : n < 16) :
    (outsAt0 m c n hn).2.2 (ix2 a l) = ∑ b ∈ Finset.univ.filter (fun b : Fin 16 => b.val ≤ n), adds x (A2 m c) (A3 m c) l a b :=
  Rms.total (N := 16) (f := fun n hn => (outsAt0 m c n hn).2.2 (ix2 a l)) (fun _ => first hx ⟨0, by decide⟩ rfl a l)
    (fun n hn => step hx ⟨n + 1, hn⟩ (by show ¬(n + 1) % 16 = 0; omega) a l) n hn

/-- The last point adds the eight rows up. -/
theorem left6 (t : Fin cfg0.N) (h1 : t.val % 16 = 15) (y : Fin 1) (l : Fin 1024) :
    (outsAt0 m c t.val t.isLt).2.1 (ix2 y l) = val_main_v26 (F := Ideal) (A0 m c) (A2 m c) (A3 m c) (ix2 y l) := by
  have ht := lt16 t
  have e : (outsAt0 m c t.val t.isLt).2.1 (ix2 y l) = ∑ a : Fin 8, (outsAt0 m c t.val t.isLt).2.2 (ix2 a l) := by
    simp only [fun a => step hx t (by omega) a l]
    rw [outsAt0_C m c t (by omega) (by omega) h1]
    generalize (outsAt0 m c (t.val - 1) _).2.2 = Z
    frame_out
    open_payloads; pointwise
    exact Finset.sum_congr rfl fun a _ => congrArg₂ (· + ·) (congrFun ((Memref.isWhole_whole cc0_scratch1).read_unread Z) (ix2 a l)) (partial_gain hx t a l _ _ _ rfl rfl rfl)
  have eu : (Finset.univ.filter fun b : Fin 16 => b.val ≤ t.val) = Finset.univ := by
    ext b
    simp only [Finset.mem_filter, Finset.mem_univ, true_and, iff_true]
    omega
  rw [e, hx, Cert.RmsBwdRefIdeal.Norm.gain]
  simp only [fun a => carried hx a l t.val ht, eu]
  exact Rms.sum_rows (part x (A2 m c) (A3 m c) l)

/-- Each point leaves its rows' gradient. -/
theorem left5 {d : S1x8192x1024.Idx → ℝ} (hd : val_main_v19 (F := Ideal) (A2 m c) (A3 m c) = fun i => (d i : EReal)) {g : S1x1024.Idx → ℝ} (hg : A1 m c = fun i => (g i : EReal))
    {h : S1x8192x1024.Idx → ℝ} (hh : A4 m c = fun i => (h i : EReal)) (t : Fin cfg0.N) (a : Fin 512) (l : Fin 1024) :
    (outsAt0 m c t.val t.isLt).1 (ix2 a l)
      = val_main_v43 (F := Ideal) (A0 m c) (A1 m c) (A2 m c) (A3 m c) (A4 m c) (ix2 ⟨t.val * 512 + a, by have := lt16 t; omega⟩ l) := by
  have ht := lt16 t
  have key := entry (iblk m c 0 t) (iblk m c 1 t) (iblk m c 2 t) (iblk m c 3 t) (iblk m c 4 t) a l (fun k => x (ix3 0 ⟨t.val * 512 + a, by omega⟩ k))
    (fun k => d (ix3 0 ⟨t.val * 512 + a, by omega⟩ k)) (fun k => g (ix2 0 k)) (h (ix3 0 ⟨t.val * 512 + a, by omega⟩ l))
    (fun k => (cotangent m c t a k).trans (congrFun hd _)) (fun k => (blk2 m c t a k).trans (congrFun hx _)) (fun k => (blk3 m c t 0 k).trans (congrFun hg _))
    ((blk4 m c t a l).trans (congrFun hh _))
  rw [hx, hg, hh, Cert.RmsBwdRefIdeal.Norm.dx x g _ _ d hd h]
  by_cases h0 : t.val % 16 = 0
  · rw [outsAt0_A m c t h0 (by omega) (by omega)]
    frame_out
    open_payloads; pointwise
    exact key
  · by_cases h1 : t.val % 16 = 15
    · rw [outsAt0_C m c t h0 (by omega) h1]
      generalize (outsAt0 m c (t.val - 1) _).2.2 = Z
      frame_out
      open_payloads; pointwise
      exact key
    · rw [outsAt0_B m c t h0 (by omega) h1]
      generalize (outsAt0 m c (t.val - 1) _).2.2 = Z
      frame_out
      open_payloads; pointwise
      exact key

/-- The rows' gradients are the reference's. -/
theorem final5 {d : S1x8192x1024.Idx → ℝ} (hd : val_main_v19 (F := Ideal) (A2 m c) (A3 m c) = fun i => (d i : EReal)) {g : S1x1024.Idx → ℝ} (hg : A1 m c = fun i => (g i : EReal))
    {h : S1x8192x1024.Idx → ℝ} (hh : A4 m c = fun i => (h i : EReal)) :
    (dats m 0 c).arrAt 5 (cfgs 0).N = val_main_v43 (F := Ideal) (A0 m c) (A1 m c) (A2 m c) (A3 m c) (A4 m c) := by
  refine (dats m 0 c).arrAt_eq_of_covers 5 _ (by decide +kernel) fun t hf y => ?_
  blk_simp
  rw [after0_5]
  have ht := lt16 t
  idx_vars y
  have e : ((View.whole main_v16_0).slice (win0_5.rect t)).emb (ix2 y0 y1) = ix2 ⟨t.val * 512 + y0, by omega⟩ y1 := by blk_ext [idx t]
  rw [e]
  exact left5 hx hd hg hh t y0 y1

omit hx in
/-- The gain's gradient is written back after the last point. -/
theorem flush6 : ∀ t : Fin cfg0.N, (cfg0.win 6).flush t = true → t.val % 16 = 15 := (by decide +kernel : ∀ t : Fin grid0.N, _)

/-- The gain's gradient is the reference's. -/
theorem final6 : (dats m 0 c).arrAt 6 (cfgs 0).N = val_main_v26 (F := Ideal) (A0 m c) (A2 m c) (A3 m c) := by
  refine (dats m 0 c).arrAt_eq_of_covers 6 _ (by decide +kernel) fun t hf y => ?_
  have h15 := flush6 t hf
  blk_simp
  rw [after0_6]
  idx_vars y
  have e : ((View.whole main_v16_1).slice (win0_6.rect t)).emb (ix2 y0 y1) = ix2 y0 y1 := by blk_ext [idx t]
  rw [e]
  exact left6 hx t h15 y0 y1

end Arrays

end Cert.RmsBwdIdeal.Grad

end
-- ==== Proof.RmsClaims.lean ====
module

public import proofs.«01_k».proof.Defs
public import proofs.«01_k».proof.Proof.Gen.RmsBwd
public import proofs.«01_k».proof.Proof.Gen.RmsBwd.Frame
public import proofs.«01_k».proof.Proof.Gen.RmsBwdIdeal.Frame
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.Pre_finite_rms
public import proofs.«01_k».proof.Proof.RmsValue
public import Idealize.ShloMosaic.Lib.Claim
public import Idealize.ShloMosaic.Adequacy
public import Idealize.ShloMosaic.Init

/-! # The claims about the first norm's gradient -/

@[expose] public section

noncomputable section

namespace Cert.Proof

open Idealize.ShloMosaic Idealize.SL.Sem

/-- The program of the first norm's gradient runs to its end and leaves its arguments alone. -/
theorem rms_frame : Cert.quiescent_RmsBwd (hRmsBwd := Cert.RmsBwd.Gen.facts) := fun m ρ _ => Cert.RmsBwd.Gen.frame m ρ

/-- So does its ideal reading, -/
theorem rms_frame_ideal : Cert.quiescent_RmsBwdIdeal (hRmsBwdIdeal := Cert.RmsBwdIdeal.Gen.facts) := fun m ρ _ => Cert.RmsBwdIdeal.Gen.frame m ρ

/-- with the precondition too. -/
theorem rms_frame_pre : Cert.quiescent_RmsBwdIdeal_pre_finite_rms (hRmsBwdIdeal := Cert.RmsBwdIdeal.Gen.facts) (hPre_finite_rms := Cert.Pre_finite_rms.Gen.facts) :=
  fun m ρ _ => Cert.RmsBwdIdeal.Gen.frame m ρ

/-- The reference runs to its end. -/
theorem rms_ref : Cert.quiescent_RmsBwdRefIdeal (hRmsBwdRefIdeal := Cert.RmsBwdRefIdeal.Gen.facts) := by
  intro m g _
  exact (θ_run Cert.RmsBwdRefIdeal.defs _ _).mono (fun r h => ⟨fun c => (h c).2.2, sem_eq_zero_of_no_sems (by decide) r.2⟩)
    (Cert.RmsBwdRefIdeal.Value.run m g)

/-- with the precondition too. -/
theorem rms_ref_pre : Cert.quiescent_RmsBwdRefIdeal_pre_finite_rms (hRmsBwdRefIdeal := Cert.RmsBwdRefIdeal.Gen.facts) (hPre_finite_rms := Cert.Pre_finite_rms.Gen.facts) :=
  fun m g _ => rms_ref m g trivial

/-- Over the reals the kernel's results are the reference's. -/
theorem rms_value : Cert.algebraic_RmsBwdIdeal_RmsBwdRefIdeal_pre_finite_rms (hRmsBwdIdeal := Cert.RmsBwdIdeal.Gen.facts)
    (hRmsBwdRefIdeal := Cert.RmsBwdRefIdeal.Gen.facts) (hPre_finite_rms := Cert.Pre_finite_rms.Gen.facts) := by
  intro m g m' g' hpre hagree
  refine ⟨fun c => Cert.RmsBwdRefIdeal.Read.val_main_v43 (F := Ideal) (m ((c.tc : Thread _ _).loc Cert.RmsBwdIdeal.main_arg0)) (m ((c.tc : Thread _ _).loc Cert.RmsBwdIdeal.main_arg1)) (m ((c.tc : Thread _ _).loc Cert.RmsBwdIdeal.main_arg2)) (m ((c.tc : Thread _ _).loc Cert.RmsBwdIdeal.main_arg3)) (m ((c.tc : Thread _ _).loc Cert.RmsBwdIdeal.main_arg4)),
    fun c => Cert.RmsBwdRefIdeal.Read.val_main_v26 (F := Ideal) (m ((c.tc : Thread _ _).loc Cert.RmsBwdIdeal.main_arg0)) (m ((c.tc : Thread _ _).loc Cert.RmsBwdIdeal.main_arg2)) (m ((c.tc : Thread _ _).loc Cert.RmsBwdIdeal.main_arg3)), ?_, ?_⟩
  · refine (θ_run Cert.RmsBwdIdeal.defs _ _).mono (fun r h c => ⟨(h c).1.trans ?_, (h c).2.1.trans ?_, (h c).2.2⟩)
      (Cert.RmsBwdIdeal.Value.run_blocks (F := Ideal) m g)
    all_goals
      have hp := hpre c
      obtain ⟨x, hx⟩ := Reals.all_real _ _ hp.1
    · obtain ⟨g, hg⟩ := Reals.all_real _ _ hp.2.1
      obtain ⟨d, hd⟩ := Cert.RmsBwdRefIdeal.Norm.real_cotangent (Reals.all_real _ _ hp.2.2.1) (Reals.all_real _ _ hp.2.2.2.1)
      obtain ⟨h, hh⟩ := Reals.all_real _ _ hp.2.2.2.2
      exact Cert.RmsBwdIdeal.Grad.final5 hx hd hg hh
    · exact Cert.RmsBwdIdeal.Grad.final6 hx
  · refine (θ_run Cert.RmsBwdRefIdeal.defs _ _).mono (fun r h c => ⟨(h c).1.trans ?_, (h c).2.1.trans ?_, (h c).2.2⟩)
      (Cert.RmsBwdRefIdeal.Value.run (F := Ideal) m' g')
    · refine (Cert.RmsBwdRefIdeal.Read.val_main_v43_eq (F := Ideal) m' c).trans ?_
      obtain ⟨h0, h1, h2, h3, h4⟩ := hagree c
      rw [h0, h1, h2, h3, h4]
    · refine (Cert.RmsBwdRefIdeal.Read.val_main_v26_eq (F := Ideal) _ _ _).trans ?_
      obtain ⟨h0, h1, h2, h3, h4⟩ := hagree c
      rw [h0, h2, h3]

end Cert.Proof

end
-- ==== Proof.LossRef.lean ====
module

public import proofs.«01_k».proof.Proof.RmsMath
public import proofs.«01_k».proof.Proof.RealOps
public import proofs.«01_k».proof.Proof.Gen.FinalLossRefIdeal.Read
public import Idealize.ShloMosaic.Lib.ValueIdx

/-! # The loss and its gradients in the reference, entry by entry -/

@[expose] public section

set_option maxRecDepth 16384

noncomputable section

namespace Cert.FinalLossRefIdeal.Loss

open Cert.FinalLossRefIdeal Cert.FinalLossRefIdeal.Gen Cert.FinalLossRefIdeal.Read Idealize.ShloMosaic Idealize.ShloMosaic.TcCoe Idealize.SL.Sem
open Cert.Reals

theorem ofBits_two : Ideal.ofBits .f32 0x40000000#32 = ((2 : ℝ) : EReal) := by
  simp [Ideal.ofBits, Ideal.ieee]
  rw [← EReal.coe_mul]
  norm_num

theorem ofBits_half : Ideal.ofBits .f32 0x3F000000#32 = ((1 / 2 : ℝ) : EReal) := by
  simp [Ideal.ofBits, Ideal.ieee]
  rw [← EReal.coe_mul]
  norm_num

/-- A sum over the first and the last axis, both of size one. -/
theorem unit_last (x : FVec Ideal S1x8192x1 .f32) (r : Fin 8192) :
    Ideal.hostReduceAdd reducesTo_S1x8192x1_S8192_d0_2 x 0 (ix1 r) = x (ix3 0 r 0) := by
  rw [reduceAdd_unit _ x 0 (ix1 r) (ix3 0 r 0) (by idx_ext) fun y hy => ?_, zero_add]
  idx_vars y
  obtain rfl : y0 = 0 := Subsingleton.elim _ _
  obtain rfl : y2 = 0 := Subsingleton.elim _ _
  rw [show reducesTo_S1x8192x1_S8192_d0_2.drop (ix3 0 y1 0) = ix1 y1 by idx_ext] at hy
  obtain rfl : y1 = r := congrFun hy 0
  rfl

/-- A sum over the first two axes, both of size one. -/
theorem unit_first (x : FVec Ideal S1x1x1024 .f32) (l : Fin 1024) :
    Ideal.hostReduceAdd reducesTo_S1x1x1024_S1024_d0_1 x 0 (ix1 l) = x (ix3 0 0 l) := by
  rw [reduceAdd_unit _ x 0 (ix1 l) (ix3 0 0 l) (by idx_ext) fun y hy => ?_, zero_add]
  idx_vars y
  obtain rfl : y0 = 0 := Subsingleton.elim _ _
  obtain rfl : y1 = 0 := Subsingleton.elim _ _
  rw [show reducesTo_S1x1x1024_S1024_d0_1.drop (ix3 0 0 y2) = ix1 y2 by idx_ext] at hy
  obtain rfl : y2 = l := congrFun hy 0
  rfl

/-- The last layer's output is real where its operands are. -/
theorem real_output {x0 : FVec Ideal S1x8192x2816 .f32} {x1 : FVec Ideal S1x2816x1024 .f32} {x2 : FVec Ideal S1x8192x1024 .f32}
    (h0 : AllReal x0) (h1 : AllReal x1) (h2 : AllReal x2) : AllReal (val_main_v2 (F := Ideal) x0 x1 x2) := by
  obtain ⟨a, rfl⟩ := h0
  obtain ⟨w, rfl⟩ := h1
  obtain ⟨h, rfl⟩ := h2
  refine ⟨fun i => h (ix3 0 (i 1) (i 2)) + ∑ j : Fin 2816, a (ix3 0 (i 1) j) * w (ix3 0 j (i 2)), funext fun i => ?_⟩
  idx_vars i
  obtain rfl : i0 = 0 := Subsingleton.elim _ _
  pointwise [val_main_v2, val_main_v1, val_main_v0]
  simp only [← EReal.coe_mul, ← coe_sum, ← EReal.coe_add]

/-- The error of an entry: the normed output times the gain, the target taken away. -/
def err (z t : S1x8192x1024.Idx → ℝ) (g : S1024.Idx → ℝ) (r : Fin 8192) (k : Fin 1024) : ℝ :=
  z (ix3 0 r k) * Rms.inv (fun k => z (ix3 0 r k)) * g (ix1 k) - t (ix3 0 r k)

section Output

variable {x0 : FVec Ideal S1x8192x2816 .f32} {x1 : FVec Ideal S1x2816x1024 .f32} {x2 : FVec Ideal S1x8192x1024 .f32}
  {z : S1x8192x1024.Idx → ℝ} (hz : val_main_v2 (F := Ideal) x0 x1 x2 = fun i => (z i : EReal)) (t : S1x8192x1024.Idx → ℝ) (g : S1024.Idx → ℝ)

include hz

/-- A row's mean square, -/
theorem v9 (r : Fin 8192) : val_main_v9 (F := Ideal) x0 x1 x2 (ix3 0 r 0) = ((Rms.ms fun k => z (ix3 0 r k) : ℝ) : EReal) := by
  pointwise [val_main_v9, val_main_v8, val_main_v7, val_main_v6, val_main_v5, val_main_v4, val_main_v3, val_main_cst, val_main_cst_0, val_main_cst_1]
  rw [hz]
  exact Rms.ms_coe fun k => z (ix3 0 r k)

/-- and what scales the row. -/
theorem v10 (r : Fin 8192) : val_main_v10 (F := Ideal) x0 x1 x2 (ix3 0 r 0) = ((Rms.inv fun k => z (ix3 0 r k) : ℝ) : EReal) := by
  rw [val_main_v10, Host.rsqrt]
  exact (congrArg Ideal.rsqrt (v9 hz r)).trans (Rms.rsqrt_ms _)

/-- The normed output. -/
theorem v15 (r : Fin 8192) (k : Fin 1024) :
    val_main_v15 (F := Ideal) x0 x1 x2 (ix3 0 r k) = ((z (ix3 0 r k) * Rms.inv fun k => z (ix3 0 r k) : ℝ) : EReal) := by
  pointwise [val_main_v15, val_main_v14]
  rw [v10 hz, hz, ← EReal.coe_mul]

/-- The error. -/
theorem v19 (r : Fin 8192) (k : Fin 1024) :
    val_main_v19 (F := Ideal) x0 x1 x2 (fun i => (t i : EReal)) (fun i => (g i : EReal)) (ix3 0 r k) = ((err z t g r k : ℝ) : EReal) := by
  pointwise [val_main_v19, val_main_v18, val_main_v17, val_main_v16]
  rw [v15 hz, ← EReal.coe_mul, ← EReal.coe_sub]
  rfl

/-- The loss's gradient by the normed output times the gain. -/
theorem v33 (r : Fin 8192) (k : Fin 1024) :
    val_main_v33 (F := Ideal) x0 x1 x2 (fun i => (t i : EReal)) (fun i => (g i : EReal)) (ix3 0 r k) = ((err z t g r k / 1024 : ℝ) : EReal) := by
  pointwise [val_main_v33, val_main_v32, val_main_v31, val_main_v30, val_main_v29, val_main_v28, val_main_v22, val_main_v21, val_main_cst_3, val_main_cst_8, val_main_cst_9, val_main_cst_10]
  rw [v19 hz, ofBits_half, ofBits_two, Rms.ofBits_1024, ← EReal.coe_mul, div_real _ (by norm_num : (1024 : ℝ) ≠ 0), ← EReal.coe_mul]
  exact congrArg _ (by ring)

/-- The gradient through the row's scale. -/
theorem v50 (r : Fin 8192) (l : Fin 1024) :
    val_main_v50 (F := Ideal) x0 x1 x2 (fun i => (t i : EReal)) (fun i => (g i : EReal)) (ix3 0 r l)
      = (((∑ k, z (ix3 0 r k) * (err z t g r k / 1024 * g (ix1 k))) * (-1 / 2 * (Rms.inv (fun k => z (ix3 0 r k)) / Rms.ms fun k => z (ix3 0 r k))) / 1024 : ℝ) : EReal) := by
  have e : val_main_v41 (F := Ideal) x0 x1 x2 (fun i => (t i : EReal)) (fun i => (g i : EReal)) (ix2 0 r)
      = ((∑ k, z (ix3 0 r k) * (err z t g r k / 1024 * g (ix1 k)) : ℝ) : EReal) := by
    pointwise [val_main_v41, val_main_v40, val_main_v38, val_main_v37, val_main_v16, val_main_cst_13]
    simp only [v33 hz, hz, ← EReal.coe_mul, ← coe_sum]
  pointwise [val_main_v50, val_main_v49, val_main_v48, val_main_cst_15]
  rw [unit_last]
  pointwise [val_main_v47, val_main_v46, val_main_v45, val_main_v42, val_main_v13, val_main_v12, val_main_v11, val_main_cst_2, val_main_cst_14]
  rw [e, v9 hz, v10 hz, Rms.ofBits_1024, Rms.ofBits_neg_half, div_real _ (Rms.ms_pos _).ne', ← EReal.coe_mul, ← EReal.coe_mul, div_real _ (by norm_num : (1024 : ℝ) ≠ 0)]

/-- The loss's gradient by the last layer's output. -/
theorem output (r : Fin 8192) (l : Fin 1024) :
    val_main_v56 (F := Ideal) x0 x1 x2 (fun i => (t i : EReal)) (fun i => (g i : EReal)) (ix2 r l)
      = ((Rms.dx (fun k => z (ix3 0 r k)) (fun k => err z t g r k / 1024 * g (ix1 k)) l : ℝ) : EReal) := by
  pointwise [val_main_v56, val_main_v54, val_main_v53, val_main_v52, val_main_v51, val_main_v44, val_main_v43, val_main_v38, val_main_v37, val_main_v16]
  rw [v50 hz, v10 hz, v33 hz, hz]
  simp only [← EReal.coe_mul, ← EReal.coe_add]
  have e := Rms.dx_eq (fun k => z (ix3 0 r k)) (fun k => err z t g r k / 1024 * g (ix1 k)) l 0
  rw [zero_add, add_zero] at e
  exact congrArg _ e

/-- The loss's gradient by the gain. -/
theorem gain (y : Fin 1) (l : Fin 1024) :
    val_main_v57 (F := Ideal) x0 x1 x2 (fun i => (t i : EReal)) (fun i => (g i : EReal)) (ix2 y l)
      = ∑ r : Fin 8192, (((err z t g r l / 1024) * (z (ix3 0 r l) * Rms.inv fun k => z (ix3 0 r k)) : ℝ) : EReal) := by
  pointwise [val_main_v57, val_main_v39, val_main_cst_12]
  rw [unit_first]
  pointwise [val_main_v36, val_main_v35, val_main_v34, val_main_cst_11]
  simp only [v33 hz, v15 hz, ← EReal.coe_mul, mul_comm]

/-- The loss: half the mean square of the errors' rows, added up. -/
theorem loss (y : Fin 1) (l : Fin 128) :
    val_main_v55 (F := Ideal) x0 x1 x2 (fun i => (t i : EReal)) (fun i => (g i : EReal)) (ix2 y l)
      = (((∑ k : Fin 1024, ∑ r : Fin 8192, err z t g r k * err z t g r k) / 2048 : ℝ) : EReal) := by
  have e : ∀ r : Fin 8192, val_main_v25 (F := Ideal) x0 x1 x2 (fun i => (t i : EReal)) (fun i => (g i : EReal)) (ix2 0 r)
      = (((∑ k, err z t g r k * err z t g r k) / 1024 : ℝ) : EReal) := fun r => by
    pointwise [val_main_v25, val_main_v24, val_main_v23, val_main_v20, val_main_cst_4, val_main_cst_5]
    simp only [v19 hz, ← EReal.coe_mul, ← coe_sum]
    rw [Rms.ofBits_1024, div_real _ (by norm_num : (1024 : ℝ) ≠ 0)]
  pointwise [val_main_v55, val_main_v27, val_main_v26, val_main_cst_6, val_main_cst_7]
  rw [Fin.sum_univ_one]
  simp only [e, ofBits_half, ← coe_sum, ← EReal.coe_mul]
  rw [← Finset.sum_div, Finset.sum_comm]
  exact congrArg _ (by ring)

end Output

end Cert.FinalLossRefIdeal.Loss

end
-- ==== Proof.LossValue.lean ====
module

public import proofs.«01_k».proof.Proof.LossRef
public import proofs.«01_k».proof.Proof.Gen.FinalLossIdeal.Value
public import Idealize.ShloMosaic.Lib.Pipeline.ValueKit

/-! # The last product, the loss and its gradient

A grid point takes 512 rows: the last product added to the residual, the norm, the error against the target, and the
derivative along each row. Two scratches add up, in eight rows each, the squares of the errors and the rows' parts of the
gain's gradient; the last point adds the eight rows up and writes the loss and the gain's gradient. -/

@[expose] public section

set_option maxRecDepth 16384

noncomputable section

namespace Cert.FinalLossIdeal.Grad

open Cert.FinalLossIdeal Cert.FinalLossIdeal.Gen Idealize.ShloMosaic Idealize.ShloMosaic.TcCoe Idealize.SL.Sem
open Idealize.ShloMosaic.Pipeline (Dat)
open Cert.Reals
open Cert.FinalLossRefIdeal.Read (val_main_v2 val_main_v55 val_main_v56 val_main_v57)
open Cert.FinalLossRefIdeal.Loss (err)

variable (m : (ℓ : Loc nD τ sig) → Buf (Elt Ideal) ℓ)

theorem lt16 (t : Fin cfg0.N) : t.val < 16 := t.isLt

/-- The block each point takes of each array. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0] :=
  (by decide +kernel : ∀ t : Fin grid0.N, _)

/-- The activations, -/
abbrev A0 (c : Dev nD) : FVec Ideal S1x8192x2816 .f32 := m ((c : Thread nD τ).loc main_arg0)
/-- the weight, -/
abbrev A1 (c : Dev nD) : FVec Ideal S1x2816x1024 .f32 := m ((c : Thread nD τ).loc main_arg1)
/-- the residual, -/
abbrev A2 (c : Dev nD) : FVec Ideal S1x8192x1024 .f32 := m ((c : Thread nD τ).loc main_arg2)
/-- the target, -/
abbrev A3 (c : Dev nD) : FVec Ideal S1x8192x1024 .f32 := m ((c : Thread nD τ).loc main_arg3)
/-- the norm's gain. -/
abbrev A4 (c : Dev nD) : FVec Ideal S1024 .f32 := m ((c : Thread nD τ).loc main_arg4)

theorem ofBits_1024th : Ideal.ofBits .f32 0x3A800000#32 = ((1 / 1024 : ℝ) : EReal) := by
  simp [Ideal.ofBits, Ideal.ieee]
  rw [← EReal.coe_mul]
  norm_num

theorem ofBits_2048th : Ideal.ofBits .f32 0x3A000000#32 = ((1 / 2048 : ℝ) : EReal) := by
  simp [Ideal.ofBits, Ideal.ieee]
  rw [← EReal.coe_mul]
  norm_num

/-! What each window holds. -/

theorem blk0 (c : Dev nD) (t : Fin cfg0.N) (a : Fin 512) (j : Fin 2816) :
    iblk m c 0 t (ix2 a j) = A0 m c (ix3 0 ⟨t.val * 512 + a, by have := lt16 t; omega⟩ j) := by
  blk_simp [iblk]
  entry_read
  pointwise
  blk_ext [iblk, V, idx t]

theorem blk1 (c : Dev nD) (t : Fin cfg0.N) (j : Fin 2816) (k : Fin 1024) :
    iblk m c 1 t (ix2 j k) = A1 m c (ix3 0 j k) := by
  blk_simp [iblk]
  entry_read
  pointwise
  blk_ext [iblk, V, idx t]

theorem blk2 (c : Dev nD) (t : Fin cfg0.N) (a : Fin 512) (k : Fin 1024) :
    iblk m c 2 t (ix2 a k) = A2 m c (ix3 0 ⟨t.val * 512 + a, by have := lt16 t; omega⟩ k) := by
  blk_simp [iblk]
  entry_read
  pointwise
  blk_ext [iblk, V, idx t]

theorem blk3 (c : Dev nD) (t : Fin cfg0.N) (a : Fin 512) (k : Fin 1024) :
    iblk m c 3 t (ix2 a k) = A3 m c (ix3 0 ⟨t.val * 512 + a, by have := lt16 t; omega⟩ k) := by
  blk_simp [iblk]
  entry_read
  pointwise
  blk_ext [iblk, V, idx t]

theorem blk4 (c : Dev nD) (t : Fin cfg0.N) (a : Fin 1) (k : Fin 1024) :
    iblk m c 4 t (ix2 a k) = A4 m c (ix1 k) := by
  blk_simp [iblk]
  entry_read
  pointwise
  blk_ext [iblk, V, idx t]

/-- An entry of a block's product, the residual added. -/
def prod (X0 : S512x2816.Idx → EReal) (X1 : S2816x1024.Idx → EReal) (X2 : S512x1024.Idx → EReal) (a : Fin 512) (k : Fin 1024) : EReal :=
  ∑ j : Fin 2816, X0 (ix2 a j) * X1 (ix2 j k) + X2 (ix2 a k)

/-- The last layer's output. -/
theorem output (c : Dev nD) (t : Fin cfg0.N) (a : Fin 512) (k : Fin 1024) :
    prod (iblk m c 0 t) (iblk m c 1 t) (iblk m c 2 t) a k
      = val_main_v2 (F := Ideal) (A0 m c) (A1 m c) (A2 m c) (ix3 0 ⟨t.val * 512 + a, by have := lt16 t; omega⟩ k) := by
  unfold prod
  simp only [blk0, blk1, blk2]
  pointwise [val_main_v2, Cert.FinalLossRefIdeal.Read.val_main_v1, Cert.FinalLossRefIdeal.Read.val_main_v0]
  exact add_comm _ _

/-- The square of an error, as a point computes it. -/
theorem square (X0 : S512x2816.Idx → EReal) (X1 : S2816x1024.Idx → EReal) (X2 X3 : S512x1024.Idx → EReal) (X4 : S1x1024.Idx → EReal)
    (a : Fin 512) (l : Fin 1024) (z t g : Fin 1024 → ℝ) (hz : ∀ k, ∑ j, X0 (ix2 a j) * X1 (ix2 j k) + X2 (ix2 a k) = (z k : EReal)) (ht : ∀ k, X3 (ix2 a k) = (t k : EReal))
    (hg : ∀ k, X4 (ix2 0 k) = (g k : EReal)) :
    ((∑ j, X0 (ix2 a j) * X1 (ix2 j l) + X2 (ix2 a l)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32) * X4 (ix2 0 l) - X3 (ix2 a l))
      * ((∑ j, X0 (ix2 a j) * X1 (ix2 j l) + X2 (ix2 a l)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32) * X4 (ix2 0 l) - X3 (ix2 a l))
      = (((z l * Rms.inv z * g l - t l) * (z l * Rms.inv z * g l - t l) : ℝ) : EReal) := by
  simp only [hz, ht, hg, Rms.inv_coe z]
  simp only [← EReal.coe_mul, ← EReal.coe_sub]

/-- A row's part of the gain's gradient, as a point computes it. -/
theorem gain_entry (X0 : S512x2816.Idx → EReal) (X1 : S2816x1024.Idx → EReal) (X2 X3 : S512x1024.Idx → EReal) (X4 : S1x1024.Idx → EReal)
    (a : Fin 512) (l : Fin 1024) (z t g : Fin 1024 → ℝ) (hz : ∀ k, ∑ j, X0 (ix2 a j) * X1 (ix2 j k) + X2 (ix2 a k) = (z k : EReal)) (ht : ∀ k, X3 (ix2 a k) = (t k : EReal))
    (hg : ∀ k, X4 (ix2 0 k) = (g k : EReal)) :
    (((∑ j, X0 (ix2 a j) * X1 (ix2 j l) + X2 (ix2 a l)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32) * X4 (ix2 0 l) - X3 (ix2 a l)) * Ideal.ofBits FTy.f32 0x3A800000#32)
      * ((∑ j, X0 (ix2 a j) * X1 (ix2 j l) + X2 (ix2 a l)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32))
      = (((z l * Rms.inv z * g l - t l) / 1024 * (z l * Rms.inv z) : ℝ) : EReal) := by
  simp only [hz, ht, hg, Rms.inv_coe z, ofBits_1024th]
  simp only [← EReal.coe_mul, ← EReal.coe_sub]
  exact congrArg _ (by ring)

/-- A row's entry of the output's gradient, as a point computes it. -/
theorem entry (X0 : S512x2816.Idx → EReal) (X1 : S2816x1024.Idx → EReal) (X2 X3 : S512x1024.Idx → EReal) (X4 : S1x1024.Idx → EReal)
    (a : Fin 512) (l : Fin 1024) (z t g : Fin 1024 → ℝ) (hz : ∀ k, ∑ j, X0 (ix2 a j) * X1 (ix2 j k) + X2 (ix2 a k) = (z k : EReal)) (ht : ∀ k, X3 (ix2 a k) = (t k : EReal))
    (hg : ∀ k, X4 (ix2 0 k) = (g k : EReal)) :
    Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32)
      * ((((∑ j, X0 (ix2 a j) * X1 (ix2 j l) + X2 (ix2 a l)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32) * X4 (ix2 0 l) - X3 (ix2 a l)) * Ideal.ofBits FTy.f32 0x3A800000#32) * X4 (ix2 0 l)
        - ((∑ j, X0 (ix2 a j) * X1 (ix2 j l) + X2 (ix2 a l)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32))
          * Ideal.div (∑ k, (((∑ j, X0 (ix2 a j) * X1 (ix2 j k) + X2 (ix2 a k)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32) * X4 (ix2 0 k) - X3 (ix2 a k)) * Ideal.ofBits FTy.f32 0x3A800000#32) * X4 (ix2 0 k)
              * ((∑ j, X0 (ix2 a j) * X1 (ix2 j k) + X2 (ix2 a k)) * Ideal.rsqrt (Ideal.div (∑ k, (∑ j, X0 (ix2 a j) * X1 (ix2 j k) + X2 (ix2 a k)) * (∑ j, X0 (ix2 a j) * X1 (ix2 j k) + X2 (ix2 a k))) (Ideal.ofBits FTy.f32 0x44800000#32) + Ideal.ofBits FTy.f32 0x358637BD#32)))
            (Ideal.ofBits FTy.f32 0x44800000#32))
      = ((Rms.dx z (fun k => (z k * Rms.inv z * g k - t k) / 1024 * g k) l : ℝ) : EReal) := by
  have key := Rms.dx_coe z (fun k => (z k * Rms.inv z * g k - t k) / 1024) g 0 l
  rw [EReal.coe_zero, add_zero, add_zero] at key
  rw [← key]
  have e : ∀ k, ((z k * Rms.inv z * g k - t k : ℝ) : EReal) * ((1 / 1024 : ℝ) : EReal) = (((z k * Rms.inv z * g k - t k) / 1024 : ℝ) : EReal) := fun k => by
    rw [← EReal.coe_mul]
    exact congrArg _ (by ring)
  have e' : ∀ k, (z k : EReal) * (Rms.inv z : EReal) * (g k : EReal) - (t k : EReal) = ((z k * Rms.inv z * g k - t k : ℝ) : EReal) := fun k => by
    rw [← EReal.coe_mul, ← EReal.coe_mul, ← EReal.coe_sub]
  simp only [hz, ht, hg, Rms.inv_coe z, ofBits_1024th, e', e]

/-- A row's square of the error, -/
def sqr (z t : S1x8192x1024.Idx → ℝ) (g : S1024.Idx → ℝ) (l : Fin 1024) (r : Fin 8192) : EReal := ((err z t g r l * err z t g r l : ℝ) : EReal)

/-- and its part of the gain's gradient. -/
def part (z t : S1x8192x1024.Idx → ℝ) (g : S1024.Idx → ℝ) (l : Fin 1024) (r : Fin 8192) : EReal :=
  (((err z t g r l / 1024) * (z (ix3 0 r l) * Rms.inv fun k => z (ix3 0 r k)) : ℝ) : EReal)

/-- What point `b` adds to a scratch's row `a`. -/
def adds (f : Fin 8192 → EReal) (a : Fin 8) (b : Fin 16) : EReal := ∑ q : Fin 64, f ⟨b.val * 512 + (q.val * 8 + a.val), by omega⟩

section Arrays

variable {m} {c : Dev nD} {z t : S1x8192x1024.Idx → ℝ} {g : S1024.Idx → ℝ} (hz : val_main_v2 (F := Ideal) (A0 m c) (A1 m c) (A2 m c) = fun i => (z i : EReal))
  (ht : A3 m c = fun i => (t i : EReal)) (hg : A4 m c = fun i => (g i : EReal))

include hz ht hg

/-- The squares that a point adds. -/
theorem adds_square (s : Fin cfg0.N) (a : Fin 8) (l : Fin 1024) (X0 : S512x2816.Idx → EReal) (X1 : S2816x1024.Idx → EReal) (X2 X3 : S512x1024.Idx → EReal) (X4 : S1x1024.Idx → EReal)
    (h0 : X0 = iblk m c 0 s) (h1 : X1 = iblk m c 1 s) (h2 : X2 = iblk m c 2 s) (h3 : X3 = iblk m c 3 s) (h4 : X4 = iblk m c 4 s) :
    ∑ q : Fin 64, ((∑ j, X0 (ix2 ⟨q.val * 8 + a.val, by omega⟩ j) * X1 (ix2 j l) + X2 (ix2 ⟨q.val * 8 + a.val, by omega⟩ l)) * Ideal.rsqrt (Ideal.div (∑ k, (∑ j, X0 (ix2 ⟨q.val * 8 + a.val, by omega⟩ j) * X1 (ix2 j k) + X2 (ix2 ⟨q.val * 8 + a.val, by omega⟩ k)) * (∑ j, X0 (ix2 ⟨q.val * 8 + a.val, by omega⟩ j) * X1 (ix2 j k) + X2 (ix2 ⟨q.val * 8 + a.val, by omega⟩ k))) (Ideal.ofBits FTy.f32 0x44800000#32) + Ideal.ofBits FTy.f32 0x358637BD#32) * X4 (ix2 0 l) - X3 (ix2 ⟨q.val * 8 + a.val, by omega⟩ l))
        * ((∑ j, X0 (ix2 ⟨q.val * 8 + a.val, by omega⟩ j) * X1 (ix2 j l) + X2 (ix2 ⟨q.val * 8 + a.val, by omega⟩ l)) * Ideal.rsqrt (Ideal.div (∑ k, (∑ j, X0 (ix2 ⟨q.val * 8 + a.val, by omega⟩ j) * X1 (ix2 j k) + X2 (ix2 ⟨q.val * 8 + a.val, by omega⟩ k)) * (∑ j, X0 (ix2 ⟨q.val * 8 + a.val, by omega⟩ j) * X1 (ix2 j k) + X2 (ix2 ⟨q.val * 8 + a.val, by omega⟩ k))) (Ideal.ofBits FTy.f32 0x44800000#32) + Ideal.ofBits FTy.f32 0x358637BD#32) * X4 (ix2 0 l) - X3 (ix2 ⟨q.val * 8 + a.val, by omega⟩ l))
      = adds (sqr z t g l) a ⟨s.val, lt16 s⟩ := by
  subst h0 h1 h2 h3 h4
  have hs := lt16 s
  exact Finset.sum_congr rfl fun q _ => square _ _ _ _ _ _ l (fun k => z (ix3 0 ⟨s.val * 512 + (q.val * 8 + a.val), by omega⟩ k))
    (fun k => t (ix3 0 ⟨s.val * 512 + (q.val * 8 + a.val), by omega⟩ k)) (fun k => g (ix1 k)) (fun k => (output m c s _ k).trans (congrFun hz _))
    (fun k => (blk3 m c s _ k).trans (congrFun ht _)) (fun k => (blk4 m c s 0 k).trans (congrFun hg _))

/-- The parts of the gain's gradient that a point adds. -/
theorem adds_part (s : Fin cfg0.N) (a : Fin 8) (l : Fin 1024) (X0 : S512x2816.Idx → EReal) (X1 : S2816x1024.Idx → EReal) (X2 X3 : S512x1024.Idx → EReal) (X4 : S1x1024.Idx → EReal)
    (h0 : X0 = iblk m c 0 s) (h1 : X1 = iblk m c 1 s) (h2 : X2 = iblk m c 2 s) (h3 : X3 = iblk m c 3 s) (h4 : X4 = iblk m c 4 s) :
    ∑ q : Fin 64, (((∑ j, X0 (ix2 ⟨q.val * 8 + a.val, by omega⟩ j) * X1 (ix2 j l) + X2 (ix2 ⟨q.val * 8 + a.val, by omega⟩ l)) * Ideal.rsqrt (Ideal.div (∑ k, (∑ j, X0 (ix2 ⟨q.val * 8 + a.val, by omega⟩ j) * X1 (ix2 j k) + X2 (ix2 ⟨q.val * 8 + a.val, by omega⟩ k)) * (∑ j, X0 (ix2 ⟨q.val * 8 + a.val, by omega⟩ j) * X1 (ix2 j k) + X2 (ix2 ⟨q.val * 8 + a.val, by omega⟩ k))) (Ideal.ofBits FTy.f32 0x44800000#32) + Ideal.ofBits FTy.f32 0x358637BD#32) * X4 (ix2 0 l) - X3 (ix2 ⟨q.val * 8 + a.val, by omega⟩ l)) * Ideal.ofBits FTy.f32 0x3A800000#32)
        * ((∑ j, X0 (ix2 ⟨q.val * 8 + a.val, by omega⟩ j) * X1 (ix2 j l) + X2 (ix2 ⟨q.val * 8 + a.val, by omega⟩ l)) * Ideal.rsqrt (Ideal.div (∑ k, (∑ j, X0 (ix2 ⟨q.val * 8 + a.val, by omega⟩ j) * X1 (ix2 j k) + X2 (ix2 ⟨q.val * 8 + a.val, by omega⟩ k)) * (∑ j, X0 (ix2 ⟨q.val * 8 + a.val, by omega⟩ j) * X1 (ix2 j k) + X2 (ix2 ⟨q.val * 8 + a.val, by omega⟩ k))) (Ideal.ofBits FTy.f32 0x44800000#32) + Ideal.ofBits FTy.f32 0x358637BD#32))
      = adds (part z t g l) a ⟨s.val, lt16 s⟩ := by
  subst h0 h1 h2 h3 h4
  have hs := lt16 s
  exact Finset.sum_congr rfl fun q _ => gain_entry _ _ _ _ _ _ l (fun k => z (ix3 0 ⟨s.val * 512 + (q.val * 8 + a.val), by omega⟩ k))
    (fun k => t (ix3 0 ⟨s.val * 512 + (q.val * 8 + a.val), by omega⟩ k)) (fun k => g (ix1 k)) (fun k => (output m c s _ k).trans (congrFun hz _))
    (fun k => (blk3 m c s _ k).trans (congrFun ht _)) (fun k => (blk4 m c s 0 k).trans (congrFun hg _))

/-- The first point stores its squares, -/
theorem first_square (s : Fin cfg0.N) (h0 : s.val % 16 = 0) (a : Fin 8) (l : Fin 1024) :
    (outsAt0 m c s.val s.isLt).2.2.2.1 (ix2 a l) = adds (sqr z t g l) a ⟨s.val, lt16 s⟩ := by
  have hs := lt16 s
  rw [outsAt0_A m c s h0 (by omega) (by omega)]
  frame_out
  open_payloads; pointwise
  exact adds_square hz ht hg s a l _ _ _ _ _ rfl rfl rfl rfl rfl

/-- and its parts of the gain's gradient; -/
theorem first_part (s : Fin cfg0.N) (h0 : s.val % 16 = 0) (a : Fin 8) (l : Fin 1024) :
    (outsAt0 m c s.val s.isLt).2.2.2.2 (ix2 a l) = adds (part z t g l) a ⟨s.val, lt16 s⟩ := by
  have hs := lt16 s
  rw [outsAt0_A m c s h0 (by omega) (by omega)]
  frame_out
  open_payloads; pointwise
  exact adds_part hz ht hg s a l _ _ _ _ _ rfl rfl rfl rfl rfl

/-- every other adds its squares. -/
theorem step_square (s : Fin cfg0.N) (h0 : ¬s.val % 16 = 0) (a : Fin 8) (l : Fin 1024) :
    (outsAt0 m c s.val s.isLt).2.2.2.1 (ix2 a l)
      = (outsAt0 m c (s.val - 1) (Nat.lt_of_le_of_lt (Nat.sub_le _ _) s.isLt)).2.2.2.1 (ix2 a l) + adds (sqr z t g l) a ⟨s.val, lt16 s⟩ := by
  have hs := lt16 s
  by_cases h1 : s.val % 16 = 15
  · rw [outsAt0_C m c s h0 (by omega) h1]
    generalize (outsAt0 m c (s.val - 1) _).2.2.2.1 = Z
    generalize (outsAt0 m c (s.val - 1) _).2.2.2.2 = Y
    frame_out
    open_payloads; pointwise
    exact congrArg₂ (· + ·) (congrFun ((Memref.isWhole_whole cc0_scratch0).read_unread Z) (ix2 a l)) (adds_square hz ht hg s a l _ _ _ _ _ rfl rfl rfl rfl rfl)
  · rw [outsAt0_B m c s h0 (by omega) h1]
    generalize (outsAt0 m c (s.val - 1) _).2.2.2.1 = Z
    generalize (outsAt0 m c (s.val - 1) _).2.2.2.2 = Y
    frame_out
    open_payloads; pointwise
    exact congrArg₂ (· + ·) (congrFun ((Memref.isWhole_whole cc0_scratch0).read_unread Z) (ix2 a l)) (adds_square hz ht hg s a l _ _ _ _ _ rfl rfl rfl rfl rfl)

/-- and its parts. -/
theorem step_part (s : Fin cfg0.N) (h0 : ¬s.val % 16 = 0) (a : Fin 8) (l : Fin 1024) :
    (outsAt0 m c s.val s.isLt).2.2.2.2 (ix2 a l)
      = (outsAt0 m c (s.val - 1) (Nat.lt_of_le_of_lt (Nat.sub_le _ _) s.isLt)).2.2.2.2 (ix2 a l) + adds (part z t g l) a ⟨s.val, lt16 s⟩ := by
  have hs := lt16 s
  by_cases h1 : s.val % 16 = 15
  · rw [outsAt0_C m c s h0 (by omega) h1]
    generalize (outsAt0 m c (s.val - 1) _).2.2.2.1 = Z
    generalize (outsAt0 m c (s.val - 1) _).2.2.2.2 = Y
    frame_out
    open_payloads; pointwise
    exact congrArg₂ (· + ·) (congrFun ((Memref.isWhole_whole cc0_scratch1).read_unread Y) (ix2 a l)) (adds_part hz ht hg s a l _ _ _ _ _ rfl rfl rfl rfl rfl)
  · rw [outsAt0_B m c s h0 (by omega) h1]
    generalize (outsAt0 m c (s.val - 1) _).2.2.2.1 = Z
    generalize (outsAt0 m c (s.val - 1) _).2.2.2.2 = Y
    frame_out
    open_payloads; pointwise
    exact congrArg₂ (· + ·) (congrFun ((Memref.isWhole_whole cc0_scratch1).read_unread Y) (ix2 a l)) (adds_part hz ht hg s a l _ _ _ _ _ rfl rfl rfl rfl rfl)

/-- The first scratch after a point: the squares of the points so far. -/
theorem carried_square (a : Fin 8) (l : Fin 1024) (n : ℕ) (hn : n < 16) :
    (outsAt0 m c n hn).2.2.2.1 (ix2 a l) = ∑ b ∈ Finset.univ.filter (fun b : Fin 16 => b.val ≤ n), adds (sqr z t g l) a b :=
  Rms.total (N := 16) (f := fun n hn => (outsAt0 m c n hn).2.2.2.1 (ix2 a l)) (fun _ => first_square hz ht hg ⟨0, by decide⟩ rfl a l)
    (fun n hn => step_square hz ht hg ⟨n + 1, hn⟩ (by show ¬(n + 1) % 16 = 0; omega) a l) n hn

/-- After the last point a scratch's rows add up to the sum over all rows. -/
theorem all_square (s : Fin cfg0.N) (h1 : s.val % 16 = 15) (l : Fin 1024) :
    ∑ a : Fin 8, (outsAt0 m c s.val s.isLt).2.2.2.1 (ix2 a l) = ∑ r, sqr z t g l r := by
  have hs := lt16 s
  have eu : (Finset.univ.filter fun b : Fin 16 => b.val ≤ s.val) = Finset.univ := by
    ext b
    simp only [Finset.mem_filter, Finset.mem_univ, true_and, iff_true]
    omega
  simp only [fun a => carried_square hz ht hg a l s.val hs, eu]
  exact Rms.sum_rows (sqr z t g l)

/-- The second: their parts of the gain's gradient. -/
theorem carried_part (a : Fin 8) (l : Fin 1024) (n : ℕ) (hn : n < 16) :
    (outsAt0 m c n hn).2.2.2.2 (ix2 a l) = ∑ b ∈ Finset.univ.filter (fun b : Fin 16 => b.val ≤ n), adds (part z t g l) a b :=
  Rms.total (N := 16) (f := fun n hn => (outsAt0 m c n hn).2.2.2.2 (ix2 a l)) (fun _ => first_part hz ht hg ⟨0, by decide⟩ rfl a l)
    (fun n hn => step_part hz ht hg ⟨n + 1, hn⟩ (by show ¬(n + 1) % 16 = 0; omega) a l) n hn

/-- After the last point a scratch's rows add up to the sum over all rows. -/
theorem all_part (s : Fin cfg0.N) (h1 : s.val % 16 = 15) (l : Fin 1024) :
    ∑ a : Fin 8, (outsAt0 m c s.val s.isLt).2.2.2.2 (ix2 a l) = ∑ r, part z t g l r := by
  have hs := lt16 s
  have eu : (Finset.univ.filter fun b : Fin 16 => b.val ≤ s.val) = Finset.univ := by
    ext b
    simp only [Finset.mem_filter, Finset.mem_univ, true_and, iff_true]
    omega
  simp only [fun a => carried_part hz ht hg a l s.val hs, eu]
  exact Rms.sum_rows (part z t g l)

/-- The last point adds the squares up. -/
theorem left5 (s : Fin cfg0.N) (h1 : s.val % 16 = 15) (y : Fin 1) (l : Fin 128) :
    (outsAt0 m c s.val s.isLt).1 (ix2 y l) = val_main_v55 (F := Ideal) (A0 m c) (A1 m c) (A2 m c) (A3 m c) (A4 m c) (ix2 y l) := by
  have hs := lt16 s
  have e : (outsAt0 m c s.val s.isLt).1 (ix2 y l)
      = (∑ k : Fin 1024, ∑ a : Fin 8, (outsAt0 m c s.val s.isLt).2.2.2.1 (ix2 a k)) * Ideal.ofBits .f32 0x3A000000#32 := by
    simp only [fun a k => step_square hz ht hg s (by omega) a k]
    rw [outsAt0_C m c s (by omega) (by omega) h1]
    generalize (outsAt0 m c (s.val - 1) _).2.2.2.1 = Z
    generalize (outsAt0 m c (s.val - 1) _).2.2.2.2 = Y
    frame_out
    open_payloads; pointwise
    exact congrArg (· * _) (Finset.sum_congr rfl fun k _ => Finset.sum_congr rfl fun a _ =>
      congrArg₂ (· + ·) (congrFun ((Memref.isWhole_whole cc0_scratch0).read_unread Z) (ix2 a k)) (adds_square hz ht hg s a k _ _ _ _ _ rfl rfl rfl rfl rfl))
  rw [e, ht, hg, Cert.FinalLossRefIdeal.Loss.loss hz]
  simp only [fun k => all_square hz ht hg s h1 k, sqr, ofBits_2048th, ← coe_sum, ← EReal.coe_mul]
  exact congrArg _ (by ring)

/-- The last point adds the parts of the gain's gradient up. -/
theorem left7 (s : Fin cfg0.N) (h1 : s.val % 16 = 15) (y : Fin 1) (l : Fin 1024) :
    (outsAt0 m c s.val s.isLt).2.2.1 (ix2 y l) = val_main_v57 (F := Ideal) (A0 m c) (A1 m c) (A2 m c) (A3 m c) (A4 m c) (ix2 y l) := by
  have hs := lt16 s
  have e : (outsAt0 m c s.val s.isLt).2.2.1 (ix2 y l) = ∑ a : Fin 8, (outsAt0 m c s.val s.isLt).2.2.2.2 (ix2 a l) := by
    simp only [fun a => step_part hz ht hg s (by omega) a l]
    rw [outsAt0_C m c s (by omega) (by omega) h1]
    generalize (outsAt0 m c (s.val - 1) _).2.2.2.1 = Z
    generalize (outsAt0 m c (s.val - 1) _).2.2.2.2 = Y
    frame_out
    open_payloads; pointwise
    exact Finset.sum_congr rfl fun a _ =>
      congrArg₂ (· + ·) (congrFun ((Memref.isWhole_whole cc0_scratch1).read_unread Y) (ix2 a l)) (adds_part hz ht hg s a l _ _ _ _ _ rfl rfl rfl rfl rfl)
  rw [e, ht, hg, Cert.FinalLossRefIdeal.Loss.gain hz]
  exact all_part hz ht hg s h1 l

/-- Each point leaves its rows' gradient. -/
theorem left6 (s : Fin cfg0.N) (a : Fin 512) (l : Fin 1024) :
    (outsAt0 m c s.val s.isLt).2.1 (ix2 a l)
      = val_main_v56 (F := Ideal) (A0 m c) (A1 m c) (A2 m c) (A3 m c) (A4 m c) (ix2 ⟨s.val * 512 + a, by have := lt16 s; omega⟩ l) := by
  have hs := lt16 s
  have key := entry (iblk m c 0 s) (iblk m c 1 s) (iblk m c 2 s) (iblk m c 3 s) (iblk m c 4 s) a l (fun k => z (ix3 0 ⟨s.val * 512 + a, by omega⟩ k))
    (fun k => t (ix3 0 ⟨s.val * 512 + a, by omega⟩ k)) (fun k => g (ix1 k)) (fun k => (output m c s a k).trans (congrFun hz _))
    (fun k => (blk3 m c s a k).trans (congrFun ht _)) (fun k => (blk4 m c s 0 k).trans (congrFun hg _))
  rw [ht, hg, Cert.FinalLossRefIdeal.Loss.output hz]
  by_cases h0 : s.val % 16 = 0
  · rw [outsAt0_A m c s h0 (by omega) (by omega)]
    frame_out
    open_payloads; pointwise
    exact key
  · by_cases h1 : s.val % 16 = 15
    · rw [outsAt0_C m c s h0 (by omega) h1]
      generalize (outsAt0 m c (s.val - 1) _).2.2.2.1 = Z
      generalize (outsAt0 m c (s.val - 1) _).2.2.2.2 = Y
      frame_out
      open_payloads; pointwise
      exact key
    · rw [outsAt0_B m c s h0 (by omega) h1]
      generalize (outsAt0 m c (s.val - 1) _).2.2.2.1 = Z
      generalize (outsAt0 m c (s.val - 1) _).2.2.2.2 = Y
      frame_out
      open_payloads; pointwise
      exact key

/-- The rows' gradients are the reference's. -/
theorem final6 : (dats m 0 c).arrAt 6 (cfgs 0).N = val_main_v56 (F := Ideal) (A0 m c) (A1 m c) (A2 m c) (A3 m c) (A4 m c) := by
  refine (dats m 0 c).arrAt_eq_of_covers 6 _ (by decide +kernel) fun s hf y => ?_
  blk_simp
  rw [after0_6]
  have hs := lt16 s
  idx_vars y
  have e : ((View.whole main_v7_1).slice (win0_6.rect s)).emb (ix2 y0 y1) = ix2 ⟨s.val * 512 + y0, by omega⟩ y1 := by blk_ext [idx s]
  rw [e]
  exact left6 hz ht hg s y0 y1

omit hz ht hg in
/-- The loss is written back after the last point, -/
theorem flush5 : ∀ s : Fin cfg0.N, (cfg0.win 5).flush s = true → s.val % 16 = 15 := (by decide +kernel : ∀ s : Fin grid0.N, _)

omit hz ht hg in
/-- and so is the gain's gradient. -/
theorem flush7 : ∀ s : Fin cfg0.N, (cfg0.win 7).flush s = true → s.val % 16 = 15 := (by decide +kernel : ∀ s : Fin grid0.N, _)

/-- The loss is the reference's. -/
theorem final5 : (dats m 0 c).arrAt 5 (cfgs 0).N = val_main_v55 (F := Ideal) (A0 m c) (A1 m c) (A2 m c) (A3 m c) (A4 m c) := by
  refine (dats m 0 c).arrAt_eq_of_covers 5 _ (by decide +kernel) fun s hf y => ?_
  have h15 := flush5 s hf
  blk_simp
  rw [after0_5]
  idx_vars y
  have e : ((View.whole main_v7_0).slice (win0_5.rect s)).emb (ix2 y0 y1) = ix2 y0 y1 := by blk_ext [idx s]
  rw [e]
  exact left5 hz ht hg s h15 y0 y1

/-- The gain's gradient is the reference's. -/
theorem final7 : (dats m 0 c).arrAt 7 (cfgs 0).N = val_main_v57 (F := Ideal) (A0 m c) (A1 m c) (A2 m c) (A3 m c) (A4 m c) := by
  refine (dats m 0 c).arrAt_eq_of_covers 7 _ (by decide +kernel) fun s hf y => ?_
  have h15 := flush7 s hf
  blk_simp
  rw [after0_7]
  idx_vars y
  have e : ((View.whole main_v7_2).slice (win0_7.rect s)).emb (ix2 y0 y1) = ix2 y0 y1 := by blk_ext [idx s]
  rw [e]
  exact left7 hz ht hg s h15 y0 y1

end Arrays

end Cert.FinalLossIdeal.Grad

end
-- ==== Proof.LossClaims.lean ====
module

public import proofs.«01_k».proof.Defs
public import proofs.«01_k».proof.Proof.Gen.FinalLoss
public import proofs.«01_k».proof.Proof.Gen.FinalLoss.Frame
public import proofs.«01_k».proof.Proof.Gen.FinalLossIdeal.Frame
public import proofs.«01_k».proof.Proof.Gen.FinalLossIdeal.Value
public import proofs.«01_k».proof.Proof.Gen.FinalLossRefIdeal
public import proofs.«01_k».proof.Proof.Gen.FinalLossRefIdeal.Run
public import proofs.«01_k».proof.Proof.Gen.FinalLossRefIdeal.Read
public import proofs.«01_k».proof.Proof.Gen.Pre_finite_loss
public import proofs.«01_k».proof.Proof.LossValue
public import Idealize.ShloMosaic.Lib.Claim
public import Idealize.ShloMosaic.Adequacy
public import Idealize.ShloMosaic.Init

/-! # The claims about the loss and its gradient -/

@[expose] public section

noncomputable section

namespace Cert.Proof

open Idealize.ShloMosaic Idealize.SL.Sem

/-- The program of the loss and its gradient runs to its end and leaves its arguments alone. -/
theorem loss_frame : Cert.quiescent_FinalLoss (hFinalLoss := Cert.FinalLoss.Gen.facts) := fun m ρ _ => Cert.FinalLoss.Gen.frame m ρ

/-- So does its ideal reading, -/
theorem loss_frame_ideal : Cert.quiescent_FinalLossIdeal (hFinalLossIdeal := Cert.FinalLossIdeal.Gen.facts) := fun m ρ _ => Cert.FinalLossIdeal.Gen.frame m ρ

/-- with the precondition too. -/
theorem loss_frame_pre : Cert.quiescent_FinalLossIdeal_pre_finite_loss (hFinalLossIdeal := Cert.FinalLossIdeal.Gen.facts) (hPre_finite_loss := Cert.Pre_finite_loss.Gen.facts) :=
  fun m ρ _ => Cert.FinalLossIdeal.Gen.frame m ρ

/-- The reference runs to its end. -/
theorem loss_ref : Cert.quiescent_FinalLossRefIdeal (hFinalLossRefIdeal := Cert.FinalLossRefIdeal.Gen.facts) := by
  intro m g _
  exact (θ_run Cert.FinalLossRefIdeal.defs _ _).mono (fun r h => ⟨fun c => (h c).2.2.2, sem_eq_zero_of_no_sems (by decide) r.2⟩)
    (Cert.FinalLossRefIdeal.Value.run m g)

/-- with the precondition too. -/
theorem loss_ref_pre : Cert.quiescent_FinalLossRefIdeal_pre_finite_loss (hFinalLossRefIdeal := Cert.FinalLossRefIdeal.Gen.facts) (hPre_finite_loss := Cert.Pre_finite_loss.Gen.facts) :=
  fun m g _ => loss_ref m g trivial

/-- Over the reals the kernel's results are the reference's. -/
theorem loss_value : Cert.algebraic_FinalLossIdeal_FinalLossRefIdeal_pre_finite_loss (hFinalLossIdeal := Cert.FinalLossIdeal.Gen.facts)
    (hFinalLossRefIdeal := Cert.FinalLossRefIdeal.Gen.facts) (hPre_finite_loss := Cert.Pre_finite_loss.Gen.facts) := by
  intro m g m' g' hpre hagree
  refine ⟨fun c => Cert.FinalLossRefIdeal.Read.val_main_v55 (F := Ideal) (m ((c.tc : Thread _ _).loc Cert.FinalLossIdeal.main_arg0)) (m ((c.tc : Thread _ _).loc Cert.FinalLossIdeal.main_arg1)) (m ((c.tc : Thread _ _).loc Cert.FinalLossIdeal.main_arg2)) (m ((c.tc : Thread _ _).loc Cert.FinalLossIdeal.main_arg3)) (m ((c.tc : Thread _ _).loc Cert.FinalLossIdeal.main_arg4)),
    fun c => Cert.FinalLossRefIdeal.Read.val_main_v56 (F := Ideal) (m ((c.tc : Thread _ _).loc Cert.FinalLossIdeal.main_arg0)) (m ((c.tc : Thread _ _).loc Cert.FinalLossIdeal.main_arg1)) (m ((c.tc : Thread _ _).loc Cert.FinalLossIdeal.main_arg2)) (m ((c.tc : Thread _ _).loc Cert.FinalLossIdeal.main_arg3)) (m ((c.tc : Thread _ _).loc Cert.FinalLossIdeal.main_arg4)),
    fun c => Cert.FinalLossRefIdeal.Read.val_main_v57 (F := Ideal) (m ((c.tc : Thread _ _).loc Cert.FinalLossIdeal.main_arg0)) (m ((c.tc : Thread _ _).loc Cert.FinalLossIdeal.main_arg1)) (m ((c.tc : Thread _ _).loc Cert.FinalLossIdeal.main_arg2)) (m ((c.tc : Thread _ _).loc Cert.FinalLossIdeal.main_arg3)) (m ((c.tc : Thread _ _).loc Cert.FinalLossIdeal.main_arg4)), ?_, ?_⟩
  · refine (θ_run Cert.FinalLossIdeal.defs _ _).mono (fun r h c => ⟨(h c).1.trans ?_, (h c).2.1.trans ?_, (h c).2.2.1.trans ?_, (h c).2.2.2⟩)
      (Cert.FinalLossIdeal.Value.run_blocks (F := Ideal) m g)
    all_goals
      have hp := hpre c
      obtain ⟨z, hz⟩ := Cert.FinalLossRefIdeal.Loss.real_output (Reals.all_real _ _ hp.1) (Reals.all_real _ _ hp.2.1) (Reals.all_real _ _ hp.2.2.1)
      obtain ⟨t, ht⟩ := Reals.all_real _ _ hp.2.2.2.1
      obtain ⟨g, hg⟩ := Reals.all_real _ _ hp.2.2.2.2
    · exact Cert.FinalLossIdeal.Grad.final5 hz ht hg
    · exact Cert.FinalLossIdeal.Grad.final6 hz ht hg
    · exact Cert.FinalLossIdeal.Grad.final7 hz ht hg
  · refine (θ_run Cert.FinalLossRefIdeal.defs _ _).mono (fun r h c => ⟨(h c).1.trans ?_, (h c).2.1.trans ?_, (h c).2.2.1.trans ?_, (h c).2.2.2⟩)
      (Cert.FinalLossRefIdeal.Value.run (F := Ideal) m' g')
    · refine (Cert.FinalLossRefIdeal.Read.val_main_v55_eq (F := Ideal) _ _ _ _ _).trans ?_
      obtain ⟨h0, h1, h2, h3, h4⟩ := hagree c
      rw [h0, h1, h2, h3, h4]
    · refine (Cert.FinalLossRefIdeal.Read.val_main_v56_eq (F := Ideal) m' c).trans ?_
      obtain ⟨h0, h1, h2, h3, h4⟩ := hagree c
      rw [h0, h1, h2, h3, h4]
    · refine (Cert.FinalLossRefIdeal.Read.val_main_v57_eq (F := Ideal) _ _ _ _ _).trans ?_
      obtain ⟨h0, h1, h2, h3, h4⟩ := hagree c
      rw [h0, h1, h2, h3, h4]

end Cert.Proof

end
-- ==== Proof.GeluMath.lean ====
module

public import proofs.«01_k».proof.Proof.RmsMath
public import proofs.«01_k».proof.Proof.RealOps

/-! # GELU

GELU (by its tanh) and its derivative, for one real; and a sum over packed rows and columns. -/

@[expose] public section

noncomputable section

namespace Cert.Gelu

open Idealize.ShloMosaic Cert.Reals

/-- The printed literal for √(2/π). -/
def c : ℝ := 13386282 / 16777216

/-- The cubic term's factor. -/
def k : ℝ := 8943 / 200000

theorem ofBits_c : Ideal.ofBits .f32 0x3F4C422A#32 = ((c : ℝ) : EReal) := by
  simp [Ideal.ofBits, Ideal.ieee]
  rw [← EReal.coe_mul]
  norm_num [c]

theorem ofBits_half : Ideal.ofBits .f32 0x3F000000#32 = ((1 / 2 : ℝ) : EReal) := by
  simp [Ideal.ofBits, Ideal.ieee]
  rw [← EReal.coe_mul]
  norm_num

theorem ofBits_three : Ideal.ofBits .f32 0x40400000#32 = ((3 : ℝ) : EReal) := by
  simp [Ideal.ofBits, Ideal.ieee]
  rw [← EReal.coe_mul]
  norm_num

/-- The tanh's value. -/
def th (z : ℝ) : ℝ := Real.tanh (c * (z + k * z * z * z))

/-- The derivative. -/
def deriv (z : ℝ) : ℝ := 1 / 2 * (1 + th z) + 1 / 2 * z * (1 - th z * th z) * (c * (1 + 26829 / 200000 * z * z))

theorem tanh_coe (x : ℝ) : Ideal.tanh (x : EReal) = ((Real.tanh x : ℝ) : EReal) := rfl

/-- The derivative times the cotangent, written out. -/
theorem written {Z D K K3 : EReal} {z d : ℝ} (hZ : Z = (z : EReal)) (hD : D = (d : EReal)) (hK : K = (k : EReal)) (h3 : K3 = ((26829 / 200000 : ℝ) : EReal)) :
    D * (Ideal.ofBits FTy.f32 0x3F000000#32 * (1 + Ideal.tanh (Ideal.ofBits FTy.f32 0x3F4C422A#32 * (Z + K * Z * Z * Z)))
        + Ideal.ofBits FTy.f32 0x3F000000#32 * Z
          * (1 - Ideal.tanh (Ideal.ofBits FTy.f32 0x3F4C422A#32 * (Z + K * Z * Z * Z))
            * Ideal.tanh (Ideal.ofBits FTy.f32 0x3F4C422A#32 * (Z + K * Z * Z * Z)))
          * (Ideal.ofBits FTy.f32 0x3F4C422A#32 * (1 + K3 * Z * Z)))
      = ((d * deriv z : ℝ) : EReal) := by
  rw [hZ, hD, hK, h3, ofBits_c, ofBits_half, ← EReal.coe_one]
  simp only [← EReal.coe_mul, ← EReal.coe_add, tanh_coe, ← EReal.coe_sub]
  rfl

/-- The derivative by the chain rule, through the cubic term apart. -/
theorem chain {Z D K : EReal} {z d : ℝ} (hZ : Z = (z : EReal)) (hD : D = (d : EReal)) (hK : K = (k : EReal)) :
    D * (Ideal.ofBits FTy.f32 0x3F000000#32 * (1 + Ideal.tanh (Ideal.ofBits FTy.f32 0x3F4C422A#32 * (Z + K * (Z * (Z * Z))))))
        + Ideal.ofBits FTy.f32 0x3F4C422A#32 * (Ideal.ofBits FTy.f32 0x3F000000#32 * (Z * D)
          * ((1 + Ideal.tanh (Ideal.ofBits FTy.f32 0x3F4C422A#32 * (Z + K * (Z * (Z * Z)))))
            * (1 - Ideal.tanh (Ideal.ofBits FTy.f32 0x3F4C422A#32 * (Z + K * (Z * (Z * Z)))))))
        + K * (Ideal.ofBits FTy.f32 0x3F4C422A#32 * (Ideal.ofBits FTy.f32 0x3F000000#32 * (Z * D)
          * ((1 + Ideal.tanh (Ideal.ofBits FTy.f32 0x3F4C422A#32 * (Z + K * (Z * (Z * Z)))))
            * (1 - Ideal.tanh (Ideal.ofBits FTy.f32 0x3F4C422A#32 * (Z + K * (Z * (Z * Z))))))))
          * (Ideal.ofBits FTy.f32 0x40400000#32 * (Z * Z))
      = ((d * deriv z : ℝ) : EReal) := by
  rw [hZ, hD, hK, ofBits_c, ofBits_half, ofBits_three, ← EReal.coe_one]
  simp only [← EReal.coe_mul, ← EReal.coe_add, tanh_coe, ← EReal.coe_sub]
  have e : c * (z + k * (z * (z * z))) = c * (z + k * z * z * z) := by ring
  rw [e]
  refine congrArg _ ?_
  unfold deriv th
  rw [show (26829 / 200000 : ℝ) = 3 * k by norm_num [k]]
  ring

/-- Four blocks of 256 packed rows, each block's added up in eight groups of every eighth, eight rows in a packed row: the
sum over all rows. -/
theorem sum_rows (f : Fin 8192 → EReal) :
    ∑ j : Fin 8, ∑ a : Fin 8, ∑ b : Fin 4, ∑ q : Fin 32, f ⟨(b.val * 256 + (q.val * 8 + a.val)) * 8 + j.val, by omega⟩ = ∑ r, f r := by
  rw [Fin.sum_univ_tiles (N := 8192) 1024 8 rfl f, Finset.sum_comm (γ := Fin 1024)]
  refine Finset.sum_congr rfl fun j _ => ?_
  rw [Finset.sum_comm, Fin.sum_univ_tiles (N := 1024) 4 256 rfl]
  refine Finset.sum_congr rfl fun b _ => ?_
  rw [Finset.sum_comm, Fin.sum_univ_tiles (N := 256) 32 8 rfl]

/-- The gradient through the activation of `y + g · u`, of one entry. -/
def grad (d y u : Fin 8192 → Fin 512 → ℝ) (g : Fin 512 → ℝ) (r : Fin 8192) (l : Fin 512) : ℝ := d r l * deriv (y r l + g l * u r l)

/-- An array of 8192 rows of 512, eight rows to a packed row. -/
def packed (f : Fin 8192 → Fin 512 → EReal) (i : Fin 1024) (j : Fin 4096) : EReal := f ⟨i.val * 8 + j.val / 512, by omega⟩ ⟨j.val % 512, by omega⟩

end Cert.Gelu

end
-- ==== Proof.PostRef.lean ====
module

public import proofs.«01_k».proof.Proof.GeluMath
public import proofs.«01_k».proof.Proof.Gen.PostBwdRefIdeal.Value
public import Idealize.ShloMosaic.Lib.Pipeline.ValueKit

/-! # The activation's gradient in the reference, entry by entry -/

@[expose] public section

set_option maxRecDepth 16384

noncomputable section

namespace Cert.PostBwdRefIdeal.Grad

open Cert.PostBwdRefIdeal Cert.PostBwdRefIdeal.Gen Idealize.ShloMosaic Idealize.ShloMosaic.TcCoe Idealize.SL.Sem
open Idealize.ShloMosaic.Pipeline (Dat)
open Cert.Reals Cert.Gelu

variable (m : (ℓ : Loc nD τ sig) → Buf (Elt Ideal) ℓ)

/-- The named factors. -/
theorem named_cube : Named.named (F := Ideal) (φ := .f32) κ "gelu_cube" 0x3D372713#32 = ((Gelu.k : ℝ) : EReal) := rfl

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- The cotangent, -/
abbrev A0 (c : Dev nD) : FVec Ideal S1x8192x512 .f32 := m ((c : Thread nD τ).loc main_arg0)
/-- the scan's output, -/
abbrev A1 (c : Dev nD) : FVec Ideal S1x8192x512 .f32 := m ((c : Thread nD τ).loc main_arg1)
/-- its input, -/
abbrev A2 (c : Dev nD) : FVec Ideal S1x8192x512 .f32 := m ((c : Thread nD τ).loc main_arg2)
/-- the skip's factors. -/
abbrev A3 (c : Dev nD) : FVec Ideal S1x512 .f32 := m ((c : Thread nD τ).loc main_arg3)

theorem blk0 (c : Dev nD) (t : Fin cfg0.N) (a : Fin 8192) (k : Fin 512) : iblk m c 0 t (ix2 a k) = A0 m c (ix3 0 a k) := by
  blk_simp [iblk]
  entry_read
  pointwise
  blk_ext [iblk, V, idx t]

theorem blk1 (c : Dev nD) (t : Fin cfg0.N) (a : Fin 8192) (k : Fin 512) : iblk m c 1 t (ix2 a k) = A1 m c (ix3 0 a k) := by
  blk_simp [iblk]
  entry_read
  pointwise
  blk_ext [iblk, V, idx t]

theorem blk2 (c : Dev nD) (t : Fin cfg0.N) (a : Fin 8192) (k : Fin 512) : iblk m c 2 t (ix2 a k) = A2 m c (ix3 0 a k) := by
  blk_simp [iblk]
  entry_read
  pointwise
  blk_ext [iblk, V, idx t]

theorem blk3 (c : Dev nD) (t : Fin cfg0.N) (a : Fin 1) (k : Fin 512) : iblk m c 3 t (ix2 a k) = A3 m c (ix2 0 k) := by
  blk_ext [iblk, V, idx t]

/-- The gradient, packed, -/
def packedGrad (d y u : Fin 8192 → Fin 512 → ℝ) (g : Fin 512 → ℝ) (i : S1024x4096.Idx) : EReal :=
  packed (fun r l => ((grad d y u g r l : ℝ) : EReal)) (i 0) (i 1)

/-- and the gradient of the skip's factors. -/
def skipGrad (d y u : Fin 8192 → Fin 512 → ℝ) (g : Fin 512 → ℝ) (i : S1x512.Idx) : EReal :=
  ∑ r, ((grad d y u g r (i 1) * u r (i 1) : ℝ) : EReal)

/-- A sum whose terms are the skip's. -/
theorem skipGrad_of {d y u : Fin 8192 → Fin 512 → ℝ} {g : Fin 512 → ℝ} {f : Fin 8192 → EReal} (a : Fin 1) (l : Fin 512)
    (h : ∀ r, f r = ((grad d y u g r l * u r l : ℝ) : EReal)) : ∑ r, f r = skipGrad d y u g (ix2 a l) :=
  Finset.sum_congr rfl fun r _ => h r

section Arrays

variable {m} {c : Dev nD} {d y u : Fin 8192 → Fin 512 → ℝ} {g : Fin 512 → ℝ}

/-- The activation's argument, of blocks. -/
def add (X1 X2 : S8192x512.Idx → EReal) (X3 : S1x512.Idx → EReal) (r : Fin 8192) (l : Fin 512) : EReal :=
  X1 (ix2 r l) + X3 (ix2 0 l) * X2 (ix2 r l)

variable (h0 : ∀ r l, A0 m c (ix3 0 r l) = (d r l : EReal)) (h1 : ∀ r l, A1 m c (ix3 0 r l) = (y r l : EReal))
  (h2 : ∀ r l, A2 m c (ix3 0 r l) = (u r l : EReal)) (h3 : ∀ l, A3 m c (ix2 0 l) = (g l : EReal))

include h1 h2 h3 in
/-- The activation's argument. -/
theorem sum (s : Fin cfg0.N) (r : Fin 8192) (l : Fin 512) : add (iblk m c 1 s) (iblk m c 2 s) (iblk m c 3 s) r l = ((y r l + g l * u r l : ℝ) : EReal) := by
  unfold add
  rw [blk1, blk2, blk3, h1, h2, h3, ← EReal.coe_mul, ← EReal.coe_add]

include h0 h1 h2 h3

/-- The gradient, packed. -/
theorem final4 : (dats m 0 c).arrAt 4 (cfgs 0).N = packedGrad d y u g := by
  refine (dats m 0 c).arrAt_eq_of_covers 4 _ (by decide +kernel) fun s hf y => ?_
  blk_simp
  rw [after0_4]
  frame_out; open_payloads; idx_vars y
  have e : ((View.whole main_v3_0).slice (win0_4.rect s)).emb (ix2 y0 y1) = ix2 y0 y1 := by blk_ext [idx s]
  rw [e]
  pointwise
  exact chain (sum h1 h2 h3 s _ _) ((blk0 m c s _ _).trans (h0 _ _)) named_cube

/-- The skip's gradient. -/
theorem final5 : (dats m 0 c).arrAt 5 (cfgs 0).N = skipGrad d y u g := by
  refine (dats m 0 c).arrAt_eq_of_covers 5 _ (by decide +kernel) fun s hf y => ?_
  blk_simp
  rw [after0_5]
  frame_out; open_payloads; idx_vars y
  have e : ((View.whole main_v3_1).slice (win0_5.rect s)).emb (ix2 y0 y1) = ix2 y0 y1 := by blk_ext [idx s]
  rw [e]
  pointwise
  refine skipGrad_of y0 y1 fun r => ?_
  exact (congrArg₂ (· * ·) (chain (sum h1 h2 h3 s _ _) ((blk0 m c s _ _).trans (h0 _ _)) named_cube)
    ((blk2 m c s _ _).trans (h2 _ _))).trans (EReal.coe_mul _ _).symm

end Arrays

end Cert.PostBwdRefIdeal.Grad

end
-- ==== Proof.PostValue.lean ====
module

public import proofs.«01_k».proof.Proof.PostRef
public import proofs.«01_k».proof.Proof.Gen.PostBwdIdeal.Value
public import Idealize.ShloMosaic.Lib.Pipeline.ValueKit

/-! # The activation's gradient

Eight rows of 512 are packed to one of 4096. A grid point takes 256 packed rows, writes the gradient of each entry, and adds
its parts of the skip's gradient, in eight rows, to a scratch; the last point adds the scratch's rows up, and of each the
eight groups of 512 columns. -/

@[expose] public section

set_option maxRecDepth 16384

noncomputable section

namespace Cert.PostBwdIdeal.Grad

open Cert.PostBwdIdeal Cert.PostBwdIdeal.Gen Idealize.ShloMosaic Idealize.ShloMosaic.TcCoe Idealize.SL.Sem
open Idealize.ShloMosaic.Pipeline (Dat)
open Cert.Reals Cert.Gelu
open Cert.PostBwdRefIdeal.Grad (packedGrad skipGrad skipGrad_of)

variable (m : (ℓ : Loc nD τ sig) → Buf (Elt Ideal) ℓ)

/-- The named factors. -/
theorem named_cube : Named.named (F := Ideal) (φ := .f32) κ "gelu_cube" 0x3D372713#32 = ((Gelu.k : ℝ) : EReal) := rfl

theorem named_cube3 : Named.named (F := Ideal) (φ := .f32) κ "gelu_cube3" 0x3E095D4F#32 = ((26829 / 200000 : ℝ) : EReal) := rfl

theorem lt4 (t : Fin cfg0.N) : t.val < 4 := t.isLt

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] :=
  (by decide +kernel : ∀ t : Fin grid0.N, _)

/-- The cotangent, -/
abbrev A0 (c : Dev nD) : FVec Ideal S1x8192x512 .f32 := m ((c : Thread nD τ).loc main_arg0)
/-- the scan's output, -/
abbrev A1 (c : Dev nD) : FVec Ideal S1x8192x512 .f32 := m ((c : Thread nD τ).loc main_arg1)
/-- its input, -/
abbrev A2 (c : Dev nD) : FVec Ideal S1x8192x512 .f32 := m ((c : Thread nD τ).loc main_arg2)
/-- the skip's factors. -/
abbrev A3 (c : Dev nD) : FVec Ideal S1x512 .f32 := m ((c : Thread nD τ).loc main_arg3)

theorem blk0 (c : Dev nD) (t : Fin cfg0.N) (a : Fin 256) (k : Fin 4096) :
    iblk m c 0 t (ix2 a k) = A0 m c (ix3 0 ⟨(t.val * 256 + a.val) * 8 + k.val / 512, by have := lt4 t; omega⟩ ⟨k.val % 512, by omega⟩) := by
  have ht := lt4 t
  blk_simp [iblk]
  entry_read
  pointwise
  blk_ext [iblk, V, idx t]

theorem blk1 (c : Dev nD) (t : Fin cfg0.N) (a : Fin 256) (k : Fin 4096) :
    iblk m c 1 t (ix2 a k) = A1 m c (ix3 0 ⟨(t.val * 256 + a.val) * 8 + k.val / 512, by have := lt4 t; omega⟩ ⟨k.val % 512, by omega⟩) := by
  have ht := lt4 t
  blk_simp [iblk]
  entry_read
  pointwise
  blk_ext [iblk, V, idx t]

theorem blk2 (c : Dev nD) (t : Fin cfg0.N) (a : Fin 256) (k : Fin 4096) :
    iblk m c 2 t (ix2 a k) = A2 m c (ix3 0 ⟨(t.val * 256 + a.val) * 8 + k.val / 512, by have := lt4 t; omega⟩ ⟨k.val % 512, by omega⟩) := by
  have ht := lt4 t
  blk_simp [iblk]
  entry_read
  pointwise
  blk_ext [iblk, V, idx t]

theorem blk3 (c : Dev nD) (t : Fin cfg0.N) (a : Fin 1) (k : Fin 4096) : iblk m c 3 t (ix2 a k) = A3 m c (ix2 0 ⟨k.val % 512, by omega⟩) := by
  blk_simp [iblk]
  entry_read
  pointwise
  blk_ext [iblk, V, idx t]

/-- The activation's argument, of blocks. -/
def add (X1 X2 : S256x4096.Idx → EReal) (X3 : S1x4096.Idx → EReal) (r : Fin 256) (l : Fin 4096) : EReal :=
  X1 (ix2 r l) + X3 (ix2 0 l) * X2 (ix2 r l)

/-- A row's part of the skip's gradient. -/
def part (d y u : Fin 8192 → Fin 512 → ℝ) (g : Fin 512 → ℝ) (r : Fin 8192) (l : Fin 512) : EReal := ((grad d y u g r l * u r l : ℝ) : EReal)

/-- What point `b` adds to the scratch's row `a`. -/
def adds (f : Fin 8192 → Fin 512 → EReal) (a : Fin 8) (k : Fin 4096) (b : Fin 4) : EReal :=
  ∑ q : Fin 32, packed f ⟨b.val * 256 + (q.val * 8 + a.val), by omega⟩ k

section Arrays

variable {m} {c : Dev nD} {d y u : Fin 8192 → Fin 512 → ℝ} {g : Fin 512 → ℝ} (h0 : ∀ r l, A0 m c (ix3 0 r l) = (d r l : EReal)) (h1 : ∀ r l, A1 m c (ix3 0 r l) = (y r l : EReal))
  (h2 : ∀ r l, A2 m c (ix3 0 r l) = (u r l : EReal)) (h3 : ∀ l, A3 m c (ix2 0 l) = (g l : EReal))

include h1 h2 h3 in
/-- The activation's argument. -/
theorem sum (s : Fin cfg0.N) (a : Fin 256) (k : Fin 4096) : add (iblk m c 1 s) (iblk m c 2 s) (iblk m c 3 s) a k
    = ((y ⟨(s.val * 256 + a.val) * 8 + k.val / 512, by have := lt4 s; omega⟩ ⟨k.val % 512, by omega⟩
      + g ⟨k.val % 512, by omega⟩ * u ⟨(s.val * 256 + a.val) * 8 + k.val / 512, by have := lt4 s; omega⟩ ⟨k.val % 512, by omega⟩ : ℝ) : EReal) := by
  unfold add
  rw [blk1, blk2, blk3, h1, h2, h3, ← EReal.coe_mul, ← EReal.coe_add]

/-- A sum whose terms are the parts. -/
theorem adds_of {f : Fin 32 → EReal} (s : Fin cfg0.N) (a : Fin 8) (k : Fin 4096)
    (h : ∀ q : Fin 32, f q = packed (part d y u g) ⟨s.val * 256 + (q.val * 8 + a.val), by have := lt4 s; omega⟩ k) : ∑ q, f q = adds (part d y u g) a k ⟨s.val, lt4 s⟩ :=
  Finset.sum_congr rfl fun q _ => h q

include h0 h1 h2 h3

/-- Each point leaves its rows' gradient. -/
theorem left4 (s : Fin cfg0.N) (a : Fin 256) (k : Fin 4096) :
    (outsAt0 m c s.val s.isLt).1 (ix2 a k) = packedGrad d y u g (ix2 ⟨s.val * 256 + a.val, by have := lt4 s; omega⟩ k) := by
  have hs := lt4 s
  by_cases e0 : s.val % 4 = 0
  · rw [outsAt0_A m c s e0 (by omega) (by omega)]
    frame_out
    open_payloads; pointwise
    exact written (sum h1 h2 h3 s _ _) ((blk0 m c s _ _).trans (h0 _ _)) named_cube named_cube3
  · by_cases e1 : s.val % 4 = 3
    · rw [outsAt0_C m c s e0 (by omega) e1]
      generalize (outsAt0 m c (s.val - 1) _).2.2 = Z
      frame_out
      open_payloads; pointwise
      exact written (sum h1 h2 h3 s _ _) ((blk0 m c s _ _).trans (h0 _ _)) named_cube named_cube3
    · rw [outsAt0_B m c s e0 (by omega) e1]
      generalize (outsAt0 m c (s.val - 1) _).2.2 = Z
      frame_out
      open_payloads; pointwise
      exact written (sum h1 h2 h3 s _ _) ((blk0 m c s _ _).trans (h0 _ _)) named_cube named_cube3

/-- The parts of a row. -/
theorem term (s : Fin cfg0.N) (a : Fin 256) (k : Fin 4096) {G X : EReal} (hG : G = packedGrad d y u g (ix2 ⟨s.val * 256 + a.val, by have := lt4 s; omega⟩ k))
    (hX : X = iblk m c 2 s (ix2 a k)) : G * X = packed (part d y u g) ⟨s.val * 256 + a.val, by have := lt4 s; omega⟩ k := by
  rw [hG, hX, blk2, h2]
  exact (EReal.coe_mul _ _).symm

/-- The first point stores its parts, -/
theorem first (s : Fin cfg0.N) (e0 : s.val % 4 = 0) (a : Fin 8) (k : Fin 4096) :
    (outsAt0 m c s.val s.isLt).2.2 (ix2 a k) = adds (part d y u g) a k ⟨s.val, lt4 s⟩ := by
  have hs := lt4 s
  rw [outsAt0_A m c s e0 (by omega) (by omega)]
  frame_out
  open_payloads; pointwise
  exact adds_of s a k fun q => term h0 h1 h2 h3 s ⟨q.val * 8 + a.val, by omega⟩ k (written (sum h1 h2 h3 s _ _) ((blk0 m c s _ _).trans (h0 _ _)) named_cube named_cube3) rfl

/-- every other adds its own. -/
theorem step (s : Fin cfg0.N) (e0 : ¬s.val % 4 = 0) (a : Fin 8) (k : Fin 4096) :
    (outsAt0 m c s.val s.isLt).2.2 (ix2 a k)
      = (outsAt0 m c (s.val - 1) (Nat.lt_of_le_of_lt (Nat.sub_le _ _) s.isLt)).2.2 (ix2 a k) + adds (part d y u g) a k ⟨s.val, lt4 s⟩ := by
  have hs := lt4 s
  by_cases e1 : s.val % 4 = 3
  · rw [outsAt0_C m c s e0 (by omega) e1]
    generalize (outsAt0 m c (s.val - 1) _).2.2 = Z
    frame_out
    open_payloads; pointwise
    exact congrArg₂ (· + ·) (congrFun ((Memref.isWhole_whole cc0_scratch0).read_unread Z) (ix2 a k))
      (adds_of s a k fun q => term h0 h1 h2 h3 s ⟨q.val * 8 + a.val, by omega⟩ k (written (sum h1 h2 h3 s _ _) ((blk0 m c s _ _).trans (h0 _ _)) named_cube named_cube3) rfl)
  · rw [outsAt0_B m c s e0 (by omega) e1]
    generalize (outsAt0 m c (s.val - 1) _).2.2 = Z
    frame_out
    open_payloads; pointwise
    exact congrArg₂ (· + ·) (congrFun ((Memref.isWhole_whole cc0_scratch0).read_unread Z) (ix2 a k))
      (adds_of s a k fun q => term h0 h1 h2 h3 s ⟨q.val * 8 + a.val, by omega⟩ k (written (sum h1 h2 h3 s _ _) ((blk0 m c s _ _).trans (h0 _ _)) named_cube named_cube3) rfl)

/-- The scratch after a point: the parts of the points so far. -/
theorem carried (a : Fin 8) (k : Fin 4096) (n : ℕ) (hn : n < 4) :
    (outsAt0 m c n hn).2.2 (ix2 a k) = ∑ b ∈ Finset.univ.filter (fun b : Fin 4 => b.val ≤ n), adds (part d y u g) a k b :=
  Rms.total (N := 4) (f := fun n hn => (outsAt0 m c n hn).2.2 (ix2 a k)) (fun _ => first h0 h1 h2 h3 ⟨0, by decide⟩ rfl a k)
    (fun n hn => step h0 h1 h2 h3 ⟨n + 1, hn⟩ (by show ¬(n + 1) % 4 = 0; omega) a k) n hn

/-- The scratch's sums after the last point, one group of columns after the other. -/
theorem all (s : Fin cfg0.N) (e1 : s.val % 4 = 3) (l : Fin 512) :
    ∑ j : Fin 8, ∑ a : Fin 8, (outsAt0 m c s.val s.isLt).2.2 (ix2 a ⟨j.val * 512 + l.val, by omega⟩) = ∑ r, part d y u g r l := by
  have hs := lt4 s
  have eu : (Finset.univ.filter fun b : Fin 4 => b.val ≤ s.val) = Finset.univ := by
    ext b
    simp only [Finset.mem_filter, Finset.mem_univ, true_and, iff_true]
    omega
  simp only [fun a k => carried h0 h1 h2 h3 a k s.val hs, eu]
  rw [← sum_rows fun r => part d y u g r l]
  refine Finset.sum_congr rfl fun j _ => Finset.sum_congr rfl fun a _ => Finset.sum_congr rfl fun b _ => Finset.sum_congr rfl fun q _ => ?_
  exact congrArg₂ (part d y u g) (Fin.ext (by show (b.val * 256 + (q.val * 8 + a.val)) * 8 + (j.val * 512 + l.val) / 512 = (b.val * 256 + (q.val * 8 + a.val)) * 8 + j.val; omega)) (Fin.ext (by show (j.val * 512 + l.val) % 512 = _; omega))

/-- The last point adds the parts up. -/
theorem left5 (s : Fin cfg0.N) (e1 : s.val % 4 = 3) (b : Fin 1) (l : Fin 512) :
    (outsAt0 m c s.val s.isLt).2.1 (ix2 b l) = skipGrad d y u g (ix2 b l) := by
  have hs := lt4 s
  refine Eq.trans ?_ (all h0 h1 h2 h3 s e1 l)
  simp only [fun a k => step h0 h1 h2 h3 s (by omega) a k]
  rw [Fin.sum_univ_eight, outsAt0_C m c s (by omega) (by omega) e1]
  generalize (outsAt0 m c (s.val - 1) _).2.2 = Z
  frame_out
  open_payloads; pointwise
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine Finset.sum_congr rfl fun a _ => ?_
    refine Eq.trans (congrArg₂ (· + ·) (congrFun ((Memref.isWhole_whole cc0_scratch0).read_unread Z) _)
      (adds_of s a _ fun q => term h0 h1 h2 h3 s ⟨q.val * 8 + a.val, by omega⟩ _ (written (sum h1 h2 h3 s _ _) ((blk0 m c s _ _).trans (h0 _ _)) named_cube named_cube3) rfl)) ?_
    exact congrArg (fun k : Fin 4096 => Z (ix2 a k) + adds (part d y u g) a k ⟨s.val, hs⟩) (Fin.ext (by simp))

/-- The gradient is written whole. -/
theorem final4 : (dats m 0 c).arrAt 4 (cfgs 0).N = packedGrad d y u g := by
  refine (dats m 0 c).arrAt_eq_of_covers 4 _ (by decide +kernel) fun s hf y => ?_
  blk_simp
  rw [after0_4]
  have hs := lt4 s
  idx_vars y
  have e : ((View.whole main_v6_0).slice (win0_4.rect s)).emb (ix2 y0 y1) = ix2 ⟨s.val * 256 + y0, by omega⟩ y1 := by blk_ext [idx s]
  rw [e]
  exact left4 h0 h1 h2 h3 s y0 y1

omit h0 h1 h2 h3 in
/-- The skip's gradient is written back after the last point. -/
theorem flush5 : ∀ s : Fin cfg0.N, (cfg0.win 5).flush s = true → s.val % 4 = 3 := (by decide +kernel : ∀ s : Fin grid0.N, _)

/-- The skip's gradient is the sum over all rows. -/
theorem final5 : (dats m 0 c).arrAt 5 (cfgs 0).N = skipGrad d y u g := by
  refine (dats m 0 c).arrAt_eq_of_covers 5 _ (by decide +kernel) fun s hf y => ?_
  have e3 := flush5 s hf
  blk_simp
  rw [after0_5]
  idx_vars y
  have e : ((View.whole main_v6_1).slice (win0_5.rect s)).emb (ix2 y0 y1) = ix2 y0 y1 := by blk_ext [idx s]
  rw [e]
  exact left5 h0 h1 h2 h3 s e3 y0 y1

end Arrays

end Cert.PostBwdIdeal.Grad

end
-- ==== Proof.PostClaims.lean ====
module

public import proofs.«01_k».proof.Defs
public import proofs.«01_k».proof.Proof.Gen.PostBwd
public import proofs.«01_k».proof.Proof.Gen.PostBwd.Frame
public import proofs.«01_k».proof.Proof.Gen.PostBwdIdeal.Frame
public import proofs.«01_k».proof.Proof.Gen.PostBwdIdeal.Value
public import proofs.«01_k».proof.Proof.Gen.PostBwdRefIdeal
public import proofs.«01_k».proof.Proof.Gen.PostBwdRefIdeal.Frame
public import proofs.«01_k».proof.Proof.Gen.PostBwdRefIdeal.Value
public import proofs.«01_k».proof.Proof.Gen.Pre_finite_post
public import proofs.«01_k».proof.Proof.PostValue
public import Idealize.ShloMosaic.Lib.Claim
public import Idealize.ShloMosaic.Adequacy
public import Idealize.ShloMosaic.Init

/-! # The claims about the gradient through the recurrent layer's activation -/

@[expose] public section

noncomputable section

namespace Cert.Proof

open Idealize.ShloMosaic Idealize.SL.Sem

/-- The program of the activation's gradient runs to its end and leaves its arguments alone. -/
theorem post_frame : Cert.quiescent_PostBwd (hPostBwd := Cert.PostBwd.Gen.facts) := fun m ρ _ => Cert.PostBwd.Gen.frame m ρ

/-- So does its ideal reading, -/
theorem post_frame_ideal : Cert.quiescent_PostBwdIdeal (hPostBwdIdeal := Cert.PostBwdIdeal.Gen.facts) := fun m ρ _ => Cert.PostBwdIdeal.Gen.frame m ρ

/-- with the precondition too. -/
theorem post_frame_pre : Cert.quiescent_PostBwdIdeal_pre_finite_post (hPostBwdIdeal := Cert.PostBwdIdeal.Gen.facts) (hPre_finite_post := Cert.Pre_finite_post.Gen.facts) :=
  fun m ρ _ => Cert.PostBwdIdeal.Gen.frame m ρ

/-- The reference runs to its end, -/
theorem post_ref : Cert.quiescent_PostBwdRefIdeal (hPostBwdRefIdeal := Cert.PostBwdRefIdeal.Gen.facts) := fun m ρ _ => Cert.PostBwdRefIdeal.Gen.frame m ρ

/-- with the precondition too. -/
theorem post_ref_pre : Cert.quiescent_PostBwdRefIdeal_pre_finite_post (hPostBwdRefIdeal := Cert.PostBwdRefIdeal.Gen.facts) (hPre_finite_post := Cert.Pre_finite_post.Gen.facts) :=
  fun m ρ _ => Cert.PostBwdRefIdeal.Gen.frame m ρ

/-- The two factors of the cubic term are named: each literal is its name's value rounded. -/
theorem post_preserves : Cert.preserves_PostBwd_PostBwdIdeal :=
  ⟨IdealRules.named_const.statement Cert.PostBwdIdeal.κ "gelu_cube" .f32 0x3D372713#32 ((8943 / 200000 : ℝ) : EReal) rfl,
    IdealRules.named_const.statement Cert.PostBwdIdeal.κ "gelu_cube3" .f32 0x3E095D4F#32 ((26829 / 200000 : ℝ) : EReal) rfl⟩

/-- Over the reals the kernel's results are the reference's. -/
theorem post_value : Cert.algebraic_PostBwdIdeal_PostBwdRefIdeal_pre_finite_post (hPostBwdIdeal := Cert.PostBwdIdeal.Gen.facts)
    (hPostBwdRefIdeal := Cert.PostBwdRefIdeal.Gen.facts) (hPre_finite_post := Cert.Pre_finite_post.Gen.facts) := by
  intro m g m' g' hpre hagree
  have hr : ∀ c : Dev Cert.PostBwdIdeal.nD, ∃ (d y u : Fin 8192 → Fin 512 → ℝ) (w : Fin 512 → ℝ), (∀ r l, Cert.PostBwdIdeal.Grad.A0 m c (ix3 0 r l) = (d r l : EReal))
      ∧ (∀ r l, Cert.PostBwdIdeal.Grad.A1 m c (ix3 0 r l) = (y r l : EReal)) ∧ (∀ r l, Cert.PostBwdIdeal.Grad.A2 m c (ix3 0 r l) = (u r l : EReal))
      ∧ (∀ l, Cert.PostBwdIdeal.Grad.A3 m c (ix2 0 l) = (w l : EReal)) := fun c => by
    have hp := hpre c
    obtain ⟨d, hd⟩ := Reals.all_real _ _ hp.1
    obtain ⟨y, hy⟩ := Reals.all_real _ _ hp.2.1
    obtain ⟨u, hu⟩ := Reals.all_real _ _ hp.2.2.1
    obtain ⟨w, hw⟩ := Reals.all_real _ _ hp.2.2.2
    exact ⟨fun r l => d (ix3 0 r l), fun r l => y (ix3 0 r l), fun r l => u (ix3 0 r l), fun l => w (ix2 0 l),
      fun r l => congrFun hd _, fun r l => congrFun hy _, fun r l => congrFun hu _, fun l => congrFun hw _⟩
  choose d y u w h0 h1 h2 h3 using hr
  refine ⟨fun c => Cert.PostBwdRefIdeal.Grad.packedGrad (d c) (y c) (u c) (w c), fun c => Cert.PostBwdRefIdeal.Grad.skipGrad (d c) (y c) (u c) (w c), ?_, ?_⟩
  · exact (θ_run Cert.PostBwdIdeal.defs _ _).mono (fun r h c => ⟨(h c).1.trans (Cert.PostBwdIdeal.Grad.final4 (h0 c) (h1 c) (h2 c) (h3 c)),
      (h c).2.1.trans (Cert.PostBwdIdeal.Grad.final5 (h0 c) (h1 c) (h2 c) (h3 c)), (h c).2.2⟩) (Cert.PostBwdIdeal.Value.run_blocks (F := Ideal) m g)
  · have q0 := fun (c : Dev Cert.PostBwdIdeal.nD) r l => (congrFun (hagree c).1 (ix3 0 r l)).trans (h0 c r l)
    have q1 := fun (c : Dev Cert.PostBwdIdeal.nD) r l => (congrFun (hagree c).2.1 (ix3 0 r l)).trans (h1 c r l)
    have q2 := fun (c : Dev Cert.PostBwdIdeal.nD) r l => (congrFun (hagree c).2.2.1 (ix3 0 r l)).trans (h2 c r l)
    have q3 := fun (c : Dev Cert.PostBwdIdeal.nD) l => (congrFun (hagree c).2.2.2 (ix2 0 l)).trans (h3 c l)
    exact (θ_run Cert.PostBwdRefIdeal.defs _ _).mono (fun r h c => ⟨(h c).1.trans (Cert.PostBwdRefIdeal.Grad.final4 (q0 c) (q1 c) (q2 c) (q3 c)),
      (h c).2.1.trans (Cert.PostBwdRefIdeal.Grad.final5 (q0 c) (q1 c) (q2 c) (q3 c)), (h c).2.2⟩) (Cert.PostBwdRefIdeal.Value.run_blocks (F := Ideal) m' g')

end Cert.Proof

end
-- ==== Proof.RmsFwdValue.lean ====
module

public import proofs.«01_k».proof.Proof.Reals
public import proofs.«01_k».proof.Proof.Gen.RmsFwdIdeal.Value
public import proofs.«01_k».proof.Proof.Gen.RmsFwdRefIdeal.Read
public import Idealize.ShloMosaic.Lib.Pipeline.ValueKit

/-! # The norm's result

Both programs divide each row by the root of its mean square and multiply by the gain: the same operations in the same order, so
the claim needs no precondition. -/

@[expose] public section

set_option maxRecDepth 16384

noncomputable section

namespace Cert.RmsFwdIdeal.Call

open Cert.RmsFwdIdeal Cert.RmsFwdIdeal.Gen Idealize.ShloMosaic Idealize.ShloMosaic.TcCoe Idealize.SL.Sem
open Idealize.ShloMosaic.Pipeline (Dat)
open Cert.Reals
open Cert.RmsFwdRefIdeal.Read

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

theorem lt16 (t : Fin cfg0.N) : t.val < 16 := t.isLt

/-- The rows of the first argument at a point. -/
theorem blk0 (c : Dev nD) (t : Fin cfg0.N) (a : Fin 512) (k : Fin 1024) :
    iblk m c 0 t (ix2 a k) = m ((c : Thread nD τ).loc main_arg0) (ix3 0 ⟨t.val * 512 + a, by have := lt16 t; omega⟩ k) := by
  have ht := lt16 t
  blk_simp [iblk]
  entry_read
  pointwise
  blk_ext [iblk, V, idx t]

/-- The gain at a point. -/
theorem blk1 (c : Dev nD) (t : Fin cfg0.N) (k : Fin 1024) :
    iblk m c 1 t (ix2 0 k) = m ((c : Thread nD τ).loc main_arg1) (ix2 0 k) := by
  blk_ext [iblk, V, idx t]

/-- The kernel's result is the reference's. -/
theorem final (c : Dev nD) : (dats m 0 c).arrAt 2 (cfgs 0).N = val_main_v15 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have ht := lt16 t
  idx_vars y
  have e : ((View.whole main_v1).slice (win0_2.rect t)).emb (ix2 y0 y1) = ix2 ⟨t.val * 512 + y0, by omega⟩ y1 := by blk_ext [idx t]
  rw [e]
  open_payloads; pointwise
  simp only [blk0, blk1]
  generalize m ((c : Thread nD τ).loc main_arg0) = x
  generalize m ((c : Thread nD τ).loc main_arg1) = g
  pointwise [
    val_main_v15, val_main_v14, val_main_v13, val_main_v12, val_main_v11, val_main_v10, val_main_v9, val_main_v8,
    val_main_v7, val_main_v6, val_main_v5, val_main_cst_1, val_main_v4, val_main_v3, val_main_cst_0, val_main_v2,
    val_main_v1, val_main_cst, val_main_v0]

end Cert.RmsFwdIdeal.Call

end
-- ==== Proof.RmsFwdClaims.lean ====
module

public import proofs.«01_k».proof.Defs
public import proofs.«01_k».proof.Proof.Gen.RmsFwd
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.RmsFwdValue
public import Idealize.ShloMosaic.Lib.Claim
public import Idealize.ShloMosaic.Adequacy
public import Idealize.ShloMosaic.Init

/-! # The claims about the norm's result -/

@[expose] public section

noncomputable section

namespace Cert.Proof

open Idealize.ShloMosaic Idealize.SL.Sem

/-- The program of the norm's result runs to its end and leaves its arguments alone. -/
theorem rmsf_frame : Cert.quiescent_RmsFwd (hRmsFwd := Cert.RmsFwd.Gen.facts) := fun m ρ _ => Cert.RmsFwd.Gen.frame m ρ

/-- So does its ideal reading, -/
theorem rmsf_frame_ideal : Cert.quiescent_RmsFwdIdeal (hRmsFwdIdeal := Cert.RmsFwdIdeal.Gen.facts) := fun m ρ _ => Cert.RmsFwdIdeal.Gen.frame m ρ

/-- The reference runs to its end. -/
theorem rmsf_ref : Cert.quiescent_RmsFwdRefIdeal (hRmsFwdRefIdeal := Cert.RmsFwdRefIdeal.Gen.facts) := by
  intro m g _
  exact (θ_run Cert.RmsFwdRefIdeal.defs _ _).mono (fun r h => ⟨fun c => (h c).2, sem_eq_zero_of_no_sems (by decide) r.2⟩)
    (Cert.RmsFwdRefIdeal.Value.run m g)

/-- Over the reals the kernel's results are the reference's. -/
theorem rmsf_value : Cert.algebraic_RmsFwdIdeal_RmsFwdRefIdeal (hRmsFwdIdeal := Cert.RmsFwdIdeal.Gen.facts)
    (hRmsFwdRefIdeal := Cert.RmsFwdRefIdeal.Gen.facts) := by
  intro m g m' g' _ hagree
  refine ⟨fun c => Cert.RmsFwdRefIdeal.Read.val_main_v15 (F := Ideal) (m ((c.tc : Thread _ _).loc Cert.RmsFwdIdeal.main_arg0)) (m ((c.tc : Thread _ _).loc Cert.RmsFwdIdeal.main_arg1)), ?_, ?_⟩
  · refine (θ_run Cert.RmsFwdIdeal.defs _ _).mono (fun r h c => ⟨(h c).1.trans ?_, (h c).2⟩)
      (Cert.RmsFwdIdeal.Value.run_blocks (F := Ideal) m g)
    · exact Cert.RmsFwdIdeal.Call.final m c
  · refine (θ_run Cert.RmsFwdRefIdeal.defs _ _).mono (fun r h c => ⟨(h c).1.trans ?_, (h c).2⟩)
      (Cert.RmsFwdRefIdeal.Value.run (F := Ideal) m' g')
    refine (Cert.RmsFwdRefIdeal.Read.val_main_v15_eq (F := Ideal) _ _).trans ?_
    obtain ⟨h0, h1⟩ := hagree c
    rw [h0, h1]

end Cert.Proof

end
-- ==== Proof.PostFwdValue.lean ====
module

public import proofs.«01_k».proof.Proof.Reals
public import proofs.«01_k».proof.Proof.Gen.PostFwdIdeal.Value
public import proofs.«01_k».proof.Proof.Gen.PostFwdRefIdeal.Read
public import Idealize.ShloMosaic.Lib.Pipeline.ValueKit

/-! # The S5 layer's activation

The kernel and the reference take the same tanh of the same cubic, with the factors in another order, so the claim needs no
precondition. -/

@[expose] public section

set_option maxRecDepth 16384

noncomputable section

namespace Cert.PostFwdIdeal.Call

open Cert.PostFwdIdeal Cert.PostFwdIdeal.Gen Idealize.ShloMosaic Idealize.ShloMosaic.TcCoe Idealize.SL.Sem
open Idealize.ShloMosaic.Pipeline (Dat)
open Cert.Reals
open Cert.PostFwdRefIdeal.Read

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem lt4 (t : Fin cfg0.N) : t.val < 4 := t.isLt

/-- The scan's output at a point: eight rows to a packed row. -/
theorem blk0 (c : Dev nD) (t : Fin cfg0.N) (a : Fin 256) (k : Fin 4096) :
    iblk m c 0 t (ix2 a k) = m ((c : Thread nD τ).loc main_arg0)
      (ix3 0 ⟨(t.val * 256 + a.val) * 8 + k.val / 512, by have := lt4 t; omega⟩ ⟨k.val % 512, by omega⟩) := by
  have ht := lt4 t
  blk_simp [iblk]
  entry_read
  pointwise
  blk_ext [iblk, V, idx t]

/-- The layer's input at a point. -/
theorem blk1 (c : Dev nD) (t : Fin cfg0.N) (a : Fin 256) (k : Fin 4096) :
    iblk m c 1 t (ix2 a k) = m ((c : Thread nD τ).loc main_arg1)
      (ix3 0 ⟨(t.val * 256 + a.val) * 8 + k.val / 512, by have := lt4 t; omega⟩ ⟨k.val % 512, by omega⟩) := by
  have ht := lt4 t
  blk_simp [iblk]
  entry_read
  pointwise
  blk_ext [iblk, V, idx t]

/-- The skip's weights at a point, once for each of the eight rows. -/
theorem blk2 (c : Dev nD) (t : Fin cfg0.N) (k : Fin 4096) :
    iblk m c 2 t (ix2 0 k) = m ((c : Thread nD τ).loc main_arg2) (ix2 0 ⟨k.val % 512, by omega⟩) := by
  blk_simp [iblk]
  entry_read
  pointwise
  blk_ext [iblk, V, idx t]

/-- The kernel's result is the reference's. -/
theorem final (c : Dev nD) : (dats m 0 c).arrAt 3 (cfgs 0).N = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have ht := lt4 t
  idx_vars y
  have e : ((View.whole main_v5).slice (win0_3.rect t)).emb (ix2 y0 y1) = ix2 ⟨t.val * 256 + y0, by omega⟩ y1 := by blk_ext [idx t]
  rw [e]
  open_payloads; pointwise
  simp only [blk0, blk1, blk2]
  generalize m ((c : Thread nD τ).loc main_arg0) = x
  generalize m ((c : Thread nD τ).loc main_arg1) = u
  generalize m ((c : Thread nD τ).loc main_arg2) = d
  pointwise [
    val_main_v19, val_main_v18, val_main_v17, val_main_v16, val_main_v15, val_main_cst_2, val_main_v14, val_main_v13,
    val_main_cst_1, val_main_v12, val_main_v11, val_main_v10, val_main_cst_0, val_main_v9, val_main_v8, val_main_v7,
    val_main_cst, val_main_v6, val_main_v5, val_main_v4, val_main_v3, val_main_v2, val_main_v1, val_main_v0]
  ac_rfl

end Cert.PostFwdIdeal.Call

end
-- ==== Proof.PostFwdClaims.lean ====
module

public import proofs.«01_k».proof.Defs
public import proofs.«01_k».proof.Proof.Gen.PostFwd
public import proofs.«01_k».proof.Proof.Gen.PostFwd.Frame
public import proofs.«01_k».proof.Proof.Gen.PostFwdIdeal.Frame
public import proofs.«01_k».proof.Proof.Gen.PostFwdIdeal.Value
public import proofs.«01_k».proof.Proof.Gen.PostFwdRefIdeal
public import proofs.«01_k».proof.Proof.Gen.PostFwdRefIdeal.Run
public import proofs.«01_k».proof.Proof.Gen.PostFwdRefIdeal.Read
public import proofs.«01_k».proof.Proof.PostFwdValue
public import Idealize.ShloMosaic.Lib.Claim
public import Idealize.ShloMosaic.Adequacy
public import Idealize.ShloMosaic.Init

/-! # The claims about the S5 layer's activation -/

@[expose] public section

noncomputable section

namespace Cert.Proof

open Idealize.ShloMosaic Idealize.SL.Sem

/-- The program of the activation's result runs to its end and leaves its arguments alone. -/
theorem postf_frame : Cert.quiescent_PostFwd (hPostFwd := Cert.PostFwd.Gen.facts) := fun m ρ _ => Cert.PostFwd.Gen.frame m ρ

/-- So does its ideal reading, -/
theorem postf_frame_ideal : Cert.quiescent_PostFwdIdeal (hPostFwdIdeal := Cert.PostFwdIdeal.Gen.facts) := fun m ρ _ => Cert.PostFwdIdeal.Gen.frame m ρ

/-- The reference runs to its end. -/
theorem postf_ref : Cert.quiescent_PostFwdRefIdeal (hPostFwdRefIdeal := Cert.PostFwdRefIdeal.Gen.facts) := by
  intro m g _
  exact (θ_run Cert.PostFwdRefIdeal.defs _ _).mono (fun r h => ⟨fun c => (h c).2, sem_eq_zero_of_no_sems (by decide) r.2⟩)
    (Cert.PostFwdRefIdeal.Value.run m g)

/-- Over the reals the kernel's results are the reference's. -/
theorem postf_value : Cert.algebraic_PostFwdIdeal_PostFwdRefIdeal (hPostFwdIdeal := Cert.PostFwdIdeal.Gen.facts)
    (hPostFwdRefIdeal := Cert.PostFwdRefIdeal.Gen.facts) := by
  intro m g m' g' _ hagree
  refine ⟨fun c => Cert.PostFwdRefIdeal.Read.val_main_v19 (F := Ideal) (m ((c.tc : Thread _ _).loc Cert.PostFwdIdeal.main_arg0)) (m ((c.tc : Thread _ _).loc Cert.PostFwdIdeal.main_arg1)) (m ((c.tc : Thread _ _).loc Cert.PostFwdIdeal.main_arg2)), ?_, ?_⟩
  · refine (θ_run Cert.PostFwdIdeal.defs _ _).mono (fun r h c => ⟨(h c).1.trans ?_, (h c).2⟩)
      (Cert.PostFwdIdeal.Value.run_blocks (F := Ideal) m g)
    · exact Cert.PostFwdIdeal.Call.final m c
  · refine (θ_run Cert.PostFwdRefIdeal.defs _ _).mono (fun r h c => ⟨(h c).1.trans ?_, (h c).2⟩)
      (Cert.PostFwdRefIdeal.Value.run (F := Ideal) m' g')
    refine (Cert.PostFwdRefIdeal.Read.val_main_v19_eq (F := Ideal) _ _ _).trans ?_
    obtain ⟨h0, h1, h2⟩ := hagree c
    rw [h0, h1, h2]

end Cert.Proof

end
-- ==== Proof.MixFwdValue.lean ====
module

public import proofs.«01_k».proof.Proof.Reals
public import proofs.«01_k».proof.Proof.Gen.MixFwdIdeal.Value
public import proofs.«01_k».proof.Proof.Gen.MixFwdRefIdeal.Read
public import Idealize.ShloMosaic.Lib.Pipeline.ValueKit

/-! # The gated mix

The mix and its product by the output's weights. The sigmoids are the same quotients in both programs, so the claim needs no
precondition. -/

@[expose] public section

set_option maxRecDepth 16384

noncomputable section

namespace Cert.MixFwdIdeal.Call

open Cert.MixFwdIdeal Cert.MixFwdIdeal.Gen Idealize.ShloMosaic Idealize.ShloMosaic.TcCoe Idealize.SL.Sem
open Idealize.ShloMosaic.Pipeline (Dat)
open Cert.Reals
open Cert.MixFwdRefIdeal.Read

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

theorem lt16 (t : Fin cfg0.N) : t.val < 16 := t.isLt

/-! What each window holds at a point. -/

theorem blk0 (c : Dev nD) (t : Fin cfg0.N) (a : Fin 512) (k : Fin 2048) :
    iblk m c 0 t (ix2 a k) = m ((c : Thread nD τ).loc main_arg0) (ix2 ⟨t.val * 512 + a, by have := lt16 t; omega⟩ k) := by
  blk_simp [iblk]
  entry_read
  blk_ext [idx t]

theorem blk1 (c : Dev nD) (t : Fin cfg0.N) (a : Fin 512) (k : Fin 2048) :
    iblk m c 1 t (ix2 a k) = m ((c : Thread nD τ).loc main_arg1) (ix2 ⟨t.val * 512 + a, by have := lt16 t; omega⟩ k) := by
  blk_simp [iblk]
  entry_read
  blk_ext [idx t]

theorem blk2 (c : Dev nD) (t : Fin cfg0.N) (a : Fin 512) (k : Fin 1024) :
    iblk m c 2 t (ix2 a k) = m ((c : Thread nD τ).loc main_arg2) (ix2 ⟨t.val * 512 + a, by have := lt16 t; omega⟩ k) := by
  blk_simp [iblk]
  entry_read
  blk_ext [idx t]

theorem blk3 (c : Dev nD) (t : Fin cfg0.N) (a : Fin 1024) (k : Fin 1024) :
    iblk m c 3 t (ix2 a k) = m ((c : Thread nD τ).loc main_arg3) (ix2 a k) := by
  blk_simp [iblk]
  entry_read
  blk_ext [idx t]

theorem blk4 (c : Dev nD) (t : Fin cfg0.N) (a : Fin 512) (k : Fin 1024) :
    iblk m c 4 t (ix2 a k) = m ((c : Thread nD τ).loc main_arg4) (ix2 ⟨t.val * 512 + a, by have := lt16 t; omega⟩ k) := by
  blk_ext [iblk, V, idx t]

/-- The mix. -/
theorem final5 (c : Dev nD) : (dats m 0 c).arrAt 5 (cfgs 0).N = val_main_v20 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  have ht := lt16 t
  idx_vars y
  have e : ((View.whole main_v4_0).slice (win0_5.rect t)).emb (ix2 y0 y1) = ix2 ⟨t.val * 512 + y0, by omega⟩ y1 := by blk_ext [idx t]
  rw [e]
  open_payloads; pointwise
  simp only [kernelRun0_A.sl.H5_1, kernelRun0_A.sl.v42, kernelRun0_A.sl.r]
  frame_out
  open_payloads; pointwise
  simp only [blk0, blk1, blk2, blk3, blk4]
  generalize m ((c : Thread nD τ).loc main_arg0) = u
  generalize m ((c : Thread nD τ).loc main_arg1) = g
  generalize m ((c : Thread nD τ).loc main_arg2) = o
  generalize m ((c : Thread nD τ).loc main_arg3) = w
  generalize m ((c : Thread nD τ).loc main_arg4) = h
  pointwise [
    val_main_v22, val_main_v21, val_main_v20, val_main_v19, val_main_v18, val_main_v17, val_main_v16, val_main_v15,
    val_main_v14, val_main_v13, val_main_cst_2, val_main_v12, val_main_v11, val_main_cst_1, val_main_v10, val_main_v9,
    val_main_v8, val_main_v7, val_main_v6, val_main_cst_0, val_main_v5, val_main_v4, val_main_cst, val_main_v3,
    val_main_v2, val_main_v1, val_main_v0]
  simp only [zero_sub]

/-- The residual and the mix's product. -/
theorem final6 (c : Dev nD) : (dats m 0 c).arrAt 6 (cfgs 0).N
    = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  have ht := lt16 t
  idx_vars y
  have e : ((View.whole main_v4_1).slice (win0_6.rect t)).emb (ix2 y0 y1) = ix2 ⟨t.val * 512 + y0, by omega⟩ y1 := by blk_ext [idx t]
  rw [e]
  open_payloads; pointwise
  simp only [kernelRun0_A.sl.H5_1, kernelRun0_A.sl.v42, kernelRun0_A.sl.r]
  frame_out
  open_payloads; pointwise
  simp only [blk0, blk1, blk2, blk3, blk4]
  generalize m ((c : Thread nD τ).loc main_arg0) = u
  generalize m ((c : Thread nD τ).loc main_arg1) = g
  generalize m ((c : Thread nD τ).loc main_arg2) = o
  generalize m ((c : Thread nD τ).loc main_arg3) = w
  generalize m ((c : Thread nD τ).loc main_arg4) = h
  pointwise [
    val_main_v22, val_main_v21, val_main_v20, val_main_v19, val_main_v18, val_main_v17, val_main_v16, val_main_v15,
    val_main_v14, val_main_v13, val_main_cst_2, val_main_v12, val_main_v11, val_main_cst_1, val_main_v10, val_main_v9,
    val_main_v8, val_main_v7, val_main_v6, val_main_cst_0, val_main_v5, val_main_v4, val_main_cst, val_main_v3,
    val_main_v2, val_main_v1, val_main_v0]
  simp only [zero_sub]
  exact add_comm (G := EReal) _ _

end Cert.MixFwdIdeal.Call

end
-- ==== Proof.MixFwdClaims.lean ====
module

public import proofs.«01_k».proof.Defs
public import proofs.«01_k».proof.Proof.Gen.MixFwd
public import proofs.«01_k».proof.Proof.Gen.MixFwd.Frame
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.MixFwdValue
public import Idealize.ShloMosaic.Lib.Claim
public import Idealize.ShloMosaic.Adequacy
public import Idealize.ShloMosaic.Init

/-! # The claims about the gated mix -/

@[expose] public section

noncomputable section

namespace Cert.Proof

open Idealize.ShloMosaic Idealize.SL.Sem

/-- The program of the mix and its product runs to its end and leaves its arguments alone. -/
theorem mixf_frame : Cert.quiescent_MixFwd (hMixFwd := Cert.MixFwd.Gen.facts) := fun m ρ _ => Cert.MixFwd.Gen.frame m ρ

/-- So does its ideal reading, -/
theorem mixf_frame_ideal : Cert.quiescent_MixFwdIdeal (hMixFwdIdeal := Cert.MixFwdIdeal.Gen.facts) := fun m ρ _ => Cert.MixFwdIdeal.Gen.frame m ρ

/-- The reference runs to its end. -/
theorem mixf_ref : Cert.quiescent_MixFwdRefIdeal (hMixFwdRefIdeal := Cert.MixFwdRefIdeal.Gen.facts) := by
  intro m g _
  exact (θ_run Cert.MixFwdRefIdeal.defs _ _).mono (fun r h => ⟨fun c => (h c).2.2, sem_eq_zero_of_no_sems (by decide) r.2⟩)
    (Cert.MixFwdRefIdeal.Value.run m g)

/-- Over the reals the kernel's results are the reference's. -/
theorem mixf_value : Cert.algebraic_MixFwdIdeal_MixFwdRefIdeal (hMixFwdIdeal := Cert.MixFwdIdeal.Gen.facts)
    (hMixFwdRefIdeal := Cert.MixFwdRefIdeal.Gen.facts) := by
  intro m g m' g' _ hagree
  refine ⟨fun c => Cert.MixFwdRefIdeal.Read.val_main_v20 (F := Ideal) (m ((c.tc : Thread _ _).loc Cert.MixFwdIdeal.main_arg0)) (m ((c.tc : Thread _ _).loc Cert.MixFwdIdeal.main_arg1)) (m ((c.tc : Thread _ _).loc Cert.MixFwdIdeal.main_arg2)),
    fun c => Cert.MixFwdRefIdeal.Read.val_main_v22 (F := Ideal) (m ((c.tc : Thread _ _).loc Cert.MixFwdIdeal.main_arg0)) (m ((c.tc : Thread _ _).loc Cert.MixFwdIdeal.main_arg1)) (m ((c.tc : Thread _ _).loc Cert.MixFwdIdeal.main_arg2)) (m ((c.tc : Thread _ _).loc Cert.MixFwdIdeal.main_arg3)) (m ((c.tc : Thread _ _).loc Cert.MixFwdIdeal.main_arg4)), ?_, ?_⟩
  · refine (θ_run Cert.MixFwdIdeal.defs _ _).mono (fun r h c => ⟨(h c).1.trans ?_, (h c).2.1.trans ?_, (h c).2.2⟩)
      (Cert.MixFwdIdeal.Value.run_blocks (F := Ideal) m g)
    · exact Cert.MixFwdIdeal.Call.final5 m c
    · exact Cert.MixFwdIdeal.Call.final6 m c
  · refine (θ_run Cert.MixFwdRefIdeal.defs _ _).mono (fun r h c => ⟨(h c).1.trans ?_, (h c).2.1.trans ?_, (h c).2.2⟩)
      (Cert.MixFwdRefIdeal.Value.run (F := Ideal) m' g')
    · refine (Cert.MixFwdRefIdeal.Read.val_main_v20_eq (F := Ideal) _ _ _).trans ?_
      obtain ⟨h0, h1, h2, h3, h4⟩ := hagree c
      rw [h0, h1, h2]
    · refine (Cert.MixFwdRefIdeal.Read.val_main_v22_eq (F := Ideal) _ _ _ _ _).trans ?_
      obtain ⟨h0, h1, h2, h3, h4⟩ := hagree c
      rw [h0, h1, h2, h3, h4]

end Cert.Proof

end
-- ==== Proof.FfnInValue.lean ====
module

public import proofs.«01_k».proof.Proof.Reals
public import proofs.«01_k».proof.Proof.Gen.FfnInIdeal.Value
public import proofs.«01_k».proof.Proof.Gen.FfnInRefIdeal.Read
public import Idealize.ShloMosaic.Lib.Pipeline.ValueKit

/-! # The SwiGLU

The product by the feed-forward layer's first weights, in the version's order of columns, and the gate: the same operations in
both programs, so the claim needs no precondition. -/

@[expose] public section

set_option maxRecDepth 16384

noncomputable section

namespace Cert.FfnInIdeal.Call

open Cert.FfnInIdeal Cert.FfnInIdeal.Gen Idealize.ShloMosaic Idealize.ShloMosaic.TcCoe Idealize.SL.Sem
open Idealize.ShloMosaic.Pipeline (Dat)
open Cert.Reals
open Cert.FfnInRefIdeal.Read

variable (m : (ℓ : Loc nD τ sig) → Buf (Elt Ideal) ℓ)

/-- The block of each window at a grid point: sixteen blocks of rows for each of the two blocks of columns. -/
theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

theorem lt32 (t : Fin cfg0.N) : t.val < 32 := t.isLt

/-- The rows of the first factor at a point. -/
theorem blk0 (c : Dev nD) (t : Fin cfg0.N) (a : Fin 512) (k : Fin 1024) :
    iblk m c 0 t (ix2 a k) = m ((c : Thread nD τ).loc main_arg0) (ix2 ⟨t.val % 16 * 512 + a, by omega⟩ k) := by
  blk_simp [iblk]
  entry_read
  blk_ext [idx t]

/-- The columns of the weights at a point: a part of the gate's, then the same part of the other half's. -/
theorem blk1 (c : Dev nD) (t : Fin cfg0.N) (a : Fin 1024) (k : Fin 2816) :
    iblk m c 1 t (ix2 a k) = m ((c : Thread nD τ).loc main_arg1) (ix2 a
      ⟨k / 1408 * 2816 + (t.val / 16 * 1408 + k % 1408), by have := lt32 t; omega⟩) := by
  have ht := lt32 t
  blk_simp [iblk]
  entry_read
  pointwise
  blk_ext [iblk, V, idx t]

/-- The product, in the version's order of columns. -/
theorem final2 (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have ht := lt32 t
  idx_vars y
  have e : ((View.whole main_v5_0).slice (win0_2.rect t)).emb (ix2 y0 y1)
      = ix2 ⟨t.val % 16 * 512 + y0, by omega⟩ ⟨t.val / 16 * 2816 + y1, by omega⟩ := by blk_ext [idx t]
  rw [e]
  open_payloads; pointwise
  simp only [blk0, blk1]
  generalize m ((c : Thread nD τ).loc main_arg0) = x
  generalize m ((c : Thread nD τ).loc main_arg1) = w
  pointwise [
    val_main_v9, val_main_v8, val_main_v7, val_main_call0_v5, val_main_call0_v4, val_main_call0_cst_0, val_main_call0_v3,
    val_main_call0_v2, val_main_call0_cst, val_main_call0_v1, val_main_call0_v0, val_main_v6, val_main_v5, val_main_v4,
    val_main_v3, val_main_v2, val_main_v1, val_main_v0]
  have e2 : (t.val / 16 * 2816 + y1.val) / 1408 % 2 * 2816 + (t.val / 16 * 2816 + y1.val) / 2816 * 1408 + (t.val / 16 * 2816 + y1.val) % 1408
      = y1.val / 1408 * 2816 + (t.val / 16 * 1408 + y1.val % 1408) := by omega
  simp only [e2]

/-- The gated product. -/
theorem final3 (c : Dev nD) : (dats m 0 c).arrAt 3 (cfgs 0).N = val_main_v9 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  have ht := lt32 t
  idx_vars y
  have e : ((View.whole main_v5_1).slice (win0_3.rect t)).emb (ix2 y0 y1)
      = ix2 ⟨t.val % 16 * 512 + y0, by omega⟩ ⟨t.val / 16 * 1408 + y1, by omega⟩ := by blk_ext [idx t]
  rw [e]
  open_payloads; pointwise
  simp only [blk0, blk1]
  generalize m ((c : Thread nD τ).loc main_arg0) = x
  generalize m ((c : Thread nD τ).loc main_arg1) = w
  pointwise [
    val_main_v9, val_main_v8, val_main_v7, val_main_call0_v5, val_main_call0_v4, val_main_call0_cst_0, val_main_call0_v3,
    val_main_call0_v2, val_main_call0_cst, val_main_call0_v1, val_main_call0_v0, val_main_v6, val_main_v5, val_main_v4,
    val_main_v3, val_main_v2, val_main_v1, val_main_v0]
  have e2 : y1.val / 1408 * 2816 + (t.val / 16 * 1408 + y1.val % 1408) = t.val / 16 * 1408 + y1.val := by omega
  have e3 : (1408 + y1.val) / 1408 * 2816 + (t.val / 16 * 1408 + (1408 + y1.val) % 1408) = 2816 + (t.val / 16 * 1408 + y1.val) := by omega
  simp only [e2, e3, zero_sub]

end Cert.FfnInIdeal.Call

end
-- ==== Proof.FfnInClaims.lean ====
module

public import proofs.«01_k».proof.Defs
public import proofs.«01_k».proof.Proof.Gen.FfnIn
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.FfnInValue
public import Idealize.ShloMosaic.Lib.Claim
public import Idealize.ShloMosaic.Adequacy
public import Idealize.ShloMosaic.Init

/-! # The claims about the SwiGLU -/

@[expose] public section

noncomputable section

namespace Cert.Proof

open Idealize.ShloMosaic Idealize.SL.Sem

/-- The program of the SwiGLU runs to its end and leaves its arguments alone. -/
theorem ffn_frame : Cert.quiescent_FfnIn (hFfnIn := Cert.FfnIn.Gen.facts) := fun m ρ _ => Cert.FfnIn.Gen.frame m ρ

/-- So does its ideal reading, -/
theorem ffn_frame_ideal : Cert.quiescent_FfnInIdeal (hFfnInIdeal := Cert.FfnInIdeal.Gen.facts) := fun m ρ _ => Cert.FfnInIdeal.Gen.frame m ρ

/-- The reference runs to its end. -/
theorem ffn_ref : Cert.quiescent_FfnInRefIdeal (hFfnInRefIdeal := Cert.FfnInRefIdeal.Gen.facts) := by
  intro m g _
  exact (θ_run Cert.FfnInRefIdeal.defs _ _).mono (fun r h => ⟨fun c => (h c).2.2, sem_eq_zero_of_no_sems (by decide) r.2⟩)
    (Cert.FfnInRefIdeal.Value.run m g)

/-- Over the reals the kernel's results are the reference's. -/
theorem ffn_value : Cert.algebraic_FfnInIdeal_FfnInRefIdeal (hFfnInIdeal := Cert.FfnInIdeal.Gen.facts)
    (hFfnInRefIdeal := Cert.FfnInRefIdeal.Gen.facts) := by
  intro m g m' g' _ hagree
  refine ⟨fun c => Cert.FfnInRefIdeal.Read.val_main_v6 (F := Ideal) (m ((c.tc : Thread _ _).loc Cert.FfnInIdeal.main_arg0)) (m ((c.tc : Thread _ _).loc Cert.FfnInIdeal.main_arg1)),
    fun c => Cert.FfnInRefIdeal.Read.val_main_v9 (F := Ideal) (m ((c.tc : Thread _ _).loc Cert.FfnInIdeal.main_arg0)) (m ((c.tc : Thread _ _).loc Cert.FfnInIdeal.main_arg1)), ?_, ?_⟩
  · refine (θ_run Cert.FfnInIdeal.defs _ _).mono (fun r h c => ⟨(h c).1.trans ?_, (h c).2.1.trans ?_, (h c).2.2⟩)
      (Cert.FfnInIdeal.Value.run_blocks (F := Ideal) m g)
    · exact Cert.FfnInIdeal.Call.final2 m c
    · exact Cert.FfnInIdeal.Call.final3 m c
  · refine (θ_run Cert.FfnInRefIdeal.defs _ _).mono (fun r h c => ⟨(h c).1.trans ?_, (h c).2.1.trans ?_, (h c).2.2⟩)
      (Cert.FfnInRefIdeal.Value.run (F := Ideal) m' g')
    · refine (Cert.FfnInRefIdeal.Read.val_main_v6_eq (F := Ideal) _ _).trans ?_
      obtain ⟨h0, h1⟩ := hagree c
      rw [h0, h1]
    · refine (Cert.FfnInRefIdeal.Read.val_main_v9_eq (F := Ideal) _ _).trans ?_
      obtain ⟨h0, h1⟩ := hagree c
      rw [h0, h1]

end Cert.Proof

end
-- ==== Proof.MemFwdValue.lean ====
module

public import proofs.«01_k».proof.Proof.Reals
public import proofs.«01_k».proof.Proof.MemMath
public import proofs.«01_k».proof.Proof.Gen.MemFwdIdeal.Value
public import proofs.«01_k».proof.Proof.Gen.MemFwdRefIdeal.Read
public import Idealize.ShloMosaic.Lib.Pipeline.ValueKit

/-! # The memory attention's output

A head at a time, both programs take the row's maximum out of the scores, divide the exponentials by their sum and weigh the
values with the quotients. The reference takes the maximum with minus infinity once more, and has the factors of the last product in
the other order, so the claim needs no precondition. -/

@[expose] public section

set_option maxRecDepth 16384

noncomputable section

namespace Cert.MemFwdIdeal.Call

open Cert.MemFwdIdeal Cert.MemFwdIdeal.Gen Idealize.ShloMosaic Idealize.ShloMosaic.TcCoe Idealize.SL.Sem
open Idealize.ShloMosaic.Pipeline (Dat)
open Cert.Reals Cert.Mem
open Cert.MemFwdRefIdeal.Read

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

theorem lt16 (t : Fin cfg0.N) : t.val < 16 := t.isLt

/-- The keys beside the values, as the kernel has them. -/
def kv (x1 x2 : FVec Ideal S1x256x4x128 .f32) : FVec Ideal S256x1024 .bf16 :=
  truncf .bf16 (concatenate S256x1024 1 [⟨S256x512, shapeCast S256x512 x1 shapeCasts_S1x256x4x128_S256x512⟩,
    ⟨S256x512, shapeCast S256x512 x2 shapeCasts_S1x256x4x128_S256x512⟩] concatenates_S256x512_S256x512_S256x1024_d1) bitsLt_bf16_f32

theorem V5 (c : Dev nD) : V m c main_v5 = kv (m ((c : Thread nD τ).loc main_arg1)) (m ((c : Thread nD τ).loc main_arg2)) := by
  unfold V hostOps0
  after_results_simp <;> rfl

theorem win1 (X : FVec Ideal S256x1024 .bf16) (t : Fin cfg0.N) (a : Fin 256) (k : Fin 1024) :
    ((cfg0.win 1).blk t).view.read (Elt Ideal) X (ix2 a k) = X (ix2 a k) := by
  blk_ext [idx t]

/-- The queries at a point. -/
theorem row0 (c : Dev nD) (t : Fin cfg0.N) (a : Fin 512) (k : Fin 512) :
    iblk m c 0 t (ix2 a k) = m ((c : Thread nD τ).loc main_arg0) (ix4 0 ⟨t.val * 512 + a, by have := lt16 t; omega⟩
      ⟨k / 128, by omega⟩ ⟨k % 128, by omega⟩) := by
  blk_simp [iblk]
  entry_read
  pointwise
  blk_ext [idx t]

/-- A head's query at a point. -/
theorem blkq (c : Dev nD) (t : Fin cfg0.N) (a : Fin 512) (k : Fin 512) (h : Fin 4) (d : Fin 128) (hk : k.val = h * 128 + d) (i : Fin 8192)
    (hi : i.val = t.val * 512 + a) : iblk m c 0 t (ix2 a k) = m ((c : Thread nD τ).loc main_arg0) (ix4 0 i h d) := by
  rw [row0]
  simp only [show k.val / 128 = h by omega, show k.val % 128 = d by omega, ← hi]

/-- A key at a point. -/
theorem blkk (c : Dev nD) (t : Fin cfg0.N) (a : Fin 256) (k : Fin 1024) (h : Fin 4) (d : Fin 128) (hk : k.val = h * 128 + d) :
    iblk m c 1 t (ix2 a k) = m ((c : Thread nD τ).loc main_arg1) (ix4 0 a h d) := by
  have e : iblk m c 1 t = ((cfg0.win 1).blk t).view.read (Elt Ideal) (kv (m ((c : Thread nD τ).loc main_arg1)) (m ((c : Thread nD τ).loc main_arg2))) :=
    congrArg (((cfg0.win 1).blk t).view.read (Elt Ideal)) (V5 m c)
  rw [e, win1]
  pointwise [kv]
  rw [dif_pos (by omega)]
  simp only [show k.val / 128 = h by omega, show k.val % 128 = d by omega]

/-- A value at a point. -/
theorem blkv (c : Dev nD) (t : Fin cfg0.N) (a : Fin 256) (k : Fin 1024) (h : Fin 4) (d : Fin 128) (hk : k.val = 512 + h * 128 + d) :
    iblk m c 1 t (ix2 a k) = m ((c : Thread nD τ).loc main_arg2) (ix4 0 a h d) := by
  have e : iblk m c 1 t = ((cfg0.win 1).blk t).view.read (Elt Ideal) (kv (m ((c : Thread nD τ).loc main_arg1)) (m ((c : Thread nD τ).loc main_arg2))) :=
    congrArg (((cfg0.win 1).blk t).view.read (Elt Ideal)) (V5 m c)
  rw [e, win1]
  pointwise [kv]
  rw [dif_neg (by omega)]
  simp only [show (k.val - 512) / 128 = h by omega, show (k.val - 512) % 128 = d by omega]

section Reference

variable (q : FVec Ideal S1x8192x4x128 .f32) (k v : FVec Ideal S1x256x4x128 .f32) (h : Fin 4) (i : Fin 8192)

/-- A score of the reference. -/
theorem score (j : Fin 256) : val_main_v2 (F := Ideal) q k (ix4 0 h i j)
    = (∑ d, q (ix4 0 i h d) * k (ix4 0 j h d)) * Ideal.ofBits FTy.f32 0x3DB504F3#32 := by
  pointwise [val_main_v2, val_main_v1, val_main_v0, val_main_cst]

/-- The maximum of a row's scores. -/
theorem top0 : val_main_v3 (F := Ideal) q k (ix3 0 h i)
    = Finset.fold max (Ideal.ofBits FTy.f32 0xFF800000#32) (fun j => val_main_v2 (F := Ideal) q k (ix4 0 h i j)) Finset.univ := by
  pointwise [val_main_v3, val_main_cst_0]

theorem top1 : val_main_v5 (F := Ideal) q k (ix3 0 h i) = max (val_main_v4 (F := Ideal) (ix3 0 h i)) (val_main_v3 (F := Ideal) q k (ix3 0 h i)) := by
  rw [val_main_v5_apply]
  generalize val_main_v4 (F := Ideal) (ix3 0 h i) = a
  generalize val_main_v3 (F := Ideal) q k (ix3 0 h i) = b
  rfl

theorem top2 : val_main_v4 (F := Ideal) (ix3 0 h i) = ⊥ := by
  rw [val_main_v4_apply, val_main_cst_1_apply]
  exact ofBits_neg_inf

/-- What the reference takes out of a row's scores. -/
theorem top : val_main_v5 (F := Ideal) q k (ix3 0 h i)
    = Finset.fold max (Ideal.ofBits FTy.f32 0xFF800000#32)
      (fun j => (∑ d, q (ix4 0 i h d) * k (ix4 0 j h d)) * Ideal.ofBits FTy.f32 0x3DB504F3#32) Finset.univ := by
  rw [top1, top2, bot_sup_eq, top0]
  simp only [score]

/-- The reference's weight. -/
theorem weight (j : Fin 256) : val_main_v13 (F := Ideal) q k (ix4 0 h i j) = tileP (fun d => q (ix4 0 i h d)) (fun j d => k (ix4 0 j h d)) j := by
  pointwise [val_main_v13, val_main_v12, val_main_v11, val_main_v10, val_main_v9, val_main_v8, val_main_v7, val_main_v6, val_main_cst_2]
  simp only [top, score]
  rfl

/-- An element of the reference's result. -/
theorem ref_apply (r : Fin 512) (d : Fin 128) (hr : r.val = h * 128 + d) :
    val_main_v17 (F := Ideal) q k v (ix2 i r)
      = ∑ j, tileP (fun d => q (ix4 0 i h d)) (fun j d => k (ix4 0 j h d)) j * v (ix4 0 j h d) := by
  pointwise [val_main_v17, val_main_v16, val_main_v15, val_main_v14]
  simp only [show r.val / 128 = h by omega, show r.val % 128 = d by omega, weight]
  exact Finset.sum_congr rfl fun j _ => mul_comm _ _

end Reference

/-- A head's output, from the blocks' entries. -/
theorem head (c : Dev nD) (t : Fin cfg0.N) (h : Fin 4) (kq : Fin 128 → Fin 512) (kk : Fin 128 → Fin 1024) (kw : Fin 1024) (l : Fin 128)
    (hq : ∀ d, (kq d).val = h * 128 + d) (hk : ∀ d, (kk d).val = h * 128 + d) (hw : kw.val = 512 + h * 128 + l)
    (a : Fin 512) (i : Fin 8192) (r : Fin 512) (hi : i.val = t.val * 512 + a) (hr : r.val = h * 128 + l) :
    ∑ j, tileP (fun d => iblk m c 0 t (ix2 a (kq d))) (fun j d => iblk m c 1 t (ix2 j (kk d))) j * iblk m c 1 t (ix2 j kw)
      = val_main_v17 (F := Ideal) (m ((c : Thread nD τ).loc main_arg0)) (m ((c : Thread nD τ).loc main_arg1)) (m ((c : Thread nD τ).loc main_arg2)) (ix2 i r) := by
  refine Eq.trans ?_ (ref_apply (m ((c : Thread nD τ).loc main_arg0)) (m ((c : Thread nD τ).loc main_arg1)) (m ((c : Thread nD τ).loc main_arg2)) h i r l hr).symm
  simp only [fun d => blkq m c t a (kq d) h d (hq d) i hi, fun j d => blkk m c t j (kk d) h d (hk d), fun j => blkv m c t j kw h l hw]

/-- The kernel's result is the reference's. -/
theorem final (c : Dev nD) : (dats m 0 c).arrAt 2 (cfgs 0).N = val_main_v17 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  have ht := lt16 t
  canon_tiles x h
  · idx_vars x
    have e : ((View.whole main_v6).slice (win0_2.rect t)).emb y = ix2 ⟨t.val * 512 + x0, by omega⟩ ⟨384 + x1, by omega⟩ := by blk_ext [idx t]
    rw [e]
    open_payloads; pointwise
    exact head m c t 3 (fun d => ⟨384 + d, by omega⟩) (fun d => ⟨384 + d, by omega⟩) ⟨896 + x1, by omega⟩ x1 (fun _ => rfl) (fun _ => rfl) rfl x0 _ _ rfl rfl
  · idx_vars x
    have e : ((View.whole main_v6).slice (win0_2.rect t)).emb y = ix2 ⟨t.val * 512 + x0, by omega⟩ ⟨256 + x1, by omega⟩ := by blk_ext [idx t]
    rw [e]
    open_payloads; pointwise
    exact head m c t 2 (fun d => ⟨256 + d, by omega⟩) (fun d => ⟨256 + d, by omega⟩) ⟨768 + x1, by omega⟩ x1 (fun _ => rfl) (fun _ => rfl) rfl x0 _ _ rfl rfl
  · idx_vars x
    have e : ((View.whole main_v6).slice (win0_2.rect t)).emb y = ix2 ⟨t.val * 512 + x0, by omega⟩ ⟨128 + x1, by omega⟩ := by blk_ext [idx t]
    rw [e]
    open_payloads; pointwise
    exact head m c t 1 (fun d => ⟨128 + d, by omega⟩) (fun d => ⟨128 + d, by omega⟩) ⟨640 + x1, by omega⟩ x1 (fun _ => rfl) (fun _ => rfl) rfl x0 _ _ rfl rfl
  · idx_vars x
    have e : ((View.whole main_v6).slice (win0_2.rect t)).emb y = ix2 ⟨t.val * 512 + x0, by omega⟩ ⟨x1, by omega⟩ := by blk_ext [idx t]
    rw [e]
    open_payloads; pointwise
    exact head m c t 0 (fun d => ⟨d, by omega⟩) (fun d => ⟨d, by omega⟩) ⟨512 + x1, by omega⟩ x1 (fun _ => by simp) (fun _ => by simp) (by simp) x0 _ _ rfl (by simp)

end Cert.MemFwdIdeal.Call

end
-- ==== Proof.MemFwdClaims.lean ====
module

public import proofs.«01_k».proof.Defs
public import proofs.«01_k».proof.Proof.Gen.MemFwd
public import proofs.«01_k».proof.Proof.Gen.MemFwd.Frame
public import proofs.«01_k».proof.Proof.Gen.MemFwdIdeal.Frame
public import proofs.«01_k».proof.Proof.Gen.MemFwdIdeal.Value
public import proofs.«01_k».proof.Proof.Gen.MemFwdRefIdeal
public import proofs.«01_k».proof.Proof.Gen.MemFwdRefIdeal.Run
public import proofs.«01_k».proof.Proof.Gen.MemFwdRefIdeal.Read
public import proofs.«01_k».proof.Proof.MemFwdValue
public import Idealize.ShloMosaic.Lib.Claim
public import Idealize.ShloMosaic.Adequacy
public import Idealize.ShloMosaic.Init

/-! # The claims about the memory attention's output -/

@[expose] public section

noncomputable section

namespace Cert.Proof

open Idealize.ShloMosaic Idealize.SL.Sem

/-- The program of the memory attention's output runs to its end and leaves its arguments alone. -/
theorem memf_frame : Cert.quiescent_MemFwd (hMemFwd := Cert.MemFwd.Gen.facts) := fun m ρ _ => Cert.MemFwd.Gen.frame m ρ

/-- So does its ideal reading, -/
theorem memf_frame_ideal : Cert.quiescent_MemFwdIdeal (hMemFwdIdeal := Cert.MemFwdIdeal.Gen.facts) := fun m ρ _ => Cert.MemFwdIdeal.Gen.frame m ρ

/-- The reference runs to its end. -/
theorem memf_ref : Cert.quiescent_MemFwdRefIdeal (hMemFwdRefIdeal := Cert.MemFwdRefIdeal.Gen.facts) := by
  intro m g _
  exact (θ_run Cert.MemFwdRefIdeal.defs _ _).mono (fun r h => ⟨fun c => (h c).2, sem_eq_zero_of_no_sems (by decide) r.2⟩)
    (Cert.MemFwdRefIdeal.Value.run m g)

/-- Over the reals the kernel's results are the reference's. -/
theorem memf_value : Cert.algebraic_MemFwdIdeal_MemFwdRefIdeal (hMemFwdIdeal := Cert.MemFwdIdeal.Gen.facts)
    (hMemFwdRefIdeal := Cert.MemFwdRefIdeal.Gen.facts) := by
  intro m g m' g' _ hagree
  refine ⟨fun c => Cert.MemFwdRefIdeal.Read.val_main_v17 (F := Ideal) (m ((c.tc : Thread _ _).loc Cert.MemFwdIdeal.main_arg0)) (m ((c.tc : Thread _ _).loc Cert.MemFwdIdeal.main_arg1)) (m ((c.tc : Thread _ _).loc Cert.MemFwdIdeal.main_arg2)), ?_, ?_⟩
  · refine (θ_run Cert.MemFwdIdeal.defs _ _).mono (fun r h c => ⟨(h c).1.trans ?_, (h c).2⟩)
      (Cert.MemFwdIdeal.Value.run_blocks (F := Ideal) m g)
    · exact Cert.MemFwdIdeal.Call.final m c
  · refine (θ_run Cert.MemFwdRefIdeal.defs _ _).mono (fun r h c => ⟨(h c).1.trans ?_, (h c).2⟩)
      (Cert.MemFwdRefIdeal.Value.run (F := Ideal) m' g')
    refine (Cert.MemFwdRefIdeal.Read.val_main_v17_eq (F := Ideal) _ _ _).trans ?_
    obtain ⟨h0, h1, h2⟩ := hagree c
    rw [h0, h1, h2]

end Cert.Proof

end
-- ==== Proof.CumMath.lean ====
module

public import proofs.«01_k».proof.Proof.RealOps
public import Idealize.ShloMosaic.Lib.Pipeline.ValueKit

/-! # The gradient of the log gates' running sum: the arithmetic

The kernel goes through the rows from the last block to the first, carrying each head's sum over the rows behind it. -/

@[expose] public section

noncomputable section

namespace Cert.Cum

open Idealize.ShloMosaic
open Cert.Reals

/-- Whether lane `x` of the gradient's row is the one lane `a` of the transposed block is taken from. -/
def pick (a x : ℕ) : BitVec 1 :=
  IntOp.andi (IntOp.cmpi CmpIPredicate.slt (BitVec.ofNat 32 a) 8#32)
    (IntOp.cmpi CmpIPredicate.eq (BitVec.ofNat 32 x)
      (IntOp.addi (IntOp.muli (IntOp.shrsi ArithUnit.vector (BitVec.ofNat 32 a) 1#32) 128#32)
        (Scalar.select (IntOp.cmpi CmpIPredicate.eq (IntOp.andi (BitVec.ofNat 32 a) 1#32) 0#32) 64#32 0#32)))

/-- The lane. -/
def lane (a : ℕ) : ℕ := a / 2 * 128 + if a % 2 = 0 then 64 else 0

theorem pick_eq : ∀ (a : Fin 128) (x : Fin 512), pick a x = if a.val < 8 ∧ x.val = lane a then 1#1 else 0#1 := by
  intro a x
  have h1 : IntOp.cmpi CmpIPredicate.slt (BitVec.ofNat 32 a) 8#32 = if a.val < 8 then 1#1 else 0#1 := slt_ofNat (b := 8) (by omega) (by omega)
  have key : ∀ a : Fin 128, (IntOp.addi (IntOp.muli (IntOp.shrsi ArithUnit.vector (BitVec.ofNat 32 a.val) 1#32) 128#32)
        (Scalar.select (IntOp.cmpi CmpIPredicate.eq (IntOp.andi (BitVec.ofNat 32 a.val) 1#32) 0#32) 64#32 0#32)) = BitVec.ofNat 32 (lane a) := by
    decide +kernel
  unfold pick
  rw [h1, key]
  have h2 : IntOp.cmpi CmpIPredicate.eq (BitVec.ofNat 32 x) (BitVec.ofNat 32 (lane a)) = if x.val = lane a then 1#1 else 0#1 := by
    have hl : lane a < 2 ^ 32 := by unfold lane; split <;> omega
    have hiff : BitVec.ofNat 32 x.val = BitVec.ofNat 32 (lane a) ↔ x.val = lane a := by
      constructor
      · intro h
        have := congrArg BitVec.toNat h
        rwa [BitVec.toNat_ofNat, BitVec.toNat_ofNat, Nat.mod_eq_of_lt (by omega), Nat.mod_eq_of_lt hl] at this
      · intro h; rw [h]
    by_cases hx : x.val = lane a
    · rw [if_pos hx, hx]
      simp [IntOp.cmpi]
    · rw [if_neg hx]
      have := fun h => hx (hiff.1 h)
      show BitVec.ofBool (BitVec.ofNat 32 x.val == BitVec.ofNat 32 (lane a)) = 0#1
      rw [beq_eq_false_iff_ne.2 this]
      rfl
  rw [h2]
  by_cases ha : a.val < 8 <;> by_cases hx : x.val = lane a <;> simp [ha, hx, IntOp.andi]

/-- A lane of the transposed block, as the kernel has it: the taken entry and what two more rounded terms have of it, nothing. -/
def dcE (D : Fin 512 → EReal) (a : Fin 128) : EReal :=
  (∑ x : Fin 512, Scalar.select (pick a x) (D x) 0) + (∑ x : Fin 512, Scalar.select (pick a x) (D x - D x) 0)
    + ∑ x : Fin 512, Scalar.select (pick a x) (D x - D x - (D x - D x)) 0

theorem coe_sub_self (x : ℝ) : (x : EReal) - (x : EReal) = 0 := by
  rw [← EReal.coe_sub, sub_self, EReal.coe_zero]

theorem dcE_real {D : Fin 512 → EReal} {d : ℝ} (a : Fin 128) (hD : ∀ x, ∃ q : ℝ, D x = (q : EReal))
    (h : ∀ x : Fin 512, a.val < 8 → x.val = lane a → D x = (d : EReal)) (h0 : ¬a.val < 8 → d = 0) : dcE D a = (d : EReal) := by
  have hs : ∀ x, D x - D x = 0 := fun x => by
    obtain ⟨q, hq⟩ := hD x
    rw [hq, coe_sub_self]
  have z0 : (0 : EReal) - 0 = 0 := by simp
  simp only [dcE, hs, z0, pick_eq, select_ite, ite_self, Finset.sum_const_zero, add_zero]
  by_cases ha : a.val < 8
  · have hl : lane a < 512 := by unfold lane; split <;> omega
    rw [Finset.sum_eq_single ⟨lane a, hl⟩ (fun x _ hx => if_neg fun hh => hx (Fin.ext hh.2)) (fun hn => absurd (Finset.mem_univ _) hn),
      if_pos ⟨ha, rfl⟩, h _ ha rfl]
  · simp only [ha, false_and, if_false, Finset.sum_const_zero, h0 ha, EReal.coe_zero]

/-- The log gates' gradient and the gates, as real numbers, by head and row; both nothing past the eighth head. -/
structure Data where
  g : ℕ → ℕ → ℝ
  z : ℕ → ℕ → ℝ
  g_zero : ∀ a r, 8 ≤ a → g a r = 0
  z_zero : ∀ a r, 8 ≤ a → z a r = 0

/-- A head's sum from a row to the last, -/
def S (D : Data) (a n : ℕ) : ℝ := ∑ r ∈ Finset.Ico n 8192, D.g a r

/-- the gate's gradient, -/
def df (D : Data) (a r : ℕ) : ℝ := S D a r / (1 + Real.exp (D.z a r))

/-- and its sum from a row to the last. -/
def T (D : Data) (a n : ℕ) : ℝ := ∑ r ∈ Finset.Ico n 8192, df D a r

theorem S_end (D : Data) (a : ℕ) : S D a 8192 = 0 := by simp [S]

theorem T_end (D : Data) (a : ℕ) : T D a 8192 = 0 := by simp [T]

theorem df_zero {D : Data} {a r : ℕ} (h : 8 ≤ a) : df D a r = 0 := by
  unfold df S
  rw [Finset.sum_eq_zero fun x _ => D.g_zero a x h, zero_div]

/-- The arguments are these numbers. -/
structure Holds (D : Data) (x0 : FVec Ideal ⟨3, ![1, 8192, 8]⟩ .f32) (x1 : FVec Ideal ⟨1, ![8]⟩ .f32)
    (x2 : FVec Ideal ⟨3, ![1, 8, 8192]⟩ .f32) : Prop where
  g : ∀ (l : Fin 8) (r : Fin 8192), x2 (ix3 0 l r) = ((D.g l r : ℝ) : EReal)
  z : ∀ (r : Fin 8192) (l : Fin 8), x0 (ix3 0 r l) + x1 (ix1 l) = ((D.z l r : ℝ) : EReal)

/-- Real arguments are such numbers. -/
theorem exists_data {x0 : FVec Ideal ⟨3, ![1, 8192, 8]⟩ .f32} {x1 : FVec Ideal ⟨1, ![8]⟩ .f32} {x2 : FVec Ideal ⟨3, ![1, 8, 8192]⟩ .f32}
    (h0 : AllReal x0) (h1 : AllReal x1) (h2 : AllReal x2) : ∃ D, Holds D x0 x1 x2 := by
  obtain ⟨r0, rfl⟩ := h0
  obtain ⟨r1, rfl⟩ := h1
  obtain ⟨r2, rfl⟩ := h2
  refine ⟨⟨fun a r => if h : a < 8 ∧ r < 8192 then r2 (ix3 0 ⟨a, h.1⟩ ⟨r, h.2⟩) else 0,
    fun a r => if h : a < 8 ∧ r < 8192 then r0 (ix3 0 ⟨r, h.2⟩ ⟨a, h.1⟩) + r1 (ix1 ⟨a, h.1⟩) else 0,
    fun a r ha => dif_neg fun h => by omega, fun a r ha => dif_neg fun h => by omega⟩, fun l r => ?_, fun r l => ?_⟩
  · show _ = ((dite _ _ _ : ℝ) : EReal)
    rw [dif_pos ⟨l.isLt, r.isLt⟩]
  · show _ = ((dite _ _ _ : ℝ) : EReal)
    rw [dif_pos ⟨l.isLt, r.isLt⟩, EReal.coe_add]

theorem coe_ite (P : Prop) [Decidable P] (x y : ℝ) : ((if P then x else y : ℝ) : EReal) = if P then (x : EReal) else (y : EReal) :=
  apply_ite _ P x y

theorem block_tail (f : ℕ → ℝ) (b p : ℕ) (hp : p ≤ 256) (hb : b + 256 ≤ 8192) :
    (∑ x : Fin 256, if p ≤ x.val then f (b + x) else 0) + ∑ r ∈ Finset.Ico (b + 256) 8192, f r = ∑ r ∈ Finset.Ico (b + p) 8192, f r := by
  rw [← Finset.sum_Ico_consecutive f (show b + p ≤ b + 256 by omega) hb]
  congr 1
  rw [Fin.sum_univ_eq_sum_range (fun x => if p ≤ x then f (b + x) else 0) 256, Finset.range_eq_Ico,
    ← Finset.sum_Ico_consecutive _ (Nat.zero_le p) hp,
    Finset.sum_eq_zero (fun r hr => if_neg (by have := (Finset.mem_Ico.1 hr).2; omega)), zero_add]
  refine (Finset.sum_congr rfl fun r hr => if_pos (Finset.mem_Ico.1 hr).1).trans ?_
  rw [Finset.sum_Ico_add, Nat.add_comm p b, Nat.add_comm 256 b]

/-- A block's sum from a row down, as the kernel has it. -/
def triE (L : Fin 256 → EReal) (p : ℕ) : EReal :=
  (∑ x : Fin 256, Scalar.select (IntOp.cmpi CmpIPredicate.sge (BitVec.ofNat 32 x) (BitVec.ofNat 32 p)) (L x) 0)
    + (∑ x : Fin 256, Scalar.select (IntOp.cmpi CmpIPredicate.sge (BitVec.ofNat 32 x) (BitVec.ofNat 32 p)) (L x - L x) 0)
    + ∑ x : Fin 256, Scalar.select (IntOp.cmpi CmpIPredicate.sge (BitVec.ofNat 32 x) (BitVec.ofNat 32 p)) (L x - L x - (L x - L x)) 0

theorem triE_real {D : Data} {L : Fin 256 → EReal} {a b p : ℕ} (hL : ∀ x : Fin 256, L x = ((D.g a (b + x) : ℝ) : EReal))
    {C : EReal} (hC : C = ((S D a (b + 256) : ℝ) : EReal)) (hp : p < 256) (hb : b + 256 ≤ 8192) :
    triE L p + C = ((S D a (b + p) : ℝ) : EReal) := by
  have hs : ∀ x, L x - L x = 0 := fun x => by rw [hL, coe_sub_self]
  have z0 : (0 : EReal) - 0 = 0 := by simp
  have hg : ∀ x : Fin 256, IntOp.cmpi CmpIPredicate.sge (BitVec.ofNat 32 x) (BitVec.ofNat 32 p) = if p ≤ x.val then 1#1 else 0#1 :=
    fun x => sge_ofNat (by omega) (by omega)
  simp only [triE, hs, z0, hg, select_ite, ite_self, Finset.sum_const_zero, add_zero]
  simp only [hL, hC]
  simp only [← EReal.coe_zero, ← coe_ite, ← coe_sum, ← EReal.coe_add]
  exact congrArg _ (block_tail (D.g a) b p hp.le hb)

/-- The gate's gradient, as the kernel has it. -/
theorem point {D : Data} {L : Fin 256 → EReal} {a b p : ℕ} (hL : ∀ x : Fin 256, L x = ((D.g a (b + x) : ℝ) : EReal))
    {C Z : EReal} (hC : C = ((S D a (b + 256) : ℝ) : EReal)) (hZ : Z = ((D.z a (b + p) : ℝ) : EReal)) (hp : p < 256) (hb : b + 256 ≤ 8192) :
    Ideal.div (triE L p + C) (1 + Ideal.exp Z) = ((df D a (b + p) : ℝ) : EReal) := by
  rw [triE_real hL hC hp hb, hZ, Ideal.exp_coe, show (1 : EReal) = ((1 : ℝ) : EReal) from rfl, ← EReal.coe_add, div_real _ (one_add_exp_ne _)]
  rfl

/-- What a point carries on: the sum over its rows too. -/
theorem carry_step {D : Data} {L : Fin 256 → EReal} {a b : ℕ} (hL : ∀ x : Fin 256, L x = ((D.g a (b + x) : ℝ) : EReal))
    {C : EReal} (hC : C = ((S D a (b + 256) : ℝ) : EReal)) (hb : b + 256 ≤ 8192) : C + ∑ x, L x = ((S D a b : ℝ) : EReal) := by
  have := block_tail (D.g a) b 0 (by omega) hb
  simp only [Nat.zero_le, if_true, Nat.add_zero] at this
  simp only [hL, hC, ← coe_sum, ← EReal.coe_add]
  exact congrArg _ ((add_comm _ _).trans this)

/-- The bias's gradient, after a point: two halves of a block of rows more. -/
theorem acc_step {D : Data} {a b : ℕ} {f : ℕ → EReal} (hf : ∀ x, x < 256 → f x = ((df D a (b + x) : ℝ) : EReal))
    {W : EReal} (hW : W = ((T D a (b + 256) : ℝ) : EReal)) (hb : b + 256 ≤ 8192) :
    W + ((∑ x : Fin 128, f x) + ∑ x : Fin 128, f (128 + x)) = ((T D a b : ℝ) : EReal) := by
  have := block_tail (df D a) b 0 (by omega) hb
  simp only [Nat.zero_le, if_true, Nat.add_zero] at this
  have e : (∑ x : Fin 128, f x) + ∑ x : Fin 128, f (128 + x) = ∑ x : Fin 256, f x :=
    (Fin.sum_univ_add (a := 128) (b := 128) fun x => f x).symm
  rw [e, hW, Finset.sum_congr rfl fun x _ => hf x.val x.isLt, ← coe_sum, ← EReal.coe_add]
  exact congrArg _ ((add_comm _ _).trans this)

end Cert.Cum

end
-- ==== Proof.CumRef.lean ====
module

public import proofs.«01_k».proof.Proof.CumMath
public import proofs.«01_k».proof.Proof.Gen.CumBwdRefIdeal.Read
public import Idealize.ShloMosaic.Lib.Pipeline.ValueKit

/-! # The gradient of the log gates' running sum, as the reference has it

A running sum's gradient is the running sum from the other end. A log sigmoid's derivative at `z` is written there as
`exp (-z - softplus (-z))`, which at a real number is `1 / (1 + exp z)`. -/

@[expose] public section

set_option maxRecDepth 16384

noncomputable section

namespace Cert.Cum

open Idealize.ShloMosaic
open Cert.CumBwdRefIdeal Cert.CumBwdRefIdeal.Gen Cert.CumBwdRefIdeal.Read
open Cert.Reals

/-- A left fold of additions over a shape's positions in order is one sum over its indices. -/
theorem foldl_sum {w : Shape} (g : w.Idx → EReal) (a : EReal) :
    (List.finRange w.numel).foldl (fun r k => r + g (w.rowMajor.symm k)) a = a + ∑ i, g i := by
  have key : ∀ (l : List (Fin w.numel)) (a : EReal),
      l.foldl (fun r k => r + g (w.rowMajor.symm k)) a = a + (l.map fun k => g (w.rowMajor.symm k)).sum := by
    intro l
    induction l with
    | nil => intro a; simp
    | cons k l ih => intro a; rw [List.foldl_cons, ih, List.map_cons, List.sum_cons, add_assoc]
  rw [key, ← Fin.sum_univ_def, w.rowMajor.symm.sum_comp g]

/-- A host running sum from zero, as a sum over its window. -/
theorem window_sum {s t u : Shape} (w st lo hi : Fin s.rank → ℕ) (x : FVec Ideal s .f32) (init : FVec Ideal u .f32)
    (h : s.ReduceWindows w st lo hi t) (hu : 0 < u.numel) (h0 : init (Shape.Idx.first hu) = 0) (j : t.Idx) :
    Host.reduceWindowAdd w st lo hi x init h hu j = ∑ i : (⟨s.rank, w⟩ : Shape).Idx,
      if hin : ∀ a, lo a ≤ (j (a.cast h.1.symm)).val * st a + (i a).val ∧ (j (a.cast h.1.symm)).val * st a + (i a).val - lo a < s.size a
      then x (fun a => ⟨(j (a.cast h.1.symm)).val * st a + (i a).val - lo a, (hin a).2⟩) else 0 := by
  have e : Host.reduceWindowAdd w st lo hi x init h hu j = Host.reduceWindow (· + ·) w st lo hi x (fun _ : (⟨0, ![]⟩ : Shape).Idx => (0 : EReal)) h (by decide) j := by
    rw [← h0]
    rfl
  refine e.trans ?_
  refine Eq.trans ?_ ((foldl_sum (w := ⟨s.rank, w⟩) (fun i => if hin : ∀ a, lo a ≤ (j (a.cast h.1.symm)).val * st a + (i a).val ∧ (j (a.cast h.1.symm)).val * st a + (i a).val - lo a < s.size a
      then x (fun a => ⟨(j (a.cast h.1.symm)).val * st a + (i a).val - lo a, (hin a).2⟩) else 0) 0).trans (zero_add _))
  unfold Host.reduceWindow
  refine congrArg (fun f => List.foldl f _ _) (funext fun r => funext fun n => ?_)
  dsimp only
  congr 1
  split <;> rfl

/-- The sum from a row to the last. -/
def tail (x : Fin 8192 → EReal) (j : Fin 8192) : EReal := ∑ r : Fin 8192, if j.val ≤ r.val then x r else 0

theorem tail_shift (x : Fin 8192 → EReal) (j : Fin 8192) :
    (∑ k : Fin 8192, if h : j.val + k.val < 8192 then x ⟨j.val + k.val, h⟩ else 0) = tail x j := by
  unfold tail
  have e1 : ∀ k : Fin 8192, (if h : j.val + k.val < 8192 then x ⟨j.val + k.val, h⟩ else 0)
      = if j.val + k.val < 8192 then x ⟨(j.val + k.val) % 8192, Nat.mod_lt _ (by decide)⟩ else 0 := fun k => by
    split
    · next h => simp only [Nat.mod_eq_of_lt h]
    · rfl
  simp only [e1]
  rw [← Finset.sum_filter, ← Finset.sum_filter]
  refine Finset.sum_bij' (fun k _ => ⟨(j.val + k.val) % 8192, Nat.mod_lt _ (by decide)⟩) (fun r _ => ⟨r.val - j.val, by omega⟩)
    (fun k hk => ?_) (fun r hr => ?_) (fun k hk => ?_) (fun r hr => ?_) (fun k hk => rfl)
  · have := (Finset.mem_filter.1 hk).2
    refine Finset.mem_filter.2 ⟨Finset.mem_univ _, ?_⟩
    show j.val ≤ (j.val + k.val) % 8192
    omega
  · have := (Finset.mem_filter.1 hr).2
    refine Finset.mem_filter.2 ⟨Finset.mem_univ _, ?_⟩
    show j.val + (r.val - j.val) < 8192
    omega
  · have := (Finset.mem_filter.1 hk).2
    refine Fin.ext ?_
    show (j.val + k.val) % 8192 - j.val = k.val
    omega
  · have := (Finset.mem_filter.1 hr).2
    refine Fin.ext ?_
    show (j.val + (r.val - j.val)) % 8192 = r.val
    omega

/-- The reference's running sum from the last row down. -/
theorem window_tail (x : FVec Ideal S1x8192x8 .f32) {u : Shape} (init : FVec Ideal u .f32)
    (h : S1x8192x8.ReduceWindows ![1, 8192, 1] ![1, 1, 1] ![0, 0, 0] ![0, 8191, 0] S1x8192x8) (hu : 0 < u.numel)
    (h0 : init (Shape.Idx.first hu) = 0) (j : Fin 8192) (l : Fin 8) :
    Host.reduceWindowAdd ![1, 8192, 1] ![1, 1, 1] ![0, 0, 0] ![0, 8191, 0] x init h hu (ix3 0 j l) = tail (fun r => x (ix3 0 r l)) j := by
  refine (window_sum _ _ _ _ x init h hu h0 _).trans ?_
  refine (sum_idx3 (n0 := 1) (n1 := 8192) (n2 := 1) _).trans ?_
  rw [← tail_shift]
  simp only [Fin.sum_univ_one]
  refine Finset.sum_congr rfl fun k _ => ?_
  by_cases hk : j.val + k.val < 8192
  · rw [dif_pos hk, dif_pos (fun a => ?_)]
    · refine congrArg x (funext fun a => Fin.ext ?_)
      match a with
      | ⟨0, _⟩ => rfl
      | ⟨1, _⟩ =>
        show j.val * 1 + k.val - 0 = j.val + k.val
        omega
      | ⟨2, _⟩ =>
        show l.val * 1 + 0 - 0 = l.val
        omega
    · match a with
      | ⟨0, _⟩ =>
        show 0 ≤ 0 * 1 + 0 ∧ 0 * 1 + 0 - 0 < 1
        omega
      | ⟨1, _⟩ =>
        show 0 ≤ j.val * 1 + k.val ∧ j.val * 1 + k.val - 0 < 8192
        omega
      | ⟨2, _⟩ =>
        show 0 ≤ l.val * 1 + 0 ∧ l.val * 1 + 0 - 0 < 8
        omega
  · rw [dif_neg hk, dif_neg fun hin => hk ?_]
    have h1 : 0 ≤ j.val * 1 + k.val ∧ j.val * 1 + k.val - 0 < 8192 := hin 1
    omega

/-- A log sigmoid's derivative, as the reference has it. -/
theorem sig (z : ℝ) : Real.exp (-z - (max (-z) 0 + Real.log (1 + Real.exp (-|-z|)))) = 1 / (1 + Real.exp z) := by
  have hp : (0 : ℝ) < 1 + Real.exp (-|-z|) := by positivity
  rw [← sub_sub, Real.exp_sub, Real.exp_log hp]
  rcases le_total 0 z with hz | hz
  · rw [max_eq_right (by linarith), abs_neg, abs_of_nonneg hz, sub_zero, Real.exp_neg]
    have := Real.exp_pos z
    field_simp
    ring
  · rw [max_eq_left (by linarith), abs_neg, abs_of_nonpos hz, neg_neg, sub_self, Real.exp_zero]

theorem zero_int : FloatOps.sitofp (F := Ideal) FTy.f32 0#32 = (0 : EReal) := by
  show ((((0#32 : BitVec 32).toInt : ℝ)) : EReal) = 0
  simp

variable (x0 : FVec Ideal S1x8192x8 .f32) (x1 : FVec Ideal S8 .f32) (x2 : FVec Ideal S1x8x8192 .f32)

theorem ref7 (j : Fin 8192) (l : Fin 8) :
    val_main_v7 (F := Ideal) x2 (ix3 0 j l) = tail (fun r => x2 (ix3 0 l r)) j := by
  unfold val_main_v7
  refine (window_tail _ _ _ _ (by pointwise [val_main_call2_call0_v0, val_main_call2_call0_cst]) j l).trans ?_
  refine congrArg (fun y => tail y j) (funext fun r => ?_)
  pointwise [val_main_v6]

theorem ref2 (j : Fin 8192) (l : Fin 8) : val_main_v2 (F := Ideal) x0 x1 (ix3 0 j l) = x0 (ix3 0 j l) + x1 (ix1 l) := by
  pointwise [val_main_v2, val_main_v1, val_main_v0]

theorem max_coe (a b : ℝ) : max (a : EReal) (b : EReal) = ((max a b : ℝ) : EReal) := (EReal.coe_strictMono.monotone.map_max).symm

/-- The softplus of minus a real number. -/
theorem softplus (j : Fin 8192) (l : Fin 8) (z : ℝ) (hz : val_main_v2 (F := Ideal) x0 x1 (ix3 0 j l) = ((z : ℝ) : EReal)) :
    val_main_call0_v1_0 (F := Ideal) x0 x1 (ix3 0 j l) = ((max (-z) 0 + Real.log (1 + Real.exp (-|-z|)) : ℝ) : EReal) := by
  pointwise [val_main_call0_v1_0, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_v0,
    val_main_call0_call0_cst]
  rw [if_neg (not_not.2 rfl), hz]
  show max (-(z : EReal)) 0 + Ideal.log1p (Ideal.exp (-(max (-(z : EReal)) (-(-(z : EReal)))))) = _
  simp only [← EReal.coe_neg, ← EReal.coe_zero, max_coe, Ideal.log1p]
  rw [Ideal.exp_coe, show (1 : EReal) = ((1 : ℝ) : EReal) from rfl, ← EReal.coe_add, Ideal.log_coe, if_neg (not_le.2 (by positivity)),
    ← EReal.coe_add]
  rfl

theorem ref3 (j : Fin 8192) (l : Fin 8) (z : ℝ) (hz : val_main_v2 (F := Ideal) x0 x1 (ix3 0 j l) = ((z : ℝ) : EReal)) :
    val_main_v3_1 (F := Ideal) x0 x1 (ix3 0 j l) = ((1 / (1 + Real.exp z) : ℝ) : EReal) := by
  rw [← sig]
  pointwise [val_main_v3_1, val_main_call0_call0_v21, val_main_call0_call0_v20, val_main_call0_call0_v19, val_main_call0_call0_v18,
    val_main_call0_call0_v17, val_main_call0_call0_v16, val_main_call0_call0_v15, val_main_call0_call0_v14, val_main_call0_call0_v13,
    val_main_call0_call0_cst_0, val_main_call0_call0_cst_1, val_main_call0_call0_cst_2, val_main_call0_call0_cst_3]
  rw [softplus x0 x1 j l z hz]
  pointwise [val_main_call0_v0]
  rw [hz, ofBits_inf, ← EReal.coe_neg, if_neg (EReal.coe_ne_top _), if_neg (EReal.coe_ne_top _), ← EReal.coe_sub, Ideal.exp_coe]

/-- The gates' gradient. -/
theorem ref8 (j : Fin 8192) (l : Fin 8) (z T : ℝ) (hz : val_main_v2 (F := Ideal) x0 x1 (ix3 0 j l) = ((z : ℝ) : EReal))
    (hT : tail (fun r => x2 (ix3 0 l r)) j = ((T : ℝ) : EReal)) :
    val_main_v8 (F := Ideal) x0 x1 x2 (ix3 0 j l) = ((T / (1 + Real.exp z) : ℝ) : EReal) := by
  pointwise [val_main_v8, val_main_call3_v1, val_main_call3_v0]
  rw [ref7, hT, ref3 x0 x1 j l z hz, ← EReal.coe_neg, ← EReal.coe_mul, ← EReal.coe_neg]
  congr 1
  ring

theorem ref14 (j : Fin 8192) (l : Fin 128) :
    val_main_v14 (F := Ideal) x0 x1 x2 (ix2 j l) = if h : l.val < 8 then val_main_v8 (F := Ideal) x0 x1 x2 (ix3 0 j ⟨l, h⟩) else (0 : EReal) := by
  pointwise [val_main_v14, val_main_v13, val_main_v12, val_main_call4_v0, val_main_c]
  rw [zero_int]

theorem ref9 (l : Fin 8) : val_main_v9 (F := Ideal) x0 x1 x2 (ix2 0 l) = ∑ j : Fin 8192, val_main_v8 (F := Ideal) x0 x1 x2 (ix3 0 j l) := by
  unfold val_main_v9
  generalize val_main_v8 (F := Ideal) x0 x1 x2 = Y
  pointwise [val_main_cst]

theorem ref11 (l : Fin 8) : val_main_v11 (F := Ideal) x0 x1 x2 (ix1 l) = val_main_v9 (F := Ideal) x0 x1 x2 (ix2 0 l) := by
  unfold val_main_v11
  have e : ∀ i : Fin 8, val_main_v10 (F := Ideal) x0 x1 x2 (ix3 0 0 i) = val_main_v9 (F := Ideal) x0 x1 x2 (ix2 0 i) := fun i => by
    unfold val_main_v10
    generalize val_main_v9 (F := Ideal) x0 x1 x2 = Y
    pointwise
  rw [← e]
  generalize val_main_v10 (F := Ideal) x0 x1 x2 = Y
  refine (reduceAdd_unit reducesTo_S1x1x8_S8_d0_1 Y _ (ix1 l) (ix3 0 0 l) (by idx_ext) fun y hy => ?_).trans ?_
  · idx_vars y
    obtain rfl : y0 = 0 := Subsingleton.elim _ _
    obtain rfl : y1 = 0 := Subsingleton.elim _ _
    rw [show reducesTo_S1x1x8_S8_d0_1.drop (ix3 0 0 y2) = ix1 y2 by idx_ext] at hy
    obtain rfl : y2 = l := congrFun hy 0
    rfl
  · pointwise [val_main_cst_0]

theorem ref17 (a l : Fin 128) :
    val_main_v17 (F := Ideal) x0 x1 x2 (ix2 a l) = if h : a.val < 8 then ∑ j : Fin 8192, val_main_v8 (F := Ideal) x0 x1 x2 (ix3 0 j ⟨a, h⟩) else (0 : EReal) := by
  have e : val_main_v17 (F := Ideal) x0 x1 x2 (ix2 a l) = if h : a.val < 8 then val_main_v11 (F := Ideal) x0 x1 x2 (ix1 ⟨a, h⟩) else (0 : EReal) := by
    unfold val_main_v17 val_main_v16 val_main_v15
    generalize val_main_v11 (F := Ideal) x0 x1 x2 = Y
    pointwise [val_main_call5_v0, val_main_c_1]
    rw [zero_int]
  rw [e]
  simp only [ref11, ref9]

variable {x0 x1 x2} {D : Data} (H : Holds D x0 x1 x2)

include H

theorem ref_df (j : Fin 8192) (l : Fin 8) : val_main_v8 (F := Ideal) x0 x1 x2 (ix3 0 j l) = ((df D l j : ℝ) : EReal) := by
  refine ref8 x0 x1 x2 j l _ (S D l j) ((ref2 x0 x1 j l).trans (H.z j l)) ?_
  unfold tail S
  simp only [H.g, ← EReal.coe_zero, ← coe_ite, ← coe_sum]
  congr 1
  rw [Fin.sum_univ_eq_sum_range (fun r => if j.val ≤ r then D.g l r else 0) 8192, Finset.range_eq_Ico,
    ← Finset.sum_Ico_consecutive _ (Nat.zero_le j.val) j.isLt.le,
    Finset.sum_eq_zero (fun r hr => if_neg (by have := (Finset.mem_Ico.1 hr).2; omega)), zero_add]
  exact Finset.sum_congr rfl fun r hr => if_pos (Finset.mem_Ico.1 hr).1

/-- The gradient of the gates' columns, -/
theorem ref_first (j : Fin 8192) (l : Fin 128) : val_main_v14 (F := Ideal) x0 x1 x2 (ix2 j l) = ((df D l j : ℝ) : EReal) := by
  rw [ref14]
  split
  · next h => exact ref_df H j ⟨l, h⟩
  · next h => rw [df_zero (by omega), EReal.coe_zero]

/-- and the bias's. -/
theorem ref_second (a l : Fin 128) : val_main_v17 (F := Ideal) x0 x1 x2 (ix2 a l) = ((T D a 0 : ℝ) : EReal) := by
  rw [ref17]
  split
  · next h =>
    simp only [ref_df H, ← coe_sum]
    unfold T
    rw [Fin.sum_univ_eq_sum_range (fun r => df D a r) 8192, Finset.range_eq_Ico]
  · next h =>
    unfold T
    rw [Finset.sum_eq_zero fun r _ => df_zero (by omega), EReal.coe_zero]

end Cert.Cum

end
-- ==== Proof.CumValue.lean ====
module

public import proofs.«01_k».proof.Proof.CumRef
public import proofs.«01_k».proof.Proof.Gen.CumBwdIdeal.Frame
public import Idealize.ShloMosaic.Lib.Pipeline.ValueKit
public import Idealize.ShloMosaic.Lib.Pipeline.ReadBack

/-! # The gradient of the log gates' running sum

The points go through the rows backwards, a block each, with each head's sum over the rows behind in one scratch and the gates'
gradients' sums in another. -/

@[expose] public section

set_option maxRecDepth 16384

noncomputable section

namespace Cert.CumBwdIdeal.Grad

open Cert.CumBwdIdeal Cert.CumBwdIdeal.Gen Idealize.ShloMosaic Idealize.ShloMosaic.TcCoe Idealize.SL.Sem
open Idealize.ShloMosaic.Pipeline (Dat)
open Cert.Reals Cert.Cum
open Cert.CumBwdRefIdeal.Read

variable (m : (ℓ : Loc nD τ sig) → Buf (Elt Ideal) ℓ)

theorem idx : ∀ t : Fin cfg0.N, win0_0.index t = ![31 - t.val, 0] ∧ win0_1.index t = ![31 - t.val, 0] ∧ win0_2.index t = ![0, 0]
    ∧ win0_3.index t = ![31 - t.val, 0] ∧ win0_4.index t = ![0, 0] :=
  (by decide +kernel : ∀ t : Fin grid0.N, _)

theorem lt32 (t : Fin cfg0.N) : t.val < 32 := t.isLt

/-- The launch's arguments, at their array types. -/
abbrev A0 (c : Dev nD) : FVec Ideal S1x8192x8 .f32 := m ((c : Thread nD τ).loc main_arg0)
abbrev A1 (c : Dev nD) : FVec Ideal S8 .f32 := m ((c : Thread nD τ).loc main_arg1)
abbrev A2 (c : Dev nD) : FVec Ideal S1x8x8192 .f32 := m ((c : Thread nD τ).loc main_arg2)

theorem V1 (c : Dev nD) (i : Fin 8192) (k : Fin 128) :
    (V m c main_v1 : FVec Ideal S8192x128 .f32) (ix2 i k) = if h : k.val < 8 then A0 m c (ix3 0 i ⟨k, h⟩) else (0 : EReal) := by
  simp only [V, hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  pointwise
  rw [zero_int]

theorem V3 (c : Dev nD) (k : Fin 128) :
    (V m c main_v3 : FVec Ideal S128x1 .f32) (ix2 k 0) = if h : k.val < 8 then A1 m c (ix1 ⟨k, h⟩) else (0 : EReal) := by
  simp only [V, hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  pointwise
  rw [zero_int]

/-- The log gates' gradient as the attention's call leaves it: a row of eight lanes of sixty-four, each pair's two heads swapped. -/
def dcs (x2 : FVec Ideal S1x8x8192 .f32) : FVec Ideal S8192x512 .f32 :=
  shapeCast S8192x512 (broadcastInDim S8192x4x2x64 ![0, 1, 2, 3] bcast_S8192x4x2x1_S8192x4x2x64_0_1_2_3
    (broadcastInDim S8192x4x2x1 ![0, 1, 2] bcast_S8192x4x2_S8192x4x2x1_0_1_2
      (transpose S8192x4x2 [2, 0, 1] (Host.reverse [1] (shapeCast S4x2x8192 x2 shapeCasts_S1x8x8192_S4x2x8192)) transposes_S4x2x8192_S8192x4x2_2_0_1)))
    shapeCasts_S8192x4x2x64_S8192x512

theorem V9 (c : Dev nD) : V m c main_v9 = dcs (A2 m c) := by
  simp only [V, hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

theorem dcs_apply (X : FVec Ideal S1x8x8192 .f32) (i : Fin 8192) (k : Fin 512) (a : Fin 8) (hk : a.val = k / 128 * 2 + (1 - k / 64 % 2)) :
    dcs X (ix2 i k) = X (ix3 0 a i) := by
  pointwise [dcs]
  simp only [List.mem_singleton, Fin.isValue, Fin.reduceEq, ↓reduceIte]
  have e : ∀ (n : ℕ) (h : n < 8), n = a.val → X (ix3 0 ⟨n, h⟩ i) = X (ix3 0 a i) := fun n h hn => by
    subst hn
    rfl
  refine e _ _ ?_
  rw [hk, Fin.val_rev]
  show k.val / 128 * 2 + (2 - (k.val / 64 % 2 + 1)) = _
  omega

theorem win0 (X : FVec Ideal S8192x512 .f32) (t : Fin cfg0.N) (x : Fin 256) (k : Fin 512) (h : (31 - t.val) * 256 + x.val < 8192) :
    ((cfg0.win 0).blk t).view.read (Elt Ideal) X (ix2 x k) = X (ix2 ⟨(31 - t.val) * 256 + x, h⟩ k) := by
  blk_ext [idx t]

theorem win1 (X : FVec Ideal S8192x128 .f32) (t : Fin cfg0.N) (x : Fin 256) (k : Fin 128) (h : (31 - t.val) * 256 + x.val < 8192) :
    ((cfg0.win 1).blk t).view.read (Elt Ideal) X (ix2 x k) = X (ix2 ⟨(31 - t.val) * 256 + x, h⟩ k) := by
  blk_ext [idx t]

theorem win2 (X : FVec Ideal S128x1 .f32) (t : Fin cfg0.N) (k : Fin 128) :
    ((cfg0.win 2).blk t).view.read (Elt Ideal) X (ix2 k 0) = X (ix2 k 0) := by
  blk_ext [idx t]

variable {m} {D : Data} {c : Dev nD} (H : Holds D (A0 m c) (A1 m c) (A2 m c)) (t : Fin cfg0.N)

include H

/-- A lane of the transposed gradient, at a point. -/
theorem dc (x : Fin 256) (a : Fin 128) :
    dcE (fun k => iblk m c 0 t (ix2 x k)) a = ((D.g a ((31 - t.val) * 256 + x) : ℝ) : EReal) := by
  have e : ∀ k : Fin 512, ∀ b : Fin 8, b.val = k / 128 * 2 + (1 - k / 64 % 2) →
      iblk m c 0 t (ix2 x k) = ((D.g b ((31 - t.val) * 256 + x) : ℝ) : EReal) := fun k b hb => by
    have e0 : iblk m c 0 t = ((cfg0.win 0).blk t).view.read (Elt Ideal) (dcs (A2 m c)) :=
      congrArg (((cfg0.win 0).blk t).view.read (Elt Ideal)) (V9 m c)
    rw [e0, win0 _ t x k (by have := lt32 t; omega), dcs_apply _ _ k b hb]
    exact H.g b _
  refine dcE_real a (fun k => ⟨_, e k ⟨k / 128 * 2 + (1 - k / 64 % 2), by omega⟩ rfl⟩) (fun k ha hk => e k ⟨a, ha⟩ ?_) (fun ha => D.g_zero _ _ (by omega))
  rw [hk]
  unfold lane
  show a.val = _
  split <;> omega

/-- A gate at a point. -/
theorem gate (x : Fin 256) (a : Fin 128) :
    @HAdd.hAdd EReal EReal EReal _ (iblk m c 1 t (ix2 x a)) (iblk m c 2 t (ix2 a 0)) = ((D.z a ((31 - t.val) * 256 + x) : ℝ) : EReal) := by
  have hb : (31 - t.val) * 256 + x.val < 8192 := by have := lt32 t; omega
  have e1 : iblk m c 1 t (ix2 x a) = (V m c main_v1 : FVec Ideal S8192x128 .f32) (ix2 ⟨(31 - t.val) * 256 + x, hb⟩ a) := win1 (V m c main_v1) t x a hb
  have e2 : iblk m c 2 t (ix2 a 0) = (V m c main_v3 : FVec Ideal S128x1 .f32) (ix2 a 0) := win2 (V m c main_v3) t a
  rw [e1, e2, V1, V3]
  by_cases h : a.val < 8
  · rw [dif_pos h, dif_pos h]
    exact H.z _ ⟨a, h⟩
  · rw [dif_neg h, dif_neg h, add_zero, D.z_zero _ _ (by omega), EReal.coe_zero]

omit H

theorem pick_fold (a x : ℕ) : IntOp.andi (IntOp.cmpi CmpIPredicate.slt (BitVec.ofNat 32 a) 8#32)
    (IntOp.cmpi CmpIPredicate.eq (BitVec.ofNat 32 x)
      (IntOp.addi (IntOp.muli (IntOp.shrsi ArithUnit.vector (BitVec.ofNat 32 a) 1#32) 128#32)
        (Scalar.select (IntOp.cmpi CmpIPredicate.eq (IntOp.andi (BitVec.ofNat 32 a) 1#32) 0#32) 64#32 0#32))) = pick a x := rfl

theorem dcE_fold (D : Fin 512 → EReal) (a : Fin 128) : (∑ x : Fin 512, Scalar.select (pick a x) (D x) 0) + (∑ x : Fin 512, Scalar.select (pick a x) (D x - D x) 0)
    + ∑ x : Fin 512, Scalar.select (pick a x) (D x - D x - (D x - D x)) 0 = dcE D a := rfl

theorem triE_fold (L : Fin 256 → EReal) (p : ℕ) :
    (∑ x : Fin 256, Scalar.select (IntOp.cmpi CmpIPredicate.sge (BitVec.ofNat 32 x) (BitVec.ofNat 32 p)) (L x) 0)
    + (∑ x : Fin 256, Scalar.select (IntOp.cmpi CmpIPredicate.sge (BitVec.ofNat 32 x) (BitVec.ofNat 32 p)) (L x - L x) 0)
    + ∑ x : Fin 256, Scalar.select (IntOp.cmpi CmpIPredicate.sge (BitVec.ofNat 32 x) (BitVec.ofNat 32 p)) (L x - L x - (L x - L x)) 0 = triE L p := rfl

set_option maxHeartbeats 1000000 in
theorem carry_B (h0 : ¬t.val % 32 = 0) (h1 : ¬t.val % 32 = 31) (a l : Fin 128) :
    (outsAt0 m c t.val t.isLt).2.2.1 (ix2 a l)
      = @HAdd.hAdd EReal EReal EReal _ ((outsAt0 m c (t.val - 1) (Nat.lt_of_le_of_lt (Nat.sub_le _ _) t.isLt)).2.2.1 (ix2 a l))
        (∑ x : Fin 256, dcE (fun k => iblk m c 0 t (ix2 x k)) a) := by
  rw [outsAt0_B m c t h0 h1]
  generalize (outsAt0 m c (t.val - 1) (Nat.lt_of_le_of_lt (Nat.sub_le _ _) t.isLt)).2.2.1 = Z
  generalize (outsAt0 m c (t.val - 1) (Nat.lt_of_le_of_lt (Nat.sub_le _ _) t.isLt)).2.2.2 = W
  frame_out
  open_payloads; pointwise
  simp only [pick_fold, dcE_fold]
  exact congrArg (· + _) (congrFun ((Memref.isWhole_whole cc0_scratch0).read_unread Z) (ix2 a l))

set_option maxHeartbeats 1000000 in
theorem carry_C (h0 : ¬t.val % 32 = 0) (h1 : t.val % 32 = 31) (a l : Fin 128) :
    (outsAt0 m c t.val t.isLt).2.2.1 (ix2 a l)
      = @HAdd.hAdd EReal EReal EReal _ ((outsAt0 m c (t.val - 1) (Nat.lt_of_le_of_lt (Nat.sub_le _ _) t.isLt)).2.2.1 (ix2 a l))
        (∑ x : Fin 256, dcE (fun k => iblk m c 0 t (ix2 x k)) a) := by
  rw [outsAt0_C m c t h0 h1]
  generalize (outsAt0 m c (t.val - 1) (Nat.lt_of_le_of_lt (Nat.sub_le _ _) t.isLt)).2.2.1 = Z
  generalize (outsAt0 m c (t.val - 1) (Nat.lt_of_le_of_lt (Nat.sub_le _ _) t.isLt)).2.2.2 = W
  frame_out
  open_payloads; pointwise
  simp only [pick_fold, dcE_fold]
  exact congrArg (· + _) (congrFun ((Memref.isWhole_whole cc0_scratch0).read_unread Z) (ix2 a l))

set_option maxHeartbeats 1000000 in
theorem carry_A (h0 : t.val % 32 = 0) (h1 : ¬t.val % 32 = 31) (a l : Fin 128) :
    (outsAt0 m c t.val t.isLt).2.2.1 (ix2 a l) = @HAdd.hAdd EReal EReal EReal _ 0 (∑ x : Fin 256, dcE (fun k => iblk m c 0 t (ix2 x k)) a) := by
  rw [outsAt0_A m c t h0 h1]
  frame_out
  open_payloads; pointwise
  simp only [pick_fold, dcE_fold]

include H

set_option maxHeartbeats 1000000 in
/-- The gate's gradient, at each point, -/
theorem df_A (h0 : t.val % 32 = 0) (h1 : ¬t.val % 32 = 31) (a : Fin 256) (l : Fin 128) :
    (outsAt0 m c t.val t.isLt).1 (ix2 a l) = ((df D l ((31 - t.val) * 256 + a) : ℝ) : EReal) := by
  have ht := lt32 t
  have hb : (31 - t.val) * 256 + 256 ≤ 8192 := by omega
  have h8 : (31 - t.val) * 256 + 256 = 8192 := by omega
  rw [outsAt0_A m c t h0 h1]
  frame_out
  open_payloads; pointwise
  simp only [pick_fold, dcE_fold, triE_fold]
  refine point (fun x => dc H t x l) ?_ (gate H t a l) a.isLt hb
  rw [h8, S_end, EReal.coe_zero]
  split <;> rfl

set_option maxHeartbeats 1000000 in
theorem df_B (h0 : ¬t.val % 32 = 0) (h1 : ¬t.val % 32 = 31)
    (hZ : ∀ a l : Fin 128, (outsAt0 m c (t.val - 1) (Nat.lt_of_le_of_lt (Nat.sub_le _ _) t.isLt)).2.2.1 (ix2 a l) = ((S D a ((31 - t.val) * 256 + 256) : ℝ) : EReal))
    (a : Fin 256) (l : Fin 128) : (outsAt0 m c t.val t.isLt).1 (ix2 a l) = ((df D l ((31 - t.val) * 256 + a) : ℝ) : EReal) := by
  have hb : (31 - t.val) * 256 + 256 ≤ 8192 := by omega
  rw [outsAt0_B m c t h0 h1]
  generalize (outsAt0 m c (t.val - 1) (Nat.lt_of_le_of_lt (Nat.sub_le _ _) t.isLt)).2.2.1 = Z at hZ ⊢
  generalize (outsAt0 m c (t.val - 1) (Nat.lt_of_le_of_lt (Nat.sub_le _ _) t.isLt)).2.2.2 = W
  frame_out
  open_payloads; pointwise
  simp only [pick_fold, dcE_fold, triE_fold]
  refine point (fun x => dc H t x l) ?_ (gate H t a l) a.isLt hb
  split
  · exact (congrFun ((Memref.isWhole_whole cc0_scratch0).read_unread Z) _).trans (hZ _ _)
  · exact (congrFun ((Memref.isWhole_whole cc0_scratch0).read_unread Z) _).trans (hZ _ _)

set_option maxHeartbeats 1000000 in
theorem df_C (h0 : ¬t.val % 32 = 0) (h1 : t.val % 32 = 31)
    (hZ : ∀ a l : Fin 128, (outsAt0 m c (t.val - 1) (Nat.lt_of_le_of_lt (Nat.sub_le _ _) t.isLt)).2.2.1 (ix2 a l) = ((S D a ((31 - t.val) * 256 + 256) : ℝ) : EReal))
    (a : Fin 256) (l : Fin 128) : (outsAt0 m c t.val t.isLt).1 (ix2 a l) = ((df D l ((31 - t.val) * 256 + a) : ℝ) : EReal) := by
  have hb : (31 - t.val) * 256 + 256 ≤ 8192 := by omega
  rw [outsAt0_C m c t h0 h1]
  generalize (outsAt0 m c (t.val - 1) (Nat.lt_of_le_of_lt (Nat.sub_le _ _) t.isLt)).2.2.1 = Z at hZ ⊢
  generalize (outsAt0 m c (t.val - 1) (Nat.lt_of_le_of_lt (Nat.sub_le _ _) t.isLt)).2.2.2 = W
  frame_out
  open_payloads; pointwise
  simp only [pick_fold, dcE_fold, triE_fold]
  refine point (fun x => dc H t x l) ?_ (gate H t a l) a.isLt hb
  split
  · exact (congrFun ((Memref.isWhole_whole cc0_scratch0).read_unread Z) _).trans (hZ _ _)
  · exact (congrFun ((Memref.isWhole_whole cc0_scratch0).read_unread Z) _).trans (hZ _ _)

set_option maxHeartbeats 1000000 in
/-- and its sums. -/
theorem acc_A (h0 : t.val % 32 = 0) (h1 : ¬t.val % 32 = 31) (a l : Fin 128) :
    (outsAt0 m c t.val t.isLt).2.2.2 (ix2 a l) = ((T D a ((31 - t.val) * 256) : ℝ) : EReal) := by
  have ht := lt32 t
  have hb : (31 - t.val) * 256 + 256 ≤ 8192 := by omega
  have h8 : (31 - t.val) * 256 + 256 = 8192 := by omega
  rw [outsAt0_A m c t h0 h1]
  frame_out
  open_payloads; pointwise
  simp only [pick_fold, dcE_fold, triE_fold]
  have hC : (0 : EReal) = ((S D a ((31 - t.val) * 256 + 256) : ℝ) : EReal) := by rw [h8, S_end, EReal.coe_zero]
  have hW : (0 : EReal) = ((T D a ((31 - t.val) * 256 + 256) : ℝ) : EReal) := by rw [h8, T_end, EReal.coe_zero]
  have hp : ∀ x : Fin 256, Ideal.div (triE (fun y => dcE (fun k => iblk m c 0 t (ix2 y k)) a) x.val)
      (1 + Ideal.exp (@HAdd.hAdd EReal EReal EReal _ (iblk m c 1 t (ix2 x a)) (iblk m c 2 t (ix2 a 0))))
        = ((df D a ((31 - t.val) * 256 + x) : ℝ) : EReal) := fun x => by
    have := point (fun y => dc H t y a) hC (gate H t x a) x.isLt hb
    rwa [add_zero] at this
  refine (congrArg₂ (fun p q : EReal => p + q)
      (Finset.sum_congr rfl fun (x : Fin 128) _ => hp ⟨x, by omega⟩)
      (Finset.sum_congr rfl fun (x : Fin 128) _ => hp ⟨128 + x, by omega⟩)).trans ?_
  exact (zero_add _).symm.trans (acc_step (f := fun p => ((df D a ((31 - t.val) * 256 + p) : ℝ) : EReal)) (fun _ _ => rfl) hW hb)

set_option maxHeartbeats 1000000 in
theorem acc_B (h0 : ¬t.val % 32 = 0) (h1 : ¬t.val % 32 = 31)
    (hZ : ∀ a l : Fin 128, (outsAt0 m c (t.val - 1) (Nat.lt_of_le_of_lt (Nat.sub_le _ _) t.isLt)).2.2.1 (ix2 a l) = ((S D a ((31 - t.val) * 256 + 256) : ℝ) : EReal))
    (hW : ∀ a l : Fin 128, (outsAt0 m c (t.val - 1) (Nat.lt_of_le_of_lt (Nat.sub_le _ _) t.isLt)).2.2.2 (ix2 a l) = ((T D a ((31 - t.val) * 256 + 256) : ℝ) : EReal))
    (a l : Fin 128) : (outsAt0 m c t.val t.isLt).2.2.2 (ix2 a l) = ((T D a ((31 - t.val) * 256) : ℝ) : EReal) := by
  have hb : (31 - t.val) * 256 + 256 ≤ 8192 := by omega
  rw [outsAt0_B m c t h0 h1]
  generalize (outsAt0 m c (t.val - 1) (Nat.lt_of_le_of_lt (Nat.sub_le _ _) t.isLt)).2.2.1 = Z at hZ ⊢
  generalize (outsAt0 m c (t.val - 1) (Nat.lt_of_le_of_lt (Nat.sub_le _ _) t.isLt)).2.2.2 = W at hW ⊢
  frame_out
  open_payloads; pointwise
  simp only [pick_fold, dcE_fold, triE_fold]
  have hC := fun x : Fin 128 => (congrFun ((Memref.isWhole_whole cc0_scratch0).read_unread Z) (ix2 a x)).trans (hZ a x)
  exact (congrArg₂ (fun p q : EReal => p + q) ((congrFun ((Memref.isWhole_whole cc0_scratch1).read_unread W) (ix2 a l)).trans (hW a l))
    (congrArg₂ (fun p q : EReal => p + q)
      (Finset.sum_congr rfl fun (x : Fin 128) _ => point (fun y => dc H t y a) (hC x) (gate H t ⟨x, by omega⟩ a) (by omega) hb)
      (Finset.sum_congr rfl fun (x : Fin 128) _ => point (fun y => dc H t y a) (hC x) (gate H t ⟨128 + x, by omega⟩ a) (by omega) hb))).trans
    (acc_step (f := fun p => ((df D a ((31 - t.val) * 256 + p) : ℝ) : EReal)) (fun _ _ => rfl) rfl hb)

set_option maxHeartbeats 1000000 in
theorem acc_C (h0 : ¬t.val % 32 = 0) (h1 : t.val % 32 = 31)
    (hZ : ∀ a l : Fin 128, (outsAt0 m c (t.val - 1) (Nat.lt_of_le_of_lt (Nat.sub_le _ _) t.isLt)).2.2.1 (ix2 a l) = ((S D a ((31 - t.val) * 256 + 256) : ℝ) : EReal))
    (hW : ∀ a l : Fin 128, (outsAt0 m c (t.val - 1) (Nat.lt_of_le_of_lt (Nat.sub_le _ _) t.isLt)).2.2.2 (ix2 a l) = ((T D a ((31 - t.val) * 256 + 256) : ℝ) : EReal))
    (a l : Fin 128) : (outsAt0 m c t.val t.isLt).2.2.2 (ix2 a l) = ((T D a ((31 - t.val) * 256) : ℝ) : EReal) := by
  have hb : (31 - t.val) * 256 + 256 ≤ 8192 := by omega
  rw [outsAt0_C m c t h0 h1]
  generalize (outsAt0 m c (t.val - 1) (Nat.lt_of_le_of_lt (Nat.sub_le _ _) t.isLt)).2.2.1 = Z at hZ ⊢
  generalize (outsAt0 m c (t.val - 1) (Nat.lt_of_le_of_lt (Nat.sub_le _ _) t.isLt)).2.2.2 = W at hW ⊢
  frame_out
  open_payloads; pointwise
  simp only [pick_fold, dcE_fold, triE_fold]
  have hC := fun x : Fin 128 => (congrFun ((Memref.isWhole_whole cc0_scratch0).read_unread Z) (ix2 a x)).trans (hZ a x)
  exact (congrArg₂ (fun p q : EReal => p + q) ((congrFun ((Memref.isWhole_whole cc0_scratch1).read_unread W) (ix2 a l)).trans (hW a l))
    (congrArg₂ (fun p q : EReal => p + q)
      (Finset.sum_congr rfl fun (x : Fin 128) _ => point (fun y => dc H t y a) (hC x) (gate H t ⟨x, by omega⟩ a) (by omega) hb)
      (Finset.sum_congr rfl fun (x : Fin 128) _ => point (fun y => dc H t y a) (hC x) (gate H t ⟨128 + x, by omega⟩ a) (by omega) hb))).trans
    (acc_step (f := fun p => ((df D a ((31 - t.val) * 256 + p) : ℝ) : EReal)) (fun _ _ => rfl) rfl hb)

omit H

/-- The last point stores the sums. -/
theorem last_C (h0 : ¬t.val % 32 = 0) (h1 : t.val % 32 = 31) (y : S128x128.Idx) :
    (outsAt0 m c t.val t.isLt).2.1 y = (outsAt0 m c t.val t.isLt).2.2.2 y := by
  rw [outsAt0_C m c t h0 h1]
  generalize (outsAt0 m c (t.val - 1) (Nat.lt_of_le_of_lt (Nat.sub_le _ _) t.isLt)).2.2.1 = Z
  generalize (outsAt0 m c (t.val - 1) (Nat.lt_of_le_of_lt (Nat.sub_le _ _) t.isLt)).2.2.2 = W
  frame_out

include H

/-- What the points carry, after each. -/
theorem carried (n : ℕ) : ∀ hn : n < cfg0.N, (∀ a l : Fin 128, (outsAt0 m c n hn).2.2.1 (ix2 a l) = ((S D a ((31 - n) * 256) : ℝ) : EReal))
    ∧ ∀ a l : Fin 128, (outsAt0 m c n hn).2.2.2 (ix2 a l) = ((T D a ((31 - n) * 256) : ℝ) : EReal) := by
  induction n with
  | zero =>
    intro hn
    have hL := fun a : Fin 128 => carry_step (D := D) (a := a) (b := 31 * 256) (fun x => dc H (⟨0, hn⟩ : Fin cfg0.N) x a)
      (C := 0) (by rw [S_end, EReal.coe_zero]) (by omega)
    exact ⟨fun a l => (carry_A ⟨0, hn⟩ rfl (by show ¬0 % 32 = 31; decide) a l).trans (hL a), acc_A H ⟨0, hn⟩ rfl (by show ¬0 % 32 = 31; decide)⟩
  | succ n ih =>
    intro hn
    have h32 : n + 1 < 32 := hn
    obtain ⟨hZ, hW⟩ := ih (Nat.lt_of_succ_lt hn)
    have e : (31 - n) * 256 = (31 - (n + 1)) * 256 + 256 := by omega
    rw [e] at hZ hW
    have h0 : ¬(⟨n + 1, hn⟩ : Fin cfg0.N).val % 32 = 0 := by show ¬(n + 1) % 32 = 0; omega
    have hL := fun a l : Fin 128 => carry_step (D := D) (a := a) (b := (31 - (n + 1)) * 256) (fun x => dc H (⟨n + 1, hn⟩ : Fin cfg0.N) x a) (hZ a l) (by omega)
    by_cases h1 : (⟨n + 1, hn⟩ : Fin cfg0.N).val % 32 = 31
    · exact ⟨fun a l => (carry_C ⟨n + 1, hn⟩ h0 h1 a l).trans (hL a l), acc_C H ⟨n + 1, hn⟩ h0 h1 hZ hW⟩
    · exact ⟨fun a l => (carry_B ⟨n + 1, hn⟩ h0 h1 a l).trans (hL a l), acc_B H ⟨n + 1, hn⟩ h0 h1 hZ hW⟩

/-- The gate's gradient at a point. -/
theorem df_point (a : Fin 256) (l : Fin 128) : (outsAt0 m c t.val t.isLt).1 (ix2 a l) = ((df D l ((31 - t.val) * 256 + a) : ℝ) : EReal) := by
  have ht := lt32 t
  by_cases h0 : t.val % 32 = 0
  · exact df_A H t h0 (by omega) a l
  · have hZ := (carried H (t.val - 1) (Nat.lt_of_le_of_lt (Nat.sub_le _ _) t.isLt)).1
    rw [show (31 - (t.val - 1)) * 256 = (31 - t.val) * 256 + 256 by omega] at hZ
    by_cases h1 : t.val % 32 = 31
    · exact df_C H t h0 h1 hZ a l
    · exact df_B H t h0 h1 hZ a l

/-- The gradient of the gates' columns is the reference's. -/
theorem final3 : (dats m 0 c).arrAt 3 (cfgs 0).N = val_main_v14 (F := Ideal) (A0 m c) (A1 m c) (A2 m c) := by
  refine (dats m 0 c).arrAt_eq_of_covers 3 _ (by decide +kernel) fun t hf y => ?_
  have ht := lt32 t
  blk_simp
  rw [after0_3]
  idx_vars y
  have e : ((View.whole main_v10_0).slice (win0_3.rect t)).emb (ix2 y0 y1) = ix2 ⟨(31 - t.val) * 256 + y0, by omega⟩ y1 := by blk_ext [idx t]
  rw [e]
  exact (df_point H t y0 y1).trans (ref_first H ⟨(31 - t.val) * 256 + y0, by omega⟩ y1).symm

/-- The bias's gradient is the reference's. -/
theorem final4 : (dats m 0 c).arrAt 4 (cfgs 0).N = val_main_v17 (F := Ideal) (A0 m c) (A1 m c) (A2 m c) := by
  refine (dats m 0 c).arrAt_eq_of_covers 4 _ (by decide +kernel) fun t hf y => ?_
  have ht : t.val = 31 := (by decide +kernel : ∀ t : Fin cfg0.N, (cfg0.win 4).flush t = true → t.val = 31) t hf
  blk_simp
  rw [after0_4]
  idx_vars y
  have e : ((View.whole main_v10_1).slice (win0_4.rect t)).emb (ix2 y0 y1) = ix2 y0 y1 := by blk_ext [idx t]
  rw [e]
  refine (last_C t (by omega) (by omega) (ix2 y0 y1)).trans (((carried H t.val t.isLt).2 y0 y1).trans ?_)
  rw [show (31 - t.val) * 256 = 0 by omega]
  exact (ref_second H y0 y1).symm

end Cert.CumBwdIdeal.Grad

end
-- ==== Proof.CumBwdClaims.lean ====
module

public import proofs.«01_k».proof.Defs
public import proofs.«01_k».proof.Proof.Gen.CumBwd
public import proofs.«01_k».proof.Proof.Gen.CumBwd.Frame
public import proofs.«01_k».proof.Proof.Gen.CumBwdIdeal
public import proofs.«01_k».proof.Proof.Gen.CumBwdIdeal.Frame
public import proofs.«01_k».proof.Proof.CumValue
public import proofs.«01_k».proof.Proof.Gen.CumBwdIdeal.Value
public import proofs.«01_k».proof.Proof.Gen.CumBwdRefIdeal
public import proofs.«01_k».proof.Proof.Gen.CumBwdRefIdeal.Run
public import proofs.«01_k».proof.Proof.Gen.CumBwdRefIdeal.Read
public import proofs.«01_k».proof.Proof.Gen.Pre_finite_cum
public import Idealize.ShloMosaic.Lib.Claim
public import Idealize.ShloMosaic.Adequacy
public import Idealize.ShloMosaic.Init

/-! # The claims about the gradient of the log gates' running sum -/

@[expose] public section

noncomputable section

namespace Cert.Proof

open Idealize.ShloMosaic Idealize.SL.Sem

/-- The program runs to its end and leaves its arguments alone. -/
theorem cum_frame : Cert.quiescent_CumBwd (hCumBwd := Cert.CumBwd.Gen.facts) := fun m ρ _ => Cert.CumBwd.Gen.frame m ρ

/-- So does its ideal reading. -/
theorem cum_frame_ideal : Cert.quiescent_CumBwdIdeal (hCumBwdIdeal := Cert.CumBwdIdeal.Gen.facts) := fun m ρ _ => Cert.CumBwdIdeal.Gen.frame m ρ

/-- with the precondition too. -/
theorem cum_frame_pre : Cert.quiescent_CumBwdIdeal_pre_finite_cum (hCumBwdIdeal := Cert.CumBwdIdeal.Gen.facts) (hPre_finite_cum := Cert.Pre_finite_cum.Gen.facts) :=
  fun m ρ _ => Cert.CumBwdIdeal.Gen.frame m ρ

/-- The reference runs to its end, -/
theorem cum_ref : Cert.quiescent_CumBwdRefIdeal (hCumBwdRefIdeal := Cert.CumBwdRefIdeal.Gen.facts) := by
  intro m g _
  exact (θ_run Cert.CumBwdRefIdeal.defs _ _).mono (fun r h => ⟨fun c => (h c).2.2, sem_eq_zero_of_no_sems (by decide) r.2⟩)
    (Cert.CumBwdRefIdeal.Value.run m g)

/-- with the precondition too. -/
theorem cum_ref_pre : Cert.quiescent_CumBwdRefIdeal_pre_finite_cum (hCumBwdRefIdeal := Cert.CumBwdRefIdeal.Gen.facts) (hPre_finite_cum := Cert.Pre_finite_cum.Gen.facts) :=
  fun m g _ => cum_ref m g trivial

/-- Over the reals the kernel's results are the reference's. -/
theorem cum_value : Cert.algebraic_CumBwdIdeal_CumBwdRefIdeal_pre_finite_cum (hCumBwdIdeal := Cert.CumBwdIdeal.Gen.facts)
    (hCumBwdRefIdeal := Cert.CumBwdRefIdeal.Gen.facts) (hPre_finite_cum := Cert.Pre_finite_cum.Gen.facts) := by
  intro m g m' g' hpre hagree
  refine ⟨fun c => Cert.CumBwdRefIdeal.Read.val_main_v14 (F := Ideal) (m ((c.tc : Thread _ _).loc Cert.CumBwdIdeal.main_arg0)) (m ((c.tc : Thread _ _).loc Cert.CumBwdIdeal.main_arg1)) (m ((c.tc : Thread _ _).loc Cert.CumBwdIdeal.main_arg2)),
    fun c => Cert.CumBwdRefIdeal.Read.val_main_v17 (F := Ideal) (m ((c.tc : Thread _ _).loc Cert.CumBwdIdeal.main_arg0)) (m ((c.tc : Thread _ _).loc Cert.CumBwdIdeal.main_arg1)) (m ((c.tc : Thread _ _).loc Cert.CumBwdIdeal.main_arg2)), ?_, ?_⟩
  · refine (θ_run Cert.CumBwdIdeal.defs _ _).mono (fun r h c => ⟨(h c).1.trans ?_, (h c).2.1.trans ?_, (h c).2.2⟩)
      (Cert.CumBwdIdeal.Value.run_blocks (F := Ideal) m g)
    all_goals
      have hp := hpre c
      obtain ⟨D, H⟩ := Cum.exists_data (Reals.all_real _ _ hp.1) (Reals.all_real _ _ hp.2.1) (Reals.all_real _ _ hp.2.2)
    · exact Cert.CumBwdIdeal.Grad.final3 H
    · exact Cert.CumBwdIdeal.Grad.final4 H
  · refine (θ_run Cert.CumBwdRefIdeal.defs _ _).mono (fun r h c => ⟨(h c).1.trans ?_, (h c).2.1.trans ?_, (h c).2.2⟩)
      (Cert.CumBwdRefIdeal.Value.run (F := Ideal) m' g')
    · refine (Cert.CumBwdRefIdeal.Read.val_main_v14_eq (F := Ideal) m' c).trans ?_
      obtain ⟨h0, h1, h2⟩ := hagree c
      rw [h0, h1, h2]
    · refine (Cert.CumBwdRefIdeal.Read.val_main_v17_eq (F := Ideal) m' c).trans ?_
      obtain ⟨h0, h1, h2⟩ := hagree c
      rw [h0, h1, h2]

end Cert.Proof

end
-- ==== Proof.lean ====
module

public import proofs.«01_k».proof.Defs
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.Pre_finite_swiglu
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Gen.FoxBwd
public import proofs.«01_k».proof.Proof.Gen.FoxBwd.Skeleton
public import proofs.«01_k».proof.Proof.Gen.FoxBwd.Launch
public import proofs.«01_k».proof.Proof.Gen.FoxBwd.Points
public import proofs.«01_k».proof.Proof.Gen.FoxBwd.Frame
public import proofs.«01_k».proof.Proof.Gen.FoxBwdIdeal
public import proofs.«01_k».proof.Proof.Gen.FoxBwdIdeal.Skeleton
public import proofs.«01_k».proof.Proof.Gen.FoxBwdIdeal.Launch
public import proofs.«01_k».proof.Proof.Gen.FoxBwdIdeal.Points
public import proofs.«01_k».proof.Proof.Gen.FoxBwdIdeal.Frame
public import proofs.«01_k».proof.Proof.Gen.FoxBwdIdeal.Value
public import proofs.«01_k».proof.Proof.Gen.FoxBwdRefIdeal
public import proofs.«01_k».proof.Proof.Gen.FoxBwdRefIdeal.Run
public import proofs.«01_k».proof.Proof.Gen.FoxBwdRefIdeal.Read
public import proofs.«01_k».proof.Proof.Gen.Pre_finite_fox
public import proofs.«01_k».proof.Proof.SwigluClaims
public import proofs.«01_k».proof.Proof.FoxClaims
public import proofs.«01_k».proof.Proof.MixClaims
public import proofs.«01_k».proof.Proof.GainClaims
public import proofs.«01_k».proof.Proof.MemClaims
public import proofs.«01_k».proof.Proof.FoxFwdClaims
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.Gen.GainBwd
public import proofs.«01_k».proof.Proof.Gen.GainBwd.Frame
public import proofs.«01_k».proof.Proof.Gen.GainBwdIdeal
public import proofs.«01_k».proof.Proof.Gen.GainBwdIdeal.Frame
public import proofs.«01_k».proof.Proof.Gen.GainBwdIdeal.Value
public import proofs.«01_k».proof.Proof.Gen.GainBwdRefIdeal
public import proofs.«01_k».proof.Proof.Gen.GainBwdRefIdeal.Run
public import proofs.«01_k».proof.Proof.Gen.GainBwdRefIdeal.Read
public import proofs.«01_k».proof.Proof.Gen.MemBwd
public import proofs.«01_k».proof.Proof.Gen.MemBwd.Frame
public import proofs.«01_k».proof.Proof.Gen.MemBwdIdeal
public import proofs.«01_k».proof.Proof.Gen.MemBwdIdeal.Frame
public import proofs.«01_k».proof.Proof.Gen.MemBwdIdeal.Value
public import proofs.«01_k».proof.Proof.Gen.MemBwdRefIdeal
public import proofs.«01_k».proof.Proof.Gen.MemBwdRefIdeal.Run
public import proofs.«01_k».proof.Proof.Gen.MemBwdRefIdeal.Read
public import proofs.«01_k».proof.Proof.Gen.Pre_finite_mem
public import proofs.«01_k».proof.Proof.Gen.FoxFwd
public import proofs.«01_k».proof.Proof.Gen.FoxFwd.Frame
public import proofs.«01_k».proof.Proof.Gen.FoxFwdIdeal
public import proofs.«01_k».proof.Proof.Gen.FoxFwdIdeal.Frame
public import proofs.«01_k».proof.Proof.Gen.FoxFwdIdeal.Value
public import proofs.«01_k».proof.Proof.Gen.FoxFwdRefIdeal
public import proofs.«01_k».proof.Proof.Gen.FoxFwdRefIdeal.Run
public import proofs.«01_k».proof.Proof.Gen.FoxFwdRefIdeal.Read
public import proofs.«01_k».proof.Proof.Gen.Pre_finite_fox_fwd
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.FinalLoss
public import proofs.«01_k».proof.Proof.Gen.FinalLoss.Frame
public import proofs.«01_k».proof.Proof.Gen.FinalLossIdeal
public import proofs.«01_k».proof.Proof.Gen.FinalLossIdeal.Frame
public import proofs.«01_k».proof.Proof.Gen.FinalLossIdeal.Value
public import proofs.«01_k».proof.Proof.Gen.FinalLossRefIdeal
public import proofs.«01_k».proof.Proof.Gen.FinalLossRefIdeal.Run
public import proofs.«01_k».proof.Proof.Gen.FinalLossRefIdeal.Read
public import proofs.«01_k».proof.Proof.Gen.Pre_finite_rms
public import proofs.«01_k».proof.Proof.Gen.Pre_finite_loss
public import proofs.«01_k».proof.Proof.RmsClaims
public import proofs.«01_k».proof.Proof.LossClaims
public import proofs.«01_k».proof.Proof.PostClaims
public import proofs.«01_k».proof.Proof.Gen.PostBwd
public import proofs.«01_k».proof.Proof.Gen.PostBwd.Frame
public import proofs.«01_k».proof.Proof.Gen.PostBwdIdeal
public import proofs.«01_k».proof.Proof.Gen.PostBwdIdeal.Frame
public import proofs.«01_k».proof.Proof.Gen.PostBwdIdeal.Value
public import proofs.«01_k».proof.Proof.Gen.PostBwdRefIdeal
public import proofs.«01_k».proof.Proof.Gen.PostBwdRefIdeal.Frame
public import proofs.«01_k».proof.Proof.Gen.PostBwdRefIdeal.Value
public import proofs.«01_k».proof.Proof.Gen.Pre_finite_post
public import proofs.«01_k».proof.Proof.Gen.CumBwd
public import proofs.«01_k».proof.Proof.Gen.CumBwd.Frame
public import proofs.«01_k».proof.Proof.Gen.CumBwdIdeal
public import proofs.«01_k».proof.Proof.Gen.CumBwdIdeal.Frame
public import proofs.«01_k».proof.Proof.Gen.CumBwdIdeal.Value
public import proofs.«01_k».proof.Proof.Gen.CumBwdRefIdeal
public import proofs.«01_k».proof.Proof.Gen.CumBwdRefIdeal.Run
public import proofs.«01_k».proof.Proof.Gen.CumBwdRefIdeal.Read
public import proofs.«01_k».proof.Proof.Gen.Pre_finite_cum
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.PostFwd
public import proofs.«01_k».proof.Proof.Gen.PostFwd.Frame
public import proofs.«01_k».proof.Proof.Gen.PostFwdIdeal
public import proofs.«01_k».proof.Proof.Gen.PostFwdIdeal.Frame
public import proofs.«01_k».proof.Proof.Gen.PostFwdIdeal.Value
public import proofs.«01_k».proof.Proof.Gen.PostFwdRefIdeal
public import proofs.«01_k».proof.Proof.Gen.PostFwdRefIdeal.Run
public import proofs.«01_k».proof.Proof.Gen.PostFwdRefIdeal.Read
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.MemFwd
public import proofs.«01_k».proof.Proof.Gen.MemFwd.Frame
public import proofs.«01_k».proof.Proof.Gen.MemFwdIdeal
public import proofs.«01_k».proof.Proof.Gen.MemFwdIdeal.Frame
public import proofs.«01_k».proof.Proof.Gen.MemFwdIdeal.Value
public import proofs.«01_k».proof.Proof.Gen.MemFwdRefIdeal
public import proofs.«01_k».proof.Proof.Gen.MemFwdRefIdeal.Run
public import proofs.«01_k».proof.Proof.Gen.MemFwdRefIdeal.Read
public import proofs.«01_k».proof.Proof.RmsFwdClaims
public import proofs.«01_k».proof.Proof.PostFwdClaims
public import proofs.«01_k».proof.Proof.MixFwdClaims
public import proofs.«01_k».proof.Proof.FfnInClaims
public import proofs.«01_k».proof.Proof.MemFwdClaims
public import proofs.«01_k».proof.Proof.CumBwdClaims
public import Idealize.ShloMosaic.Lib.Claim
public import Idealize.ShloMosaic.Adequacy
public import Idealize.ShloMosaic.Init

/-! # The claim

Each pair's claims are proved in a module of its own; here they are put together. -/

@[expose] public section

noncomputable section

namespace Cert.Proof

theorem claim : Cert.Claim := ⟨Cert.Swiglu.Gen.facts, Cert.SwigluIdeal.Gen.facts, Cert.SwigluRefIdeal.Gen.facts,
  Cert.FoxBwd.Gen.facts, Cert.FoxBwdIdeal.Gen.facts, Cert.FoxBwdRefIdeal.Gen.facts,
  Cert.MixBwd.Gen.facts, Cert.MixBwdIdeal.Gen.facts, Cert.MixBwdRefIdeal.Gen.facts,
  Cert.GainBwd.Gen.facts, Cert.GainBwdIdeal.Gen.facts, Cert.GainBwdRefIdeal.Gen.facts,
  Cert.MemBwd.Gen.facts, Cert.MemBwdIdeal.Gen.facts, Cert.MemBwdRefIdeal.Gen.facts,
  Cert.FoxFwd.Gen.facts, Cert.FoxFwdIdeal.Gen.facts, Cert.FoxFwdRefIdeal.Gen.facts,
  Cert.RmsBwd.Gen.facts, Cert.RmsBwdIdeal.Gen.facts, Cert.RmsBwdRefIdeal.Gen.facts,
  Cert.FinalLoss.Gen.facts, Cert.FinalLossIdeal.Gen.facts, Cert.FinalLossRefIdeal.Gen.facts,
  Cert.PostBwd.Gen.facts, Cert.PostBwdIdeal.Gen.facts, Cert.PostBwdRefIdeal.Gen.facts,
  Cert.RmsFwd.Gen.facts, Cert.RmsFwdIdeal.Gen.facts, Cert.RmsFwdRefIdeal.Gen.facts,
  Cert.PostFwd.Gen.facts, Cert.PostFwdIdeal.Gen.facts, Cert.PostFwdRefIdeal.Gen.facts,
  Cert.MixFwd.Gen.facts, Cert.MixFwdIdeal.Gen.facts, Cert.MixFwdRefIdeal.Gen.facts,
  Cert.FfnIn.Gen.facts, Cert.FfnInIdeal.Gen.facts, Cert.FfnInRefIdeal.Gen.facts,
  Cert.MemFwd.Gen.facts, Cert.MemFwdIdeal.Gen.facts, Cert.MemFwdRefIdeal.Gen.facts,
  Cert.CumBwd.Gen.facts, Cert.CumBwdIdeal.Gen.facts, Cert.CumBwdRefIdeal.Gen.facts,
  Cert.Pre_finite_swiglu.Gen.facts, Cert.Pre_finite_fox.Gen.facts, Cert.Pre_finite_mem.Gen.facts, Cert.Pre_finite_fox_fwd.Gen.facts,
  Cert.Pre_finite_rms.Gen.facts, Cert.Pre_finite_loss.Gen.facts, Cert.Pre_finite_post.Gen.facts, Cert.Pre_finite_cum.Gen.facts,
  swiglu_frame, swiglu_frame_ideal, swiglu_frame_pre, swiglu_ref, swiglu_ref_pre,
  fox_frame, fox_frame_ideal, fox_frame_pre, fox_ref, fox_ref_pre,
  mix_frame, mix_frame_ideal, mix_ref,
  gain_frame, gain_frame_ideal, gain_ref,
  mem_frame, mem_frame_ideal, mem_frame_pre, mem_ref, mem_ref_pre,
  fox_fwd_frame, fox_fwd_frame_ideal, fox_fwd_frame_pre, fox_fwd_ref, fox_fwd_ref_pre,
  rms_frame, rms_frame_ideal, rms_frame_pre, rms_ref, rms_ref_pre,
  loss_frame, loss_frame_ideal, loss_frame_pre, loss_ref, loss_ref_pre,
  post_frame, post_frame_ideal, post_frame_pre, post_ref, post_ref_pre,
  rmsf_frame, rmsf_frame_ideal, rmsf_ref,
  postf_frame, postf_frame_ideal, postf_ref,
  mixf_frame, mixf_frame_ideal, mixf_ref,
  ffn_frame, ffn_frame_ideal, ffn_ref,
  memf_frame, memf_frame_ideal, memf_ref,
  cum_frame, cum_frame_ideal, cum_frame_pre, cum_ref, cum_ref_pre,
  trivial, swiglu_value, trivial, fox_value, trivial, mix_value, trivial, gain_value, trivial, mem_value,
  trivial, fox_fwd_value, trivial, rms_value, trivial, loss_value,
  post_preserves, post_value,
  trivial, rmsf_value, trivial, postf_value, trivial, mixf_value, trivial, ffn_value, trivial, memf_value, trivial, cum_value⟩

end Cert.Proof

end
